-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2 = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fit [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal)
    ∧ quiescent_ReferenceIdeal_pre_sizes_fit (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S1536x3072 : Shape := ⟨2, ![1536, 3072]⟩
abbrev S13x3072 : Shape := ⟨2, ![13, 3072]⟩
abbrev S1536x8192 : Shape := ⟨2, ![1536, 8192]⟩
abbrev S13x8192 : Shape := ⟨2, ![13, 8192]⟩
abbrev S5 : Shape := ⟨1, ![5]⟩
abbrev S1 : Shape := ⟨1, ![1]⟩
abbrev S_ : Shape := ⟨0, ![]⟩

class Facts : Prop where
  slices_S5_S1_0 : S5.Slices ![0] S1
  slices_S5_S1_1 : S5.Slices ![1] S1
  slices_S5_S1_2 : S5.Slices ![2] S1
  slices_S5_S1_3 : S5.Slices ![3] S1
  slices_S5_S1_4 : S5.Slices ![4] S1
  bcast_S_S1 : S_.BroadcastsInDim S1 (![] : Fin 0 → Fin S1.rank)
  bcast_S_S5 : S_.BroadcastsInDim S5 (![] : Fin 0 → Fin S5.rank)

variable [Facts]

def fn_part2 {F : FTy → Type} [FloatOps F] (main_arg4 : IVec S5 32) (main_v8 : IVec S1 32) (main_v32 : IVec S1 32) (main_v34 : IVec S5 1) (main_v35 : IVec S5 32) : IVec S5 1 × IVec S1 1 × IVec S1 1 :=
  let main_v36 : IVec S5 1 := cmpi .sle main_arg4 main_v35
  let main_v37 : IVec S5 1 := andi main_v34 main_v36
  let main_c_11 : IVec S_ 32 := constantI S_ 32 1536#32
  let main_v38 : IVec S1 32 := broadcastInDim S1 ![] bcast_S_S1 main_c_11
  let main_v39 : IVec S1 1 := cmpi .sle main_v8 main_v38
  let main_c_12 : IVec S_ 32 := constantI S_ 32 13#32
  let main_v40 : IVec S1 32 := broadcastInDim S1 ![] bcast_S_S1 main_c_12
  let main_v41 : IVec S1 1 := cmpi .sle main_v32 main_v40
  (main_v37, main_v39, main_v41)

def fn_part1 {F : FTy → Type} [FloatOps F] (main_arg4 : IVec S5 32) (main_v3 : IVec S1 32) (main_v4 : IVec S1 32) (main_v8 : IVec S1 32) (main_v12 : IVec S1 32) (main_v16 : IVec S1 32) (main_v18 : IVec S1 32) : IVec S5 1 × IVec S1 1 × IVec S1 1 :=
  let main_c_4 : IVec S_ 32 := constantI S_ 32 128#32
  let main_v19 : IVec S1 32 := broadcastInDim S1 ![] bcast_S_S1 main_c_4
  let main_v20 : IVec S1 32 := Host.divsi main_v18 main_v19
  let main_c_5 : IVec S_ 32 := constantI S_ 32 127#32
  let main_v21 : IVec S1 32 := broadcastInDim S1 ![] bcast_S_S1 main_c_5
  let main_v22 : IVec S1 32 := addi main_v3 main_v21
  let main_c_6 : IVec S_ 32 := constantI S_ 32 128#32
  let main_v23 : IVec S1 32 := broadcastInDim S1 ![] bcast_S_S1 main_c_6
  let main_v24 : IVec S1 32 := Host.divsi main_v22 main_v23
  let main_c_7 : IVec S_ 32 := constantI S_ 32 127#32
  let main_v25 : IVec S1 32 := broadcastInDim S1 ![] bcast_S_S1 main_c_7
  let main_v26 : IVec S1 32 := addi main_v4 main_v25
  let main_c_8 : IVec S_ 32 := constantI S_ 32 128#32
  let main_v27 : IVec S1 32 := broadcastInDim S1 ![] bcast_S_S1 main_c_8
  let main_v28 : IVec S1 32 := Host.divsi main_v26 main_v27
  let main_v29 : IVec S1 32 := addi main_v12 main_v16
  let main_v30 : IVec S1 32 := addi main_v29 main_v20
  let main_v31 : IVec S1 32 := addi main_v30 main_v24
  let main_v32 : IVec S1 32 := addi main_v31 main_v28
  let main_c_9 : IVec S_ 32 := constantI S_ 32 0#32
  let main_v33 : IVec S5 32 := broadcastInDim S5 ![] bcast_S_S5 main_c_9
  let main_v34 : IVec S5 1 := cmpi .sge main_arg4 main_v33
  let main_c_10 : IVec S_ 32 := constantI S_ 32 1536#32
  let main_v35 : IVec S5 32 := broadcastInDim S5 ![] bcast_S_S5 main_c_10
  fn_part2 (F := F) main_arg4 main_v8 main_v32 main_v34 main_v35

def fn {F : FTy → Type} [FloatOps F] (main_arg0 : FVec F S1536x3072 .fp8e4m3) (main_arg1 : FVec F S13x3072 .f32) (main_arg2 : FVec F S1536x8192 .fp8e4m3) (main_arg3 : FVec F S13x8192 .f32) (main_arg4 : IVec S5 32) : IVec S5 1 × IVec S1 1 × IVec S1 1 :=
  let main_v0 : IVec S1 32 := (extractStridedSlice S1 ![0] · slices_S5_S1_0) main_arg4
  let main_v1 : IVec S1 32 := (extractStridedSlice S1 ![1] · slices_S5_S1_1) main_arg4
  let main_v2 : IVec S1 32 := (extractStridedSlice S1 ![2] · slices_S5_S1_2) main_arg4
  let main_v3 : IVec S1 32 := (extractStridedSlice S1 ![3] · slices_S5_S1_3) main_arg4
  let main_v4 : IVec S1 32 := (extractStridedSlice S1 ![4] · slices_S5_S1_4) main_arg4
  let main_v5 : IVec S1 32 := addi main_v0 main_v1
  let main_v6 : IVec S1 32 := addi main_v5 main_v2
  let main_v7 : IVec S1 32 := addi main_v6 main_v3
  let main_v8 : IVec S1 32 := addi main_v7 main_v4
  let main_c : IVec S_ 32 := constantI S_ 32 127#32
  let main_v9 : IVec S1 32 := broadcastInDim S1 ![] bcast_S_S1 main_c
  let main_v10 : IVec S1 32 := addi main_v0 main_v9
  let main_c_0 : IVec S_ 32 := constantI S_ 32 128#32
  let main_v11 : IVec S1 32 := broadcastInDim S1 ![] bcast_S_S1 main_c_0
  let main_v12 : IVec S1 32 := Host.divsi main_v10 main_v11
  let main_c_1 : IVec S_ 32 := constantI S_ 32 127#32
  let main_v13 : IVec S1 32 := broadcastInDim S1 ![] bcast_S_S1 main_c_1
  let main_v14 : IVec S1 32 := addi main_v1 main_v13
  let main_c_2 : IVec S_ 32 := constantI S_ 32 128#32
  let main_v15 : IVec S1 32 := broadcastInDim S1 ![] bcast_S_S1 main_c_2
  let main_v16 : IVec S1 32 := Host.divsi main_v14 main_v15
  let main_c_3 : IVec S_ 32 := constantI S_ 32 127#32
  let main_v17 : IVec S1 32 := broadcastInDim S1 ![] bcast_S_S1 main_c_3
  let main_v18 : IVec S1 32 := addi main_v2 main_v17
  fn_part1 (F := F) main_arg4 main_v3 main_v4 main_v8 main_v12 main_v16 main_v18
-- ==== Kernel.lean ====
abbrev S1536x3072 : Shape := ⟨2, ![1536, 3072]⟩
abbrev S13x3072 : Shape := ⟨2, ![13, 3072]⟩
abbrev S1536x8192 : Shape := ⟨2, ![1536, 8192]⟩
abbrev S13x8192 : Shape := ⟨2, ![13, 8192]⟩
abbrev S5 : Shape := ⟨1, ![5]⟩
abbrev S5x3072x8192 : Shape := ⟨3, ![5, 3072, 8192]⟩
abbrev S2x1536x1024 : Shape := ⟨3, ![2, 1536, 1024]⟩
abbrev S1792x1024 : Shape := ⟨2, ![1792, 1024]⟩
abbrev S3072x2816 : Shape := ⟨2, ![3072, 2816]⟩
abbrev S4x1024x1024 : Shape := ⟨3, ![4, 1024, 1024]⟩
abbrev S32x8192 : Shape := ⟨2, ![32, 8192]⟩
abbrev S3x5 : Shape := ⟨2, ![3, 5]⟩
abbrev S3 : Shape := ⟨1, ![3]⟩
abbrev S2 : Shape := ⟨1, ![2]⟩
abbrev S4 : Shape := ⟨1, ![4]⟩
abbrev S_ : Shape := ⟨0, ![]⟩
abbrev S1 : Shape := ⟨1, ![1]⟩
abbrev S1536x1024 : Shape := ⟨2, ![1536, 1024]⟩
abbrev S1x1536x1024 : Shape := ⟨3, ![1, 1536, 1024]⟩
abbrev S1x1 : Shape := ⟨2, ![1, 1]⟩
abbrev S1x32x8192 : Shape := ⟨3, ![1, 32, 8192]⟩
abbrev S1x1024 : Shape := ⟨2, ![1, 1024]⟩
abbrev S160x1024 : Shape := ⟨2, ![160, 1024]⟩
abbrev S256x1024 : Shape := ⟨2, ![256, 1024]⟩
abbrev S1024x256 : Shape := ⟨2, ![1024, 256]⟩
abbrev S1x160x1024 : Shape := ⟨3, ![1, 160, 1024]⟩
abbrev S1x1024x1024 : Shape := ⟨3, ![1, 1024, 1024]⟩
abbrev S1024x1024 : Shape := ⟨2, ![1024, 1024]⟩
abbrev S1024x512 : Shape := ⟨2, ![1024, 512]⟩
abbrev S512x1024 : Shape := ⟨2, ![512, 1024]⟩
abbrev S1024x768 : Shape := ⟨2, ![1024, 768]⟩
abbrev S768x1024 : Shape := ⟨2, ![768, 1024]⟩

abbrev nBuf : Space → Nat
  | .hbm => 6
  | .vmem => 8
  | .smem => 2
  | _ => 0

abbrev bufTy : (tb : Table) → Fin (tcTables nBuf tb) → BufTy
  | .hbm, ⟨0, _⟩ => ⟨S1536x3072, .fp8e4m3⟩
  | .hbm, ⟨1, _⟩ => ⟨S13x3072, .f32⟩
  | .hbm, ⟨2, _⟩ => ⟨S1536x8192, .fp8e4m3⟩
  | .hbm, ⟨3, _⟩ => ⟨S13x8192, .f32⟩
  | .hbm, ⟨4, _⟩ => ⟨S5, .i32⟩
  | .hbm, ⟨5, _⟩ => ⟨S5x3072x8192, .f32⟩
  | .local _ .vmem, ⟨0, _⟩ => ⟨S1536x3072, .fp8e4m3⟩
  | .local _ .vmem, ⟨1, _⟩ => ⟨S2x1536x1024, .fp8e4m3⟩
  | .local _ .vmem, ⟨2, _⟩ => ⟨S13x3072, .f32⟩
  | .local _ .vmem, ⟨3, _⟩ => ⟨S13x8192, .f32⟩
  | .local _ .vmem, ⟨4, _⟩ => ⟨S1792x1024, .bf16⟩
  | .local _ .vmem, ⟨5, _⟩ => ⟨S3072x2816, .bf16⟩
  | .local _ .vmem, ⟨6, _⟩ => ⟨S4x1024x1024, .f32⟩
  | .local _ .vmem, ⟨7, _⟩ => ⟨S32x8192, .f32⟩
  | .local _ .smem, ⟨0, _⟩ => ⟨S5, .i32⟩
  | .local _ .smem, ⟨1, _⟩ => ⟨S3x5, .i32⟩
  | _, _ => ⟨S1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_scratch8 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32_14 : BitVec 32 := 0#32
  c0_i32_14
def k0_off1 : Fin 1 → Nat :=
  let c0_i32_12 : BitVec 32 := 0#32
  let c2_i32_13 : BitVec 32 := 2#32
  let v16 : BitVec 32 := Scalar.remsi c0_i32_12 c2_i32_13
  ![v16.toNat]
def k0_off2 : Fin 3 → Nat :=
  let c0_i32_12 : BitVec 32 := 0#32
  let c2_i32_13 : BitVec 32 := 2#32
  let v16 : BitVec 32 := Scalar.remsi c0_i32_12 c2_i32_13
  let c0_i32_15 : BitVec 32 := 0#32
  let c0_i32_16 : BitVec 32 := 0#32
  ![v16.toNat, 0, 0]
def k0_mult2 : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  v46
@[reducible] def k0_t1_loop : Scf.Loop 32 :=
  let c0_i32_554 : BitVec 32 := 0#32
  let c8_i32_555 : BitVec 32 := 8#32
  let v693 : BitVec 32 := Scalar.addi c0_i32_554 c8_i32_555
  let c1_i32_556 : BitVec 32 := 1#32
  ⟨c0_i32_554, v693, c1_i32_556⟩
def k0_mult3 (k0_t1 : Fin k0_t1_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t1
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let c0_i32_560 : BitVec 32 := 0#32
  let v697 : BitVec 32 := Scalar.addi v696 c0_i32_560
  let c32_i32 : BitVec 32 := 32#32
  let v698 : BitVec 32 := Scalar.muli v697 c32_i32
  v698
def k0_off3 (k0_t1 : Fin k0_t1_loop.trips) (c0_i32_560 : BitVec 32) : Fin 3 → Nat :=
  let c0_i32_561 : BitVec 32 := 0#32
  let c0_i32_559 : BitVec 32 := 0#32
  let c0_i32_554 : BitVec 32 := 0#32
  let c1_i32_556 : BitVec 32 := 1#32
  let arg20 : BitVec 32 := Scf.iv c0_i32_554 c1_i32_556 k0_t1
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let v697 : BitVec 32 := Scalar.addi v696 c0_i32_560
  let c32_i32 : BitVec 32 := 32#32
  let v698 : BitVec 32 := Scalar.muli v697 c32_i32
  let v699 : BitVec 32 := v698
  let c0_i32_562 : BitVec 32 := 0#32
  ![0, v699.toNat, 0]
def k0_mult4 (k0_t1 : Fin k0_t1_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t1
  let c1_i32_558 : BitVec 32 := 1#32
  let v694 : BitVec 32 := Scalar.muli arg20 c1_i32_558
  let v695 : BitVec 32 := Scalar.addi c0_i32_559 v694
  let c4_i32_563 : BitVec 32 := 4#32
  let v702 : BitVec 32 := Scalar.muli v695 c4_i32_563
  let c1_i32_564 : BitVec 32 := 1#32
  let v703 : BitVec 32 := Scalar.addi v702 c1_i32_564
  let c32_i32_565 : BitVec 32 := 32#32
  let v704 : BitVec 32 := Scalar.muli v703 c32_i32_565
  v704
def k0_mult5 (k0_t1 : Fin k0_t1_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t1
  let c1_i32_558 : BitVec 32 := 1#32
  let v694 : BitVec 32 := Scalar.muli arg20 c1_i32_558
  let v695 : BitVec 32 := Scalar.addi c0_i32_559 v694
  let c4_i32_568 : BitVec 32 := 4#32
  let v708 : BitVec 32 := Scalar.muli v695 c4_i32_568
  let c2_i32_569 : BitVec 32 := 2#32
  let v709 : BitVec 32 := Scalar.addi v708 c2_i32_569
  let c32_i32_570 : BitVec 32 := 32#32
  let v710 : BitVec 32 := Scalar.muli v709 c32_i32_570
  v710
def k0_mult6 (k0_t1 : Fin k0_t1_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t1
  let c1_i32_558 : BitVec 32 := 1#32
  let v694 : BitVec 32 := Scalar.muli arg20 c1_i32_558
  let v695 : BitVec 32 := Scalar.addi c0_i32_559 v694
  let c4_i32_573 : BitVec 32 := 4#32
  let v714 : BitVec 32 := Scalar.muli v695 c4_i32_573
  let c3_i32_574 : BitVec 32 := 3#32
  let v715 : BitVec 32 := Scalar.addi v714 c3_i32_574
  let c32_i32_575 : BitVec 32 := 32#32
  let v716 : BitVec 32 := Scalar.muli v715 c32_i32_575
  v716
def k0_mult7 (v27 : BitVec 32) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  v115

@[reducible] def k0_t2_loop : Scf.Loop 32 :=
  let c0_i32_554 : BitVec 32 := 0#32
  let c8_i32_555 : BitVec 32 := 8#32
  let v693 : BitVec 32 := Scalar.addi c0_i32_554 c8_i32_555
  let c1_i32_556 : BitVec 32 := 1#32
  ⟨c0_i32_554, v693, c1_i32_556⟩
def k0_mult8 (k0_t2 : Fin k0_t2_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t2
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let c0_i32_560 : BitVec 32 := 0#32
  let v697 : BitVec 32 := Scalar.addi v696 c0_i32_560
  let c32_i32 : BitVec 32 := 32#32
  let v698 : BitVec 32 := Scalar.muli v697 c32_i32
  v698
def k0_off4 (k0_t2 : Fin k0_t2_loop.trips) (c0_i32_560 : BitVec 32) : Fin 3 → Nat :=
  let c1_i32_561 : BitVec 32 := 1#32
  let c0_i32_559 : BitVec 32 := 0#32
  let c0_i32_554 : BitVec 32 := 0#32
  let c1_i32_556 : BitVec 32 := 1#32
  let arg20 : BitVec 32 := Scf.iv c0_i32_554 c1_i32_556 k0_t2
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let v697 : BitVec 32 := Scalar.addi v696 c0_i32_560
  let c32_i32 : BitVec 32 := 32#32
  let v698 : BitVec 32 := Scalar.muli v697 c32_i32
  let v699 : BitVec 32 := v698
  let c0_i32_562 : BitVec 32 := 0#32
  ![1, v699.toNat, 0]
def k0_mult9 (k0_t2 : Fin k0_t2_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t2
  let c1_i32_558 : BitVec 32 := 1#32
  let v694 : BitVec 32 := Scalar.muli arg20 c1_i32_558
  let v695 : BitVec 32 := Scalar.addi c0_i32_559 v694
  let c4_i32_563 : BitVec 32 := 4#32
  let v702 : BitVec 32 := Scalar.muli v695 c4_i32_563
  let c1_i32_564 : BitVec 32 := 1#32
  let v703 : BitVec 32 := Scalar.addi v702 c1_i32_564
  let c32_i32_565 : BitVec 32 := 32#32
  let v704 : BitVec 32 := Scalar.muli v703 c32_i32_565
  v704
def k0_mult10 (k0_t2 : Fin k0_t2_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t2
  let c1_i32_558 : BitVec 32 := 1#32
  let v694 : BitVec 32 := Scalar.muli arg20 c1_i32_558
  let v695 : BitVec 32 := Scalar.addi c0_i32_559 v694
  let c4_i32_568 : BitVec 32 := 4#32
  let v708 : BitVec 32 := Scalar.muli v695 c4_i32_568
  let c2_i32_569 : BitVec 32 := 2#32
  let v709 : BitVec 32 := Scalar.addi v708 c2_i32_569
  let c32_i32_570 : BitVec 32 := 32#32
  let v710 : BitVec 32 := Scalar.muli v709 c32_i32_570
  v710
def k0_mult11 (k0_t2 : Fin k0_t2_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t2
  let c1_i32_558 : BitVec 32 := 1#32
  let v694 : BitVec 32 := Scalar.muli arg20 c1_i32_558
  let v695 : BitVec 32 := Scalar.addi c0_i32_559 v694
  let c4_i32_573 : BitVec 32 := 4#32
  let v714 : BitVec 32 := Scalar.muli v695 c4_i32_573
  let c3_i32_574 : BitVec 32 := 3#32
  let v715 : BitVec 32 := Scalar.addi v714 c3_i32_574
  let c32_i32_575 : BitVec 32 := 32#32
  let v716 : BitVec 32 := Scalar.muli v715 c32_i32_575
  v716
def k0_mult12 (v27 : BitVec 32) (v96 : BitVec 32) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  v184

@[reducible] def k0_t3_loop : Scf.Loop 32 :=
  let c0_i32_554 : BitVec 32 := 0#32
  let c8_i32_555 : BitVec 32 := 8#32
  let v693 : BitVec 32 := Scalar.addi c0_i32_554 c8_i32_555
  let c1_i32_556 : BitVec 32 := 1#32
  ⟨c0_i32_554, v693, c1_i32_556⟩
def k0_mult13 (k0_t3 : Fin k0_t3_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t3
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let c0_i32_560 : BitVec 32 := 0#32
  let v697 : BitVec 32 := Scalar.addi v696 c0_i32_560
  let c32_i32 : BitVec 32 := 32#32
  let v698 : BitVec 32 := Scalar.muli v697 c32_i32
  v698
def k0_off5 (k0_t3 : Fin k0_t3_loop.trips) (c0_i32_560 : BitVec 32) : Fin 3 → Nat :=
  let c2_i32_561 : BitVec 32 := 2#32
  let c0_i32_559 : BitVec 32 := 0#32
  let c0_i32_554 : BitVec 32 := 0#32
  let c1_i32_556 : BitVec 32 := 1#32
  let arg20 : BitVec 32 := Scf.iv c0_i32_554 c1_i32_556 k0_t3
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let v697 : BitVec 32 := Scalar.addi v696 c0_i32_560
  let c32_i32 : BitVec 32 := 32#32
  let v698 : BitVec 32 := Scalar.muli v697 c32_i32
  let v699 : BitVec 32 := v698
  let c0_i32_562 : BitVec 32 := 0#32
  ![2, v699.toNat, 0]
def k0_mult14 (k0_t3 : Fin k0_t3_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t3
  let c1_i32_558 : BitVec 32 := 1#32
  let v694 : BitVec 32 := Scalar.muli arg20 c1_i32_558
  let v695 : BitVec 32 := Scalar.addi c0_i32_559 v694
  let c4_i32_563 : BitVec 32 := 4#32
  let v702 : BitVec 32 := Scalar.muli v695 c4_i32_563
  let c1_i32_564 : BitVec 32 := 1#32
  let v703 : BitVec 32 := Scalar.addi v702 c1_i32_564
  let c32_i32_565 : BitVec 32 := 32#32
  let v704 : BitVec 32 := Scalar.muli v703 c32_i32_565
  v704
def k0_mult15 (k0_t3 : Fin k0_t3_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t3
  let c1_i32_558 : BitVec 32 := 1#32
  let v694 : BitVec 32 := Scalar.muli arg20 c1_i32_558
  let v695 : BitVec 32 := Scalar.addi c0_i32_559 v694
  let c4_i32_568 : BitVec 32 := 4#32
  let v708 : BitVec 32 := Scalar.muli v695 c4_i32_568
  let c2_i32_569 : BitVec 32 := 2#32
  let v709 : BitVec 32 := Scalar.addi v708 c2_i32_569
  let c32_i32_570 : BitVec 32 := 32#32
  let v710 : BitVec 32 := Scalar.muli v709 c32_i32_570
  v710
def k0_mult16 (k0_t3 : Fin k0_t3_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t3
  let c1_i32_558 : BitVec 32 := 1#32
  let v694 : BitVec 32 := Scalar.muli arg20 c1_i32_558
  let v695 : BitVec 32 := Scalar.addi c0_i32_559 v694
  let c4_i32_573 : BitVec 32 := 4#32
  let v714 : BitVec 32 := Scalar.muli v695 c4_i32_573
  let c3_i32_574 : BitVec 32 := 3#32
  let v715 : BitVec 32 := Scalar.addi v714 c3_i32_574
  let c32_i32_575 : BitVec 32 := 32#32
  let v716 : BitVec 32 := Scalar.muli v715 c32_i32_575
  v716
def k0_mult17 (v27 : BitVec 32) (v96 : BitVec 32) (v165 : BitVec 32) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  v253

@[reducible] def k0_t4_loop : Scf.Loop 32 :=
  let c0_i32_554 : BitVec 32 := 0#32
  let c8_i32_555 : BitVec 32 := 8#32
  let v693 : BitVec 32 := Scalar.addi c0_i32_554 c8_i32_555
  let c1_i32_556 : BitVec 32 := 1#32
  ⟨c0_i32_554, v693, c1_i32_556⟩
def k0_mult18 (k0_t4 : Fin k0_t4_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t4
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let c0_i32_560 : BitVec 32 := 0#32
  let v697 : BitVec 32 := Scalar.addi v696 c0_i32_560
  let c32_i32 : BitVec 32 := 32#32
  let v698 : BitVec 32 := Scalar.muli v697 c32_i32
  v698
def k0_off6 (k0_t4 : Fin k0_t4_loop.trips) (c0_i32_560 : BitVec 32) : Fin 3 → Nat :=
  let c3_i32_561 : BitVec 32 := 3#32
  let c0_i32_559 : BitVec 32 := 0#32
  let c0_i32_554 : BitVec 32 := 0#32
  let c1_i32_556 : BitVec 32 := 1#32
  let arg20 : BitVec 32 := Scf.iv c0_i32_554 c1_i32_556 k0_t4
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let v697 : BitVec 32 := Scalar.addi v696 c0_i32_560
  let c32_i32 : BitVec 32 := 32#32
  let v698 : BitVec 32 := Scalar.muli v697 c32_i32
  let v699 : BitVec 32 := v698
  let c0_i32_562 : BitVec 32 := 0#32
  ![3, v699.toNat, 0]
def k0_mult19 (k0_t4 : Fin k0_t4_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t4
  let c1_i32_558 : BitVec 32 := 1#32
  let v694 : BitVec 32 := Scalar.muli arg20 c1_i32_558
  let v695 : BitVec 32 := Scalar.addi c0_i32_559 v694
  let c4_i32_563 : BitVec 32 := 4#32
  let v702 : BitVec 32 := Scalar.muli v695 c4_i32_563
  let c1_i32_564 : BitVec 32 := 1#32
  let v703 : BitVec 32 := Scalar.addi v702 c1_i32_564
  let c32_i32_565 : BitVec 32 := 32#32
  let v704 : BitVec 32 := Scalar.muli v703 c32_i32_565
  v704
def k0_mult20 (k0_t4 : Fin k0_t4_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t4
  let c1_i32_558 : BitVec 32 := 1#32
  let v694 : BitVec 32 := Scalar.muli arg20 c1_i32_558
  let v695 : BitVec 32 := Scalar.addi c0_i32_559 v694
  let c4_i32_568 : BitVec 32 := 4#32
  let v708 : BitVec 32 := Scalar.muli v695 c4_i32_568
  let c2_i32_569 : BitVec 32 := 2#32
  let v709 : BitVec 32 := Scalar.addi v708 c2_i32_569
  let c32_i32_570 : BitVec 32 := 32#32
  let v710 : BitVec 32 := Scalar.muli v709 c32_i32_570
  v710
def k0_mult21 (k0_t4 : Fin k0_t4_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t4
  let c1_i32_558 : BitVec 32 := 1#32
  let v694 : BitVec 32 := Scalar.muli arg20 c1_i32_558
  let v695 : BitVec 32 := Scalar.addi c0_i32_559 v694
  let c4_i32_573 : BitVec 32 := 4#32
  let v714 : BitVec 32 := Scalar.muli v695 c4_i32_573
  let c3_i32_574 : BitVec 32 := 3#32
  let v715 : BitVec 32 := Scalar.addi v714 c3_i32_574
  let c32_i32_575 : BitVec 32 := 32#32
  let v716 : BitVec 32 := Scalar.muli v715 c32_i32_575
  v716
def k0_mult22 (v27 : BitVec 32) (v96 : BitVec 32) (v165 : BitVec 32) (v234 : BitVec 32) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  v322

@[reducible] def k0_t5_loop : Scf.Loop 32 :=
  let c0_i32_554 : BitVec 32 := 0#32
  let c8_i32_555 : BitVec 32 := 8#32
  let v693 : BitVec 32 := Scalar.addi c0_i32_554 c8_i32_555
  let c1_i32_556 : BitVec 32 := 1#32
  ⟨c0_i32_554, v693, c1_i32_556⟩
def k0_mult23 (k0_t5 : Fin k0_t5_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t5
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let c0_i32_560 : BitVec 32 := 0#32
  let v697 : BitVec 32 := Scalar.addi v696 c0_i32_560
  let c32_i32 : BitVec 32 := 32#32
  let v698 : BitVec 32 := Scalar.muli v697 c32_i32
  v698
def k0_off7 (k0_t5 : Fin k0_t5_loop.trips) (c0_i32_560 : BitVec 32) : Fin 3 → Nat :=
  let c4_i32_561 : BitVec 32 := 4#32
  let c0_i32_559 : BitVec 32 := 0#32
  let c0_i32_554 : BitVec 32 := 0#32
  let c1_i32_556 : BitVec 32 := 1#32
  let arg20 : BitVec 32 := Scf.iv c0_i32_554 c1_i32_556 k0_t5
  let c1_i32_558 : BitVec 32 := 1#32
  let v694 : BitVec 32 := Scalar.muli arg20 c1_i32_558
  let v695 : BitVec 32 := Scalar.addi c0_i32_559 v694
  let c4_i32 : BitVec 32 := 4#32
  let v696 : BitVec 32 := Scalar.muli v695 c4_i32
  let v697 : BitVec 32 := Scalar.addi v696 c0_i32_560
  let c32_i32 : BitVec 32 := 32#32
  let v698 : BitVec 32 := Scalar.muli v697 c32_i32
  let v699 : BitVec 32 := v698
  let c0_i32_562 : BitVec 32 := 0#32
  ![4, v699.toNat, 0]
def k0_mult24 (k0_t5 : Fin k0_t5_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t5
  let c1_i32_558 : BitVec 32 := 1#32
  let v694 : BitVec 32 := Scalar.muli arg20 c1_i32_558
  let v695 : BitVec 32 := Scalar.addi c0_i32_559 v694
  let c4_i32_563 : BitVec 32 := 4#32
  let v702 : BitVec 32 := Scalar.muli v695 c4_i32_563
  let c1_i32_564 : BitVec 32 := 1#32
  let v703 : BitVec 32 := Scalar.addi v702 c1_i32_564
  let c32_i32_565 : BitVec 32 := 32#32
  let v704 : BitVec 32 := Scalar.muli v703 c32_i32_565
  v704
def k0_mult25 (k0_t5 : Fin k0_t5_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t5
  let c1_i32_558 : BitVec 32 := 1#32
  let v694 : BitVec 32 := Scalar.muli arg20 c1_i32_558
  let v695 : BitVec 32 := Scalar.addi c0_i32_559 v694
  let c4_i32_568 : BitVec 32 := 4#32
  let v708 : BitVec 32 := Scalar.muli v695 c4_i32_568
  let c2_i32_569 : BitVec 32 := 2#32
  let v709 : BitVec 32 := Scalar.addi v708 c2_i32_569
  let c32_i32_570 : BitVec 32 := 32#32
  let v710 : BitVec 32 := Scalar.muli v709 c32_i32_570
  v710
def k0_mult26 (k0_t5 : Fin k0_t5_loop.trips) : BitVec 32 :=
  let c0_i32_559 : BitVec 32 := 0#32
  let c0_i32_554 : BitVec 32 := 0#32
  let c1_i32_556 : BitVec 32 := 1#32
  let arg20 : BitVec 32 := Scf.iv c0_i32_554 c1_i32_556 k0_t5
  let c1_i32_558 : BitVec 32 := 1#32
  let v694 : BitVec 32 := Scalar.muli arg20 c1_i32_558
  let v695 : BitVec 32 := Scalar.addi c0_i32_559 v694
  let c4_i32_573 : BitVec 32 := 4#32
  let v714 : BitVec 32 := Scalar.muli v695 c4_i32_573
  let c3_i32_574 : BitVec 32 := 3#32
  let v715 : BitVec 32 := Scalar.addi v714 c3_i32_574
  let c32_i32_575 : BitVec 32 := 32#32
  let v716 : BitVec 32 := Scalar.muli v715 c32_i32_575
  v716
@[reducible] def k0_t6_loop (v27 : BitVec 32) : Scf.Loop 32 :=
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let c1_i32_213 : BitVec 32 := 1#32
  ⟨c0_i32_211, v387, c1_i32_213⟩
def k0_mult27 (v27 : BitVec 32) (k0_t6 : Fin (k0_t6_loop v27).trips) : BitVec 32 :=
  let c0_i32_209 : BitVec 32 := 0#32
  let c0_i32_208 : BitVec 32 := 0#32
  let c0_i32_211 : BitVec 32 := 0#32
  let c1_i32_213 : BitVec 32 := 1#32
  let arg20 : BitVec 32 := Scf.iv c0_i32_211 c1_i32_213 k0_t6
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off8 (v27 : BitVec 32) (k0_t6 : Fin (k0_t6_loop v27).trips) : Fin 2 → Nat :=
  let c0_i32_210 : BitVec 32 := 0#32
  let c0_i32_208 : BitVec 32 := 0#32
  let c0_i32_211 : BitVec 32 := 0#32
  let c1_i32_213 : BitVec 32 := 1#32
  let arg20 : BitVec 32 := Scf.iv c0_i32_211 c1_i32_213 k0_t6
  let c1_i32_207 : BitVec 32 := 1#32
  let v693 : BitVec 32 := Scalar.muli arg20 c1_i32_207
  let v694 : BitVec 32 := Scalar.addi c0_i32_208 v693
  let v719 : BitVec 32 := Scalar.addi c0_i32_210 v694
  let v720 : Index := Scalar.indexCast v719
  let c0_563 : Index := 0#32
  ![v720.toNat, 0]
def k0_off9 (v27 : BitVec 32) (k0_t6 : Fin (k0_t6_loop v27).trips) : Fin 2 → Nat :=
  let c0_i32_209 : BitVec 32 := 0#32
  let c0_i32_208 : BitVec 32 := 0#32
  let c0_i32_211 : BitVec 32 := 0#32
  let c1_i32_213 : BitVec 32 := 1#32
  let arg20 : BitVec 32 := Scf.iv c0_i32_211 c1_i32_213 k0_t6
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off10 (v27 : BitVec 32) (k0_t6 : Fin (k0_t6_loop v27).trips) : Fin 2 → Nat :=
  let c0_i32_209 : BitVec 32 := 0#32
  let c0_i32_208 : BitVec 32 := 0#32
  let c0_i32_211 : BitVec 32 := 0#32
  let c1_i32_213 : BitVec 32 := 1#32
  let arg20 : BitVec 32 := Scf.iv c0_i32_211 c1_i32_213 k0_t6
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t7_loop (v27 : BitVec 32) : Scf.Loop 32 :=
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let v384 : BitVec 32 := Scalar.addi c0_i32_211 v383
  let c1_i32_214 : BitVec 32 := 1#32
  ⟨v387, v384, c1_i32_214⟩
def k0_mult28 (v27 : BitVec 32) (k0_t7 : Fin (k0_t7_loop v27).trips) : BitVec 32 :=
  let c0_i32_209 : BitVec 32 := 0#32
  let c0_i32_208 : BitVec 32 := 0#32
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let c1_i32_214 : BitVec 32 := 1#32
  let arg20 : BitVec 32 := Scf.iv v387 c1_i32_214 k0_t7
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off11 (v27 : BitVec 32) (k0_t7 : Fin (k0_t7_loop v27).trips) : Fin 2 → Nat :=
  let c0_i32_210 : BitVec 32 := 0#32
  let c0_i32_208 : BitVec 32 := 0#32
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let c1_i32_214 : BitVec 32 := 1#32
  let arg20 : BitVec 32 := Scf.iv v387 c1_i32_214 k0_t7
  let c1_i32_207 : BitVec 32 := 1#32
  let v693 : BitVec 32 := Scalar.muli arg20 c1_i32_207
  let v694 : BitVec 32 := Scalar.addi c0_i32_208 v693
  let v719 : BitVec 32 := Scalar.addi c0_i32_210 v694
  let v720 : Index := Scalar.indexCast v719
  let c0_563 : Index := 0#32
  ![v720.toNat, 0]
def k0_off12 (v27 : BitVec 32) (k0_t7 : Fin (k0_t7_loop v27).trips) : Fin 2 → Nat :=
  let c0_i32_209 : BitVec 32 := 0#32
  let c0_i32_208 : BitVec 32 := 0#32
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let c1_i32_214 : BitVec 32 := 1#32
  let arg20 : BitVec 32 := Scf.iv v387 c1_i32_214 k0_t7
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off13 (v27 : BitVec 32) (k0_t7 : Fin (k0_t7_loop v27).trips) : Fin 2 → Nat :=
  let c0_i32_209 : BitVec 32 := 0#32
  let c0_i32_208 : BitVec 32 := 0#32
  let c0_i32_211 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_203 : BitVec 32 := 0#32
  let v379 : BitVec 32 := Scalar.subi v65 c0_i32_203
  let c1_i32_204 : BitVec 32 := 1#32
  let c1_i32_205 : BitVec 32 := 1#32
  let v380 : BitVec 32 := Scalar.subi c1_i32_204 c1_i32_205
  let v381 : BitVec 32 := Scalar.addi v379 v380
  let c1_i32_206 : BitVec 32 := 1#32
  let v382 : BitVec 32 := Scalar.divsi v381 c1_i32_206
  let v383 : BitVec 32 := Scalar.subi v382 c0_i32_211
  let c1_i32_212 : BitVec 32 := 1#32
  let v385 : BitVec 32 := Scalar.divsi v383 c1_i32_212
  let v386 : BitVec 32 := Scalar.muli v385 c1_i32_212
  let v387 : BitVec 32 := Scalar.addi c0_i32_211 v386
  let c1_i32_214 : BitVec 32 := 1#32
  let arg20 : BitVec 32 := Scf.iv v387 c1_i32_214 k0_t7
  let c1_i32_207 : BitVec 32 := 1#32
  let v693 : BitVec 32 := Scalar.muli arg20 c1_i32_207
  let v694 : BitVec 32 := Scalar.addi c0_i32_208 v693
  let c128_i32_554 : BitVec 32 := 128#32
  let v695 : BitVec 32 := Scalar.muli v694 c128_i32_554
  let v696 : BitVec 32 := Scalar.addi c0_i32_209 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t8_loop (v96 : BitVec 32) : Scf.Loop 32 :=
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let c1_i32_223 : BitVec 32 := 1#32
  ⟨c0_i32_221, v396, c1_i32_223⟩
def k0_mult29 (v27 : BitVec 32) (v96 : BitVec 32) (k0_t8 : Fin (k0_t8_loop v96).trips) : BitVec 32 :=
  let c0_i32_20 : BitVec 32 := 0#32
  let v28 : BitVec 32 := Scalar.addi c0_i32_20 v27
  let c0_i32_220 : BitVec 32 := 0#32
  let c0_i32_221 : BitVec 32 := 0#32
  let c1_i32_223 : BitVec 32 := 1#32
  let arg20 : BitVec 32 := Scf.iv c0_i32_221 c1_i32_223 k0_t8
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off14 (v27 : BitVec 32) (v96 : BitVec 32) (k0_t8 : Fin (k0_t8_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_220 : BitVec 32 := 0#32
  let c0_i32_221 : BitVec 32 := 0#32
  let c1_i32_223 : BitVec 32 := 1#32
  let arg20 : BitVec 32 := Scf.iv c0_i32_221 c1_i32_223 k0_t8
  let c1_i32_219 : BitVec 32 := 1#32
  let v693 : BitVec 32 := Scalar.muli arg20 c1_i32_219
  let v694 : BitVec 32 := Scalar.addi c0_i32_220 v693
  let v719 : BitVec 32 := Scalar.addi v90 v694
  let v720 : Index := Scalar.indexCast v719
  let c0_563 : Index := 0#32
  ![v720.toNat, 0]
def k0_off15 (v27 : BitVec 32) (v96 : BitVec 32) (k0_t8 : Fin (k0_t8_loop v96).trips) : Fin 2 → Nat :=
  let c0_i32_20 : BitVec 32 := 0#32
  let v28 : BitVec 32 := Scalar.addi c0_i32_20 v27
  let c0_i32_220 : BitVec 32 := 0#32
  let c0_i32_221 : BitVec 32 := 0#32
  let c1_i32_223 : BitVec 32 := 1#32
  let arg20 : BitVec 32 := Scf.iv c0_i32_221 c1_i32_223 k0_t8
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off16 (v27 : BitVec 32) (v96 : BitVec 32) (k0_t8 : Fin (k0_t8_loop v96).trips) : Fin 2 → Nat :=
  let c0_i32_20 : BitVec 32 := 0#32
  let v28 : BitVec 32 := Scalar.addi c0_i32_20 v27
  let c0_i32_220 : BitVec 32 := 0#32
  let c0_i32_221 : BitVec 32 := 0#32
  let c1_i32_223 : BitVec 32 := 1#32
  let arg20 : BitVec 32 := Scf.iv c0_i32_221 c1_i32_223 k0_t8
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t9_loop (v96 : BitVec 32) : Scf.Loop 32 :=
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let v393 : BitVec 32 := Scalar.addi c0_i32_221 v392
  let c1_i32_224 : BitVec 32 := 1#32
  ⟨v396, v393, c1_i32_224⟩
def k0_mult30 (v27 : BitVec 32) (v96 : BitVec 32) (k0_t9 : Fin (k0_t9_loop v96).trips) : BitVec 32 :=
  let c0_i32_20 : BitVec 32 := 0#32
  let v28 : BitVec 32 := Scalar.addi c0_i32_20 v27
  let c0_i32_220 : BitVec 32 := 0#32
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let c1_i32_224 : BitVec 32 := 1#32
  let arg20 : BitVec 32 := Scf.iv v396 c1_i32_224 k0_t9
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off17 (v27 : BitVec 32) (v96 : BitVec 32) (k0_t9 : Fin (k0_t9_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_220 : BitVec 32 := 0#32
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let c1_i32_224 : BitVec 32 := 1#32
  let arg20 : BitVec 32 := Scf.iv v396 c1_i32_224 k0_t9
  let c1_i32_219 : BitVec 32 := 1#32
  let v693 : BitVec 32 := Scalar.muli arg20 c1_i32_219
  let v694 : BitVec 32 := Scalar.addi c0_i32_220 v693
  let v719 : BitVec 32 := Scalar.addi v90 v694
  let v720 : Index := Scalar.indexCast v719
  let c0_563 : Index := 0#32
  ![v720.toNat, 0]
def k0_off18 (v27 : BitVec 32) (v96 : BitVec 32) (k0_t9 : Fin (k0_t9_loop v96).trips) : Fin 2 → Nat :=
  let c0_i32_20 : BitVec 32 := 0#32
  let v28 : BitVec 32 := Scalar.addi c0_i32_20 v27
  let c0_i32_220 : BitVec 32 := 0#32
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let c1_i32_224 : BitVec 32 := 1#32
  let arg20 : BitVec 32 := Scf.iv v396 c1_i32_224 k0_t9
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off19 (v27 : BitVec 32) (v96 : BitVec 32) (k0_t9 : Fin (k0_t9_loop v96).trips) : Fin 2 → Nat :=
  let c0_i32_20 : BitVec 32 := 0#32
  let v28 : BitVec 32 := Scalar.addi c0_i32_20 v27
  let c0_i32_220 : BitVec 32 := 0#32
  let c0_i32_221 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_215 : BitVec 32 := 0#32
  let v388 : BitVec 32 := Scalar.subi v134 c0_i32_215
  let c1_i32_216 : BitVec 32 := 1#32
  let c1_i32_217 : BitVec 32 := 1#32
  let v389 : BitVec 32 := Scalar.subi c1_i32_216 c1_i32_217
  let v390 : BitVec 32 := Scalar.addi v388 v389
  let c1_i32_218 : BitVec 32 := 1#32
  let v391 : BitVec 32 := Scalar.divsi v390 c1_i32_218
  let v392 : BitVec 32 := Scalar.subi v391 c0_i32_221
  let c1_i32_222 : BitVec 32 := 1#32
  let v394 : BitVec 32 := Scalar.divsi v392 c1_i32_222
  let v395 : BitVec 32 := Scalar.muli v394 c1_i32_222
  let v396 : BitVec 32 := Scalar.addi c0_i32_221 v395
  let c1_i32_224 : BitVec 32 := 1#32
  let arg20 : BitVec 32 := Scf.iv v396 c1_i32_224 k0_t9
  let c1_i32_219 : BitVec 32 := 1#32
  let v693 : BitVec 32 := Scalar.muli arg20 c1_i32_219
  let v694 : BitVec 32 := Scalar.addi c0_i32_220 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t10_loop (v165 : BitVec 32) : Scf.Loop 32 :=
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let c1_i32_233 : BitVec 32 := 1#32
  ⟨c0_i32_231, v405, c1_i32_233⟩
def k0_mult31 (v27 : BitVec 32) (v96 : BitVec 32) (v165 : BitVec 32) (k0_t10 : Fin (k0_t10_loop v165).trips) : BitVec 32 :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c1_i32_233 : BitVec 32 := 1#32
  let arg20 : BitVec 32 := Scf.iv c0_i32_231 c1_i32_233 k0_t10
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off20 (v27 : BitVec 32) (v96 : BitVec 32) (v165 : BitVec 32) (k0_t10 : Fin (k0_t10_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_230 : BitVec 32 := 0#32
  let c0_i32_231 : BitVec 32 := 0#32
  let c1_i32_233 : BitVec 32 := 1#32
  let arg20 : BitVec 32 := Scf.iv c0_i32_231 c1_i32_233 k0_t10
  let c1_i32_229 : BitVec 32 := 1#32
  let v693 : BitVec 32 := Scalar.muli arg20 c1_i32_229
  let v694 : BitVec 32 := Scalar.addi c0_i32_230 v693
  let v719 : BitVec 32 := Scalar.addi v159 v694
  let v720 : Index := Scalar.indexCast v719
  let c0_563 : Index := 0#32
  ![v720.toNat, 0]
def k0_off21 (v27 : BitVec 32) (v96 : BitVec 32) (v165 : BitVec 32) (k0_t10 : Fin (k0_t10_loop v165).trips) : Fin 2 → Nat :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c1_i32_233 : BitVec 32 := 1#32
  let arg20 : BitVec 32 := Scf.iv c0_i32_231 c1_i32_233 k0_t10
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off22 (v27 : BitVec 32) (v96 : BitVec 32) (v165 : BitVec 32) (k0_t10 : Fin (k0_t10_loop v165).trips) : Fin 2 → Nat :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c1_i32_233 : BitVec 32 := 1#32
  let arg20 : BitVec 32 := Scf.iv c0_i32_231 c1_i32_233 k0_t10
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t11_loop (v165 : BitVec 32) : Scf.Loop 32 :=
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let v402 : BitVec 32 := Scalar.addi c0_i32_231 v401
  let c1_i32_234 : BitVec 32 := 1#32
  ⟨v405, v402, c1_i32_234⟩
def k0_mult32 (v27 : BitVec 32) (v96 : BitVec 32) (v165 : BitVec 32) (k0_t11 : Fin (k0_t11_loop v165).trips) : BitVec 32 :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let c1_i32_234 : BitVec 32 := 1#32
  let arg20 : BitVec 32 := Scf.iv v405 c1_i32_234 k0_t11
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off23 (v27 : BitVec 32) (v96 : BitVec 32) (v165 : BitVec 32) (k0_t11 : Fin (k0_t11_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_230 : BitVec 32 := 0#32
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let c1_i32_234 : BitVec 32 := 1#32
  let arg20 : BitVec 32 := Scf.iv v405 c1_i32_234 k0_t11
  let c1_i32_229 : BitVec 32 := 1#32
  let v693 : BitVec 32 := Scalar.muli arg20 c1_i32_229
  let v694 : BitVec 32 := Scalar.addi c0_i32_230 v693
  let v719 : BitVec 32 := Scalar.addi v159 v694
  let v720 : Index := Scalar.indexCast v719
  let c0_563 : Index := 0#32
  ![v720.toNat, 0]
def k0_off24 (v27 : BitVec 32) (v96 : BitVec 32) (v165 : BitVec 32) (k0_t11 : Fin (k0_t11_loop v165).trips) : Fin 2 → Nat :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let c1_i32_234 : BitVec 32 := 1#32
  let arg20 : BitVec 32 := Scf.iv v405 c1_i32_234 k0_t11
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off25 (v27 : BitVec 32) (v96 : BitVec 32) (v165 : BitVec 32) (k0_t11 : Fin (k0_t11_loop v165).trips) : Fin 2 → Nat :=
  let c0_i32_20 : BitVec 32 := 0#32
  let v28 : BitVec 32 := Scalar.addi c0_i32_20 v27
  let v97 : BitVec 32 := Scalar.addi v28 v96
  let c0_i32_230 : BitVec 32 := 0#32
  let c0_i32_231 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_225 : BitVec 32 := 0#32
  let v397 : BitVec 32 := Scalar.subi v203 c0_i32_225
  let c1_i32_226 : BitVec 32 := 1#32
  let c1_i32_227 : BitVec 32 := 1#32
  let v398 : BitVec 32 := Scalar.subi c1_i32_226 c1_i32_227
  let v399 : BitVec 32 := Scalar.addi v397 v398
  let c1_i32_228 : BitVec 32 := 1#32
  let v400 : BitVec 32 := Scalar.divsi v399 c1_i32_228
  let v401 : BitVec 32 := Scalar.subi v400 c0_i32_231
  let c1_i32_232 : BitVec 32 := 1#32
  let v403 : BitVec 32 := Scalar.divsi v401 c1_i32_232
  let v404 : BitVec 32 := Scalar.muli v403 c1_i32_232
  let v405 : BitVec 32 := Scalar.addi c0_i32_231 v404
  let c1_i32_234 : BitVec 32 := 1#32
  let arg20 : BitVec 32 := Scf.iv v405 c1_i32_234 k0_t11
  let c1_i32_229 : BitVec 32 := 1#32
  let v693 : BitVec 32 := Scalar.muli arg20 c1_i32_229
  let v694 : BitVec 32 := Scalar.addi c0_i32_230 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t12_loop (v234 : BitVec 32) : Scf.Loop 32 :=
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let c1_i32_243 : BitVec 32 := 1#32
  ⟨c0_i32_241, v414, c1_i32_243⟩
def k0_mult33 (v27 : BitVec 32) (v96 : BitVec 32) (v165 : BitVec 32) (v234 : BitVec 32) (k0_t12 : Fin (k0_t12_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c1_i32_243 : BitVec 32 := 1#32
  let arg20 : BitVec 32 := Scf.iv c0_i32_241 c1_i32_243 k0_t12
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off26 (v27 : BitVec 32) (v96 : BitVec 32) (v165 : BitVec 32) (v234 : BitVec 32) (k0_t12 : Fin (k0_t12_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_240 : BitVec 32 := 0#32
  let c0_i32_241 : BitVec 32 := 0#32
  let c1_i32_243 : BitVec 32 := 1#32
  let arg20 : BitVec 32 := Scf.iv c0_i32_241 c1_i32_243 k0_t12
  let c1_i32_239 : BitVec 32 := 1#32
  let v693 : BitVec 32 := Scalar.muli arg20 c1_i32_239
  let v694 : BitVec 32 := Scalar.addi c0_i32_240 v693
  let v719 : BitVec 32 := Scalar.addi v228 v694
  let v720 : Index := Scalar.indexCast v719
  let c0_563 : Index := 0#32
  ![v720.toNat, 0]
def k0_off27 (v27 : BitVec 32) (v96 : BitVec 32) (v165 : BitVec 32) (v234 : BitVec 32) (k0_t12 : Fin (k0_t12_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c1_i32_243 : BitVec 32 := 1#32
  let arg20 : BitVec 32 := Scf.iv c0_i32_241 c1_i32_243 k0_t12
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off28 (v27 : BitVec 32) (v96 : BitVec 32) (v165 : BitVec 32) (v234 : BitVec 32) (k0_t12 : Fin (k0_t12_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c1_i32_243 : BitVec 32 := 1#32
  let arg20 : BitVec 32 := Scf.iv c0_i32_241 c1_i32_243 k0_t12
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t13_loop (v234 : BitVec 32) : Scf.Loop 32 :=
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let v411 : BitVec 32 := Scalar.addi c0_i32_241 v410
  let c1_i32_244 : BitVec 32 := 1#32
  ⟨v414, v411, c1_i32_244⟩
def k0_mult34 (v27 : BitVec 32) (v96 : BitVec 32) (v165 : BitVec 32) (v234 : BitVec 32) (k0_t13 : Fin (k0_t13_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let c1_i32_244 : BitVec 32 := 1#32
  let arg20 : BitVec 32 := Scf.iv v414 c1_i32_244 k0_t13
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off29 (v27 : BitVec 32) (v96 : BitVec 32) (v165 : BitVec 32) (v234 : BitVec 32) (k0_t13 : Fin (k0_t13_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_240 : BitVec 32 := 0#32
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let c1_i32_244 : BitVec 32 := 1#32
  let arg20 : BitVec 32 := Scf.iv v414 c1_i32_244 k0_t13
  let c1_i32_239 : BitVec 32 := 1#32
  let v693 : BitVec 32 := Scalar.muli arg20 c1_i32_239
  let v694 : BitVec 32 := Scalar.addi c0_i32_240 v693
  let v719 : BitVec 32 := Scalar.addi v228 v694
  let v720 : Index := Scalar.indexCast v719
  let c0_563 : Index := 0#32
  ![v720.toNat, 0]
def k0_off30 (v27 : BitVec 32) (v96 : BitVec 32) (v165 : BitVec 32) (v234 : BitVec 32) (k0_t13 : Fin (k0_t13_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let c1_i32_244 : BitVec 32 := 1#32
  let arg20 : BitVec 32 := Scf.iv v414 c1_i32_244 k0_t13
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off31 (v27 : BitVec 32) (v96 : BitVec 32) (v165 : BitVec 32) (v234 : BitVec 32) (k0_t13 : Fin (k0_t13_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_240 : BitVec 32 := 0#32
  let c0_i32_241 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_235 : BitVec 32 := 0#32
  let v406 : BitVec 32 := Scalar.subi v272 c0_i32_235
  let c1_i32_236 : BitVec 32 := 1#32
  let c1_i32_237 : BitVec 32 := 1#32
  let v407 : BitVec 32 := Scalar.subi c1_i32_236 c1_i32_237
  let v408 : BitVec 32 := Scalar.addi v406 v407
  let c1_i32_238 : BitVec 32 := 1#32
  let v409 : BitVec 32 := Scalar.divsi v408 c1_i32_238
  let v410 : BitVec 32 := Scalar.subi v409 c0_i32_241
  let c1_i32_242 : BitVec 32 := 1#32
  let v412 : BitVec 32 := Scalar.divsi v410 c1_i32_242
  let v413 : BitVec 32 := Scalar.muli v412 c1_i32_242
  let v414 : BitVec 32 := Scalar.addi c0_i32_241 v413
  let c1_i32_244 : BitVec 32 := 1#32
  let arg20 : BitVec 32 := Scf.iv v414 c1_i32_244 k0_t13
  let c1_i32_239 : BitVec 32 := 1#32
  let v693 : BitVec 32 := Scalar.muli arg20 c1_i32_239
  let v694 : BitVec 32 := Scalar.addi c0_i32_240 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t14_loop (v303 : BitVec 32) : Scf.Loop 32 :=
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let c1_i32_253 : BitVec 32 := 1#32
  ⟨c0_i32_251, v423, c1_i32_253⟩

def k0_mult35 (v27 : BitVec 32) (v96 : BitVec 32) (v165 : BitVec 32) (v234 : BitVec 32) (v303 : BitVec 32) (k0_t14 : Fin (k0_t14_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c1_i32_253 : BitVec 32 := 1#32
  let arg20 : BitVec 32 := Scf.iv c0_i32_251 c1_i32_253 k0_t14
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off32 (v27 : BitVec 32) (v96 : BitVec 32) (v165 : BitVec 32) (v234 : BitVec 32) (v303 : BitVec 32) (k0_t14 : Fin (k0_t14_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_250 : BitVec 32 := 0#32
  let c0_i32_251 : BitVec 32 := 0#32
  let c1_i32_253 : BitVec 32 := 1#32
  let arg20 : BitVec 32 := Scf.iv c0_i32_251 c1_i32_253 k0_t14
  let c1_i32_249 : BitVec 32 := 1#32
  let v693 : BitVec 32 := Scalar.muli arg20 c1_i32_249
  let v694 : BitVec 32 := Scalar.addi c0_i32_250 v693
  let v719 : BitVec 32 := Scalar.addi v297 v694
  let v720 : Index := Scalar.indexCast v719
  let c0_563 : Index := 0#32
  ![v720.toNat, 0]
def k0_off33 (v27 : BitVec 32) (v96 : BitVec 32) (v165 : BitVec 32) (v234 : BitVec 32) (v303 : BitVec 32) (k0_t14 : Fin (k0_t14_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c1_i32_253 : BitVec 32 := 1#32
  let arg20 : BitVec 32 := Scf.iv c0_i32_251 c1_i32_253 k0_t14
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off34 (v27 : BitVec 32) (v96 : BitVec 32) (v165 : BitVec 32) (v234 : BitVec 32) (v303 : BitVec 32) (k0_t14 : Fin (k0_t14_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c1_i32_253 : BitVec 32 := 1#32
  let arg20 : BitVec 32 := Scf.iv c0_i32_251 c1_i32_253 k0_t14
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t15_loop (v303 : BitVec 32) : Scf.Loop 32 :=
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let v420 : BitVec 32 := Scalar.addi c0_i32_251 v419
  let c1_i32_254 : BitVec 32 := 1#32
  ⟨v423, v420, c1_i32_254⟩
def k0_mult36 (v27 : BitVec 32) (v96 : BitVec 32) (v165 : BitVec 32) (v234 : BitVec 32) (v303 : BitVec 32) (k0_t15 : Fin (k0_t15_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let c1_i32_254 : BitVec 32 := 1#32
  let arg20 : BitVec 32 := Scf.iv v423 c1_i32_254 k0_t15
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off35 (v27 : BitVec 32) (v96 : BitVec 32) (v165 : BitVec 32) (v234 : BitVec 32) (v303 : BitVec 32) (k0_t15 : Fin (k0_t15_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_250 : BitVec 32 := 0#32
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let c1_i32_254 : BitVec 32 := 1#32
  let arg20 : BitVec 32 := Scf.iv v423 c1_i32_254 k0_t15
  let c1_i32_249 : BitVec 32 := 1#32
  let v693 : BitVec 32 := Scalar.muli arg20 c1_i32_249
  let v694 : BitVec 32 := Scalar.addi c0_i32_250 v693
  let v719 : BitVec 32 := Scalar.addi v297 v694
  let v720 : Index := Scalar.indexCast v719
  let c0_563 : Index := 0#32
  ![v720.toNat, 0]
def k0_off36 (v27 : BitVec 32) (v96 : BitVec 32) (v165 : BitVec 32) (v234 : BitVec 32) (v303 : BitVec 32) (k0_t15 : Fin (k0_t15_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let c1_i32_254 : BitVec 32 := 1#32
  let arg20 : BitVec 32 := Scf.iv v423 c1_i32_254 k0_t15
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c0_564 : Index := 0#32
  ![v723.toNat, 0]
def k0_off37 (v27 : BitVec 32) (v96 : BitVec 32) (v165 : BitVec 32) (v234 : BitVec 32) (v303 : BitVec 32) (k0_t15 : Fin (k0_t15_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_250 : BitVec 32 := 0#32
  let c0_i32_251 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_245 : BitVec 32 := 0#32
  let v415 : BitVec 32 := Scalar.subi v341 c0_i32_245
  let c1_i32_246 : BitVec 32 := 1#32
  let c1_i32_247 : BitVec 32 := 1#32
  let v416 : BitVec 32 := Scalar.subi c1_i32_246 c1_i32_247
  let v417 : BitVec 32 := Scalar.addi v415 v416
  let c1_i32_248 : BitVec 32 := 1#32
  let v418 : BitVec 32 := Scalar.divsi v417 c1_i32_248
  let v419 : BitVec 32 := Scalar.subi v418 c0_i32_251
  let c1_i32_252 : BitVec 32 := 1#32
  let v421 : BitVec 32 := Scalar.divsi v419 c1_i32_252
  let v422 : BitVec 32 := Scalar.muli v421 c1_i32_252
  let v423 : BitVec 32 := Scalar.addi c0_i32_251 v422
  let c1_i32_254 : BitVec 32 := 1#32
  let arg20 : BitVec 32 := Scf.iv v423 c1_i32_254 k0_t15
  let c1_i32_249 : BitVec 32 := 1#32
  let v693 : BitVec 32 := Scalar.muli arg20 c1_i32_249
  let v694 : BitVec 32 := Scalar.addi c0_i32_250 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_565 : Index := 0#32
  ![v736.toNat, 0]
@[reducible] def k0_t16_loop (v27 : BitVec 32) : Scf.Loop 32 :=
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let c1_i32_265 : BitVec 32 := 1#32
  ⟨c0_i32_263, v432, c1_i32_265⟩
def k0_mult37 (v27 : BitVec 32) (k0_t16 : Fin (k0_t16_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_260 : BitVec 32 := 0#32
  let c0_i32_263 : BitVec 32 := 0#32
  let c1_i32_265 : BitVec 32 := 1#32
  let arg20 : BitVec 32 := Scf.iv c0_i32_263 c1_i32_265 k0_t16
  let c1_i32_259 : BitVec 32 := 1#32
  let v693 : BitVec 32 := Scalar.muli arg20 c1_i32_259
  let v694 : BitVec 32 := Scalar.addi c0_i32_260 v693
  let c256_i32_554 : BitVec 32 := 256#32
  let v695 : BitVec 32 := Scalar.muli v694 c256_i32_554
  let v696 : BitVec 32 := Scalar.addi v47 v695
  v696
def k0_off38 (v27 : BitVec 32) (k0_t16 : Fin (k0_t16_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_260 : BitVec 32 := 0#32
  let c0_i32_263 : BitVec 32 := 0#32
  let c1_i32_265 : BitVec 32 := 1#32
  let arg20 : BitVec 32 := Scf.iv c0_i32_263 c1_i32_265 k0_t16
  let c1_i32_259 : BitVec 32 := 1#32
  let v693 : BitVec 32 := Scalar.muli arg20 c1_i32_259
  let v694 : BitVec 32 := Scalar.addi c0_i32_260 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult38 (v27 : BitVec 32) (k0_t16 : Fin (k0_t16_loop v27).trips) : BitVec 32 :=
  let c0_i32_262 : BitVec 32 := 0#32
  let c0_i32_260 : BitVec 32 := 0#32
  let c0_i32_263 : BitVec 32 := 0#32
  let c1_i32_265 : BitVec 32 := 1#32
  let arg20 : BitVec 32 := Scf.iv c0_i32_263 c1_i32_265 k0_t16
  let c1_i32_259 : BitVec 32 := 1#32
  let v693 : BitVec 32 := Scalar.muli arg20 c1_i32_259
  let v694 : BitVec 32 := Scalar.addi c0_i32_260 v693
  let c256_i32_557 : BitVec 32 := 256#32
  let v710 : BitVec 32 := Scalar.muli v694 c256_i32_557
  let v711 : BitVec 32 := Scalar.addi c0_i32_262 v710
  v711
def k0_off39 (v27 : BitVec 32) (k0_t16 : Fin (k0_t16_loop v27).trips) : Fin 2 → Nat :=
  let c0_558 : Index := 0#32
  let c0_i32_262 : BitVec 32 := 0#32
  let c0_i32_260 : BitVec 32 := 0#32
  let c0_i32_263 : BitVec 32 := 0#32
  let c1_i32_265 : BitVec 32 := 1#32
  let arg20 : BitVec 32 := Scf.iv c0_i32_263 c1_i32_265 k0_t16
  let c1_i32_259 : BitVec 32 := 1#32
  let v693 : BitVec 32 := Scalar.muli arg20 c1_i32_259
  let v694 : BitVec 32 := Scalar.addi c0_i32_260 v693
  let c256_i32_557 : BitVec 32 := 256#32
  let v710 : BitVec 32 := Scalar.muli v694 c256_i32_557
  let v711 : BitVec 32 := Scalar.addi c0_i32_262 v710
  let v712 : BitVec 32 := v711
  let v714 : Index := Scalar.indexCast v712
  ![0, v714.toNat]
@[reducible] def k0_t17_loop (v27 : BitVec 32) : Scf.Loop 32 :=
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let v429 : BitVec 32 := Scalar.addi c0_i32_263 v428
  let c1_i32_266 : BitVec 32 := 1#32
  ⟨v432, v429, c1_i32_266⟩
def k0_mult39 (v27 : BitVec 32) (k0_t17 : Fin (k0_t17_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_260 : BitVec 32 := 0#32
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let c1_i32_266 : BitVec 32 := 1#32
  let arg20 : BitVec 32 := Scf.iv v432 c1_i32_266 k0_t17
  let c1_i32_259 : BitVec 32 := 1#32
  let v693 : BitVec 32 := Scalar.muli arg20 c1_i32_259
  let v694 : BitVec 32 := Scalar.addi c0_i32_260 v693
  let c256_i32_554 : BitVec 32 := 256#32
  let v695 : BitVec 32 := Scalar.muli v694 c256_i32_554
  let v696 : BitVec 32 := Scalar.addi v47 v695
  v696
def k0_off40 (v27 : BitVec 32) (k0_t17 : Fin (k0_t17_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_260 : BitVec 32 := 0#32
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let c1_i32_266 : BitVec 32 := 1#32
  let arg20 : BitVec 32 := Scf.iv v432 c1_i32_266 k0_t17
  let c1_i32_259 : BitVec 32 := 1#32
  let v693 : BitVec 32 := Scalar.muli arg20 c1_i32_259
  let v694 : BitVec 32 := Scalar.addi c0_i32_260 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult40 (v27 : BitVec 32) (k0_t17 : Fin (k0_t17_loop v27).trips) : BitVec 32 :=
  let c0_i32_262 : BitVec 32 := 0#32
  let c0_i32_260 : BitVec 32 := 0#32
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let c1_i32_266 : BitVec 32 := 1#32
  let arg20 : BitVec 32 := Scf.iv v432 c1_i32_266 k0_t17
  let c1_i32_259 : BitVec 32 := 1#32
  let v693 : BitVec 32 := Scalar.muli arg20 c1_i32_259
  let v694 : BitVec 32 := Scalar.addi c0_i32_260 v693
  let c256_i32_557 : BitVec 32 := 256#32
  let v710 : BitVec 32 := Scalar.muli v694 c256_i32_557
  let v711 : BitVec 32 := Scalar.addi c0_i32_262 v710
  v711
def k0_off41 (v27 : BitVec 32) (k0_t17 : Fin (k0_t17_loop v27).trips) : Fin 2 → Nat :=
  let c0_558 : Index := 0#32
  let c0_i32_262 : BitVec 32 := 0#32
  let c0_i32_260 : BitVec 32 := 0#32
  let c0_i32_263 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_255 : BitVec 32 := 0#32
  let v424 : BitVec 32 := Scalar.subi v86 c0_i32_255
  let c1_i32_256 : BitVec 32 := 1#32
  let c1_i32_257 : BitVec 32 := 1#32
  let v425 : BitVec 32 := Scalar.subi c1_i32_256 c1_i32_257
  let v426 : BitVec 32 := Scalar.addi v424 v425
  let c1_i32_258 : BitVec 32 := 1#32
  let v427 : BitVec 32 := Scalar.divsi v426 c1_i32_258
  let v428 : BitVec 32 := Scalar.subi v427 c0_i32_263
  let c1_i32_264 : BitVec 32 := 1#32
  let v430 : BitVec 32 := Scalar.divsi v428 c1_i32_264
  let v431 : BitVec 32 := Scalar.muli v430 c1_i32_264
  let v432 : BitVec 32 := Scalar.addi c0_i32_263 v431
  let c1_i32_266 : BitVec 32 := 1#32
  let arg20 : BitVec 32 := Scf.iv v432 c1_i32_266 k0_t17
  let c1_i32_259 : BitVec 32 := 1#32
  let v693 : BitVec 32 := Scalar.muli arg20 c1_i32_259
  let v694 : BitVec 32 := Scalar.addi c0_i32_260 v693
  let c256_i32_557 : BitVec 32 := 256#32
  let v710 : BitVec 32 := Scalar.muli v694 c256_i32_557
  let v711 : BitVec 32 := Scalar.addi c0_i32_262 v710
  let v712 : BitVec 32 := v711
  let v714 : Index := Scalar.indexCast v712
  ![0, v714.toNat]
@[reducible] def k0_t18_loop (v27 : BitVec 32) (v96 : BitVec 32) : Scf.Loop 32 :=
  let c0_i32_273 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let c1_i32_275 : BitVec 32 := 1#32
  ⟨c0_i32_273, v441, c1_i32_275⟩
def k0_mult41 (v27 : BitVec 32) (v96 : BitVec 32) (k0_t18 : Fin (k0_t18_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_272 : BitVec 32 := 0#32
  let c0_i32_273 : BitVec 32 := 0#32
  let c1_i32_275 : BitVec 32 := 1#32
  let arg20 : BitVec 32 := Scf.iv c0_i32_273 c1_i32_275 k0_t18
  let c1_i32_271 : BitVec 32 := 1#32
  let v693 : BitVec 32 := Scalar.muli arg20 c1_i32_271
  let v694 : BitVec 32 := Scalar.addi c0_i32_272 v693
  let c256_i32_554 : BitVec 32 := 256#32
  let v695 : BitVec 32 := Scalar.muli v694 c256_i32_554
  let v696 : BitVec 32 := Scalar.addi v116 v695
  v696
def k0_off42 (v27 : BitVec 32) (v96 : BitVec 32) (k0_t18 : Fin (k0_t18_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_272 : BitVec 32 := 0#32
  let c0_i32_273 : BitVec 32 := 0#32
  let c1_i32_275 : BitVec 32 := 1#32
  let arg20 : BitVec 32 := Scf.iv c0_i32_273 c1_i32_275 k0_t18
  let c1_i32_271 : BitVec 32 := 1#32
  let v693 : BitVec 32 := Scalar.muli arg20 c1_i32_271
  let v694 : BitVec 32 := Scalar.addi c0_i32_272 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult42 (v27 : BitVec 32) (v96 : BitVec 32) (k0_t18 : Fin (k0_t18_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_272 : BitVec 32 := 0#32
  let c0_i32_273 : BitVec 32 := 0#32
  let c1_i32_275 : BitVec 32 := 1#32
  let arg20 : BitVec 32 := Scf.iv c0_i32_273 c1_i32_275 k0_t18
  let c1_i32_271 : BitVec 32 := 1#32
  let v693 : BitVec 32 := Scalar.muli arg20 c1_i32_271
  let v694 : BitVec 32 := Scalar.addi c0_i32_272 v693
  let c256_i32_557 : BitVec 32 := 256#32
  let v710 : BitVec 32 := Scalar.muli v694 c256_i32_557
  let v711 : BitVec 32 := Scalar.addi v92 v710
  v711
def k0_off43 (v27 : BitVec 32) (v96 : BitVec 32) (k0_t18 : Fin (k0_t18_loop v27 v96).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_272 : BitVec 32 := 0#32
  let c0_i32_273 : BitVec 32 := 0#32
  let c1_i32_275 : BitVec 32 := 1#32
  let arg20 : BitVec 32 := Scf.iv c0_i32_273 c1_i32_275 k0_t18
  let c1_i32_271 : BitVec 32 := 1#32
  let v693 : BitVec 32 := Scalar.muli arg20 c1_i32_271
  let v694 : BitVec 32 := Scalar.addi c0_i32_272 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![0, v714.toNat]
@[reducible] def k0_t19_loop (v27 : BitVec 32) (v96 : BitVec 32) : Scf.Loop 32 :=
  let c0_i32_273 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let v438 : BitVec 32 := Scalar.addi c0_i32_273 v437
  let c1_i32_276 : BitVec 32 := 1#32
  ⟨v441, v438, c1_i32_276⟩
def k0_mult43 (v27 : BitVec 32) (v96 : BitVec 32) (k0_t19 : Fin (k0_t19_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_272 : BitVec 32 := 0#32
  let c0_i32_273 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let c1_i32_276 : BitVec 32 := 1#32
  let arg20 : BitVec 32 := Scf.iv v441 c1_i32_276 k0_t19
  let c1_i32_271 : BitVec 32 := 1#32
  let v693 : BitVec 32 := Scalar.muli arg20 c1_i32_271
  let v694 : BitVec 32 := Scalar.addi c0_i32_272 v693
  let c256_i32_554 : BitVec 32 := 256#32
  let v695 : BitVec 32 := Scalar.muli v694 c256_i32_554
  let v696 : BitVec 32 := Scalar.addi v116 v695
  v696
def k0_off44 (v27 : BitVec 32) (v96 : BitVec 32) (k0_t19 : Fin (k0_t19_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_272 : BitVec 32 := 0#32
  let c0_i32_273 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let c1_i32_276 : BitVec 32 := 1#32
  let arg20 : BitVec 32 := Scf.iv v441 c1_i32_276 k0_t19
  let c1_i32_271 : BitVec 32 := 1#32
  let v693 : BitVec 32 := Scalar.muli arg20 c1_i32_271
  let v694 : BitVec 32 := Scalar.addi c0_i32_272 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult44 (v27 : BitVec 32) (v96 : BitVec 32) (k0_t19 : Fin (k0_t19_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_272 : BitVec 32 := 0#32
  let c0_i32_273 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let c1_i32_276 : BitVec 32 := 1#32
  let arg20 : BitVec 32 := Scf.iv v441 c1_i32_276 k0_t19
  let c1_i32_271 : BitVec 32 := 1#32
  let v693 : BitVec 32 := Scalar.muli arg20 c1_i32_271
  let v694 : BitVec 32 := Scalar.addi c0_i32_272 v693
  let c256_i32_557 : BitVec 32 := 256#32
  let v710 : BitVec 32 := Scalar.muli v694 c256_i32_557
  let v711 : BitVec 32 := Scalar.addi v92 v710
  v711
def k0_off45 (v27 : BitVec 32) (v96 : BitVec 32) (k0_t19 : Fin (k0_t19_loop v27 v96).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_272 : BitVec 32 := 0#32
  let c0_i32_273 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_267 : BitVec 32 := 0#32
  let v433 : BitVec 32 := Scalar.subi v155 c0_i32_267
  let c1_i32_268 : BitVec 32 := 1#32
  let c1_i32_269 : BitVec 32 := 1#32
  let v434 : BitVec 32 := Scalar.subi c1_i32_268 c1_i32_269
  let v435 : BitVec 32 := Scalar.addi v433 v434
  let c1_i32_270 : BitVec 32 := 1#32
  let v436 : BitVec 32 := Scalar.divsi v435 c1_i32_270
  let v437 : BitVec 32 := Scalar.subi v436 c0_i32_273
  let c1_i32_274 : BitVec 32 := 1#32
  let v439 : BitVec 32 := Scalar.divsi v437 c1_i32_274
  let v440 : BitVec 32 := Scalar.muli v439 c1_i32_274
  let v441 : BitVec 32 := Scalar.addi c0_i32_273 v440
  let c1_i32_276 : BitVec 32 := 1#32
  let arg20 : BitVec 32 := Scf.iv v441 c1_i32_276 k0_t19
  let c1_i32_271 : BitVec 32 := 1#32
  let v693 : BitVec 32 := Scalar.muli arg20 c1_i32_271
  let v694 : BitVec 32 := Scalar.addi c0_i32_272 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![0, v714.toNat]
@[reducible] def k0_t20_loop (v27 : BitVec 32) (v96 : BitVec 32) (v165 : BitVec 32) : Scf.Loop 32 :=
  let c0_i32_283 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let c1_i32_285 : BitVec 32 := 1#32
  ⟨c0_i32_283, v450, c1_i32_285⟩
def k0_mult45 (v27 : BitVec 32) (v96 : BitVec 32) (v165 : BitVec 32) (k0_t20 : Fin (k0_t20_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_282 : BitVec 32 := 0#32
  let c0_i32_283 : BitVec 32 := 0#32
  let c1_i32_285 : BitVec 32 := 1#32
  let arg20 : BitVec 32 := Scf.iv c0_i32_283 c1_i32_285 k0_t20
  let c1_i32_281 : BitVec 32 := 1#32
  let v693 : BitVec 32 := Scalar.muli arg20 c1_i32_281
  let v694 : BitVec 32 := Scalar.addi c0_i32_282 v693
  let c256_i32_554 : BitVec 32 := 256#32
  let v695 : BitVec 32 := Scalar.muli v694 c256_i32_554
  let v696 : BitVec 32 := Scalar.addi v185 v695
  v696
def k0_off46 (v27 : BitVec 32) (v96 : BitVec 32) (v165 : BitVec 32) (k0_t20 : Fin (k0_t20_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_282 : BitVec 32 := 0#32
  let c0_i32_283 : BitVec 32 := 0#32
  let c1_i32_285 : BitVec 32 := 1#32
  let arg20 : BitVec 32 := Scf.iv c0_i32_283 c1_i32_285 k0_t20
  let c1_i32_281 : BitVec 32 := 1#32
  let v693 : BitVec 32 := Scalar.muli arg20 c1_i32_281
  let v694 : BitVec 32 := Scalar.addi c0_i32_282 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult46 (v27 : BitVec 32) (v96 : BitVec 32) (v165 : BitVec 32) (k0_t20 : Fin (k0_t20_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_282 : BitVec 32 := 0#32
  let c0_i32_283 : BitVec 32 := 0#32
  let c1_i32_285 : BitVec 32 := 1#32
  let arg20 : BitVec 32 := Scf.iv c0_i32_283 c1_i32_285 k0_t20
  let c1_i32_281 : BitVec 32 := 1#32
  let v693 : BitVec 32 := Scalar.muli arg20 c1_i32_281
  let v694 : BitVec 32 := Scalar.addi c0_i32_282 v693
  let c256_i32_557 : BitVec 32 := 256#32
  let v710 : BitVec 32 := Scalar.muli v694 c256_i32_557
  let v711 : BitVec 32 := Scalar.addi v161 v710
  v711
def k0_off47 (v27 : BitVec 32) (v96 : BitVec 32) (v165 : BitVec 32) (k0_t20 : Fin (k0_t20_loop v27 v96 v165).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_282 : BitVec 32 := 0#32
  let c0_i32_283 : BitVec 32 := 0#32
  let c1_i32_285 : BitVec 32 := 1#32
  let arg20 : BitVec 32 := Scf.iv c0_i32_283 c1_i32_285 k0_t20
  let c1_i32_281 : BitVec 32 := 1#32
  let v693 : BitVec 32 := Scalar.muli arg20 c1_i32_281
  let v694 : BitVec 32 := Scalar.addi c0_i32_282 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![0, v714.toNat]
@[reducible] def k0_t21_loop (v27 : BitVec 32) (v96 : BitVec 32) (v165 : BitVec 32) : Scf.Loop 32 :=
  let c0_i32_283 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let v447 : BitVec 32 := Scalar.addi c0_i32_283 v446
  let c1_i32_286 : BitVec 32 := 1#32
  ⟨v450, v447, c1_i32_286⟩
def k0_mult47 (v27 : BitVec 32) (v96 : BitVec 32) (v165 : BitVec 32) (k0_t21 : Fin (k0_t21_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_282 : BitVec 32 := 0#32
  let c0_i32_283 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let c1_i32_286 : BitVec 32 := 1#32
  let arg20 : BitVec 32 := Scf.iv v450 c1_i32_286 k0_t21
  let c1_i32_281 : BitVec 32 := 1#32
  let v693 : BitVec 32 := Scalar.muli arg20 c1_i32_281
  let v694 : BitVec 32 := Scalar.addi c0_i32_282 v693
  let c256_i32_554 : BitVec 32 := 256#32
  let v695 : BitVec 32 := Scalar.muli v694 c256_i32_554
  let v696 : BitVec 32 := Scalar.addi v185 v695
  v696
def k0_off48 (v27 : BitVec 32) (v96 : BitVec 32) (v165 : BitVec 32) (k0_t21 : Fin (k0_t21_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_282 : BitVec 32 := 0#32
  let c0_i32_283 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let c1_i32_286 : BitVec 32 := 1#32
  let arg20 : BitVec 32 := Scf.iv v450 c1_i32_286 k0_t21
  let c1_i32_281 : BitVec 32 := 1#32
  let v693 : BitVec 32 := Scalar.muli arg20 c1_i32_281
  let v694 : BitVec 32 := Scalar.addi c0_i32_282 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult48 (v27 : BitVec 32) (v96 : BitVec 32) (v165 : BitVec 32) (k0_t21 : Fin (k0_t21_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_282 : BitVec 32 := 0#32
  let c0_i32_283 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let c1_i32_286 : BitVec 32 := 1#32
  let arg20 : BitVec 32 := Scf.iv v450 c1_i32_286 k0_t21
  let c1_i32_281 : BitVec 32 := 1#32
  let v693 : BitVec 32 := Scalar.muli arg20 c1_i32_281
  let v694 : BitVec 32 := Scalar.addi c0_i32_282 v693
  let c256_i32_557 : BitVec 32 := 256#32
  let v710 : BitVec 32 := Scalar.muli v694 c256_i32_557
  let v711 : BitVec 32 := Scalar.addi v161 v710
  v711
def k0_off49 (v27 : BitVec 32) (v96 : BitVec 32) (v165 : BitVec 32) (k0_t21 : Fin (k0_t21_loop v27 v96 v165).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_282 : BitVec 32 := 0#32
  let c0_i32_283 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_277 : BitVec 32 := 0#32
  let v442 : BitVec 32 := Scalar.subi v224 c0_i32_277
  let c1_i32_278 : BitVec 32 := 1#32
  let c1_i32_279 : BitVec 32 := 1#32
  let v443 : BitVec 32 := Scalar.subi c1_i32_278 c1_i32_279
  let v444 : BitVec 32 := Scalar.addi v442 v443
  let c1_i32_280 : BitVec 32 := 1#32
  let v445 : BitVec 32 := Scalar.divsi v444 c1_i32_280
  let v446 : BitVec 32 := Scalar.subi v445 c0_i32_283
  let c1_i32_284 : BitVec 32 := 1#32
  let v448 : BitVec 32 := Scalar.divsi v446 c1_i32_284
  let v449 : BitVec 32 := Scalar.muli v448 c1_i32_284
  let v450 : BitVec 32 := Scalar.addi c0_i32_283 v449
  let c1_i32_286 : BitVec 32 := 1#32
  let arg20 : BitVec 32 := Scf.iv v450 c1_i32_286 k0_t21
  let c1_i32_281 : BitVec 32 := 1#32
  let v693 : BitVec 32 := Scalar.muli arg20 c1_i32_281
  let v694 : BitVec 32 := Scalar.addi c0_i32_282 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![0, v714.toNat]
@[reducible] def k0_t22_loop (v27 : BitVec 32) (v96 : BitVec 32) (v165 : BitVec 32) (v234 : BitVec 32) : Scf.Loop 32 :=
  let c0_i32_293 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let c1_i32_295 : BitVec 32 := 1#32
  ⟨c0_i32_293, v459, c1_i32_295⟩
def k0_mult49 (v27 : BitVec 32) (v96 : BitVec 32) (v165 : BitVec 32) (v234 : BitVec 32) (k0_t22 : Fin (k0_t22_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_292 : BitVec 32 := 0#32
  let c0_i32_293 : BitVec 32 := 0#32
  let c1_i32_295 : BitVec 32 := 1#32
  let arg20 : BitVec 32 := Scf.iv c0_i32_293 c1_i32_295 k0_t22
  let c1_i32_291 : BitVec 32 := 1#32
  let v693 : BitVec 32 := Scalar.muli arg20 c1_i32_291
  let v694 : BitVec 32 := Scalar.addi c0_i32_292 v693
  let c256_i32_554 : BitVec 32 := 256#32
  let v695 : BitVec 32 := Scalar.muli v694 c256_i32_554
  let v696 : BitVec 32 := Scalar.addi v254 v695
  v696
def k0_off50 (v27 : BitVec 32) (v96 : BitVec 32) (v165 : BitVec 32) (v234 : BitVec 32) (k0_t22 : Fin (k0_t22_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_292 : BitVec 32 := 0#32
  let c0_i32_293 : BitVec 32 := 0#32
  let c1_i32_295 : BitVec 32 := 1#32
  let arg20 : BitVec 32 := Scf.iv c0_i32_293 c1_i32_295 k0_t22
  let c1_i32_291 : BitVec 32 := 1#32
  let v693 : BitVec 32 := Scalar.muli arg20 c1_i32_291
  let v694 : BitVec 32 := Scalar.addi c0_i32_292 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult50 (v27 : BitVec 32) (v96 : BitVec 32) (v165 : BitVec 32) (v234 : BitVec 32) (k0_t22 : Fin (k0_t22_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_292 : BitVec 32 := 0#32
  let c0_i32_293 : BitVec 32 := 0#32
  let c1_i32_295 : BitVec 32 := 1#32
  let arg20 : BitVec 32 := Scf.iv c0_i32_293 c1_i32_295 k0_t22
  let c1_i32_291 : BitVec 32 := 1#32
  let v693 : BitVec 32 := Scalar.muli arg20 c1_i32_291
  let v694 : BitVec 32 := Scalar.addi c0_i32_292 v693
  let c256_i32_557 : BitVec 32 := 256#32
  let v710 : BitVec 32 := Scalar.muli v694 c256_i32_557
  let v711 : BitVec 32 := Scalar.addi v230 v710
  v711
def k0_off51 (v27 : BitVec 32) (v96 : BitVec 32) (v165 : BitVec 32) (v234 : BitVec 32) (k0_t22 : Fin (k0_t22_loop v27 v96 v165 v234).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_292 : BitVec 32 := 0#32
  let c0_i32_293 : BitVec 32 := 0#32
  let c1_i32_295 : BitVec 32 := 1#32
  let arg20 : BitVec 32 := Scf.iv c0_i32_293 c1_i32_295 k0_t22
  let c1_i32_291 : BitVec 32 := 1#32
  let v693 : BitVec 32 := Scalar.muli arg20 c1_i32_291
  let v694 : BitVec 32 := Scalar.addi c0_i32_292 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![0, v714.toNat]
@[reducible] def k0_t23_loop (v27 : BitVec 32) (v96 : BitVec 32) (v165 : BitVec 32) (v234 : BitVec 32) : Scf.Loop 32 :=
  let c0_i32_293 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let v456 : BitVec 32 := Scalar.addi c0_i32_293 v455
  let c1_i32_296 : BitVec 32 := 1#32
  ⟨v459, v456, c1_i32_296⟩
def k0_mult51 (v27 : BitVec 32) (v96 : BitVec 32) (v165 : BitVec 32) (v234 : BitVec 32) (k0_t23 : Fin (k0_t23_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_292 : BitVec 32 := 0#32
  let c0_i32_293 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let c1_i32_296 : BitVec 32 := 1#32
  let arg20 : BitVec 32 := Scf.iv v459 c1_i32_296 k0_t23
  let c1_i32_291 : BitVec 32 := 1#32
  let v693 : BitVec 32 := Scalar.muli arg20 c1_i32_291
  let v694 : BitVec 32 := Scalar.addi c0_i32_292 v693
  let c256_i32_554 : BitVec 32 := 256#32
  let v695 : BitVec 32 := Scalar.muli v694 c256_i32_554
  let v696 : BitVec 32 := Scalar.addi v254 v695
  v696
def k0_off52 (v27 : BitVec 32) (v96 : BitVec 32) (v165 : BitVec 32) (v234 : BitVec 32) (k0_t23 : Fin (k0_t23_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_292 : BitVec 32 := 0#32
  let c0_i32_293 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let c1_i32_296 : BitVec 32 := 1#32
  let arg20 : BitVec 32 := Scf.iv v459 c1_i32_296 k0_t23
  let c1_i32_291 : BitVec 32 := 1#32
  let v693 : BitVec 32 := Scalar.muli arg20 c1_i32_291
  let v694 : BitVec 32 := Scalar.addi c0_i32_292 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult52 (v27 : BitVec 32) (v96 : BitVec 32) (v165 : BitVec 32) (v234 : BitVec 32) (k0_t23 : Fin (k0_t23_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_292 : BitVec 32 := 0#32
  let c0_i32_293 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let c1_i32_296 : BitVec 32 := 1#32
  let arg20 : BitVec 32 := Scf.iv v459 c1_i32_296 k0_t23
  let c1_i32_291 : BitVec 32 := 1#32
  let v693 : BitVec 32 := Scalar.muli arg20 c1_i32_291
  let v694 : BitVec 32 := Scalar.addi c0_i32_292 v693
  let c256_i32_557 : BitVec 32 := 256#32
  let v710 : BitVec 32 := Scalar.muli v694 c256_i32_557
  let v711 : BitVec 32 := Scalar.addi v230 v710
  v711
def k0_off53 (v27 : BitVec 32) (v96 : BitVec 32) (v165 : BitVec 32) (v234 : BitVec 32) (k0_t23 : Fin (k0_t23_loop v27 v96 v165 v234).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_292 : BitVec 32 := 0#32
  let c0_i32_293 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_287 : BitVec 32 := 0#32
  let v451 : BitVec 32 := Scalar.subi v293 c0_i32_287
  let c1_i32_288 : BitVec 32 := 1#32
  let c1_i32_289 : BitVec 32 := 1#32
  let v452 : BitVec 32 := Scalar.subi c1_i32_288 c1_i32_289
  let v453 : BitVec 32 := Scalar.addi v451 v452
  let c1_i32_290 : BitVec 32 := 1#32
  let v454 : BitVec 32 := Scalar.divsi v453 c1_i32_290
  let v455 : BitVec 32 := Scalar.subi v454 c0_i32_293
  let c1_i32_294 : BitVec 32 := 1#32
  let v457 : BitVec 32 := Scalar.divsi v455 c1_i32_294
  let v458 : BitVec 32 := Scalar.muli v457 c1_i32_294
  let v459 : BitVec 32 := Scalar.addi c0_i32_293 v458
  let c1_i32_296 : BitVec 32 := 1#32
  let arg20 : BitVec 32 := Scf.iv v459 c1_i32_296 k0_t23
  let c1_i32_291 : BitVec 32 := 1#32
  let v693 : BitVec 32 := Scalar.muli arg20 c1_i32_291
  let v694 : BitVec 32 := Scalar.addi c0_i32_292 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![0, v714.toNat]
@[reducible] def k0_t24_loop (v27 : BitVec 32) (v96 : BitVec 32) (v165 : BitVec 32) (v234 : BitVec 32) (v303 : BitVec 32) : Scf.Loop 32 :=
  let c0_i32_303 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let c1_i32_305 : BitVec 32 := 1#32
  ⟨c0_i32_303, v468, c1_i32_305⟩
def k0_mult53 (v27 : BitVec 32) (v96 : BitVec 32) (v165 : BitVec 32) (v234 : BitVec 32) (v303 : BitVec 32) (k0_t24 : Fin (k0_t24_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_302 : BitVec 32 := 0#32
  let c0_i32_303 : BitVec 32 := 0#32
  let c1_i32_305 : BitVec 32 := 1#32
  let arg20 : BitVec 32 := Scf.iv c0_i32_303 c1_i32_305 k0_t24
  let c1_i32_301 : BitVec 32 := 1#32
  let v693 : BitVec 32 := Scalar.muli arg20 c1_i32_301
  let v694 : BitVec 32 := Scalar.addi c0_i32_302 v693
  let c256_i32_554 : BitVec 32 := 256#32
  let v695 : BitVec 32 := Scalar.muli v694 c256_i32_554
  let v696 : BitVec 32 := Scalar.addi v323 v695
  v696
def k0_off54 (v27 : BitVec 32) (v96 : BitVec 32) (v165 : BitVec 32) (v234 : BitVec 32) (v303 : BitVec 32) (k0_t24 : Fin (k0_t24_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_302 : BitVec 32 := 0#32
  let c0_i32_303 : BitVec 32 := 0#32
  let c1_i32_305 : BitVec 32 := 1#32
  let arg20 : BitVec 32 := Scf.iv c0_i32_303 c1_i32_305 k0_t24
  let c1_i32_301 : BitVec 32 := 1#32
  let v693 : BitVec 32 := Scalar.muli arg20 c1_i32_301
  let v694 : BitVec 32 := Scalar.addi c0_i32_302 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult54 (v27 : BitVec 32) (v96 : BitVec 32) (v165 : BitVec 32) (v234 : BitVec 32) (v303 : BitVec 32) (k0_t24 : Fin (k0_t24_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_302 : BitVec 32 := 0#32
  let c0_i32_303 : BitVec 32 := 0#32
  let c1_i32_305 : BitVec 32 := 1#32
  let arg20 : BitVec 32 := Scf.iv c0_i32_303 c1_i32_305 k0_t24
  let c1_i32_301 : BitVec 32 := 1#32
  let v693 : BitVec 32 := Scalar.muli arg20 c1_i32_301
  let v694 : BitVec 32 := Scalar.addi c0_i32_302 v693
  let c256_i32_557 : BitVec 32 := 256#32
  let v710 : BitVec 32 := Scalar.muli v694 c256_i32_557
  let v711 : BitVec 32 := Scalar.addi v299 v710
  v711
def k0_off55 (v27 : BitVec 32) (v96 : BitVec 32) (v165 : BitVec 32) (v234 : BitVec 32) (v303 : BitVec 32) (k0_t24 : Fin (k0_t24_loop v27 v96 v165 v234 v303).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_302 : BitVec 32 := 0#32
  let c0_i32_303 : BitVec 32 := 0#32
  let c1_i32_305 : BitVec 32 := 1#32
  let arg20 : BitVec 32 := Scf.iv c0_i32_303 c1_i32_305 k0_t24
  let c1_i32_301 : BitVec 32 := 1#32
  let v693 : BitVec 32 := Scalar.muli arg20 c1_i32_301
  let v694 : BitVec 32 := Scalar.addi c0_i32_302 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![0, v714.toNat]
@[reducible] def k0_t25_loop (v27 : BitVec 32) (v96 : BitVec 32) (v165 : BitVec 32) (v234 : BitVec 32) (v303 : BitVec 32) : Scf.Loop 32 :=
  let c0_i32_303 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let v465 : BitVec 32 := Scalar.addi c0_i32_303 v464
  let c1_i32_306 : BitVec 32 := 1#32
  ⟨v468, v465, c1_i32_306⟩
def k0_mult55 (v27 : BitVec 32) (v96 : BitVec 32) (v165 : BitVec 32) (v234 : BitVec 32) (v303 : BitVec 32) (k0_t25 : Fin (k0_t25_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_302 : BitVec 32 := 0#32
  let c0_i32_303 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let c1_i32_306 : BitVec 32 := 1#32
  let arg20 : BitVec 32 := Scf.iv v468 c1_i32_306 k0_t25
  let c1_i32_301 : BitVec 32 := 1#32
  let v693 : BitVec 32 := Scalar.muli arg20 c1_i32_301
  let v694 : BitVec 32 := Scalar.addi c0_i32_302 v693
  let c256_i32_554 : BitVec 32 := 256#32
  let v695 : BitVec 32 := Scalar.muli v694 c256_i32_554
  let v696 : BitVec 32 := Scalar.addi v323 v695
  v696
def k0_off56 (v27 : BitVec 32) (v96 : BitVec 32) (v165 : BitVec 32) (v234 : BitVec 32) (v303 : BitVec 32) (k0_t25 : Fin (k0_t25_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_302 : BitVec 32 := 0#32
  let c0_i32_303 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let c1_i32_306 : BitVec 32 := 1#32
  let arg20 : BitVec 32 := Scf.iv v468 c1_i32_306 k0_t25
  let c1_i32_301 : BitVec 32 := 1#32
  let v693 : BitVec 32 := Scalar.muli arg20 c1_i32_301
  let v694 : BitVec 32 := Scalar.addi c0_i32_302 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult56 (v27 : BitVec 32) (v96 : BitVec 32) (v165 : BitVec 32) (v234 : BitVec 32) (v303 : BitVec 32) (k0_t25 : Fin (k0_t25_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_302 : BitVec 32 := 0#32
  let c0_i32_303 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let c1_i32_306 : BitVec 32 := 1#32
  let arg20 : BitVec 32 := Scf.iv v468 c1_i32_306 k0_t25
  let c1_i32_301 : BitVec 32 := 1#32
  let v693 : BitVec 32 := Scalar.muli arg20 c1_i32_301
  let v694 : BitVec 32 := Scalar.addi c0_i32_302 v693
  let c256_i32_557 : BitVec 32 := 256#32
  let v710 : BitVec 32 := Scalar.muli v694 c256_i32_557
  let v711 : BitVec 32 := Scalar.addi v299 v710
  v711
def k0_off57 (v27 : BitVec 32) (v96 : BitVec 32) (v165 : BitVec 32) (v234 : BitVec 32) (v303 : BitVec 32) (k0_t25 : Fin (k0_t25_loop v27 v96 v165 v234 v303).trips) : Fin 2 → Nat :=
  let c0_558 : Index := 0#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_302 : BitVec 32 := 0#32
  let c0_i32_303 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_297 : BitVec 32 := 0#32
  let v460 : BitVec 32 := Scalar.subi v362 c0_i32_297
  let c1_i32_298 : BitVec 32 := 1#32
  let c1_i32_299 : BitVec 32 := 1#32
  let v461 : BitVec 32 := Scalar.subi c1_i32_298 c1_i32_299
  let v462 : BitVec 32 := Scalar.addi v460 v461
  let c1_i32_300 : BitVec 32 := 1#32
  let v463 : BitVec 32 := Scalar.divsi v462 c1_i32_300
  let v464 : BitVec 32 := Scalar.subi v463 c0_i32_303
  let c1_i32_304 : BitVec 32 := 1#32
  let v466 : BitVec 32 := Scalar.divsi v464 c1_i32_304
  let v467 : BitVec 32 := Scalar.muli v466 c1_i32_304
  let v468 : BitVec 32 := Scalar.addi c0_i32_303 v467
  let c1_i32_306 : BitVec 32 := 1#32
  let arg20 : BitVec 32 := Scf.iv v468 c1_i32_306 k0_t25
  let c1_i32_301 : BitVec 32 := 1#32
  let v693 : BitVec 32 := Scalar.muli arg20 c1_i32_301
  let v694 : BitVec 32 := Scalar.addi c0_i32_302 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![0, v714.toNat]
@[reducible] def k0_t26_loop (v27 : BitVec 32) : Scf.Loop 32 :=
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let c1_i32_322 : BitVec 32 := 1#32
  ⟨c0_i32_320, v481, c1_i32_322⟩
def k0_mult57 (v27 : BitVec 32) (k0_t26 : Fin (k0_t26_loop v27).trips) : BitVec 32 :=
  let c0_i32_318 : BitVec 32 := 0#32
  let c0_i32_317 : BitVec 32 := 0#32
  let c0_i32_320 : BitVec 32 := 0#32
  let c1_i32_322 : BitVec 32 := 1#32
  let arg20 : BitVec 32 := Scf.iv c0_i32_320 c1_i32_322 k0_t26
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off58 (v27 : BitVec 32) (k0_t26 : Fin (k0_t26_loop v27).trips) : Fin 2 → Nat :=
  let c0_i32_319 : BitVec 32 := 0#32
  let c0_i32_317 : BitVec 32 := 0#32
  let c0_i32_320 : BitVec 32 := 0#32
  let c1_i32_322 : BitVec 32 := 1#32
  let arg20 : BitVec 32 := Scf.iv c0_i32_320 c1_i32_322 k0_t26
  let c1_i32_316 : BitVec 32 := 1#32
  let v693 : BitVec 32 := Scalar.muli arg20 c1_i32_316
  let v694 : BitVec 32 := Scalar.addi c0_i32_317 v693
  let v719 : BitVec 32 := Scalar.addi c0_i32_319 v694
  let v720 : Index := Scalar.indexCast v719
  let c1024 : Index := 1024#32
  ![v720.toNat, 1024]
def k0_off59 (v27 : BitVec 32) (k0_t26 : Fin (k0_t26_loop v27).trips) : Fin 2 → Nat :=
  let c0_i32_318 : BitVec 32 := 0#32
  let c0_i32_317 : BitVec 32 := 0#32
  let c0_i32_320 : BitVec 32 := 0#32
  let c1_i32_322 : BitVec 32 := 1#32
  let arg20 : BitVec 32 := Scf.iv c0_i32_320 c1_i32_322 k0_t26
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off60 (v27 : BitVec 32) (k0_t26 : Fin (k0_t26_loop v27).trips) : Fin 2 → Nat :=
  let c0_i32_318 : BitVec 32 := 0#32
  let c0_i32_317 : BitVec 32 := 0#32
  let c0_i32_320 : BitVec 32 := 0#32
  let c1_i32_322 : BitVec 32 := 1#32
  let arg20 : BitVec 32 := Scf.iv c0_i32_320 c1_i32_322 k0_t26
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t27_loop (v27 : BitVec 32) : Scf.Loop 32 :=
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let v478 : BitVec 32 := Scalar.addi c0_i32_320 v477
  let c1_i32_323 : BitVec 32 := 1#32
  ⟨v481, v478, c1_i32_323⟩
def k0_mult58 (v27 : BitVec 32) (k0_t27 : Fin (k0_t27_loop v27).trips) : BitVec 32 :=
  let c0_i32_318 : BitVec 32 := 0#32
  let c0_i32_317 : BitVec 32 := 0#32
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let c1_i32_323 : BitVec 32 := 1#32
  let arg20 : BitVec 32 := Scf.iv v481 c1_i32_323 k0_t27
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off61 (v27 : BitVec 32) (k0_t27 : Fin (k0_t27_loop v27).trips) : Fin 2 → Nat :=
  let c0_i32_319 : BitVec 32 := 0#32
  let c0_i32_317 : BitVec 32 := 0#32
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let c1_i32_323 : BitVec 32 := 1#32
  let arg20 : BitVec 32 := Scf.iv v481 c1_i32_323 k0_t27
  let c1_i32_316 : BitVec 32 := 1#32
  let v693 : BitVec 32 := Scalar.muli arg20 c1_i32_316
  let v694 : BitVec 32 := Scalar.addi c0_i32_317 v693
  let v719 : BitVec 32 := Scalar.addi c0_i32_319 v694
  let v720 : Index := Scalar.indexCast v719
  let c1024 : Index := 1024#32
  ![v720.toNat, 1024]
def k0_off62 (v27 : BitVec 32) (k0_t27 : Fin (k0_t27_loop v27).trips) : Fin 2 → Nat :=
  let c0_i32_318 : BitVec 32 := 0#32
  let c0_i32_317 : BitVec 32 := 0#32
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let c1_i32_323 : BitVec 32 := 1#32
  let arg20 : BitVec 32 := Scf.iv v481 c1_i32_323 k0_t27
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off63 (v27 : BitVec 32) (k0_t27 : Fin (k0_t27_loop v27).trips) : Fin 2 → Nat :=
  let c0_i32_318 : BitVec 32 := 0#32
  let c0_i32_317 : BitVec 32 := 0#32
  let c0_i32_320 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_312 : BitVec 32 := 0#32
  let v473 : BitVec 32 := Scalar.subi v65 c0_i32_312
  let c1_i32_313 : BitVec 32 := 1#32
  let c1_i32_314 : BitVec 32 := 1#32
  let v474 : BitVec 32 := Scalar.subi c1_i32_313 c1_i32_314
  let v475 : BitVec 32 := Scalar.addi v473 v474
  let c1_i32_315 : BitVec 32 := 1#32
  let v476 : BitVec 32 := Scalar.divsi v475 c1_i32_315
  let v477 : BitVec 32 := Scalar.subi v476 c0_i32_320
  let c1_i32_321 : BitVec 32 := 1#32
  let v479 : BitVec 32 := Scalar.divsi v477 c1_i32_321
  let v480 : BitVec 32 := Scalar.muli v479 c1_i32_321
  let v481 : BitVec 32 := Scalar.addi c0_i32_320 v480
  let c1_i32_323 : BitVec 32 := 1#32
  let arg20 : BitVec 32 := Scf.iv v481 c1_i32_323 k0_t27
  let c1_i32_316 : BitVec 32 := 1#32
  let v693 : BitVec 32 := Scalar.muli arg20 c1_i32_316
  let v694 : BitVec 32 := Scalar.addi c0_i32_317 v693
  let c128_i32_554 : BitVec 32 := 128#32
  let v695 : BitVec 32 := Scalar.muli v694 c128_i32_554
  let v696 : BitVec 32 := Scalar.addi c0_i32_318 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t28_loop (v96 : BitVec 32) : Scf.Loop 32 :=
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let c1_i32_332 : BitVec 32 := 1#32
  ⟨c0_i32_330, v490, c1_i32_332⟩
def k0_mult59 (v27 : BitVec 32) (v96 : BitVec 32) (k0_t28 : Fin (k0_t28_loop v96).trips) : BitVec 32 :=
  let c0_i32_20 : BitVec 32 := 0#32
  let v28 : BitVec 32 := Scalar.addi c0_i32_20 v27
  let c0_i32_329 : BitVec 32 := 0#32
  let c0_i32_330 : BitVec 32 := 0#32
  let c1_i32_332 : BitVec 32 := 1#32
  let arg20 : BitVec 32 := Scf.iv c0_i32_330 c1_i32_332 k0_t28
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off64 (v27 : BitVec 32) (v96 : BitVec 32) (k0_t28 : Fin (k0_t28_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_329 : BitVec 32 := 0#32
  let c0_i32_330 : BitVec 32 := 0#32
  let c1_i32_332 : BitVec 32 := 1#32
  let arg20 : BitVec 32 := Scf.iv c0_i32_330 c1_i32_332 k0_t28
  let c1_i32_328 : BitVec 32 := 1#32
  let v693 : BitVec 32 := Scalar.muli arg20 c1_i32_328
  let v694 : BitVec 32 := Scalar.addi c0_i32_329 v693
  let v719 : BitVec 32 := Scalar.addi v90 v694
  let v720 : Index := Scalar.indexCast v719
  let c1024 : Index := 1024#32
  ![v720.toNat, 1024]
def k0_off65 (v27 : BitVec 32) (v96 : BitVec 32) (k0_t28 : Fin (k0_t28_loop v96).trips) : Fin 2 → Nat :=
  let c0_i32_20 : BitVec 32 := 0#32
  let v28 : BitVec 32 := Scalar.addi c0_i32_20 v27
  let c0_i32_329 : BitVec 32 := 0#32
  let c0_i32_330 : BitVec 32 := 0#32
  let c1_i32_332 : BitVec 32 := 1#32
  let arg20 : BitVec 32 := Scf.iv c0_i32_330 c1_i32_332 k0_t28
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off66 (v27 : BitVec 32) (v96 : BitVec 32) (k0_t28 : Fin (k0_t28_loop v96).trips) : Fin 2 → Nat :=
  let c0_i32_20 : BitVec 32 := 0#32
  let v28 : BitVec 32 := Scalar.addi c0_i32_20 v27
  let c0_i32_329 : BitVec 32 := 0#32
  let c0_i32_330 : BitVec 32 := 0#32
  let c1_i32_332 : BitVec 32 := 1#32
  let arg20 : BitVec 32 := Scf.iv c0_i32_330 c1_i32_332 k0_t28
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t29_loop (v96 : BitVec 32) : Scf.Loop 32 :=
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let v487 : BitVec 32 := Scalar.addi c0_i32_330 v486
  let c1_i32_333 : BitVec 32 := 1#32
  ⟨v490, v487, c1_i32_333⟩
def k0_mult60 (v27 : BitVec 32) (v96 : BitVec 32) (k0_t29 : Fin (k0_t29_loop v96).trips) : BitVec 32 :=
  let c0_i32_20 : BitVec 32 := 0#32
  let v28 : BitVec 32 := Scalar.addi c0_i32_20 v27
  let c0_i32_329 : BitVec 32 := 0#32
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let c1_i32_333 : BitVec 32 := 1#32
  let arg20 : BitVec 32 := Scf.iv v490 c1_i32_333 k0_t29
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off67 (v27 : BitVec 32) (v96 : BitVec 32) (k0_t29 : Fin (k0_t29_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_329 : BitVec 32 := 0#32
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let c1_i32_333 : BitVec 32 := 1#32
  let arg20 : BitVec 32 := Scf.iv v490 c1_i32_333 k0_t29
  let c1_i32_328 : BitVec 32 := 1#32
  let v693 : BitVec 32 := Scalar.muli arg20 c1_i32_328
  let v694 : BitVec 32 := Scalar.addi c0_i32_329 v693
  let v719 : BitVec 32 := Scalar.addi v90 v694
  let v720 : Index := Scalar.indexCast v719
  let c1024 : Index := 1024#32
  ![v720.toNat, 1024]
def k0_off68 (v27 : BitVec 32) (v96 : BitVec 32) (k0_t29 : Fin (k0_t29_loop v96).trips) : Fin 2 → Nat :=
  let c0_i32_20 : BitVec 32 := 0#32
  let v28 : BitVec 32 := Scalar.addi c0_i32_20 v27
  let c0_i32_329 : BitVec 32 := 0#32
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let c1_i32_333 : BitVec 32 := 1#32
  let arg20 : BitVec 32 := Scf.iv v490 c1_i32_333 k0_t29
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off69 (v27 : BitVec 32) (v96 : BitVec 32) (k0_t29 : Fin (k0_t29_loop v96).trips) : Fin 2 → Nat :=
  let c0_i32_20 : BitVec 32 := 0#32
  let v28 : BitVec 32 := Scalar.addi c0_i32_20 v27
  let c0_i32_329 : BitVec 32 := 0#32
  let c0_i32_330 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_324 : BitVec 32 := 0#32
  let v482 : BitVec 32 := Scalar.subi v134 c0_i32_324
  let c1_i32_325 : BitVec 32 := 1#32
  let c1_i32_326 : BitVec 32 := 1#32
  let v483 : BitVec 32 := Scalar.subi c1_i32_325 c1_i32_326
  let v484 : BitVec 32 := Scalar.addi v482 v483
  let c1_i32_327 : BitVec 32 := 1#32
  let v485 : BitVec 32 := Scalar.divsi v484 c1_i32_327
  let v486 : BitVec 32 := Scalar.subi v485 c0_i32_330
  let c1_i32_331 : BitVec 32 := 1#32
  let v488 : BitVec 32 := Scalar.divsi v486 c1_i32_331
  let v489 : BitVec 32 := Scalar.muli v488 c1_i32_331
  let v490 : BitVec 32 := Scalar.addi c0_i32_330 v489
  let c1_i32_333 : BitVec 32 := 1#32
  let arg20 : BitVec 32 := Scf.iv v490 c1_i32_333 k0_t29
  let c1_i32_328 : BitVec 32 := 1#32
  let v693 : BitVec 32 := Scalar.muli arg20 c1_i32_328
  let v694 : BitVec 32 := Scalar.addi c0_i32_329 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t30_loop (v165 : BitVec 32) : Scf.Loop 32 :=
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let c1_i32_342 : BitVec 32 := 1#32
  ⟨c0_i32_340, v499, c1_i32_342⟩
def k0_mult61 (v27 : BitVec 32) (v96 : BitVec 32) (v165 : BitVec 32) (k0_t30 : Fin (k0_t30_loop v165).trips) : BitVec 32 :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c1_i32_342 : BitVec 32 := 1#32
  let arg20 : BitVec 32 := Scf.iv c0_i32_340 c1_i32_342 k0_t30
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off70 (v27 : BitVec 32) (v96 : BitVec 32) (v165 : BitVec 32) (k0_t30 : Fin (k0_t30_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_339 : BitVec 32 := 0#32
  let c0_i32_340 : BitVec 32 := 0#32
  let c1_i32_342 : BitVec 32 := 1#32
  let arg20 : BitVec 32 := Scf.iv c0_i32_340 c1_i32_342 k0_t30
  let c1_i32_338 : BitVec 32 := 1#32
  let v693 : BitVec 32 := Scalar.muli arg20 c1_i32_338
  let v694 : BitVec 32 := Scalar.addi c0_i32_339 v693
  let v719 : BitVec 32 := Scalar.addi v159 v694
  let v720 : Index := Scalar.indexCast v719
  let c1024 : Index := 1024#32
  ![v720.toNat, 1024]
def k0_off71 (v27 : BitVec 32) (v96 : BitVec 32) (v165 : BitVec 32) (k0_t30 : Fin (k0_t30_loop v165).trips) : Fin 2 → Nat :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c1_i32_342 : BitVec 32 := 1#32
  let arg20 : BitVec 32 := Scf.iv c0_i32_340 c1_i32_342 k0_t30
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off72 (v27 : BitVec 32) (v96 : BitVec 32) (v165 : BitVec 32) (k0_t30 : Fin (k0_t30_loop v165).trips) : Fin 2 → Nat :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c1_i32_342 : BitVec 32 := 1#32
  let arg20 : BitVec 32 := Scf.iv c0_i32_340 c1_i32_342 k0_t30
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t31_loop (v165 : BitVec 32) : Scf.Loop 32 :=
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let v496 : BitVec 32 := Scalar.addi c0_i32_340 v495
  let c1_i32_343 : BitVec 32 := 1#32
  ⟨v499, v496, c1_i32_343⟩
def k0_mult62 (v27 : BitVec 32) (v96 : BitVec 32) (v165 : BitVec 32) (k0_t31 : Fin (k0_t31_loop v165).trips) : BitVec 32 :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let c1_i32_343 : BitVec 32 := 1#32
  let arg20 : BitVec 32 := Scf.iv v499 c1_i32_343 k0_t31
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off73 (v27 : BitVec 32) (v96 : BitVec 32) (v165 : BitVec 32) (k0_t31 : Fin (k0_t31_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_339 : BitVec 32 := 0#32
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let c1_i32_343 : BitVec 32 := 1#32
  let arg20 : BitVec 32 := Scf.iv v499 c1_i32_343 k0_t31
  let c1_i32_338 : BitVec 32 := 1#32
  let v693 : BitVec 32 := Scalar.muli arg20 c1_i32_338
  let v694 : BitVec 32 := Scalar.addi c0_i32_339 v693
  let v719 : BitVec 32 := Scalar.addi v159 v694
  let v720 : Index := Scalar.indexCast v719
  let c1024 : Index := 1024#32
  ![v720.toNat, 1024]
def k0_off74 (v27 : BitVec 32) (v96 : BitVec 32) (v165 : BitVec 32) (k0_t31 : Fin (k0_t31_loop v165).trips) : Fin 2 → Nat :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let c1_i32_343 : BitVec 32 := 1#32
  let arg20 : BitVec 32 := Scf.iv v499 c1_i32_343 k0_t31
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off75 (v27 : BitVec 32) (v96 : BitVec 32) (v165 : BitVec 32) (k0_t31 : Fin (k0_t31_loop v165).trips) : Fin 2 → Nat :=
  let c0_i32_20 : BitVec 32 := 0#32
  let v28 : BitVec 32 := Scalar.addi c0_i32_20 v27
  let v97 : BitVec 32 := Scalar.addi v28 v96
  let c0_i32_339 : BitVec 32 := 0#32
  let c0_i32_340 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_334 : BitVec 32 := 0#32
  let v491 : BitVec 32 := Scalar.subi v203 c0_i32_334
  let c1_i32_335 : BitVec 32 := 1#32
  let c1_i32_336 : BitVec 32 := 1#32
  let v492 : BitVec 32 := Scalar.subi c1_i32_335 c1_i32_336
  let v493 : BitVec 32 := Scalar.addi v491 v492
  let c1_i32_337 : BitVec 32 := 1#32
  let v494 : BitVec 32 := Scalar.divsi v493 c1_i32_337
  let v495 : BitVec 32 := Scalar.subi v494 c0_i32_340
  let c1_i32_341 : BitVec 32 := 1#32
  let v497 : BitVec 32 := Scalar.divsi v495 c1_i32_341
  let v498 : BitVec 32 := Scalar.muli v497 c1_i32_341
  let v499 : BitVec 32 := Scalar.addi c0_i32_340 v498
  let c1_i32_343 : BitVec 32 := 1#32
  let arg20 : BitVec 32 := Scf.iv v499 c1_i32_343 k0_t31
  let c1_i32_338 : BitVec 32 := 1#32
  let v693 : BitVec 32 := Scalar.muli arg20 c1_i32_338
  let v694 : BitVec 32 := Scalar.addi c0_i32_339 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t32_loop (v234 : BitVec 32) : Scf.Loop 32 :=
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let c1_i32_352 : BitVec 32 := 1#32
  ⟨c0_i32_350, v508, c1_i32_352⟩
def k0_mult63 (v27 : BitVec 32) (v96 : BitVec 32) (v165 : BitVec 32) (v234 : BitVec 32) (k0_t32 : Fin (k0_t32_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c1_i32_352 : BitVec 32 := 1#32
  let arg20 : BitVec 32 := Scf.iv c0_i32_350 c1_i32_352 k0_t32
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off76 (v27 : BitVec 32) (v96 : BitVec 32) (v165 : BitVec 32) (v234 : BitVec 32) (k0_t32 : Fin (k0_t32_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_349 : BitVec 32 := 0#32
  let c0_i32_350 : BitVec 32 := 0#32
  let c1_i32_352 : BitVec 32 := 1#32
  let arg20 : BitVec 32 := Scf.iv c0_i32_350 c1_i32_352 k0_t32
  let c1_i32_348 : BitVec 32 := 1#32
  let v693 : BitVec 32 := Scalar.muli arg20 c1_i32_348
  let v694 : BitVec 32 := Scalar.addi c0_i32_349 v693
  let v719 : BitVec 32 := Scalar.addi v228 v694
  let v720 : Index := Scalar.indexCast v719
  let c1024 : Index := 1024#32
  ![v720.toNat, 1024]
def k0_off77 (v27 : BitVec 32) (v96 : BitVec 32) (v165 : BitVec 32) (v234 : BitVec 32) (k0_t32 : Fin (k0_t32_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c1_i32_352 : BitVec 32 := 1#32
  let arg20 : BitVec 32 := Scf.iv c0_i32_350 c1_i32_352 k0_t32
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off78 (v27 : BitVec 32) (v96 : BitVec 32) (v165 : BitVec 32) (v234 : BitVec 32) (k0_t32 : Fin (k0_t32_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c1_i32_352 : BitVec 32 := 1#32
  let arg20 : BitVec 32 := Scf.iv c0_i32_350 c1_i32_352 k0_t32
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t33_loop (v234 : BitVec 32) : Scf.Loop 32 :=
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let v505 : BitVec 32 := Scalar.addi c0_i32_350 v504
  let c1_i32_353 : BitVec 32 := 1#32
  ⟨v508, v505, c1_i32_353⟩
def k0_mult64 (v27 : BitVec 32) (v96 : BitVec 32) (v165 : BitVec 32) (v234 : BitVec 32) (k0_t33 : Fin (k0_t33_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let c1_i32_353 : BitVec 32 := 1#32
  let arg20 : BitVec 32 := Scf.iv v508 c1_i32_353 k0_t33
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off79 (v27 : BitVec 32) (v96 : BitVec 32) (v165 : BitVec 32) (v234 : BitVec 32) (k0_t33 : Fin (k0_t33_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_349 : BitVec 32 := 0#32
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let c1_i32_353 : BitVec 32 := 1#32
  let arg20 : BitVec 32 := Scf.iv v508 c1_i32_353 k0_t33
  let c1_i32_348 : BitVec 32 := 1#32
  let v693 : BitVec 32 := Scalar.muli arg20 c1_i32_348
  let v694 : BitVec 32 := Scalar.addi c0_i32_349 v693
  let v719 : BitVec 32 := Scalar.addi v228 v694
  let v720 : Index := Scalar.indexCast v719
  let c1024 : Index := 1024#32
  ![v720.toNat, 1024]
def k0_off80 (v27 : BitVec 32) (v96 : BitVec 32) (v165 : BitVec 32) (v234 : BitVec 32) (k0_t33 : Fin (k0_t33_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let c1_i32_353 : BitVec 32 := 1#32
  let arg20 : BitVec 32 := Scf.iv v508 c1_i32_353 k0_t33
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off81 (v27 : BitVec 32) (v96 : BitVec 32) (v165 : BitVec 32) (v234 : BitVec 32) (k0_t33 : Fin (k0_t33_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_349 : BitVec 32 := 0#32
  let c0_i32_350 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_344 : BitVec 32 := 0#32
  let v500 : BitVec 32 := Scalar.subi v272 c0_i32_344
  let c1_i32_345 : BitVec 32 := 1#32
  let c1_i32_346 : BitVec 32 := 1#32
  let v501 : BitVec 32 := Scalar.subi c1_i32_345 c1_i32_346
  let v502 : BitVec 32 := Scalar.addi v500 v501
  let c1_i32_347 : BitVec 32 := 1#32
  let v503 : BitVec 32 := Scalar.divsi v502 c1_i32_347
  let v504 : BitVec 32 := Scalar.subi v503 c0_i32_350
  let c1_i32_351 : BitVec 32 := 1#32
  let v506 : BitVec 32 := Scalar.divsi v504 c1_i32_351
  let v507 : BitVec 32 := Scalar.muli v506 c1_i32_351
  let v508 : BitVec 32 := Scalar.addi c0_i32_350 v507
  let c1_i32_353 : BitVec 32 := 1#32
  let arg20 : BitVec 32 := Scf.iv v508 c1_i32_353 k0_t33
  let c1_i32_348 : BitVec 32 := 1#32
  let v693 : BitVec 32 := Scalar.muli arg20 c1_i32_348
  let v694 : BitVec 32 := Scalar.addi c0_i32_349 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t34_loop (v303 : BitVec 32) : Scf.Loop 32 :=
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let c1_i32_362 : BitVec 32 := 1#32
  ⟨c0_i32_360, v517, c1_i32_362⟩
def k0_mult65 (v27 : BitVec 32) (v96 : BitVec 32) (v165 : BitVec 32) (v234 : BitVec 32) (v303 : BitVec 32) (k0_t34 : Fin (k0_t34_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c1_i32_362 : BitVec 32 := 1#32
  let arg20 : BitVec 32 := Scf.iv c0_i32_360 c1_i32_362 k0_t34
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off82 (v27 : BitVec 32) (v96 : BitVec 32) (v165 : BitVec 32) (v234 : BitVec 32) (v303 : BitVec 32) (k0_t34 : Fin (k0_t34_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_359 : BitVec 32 := 0#32
  let c0_i32_360 : BitVec 32 := 0#32
  let c1_i32_362 : BitVec 32 := 1#32
  let arg20 : BitVec 32 := Scf.iv c0_i32_360 c1_i32_362 k0_t34
  let c1_i32_358 : BitVec 32 := 1#32
  let v693 : BitVec 32 := Scalar.muli arg20 c1_i32_358
  let v694 : BitVec 32 := Scalar.addi c0_i32_359 v693
  let v719 : BitVec 32 := Scalar.addi v297 v694
  let v720 : Index := Scalar.indexCast v719
  let c1024 : Index := 1024#32
  ![v720.toNat, 1024]
def k0_off83 (v27 : BitVec 32) (v96 : BitVec 32) (v165 : BitVec 32) (v234 : BitVec 32) (v303 : BitVec 32) (k0_t34 : Fin (k0_t34_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c1_i32_362 : BitVec 32 := 1#32
  let arg20 : BitVec 32 := Scf.iv c0_i32_360 c1_i32_362 k0_t34
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off84 (v27 : BitVec 32) (v96 : BitVec 32) (v165 : BitVec 32) (v234 : BitVec 32) (v303 : BitVec 32) (k0_t34 : Fin (k0_t34_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c1_i32_362 : BitVec 32 := 1#32
  let arg20 : BitVec 32 := Scf.iv c0_i32_360 c1_i32_362 k0_t34
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t35_loop (v303 : BitVec 32) : Scf.Loop 32 :=
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let v514 : BitVec 32 := Scalar.addi c0_i32_360 v513
  let c1_i32_363 : BitVec 32 := 1#32
  ⟨v517, v514, c1_i32_363⟩
def k0_mult66 (v27 : BitVec 32) (v96 : BitVec 32) (v165 : BitVec 32) (v234 : BitVec 32) (v303 : BitVec 32) (k0_t35 : Fin (k0_t35_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let c1_i32_363 : BitVec 32 := 1#32
  let arg20 : BitVec 32 := Scf.iv v517 c1_i32_363 k0_t35
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off85 (v27 : BitVec 32) (v96 : BitVec 32) (v165 : BitVec 32) (v234 : BitVec 32) (v303 : BitVec 32) (k0_t35 : Fin (k0_t35_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_359 : BitVec 32 := 0#32
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let c1_i32_363 : BitVec 32 := 1#32
  let arg20 : BitVec 32 := Scf.iv v517 c1_i32_363 k0_t35
  let c1_i32_358 : BitVec 32 := 1#32
  let v693 : BitVec 32 := Scalar.muli arg20 c1_i32_358
  let v694 : BitVec 32 := Scalar.addi c0_i32_359 v693
  let v719 : BitVec 32 := Scalar.addi v297 v694
  let v720 : Index := Scalar.indexCast v719
  let c1024 : Index := 1024#32
  ![v720.toNat, 1024]
def k0_off86 (v27 : BitVec 32) (v96 : BitVec 32) (v165 : BitVec 32) (v234 : BitVec 32) (v303 : BitVec 32) (k0_t35 : Fin (k0_t35_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let c1_i32_363 : BitVec 32 := 1#32
  let arg20 : BitVec 32 := Scf.iv v517 c1_i32_363 k0_t35
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c1024_563 : Index := 1024#32
  ![v723.toNat, 1024]
def k0_off87 (v27 : BitVec 32) (v96 : BitVec 32) (v165 : BitVec 32) (v234 : BitVec 32) (v303 : BitVec 32) (k0_t35 : Fin (k0_t35_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_359 : BitVec 32 := 0#32
  let c0_i32_360 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_354 : BitVec 32 := 0#32
  let v509 : BitVec 32 := Scalar.subi v341 c0_i32_354
  let c1_i32_355 : BitVec 32 := 1#32
  let c1_i32_356 : BitVec 32 := 1#32
  let v510 : BitVec 32 := Scalar.subi c1_i32_355 c1_i32_356
  let v511 : BitVec 32 := Scalar.addi v509 v510
  let c1_i32_357 : BitVec 32 := 1#32
  let v512 : BitVec 32 := Scalar.divsi v511 c1_i32_357
  let v513 : BitVec 32 := Scalar.subi v512 c0_i32_360
  let c1_i32_361 : BitVec 32 := 1#32
  let v515 : BitVec 32 := Scalar.divsi v513 c1_i32_361
  let v516 : BitVec 32 := Scalar.muli v515 c1_i32_361
  let v517 : BitVec 32 := Scalar.addi c0_i32_360 v516
  let c1_i32_363 : BitVec 32 := 1#32
  let arg20 : BitVec 32 := Scf.iv v517 c1_i32_363 k0_t35
  let c1_i32_358 : BitVec 32 := 1#32
  let v693 : BitVec 32 := Scalar.muli arg20 c1_i32_358
  let v694 : BitVec 32 := Scalar.addi c0_i32_359 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t36_loop (v27 : BitVec 32) : Scf.Loop 32 :=
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let c1_i32_374 : BitVec 32 := 1#32
  ⟨c0_i32_372, v526, c1_i32_374⟩
def k0_mult67 (v27 : BitVec 32) (k0_t36 : Fin (k0_t36_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_369 : BitVec 32 := 0#32
  let c0_i32_372 : BitVec 32 := 0#32
  let c1_i32_374 : BitVec 32 := 1#32
  let arg20 : BitVec 32 := Scf.iv c0_i32_372 c1_i32_374 k0_t36
  let c1_i32_368 : BitVec 32 := 1#32
  let v693 : BitVec 32 := Scalar.muli arg20 c1_i32_368
  let v694 : BitVec 32 := Scalar.addi c0_i32_369 v693
  let c256_i32_554 : BitVec 32 := 256#32
  let v695 : BitVec 32 := Scalar.muli v694 c256_i32_554
  let v696 : BitVec 32 := Scalar.addi v47 v695
  v696
def k0_off88 (v27 : BitVec 32) (k0_t36 : Fin (k0_t36_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_369 : BitVec 32 := 0#32
  let c0_i32_372 : BitVec 32 := 0#32
  let c1_i32_374 : BitVec 32 := 1#32
  let arg20 : BitVec 32 := Scf.iv c0_i32_372 c1_i32_374 k0_t36
  let c1_i32_368 : BitVec 32 := 1#32
  let v693 : BitVec 32 := Scalar.muli arg20 c1_i32_368
  let v694 : BitVec 32 := Scalar.addi c0_i32_369 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult68 (v27 : BitVec 32) (k0_t36 : Fin (k0_t36_loop v27).trips) : BitVec 32 :=
  let c0_i32_371 : BitVec 32 := 0#32
  let c0_i32_369 : BitVec 32 := 0#32
  let c0_i32_372 : BitVec 32 := 0#32
  let c1_i32_374 : BitVec 32 := 1#32
  let arg20 : BitVec 32 := Scf.iv c0_i32_372 c1_i32_374 k0_t36
  let c1_i32_368 : BitVec 32 := 1#32
  let v693 : BitVec 32 := Scalar.muli arg20 c1_i32_368
  let v694 : BitVec 32 := Scalar.addi c0_i32_369 v693
  let c256_i32_557 : BitVec 32 := 256#32
  let v710 : BitVec 32 := Scalar.muli v694 c256_i32_557
  let v711 : BitVec 32 := Scalar.addi c0_i32_371 v710
  v711
def k0_off89 (v27 : BitVec 32) (k0_t36 : Fin (k0_t36_loop v27).trips) : Fin 2 → Nat :=
  let c1024 : Index := 1024#32
  let c0_i32_371 : BitVec 32 := 0#32
  let c0_i32_369 : BitVec 32 := 0#32
  let c0_i32_372 : BitVec 32 := 0#32
  let c1_i32_374 : BitVec 32 := 1#32
  let arg20 : BitVec 32 := Scf.iv c0_i32_372 c1_i32_374 k0_t36
  let c1_i32_368 : BitVec 32 := 1#32
  let v693 : BitVec 32 := Scalar.muli arg20 c1_i32_368
  let v694 : BitVec 32 := Scalar.addi c0_i32_369 v693
  let c256_i32_557 : BitVec 32 := 256#32
  let v710 : BitVec 32 := Scalar.muli v694 c256_i32_557
  let v711 : BitVec 32 := Scalar.addi c0_i32_371 v710
  let v712 : BitVec 32 := v711
  let v714 : Index := Scalar.indexCast v712
  ![1024, v714.toNat]
@[reducible] def k0_t37_loop (v27 : BitVec 32) : Scf.Loop 32 :=
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let v523 : BitVec 32 := Scalar.addi c0_i32_372 v522
  let c1_i32_375 : BitVec 32 := 1#32
  ⟨v526, v523, c1_i32_375⟩
def k0_mult69 (v27 : BitVec 32) (k0_t37 : Fin (k0_t37_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_369 : BitVec 32 := 0#32
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let c1_i32_375 : BitVec 32 := 1#32
  let arg20 : BitVec 32 := Scf.iv v526 c1_i32_375 k0_t37
  let c1_i32_368 : BitVec 32 := 1#32
  let v693 : BitVec 32 := Scalar.muli arg20 c1_i32_368
  let v694 : BitVec 32 := Scalar.addi c0_i32_369 v693
  let c256_i32_554 : BitVec 32 := 256#32
  let v695 : BitVec 32 := Scalar.muli v694 c256_i32_554
  let v696 : BitVec 32 := Scalar.addi v47 v695
  v696
def k0_off90 (v27 : BitVec 32) (k0_t37 : Fin (k0_t37_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_369 : BitVec 32 := 0#32
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let c1_i32_375 : BitVec 32 := 1#32
  let arg20 : BitVec 32 := Scf.iv v526 c1_i32_375 k0_t37
  let c1_i32_368 : BitVec 32 := 1#32
  let v693 : BitVec 32 := Scalar.muli arg20 c1_i32_368
  let v694 : BitVec 32 := Scalar.addi c0_i32_369 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult70 (v27 : BitVec 32) (k0_t37 : Fin (k0_t37_loop v27).trips) : BitVec 32 :=
  let c0_i32_371 : BitVec 32 := 0#32
  let c0_i32_369 : BitVec 32 := 0#32
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let c1_i32_375 : BitVec 32 := 1#32
  let arg20 : BitVec 32 := Scf.iv v526 c1_i32_375 k0_t37
  let c1_i32_368 : BitVec 32 := 1#32
  let v693 : BitVec 32 := Scalar.muli arg20 c1_i32_368
  let v694 : BitVec 32 := Scalar.addi c0_i32_369 v693
  let c256_i32_557 : BitVec 32 := 256#32
  let v710 : BitVec 32 := Scalar.muli v694 c256_i32_557
  let v711 : BitVec 32 := Scalar.addi c0_i32_371 v710
  v711
def k0_off91 (v27 : BitVec 32) (k0_t37 : Fin (k0_t37_loop v27).trips) : Fin 2 → Nat :=
  let c1024 : Index := 1024#32
  let c0_i32_371 : BitVec 32 := 0#32
  let c0_i32_369 : BitVec 32 := 0#32
  let c0_i32_372 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_364 : BitVec 32 := 0#32
  let v518 : BitVec 32 := Scalar.subi v86 c0_i32_364
  let c1_i32_365 : BitVec 32 := 1#32
  let c1_i32_366 : BitVec 32 := 1#32
  let v519 : BitVec 32 := Scalar.subi c1_i32_365 c1_i32_366
  let v520 : BitVec 32 := Scalar.addi v518 v519
  let c1_i32_367 : BitVec 32 := 1#32
  let v521 : BitVec 32 := Scalar.divsi v520 c1_i32_367
  let v522 : BitVec 32 := Scalar.subi v521 c0_i32_372
  let c1_i32_373 : BitVec 32 := 1#32
  let v524 : BitVec 32 := Scalar.divsi v522 c1_i32_373
  let v525 : BitVec 32 := Scalar.muli v524 c1_i32_373
  let v526 : BitVec 32 := Scalar.addi c0_i32_372 v525
  let c1_i32_375 : BitVec 32 := 1#32
  let arg20 : BitVec 32 := Scf.iv v526 c1_i32_375 k0_t37
  let c1_i32_368 : BitVec 32 := 1#32
  let v693 : BitVec 32 := Scalar.muli arg20 c1_i32_368
  let v694 : BitVec 32 := Scalar.addi c0_i32_369 v693
  let c256_i32_557 : BitVec 32 := 256#32
  let v710 : BitVec 32 := Scalar.muli v694 c256_i32_557
  let v711 : BitVec 32 := Scalar.addi c0_i32_371 v710
  let v712 : BitVec 32 := v711
  let v714 : Index := Scalar.indexCast v712
  ![1024, v714.toNat]
@[reducible] def k0_t38_loop (v27 : BitVec 32) (v96 : BitVec 32) : Scf.Loop 32 :=
  let c0_i32_382 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let c1_i32_384 : BitVec 32 := 1#32
  ⟨c0_i32_382, v535, c1_i32_384⟩
def k0_mult71 (v27 : BitVec 32) (v96 : BitVec 32) (k0_t38 : Fin (k0_t38_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_381 : BitVec 32 := 0#32
  let c0_i32_382 : BitVec 32 := 0#32
  let c1_i32_384 : BitVec 32 := 1#32
  let arg20 : BitVec 32 := Scf.iv c0_i32_382 c1_i32_384 k0_t38
  let c1_i32_380 : BitVec 32 := 1#32
  let v693 : BitVec 32 := Scalar.muli arg20 c1_i32_380
  let v694 : BitVec 32 := Scalar.addi c0_i32_381 v693
  let c256_i32_554 : BitVec 32 := 256#32
  let v695 : BitVec 32 := Scalar.muli v694 c256_i32_554
  let v696 : BitVec 32 := Scalar.addi v116 v695
  v696
def k0_off92 (v27 : BitVec 32) (v96 : BitVec 32) (k0_t38 : Fin (k0_t38_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_381 : BitVec 32 := 0#32
  let c0_i32_382 : BitVec 32 := 0#32
  let c1_i32_384 : BitVec 32 := 1#32
  let arg20 : BitVec 32 := Scf.iv c0_i32_382 c1_i32_384 k0_t38
  let c1_i32_380 : BitVec 32 := 1#32
  let v693 : BitVec 32 := Scalar.muli arg20 c1_i32_380
  let v694 : BitVec 32 := Scalar.addi c0_i32_381 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult72 (v27 : BitVec 32) (v96 : BitVec 32) (k0_t38 : Fin (k0_t38_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_381 : BitVec 32 := 0#32
  let c0_i32_382 : BitVec 32 := 0#32
  let c1_i32_384 : BitVec 32 := 1#32
  let arg20 : BitVec 32 := Scf.iv c0_i32_382 c1_i32_384 k0_t38
  let c1_i32_380 : BitVec 32 := 1#32
  let v693 : BitVec 32 := Scalar.muli arg20 c1_i32_380
  let v694 : BitVec 32 := Scalar.addi c0_i32_381 v693
  let c256_i32_557 : BitVec 32 := 256#32
  let v710 : BitVec 32 := Scalar.muli v694 c256_i32_557
  let v711 : BitVec 32 := Scalar.addi v92 v710
  v711
def k0_off93 (v27 : BitVec 32) (v96 : BitVec 32) (k0_t38 : Fin (k0_t38_loop v27 v96).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_381 : BitVec 32 := 0#32
  let c0_i32_382 : BitVec 32 := 0#32
  let c1_i32_384 : BitVec 32 := 1#32
  let arg20 : BitVec 32 := Scf.iv c0_i32_382 c1_i32_384 k0_t38
  let c1_i32_380 : BitVec 32 := 1#32
  let v693 : BitVec 32 := Scalar.muli arg20 c1_i32_380
  let v694 : BitVec 32 := Scalar.addi c0_i32_381 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![1024, v714.toNat]
@[reducible] def k0_t39_loop (v27 : BitVec 32) (v96 : BitVec 32) : Scf.Loop 32 :=
  let c0_i32_382 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let v532 : BitVec 32 := Scalar.addi c0_i32_382 v531
  let c1_i32_385 : BitVec 32 := 1#32
  ⟨v535, v532, c1_i32_385⟩
def k0_mult73 (v27 : BitVec 32) (v96 : BitVec 32) (k0_t39 : Fin (k0_t39_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_381 : BitVec 32 := 0#32
  let c0_i32_382 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let c1_i32_385 : BitVec 32 := 1#32
  let arg20 : BitVec 32 := Scf.iv v535 c1_i32_385 k0_t39
  let c1_i32_380 : BitVec 32 := 1#32
  let v693 : BitVec 32 := Scalar.muli arg20 c1_i32_380
  let v694 : BitVec 32 := Scalar.addi c0_i32_381 v693
  let c256_i32_554 : BitVec 32 := 256#32
  let v695 : BitVec 32 := Scalar.muli v694 c256_i32_554
  let v696 : BitVec 32 := Scalar.addi v116 v695
  v696
def k0_off94 (v27 : BitVec 32) (v96 : BitVec 32) (k0_t39 : Fin (k0_t39_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_381 : BitVec 32 := 0#32
  let c0_i32_382 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let c1_i32_385 : BitVec 32 := 1#32
  let arg20 : BitVec 32 := Scf.iv v535 c1_i32_385 k0_t39
  let c1_i32_380 : BitVec 32 := 1#32
  let v693 : BitVec 32 := Scalar.muli arg20 c1_i32_380
  let v694 : BitVec 32 := Scalar.addi c0_i32_381 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult74 (v27 : BitVec 32) (v96 : BitVec 32) (k0_t39 : Fin (k0_t39_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_381 : BitVec 32 := 0#32
  let c0_i32_382 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let c1_i32_385 : BitVec 32 := 1#32
  let arg20 : BitVec 32 := Scf.iv v535 c1_i32_385 k0_t39
  let c1_i32_380 : BitVec 32 := 1#32
  let v693 : BitVec 32 := Scalar.muli arg20 c1_i32_380
  let v694 : BitVec 32 := Scalar.addi c0_i32_381 v693
  let c256_i32_557 : BitVec 32 := 256#32
  let v710 : BitVec 32 := Scalar.muli v694 c256_i32_557
  let v711 : BitVec 32 := Scalar.addi v92 v710
  v711
def k0_off95 (v27 : BitVec 32) (v96 : BitVec 32) (k0_t39 : Fin (k0_t39_loop v27 v96).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_381 : BitVec 32 := 0#32
  let c0_i32_382 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_376 : BitVec 32 := 0#32
  let v527 : BitVec 32 := Scalar.subi v155 c0_i32_376
  let c1_i32_377 : BitVec 32 := 1#32
  let c1_i32_378 : BitVec 32 := 1#32
  let v528 : BitVec 32 := Scalar.subi c1_i32_377 c1_i32_378
  let v529 : BitVec 32 := Scalar.addi v527 v528
  let c1_i32_379 : BitVec 32 := 1#32
  let v530 : BitVec 32 := Scalar.divsi v529 c1_i32_379
  let v531 : BitVec 32 := Scalar.subi v530 c0_i32_382
  let c1_i32_383 : BitVec 32 := 1#32
  let v533 : BitVec 32 := Scalar.divsi v531 c1_i32_383
  let v534 : BitVec 32 := Scalar.muli v533 c1_i32_383
  let v535 : BitVec 32 := Scalar.addi c0_i32_382 v534
  let c1_i32_385 : BitVec 32 := 1#32
  let arg20 : BitVec 32 := Scf.iv v535 c1_i32_385 k0_t39
  let c1_i32_380 : BitVec 32 := 1#32
  let v693 : BitVec 32 := Scalar.muli arg20 c1_i32_380
  let v694 : BitVec 32 := Scalar.addi c0_i32_381 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![1024, v714.toNat]
@[reducible] def k0_t40_loop (v27 : BitVec 32) (v96 : BitVec 32) (v165 : BitVec 32) : Scf.Loop 32 :=
  let c0_i32_392 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let c1_i32_394 : BitVec 32 := 1#32
  ⟨c0_i32_392, v544, c1_i32_394⟩
def k0_mult75 (v27 : BitVec 32) (v96 : BitVec 32) (v165 : BitVec 32) (k0_t40 : Fin (k0_t40_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_391 : BitVec 32 := 0#32
  let c0_i32_392 : BitVec 32 := 0#32
  let c1_i32_394 : BitVec 32 := 1#32
  let arg20 : BitVec 32 := Scf.iv c0_i32_392 c1_i32_394 k0_t40
  let c1_i32_390 : BitVec 32 := 1#32
  let v693 : BitVec 32 := Scalar.muli arg20 c1_i32_390
  let v694 : BitVec 32 := Scalar.addi c0_i32_391 v693
  let c256_i32_554 : BitVec 32 := 256#32
  let v695 : BitVec 32 := Scalar.muli v694 c256_i32_554
  let v696 : BitVec 32 := Scalar.addi v185 v695
  v696
def k0_off96 (v27 : BitVec 32) (v96 : BitVec 32) (v165 : BitVec 32) (k0_t40 : Fin (k0_t40_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_391 : BitVec 32 := 0#32
  let c0_i32_392 : BitVec 32 := 0#32
  let c1_i32_394 : BitVec 32 := 1#32
  let arg20 : BitVec 32 := Scf.iv c0_i32_392 c1_i32_394 k0_t40
  let c1_i32_390 : BitVec 32 := 1#32
  let v693 : BitVec 32 := Scalar.muli arg20 c1_i32_390
  let v694 : BitVec 32 := Scalar.addi c0_i32_391 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult76 (v27 : BitVec 32) (v96 : BitVec 32) (v165 : BitVec 32) (k0_t40 : Fin (k0_t40_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_391 : BitVec 32 := 0#32
  let c0_i32_392 : BitVec 32 := 0#32
  let c1_i32_394 : BitVec 32 := 1#32
  let arg20 : BitVec 32 := Scf.iv c0_i32_392 c1_i32_394 k0_t40
  let c1_i32_390 : BitVec 32 := 1#32
  let v693 : BitVec 32 := Scalar.muli arg20 c1_i32_390
  let v694 : BitVec 32 := Scalar.addi c0_i32_391 v693
  let c256_i32_557 : BitVec 32 := 256#32
  let v710 : BitVec 32 := Scalar.muli v694 c256_i32_557
  let v711 : BitVec 32 := Scalar.addi v161 v710
  v711
def k0_off97 (v27 : BitVec 32) (v96 : BitVec 32) (v165 : BitVec 32) (k0_t40 : Fin (k0_t40_loop v27 v96 v165).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_391 : BitVec 32 := 0#32
  let c0_i32_392 : BitVec 32 := 0#32
  let c1_i32_394 : BitVec 32 := 1#32
  let arg20 : BitVec 32 := Scf.iv c0_i32_392 c1_i32_394 k0_t40
  let c1_i32_390 : BitVec 32 := 1#32
  let v693 : BitVec 32 := Scalar.muli arg20 c1_i32_390
  let v694 : BitVec 32 := Scalar.addi c0_i32_391 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![1024, v714.toNat]
@[reducible] def k0_t41_loop (v27 : BitVec 32) (v96 : BitVec 32) (v165 : BitVec 32) : Scf.Loop 32 :=
  let c0_i32_392 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let v541 : BitVec 32 := Scalar.addi c0_i32_392 v540
  let c1_i32_395 : BitVec 32 := 1#32
  ⟨v544, v541, c1_i32_395⟩
def k0_mult77 (v27 : BitVec 32) (v96 : BitVec 32) (v165 : BitVec 32) (k0_t41 : Fin (k0_t41_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_391 : BitVec 32 := 0#32
  let c0_i32_392 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let c1_i32_395 : BitVec 32 := 1#32
  let arg20 : BitVec 32 := Scf.iv v544 c1_i32_395 k0_t41
  let c1_i32_390 : BitVec 32 := 1#32
  let v693 : BitVec 32 := Scalar.muli arg20 c1_i32_390
  let v694 : BitVec 32 := Scalar.addi c0_i32_391 v693
  let c256_i32_554 : BitVec 32 := 256#32
  let v695 : BitVec 32 := Scalar.muli v694 c256_i32_554
  let v696 : BitVec 32 := Scalar.addi v185 v695
  v696
def k0_off98 (v27 : BitVec 32) (v96 : BitVec 32) (v165 : BitVec 32) (k0_t41 : Fin (k0_t41_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_391 : BitVec 32 := 0#32
  let c0_i32_392 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let c1_i32_395 : BitVec 32 := 1#32
  let arg20 : BitVec 32 := Scf.iv v544 c1_i32_395 k0_t41
  let c1_i32_390 : BitVec 32 := 1#32
  let v693 : BitVec 32 := Scalar.muli arg20 c1_i32_390
  let v694 : BitVec 32 := Scalar.addi c0_i32_391 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult78 (v27 : BitVec 32) (v96 : BitVec 32) (v165 : BitVec 32) (k0_t41 : Fin (k0_t41_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_391 : BitVec 32 := 0#32
  let c0_i32_392 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let c1_i32_395 : BitVec 32 := 1#32
  let arg20 : BitVec 32 := Scf.iv v544 c1_i32_395 k0_t41
  let c1_i32_390 : BitVec 32 := 1#32
  let v693 : BitVec 32 := Scalar.muli arg20 c1_i32_390
  let v694 : BitVec 32 := Scalar.addi c0_i32_391 v693
  let c256_i32_557 : BitVec 32 := 256#32
  let v710 : BitVec 32 := Scalar.muli v694 c256_i32_557
  let v711 : BitVec 32 := Scalar.addi v161 v710
  v711
def k0_off99 (v27 : BitVec 32) (v96 : BitVec 32) (v165 : BitVec 32) (k0_t41 : Fin (k0_t41_loop v27 v96 v165).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_391 : BitVec 32 := 0#32
  let c0_i32_392 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_386 : BitVec 32 := 0#32
  let v536 : BitVec 32 := Scalar.subi v224 c0_i32_386
  let c1_i32_387 : BitVec 32 := 1#32
  let c1_i32_388 : BitVec 32 := 1#32
  let v537 : BitVec 32 := Scalar.subi c1_i32_387 c1_i32_388
  let v538 : BitVec 32 := Scalar.addi v536 v537
  let c1_i32_389 : BitVec 32 := 1#32
  let v539 : BitVec 32 := Scalar.divsi v538 c1_i32_389
  let v540 : BitVec 32 := Scalar.subi v539 c0_i32_392
  let c1_i32_393 : BitVec 32 := 1#32
  let v542 : BitVec 32 := Scalar.divsi v540 c1_i32_393
  let v543 : BitVec 32 := Scalar.muli v542 c1_i32_393
  let v544 : BitVec 32 := Scalar.addi c0_i32_392 v543
  let c1_i32_395 : BitVec 32 := 1#32
  let arg20 : BitVec 32 := Scf.iv v544 c1_i32_395 k0_t41
  let c1_i32_390 : BitVec 32 := 1#32
  let v693 : BitVec 32 := Scalar.muli arg20 c1_i32_390
  let v694 : BitVec 32 := Scalar.addi c0_i32_391 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![1024, v714.toNat]
@[reducible] def k0_t42_loop (v27 : BitVec 32) (v96 : BitVec 32) (v165 : BitVec 32) (v234 : BitVec 32) : Scf.Loop 32 :=
  let c0_i32_402 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let c1_i32_404 : BitVec 32 := 1#32
  ⟨c0_i32_402, v553, c1_i32_404⟩
def k0_mult79 (v27 : BitVec 32) (v96 : BitVec 32) (v165 : BitVec 32) (v234 : BitVec 32) (k0_t42 : Fin (k0_t42_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_401 : BitVec 32 := 0#32
  let c0_i32_402 : BitVec 32 := 0#32
  let c1_i32_404 : BitVec 32 := 1#32
  let arg20 : BitVec 32 := Scf.iv c0_i32_402 c1_i32_404 k0_t42
  let c1_i32_400 : BitVec 32 := 1#32
  let v693 : BitVec 32 := Scalar.muli arg20 c1_i32_400
  let v694 : BitVec 32 := Scalar.addi c0_i32_401 v693
  let c256_i32_554 : BitVec 32 := 256#32
  let v695 : BitVec 32 := Scalar.muli v694 c256_i32_554
  let v696 : BitVec 32 := Scalar.addi v254 v695
  v696
def k0_off100 (v27 : BitVec 32) (v96 : BitVec 32) (v165 : BitVec 32) (v234 : BitVec 32) (k0_t42 : Fin (k0_t42_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_401 : BitVec 32 := 0#32
  let c0_i32_402 : BitVec 32 := 0#32
  let c1_i32_404 : BitVec 32 := 1#32
  let arg20 : BitVec 32 := Scf.iv c0_i32_402 c1_i32_404 k0_t42
  let c1_i32_400 : BitVec 32 := 1#32
  let v693 : BitVec 32 := Scalar.muli arg20 c1_i32_400
  let v694 : BitVec 32 := Scalar.addi c0_i32_401 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult80 (v27 : BitVec 32) (v96 : BitVec 32) (v165 : BitVec 32) (v234 : BitVec 32) (k0_t42 : Fin (k0_t42_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_401 : BitVec 32 := 0#32
  let c0_i32_402 : BitVec 32 := 0#32
  let c1_i32_404 : BitVec 32 := 1#32
  let arg20 : BitVec 32 := Scf.iv c0_i32_402 c1_i32_404 k0_t42
  let c1_i32_400 : BitVec 32 := 1#32
  let v693 : BitVec 32 := Scalar.muli arg20 c1_i32_400
  let v694 : BitVec 32 := Scalar.addi c0_i32_401 v693
  let c256_i32_557 : BitVec 32 := 256#32
  let v710 : BitVec 32 := Scalar.muli v694 c256_i32_557
  let v711 : BitVec 32 := Scalar.addi v230 v710
  v711
def k0_off101 (v27 : BitVec 32) (v96 : BitVec 32) (v165 : BitVec 32) (v234 : BitVec 32) (k0_t42 : Fin (k0_t42_loop v27 v96 v165 v234).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_401 : BitVec 32 := 0#32
  let c0_i32_402 : BitVec 32 := 0#32
  let c1_i32_404 : BitVec 32 := 1#32
  let arg20 : BitVec 32 := Scf.iv c0_i32_402 c1_i32_404 k0_t42
  let c1_i32_400 : BitVec 32 := 1#32
  let v693 : BitVec 32 := Scalar.muli arg20 c1_i32_400
  let v694 : BitVec 32 := Scalar.addi c0_i32_401 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![1024, v714.toNat]
@[reducible] def k0_t43_loop (v27 : BitVec 32) (v96 : BitVec 32) (v165 : BitVec 32) (v234 : BitVec 32) : Scf.Loop 32 :=
  let c0_i32_402 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let v550 : BitVec 32 := Scalar.addi c0_i32_402 v549
  let c1_i32_405 : BitVec 32 := 1#32
  ⟨v553, v550, c1_i32_405⟩
def k0_mult81 (v27 : BitVec 32) (v96 : BitVec 32) (v165 : BitVec 32) (v234 : BitVec 32) (k0_t43 : Fin (k0_t43_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_401 : BitVec 32 := 0#32
  let c0_i32_402 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let c1_i32_405 : BitVec 32 := 1#32
  let arg20 : BitVec 32 := Scf.iv v553 c1_i32_405 k0_t43
  let c1_i32_400 : BitVec 32 := 1#32
  let v693 : BitVec 32 := Scalar.muli arg20 c1_i32_400
  let v694 : BitVec 32 := Scalar.addi c0_i32_401 v693
  let c256_i32_554 : BitVec 32 := 256#32
  let v695 : BitVec 32 := Scalar.muli v694 c256_i32_554
  let v696 : BitVec 32 := Scalar.addi v254 v695
  v696
def k0_off102 (v27 : BitVec 32) (v96 : BitVec 32) (v165 : BitVec 32) (v234 : BitVec 32) (k0_t43 : Fin (k0_t43_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_401 : BitVec 32 := 0#32
  let c0_i32_402 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let c1_i32_405 : BitVec 32 := 1#32
  let arg20 : BitVec 32 := Scf.iv v553 c1_i32_405 k0_t43
  let c1_i32_400 : BitVec 32 := 1#32
  let v693 : BitVec 32 := Scalar.muli arg20 c1_i32_400
  let v694 : BitVec 32 := Scalar.addi c0_i32_401 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult82 (v27 : BitVec 32) (v96 : BitVec 32) (v165 : BitVec 32) (v234 : BitVec 32) (k0_t43 : Fin (k0_t43_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_401 : BitVec 32 := 0#32
  let c0_i32_402 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let c1_i32_405 : BitVec 32 := 1#32
  let arg20 : BitVec 32 := Scf.iv v553 c1_i32_405 k0_t43
  let c1_i32_400 : BitVec 32 := 1#32
  let v693 : BitVec 32 := Scalar.muli arg20 c1_i32_400
  let v694 : BitVec 32 := Scalar.addi c0_i32_401 v693
  let c256_i32_557 : BitVec 32 := 256#32
  let v710 : BitVec 32 := Scalar.muli v694 c256_i32_557
  let v711 : BitVec 32 := Scalar.addi v230 v710
  v711
def k0_off103 (v27 : BitVec 32) (v96 : BitVec 32) (v165 : BitVec 32) (v234 : BitVec 32) (k0_t43 : Fin (k0_t43_loop v27 v96 v165 v234).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_401 : BitVec 32 := 0#32
  let c0_i32_402 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_396 : BitVec 32 := 0#32
  let v545 : BitVec 32 := Scalar.subi v293 c0_i32_396
  let c1_i32_397 : BitVec 32 := 1#32
  let c1_i32_398 : BitVec 32 := 1#32
  let v546 : BitVec 32 := Scalar.subi c1_i32_397 c1_i32_398
  let v547 : BitVec 32 := Scalar.addi v545 v546
  let c1_i32_399 : BitVec 32 := 1#32
  let v548 : BitVec 32 := Scalar.divsi v547 c1_i32_399
  let v549 : BitVec 32 := Scalar.subi v548 c0_i32_402
  let c1_i32_403 : BitVec 32 := 1#32
  let v551 : BitVec 32 := Scalar.divsi v549 c1_i32_403
  let v552 : BitVec 32 := Scalar.muli v551 c1_i32_403
  let v553 : BitVec 32 := Scalar.addi c0_i32_402 v552
  let c1_i32_405 : BitVec 32 := 1#32
  let arg20 : BitVec 32 := Scf.iv v553 c1_i32_405 k0_t43
  let c1_i32_400 : BitVec 32 := 1#32
  let v693 : BitVec 32 := Scalar.muli arg20 c1_i32_400
  let v694 : BitVec 32 := Scalar.addi c0_i32_401 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![1024, v714.toNat]
@[reducible] def k0_t44_loop (v27 : BitVec 32) (v96 : BitVec 32) (v165 : BitVec 32) (v234 : BitVec 32) (v303 : BitVec 32) : Scf.Loop 32 :=
  let c0_i32_412 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let c1_i32_414 : BitVec 32 := 1#32
  ⟨c0_i32_412, v562, c1_i32_414⟩
def k0_mult83 (v27 : BitVec 32) (v96 : BitVec 32) (v165 : BitVec 32) (v234 : BitVec 32) (v303 : BitVec 32) (k0_t44 : Fin (k0_t44_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_411 : BitVec 32 := 0#32
  let c0_i32_412 : BitVec 32 := 0#32
  let c1_i32_414 : BitVec 32 := 1#32
  let arg20 : BitVec 32 := Scf.iv c0_i32_412 c1_i32_414 k0_t44
  let c1_i32_410 : BitVec 32 := 1#32
  let v693 : BitVec 32 := Scalar.muli arg20 c1_i32_410
  let v694 : BitVec 32 := Scalar.addi c0_i32_411 v693
  let c256_i32_554 : BitVec 32 := 256#32
  let v695 : BitVec 32 := Scalar.muli v694 c256_i32_554
  let v696 : BitVec 32 := Scalar.addi v323 v695
  v696
def k0_off104 (v27 : BitVec 32) (v96 : BitVec 32) (v165 : BitVec 32) (v234 : BitVec 32) (v303 : BitVec 32) (k0_t44 : Fin (k0_t44_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_411 : BitVec 32 := 0#32
  let c0_i32_412 : BitVec 32 := 0#32
  let c1_i32_414 : BitVec 32 := 1#32
  let arg20 : BitVec 32 := Scf.iv c0_i32_412 c1_i32_414 k0_t44
  let c1_i32_410 : BitVec 32 := 1#32
  let v693 : BitVec 32 := Scalar.muli arg20 c1_i32_410
  let v694 : BitVec 32 := Scalar.addi c0_i32_411 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult84 (v27 : BitVec 32) (v96 : BitVec 32) (v165 : BitVec 32) (v234 : BitVec 32) (v303 : BitVec 32) (k0_t44 : Fin (k0_t44_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_411 : BitVec 32 := 0#32
  let c0_i32_412 : BitVec 32 := 0#32
  let c1_i32_414 : BitVec 32 := 1#32
  let arg20 : BitVec 32 := Scf.iv c0_i32_412 c1_i32_414 k0_t44
  let c1_i32_410 : BitVec 32 := 1#32
  let v693 : BitVec 32 := Scalar.muli arg20 c1_i32_410
  let v694 : BitVec 32 := Scalar.addi c0_i32_411 v693
  let c256_i32_557 : BitVec 32 := 256#32
  let v710 : BitVec 32 := Scalar.muli v694 c256_i32_557
  let v711 : BitVec 32 := Scalar.addi v299 v710
  v711
def k0_off105 (v27 : BitVec 32) (v96 : BitVec 32) (v165 : BitVec 32) (v234 : BitVec 32) (v303 : BitVec 32) (k0_t44 : Fin (k0_t44_loop v27 v96 v165 v234 v303).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_411 : BitVec 32 := 0#32
  let c0_i32_412 : BitVec 32 := 0#32
  let c1_i32_414 : BitVec 32 := 1#32
  let arg20 : BitVec 32 := Scf.iv c0_i32_412 c1_i32_414 k0_t44
  let c1_i32_410 : BitVec 32 := 1#32
  let v693 : BitVec 32 := Scalar.muli arg20 c1_i32_410
  let v694 : BitVec 32 := Scalar.addi c0_i32_411 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![1024, v714.toNat]
@[reducible] def k0_t45_loop (v27 : BitVec 32) (v96 : BitVec 32) (v165 : BitVec 32) (v234 : BitVec 32) (v303 : BitVec 32) : Scf.Loop 32 :=
  let c0_i32_412 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let v559 : BitVec 32 := Scalar.addi c0_i32_412 v558
  let c1_i32_415 : BitVec 32 := 1#32
  ⟨v562, v559, c1_i32_415⟩
def k0_mult85 (v27 : BitVec 32) (v96 : BitVec 32) (v165 : BitVec 32) (v234 : BitVec 32) (v303 : BitVec 32) (k0_t45 : Fin (k0_t45_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_411 : BitVec 32 := 0#32
  let c0_i32_412 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let c1_i32_415 : BitVec 32 := 1#32
  let arg20 : BitVec 32 := Scf.iv v562 c1_i32_415 k0_t45
  let c1_i32_410 : BitVec 32 := 1#32
  let v693 : BitVec 32 := Scalar.muli arg20 c1_i32_410
  let v694 : BitVec 32 := Scalar.addi c0_i32_411 v693
  let c256_i32_554 : BitVec 32 := 256#32
  let v695 : BitVec 32 := Scalar.muli v694 c256_i32_554
  let v696 : BitVec 32 := Scalar.addi v323 v695
  v696
def k0_off106 (v27 : BitVec 32) (v96 : BitVec 32) (v165 : BitVec 32) (v234 : BitVec 32) (v303 : BitVec 32) (k0_t45 : Fin (k0_t45_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_411 : BitVec 32 := 0#32
  let c0_i32_412 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let c1_i32_415 : BitVec 32 := 1#32
  let arg20 : BitVec 32 := Scf.iv v562 c1_i32_415 k0_t45
  let c1_i32_410 : BitVec 32 := 1#32
  let v693 : BitVec 32 := Scalar.muli arg20 c1_i32_410
  let v694 : BitVec 32 := Scalar.addi c0_i32_411 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult86 (v27 : BitVec 32) (v96 : BitVec 32) (v165 : BitVec 32) (v234 : BitVec 32) (v303 : BitVec 32) (k0_t45 : Fin (k0_t45_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_411 : BitVec 32 := 0#32
  let c0_i32_412 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let c1_i32_415 : BitVec 32 := 1#32
  let arg20 : BitVec 32 := Scf.iv v562 c1_i32_415 k0_t45
  let c1_i32_410 : BitVec 32 := 1#32
  let v693 : BitVec 32 := Scalar.muli arg20 c1_i32_410
  let v694 : BitVec 32 := Scalar.addi c0_i32_411 v693
  let c256_i32_557 : BitVec 32 := 256#32
  let v710 : BitVec 32 := Scalar.muli v694 c256_i32_557
  let v711 : BitVec 32 := Scalar.addi v299 v710
  v711
def k0_off107 (v27 : BitVec 32) (v96 : BitVec 32) (v165 : BitVec 32) (v234 : BitVec 32) (v303 : BitVec 32) (k0_t45 : Fin (k0_t45_loop v27 v96 v165 v234 v303).trips) : Fin 2 → Nat :=
  let c1024 : Index := 1024#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_411 : BitVec 32 := 0#32
  let c0_i32_412 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_406 : BitVec 32 := 0#32
  let v554 : BitVec 32 := Scalar.subi v362 c0_i32_406
  let c1_i32_407 : BitVec 32 := 1#32
  let c1_i32_408 : BitVec 32 := 1#32
  let v555 : BitVec 32 := Scalar.subi c1_i32_407 c1_i32_408
  let v556 : BitVec 32 := Scalar.addi v554 v555
  let c1_i32_409 : BitVec 32 := 1#32
  let v557 : BitVec 32 := Scalar.divsi v556 c1_i32_409
  let v558 : BitVec 32 := Scalar.subi v557 c0_i32_412
  let c1_i32_413 : BitVec 32 := 1#32
  let v560 : BitVec 32 := Scalar.divsi v558 c1_i32_413
  let v561 : BitVec 32 := Scalar.muli v560 c1_i32_413
  let v562 : BitVec 32 := Scalar.addi c0_i32_412 v561
  let c1_i32_415 : BitVec 32 := 1#32
  let arg20 : BitVec 32 := Scf.iv v562 c1_i32_415 k0_t45
  let c1_i32_410 : BitVec 32 := 1#32
  let v693 : BitVec 32 := Scalar.muli arg20 c1_i32_410
  let v694 : BitVec 32 := Scalar.addi c0_i32_411 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![1024, v714.toNat]
@[reducible] def k0_t46_loop (v27 : BitVec 32) : Scf.Loop 32 :=
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let c1_i32_431 : BitVec 32 := 1#32
  ⟨c0_i32_429, v575, c1_i32_431⟩
def k0_mult87 (v27 : BitVec 32) (k0_t46 : Fin (k0_t46_loop v27).trips) : BitVec 32 :=
  let c0_i32_427 : BitVec 32 := 0#32
  let c0_i32_426 : BitVec 32 := 0#32
  let c0_i32_429 : BitVec 32 := 0#32
  let c1_i32_431 : BitVec 32 := 1#32
  let arg20 : BitVec 32 := Scf.iv c0_i32_429 c1_i32_431 k0_t46
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off108 (v27 : BitVec 32) (k0_t46 : Fin (k0_t46_loop v27).trips) : Fin 2 → Nat :=
  let c0_i32_428 : BitVec 32 := 0#32
  let c0_i32_426 : BitVec 32 := 0#32
  let c0_i32_429 : BitVec 32 := 0#32
  let c1_i32_431 : BitVec 32 := 1#32
  let arg20 : BitVec 32 := Scf.iv c0_i32_429 c1_i32_431 k0_t46
  let c1_i32_425 : BitVec 32 := 1#32
  let v693 : BitVec 32 := Scalar.muli arg20 c1_i32_425
  let v694 : BitVec 32 := Scalar.addi c0_i32_426 v693
  let v719 : BitVec 32 := Scalar.addi c0_i32_428 v694
  let v720 : Index := Scalar.indexCast v719
  let c2048 : Index := 2048#32
  ![v720.toNat, 2048]
def k0_off109 (v27 : BitVec 32) (k0_t46 : Fin (k0_t46_loop v27).trips) : Fin 2 → Nat :=
  let c0_i32_427 : BitVec 32 := 0#32
  let c0_i32_426 : BitVec 32 := 0#32
  let c0_i32_429 : BitVec 32 := 0#32
  let c1_i32_431 : BitVec 32 := 1#32
  let arg20 : BitVec 32 := Scf.iv c0_i32_429 c1_i32_431 k0_t46
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off110 (v27 : BitVec 32) (k0_t46 : Fin (k0_t46_loop v27).trips) : Fin 2 → Nat :=
  let c0_i32_427 : BitVec 32 := 0#32
  let c0_i32_426 : BitVec 32 := 0#32
  let c0_i32_429 : BitVec 32 := 0#32
  let c1_i32_431 : BitVec 32 := 1#32
  let arg20 : BitVec 32 := Scf.iv c0_i32_429 c1_i32_431 k0_t46
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t47_loop (v27 : BitVec 32) : Scf.Loop 32 :=
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let v572 : BitVec 32 := Scalar.addi c0_i32_429 v571
  let c1_i32_432 : BitVec 32 := 1#32
  ⟨v575, v572, c1_i32_432⟩
def k0_mult88 (v27 : BitVec 32) (k0_t47 : Fin (k0_t47_loop v27).trips) : BitVec 32 :=
  let c0_i32_427 : BitVec 32 := 0#32
  let c0_i32_426 : BitVec 32 := 0#32
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let c1_i32_432 : BitVec 32 := 1#32
  let arg20 : BitVec 32 := Scf.iv v575 c1_i32_432 k0_t47
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off111 (v27 : BitVec 32) (k0_t47 : Fin (k0_t47_loop v27).trips) : Fin 2 → Nat :=
  let c0_i32_428 : BitVec 32 := 0#32
  let c0_i32_426 : BitVec 32 := 0#32
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let c1_i32_432 : BitVec 32 := 1#32
  let arg20 : BitVec 32 := Scf.iv v575 c1_i32_432 k0_t47
  let c1_i32_425 : BitVec 32 := 1#32
  let v693 : BitVec 32 := Scalar.muli arg20 c1_i32_425
  let v694 : BitVec 32 := Scalar.addi c0_i32_426 v693
  let v719 : BitVec 32 := Scalar.addi c0_i32_428 v694
  let v720 : Index := Scalar.indexCast v719
  let c2048 : Index := 2048#32
  ![v720.toNat, 2048]
def k0_off112 (v27 : BitVec 32) (k0_t47 : Fin (k0_t47_loop v27).trips) : Fin 2 → Nat :=
  let c0_i32_427 : BitVec 32 := 0#32
  let c0_i32_426 : BitVec 32 := 0#32
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let c1_i32_432 : BitVec 32 := 1#32
  let arg20 : BitVec 32 := Scf.iv v575 c1_i32_432 k0_t47
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off113 (v27 : BitVec 32) (k0_t47 : Fin (k0_t47_loop v27).trips) : Fin 2 → Nat :=
  let c0_i32_427 : BitVec 32 := 0#32
  let c0_i32_426 : BitVec 32 := 0#32
  let c0_i32_429 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_421 : BitVec 32 := 0#32
  let v567 : BitVec 32 := Scalar.subi v65 c0_i32_421
  let c1_i32_422 : BitVec 32 := 1#32
  let c1_i32_423 : BitVec 32 := 1#32
  let v568 : BitVec 32 := Scalar.subi c1_i32_422 c1_i32_423
  let v569 : BitVec 32 := Scalar.addi v567 v568
  let c1_i32_424 : BitVec 32 := 1#32
  let v570 : BitVec 32 := Scalar.divsi v569 c1_i32_424
  let v571 : BitVec 32 := Scalar.subi v570 c0_i32_429
  let c1_i32_430 : BitVec 32 := 1#32
  let v573 : BitVec 32 := Scalar.divsi v571 c1_i32_430
  let v574 : BitVec 32 := Scalar.muli v573 c1_i32_430
  let v575 : BitVec 32 := Scalar.addi c0_i32_429 v574
  let c1_i32_432 : BitVec 32 := 1#32
  let arg20 : BitVec 32 := Scf.iv v575 c1_i32_432 k0_t47
  let c1_i32_425 : BitVec 32 := 1#32
  let v693 : BitVec 32 := Scalar.muli arg20 c1_i32_425
  let v694 : BitVec 32 := Scalar.addi c0_i32_426 v693
  let c128_i32_554 : BitVec 32 := 128#32
  let v695 : BitVec 32 := Scalar.muli v694 c128_i32_554
  let v696 : BitVec 32 := Scalar.addi c0_i32_427 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t48_loop (v96 : BitVec 32) : Scf.Loop 32 :=
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let c1_i32_441 : BitVec 32 := 1#32
  ⟨c0_i32_439, v584, c1_i32_441⟩
def k0_mult89 (v27 : BitVec 32) (v96 : BitVec 32) (k0_t48 : Fin (k0_t48_loop v96).trips) : BitVec 32 :=
  let c0_i32_20 : BitVec 32 := 0#32
  let v28 : BitVec 32 := Scalar.addi c0_i32_20 v27
  let c0_i32_438 : BitVec 32 := 0#32
  let c0_i32_439 : BitVec 32 := 0#32
  let c1_i32_441 : BitVec 32 := 1#32
  let arg20 : BitVec 32 := Scf.iv c0_i32_439 c1_i32_441 k0_t48
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off114 (v27 : BitVec 32) (v96 : BitVec 32) (k0_t48 : Fin (k0_t48_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_438 : BitVec 32 := 0#32
  let c0_i32_439 : BitVec 32 := 0#32
  let c1_i32_441 : BitVec 32 := 1#32
  let arg20 : BitVec 32 := Scf.iv c0_i32_439 c1_i32_441 k0_t48
  let c1_i32_437 : BitVec 32 := 1#32
  let v693 : BitVec 32 := Scalar.muli arg20 c1_i32_437
  let v694 : BitVec 32 := Scalar.addi c0_i32_438 v693
  let v719 : BitVec 32 := Scalar.addi v90 v694
  let v720 : Index := Scalar.indexCast v719
  let c2048 : Index := 2048#32
  ![v720.toNat, 2048]
def k0_off115 (v27 : BitVec 32) (v96 : BitVec 32) (k0_t48 : Fin (k0_t48_loop v96).trips) : Fin 2 → Nat :=
  let c0_i32_20 : BitVec 32 := 0#32
  let v28 : BitVec 32 := Scalar.addi c0_i32_20 v27
  let c0_i32_438 : BitVec 32 := 0#32
  let c0_i32_439 : BitVec 32 := 0#32
  let c1_i32_441 : BitVec 32 := 1#32
  let arg20 : BitVec 32 := Scf.iv c0_i32_439 c1_i32_441 k0_t48
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off116 (v27 : BitVec 32) (v96 : BitVec 32) (k0_t48 : Fin (k0_t48_loop v96).trips) : Fin 2 → Nat :=
  let c0_i32_20 : BitVec 32 := 0#32
  let v28 : BitVec 32 := Scalar.addi c0_i32_20 v27
  let c0_i32_438 : BitVec 32 := 0#32
  let c0_i32_439 : BitVec 32 := 0#32
  let c1_i32_441 : BitVec 32 := 1#32
  let arg20 : BitVec 32 := Scf.iv c0_i32_439 c1_i32_441 k0_t48
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t49_loop (v96 : BitVec 32) : Scf.Loop 32 :=
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let v581 : BitVec 32 := Scalar.addi c0_i32_439 v580
  let c1_i32_442 : BitVec 32 := 1#32
  ⟨v584, v581, c1_i32_442⟩
def k0_mult90 (v27 : BitVec 32) (v96 : BitVec 32) (k0_t49 : Fin (k0_t49_loop v96).trips) : BitVec 32 :=
  let c0_i32_20 : BitVec 32 := 0#32
  let v28 : BitVec 32 := Scalar.addi c0_i32_20 v27
  let c0_i32_438 : BitVec 32 := 0#32
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let c1_i32_442 : BitVec 32 := 1#32
  let arg20 : BitVec 32 := Scf.iv v584 c1_i32_442 k0_t49
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off117 (v27 : BitVec 32) (v96 : BitVec 32) (k0_t49 : Fin (k0_t49_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_438 : BitVec 32 := 0#32
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let c1_i32_442 : BitVec 32 := 1#32
  let arg20 : BitVec 32 := Scf.iv v584 c1_i32_442 k0_t49
  let c1_i32_437 : BitVec 32 := 1#32
  let v693 : BitVec 32 := Scalar.muli arg20 c1_i32_437
  let v694 : BitVec 32 := Scalar.addi c0_i32_438 v693
  let v719 : BitVec 32 := Scalar.addi v90 v694
  let v720 : Index := Scalar.indexCast v719
  let c2048 : Index := 2048#32
  ![v720.toNat, 2048]
def k0_off118 (v27 : BitVec 32) (v96 : BitVec 32) (k0_t49 : Fin (k0_t49_loop v96).trips) : Fin 2 → Nat :=
  let c0_i32_20 : BitVec 32 := 0#32
  let v28 : BitVec 32 := Scalar.addi c0_i32_20 v27
  let c0_i32_438 : BitVec 32 := 0#32
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let c1_i32_442 : BitVec 32 := 1#32
  let arg20 : BitVec 32 := Scf.iv v584 c1_i32_442 k0_t49
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off119 (v27 : BitVec 32) (v96 : BitVec 32) (k0_t49 : Fin (k0_t49_loop v96).trips) : Fin 2 → Nat :=
  let c0_i32_20 : BitVec 32 := 0#32
  let v28 : BitVec 32 := Scalar.addi c0_i32_20 v27
  let c0_i32_438 : BitVec 32 := 0#32
  let c0_i32_439 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_433 : BitVec 32 := 0#32
  let v576 : BitVec 32 := Scalar.subi v134 c0_i32_433
  let c1_i32_434 : BitVec 32 := 1#32
  let c1_i32_435 : BitVec 32 := 1#32
  let v577 : BitVec 32 := Scalar.subi c1_i32_434 c1_i32_435
  let v578 : BitVec 32 := Scalar.addi v576 v577
  let c1_i32_436 : BitVec 32 := 1#32
  let v579 : BitVec 32 := Scalar.divsi v578 c1_i32_436
  let v580 : BitVec 32 := Scalar.subi v579 c0_i32_439
  let c1_i32_440 : BitVec 32 := 1#32
  let v582 : BitVec 32 := Scalar.divsi v580 c1_i32_440
  let v583 : BitVec 32 := Scalar.muli v582 c1_i32_440
  let v584 : BitVec 32 := Scalar.addi c0_i32_439 v583
  let c1_i32_442 : BitVec 32 := 1#32
  let arg20 : BitVec 32 := Scf.iv v584 c1_i32_442 k0_t49
  let c1_i32_437 : BitVec 32 := 1#32
  let v693 : BitVec 32 := Scalar.muli arg20 c1_i32_437
  let v694 : BitVec 32 := Scalar.addi c0_i32_438 v693
  let c128_i32_554 : BitVec 32 := 128#32
  let v695 : BitVec 32 := Scalar.muli v694 c128_i32_554
  let v696 : BitVec 32 := Scalar.addi v28 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t50_loop (v165 : BitVec 32) : Scf.Loop 32 :=
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let c1_i32_451 : BitVec 32 := 1#32
  ⟨c0_i32_449, v593, c1_i32_451⟩
def k0_mult91 (v27 : BitVec 32) (v96 : BitVec 32) (v165 : BitVec 32) (k0_t50 : Fin (k0_t50_loop v165).trips) : BitVec 32 :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c1_i32_451 : BitVec 32 := 1#32
  let arg20 : BitVec 32 := Scf.iv c0_i32_449 c1_i32_451 k0_t50
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off120 (v27 : BitVec 32) (v96 : BitVec 32) (v165 : BitVec 32) (k0_t50 : Fin (k0_t50_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_448 : BitVec 32 := 0#32
  let c0_i32_449 : BitVec 32 := 0#32
  let c1_i32_451 : BitVec 32 := 1#32
  let arg20 : BitVec 32 := Scf.iv c0_i32_449 c1_i32_451 k0_t50
  let c1_i32_447 : BitVec 32 := 1#32
  let v693 : BitVec 32 := Scalar.muli arg20 c1_i32_447
  let v694 : BitVec 32 := Scalar.addi c0_i32_448 v693
  let v719 : BitVec 32 := Scalar.addi v159 v694
  let v720 : Index := Scalar.indexCast v719
  let c2048 : Index := 2048#32
  ![v720.toNat, 2048]
def k0_off121 (v27 : BitVec 32) (v96 : BitVec 32) (v165 : BitVec 32) (k0_t50 : Fin (k0_t50_loop v165).trips) : Fin 2 → Nat :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c1_i32_451 : BitVec 32 := 1#32
  let arg20 : BitVec 32 := Scf.iv c0_i32_449 c1_i32_451 k0_t50
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off122 (v27 : BitVec 32) (v96 : BitVec 32) (v165 : BitVec 32) (k0_t50 : Fin (k0_t50_loop v165).trips) : Fin 2 → Nat :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c1_i32_451 : BitVec 32 := 1#32
  let arg20 : BitVec 32 := Scf.iv c0_i32_449 c1_i32_451 k0_t50
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t51_loop (v165 : BitVec 32) : Scf.Loop 32 :=
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let v590 : BitVec 32 := Scalar.addi c0_i32_449 v589
  let c1_i32_452 : BitVec 32 := 1#32
  ⟨v593, v590, c1_i32_452⟩
def k0_mult92 (v27 : BitVec 32) (v96 : BitVec 32) (v165 : BitVec 32) (k0_t51 : Fin (k0_t51_loop v165).trips) : BitVec 32 :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let c1_i32_452 : BitVec 32 := 1#32
  let arg20 : BitVec 32 := Scf.iv v593 c1_i32_452 k0_t51
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off123 (v27 : BitVec 32) (v96 : BitVec 32) (v165 : BitVec 32) (k0_t51 : Fin (k0_t51_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_448 : BitVec 32 := 0#32
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let c1_i32_452 : BitVec 32 := 1#32
  let arg20 : BitVec 32 := Scf.iv v593 c1_i32_452 k0_t51
  let c1_i32_447 : BitVec 32 := 1#32
  let v693 : BitVec 32 := Scalar.muli arg20 c1_i32_447
  let v694 : BitVec 32 := Scalar.addi c0_i32_448 v693
  let v719 : BitVec 32 := Scalar.addi v159 v694
  let v720 : Index := Scalar.indexCast v719
  let c2048 : Index := 2048#32
  ![v720.toNat, 2048]
def k0_off124 (v27 : BitVec 32) (v96 : BitVec 32) (v165 : BitVec 32) (k0_t51 : Fin (k0_t51_loop v165).trips) : Fin 2 → Nat :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let c1_i32_452 : BitVec 32 := 1#32
  let arg20 : BitVec 32 := Scf.iv v593 c1_i32_452 k0_t51
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off125 (v27 : BitVec 32) (v96 : BitVec 32) (v165 : BitVec 32) (k0_t51 : Fin (k0_t51_loop v165).trips) : Fin 2 → Nat :=
  let c0_i32_20 : BitVec 32 := 0#32
  let v28 : BitVec 32 := Scalar.addi c0_i32_20 v27
  let v97 : BitVec 32 := Scalar.addi v28 v96
  let c0_i32_448 : BitVec 32 := 0#32
  let c0_i32_449 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_443 : BitVec 32 := 0#32
  let v585 : BitVec 32 := Scalar.subi v203 c0_i32_443
  let c1_i32_444 : BitVec 32 := 1#32
  let c1_i32_445 : BitVec 32 := 1#32
  let v586 : BitVec 32 := Scalar.subi c1_i32_444 c1_i32_445
  let v587 : BitVec 32 := Scalar.addi v585 v586
  let c1_i32_446 : BitVec 32 := 1#32
  let v588 : BitVec 32 := Scalar.divsi v587 c1_i32_446
  let v589 : BitVec 32 := Scalar.subi v588 c0_i32_449
  let c1_i32_450 : BitVec 32 := 1#32
  let v591 : BitVec 32 := Scalar.divsi v589 c1_i32_450
  let v592 : BitVec 32 := Scalar.muli v591 c1_i32_450
  let v593 : BitVec 32 := Scalar.addi c0_i32_449 v592
  let c1_i32_452 : BitVec 32 := 1#32
  let arg20 : BitVec 32 := Scf.iv v593 c1_i32_452 k0_t51
  let c1_i32_447 : BitVec 32 := 1#32
  let v693 : BitVec 32 := Scalar.muli arg20 c1_i32_447
  let v694 : BitVec 32 := Scalar.addi c0_i32_448 v693
  let c128_i32_554 : BitVec 32 := 128#32
  let v695 : BitVec 32 := Scalar.muli v694 c128_i32_554
  let v696 : BitVec 32 := Scalar.addi v97 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t52_loop (v234 : BitVec 32) : Scf.Loop 32 :=
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let c1_i32_461 : BitVec 32 := 1#32
  ⟨c0_i32_459, v602, c1_i32_461⟩
def k0_mult93 (v27 : BitVec 32) (v96 : BitVec 32) (v165 : BitVec 32) (v234 : BitVec 32) (k0_t52 : Fin (k0_t52_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c1_i32_461 : BitVec 32 := 1#32
  let arg20 : BitVec 32 := Scf.iv c0_i32_459 c1_i32_461 k0_t52
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off126 (v27 : BitVec 32) (v96 : BitVec 32) (v165 : BitVec 32) (v234 : BitVec 32) (k0_t52 : Fin (k0_t52_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_458 : BitVec 32 := 0#32
  let c0_i32_459 : BitVec 32 := 0#32
  let c1_i32_461 : BitVec 32 := 1#32
  let arg20 : BitVec 32 := Scf.iv c0_i32_459 c1_i32_461 k0_t52
  let c1_i32_457 : BitVec 32 := 1#32
  let v693 : BitVec 32 := Scalar.muli arg20 c1_i32_457
  let v694 : BitVec 32 := Scalar.addi c0_i32_458 v693
  let v719 : BitVec 32 := Scalar.addi v228 v694
  let v720 : Index := Scalar.indexCast v719
  let c2048 : Index := 2048#32
  ![v720.toNat, 2048]
def k0_off127 (v27 : BitVec 32) (v96 : BitVec 32) (v165 : BitVec 32) (v234 : BitVec 32) (k0_t52 : Fin (k0_t52_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c1_i32_461 : BitVec 32 := 1#32
  let arg20 : BitVec 32 := Scf.iv c0_i32_459 c1_i32_461 k0_t52
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off128 (v27 : BitVec 32) (v96 : BitVec 32) (v165 : BitVec 32) (v234 : BitVec 32) (k0_t52 : Fin (k0_t52_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c1_i32_461 : BitVec 32 := 1#32
  let arg20 : BitVec 32 := Scf.iv c0_i32_459 c1_i32_461 k0_t52
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t53_loop (v234 : BitVec 32) : Scf.Loop 32 :=
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let v599 : BitVec 32 := Scalar.addi c0_i32_459 v598
  let c1_i32_462 : BitVec 32 := 1#32
  ⟨v602, v599, c1_i32_462⟩
def k0_mult94 (v27 : BitVec 32) (v96 : BitVec 32) (v165 : BitVec 32) (v234 : BitVec 32) (k0_t53 : Fin (k0_t53_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let c1_i32_462 : BitVec 32 := 1#32
  let arg20 : BitVec 32 := Scf.iv v602 c1_i32_462 k0_t53
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off129 (v27 : BitVec 32) (v96 : BitVec 32) (v165 : BitVec 32) (v234 : BitVec 32) (k0_t53 : Fin (k0_t53_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_458 : BitVec 32 := 0#32
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let c1_i32_462 : BitVec 32 := 1#32
  let arg20 : BitVec 32 := Scf.iv v602 c1_i32_462 k0_t53
  let c1_i32_457 : BitVec 32 := 1#32
  let v693 : BitVec 32 := Scalar.muli arg20 c1_i32_457
  let v694 : BitVec 32 := Scalar.addi c0_i32_458 v693
  let v719 : BitVec 32 := Scalar.addi v228 v694
  let v720 : Index := Scalar.indexCast v719
  let c2048 : Index := 2048#32
  ![v720.toNat, 2048]
def k0_off130 (v27 : BitVec 32) (v96 : BitVec 32) (v165 : BitVec 32) (v234 : BitVec 32) (k0_t53 : Fin (k0_t53_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let c1_i32_462 : BitVec 32 := 1#32
  let arg20 : BitVec 32 := Scf.iv v602 c1_i32_462 k0_t53
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off131 (v27 : BitVec 32) (v96 : BitVec 32) (v165 : BitVec 32) (v234 : BitVec 32) (k0_t53 : Fin (k0_t53_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_458 : BitVec 32 := 0#32
  let c0_i32_459 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_453 : BitVec 32 := 0#32
  let v594 : BitVec 32 := Scalar.subi v272 c0_i32_453
  let c1_i32_454 : BitVec 32 := 1#32
  let c1_i32_455 : BitVec 32 := 1#32
  let v595 : BitVec 32 := Scalar.subi c1_i32_454 c1_i32_455
  let v596 : BitVec 32 := Scalar.addi v594 v595
  let c1_i32_456 : BitVec 32 := 1#32
  let v597 : BitVec 32 := Scalar.divsi v596 c1_i32_456
  let v598 : BitVec 32 := Scalar.subi v597 c0_i32_459
  let c1_i32_460 : BitVec 32 := 1#32
  let v600 : BitVec 32 := Scalar.divsi v598 c1_i32_460
  let v601 : BitVec 32 := Scalar.muli v600 c1_i32_460
  let v602 : BitVec 32 := Scalar.addi c0_i32_459 v601
  let c1_i32_462 : BitVec 32 := 1#32
  let arg20 : BitVec 32 := Scf.iv v602 c1_i32_462 k0_t53
  let c1_i32_457 : BitVec 32 := 1#32
  let v693 : BitVec 32 := Scalar.muli arg20 c1_i32_457
  let v694 : BitVec 32 := Scalar.addi c0_i32_458 v693
  let c128_i32_554 : BitVec 32 := 128#32
  let v695 : BitVec 32 := Scalar.muli v694 c128_i32_554
  let v696 : BitVec 32 := Scalar.addi v166 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t54_loop (v303 : BitVec 32) : Scf.Loop 32 :=
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let c1_i32_471 : BitVec 32 := 1#32
  ⟨c0_i32_469, v611, c1_i32_471⟩
def k0_mult95 (v27 : BitVec 32) (v96 : BitVec 32) (v165 : BitVec 32) (v234 : BitVec 32) (v303 : BitVec 32) (k0_t54 : Fin (k0_t54_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c1_i32_471 : BitVec 32 := 1#32
  let arg20 : BitVec 32 := Scf.iv c0_i32_469 c1_i32_471 k0_t54
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off132 (v27 : BitVec 32) (v96 : BitVec 32) (v165 : BitVec 32) (v234 : BitVec 32) (v303 : BitVec 32) (k0_t54 : Fin (k0_t54_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_468 : BitVec 32 := 0#32
  let c0_i32_469 : BitVec 32 := 0#32
  let c1_i32_471 : BitVec 32 := 1#32
  let arg20 : BitVec 32 := Scf.iv c0_i32_469 c1_i32_471 k0_t54
  let c1_i32_467 : BitVec 32 := 1#32
  let v693 : BitVec 32 := Scalar.muli arg20 c1_i32_467
  let v694 : BitVec 32 := Scalar.addi c0_i32_468 v693
  let v719 : BitVec 32 := Scalar.addi v297 v694
  let v720 : Index := Scalar.indexCast v719
  let c2048 : Index := 2048#32
  ![v720.toNat, 2048]
def k0_off133 (v27 : BitVec 32) (v96 : BitVec 32) (v165 : BitVec 32) (v234 : BitVec 32) (v303 : BitVec 32) (k0_t54 : Fin (k0_t54_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c1_i32_471 : BitVec 32 := 1#32
  let arg20 : BitVec 32 := Scf.iv c0_i32_469 c1_i32_471 k0_t54
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off134 (v27 : BitVec 32) (v96 : BitVec 32) (v165 : BitVec 32) (v234 : BitVec 32) (v303 : BitVec 32) (k0_t54 : Fin (k0_t54_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c1_i32_471 : BitVec 32 := 1#32
  let arg20 : BitVec 32 := Scf.iv c0_i32_469 c1_i32_471 k0_t54
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t55_loop (v303 : BitVec 32) : Scf.Loop 32 :=
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let v608 : BitVec 32 := Scalar.addi c0_i32_469 v607
  let c1_i32_472 : BitVec 32 := 1#32
  ⟨v611, v608, c1_i32_472⟩
def k0_mult96 (v27 : BitVec 32) (v96 : BitVec 32) (v165 : BitVec 32) (v234 : BitVec 32) (v303 : BitVec 32) (k0_t55 : Fin (k0_t55_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let c1_i32_472 : BitVec 32 := 1#32
  let arg20 : BitVec 32 := Scf.iv v611 c1_i32_472 k0_t55
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  v717
def k0_off135 (v27 : BitVec 32) (v96 : BitVec 32) (v165 : BitVec 32) (v234 : BitVec 32) (v303 : BitVec 32) (k0_t55 : Fin (k0_t55_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_468 : BitVec 32 := 0#32
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let c1_i32_472 : BitVec 32 := 1#32
  let arg20 : BitVec 32 := Scf.iv v611 c1_i32_472 k0_t55
  let c1_i32_467 : BitVec 32 := 1#32
  let v693 : BitVec 32 := Scalar.muli arg20 c1_i32_467
  let v694 : BitVec 32 := Scalar.addi c0_i32_468 v693
  let v719 : BitVec 32 := Scalar.addi v297 v694
  let v720 : Index := Scalar.indexCast v719
  let c2048 : Index := 2048#32
  ![v720.toNat, 2048]
def k0_off136 (v27 : BitVec 32) (v96 : BitVec 32) (v165 : BitVec 32) (v234 : BitVec 32) (v303 : BitVec 32) (k0_t55 : Fin (k0_t55_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let c1_i32_472 : BitVec 32 := 1#32
  let arg20 : BitVec 32 := Scf.iv v611 c1_i32_472 k0_t55
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v723 : Index := Scalar.indexCast v718
  let c2048_563 : Index := 2048#32
  ![v723.toNat, 2048]
def k0_off137 (v27 : BitVec 32) (v96 : BitVec 32) (v165 : BitVec 32) (v234 : BitVec 32) (v303 : BitVec 32) (k0_t55 : Fin (k0_t55_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_468 : BitVec 32 := 0#32
  let c0_i32_469 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_463 : BitVec 32 := 0#32
  let v603 : BitVec 32 := Scalar.subi v341 c0_i32_463
  let c1_i32_464 : BitVec 32 := 1#32
  let c1_i32_465 : BitVec 32 := 1#32
  let v604 : BitVec 32 := Scalar.subi c1_i32_464 c1_i32_465
  let v605 : BitVec 32 := Scalar.addi v603 v604
  let c1_i32_466 : BitVec 32 := 1#32
  let v606 : BitVec 32 := Scalar.divsi v605 c1_i32_466
  let v607 : BitVec 32 := Scalar.subi v606 c0_i32_469
  let c1_i32_470 : BitVec 32 := 1#32
  let v609 : BitVec 32 := Scalar.divsi v607 c1_i32_470
  let v610 : BitVec 32 := Scalar.muli v609 c1_i32_470
  let v611 : BitVec 32 := Scalar.addi c0_i32_469 v610
  let c1_i32_472 : BitVec 32 := 1#32
  let arg20 : BitVec 32 := Scf.iv v611 c1_i32_472 k0_t55
  let c1_i32_467 : BitVec 32 := 1#32
  let v693 : BitVec 32 := Scalar.muli arg20 c1_i32_467
  let v694 : BitVec 32 := Scalar.addi c0_i32_468 v693
  let c128_i32_554 : BitVec 32 := 128#32
  let v695 : BitVec 32 := Scalar.muli v694 c128_i32_554
  let v696 : BitVec 32 := Scalar.addi v235 v695
  let c0_i32_556 : BitVec 32 := 0#32
  let v700 : BitVec 1 := Scalar.cmpi .sgt v696 c0_i32_556
  let v701 : BitVec 32 := Scalar.extui v700
  let c0_i32_557 : BitVec 32 := 0#32
  let v702 : BitVec 1 := Scalar.cmpi .slt v696 c0_i32_557
  let v703 : BitVec 32 := Scalar.extui v702
  let v704 : BitVec 32 := Scalar.subi v701 v703
  let c32_i32 : BitVec 32 := 32#32
  let c0_i32_558 : BitVec 32 := 0#32
  let v705 : BitVec 1 := Scalar.cmpi .sgt c32_i32 c0_i32_558
  let v706 : BitVec 32 := Scalar.extui v705
  let c0_i32_559 : BitVec 32 := 0#32
  let v707 : BitVec 1 := Scalar.cmpi .slt c32_i32 c0_i32_559
  let v708 : BitVec 32 := Scalar.extui v707
  let v709 : BitVec 32 := Scalar.subi v706 v708
  let v710 : BitVec 1 := Scalar.cmpi .ne v704 v709
  let v711 : BitVec 32 := Scalar.remsi v696 c32_i32
  let c0_i32_560 : BitVec 32 := 0#32
  let v712 : BitVec 1 := Scalar.cmpi .ne v711 c0_i32_560
  let v713 : BitVec 1 := Scalar.andi v710 v712
  let v699 : BitVec 32 := Scalar.divsi v696 c32_i32
  let c1_i32_561 : BitVec 32 := 1#32
  let v714 : BitVec 32 := Scalar.subi v699 c1_i32_561
  let v715 : BitVec 32 := Scalar.select v713 v714 v699
  let c32_i32_562 : BitVec 32 := 32#32
  let v716 : BitVec 32 := Scalar.muli v715 c32_i32_562
  let c1376_i32 : BitVec 32 := 1376#32
  let v717 : BitVec 32 := Scalar.minsi v716 c1376_i32
  let v718 : BitVec 32 := v717
  let v736 : Index := Scalar.indexCast v718
  let c0_564 : Index := 0#32
  ![v736.toNat, 0]
@[reducible] def k0_t56_loop (v27 : BitVec 32) : Scf.Loop 32 :=
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let c1_i32_483 : BitVec 32 := 1#32
  ⟨c0_i32_481, v620, c1_i32_483⟩
def k0_mult97 (v27 : BitVec 32) (k0_t56 : Fin (k0_t56_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_478 : BitVec 32 := 0#32
  let c0_i32_481 : BitVec 32 := 0#32
  let c1_i32_483 : BitVec 32 := 1#32
  let arg20 : BitVec 32 := Scf.iv c0_i32_481 c1_i32_483 k0_t56
  let c1_i32_477 : BitVec 32 := 1#32
  let v693 : BitVec 32 := Scalar.muli arg20 c1_i32_477
  let v694 : BitVec 32 := Scalar.addi c0_i32_478 v693
  let c256_i32_554 : BitVec 32 := 256#32
  let v695 : BitVec 32 := Scalar.muli v694 c256_i32_554
  let v696 : BitVec 32 := Scalar.addi v47 v695
  v696
def k0_off138 (v27 : BitVec 32) (k0_t56 : Fin (k0_t56_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_478 : BitVec 32 := 0#32
  let c0_i32_481 : BitVec 32 := 0#32
  let c1_i32_483 : BitVec 32 := 1#32
  let arg20 : BitVec 32 := Scf.iv c0_i32_481 c1_i32_483 k0_t56
  let c1_i32_477 : BitVec 32 := 1#32
  let v693 : BitVec 32 := Scalar.muli arg20 c1_i32_477
  let v694 : BitVec 32 := Scalar.addi c0_i32_478 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult98 (v27 : BitVec 32) (k0_t56 : Fin (k0_t56_loop v27).trips) : BitVec 32 :=
  let c0_i32_480 : BitVec 32 := 0#32
  let c0_i32_478 : BitVec 32 := 0#32
  let c0_i32_481 : BitVec 32 := 0#32
  let c1_i32_483 : BitVec 32 := 1#32
  let arg20 : BitVec 32 := Scf.iv c0_i32_481 c1_i32_483 k0_t56
  let c1_i32_477 : BitVec 32 := 1#32
  let v693 : BitVec 32 := Scalar.muli arg20 c1_i32_477
  let v694 : BitVec 32 := Scalar.addi c0_i32_478 v693
  let c256_i32_557 : BitVec 32 := 256#32
  let v710 : BitVec 32 := Scalar.muli v694 c256_i32_557
  let v711 : BitVec 32 := Scalar.addi c0_i32_480 v710
  v711
def k0_off139 (v27 : BitVec 32) (k0_t56 : Fin (k0_t56_loop v27).trips) : Fin 2 → Nat :=
  let c2048 : Index := 2048#32
  let c0_i32_480 : BitVec 32 := 0#32
  let c0_i32_478 : BitVec 32 := 0#32
  let c0_i32_481 : BitVec 32 := 0#32
  let c1_i32_483 : BitVec 32 := 1#32
  let arg20 : BitVec 32 := Scf.iv c0_i32_481 c1_i32_483 k0_t56
  let c1_i32_477 : BitVec 32 := 1#32
  let v693 : BitVec 32 := Scalar.muli arg20 c1_i32_477
  let v694 : BitVec 32 := Scalar.addi c0_i32_478 v693
  let c256_i32_557 : BitVec 32 := 256#32
  let v710 : BitVec 32 := Scalar.muli v694 c256_i32_557
  let v711 : BitVec 32 := Scalar.addi c0_i32_480 v710
  let v712 : BitVec 32 := v711
  let v714 : Index := Scalar.indexCast v712
  ![2048, v714.toNat]
@[reducible] def k0_t57_loop (v27 : BitVec 32) : Scf.Loop 32 :=
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let v617 : BitVec 32 := Scalar.addi c0_i32_481 v616
  let c1_i32_484 : BitVec 32 := 1#32
  ⟨v620, v617, c1_i32_484⟩
def k0_mult99 (v27 : BitVec 32) (k0_t57 : Fin (k0_t57_loop v27).trips) : BitVec 32 :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_478 : BitVec 32 := 0#32
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let c1_i32_484 : BitVec 32 := 1#32
  let arg20 : BitVec 32 := Scf.iv v620 c1_i32_484 k0_t57
  let c1_i32_477 : BitVec 32 := 1#32
  let v693 : BitVec 32 := Scalar.muli arg20 c1_i32_477
  let v694 : BitVec 32 := Scalar.addi c0_i32_478 v693
  let c256_i32_554 : BitVec 32 := 256#32
  let v695 : BitVec 32 := Scalar.muli v694 c256_i32_554
  let v696 : BitVec 32 := Scalar.addi v47 v695
  v696
def k0_off140 (v27 : BitVec 32) (k0_t57 : Fin (k0_t57_loop v27).trips) : Fin 2 → Nat :=
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let c0_i32_478 : BitVec 32 := 0#32
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let c1_i32_484 : BitVec 32 := 1#32
  let arg20 : BitVec 32 := Scf.iv v620 c1_i32_484 k0_t57
  let c1_i32_477 : BitVec 32 := 1#32
  let v693 : BitVec 32 := Scalar.muli arg20 c1_i32_477
  let v694 : BitVec 32 := Scalar.addi c0_i32_478 v693
  let c256_i32_554 : BitVec 32 := 256#32
  let v695 : BitVec 32 := Scalar.muli v694 c256_i32_554
  let v696 : BitVec 32 := Scalar.addi v47 v695
  let v697 : BitVec 32 := v696
  let v698 : Index := Scalar.indexCast v697
  let c0_555 : Index := 0#32
  ![v698.toNat, 0]
def k0_mult100 (v27 : BitVec 32) (k0_t57 : Fin (k0_t57_loop v27).trips) : BitVec 32 :=
  let c0_i32_480 : BitVec 32 := 0#32
  let c0_i32_478 : BitVec 32 := 0#32
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let c1_i32_484 : BitVec 32 := 1#32
  let arg20 : BitVec 32 := Scf.iv v620 c1_i32_484 k0_t57
  let c1_i32_477 : BitVec 32 := 1#32
  let v693 : BitVec 32 := Scalar.muli arg20 c1_i32_477
  let v694 : BitVec 32 := Scalar.addi c0_i32_478 v693
  let c256_i32_557 : BitVec 32 := 256#32
  let v710 : BitVec 32 := Scalar.muli v694 c256_i32_557
  let v711 : BitVec 32 := Scalar.addi c0_i32_480 v710
  v711
def k0_off141 (v27 : BitVec 32) (k0_t57 : Fin (k0_t57_loop v27).trips) : Fin 2 → Nat :=
  let c2048 : Index := 2048#32
  let c0_i32_480 : BitVec 32 := 0#32
  let c0_i32_478 : BitVec 32 := 0#32
  let c0_i32_481 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c0_i32_473 : BitVec 32 := 0#32
  let v612 : BitVec 32 := Scalar.subi v86 c0_i32_473
  let c1_i32_474 : BitVec 32 := 1#32
  let c1_i32_475 : BitVec 32 := 1#32
  let v613 : BitVec 32 := Scalar.subi c1_i32_474 c1_i32_475
  let v614 : BitVec 32 := Scalar.addi v612 v613
  let c1_i32_476 : BitVec 32 := 1#32
  let v615 : BitVec 32 := Scalar.divsi v614 c1_i32_476
  let v616 : BitVec 32 := Scalar.subi v615 c0_i32_481
  let c1_i32_482 : BitVec 32 := 1#32
  let v618 : BitVec 32 := Scalar.divsi v616 c1_i32_482
  let v619 : BitVec 32 := Scalar.muli v618 c1_i32_482
  let v620 : BitVec 32 := Scalar.addi c0_i32_481 v619
  let c1_i32_484 : BitVec 32 := 1#32
  let arg20 : BitVec 32 := Scf.iv v620 c1_i32_484 k0_t57
  let c1_i32_477 : BitVec 32 := 1#32
  let v693 : BitVec 32 := Scalar.muli arg20 c1_i32_477
  let v694 : BitVec 32 := Scalar.addi c0_i32_478 v693
  let c256_i32_557 : BitVec 32 := 256#32
  let v710 : BitVec 32 := Scalar.muli v694 c256_i32_557
  let v711 : BitVec 32 := Scalar.addi c0_i32_480 v710
  let v712 : BitVec 32 := v711
  let v714 : Index := Scalar.indexCast v712
  ![2048, v714.toNat]
@[reducible] def k0_t58_loop (v27 : BitVec 32) (v96 : BitVec 32) : Scf.Loop 32 :=
  let c0_i32_491 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let c1_i32_493 : BitVec 32 := 1#32
  ⟨c0_i32_491, v629, c1_i32_493⟩
def k0_mult101 (v27 : BitVec 32) (v96 : BitVec 32) (k0_t58 : Fin (k0_t58_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_490 : BitVec 32 := 0#32
  let c0_i32_491 : BitVec 32 := 0#32
  let c1_i32_493 : BitVec 32 := 1#32
  let arg20 : BitVec 32 := Scf.iv c0_i32_491 c1_i32_493 k0_t58
  let c1_i32_489 : BitVec 32 := 1#32
  let v693 : BitVec 32 := Scalar.muli arg20 c1_i32_489
  let v694 : BitVec 32 := Scalar.addi c0_i32_490 v693
  let c256_i32_554 : BitVec 32 := 256#32
  let v695 : BitVec 32 := Scalar.muli v694 c256_i32_554
  let v696 : BitVec 32 := Scalar.addi v116 v695
  v696
def k0_off142 (v27 : BitVec 32) (v96 : BitVec 32) (k0_t58 : Fin (k0_t58_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_490 : BitVec 32 := 0#32
  let c0_i32_491 : BitVec 32 := 0#32
  let c1_i32_493 : BitVec 32 := 1#32
  let arg20 : BitVec 32 := Scf.iv c0_i32_491 c1_i32_493 k0_t58
  let c1_i32_489 : BitVec 32 := 1#32
  let v693 : BitVec 32 := Scalar.muli arg20 c1_i32_489
  let v694 : BitVec 32 := Scalar.addi c0_i32_490 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult102 (v27 : BitVec 32) (v96 : BitVec 32) (k0_t58 : Fin (k0_t58_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_490 : BitVec 32 := 0#32
  let c0_i32_491 : BitVec 32 := 0#32
  let c1_i32_493 : BitVec 32 := 1#32
  let arg20 : BitVec 32 := Scf.iv c0_i32_491 c1_i32_493 k0_t58
  let c1_i32_489 : BitVec 32 := 1#32
  let v693 : BitVec 32 := Scalar.muli arg20 c1_i32_489
  let v694 : BitVec 32 := Scalar.addi c0_i32_490 v693
  let c256_i32_557 : BitVec 32 := 256#32
  let v710 : BitVec 32 := Scalar.muli v694 c256_i32_557
  let v711 : BitVec 32 := Scalar.addi v92 v710
  v711
def k0_off143 (v27 : BitVec 32) (v96 : BitVec 32) (k0_t58 : Fin (k0_t58_loop v27 v96).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_490 : BitVec 32 := 0#32
  let c0_i32_491 : BitVec 32 := 0#32
  let c1_i32_493 : BitVec 32 := 1#32
  let arg20 : BitVec 32 := Scf.iv c0_i32_491 c1_i32_493 k0_t58
  let c1_i32_489 : BitVec 32 := 1#32
  let v693 : BitVec 32 := Scalar.muli arg20 c1_i32_489
  let v694 : BitVec 32 := Scalar.addi c0_i32_490 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![2048, v714.toNat]
@[reducible] def k0_t59_loop (v27 : BitVec 32) (v96 : BitVec 32) : Scf.Loop 32 :=
  let c0_i32_491 : BitVec 32 := 0#32
  let c0_i32_70 : BitVec 32 := 0#32
  let v135 : BitVec 1 := Scalar.cmpi .sgt v96 c0_i32_70
  let c0_i32_20 : BitVec 32 := 0#32
  let v28 : BitVec 32 := Scalar.addi c0_i32_20 v27
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let v626 : BitVec 32 := Scalar.addi c0_i32_491 v625
  let c1_i32_494 : BitVec 32 := 1#32
  ⟨v629, v626, c1_i32_494⟩
def k0_mult103 (v27 : BitVec 32) (v96 : BitVec 32) (k0_t59 : Fin (k0_t59_loop v27 v96).trips) : BitVec 32 :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_490 : BitVec 32 := 0#32
  let c0_i32_491 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let c1_i32_494 : BitVec 32 := 1#32
  let arg20 : BitVec 32 := Scf.iv v629 c1_i32_494 k0_t59
  let c1_i32_489 : BitVec 32 := 1#32
  let v693 : BitVec 32 := Scalar.muli arg20 c1_i32_489
  let v694 : BitVec 32 := Scalar.addi c0_i32_490 v693
  let c256_i32_554 : BitVec 32 := 256#32
  let v695 : BitVec 32 := Scalar.muli v694 c256_i32_554
  let v696 : BitVec 32 := Scalar.addi v116 v695
  v696
def k0_off144 (v27 : BitVec 32) (v96 : BitVec 32) (k0_t59 : Fin (k0_t59_loop v27 v96).trips) : Fin 2 → Nat :=
  let c0_i32_20 : BitVec 32 := 0#32
  let v28 : BitVec 32 := Scalar.addi c0_i32_20 v27
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let c0_i32_490 : BitVec 32 := 0#32
  let c0_i32_491 : BitVec 32 := 0#32
  let c0_i32_70 : BitVec 32 := 0#32
  let v135 : BitVec 1 := Scalar.cmpi .sgt v96 c0_i32_70
  let v97 : BitVec 32 := Scalar.addi v28 v96
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let c1_i32_494 : BitVec 32 := 1#32
  let arg20 : BitVec 32 := Scf.iv v629 c1_i32_494 k0_t59
  let c1_i32_489 : BitVec 32 := 1#32
  let v693 : BitVec 32 := Scalar.muli arg20 c1_i32_489
  let v694 : BitVec 32 := Scalar.addi c0_i32_490 v693
  let c256_i32_554 : BitVec 32 := 256#32
  let v695 : BitVec 32 := Scalar.muli v694 c256_i32_554
  let v696 : BitVec 32 := Scalar.addi v116 v695
  let v697 : BitVec 32 := v696
  let v698 : Index := Scalar.indexCast v697
  let c0_555 : Index := 0#32
  ![v698.toNat, 0]
def k0_mult104 (v27 : BitVec 32) (v96 : BitVec 32) (k0_t59 : Fin (k0_t59_loop v27 v96).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_490 : BitVec 32 := 0#32
  let c0_i32_491 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let c1_i32_494 : BitVec 32 := 1#32
  let arg20 : BitVec 32 := Scf.iv v629 c1_i32_494 k0_t59
  let c1_i32_489 : BitVec 32 := 1#32
  let v693 : BitVec 32 := Scalar.muli arg20 c1_i32_489
  let v694 : BitVec 32 := Scalar.addi c0_i32_490 v693
  let c256_i32_557 : BitVec 32 := 256#32
  let v710 : BitVec 32 := Scalar.muli v694 c256_i32_557
  let v711 : BitVec 32 := Scalar.addi v92 v710
  v711
def k0_off145 (v27 : BitVec 32) (v96 : BitVec 32) (k0_t59 : Fin (k0_t59_loop v27 v96).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_490 : BitVec 32 := 0#32
  let c0_i32_491 : BitVec 32 := 0#32
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c0_i32_485 : BitVec 32 := 0#32
  let v621 : BitVec 32 := Scalar.subi v155 c0_i32_485
  let c1_i32_486 : BitVec 32 := 1#32
  let c1_i32_487 : BitVec 32 := 1#32
  let v622 : BitVec 32 := Scalar.subi c1_i32_486 c1_i32_487
  let v623 : BitVec 32 := Scalar.addi v621 v622
  let c1_i32_488 : BitVec 32 := 1#32
  let v624 : BitVec 32 := Scalar.divsi v623 c1_i32_488
  let v625 : BitVec 32 := Scalar.subi v624 c0_i32_491
  let c1_i32_492 : BitVec 32 := 1#32
  let v627 : BitVec 32 := Scalar.divsi v625 c1_i32_492
  let v628 : BitVec 32 := Scalar.muli v627 c1_i32_492
  let v629 : BitVec 32 := Scalar.addi c0_i32_491 v628
  let c1_i32_494 : BitVec 32 := 1#32
  let arg20 : BitVec 32 := Scf.iv v629 c1_i32_494 k0_t59
  let c1_i32_489 : BitVec 32 := 1#32
  let v693 : BitVec 32 := Scalar.muli arg20 c1_i32_489
  let v694 : BitVec 32 := Scalar.addi c0_i32_490 v693
  let c256_i32_557 : BitVec 32 := 256#32
  let v710 : BitVec 32 := Scalar.muli v694 c256_i32_557
  let v711 : BitVec 32 := Scalar.addi v92 v710
  let v712 : BitVec 32 := v711
  let v714 : Index := Scalar.indexCast v712
  ![2048, v714.toNat]
@[reducible] def k0_t60_loop (v27 : BitVec 32) (v96 : BitVec 32) (v165 : BitVec 32) : Scf.Loop 32 :=
  let c0_i32_501 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let c1_i32_503 : BitVec 32 := 1#32
  ⟨c0_i32_501, v638, c1_i32_503⟩
def k0_mult105 (v27 : BitVec 32) (v96 : BitVec 32) (v165 : BitVec 32) (k0_t60 : Fin (k0_t60_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_500 : BitVec 32 := 0#32
  let c0_i32_501 : BitVec 32 := 0#32
  let c1_i32_503 : BitVec 32 := 1#32
  let arg20 : BitVec 32 := Scf.iv c0_i32_501 c1_i32_503 k0_t60
  let c1_i32_499 : BitVec 32 := 1#32
  let v693 : BitVec 32 := Scalar.muli arg20 c1_i32_499
  let v694 : BitVec 32 := Scalar.addi c0_i32_500 v693
  let c256_i32_554 : BitVec 32 := 256#32
  let v695 : BitVec 32 := Scalar.muli v694 c256_i32_554
  let v696 : BitVec 32 := Scalar.addi v185 v695
  v696
def k0_off146 (v27 : BitVec 32) (v96 : BitVec 32) (v165 : BitVec 32) (k0_t60 : Fin (k0_t60_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_500 : BitVec 32 := 0#32
  let c0_i32_501 : BitVec 32 := 0#32
  let c1_i32_503 : BitVec 32 := 1#32
  let arg20 : BitVec 32 := Scf.iv c0_i32_501 c1_i32_503 k0_t60
  let c1_i32_499 : BitVec 32 := 1#32
  let v693 : BitVec 32 := Scalar.muli arg20 c1_i32_499
  let v694 : BitVec 32 := Scalar.addi c0_i32_500 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult106 (v27 : BitVec 32) (v96 : BitVec 32) (v165 : BitVec 32) (k0_t60 : Fin (k0_t60_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_500 : BitVec 32 := 0#32
  let c0_i32_501 : BitVec 32 := 0#32
  let c1_i32_503 : BitVec 32 := 1#32
  let arg20 : BitVec 32 := Scf.iv c0_i32_501 c1_i32_503 k0_t60
  let c1_i32_499 : BitVec 32 := 1#32
  let v693 : BitVec 32 := Scalar.muli arg20 c1_i32_499
  let v694 : BitVec 32 := Scalar.addi c0_i32_500 v693
  let c256_i32_557 : BitVec 32 := 256#32
  let v710 : BitVec 32 := Scalar.muli v694 c256_i32_557
  let v711 : BitVec 32 := Scalar.addi v161 v710
  v711
def k0_off147 (v27 : BitVec 32) (v96 : BitVec 32) (v165 : BitVec 32) (k0_t60 : Fin (k0_t60_loop v27 v96 v165).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_500 : BitVec 32 := 0#32
  let c0_i32_501 : BitVec 32 := 0#32
  let c1_i32_503 : BitVec 32 := 1#32
  let arg20 : BitVec 32 := Scf.iv c0_i32_501 c1_i32_503 k0_t60
  let c1_i32_499 : BitVec 32 := 1#32
  let v693 : BitVec 32 := Scalar.muli arg20 c1_i32_499
  let v694 : BitVec 32 := Scalar.addi c0_i32_500 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![2048, v714.toNat]
@[reducible] def k0_t61_loop (v27 : BitVec 32) (v96 : BitVec 32) (v165 : BitVec 32) : Scf.Loop 32 :=
  let c0_i32_501 : BitVec 32 := 0#32
  let c0_i32_106 : BitVec 32 := 0#32
  let v204 : BitVec 1 := Scalar.cmpi .sgt v165 c0_i32_106
  let c0_i32_20 : BitVec 32 := 0#32
  let v28 : BitVec 32 := Scalar.addi c0_i32_20 v27
  let v97 : BitVec 32 := Scalar.addi v28 v96
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let v635 : BitVec 32 := Scalar.addi c0_i32_501 v634
  let c1_i32_504 : BitVec 32 := 1#32
  ⟨v638, v635, c1_i32_504⟩
def k0_mult107 (v27 : BitVec 32) (v96 : BitVec 32) (v165 : BitVec 32) (k0_t61 : Fin (k0_t61_loop v27 v96 v165).trips) : BitVec 32 :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_500 : BitVec 32 := 0#32
  let c0_i32_501 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let c1_i32_504 : BitVec 32 := 1#32
  let arg20 : BitVec 32 := Scf.iv v638 c1_i32_504 k0_t61
  let c1_i32_499 : BitVec 32 := 1#32
  let v693 : BitVec 32 := Scalar.muli arg20 c1_i32_499
  let v694 : BitVec 32 := Scalar.addi c0_i32_500 v693
  let c256_i32_554 : BitVec 32 := 256#32
  let v695 : BitVec 32 := Scalar.muli v694 c256_i32_554
  let v696 : BitVec 32 := Scalar.addi v185 v695
  v696
def k0_off148 (v27 : BitVec 32) (v96 : BitVec 32) (v165 : BitVec 32) (k0_t61 : Fin (k0_t61_loop v27 v96 v165).trips) : Fin 2 → Nat :=
  let c0_i32_20 : BitVec 32 := 0#32
  let v28 : BitVec 32 := Scalar.addi c0_i32_20 v27
  let v97 : BitVec 32 := Scalar.addi v28 v96
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let c0_i32_500 : BitVec 32 := 0#32
  let c0_i32_501 : BitVec 32 := 0#32
  let c0_i32_106 : BitVec 32 := 0#32
  let v204 : BitVec 1 := Scalar.cmpi .sgt v165 c0_i32_106
  let v166 : BitVec 32 := Scalar.addi v97 v165
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let c1_i32_504 : BitVec 32 := 1#32
  let arg20 : BitVec 32 := Scf.iv v638 c1_i32_504 k0_t61
  let c1_i32_499 : BitVec 32 := 1#32
  let v693 : BitVec 32 := Scalar.muli arg20 c1_i32_499
  let v694 : BitVec 32 := Scalar.addi c0_i32_500 v693
  let c256_i32_554 : BitVec 32 := 256#32
  let v695 : BitVec 32 := Scalar.muli v694 c256_i32_554
  let v696 : BitVec 32 := Scalar.addi v185 v695
  let v697 : BitVec 32 := v696
  let v698 : Index := Scalar.indexCast v697
  let c0_555 : Index := 0#32
  ![v698.toNat, 0]
def k0_mult108 (v27 : BitVec 32) (v96 : BitVec 32) (v165 : BitVec 32) (k0_t61 : Fin (k0_t61_loop v27 v96 v165).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_500 : BitVec 32 := 0#32
  let c0_i32_501 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let c1_i32_504 : BitVec 32 := 1#32
  let arg20 : BitVec 32 := Scf.iv v638 c1_i32_504 k0_t61
  let c1_i32_499 : BitVec 32 := 1#32
  let v693 : BitVec 32 := Scalar.muli arg20 c1_i32_499
  let v694 : BitVec 32 := Scalar.addi c0_i32_500 v693
  let c256_i32_557 : BitVec 32 := 256#32
  let v710 : BitVec 32 := Scalar.muli v694 c256_i32_557
  let v711 : BitVec 32 := Scalar.addi v161 v710
  v711
def k0_off149 (v27 : BitVec 32) (v96 : BitVec 32) (v165 : BitVec 32) (k0_t61 : Fin (k0_t61_loop v27 v96 v165).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_500 : BitVec 32 := 0#32
  let c0_i32_501 : BitVec 32 := 0#32
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c0_i32_495 : BitVec 32 := 0#32
  let v630 : BitVec 32 := Scalar.subi v224 c0_i32_495
  let c1_i32_496 : BitVec 32 := 1#32
  let c1_i32_497 : BitVec 32 := 1#32
  let v631 : BitVec 32 := Scalar.subi c1_i32_496 c1_i32_497
  let v632 : BitVec 32 := Scalar.addi v630 v631
  let c1_i32_498 : BitVec 32 := 1#32
  let v633 : BitVec 32 := Scalar.divsi v632 c1_i32_498
  let v634 : BitVec 32 := Scalar.subi v633 c0_i32_501
  let c1_i32_502 : BitVec 32 := 1#32
  let v636 : BitVec 32 := Scalar.divsi v634 c1_i32_502
  let v637 : BitVec 32 := Scalar.muli v636 c1_i32_502
  let v638 : BitVec 32 := Scalar.addi c0_i32_501 v637
  let c1_i32_504 : BitVec 32 := 1#32
  let arg20 : BitVec 32 := Scf.iv v638 c1_i32_504 k0_t61
  let c1_i32_499 : BitVec 32 := 1#32
  let v693 : BitVec 32 := Scalar.muli arg20 c1_i32_499
  let v694 : BitVec 32 := Scalar.addi c0_i32_500 v693
  let c256_i32_557 : BitVec 32 := 256#32
  let v710 : BitVec 32 := Scalar.muli v694 c256_i32_557
  let v711 : BitVec 32 := Scalar.addi v161 v710
  let v712 : BitVec 32 := v711
  let v714 : Index := Scalar.indexCast v712
  ![2048, v714.toNat]
@[reducible] def k0_t62_loop (v27 : BitVec 32) (v96 : BitVec 32) (v165 : BitVec 32) (v234 : BitVec 32) : Scf.Loop 32 :=
  let c0_i32_511 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let c1_i32_513 : BitVec 32 := 1#32
  ⟨c0_i32_511, v647, c1_i32_513⟩
def k0_mult109 (v27 : BitVec 32) (v96 : BitVec 32) (v165 : BitVec 32) (v234 : BitVec 32) (k0_t62 : Fin (k0_t62_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_510 : BitVec 32 := 0#32
  let c0_i32_511 : BitVec 32 := 0#32
  let c1_i32_513 : BitVec 32 := 1#32
  let arg20 : BitVec 32 := Scf.iv c0_i32_511 c1_i32_513 k0_t62
  let c1_i32_509 : BitVec 32 := 1#32
  let v693 : BitVec 32 := Scalar.muli arg20 c1_i32_509
  let v694 : BitVec 32 := Scalar.addi c0_i32_510 v693
  let c256_i32_554 : BitVec 32 := 256#32
  let v695 : BitVec 32 := Scalar.muli v694 c256_i32_554
  let v696 : BitVec 32 := Scalar.addi v254 v695
  v696
def k0_off150 (v27 : BitVec 32) (v96 : BitVec 32) (v165 : BitVec 32) (v234 : BitVec 32) (k0_t62 : Fin (k0_t62_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_510 : BitVec 32 := 0#32
  let c0_i32_511 : BitVec 32 := 0#32
  let c1_i32_513 : BitVec 32 := 1#32
  let arg20 : BitVec 32 := Scf.iv c0_i32_511 c1_i32_513 k0_t62
  let c1_i32_509 : BitVec 32 := 1#32
  let v693 : BitVec 32 := Scalar.muli arg20 c1_i32_509
  let v694 : BitVec 32 := Scalar.addi c0_i32_510 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult110 (v27 : BitVec 32) (v96 : BitVec 32) (v165 : BitVec 32) (v234 : BitVec 32) (k0_t62 : Fin (k0_t62_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_510 : BitVec 32 := 0#32
  let c0_i32_511 : BitVec 32 := 0#32
  let c1_i32_513 : BitVec 32 := 1#32
  let arg20 : BitVec 32 := Scf.iv c0_i32_511 c1_i32_513 k0_t62
  let c1_i32_509 : BitVec 32 := 1#32
  let v693 : BitVec 32 := Scalar.muli arg20 c1_i32_509
  let v694 : BitVec 32 := Scalar.addi c0_i32_510 v693
  let c256_i32_557 : BitVec 32 := 256#32
  let v710 : BitVec 32 := Scalar.muli v694 c256_i32_557
  let v711 : BitVec 32 := Scalar.addi v230 v710
  v711
def k0_off151 (v27 : BitVec 32) (v96 : BitVec 32) (v165 : BitVec 32) (v234 : BitVec 32) (k0_t62 : Fin (k0_t62_loop v27 v96 v165 v234).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_510 : BitVec 32 := 0#32
  let c0_i32_511 : BitVec 32 := 0#32
  let c1_i32_513 : BitVec 32 := 1#32
  let arg20 : BitVec 32 := Scf.iv c0_i32_511 c1_i32_513 k0_t62
  let c1_i32_509 : BitVec 32 := 1#32
  let v693 : BitVec 32 := Scalar.muli arg20 c1_i32_509
  let v694 : BitVec 32 := Scalar.addi c0_i32_510 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![2048, v714.toNat]
@[reducible] def k0_t63_loop (v27 : BitVec 32) (v96 : BitVec 32) (v165 : BitVec 32) (v234 : BitVec 32) : Scf.Loop 32 :=
  let c0_i32_511 : BitVec 32 := 0#32
  let c0_i32_141 : BitVec 32 := 0#32
  let v273 : BitVec 1 := Scalar.cmpi .sgt v234 c0_i32_141
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let v644 : BitVec 32 := Scalar.addi c0_i32_511 v643
  let c1_i32_514 : BitVec 32 := 1#32
  ⟨v647, v644, c1_i32_514⟩
def k0_mult111 (v27 : BitVec 32) (v96 : BitVec 32) (v165 : BitVec 32) (v234 : BitVec 32) (k0_t63 : Fin (k0_t63_loop v27 v96 v165 v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_510 : BitVec 32 := 0#32
  let c0_i32_511 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let c1_i32_514 : BitVec 32 := 1#32
  let arg20 : BitVec 32 := Scf.iv v647 c1_i32_514 k0_t63
  let c1_i32_509 : BitVec 32 := 1#32
  let v693 : BitVec 32 := Scalar.muli arg20 c1_i32_509
  let v694 : BitVec 32 := Scalar.addi c0_i32_510 v693
  let c256_i32_554 : BitVec 32 := 256#32
  let v695 : BitVec 32 := Scalar.muli v694 c256_i32_554
  let v696 : BitVec 32 := Scalar.addi v254 v695
  v696
def k0_off152 (v27 : BitVec 32) (v96 : BitVec 32) (v165 : BitVec 32) (v234 : BitVec 32) (k0_t63 : Fin (k0_t63_loop v27 v96 v165 v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let c0_i32_510 : BitVec 32 := 0#32
  let c0_i32_511 : BitVec 32 := 0#32
  let c0_i32_141 : BitVec 32 := 0#32
  let v273 : BitVec 1 := Scalar.cmpi .sgt v234 c0_i32_141
  let v235 : BitVec 32 := Scalar.addi v166 v234
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let c1_i32_514 : BitVec 32 := 1#32
  let arg20 : BitVec 32 := Scf.iv v647 c1_i32_514 k0_t63
  let c1_i32_509 : BitVec 32 := 1#32
  let v693 : BitVec 32 := Scalar.muli arg20 c1_i32_509
  let v694 : BitVec 32 := Scalar.addi c0_i32_510 v693
  let c256_i32_554 : BitVec 32 := 256#32
  let v695 : BitVec 32 := Scalar.muli v694 c256_i32_554
  let v696 : BitVec 32 := Scalar.addi v254 v695
  let v697 : BitVec 32 := v696
  let v698 : Index := Scalar.indexCast v697
  let c0_555 : Index := 0#32
  ![v698.toNat, 0]
def k0_mult112 (v27 : BitVec 32) (v96 : BitVec 32) (v165 : BitVec 32) (v234 : BitVec 32) (k0_t63 : Fin (k0_t63_loop v27 v96 v165 v234).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_510 : BitVec 32 := 0#32
  let c0_i32_511 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let c1_i32_514 : BitVec 32 := 1#32
  let arg20 : BitVec 32 := Scf.iv v647 c1_i32_514 k0_t63
  let c1_i32_509 : BitVec 32 := 1#32
  let v693 : BitVec 32 := Scalar.muli arg20 c1_i32_509
  let v694 : BitVec 32 := Scalar.addi c0_i32_510 v693
  let c256_i32_557 : BitVec 32 := 256#32
  let v710 : BitVec 32 := Scalar.muli v694 c256_i32_557
  let v711 : BitVec 32 := Scalar.addi v230 v710
  v711
def k0_off153 (v27 : BitVec 32) (v96 : BitVec 32) (v165 : BitVec 32) (v234 : BitVec 32) (k0_t63 : Fin (k0_t63_loop v27 v96 v165 v234).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_510 : BitVec 32 := 0#32
  let c0_i32_511 : BitVec 32 := 0#32
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c0_i32_505 : BitVec 32 := 0#32
  let v639 : BitVec 32 := Scalar.subi v293 c0_i32_505
  let c1_i32_506 : BitVec 32 := 1#32
  let c1_i32_507 : BitVec 32 := 1#32
  let v640 : BitVec 32 := Scalar.subi c1_i32_506 c1_i32_507
  let v641 : BitVec 32 := Scalar.addi v639 v640
  let c1_i32_508 : BitVec 32 := 1#32
  let v642 : BitVec 32 := Scalar.divsi v641 c1_i32_508
  let v643 : BitVec 32 := Scalar.subi v642 c0_i32_511
  let c1_i32_512 : BitVec 32 := 1#32
  let v645 : BitVec 32 := Scalar.divsi v643 c1_i32_512
  let v646 : BitVec 32 := Scalar.muli v645 c1_i32_512
  let v647 : BitVec 32 := Scalar.addi c0_i32_511 v646
  let c1_i32_514 : BitVec 32 := 1#32
  let arg20 : BitVec 32 := Scf.iv v647 c1_i32_514 k0_t63
  let c1_i32_509 : BitVec 32 := 1#32
  let v693 : BitVec 32 := Scalar.muli arg20 c1_i32_509
  let v694 : BitVec 32 := Scalar.addi c0_i32_510 v693
  let c256_i32_557 : BitVec 32 := 256#32
  let v710 : BitVec 32 := Scalar.muli v694 c256_i32_557
  let v711 : BitVec 32 := Scalar.addi v230 v710
  let v712 : BitVec 32 := v711
  let v714 : Index := Scalar.indexCast v712
  ![2048, v714.toNat]
@[reducible] def k0_t64_loop (v27 : BitVec 32) (v96 : BitVec 32) (v165 : BitVec 32) (v234 : BitVec 32) (v303 : BitVec 32) : Scf.Loop 32 :=
  let c0_i32_521 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let c1_i32_523 : BitVec 32 := 1#32
  ⟨c0_i32_521, v656, c1_i32_523⟩
def k0_mult113 (v27 : BitVec 32) (v96 : BitVec 32) (v165 : BitVec 32) (v234 : BitVec 32) (v303 : BitVec 32) (k0_t64 : Fin (k0_t64_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_520 : BitVec 32 := 0#32
  let c0_i32_521 : BitVec 32 := 0#32
  let c1_i32_523 : BitVec 32 := 1#32
  let arg20 : BitVec 32 := Scf.iv c0_i32_521 c1_i32_523 k0_t64
  let c1_i32_519 : BitVec 32 := 1#32
  let v693 : BitVec 32 := Scalar.muli arg20 c1_i32_519
  let v694 : BitVec 32 := Scalar.addi c0_i32_520 v693
  let c256_i32_554 : BitVec 32 := 256#32
  let v695 : BitVec 32 := Scalar.muli v694 c256_i32_554
  let v696 : BitVec 32 := Scalar.addi v323 v695
  v696
def k0_off154 (v27 : BitVec 32) (v96 : BitVec 32) (v165 : BitVec 32) (v234 : BitVec 32) (v303 : BitVec 32) (k0_t64 : Fin (k0_t64_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_520 : BitVec 32 := 0#32
  let c0_i32_521 : BitVec 32 := 0#32
  let c1_i32_523 : BitVec 32 := 1#32
  let arg20 : BitVec 32 := Scf.iv c0_i32_521 c1_i32_523 k0_t64
  let c1_i32_519 : BitVec 32 := 1#32
  let v693 : BitVec 32 := Scalar.muli arg20 c1_i32_519
  let v694 : BitVec 32 := Scalar.addi c0_i32_520 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult114 (v27 : BitVec 32) (v96 : BitVec 32) (v165 : BitVec 32) (v234 : BitVec 32) (v303 : BitVec 32) (k0_t64 : Fin (k0_t64_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_520 : BitVec 32 := 0#32
  let c0_i32_521 : BitVec 32 := 0#32
  let c1_i32_523 : BitVec 32 := 1#32
  let arg20 : BitVec 32 := Scf.iv c0_i32_521 c1_i32_523 k0_t64
  let c1_i32_519 : BitVec 32 := 1#32
  let v693 : BitVec 32 := Scalar.muli arg20 c1_i32_519
  let v694 : BitVec 32 := Scalar.addi c0_i32_520 v693
  let c256_i32_557 : BitVec 32 := 256#32
  let v710 : BitVec 32 := Scalar.muli v694 c256_i32_557
  let v711 : BitVec 32 := Scalar.addi v299 v710
  v711
def k0_off155 (v27 : BitVec 32) (v96 : BitVec 32) (v165 : BitVec 32) (v234 : BitVec 32) (v303 : BitVec 32) (k0_t64 : Fin (k0_t64_loop v27 v96 v165 v234 v303).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_520 : BitVec 32 := 0#32
  let c0_i32_521 : BitVec 32 := 0#32
  let c1_i32_523 : BitVec 32 := 1#32
  let arg20 : BitVec 32 := Scf.iv c0_i32_521 c1_i32_523 k0_t64
  let c1_i32_519 : BitVec 32 := 1#32
  let v693 : BitVec 32 := Scalar.muli arg20 c1_i32_519
  let v694 : BitVec 32 := Scalar.addi c0_i32_520 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![2048, v714.toNat]
@[reducible] def k0_t65_loop (v27 : BitVec 32) (v96 : BitVec 32) (v165 : BitVec 32) (v234 : BitVec 32) (v303 : BitVec 32) : Scf.Loop 32 :=
  let c0_i32_521 : BitVec 32 := 0#32
  let c0_i32_176 : BitVec 32 := 0#32
  let v342 : BitVec 1 := Scalar.cmpi .sgt v303 c0_i32_176
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let v653 : BitVec 32 := Scalar.addi c0_i32_521 v652
  let c1_i32_524 : BitVec 32 := 1#32
  ⟨v656, v653, c1_i32_524⟩
def k0_mult115 (v27 : BitVec 32) (v96 : BitVec 32) (v165 : BitVec 32) (v234 : BitVec 32) (v303 : BitVec 32) (k0_t65 : Fin (k0_t65_loop v27 v96 v165 v234 v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_520 : BitVec 32 := 0#32
  let c0_i32_521 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let c1_i32_524 : BitVec 32 := 1#32
  let arg20 : BitVec 32 := Scf.iv v656 c1_i32_524 k0_t65
  let c1_i32_519 : BitVec 32 := 1#32
  let v693 : BitVec 32 := Scalar.muli arg20 c1_i32_519
  let v694 : BitVec 32 := Scalar.addi c0_i32_520 v693
  let c256_i32_554 : BitVec 32 := 256#32
  let v695 : BitVec 32 := Scalar.muli v694 c256_i32_554
  let v696 : BitVec 32 := Scalar.addi v323 v695
  v696
def k0_off156 (v27 : BitVec 32) (v96 : BitVec 32) (v165 : BitVec 32) (v234 : BitVec 32) (v303 : BitVec 32) (k0_t65 : Fin (k0_t65_loop v27 v96 v165 v234 v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let c0_i32_520 : BitVec 32 := 0#32
  let c0_i32_521 : BitVec 32 := 0#32
  let c0_i32_176 : BitVec 32 := 0#32
  let v342 : BitVec 1 := Scalar.cmpi .sgt v303 c0_i32_176
  let v304 : BitVec 32 := Scalar.addi v235 v303
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let c1_i32_524 : BitVec 32 := 1#32
  let arg20 : BitVec 32 := Scf.iv v656 c1_i32_524 k0_t65
  let c1_i32_519 : BitVec 32 := 1#32
  let v693 : BitVec 32 := Scalar.muli arg20 c1_i32_519
  let v694 : BitVec 32 := Scalar.addi c0_i32_520 v693
  let c256_i32_554 : BitVec 32 := 256#32
  let v695 : BitVec 32 := Scalar.muli v694 c256_i32_554
  let v696 : BitVec 32 := Scalar.addi v323 v695
  let v697 : BitVec 32 := v696
  let v698 : Index := Scalar.indexCast v697
  let c0_555 : Index := 0#32
  ![v698.toNat, 0]
def k0_mult116 (v27 : BitVec 32) (v96 : BitVec 32) (v165 : BitVec 32) (v234 : BitVec 32) (v303 : BitVec 32) (k0_t65 : Fin (k0_t65_loop v27 v96 v165 v234 v303).trips) : BitVec 32 :=
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_520 : BitVec 32 := 0#32
  let c0_i32_521 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let c1_i32_524 : BitVec 32 := 1#32
  let arg20 : BitVec 32 := Scf.iv v656 c1_i32_524 k0_t65
  let c1_i32_519 : BitVec 32 := 1#32
  let v693 : BitVec 32 := Scalar.muli arg20 c1_i32_519
  let v694 : BitVec 32 := Scalar.addi c0_i32_520 v693
  let c256_i32_557 : BitVec 32 := 256#32
  let v710 : BitVec 32 := Scalar.muli v694 c256_i32_557
  let v711 : BitVec 32 := Scalar.addi v299 v710
  v711
def k0_off157 (v27 : BitVec 32) (v96 : BitVec 32) (v165 : BitVec 32) (v234 : BitVec 32) (v303 : BitVec 32) (k0_t65 : Fin (k0_t65_loop v27 v96 v165 v234 v303).trips) : Fin 2 → Nat :=
  let c2048 : Index := 2048#32
  let c0_i32_50 : BitVec 32 := 0#32
  let c0_i32_35 : BitVec 32 := 0#32
  let v66 : BitVec 1 := Scalar.cmpi .sgt v27 c0_i32_35
  let c0_i32_20 : BitVec 32 := 0#32
  let v28 : BitVec 32 := Scalar.addi c0_i32_20 v27
  let c0_i32_21 : BitVec 32 := 0#32
  let c0_i32_22 : BitVec 32 := 0#32
  let v30 : BitVec 1 := Scalar.cmpi .sgt c0_i32_21 c0_i32_22
  let v31 : BitVec 32 := Scalar.extui v30
  let c0_i32_23 : BitVec 32 := 0#32
  let v32 : BitVec 1 := Scalar.cmpi .slt c0_i32_21 c0_i32_23
  let v33 : BitVec 32 := Scalar.extui v32
  let v34 : BitVec 32 := Scalar.subi v31 v33
  let c16_i32 : BitVec 32 := 16#32
  let c0_i32_24 : BitVec 32 := 0#32
  let v35 : BitVec 1 := Scalar.cmpi .sgt c16_i32 c0_i32_24
  let v36 : BitVec 32 := Scalar.extui v35
  let c0_i32_25 : BitVec 32 := 0#32
  let v37 : BitVec 1 := Scalar.cmpi .slt c16_i32 c0_i32_25
  let v38 : BitVec 32 := Scalar.extui v37
  let v39 : BitVec 32 := Scalar.subi v36 v38
  let v40 : BitVec 1 := Scalar.cmpi .ne v34 v39
  let v41 : BitVec 32 := Scalar.remsi c0_i32_21 c16_i32
  let c0_i32_26 : BitVec 32 := 0#32
  let v42 : BitVec 1 := Scalar.cmpi .ne v41 c0_i32_26
  let v43 : BitVec 1 := Scalar.andi v40 v42
  let v29 : BitVec 32 := Scalar.divsi c0_i32_21 c16_i32
  let c1_i32_27 : BitVec 32 := 1#32
  let v44 : BitVec 32 := Scalar.subi v29 c1_i32_27
  let v45 : BitVec 32 := Scalar.select v43 v44 v29
  let c16_i32_28 : BitVec 32 := 16#32
  let v46 : BitVec 32 := Scalar.muli v45 c16_i32_28
  let v47 : BitVec 32 := v46
  let v67 : BitVec 32 := Scalar.subi v28 v47
  let c255_i32 : BitVec 32 := 255#32
  let v68 : BitVec 32 := Scalar.addi v67 c255_i32
  let c0_i32_36 : BitVec 32 := 0#32
  let v70 : BitVec 1 := Scalar.cmpi .sgt v68 c0_i32_36
  let v71 : BitVec 32 := Scalar.extui v70
  let c0_i32_37 : BitVec 32 := 0#32
  let v72 : BitVec 1 := Scalar.cmpi .slt v68 c0_i32_37
  let v73 : BitVec 32 := Scalar.extui v72
  let v74 : BitVec 32 := Scalar.subi v71 v73
  let c256_i32 : BitVec 32 := 256#32
  let c0_i32_38 : BitVec 32 := 0#32
  let v75 : BitVec 1 := Scalar.cmpi .sgt c256_i32 c0_i32_38
  let v76 : BitVec 32 := Scalar.extui v75
  let c0_i32_39 : BitVec 32 := 0#32
  let v77 : BitVec 1 := Scalar.cmpi .slt c256_i32 c0_i32_39
  let v78 : BitVec 32 := Scalar.extui v77
  let v79 : BitVec 32 := Scalar.subi v76 v78
  let v80 : BitVec 1 := Scalar.cmpi .ne v74 v79
  let v81 : BitVec 32 := Scalar.remsi v68 c256_i32
  let c0_i32_40 : BitVec 32 := 0#32
  let v82 : BitVec 1 := Scalar.cmpi .ne v81 c0_i32_40
  let v83 : BitVec 1 := Scalar.andi v80 v82
  let v69 : BitVec 32 := Scalar.divsi v68 c256_i32
  let c1_i32_41 : BitVec 32 := 1#32
  let v84 : BitVec 32 := Scalar.subi v69 c1_i32_41
  let v85 : BitVec 32 := Scalar.select v83 v84 v69
  let c0_i32_42 : BitVec 32 := 0#32
  let v86 : BitVec 32 := Scalar.select v66 v85 c0_i32_42
  let c256_i32_49 : BitVec 32 := 256#32
  let v91 : BitVec 32 := Scalar.muli v86 c256_i32_49
  let v92 : BitVec 32 := Scalar.addi c0_i32_50 v91
  let c0_i32_70 : BitVec 32 := 0#32
  let v135 : BitVec 1 := Scalar.cmpi .sgt v96 c0_i32_70
  let v97 : BitVec 32 := Scalar.addi v28 v96
  let c0_i32_55 : BitVec 32 := 0#32
  let v99 : BitVec 1 := Scalar.cmpi .sgt v28 c0_i32_55
  let v100 : BitVec 32 := Scalar.extui v99
  let c0_i32_56 : BitVec 32 := 0#32
  let v101 : BitVec 1 := Scalar.cmpi .slt v28 c0_i32_56
  let v102 : BitVec 32 := Scalar.extui v101
  let v103 : BitVec 32 := Scalar.subi v100 v102
  let c16_i32_54 : BitVec 32 := 16#32
  let c0_i32_57 : BitVec 32 := 0#32
  let v104 : BitVec 1 := Scalar.cmpi .sgt c16_i32_54 c0_i32_57
  let v105 : BitVec 32 := Scalar.extui v104
  let c0_i32_58 : BitVec 32 := 0#32
  let v106 : BitVec 1 := Scalar.cmpi .slt c16_i32_54 c0_i32_58
  let v107 : BitVec 32 := Scalar.extui v106
  let v108 : BitVec 32 := Scalar.subi v105 v107
  let v109 : BitVec 1 := Scalar.cmpi .ne v103 v108
  let v110 : BitVec 32 := Scalar.remsi v28 c16_i32_54
  let c0_i32_59 : BitVec 32 := 0#32
  let v111 : BitVec 1 := Scalar.cmpi .ne v110 c0_i32_59
  let v112 : BitVec 1 := Scalar.andi v109 v111
  let v98 : BitVec 32 := Scalar.divsi v28 c16_i32_54
  let c1_i32_60 : BitVec 32 := 1#32
  let v113 : BitVec 32 := Scalar.subi v98 c1_i32_60
  let v114 : BitVec 32 := Scalar.select v112 v113 v98
  let c16_i32_61 : BitVec 32 := 16#32
  let v115 : BitVec 32 := Scalar.muli v114 c16_i32_61
  let v116 : BitVec 32 := v115
  let v136 : BitVec 32 := Scalar.subi v97 v116
  let c255_i32_71 : BitVec 32 := 255#32
  let v137 : BitVec 32 := Scalar.addi v136 c255_i32_71
  let c0_i32_73 : BitVec 32 := 0#32
  let v139 : BitVec 1 := Scalar.cmpi .sgt v137 c0_i32_73
  let v140 : BitVec 32 := Scalar.extui v139
  let c0_i32_74 : BitVec 32 := 0#32
  let v141 : BitVec 1 := Scalar.cmpi .slt v137 c0_i32_74
  let v142 : BitVec 32 := Scalar.extui v141
  let v143 : BitVec 32 := Scalar.subi v140 v142
  let c256_i32_72 : BitVec 32 := 256#32
  let c0_i32_75 : BitVec 32 := 0#32
  let v144 : BitVec 1 := Scalar.cmpi .sgt c256_i32_72 c0_i32_75
  let v145 : BitVec 32 := Scalar.extui v144
  let c0_i32_76 : BitVec 32 := 0#32
  let v146 : BitVec 1 := Scalar.cmpi .slt c256_i32_72 c0_i32_76
  let v147 : BitVec 32 := Scalar.extui v146
  let v148 : BitVec 32 := Scalar.subi v145 v147
  let v149 : BitVec 1 := Scalar.cmpi .ne v143 v148
  let v150 : BitVec 32 := Scalar.remsi v137 c256_i32_72
  let c0_i32_77 : BitVec 32 := 0#32
  let v151 : BitVec 1 := Scalar.cmpi .ne v150 c0_i32_77
  let v152 : BitVec 1 := Scalar.andi v149 v151
  let v138 : BitVec 32 := Scalar.divsi v137 c256_i32_72
  let c1_i32_78 : BitVec 32 := 1#32
  let v153 : BitVec 32 := Scalar.subi v138 c1_i32_78
  let v154 : BitVec 32 := Scalar.select v152 v153 v138
  let c0_i32_79 : BitVec 32 := 0#32
  let v155 : BitVec 32 := Scalar.select v135 v154 c0_i32_79
  let c256_i32_86 : BitVec 32 := 256#32
  let v160 : BitVec 32 := Scalar.muli v155 c256_i32_86
  let v161 : BitVec 32 := Scalar.addi v92 v160
  let c0_i32_106 : BitVec 32 := 0#32
  let v204 : BitVec 1 := Scalar.cmpi .sgt v165 c0_i32_106
  let v166 : BitVec 32 := Scalar.addi v97 v165
  let c0_i32_91 : BitVec 32 := 0#32
  let v168 : BitVec 1 := Scalar.cmpi .sgt v97 c0_i32_91
  let v169 : BitVec 32 := Scalar.extui v168
  let c0_i32_92 : BitVec 32 := 0#32
  let v170 : BitVec 1 := Scalar.cmpi .slt v97 c0_i32_92
  let v171 : BitVec 32 := Scalar.extui v170
  let v172 : BitVec 32 := Scalar.subi v169 v171
  let c16_i32_90 : BitVec 32 := 16#32
  let c0_i32_93 : BitVec 32 := 0#32
  let v173 : BitVec 1 := Scalar.cmpi .sgt c16_i32_90 c0_i32_93
  let v174 : BitVec 32 := Scalar.extui v173
  let c0_i32_94 : BitVec 32 := 0#32
  let v175 : BitVec 1 := Scalar.cmpi .slt c16_i32_90 c0_i32_94
  let v176 : BitVec 32 := Scalar.extui v175
  let v177 : BitVec 32 := Scalar.subi v174 v176
  let v178 : BitVec 1 := Scalar.cmpi .ne v172 v177
  let v179 : BitVec 32 := Scalar.remsi v97 c16_i32_90
  let c0_i32_95 : BitVec 32 := 0#32
  let v180 : BitVec 1 := Scalar.cmpi .ne v179 c0_i32_95
  let v181 : BitVec 1 := Scalar.andi v178 v180
  let v167 : BitVec 32 := Scalar.divsi v97 c16_i32_90
  let c1_i32_96 : BitVec 32 := 1#32
  let v182 : BitVec 32 := Scalar.subi v167 c1_i32_96
  let v183 : BitVec 32 := Scalar.select v181 v182 v167
  let c16_i32_97 : BitVec 32 := 16#32
  let v184 : BitVec 32 := Scalar.muli v183 c16_i32_97
  let v185 : BitVec 32 := v184
  let v205 : BitVec 32 := Scalar.subi v166 v185
  let c255_i32_107 : BitVec 32 := 255#32
  let v206 : BitVec 32 := Scalar.addi v205 c255_i32_107
  let c0_i32_109 : BitVec 32 := 0#32
  let v208 : BitVec 1 := Scalar.cmpi .sgt v206 c0_i32_109
  let v209 : BitVec 32 := Scalar.extui v208
  let c0_i32_110 : BitVec 32 := 0#32
  let v210 : BitVec 1 := Scalar.cmpi .slt v206 c0_i32_110
  let v211 : BitVec 32 := Scalar.extui v210
  let v212 : BitVec 32 := Scalar.subi v209 v211
  let c256_i32_108 : BitVec 32 := 256#32
  let c0_i32_111 : BitVec 32 := 0#32
  let v213 : BitVec 1 := Scalar.cmpi .sgt c256_i32_108 c0_i32_111
  let v214 : BitVec 32 := Scalar.extui v213
  let c0_i32_112 : BitVec 32 := 0#32
  let v215 : BitVec 1 := Scalar.cmpi .slt c256_i32_108 c0_i32_112
  let v216 : BitVec 32 := Scalar.extui v215
  let v217 : BitVec 32 := Scalar.subi v214 v216
  let v218 : BitVec 1 := Scalar.cmpi .ne v212 v217
  let v219 : BitVec 32 := Scalar.remsi v206 c256_i32_108
  let c0_i32_113 : BitVec 32 := 0#32
  let v220 : BitVec 1 := Scalar.cmpi .ne v219 c0_i32_113
  let v221 : BitVec 1 := Scalar.andi v218 v220
  let v207 : BitVec 32 := Scalar.divsi v206 c256_i32_108
  let c1_i32_114 : BitVec 32 := 1#32
  let v222 : BitVec 32 := Scalar.subi v207 c1_i32_114
  let v223 : BitVec 32 := Scalar.select v221 v222 v207
  let c0_i32_115 : BitVec 32 := 0#32
  let v224 : BitVec 32 := Scalar.select v204 v223 c0_i32_115
  let c256_i32_122 : BitVec 32 := 256#32
  let v229 : BitVec 32 := Scalar.muli v224 c256_i32_122
  let v230 : BitVec 32 := Scalar.addi v161 v229
  let c0_i32_141 : BitVec 32 := 0#32
  let v273 : BitVec 1 := Scalar.cmpi .sgt v234 c0_i32_141
  let v235 : BitVec 32 := Scalar.addi v166 v234
  let c0_i32_126 : BitVec 32 := 0#32
  let v237 : BitVec 1 := Scalar.cmpi .sgt v166 c0_i32_126
  let v238 : BitVec 32 := Scalar.extui v237
  let c0_i32_127 : BitVec 32 := 0#32
  let v239 : BitVec 1 := Scalar.cmpi .slt v166 c0_i32_127
  let v240 : BitVec 32 := Scalar.extui v239
  let v241 : BitVec 32 := Scalar.subi v238 v240
  let c16_i32_125 : BitVec 32 := 16#32
  let c0_i32_128 : BitVec 32 := 0#32
  let v242 : BitVec 1 := Scalar.cmpi .sgt c16_i32_125 c0_i32_128
  let v243 : BitVec 32 := Scalar.extui v242
  let c0_i32_129 : BitVec 32 := 0#32
  let v244 : BitVec 1 := Scalar.cmpi .slt c16_i32_125 c0_i32_129
  let v245 : BitVec 32 := Scalar.extui v244
  let v246 : BitVec 32 := Scalar.subi v243 v245
  let v247 : BitVec 1 := Scalar.cmpi .ne v241 v246
  let v248 : BitVec 32 := Scalar.remsi v166 c16_i32_125
  let c0_i32_130 : BitVec 32 := 0#32
  let v249 : BitVec 1 := Scalar.cmpi .ne v248 c0_i32_130
  let v250 : BitVec 1 := Scalar.andi v247 v249
  let v236 : BitVec 32 := Scalar.divsi v166 c16_i32_125
  let c1_i32_131 : BitVec 32 := 1#32
  let v251 : BitVec 32 := Scalar.subi v236 c1_i32_131
  let v252 : BitVec 32 := Scalar.select v250 v251 v236
  let c16_i32_132 : BitVec 32 := 16#32
  let v253 : BitVec 32 := Scalar.muli v252 c16_i32_132
  let v254 : BitVec 32 := v253
  let v274 : BitVec 32 := Scalar.subi v235 v254
  let c255_i32_142 : BitVec 32 := 255#32
  let v275 : BitVec 32 := Scalar.addi v274 c255_i32_142
  let c0_i32_144 : BitVec 32 := 0#32
  let v277 : BitVec 1 := Scalar.cmpi .sgt v275 c0_i32_144
  let v278 : BitVec 32 := Scalar.extui v277
  let c0_i32_145 : BitVec 32 := 0#32
  let v279 : BitVec 1 := Scalar.cmpi .slt v275 c0_i32_145
  let v280 : BitVec 32 := Scalar.extui v279
  let v281 : BitVec 32 := Scalar.subi v278 v280
  let c256_i32_143 : BitVec 32 := 256#32
  let c0_i32_146 : BitVec 32 := 0#32
  let v282 : BitVec 1 := Scalar.cmpi .sgt c256_i32_143 c0_i32_146
  let v283 : BitVec 32 := Scalar.extui v282
  let c0_i32_147 : BitVec 32 := 0#32
  let v284 : BitVec 1 := Scalar.cmpi .slt c256_i32_143 c0_i32_147
  let v285 : BitVec 32 := Scalar.extui v284
  let v286 : BitVec 32 := Scalar.subi v283 v285
  let v287 : BitVec 1 := Scalar.cmpi .ne v281 v286
  let v288 : BitVec 32 := Scalar.remsi v275 c256_i32_143
  let c0_i32_148 : BitVec 32 := 0#32
  let v289 : BitVec 1 := Scalar.cmpi .ne v288 c0_i32_148
  let v290 : BitVec 1 := Scalar.andi v287 v289
  let v276 : BitVec 32 := Scalar.divsi v275 c256_i32_143
  let c1_i32_149 : BitVec 32 := 1#32
  let v291 : BitVec 32 := Scalar.subi v276 c1_i32_149
  let v292 : BitVec 32 := Scalar.select v290 v291 v276
  let c0_i32_150 : BitVec 32 := 0#32
  let v293 : BitVec 32 := Scalar.select v273 v292 c0_i32_150
  let c256_i32_157 : BitVec 32 := 256#32
  let v298 : BitVec 32 := Scalar.muli v293 c256_i32_157
  let v299 : BitVec 32 := Scalar.addi v230 v298
  let c0_i32_520 : BitVec 32 := 0#32
  let c0_i32_521 : BitVec 32 := 0#32
  let c0_i32_176 : BitVec 32 := 0#32
  let v342 : BitVec 1 := Scalar.cmpi .sgt v303 c0_i32_176
  let v304 : BitVec 32 := Scalar.addi v235 v303
  let c0_i32_161 : BitVec 32 := 0#32
  let v306 : BitVec 1 := Scalar.cmpi .sgt v235 c0_i32_161
  let v307 : BitVec 32 := Scalar.extui v306
  let c0_i32_162 : BitVec 32 := 0#32
  let v308 : BitVec 1 := Scalar.cmpi .slt v235 c0_i32_162
  let v309 : BitVec 32 := Scalar.extui v308
  let v310 : BitVec 32 := Scalar.subi v307 v309
  let c16_i32_160 : BitVec 32 := 16#32
  let c0_i32_163 : BitVec 32 := 0#32
  let v311 : BitVec 1 := Scalar.cmpi .sgt c16_i32_160 c0_i32_163
  let v312 : BitVec 32 := Scalar.extui v311
  let c0_i32_164 : BitVec 32 := 0#32
  let v313 : BitVec 1 := Scalar.cmpi .slt c16_i32_160 c0_i32_164
  let v314 : BitVec 32 := Scalar.extui v313
  let v315 : BitVec 32 := Scalar.subi v312 v314
  let v316 : BitVec 1 := Scalar.cmpi .ne v310 v315
  let v317 : BitVec 32 := Scalar.remsi v235 c16_i32_160
  let c0_i32_165 : BitVec 32 := 0#32
  let v318 : BitVec 1 := Scalar.cmpi .ne v317 c0_i32_165
  let v319 : BitVec 1 := Scalar.andi v316 v318
  let v305 : BitVec 32 := Scalar.divsi v235 c16_i32_160
  let c1_i32_166 : BitVec 32 := 1#32
  let v320 : BitVec 32 := Scalar.subi v305 c1_i32_166
  let v321 : BitVec 32 := Scalar.select v319 v320 v305
  let c16_i32_167 : BitVec 32 := 16#32
  let v322 : BitVec 32 := Scalar.muli v321 c16_i32_167
  let v323 : BitVec 32 := v322
  let v343 : BitVec 32 := Scalar.subi v304 v323
  let c255_i32_177 : BitVec 32 := 255#32
  let v344 : BitVec 32 := Scalar.addi v343 c255_i32_177
  let c0_i32_179 : BitVec 32 := 0#32
  let v346 : BitVec 1 := Scalar.cmpi .sgt v344 c0_i32_179
  let v347 : BitVec 32 := Scalar.extui v346
  let c0_i32_180 : BitVec 32 := 0#32
  let v348 : BitVec 1 := Scalar.cmpi .slt v344 c0_i32_180
  let v349 : BitVec 32 := Scalar.extui v348
  let v350 : BitVec 32 := Scalar.subi v347 v349
  let c256_i32_178 : BitVec 32 := 256#32
  let c0_i32_181 : BitVec 32 := 0#32
  let v351 : BitVec 1 := Scalar.cmpi .sgt c256_i32_178 c0_i32_181
  let v352 : BitVec 32 := Scalar.extui v351
  let c0_i32_182 : BitVec 32 := 0#32
  let v353 : BitVec 1 := Scalar.cmpi .slt c256_i32_178 c0_i32_182
  let v354 : BitVec 32 := Scalar.extui v353
  let v355 : BitVec 32 := Scalar.subi v352 v354
  let v356 : BitVec 1 := Scalar.cmpi .ne v350 v355
  let v357 : BitVec 32 := Scalar.remsi v344 c256_i32_178
  let c0_i32_183 : BitVec 32 := 0#32
  let v358 : BitVec 1 := Scalar.cmpi .ne v357 c0_i32_183
  let v359 : BitVec 1 := Scalar.andi v356 v358
  let v345 : BitVec 32 := Scalar.divsi v344 c256_i32_178
  let c1_i32_184 : BitVec 32 := 1#32
  let v360 : BitVec 32 := Scalar.subi v345 c1_i32_184
  let v361 : BitVec 32 := Scalar.select v359 v360 v345
  let c0_i32_185 : BitVec 32 := 0#32
  let v362 : BitVec 32 := Scalar.select v342 v361 c0_i32_185
  let c0_i32_515 : BitVec 32 := 0#32
  let v648 : BitVec 32 := Scalar.subi v362 c0_i32_515
  let c1_i32_516 : BitVec 32 := 1#32
  let c1_i32_517 : BitVec 32 := 1#32
  let v649 : BitVec 32 := Scalar.subi c1_i32_516 c1_i32_517
  let v650 : BitVec 32 := Scalar.addi v648 v649
  let c1_i32_518 : BitVec 32 := 1#32
  let v651 : BitVec 32 := Scalar.divsi v650 c1_i32_518
  let v652 : BitVec 32 := Scalar.subi v651 c0_i32_521
  let c1_i32_522 : BitVec 32 := 1#32
  let v654 : BitVec 32 := Scalar.divsi v652 c1_i32_522
  let v655 : BitVec 32 := Scalar.muli v654 c1_i32_522
  let v656 : BitVec 32 := Scalar.addi c0_i32_521 v655
  let c1_i32_524 : BitVec 32 := 1#32
  let arg20 : BitVec 32 := Scf.iv v656 c1_i32_524 k0_t65
  let c1_i32_519 : BitVec 32 := 1#32
  let v693 : BitVec 32 := Scalar.muli arg20 c1_i32_519
  let v694 : BitVec 32 := Scalar.addi c0_i32_520 v693
  let c256_i32_557 : BitVec 32 := 256#32
  let v710 : BitVec 32 := Scalar.muli v694 c256_i32_557
  let v711 : BitVec 32 := Scalar.addi v299 v710
  let v712 : BitVec 32 := v711
  let v714 : Index := Scalar.indexCast v712
  ![2048, v714.toNat]
@[reducible] def k0_t66_loop : Scf.Loop 32 :=
  let c0_i32_529 : BitVec 32 := 0#32
  let c8_i32 : BitVec 32 := 8#32
  let v659 : BitVec 32 := Scalar.addi c0_i32_529 c8_i32
  let c1_i32_530 : BitVec 32 := 1#32
  ⟨c0_i32_529, v659, c1_i32_530⟩
def k0_mult117 (k0_t66 : Fin k0_t66_loop.trips) : BitVec 32 :=
  let c0_i32_529 : BitVec 32 := 0#32
  let c1_i32_530 : BitVec 32 := 1#32
  let arg20 : BitVec 32 := Scf.iv c0_i32_529 c1_i32_530 k0_t66
  let c1024_i32_555 : BitVec 32 := 1024#32
  let v694 : BitVec 32 := Scalar.muli arg20 c1024_i32_555
  v694
def k0_off158 (k0_t66 : Fin k0_t66_loop.trips) : Fin 1 → Nat :=
  let c0_i32_529 : BitVec 32 := 0#32
  let c1_i32_530 : BitVec 32 := 1#32
  let arg20 : BitVec 32 := Scf.iv c0_i32_529 c1_i32_530 k0_t66
  let c2_i32_554 : BitVec 32 := 2#32
  let v693 : BitVec 32 := Scalar.remsi arg20 c2_i32_554
  ![v693.toNat]
def k0_off159 (k0_t66 : Fin k0_t66_loop.trips) : Fin 3 → Nat :=
  let c0_i32_529 : BitVec 32 := 0#32
  let c1_i32_530 : BitVec 32 := 1#32
  let arg20 : BitVec 32 := Scf.iv c0_i32_529 c1_i32_530 k0_t66
  let c2_i32_554 : BitVec 32 := 2#32
  let v693 : BitVec 32 := Scalar.remsi arg20 c2_i32_554
  let c0_i32_556 : BitVec 32 := 0#32
  let c0_i32_557 : BitVec 32 := 0#32
  ![v693.toNat, 0, 0]
def k0_off160 (k0_t66 : Fin k0_t66_loop.trips) : Fin 2 → Nat :=
  let c0_i32_558 : BitVec 32 := 0#32
  let c0_i32_529 : BitVec 32 := 0#32
  let c1_i32_530 : BitVec 32 := 1#32
  let arg20 : BitVec 32 := Scf.iv c0_i32_529 c1_i32_530 k0_t66
  let c1024_i32_555 : BitVec 32 := 1024#32
  let v694 : BitVec 32 := Scalar.muli arg20 c1024_i32_555
  let v695 : BitVec 32 := v694
  ![0, v695.toNat]
def k0_cond6 (k0_t66 : Fin k0_t66_loop.trips) : BitVec 1 :=
  let c0_i32_529 : BitVec 32 := 0#32
  let c1_i32_530 : BitVec 32 := 1#32
  let arg20 : BitVec 32 := Scf.iv c0_i32_529 c1_i32_530 k0_t66
  let c1_i32_559 : BitVec 32 := 1#32
  let v701 : BitVec 32 := Scalar.addi arg20 c1_i32_559
  let c8_i32_560 : BitVec 32 := 8#32
  let v702 : BitVec 1 := Scalar.cmpi .slt v701 c8_i32_560
  let v703 : BitVec 32 := Scalar.extui v702
  let c0_i32_561 : BitVec 32 := 0#32
  let v704 : BitVec 1 := Scalar.cmpi .ne v703 c0_i32_561
  v704

def k0_mult118 (k0_t66 : Fin k0_t66_loop.trips) : BitVec 32 :=
  let c0_i32_529 : BitVec 32 := 0#32
  let c1_i32_530 : BitVec 32 := 1#32
  let arg20 : BitVec 32 := Scf.iv c0_i32_529 c1_i32_530 k0_t66
  let c1_i32_617 : BitVec 32 := 1#32
  let v755 : BitVec 32 := Scalar.addi arg20 c1_i32_617
  let c1024_i32_619 : BitVec 32 := 1024#32
  let v757 : BitVec 32 := Scalar.muli v755 c1024_i32_619
  v757
def k0_off161 (k0_t66 : Fin k0_t66_loop.trips) : Fin 1 → Nat :=
  let c0_i32_529 : BitVec 32 := 0#32
  let c1_i32_530 : BitVec 32 := 1#32
  let arg20 : BitVec 32 := Scf.iv c0_i32_529 c1_i32_530 k0_t66
  let c1_i32_617 : BitVec 32 := 1#32
  let v755 : BitVec 32 := Scalar.addi arg20 c1_i32_617
  let c2_i32_618 : BitVec 32 := 2#32
  let v756 : BitVec 32 := Scalar.remsi v755 c2_i32_618
  ![v756.toNat]
def k0_off162 (k0_t66 : Fin k0_t66_loop.trips) : Fin 3 → Nat :=
  let c0_i32_529 : BitVec 32 := 0#32
  let c1_i32_530 : BitVec 32 := 1#32
  let arg20 : BitVec 32 := Scf.iv c0_i32_529 c1_i32_530 k0_t66
  let c1_i32_617 : BitVec 32 := 1#32
  let v755 : BitVec 32 := Scalar.addi arg20 c1_i32_617
  let c2_i32_618 : BitVec 32 := 2#32
  let v756 : BitVec 32 := Scalar.remsi v755 c2_i32_618
  let c0_i32_620 : BitVec 32 := 0#32
  let c0_i32_621 : BitVec 32 := 0#32
  ![v756.toNat, 0, 0]
def k0_off163 (k0_t66 : Fin k0_t66_loop.trips) : Fin 2 → Nat :=
  let c0_i32_622 : BitVec 32 := 0#32
  let c0_i32_529 : BitVec 32 := 0#32
  let c1_i32_530 : BitVec 32 := 1#32
  let arg20 : BitVec 32 := Scf.iv c0_i32_529 c1_i32_530 k0_t66
  let c1_i32_617 : BitVec 32 := 1#32
  let v755 : BitVec 32 := Scalar.addi arg20 c1_i32_617
  let c1024_i32_619 : BitVec 32 := 1024#32
  let v757 : BitVec 32 := Scalar.muli v755 c1024_i32_619
  let v758 : BitVec 32 := v757
  ![0, v758.toNat]
def k0_mult119 (k0_t66 : Fin k0_t66_loop.trips) : BitVec 32 :=
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  v706
@[reducible] def k0_t67_loop (v27 : BitVec 32) : Scf.Loop 32 :=
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let c1_i32_572 : BitVec 32 := 1#32
  ⟨c0_i32_570, v716, c1_i32_572⟩
def k0_mult120 (v27 : BitVec 32) (k0_t67 : Fin (k0_t67_loop v27).trips) : BitVec 32 :=
  let c0_i32_526 : BitVec 32 := 0#32
  let c0_i32_569 : BitVec 32 := 0#32
  let c0_i32_570 : BitVec 32 := 0#32
  let c1_i32_572 : BitVec 32 := 1#32
  let arg22 : BitVec 32 := Scf.iv c0_i32_570 c1_i32_572 k0_t67
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off164 (v27 : BitVec 32) (k0_t66 : Fin k0_t66_loop.trips) (k0_t67 : Fin (k0_t67_loop v27).trips) : Fin 2 → Nat :=
  let c0_i32_527 : BitVec 32 := 0#32
  let c0_i32_569 : BitVec 32 := 0#32
  let c0_i32_570 : BitVec 32 := 0#32
  let c1_i32_572 : BitVec 32 := 1#32
  let arg22 : BitVec 32 := Scf.iv c0_i32_570 c1_i32_572 k0_t67
  let c1_i32_568 : BitVec 32 := 1#32
  let v755 : BitVec 32 := Scalar.muli arg22 c1_i32_568
  let v756 : BitVec 32 := Scalar.addi c0_i32_569 v755
  let v781 : BitVec 32 := Scalar.addi c0_i32_527 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off165 (v27 : BitVec 32) (k0_t66 : Fin k0_t66_loop.trips) (k0_t67 : Fin (k0_t67_loop v27).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_526 : BitVec 32 := 0#32
  let c0_i32_569 : BitVec 32 := 0#32
  let c0_i32_570 : BitVec 32 := 0#32
  let c1_i32_572 : BitVec 32 := 1#32
  let arg22 : BitVec 32 := Scf.iv c0_i32_570 c1_i32_572 k0_t67
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off166 (v27 : BitVec 32) (k0_t67 : Fin (k0_t67_loop v27).trips) : Fin 2 → Nat :=
  let c0_i32_526 : BitVec 32 := 0#32
  let c0_i32_569 : BitVec 32 := 0#32
  let c0_i32_570 : BitVec 32 := 0#32
  let c1_i32_572 : BitVec 32 := 1#32
  let arg22 : BitVec 32 := Scf.iv c0_i32_570 c1_i32_572 k0_t67
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]
@[reducible] def k0_t68_loop (v27 : BitVec 32) : Scf.Loop 32 :=
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let v713 : BitVec 32 := Scalar.addi c0_i32_570 v712
  let c1_i32_573 : BitVec 32 := 1#32
  ⟨v716, v713, c1_i32_573⟩
def k0_mult121 (v27 : BitVec 32) (k0_t68 : Fin (k0_t68_loop v27).trips) : BitVec 32 :=
  let c0_i32_526 : BitVec 32 := 0#32
  let c0_i32_569 : BitVec 32 := 0#32
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let c1_i32_573 : BitVec 32 := 1#32
  let arg22 : BitVec 32 := Scf.iv v716 c1_i32_573 k0_t68
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off167 (v27 : BitVec 32) (k0_t66 : Fin k0_t66_loop.trips) (k0_t68 : Fin (k0_t68_loop v27).trips) : Fin 2 → Nat :=
  let c0_i32_527 : BitVec 32 := 0#32
  let c0_i32_569 : BitVec 32 := 0#32
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let c1_i32_573 : BitVec 32 := 1#32
  let arg22 : BitVec 32 := Scf.iv v716 c1_i32_573 k0_t68
  let c1_i32_568 : BitVec 32 := 1#32
  let v755 : BitVec 32 := Scalar.muli arg22 c1_i32_568
  let v756 : BitVec 32 := Scalar.addi c0_i32_569 v755
  let v781 : BitVec 32 := Scalar.addi c0_i32_527 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off168 (v27 : BitVec 32) (k0_t66 : Fin k0_t66_loop.trips) (k0_t68 : Fin (k0_t68_loop v27).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_526 : BitVec 32 := 0#32
  let c0_i32_569 : BitVec 32 := 0#32
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let c1_i32_573 : BitVec 32 := 1#32
  let arg22 : BitVec 32 := Scf.iv v716 c1_i32_573 k0_t68
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off169 (v27 : BitVec 32) (k0_t68 : Fin (k0_t68_loop v27).trips) : Fin 2 → Nat :=
  let c0_i32_526 : BitVec 32 := 0#32
  let c0_i32_569 : BitVec 32 := 0#32
  let c0_i32_570 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let c0_i32_564 : BitVec 32 := 0#32
  let v708 : BitVec 32 := Scalar.subi v65 c0_i32_564
  let c1_i32_565 : BitVec 32 := 1#32
  let c1_i32_566 : BitVec 32 := 1#32
  let v709 : BitVec 32 := Scalar.subi c1_i32_565 c1_i32_566
  let v710 : BitVec 32 := Scalar.addi v708 v709
  let c1_i32_567 : BitVec 32 := 1#32
  let v711 : BitVec 32 := Scalar.divsi v710 c1_i32_567
  let v712 : BitVec 32 := Scalar.subi v711 c0_i32_570
  let c1_i32_571 : BitVec 32 := 1#32
  let v714 : BitVec 32 := Scalar.divsi v712 c1_i32_571
  let v715 : BitVec 32 := Scalar.muli v714 c1_i32_571
  let v716 : BitVec 32 := Scalar.addi c0_i32_570 v715
  let c1_i32_573 : BitVec 32 := 1#32
  let arg22 : BitVec 32 := Scf.iv v716 c1_i32_573 k0_t68
  let c1_i32_568 : BitVec 32 := 1#32
  let v755 : BitVec 32 := Scalar.muli arg22 c1_i32_568
  let v756 : BitVec 32 := Scalar.addi c0_i32_569 v755
  let c128_i32_617 : BitVec 32 := 128#32
  let v757 : BitVec 32 := Scalar.muli v756 c128_i32_617
  let v758 : BitVec 32 := Scalar.addi c0_i32_526 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]

def k0_chk1_0 (v27 : BitVec 32) : Prop :=
  (16 ∣ (k0_mult7 v27).toNat) ∧
  ((k0_t6_loop v27).OK) ∧
  (∀ k0_t6 : Fin (k0_t6_loop v27).trips, 32 ∣ (k0_mult27 v27 k0_t6).toNat) ∧
  (∀ k0_t6 : Fin (k0_t6_loop v27).trips, ∀ a, (k0_off8 v27 k0_t6) a + S1x1024.size a ≤ S13x3072.size a) ∧
  (∀ k0_t6 : Fin (k0_t6_loop v27).trips, ∀ a, (k0_off9 v27 k0_t6) a + S160x1024.size a ≤ S1536x3072.size a) ∧
  (∀ k0_t6 : Fin (k0_t6_loop v27).trips, ∀ a, (k0_off10 v27 k0_t6) a + S160x1024.size a ≤ S1792x1024.size a) ∧
  (∀ k0_t6 : Fin (k0_t6_loop v27).trips, ∀ (hinb : ∀ a, (k0_off10 v27 k0_t6) a + S160x1024.size a ≤ S1792x1024.size a), (Rect.unit (s := S1792x1024) (k0_off10 v27 k0_t6) S160x1024.size hinb).PackedRows (EltTy.packing .bf16)) ∧
  ((k0_t7_loop v27).OK) ∧
  (∀ k0_t7 : Fin (k0_t7_loop v27).trips, 32 ∣ (k0_mult28 v27 k0_t7).toNat) ∧
  (∀ k0_t7 : Fin (k0_t7_loop v27).trips, ∀ a, (k0_off11 v27 k0_t7) a + S1x1024.size a ≤ S13x3072.size a) ∧
  (∀ k0_t7 : Fin (k0_t7_loop v27).trips, ∀ a, (k0_off12 v27 k0_t7) a + S160x1024.size a ≤ S1536x3072.size a) ∧
  (∀ k0_t7 : Fin (k0_t7_loop v27).trips, ∀ a, (k0_off13 v27 k0_t7) a + S160x1024.size a ≤ S1792x1024.size a) ∧
  (∀ k0_t7 : Fin (k0_t7_loop v27).trips, ∀ (hinb : ∀ a, (k0_off13 v27 k0_t7) a + S160x1024.size a ≤ S1792x1024.size a), (Rect.unit (s := S1792x1024) (k0_off13 v27 k0_t7) S160x1024.size hinb).PackedRows (EltTy.packing .bf16)) ∧
  ((k0_t16_loop v27).OK) ∧
  (∀ k0_t16 : Fin (k0_t16_loop v27).trips, 16 ∣ (k0_mult37 v27 k0_t16).toNat) ∧
  (∀ k0_t16 : Fin (k0_t16_loop v27).trips, ∀ a, (k0_off38 v27 k0_t16) a + S256x1024.size a ≤ S1792x1024.size a) ∧
  (∀ k0_t16 : Fin (k0_t16_loop v27).trips, 256 ∣ (k0_mult38 v27 k0_t16).toNat) ∧
  (∀ k0_t16 : Fin (k0_t16_loop v27).trips, ∀ a, (k0_off39 v27 k0_t16) a + S1024x256.size a ≤ S3072x2816.size a) ∧
  (∀ k0_t16 : Fin (k0_t16_loop v27).trips, ∀ (hinb : ∀ a, (k0_off39 v27 k0_t16) a + S1024x256.size a ≤ S3072x2816.size a), (Rect.unit (s := S3072x2816) (k0_off39 v27 k0_t16) S1024x256.size hinb).PackedRows (EltTy.packing .bf16)) ∧
  ((k0_t17_loop v27).OK) ∧
  (∀ k0_t17 : Fin (k0_t17_loop v27).trips, 16 ∣ (k0_mult39 v27 k0_t17).toNat) ∧
  (∀ k0_t17 : Fin (k0_t17_loop v27).trips, ∀ a, (k0_off40 v27 k0_t17) a + S256x1024.size a ≤ S1792x1024.size a) ∧
  (∀ k0_t17 : Fin (k0_t17_loop v27).trips, 256 ∣ (k0_mult40 v27 k0_t17).toNat) ∧
  (∀ k0_t17 : Fin (k0_t17_loop v27).trips, ∀ a, (k0_off41 v27 k0_t17) a + S1024x256.size a ≤ S3072x2816.size a) ∧
  (∀ k0_t17 : Fin (k0_t17_loop v27).trips, ∀ (hinb : ∀ a, (k0_off41 v27 k0_t17) a + S1024x256.size a ≤ S3072x2816.size a), (Rect.unit (s := S3072x2816) (k0_off41 v27 k0_t17) S1024x256.size hinb).PackedRows (EltTy.packing .bf16)) ∧
  ((k0_t26_loop v27).OK) ∧
  (∀ k0_t26 : Fin (k0_t26_loop v27).trips, 32 ∣ (k0_mult57 v27 k0_t26).toNat) ∧
  (∀ k0_t26 : Fin (k0_t26_loop v27).trips, ∀ a, (k0_off58 v27 k0_t26) a + S1x1024.size a ≤ S13x3072.size a) ∧
  (∀ k0_t26 : Fin (k0_t26_loop v27).trips, ∀ a, (k0_off59 v27 k0_t26) a + S160x1024.size a ≤ S1536x3072.size a) ∧
  (∀ k0_t26 : Fin (k0_t26_loop v27).trips, ∀ a, (k0_off60 v27 k0_t26) a + S160x1024.size a ≤ S1792x1024.size a) ∧
  (∀ k0_t26 : Fin (k0_t26_loop v27).trips, ∀ (hinb : ∀ a, (k0_off60 v27 k0_t26) a + S160x1024.size a ≤ S1792x1024.size a), (Rect.unit (s := S1792x1024) (k0_off60 v27 k0_t26) S160x1024.size hinb).PackedRows (EltTy.packing .bf16)) ∧
  ((k0_t27_loop v27).OK)
def k0_chk1_1 (v27 : BitVec 32) : Prop :=
  (∀ k0_t27 : Fin (k0_t27_loop v27).trips, 32 ∣ (k0_mult58 v27 k0_t27).toNat) ∧
  (∀ k0_t27 : Fin (k0_t27_loop v27).trips, ∀ a, (k0_off61 v27 k0_t27) a + S1x1024.size a ≤ S13x3072.size a) ∧
  (∀ k0_t27 : Fin (k0_t27_loop v27).trips, ∀ a, (k0_off62 v27 k0_t27) a + S160x1024.size a ≤ S1536x3072.size a) ∧
  (∀ k0_t27 : Fin (k0_t27_loop v27).trips, ∀ a, (k0_off63 v27 k0_t27) a + S160x1024.size a ≤ S1792x1024.size a) ∧
  (∀ k0_t27 : Fin (k0_t27_loop v27).trips, ∀ (hinb : ∀ a, (k0_off63 v27 k0_t27) a + S160x1024.size a ≤ S1792x1024.size a), (Rect.unit (s := S1792x1024) (k0_off63 v27 k0_t27) S160x1024.size hinb).PackedRows (EltTy.packing .bf16)) ∧
  ((k0_t36_loop v27).OK) ∧
  (∀ k0_t36 : Fin (k0_t36_loop v27).trips, 16 ∣ (k0_mult67 v27 k0_t36).toNat) ∧
  (∀ k0_t36 : Fin (k0_t36_loop v27).trips, ∀ a, (k0_off88 v27 k0_t36) a + S256x1024.size a ≤ S1792x1024.size a) ∧
  (∀ k0_t36 : Fin (k0_t36_loop v27).trips, 256 ∣ (k0_mult68 v27 k0_t36).toNat) ∧
  (∀ k0_t36 : Fin (k0_t36_loop v27).trips, ∀ a, (k0_off89 v27 k0_t36) a + S1024x256.size a ≤ S3072x2816.size a) ∧
  (∀ k0_t36 : Fin (k0_t36_loop v27).trips, ∀ (hinb : ∀ a, (k0_off89 v27 k0_t36) a + S1024x256.size a ≤ S3072x2816.size a), (Rect.unit (s := S3072x2816) (k0_off89 v27 k0_t36) S1024x256.size hinb).PackedRows (EltTy.packing .bf16)) ∧
  ((k0_t37_loop v27).OK) ∧
  (∀ k0_t37 : Fin (k0_t37_loop v27).trips, 16 ∣ (k0_mult69 v27 k0_t37).toNat) ∧
  (∀ k0_t37 : Fin (k0_t37_loop v27).trips, ∀ a, (k0_off90 v27 k0_t37) a + S256x1024.size a ≤ S1792x1024.size a) ∧
  (∀ k0_t37 : Fin (k0_t37_loop v27).trips, 256 ∣ (k0_mult70 v27 k0_t37).toNat) ∧
  (∀ k0_t37 : Fin (k0_t37_loop v27).trips, ∀ a, (k0_off91 v27 k0_t37) a + S1024x256.size a ≤ S3072x2816.size a) ∧
  (∀ k0_t37 : Fin (k0_t37_loop v27).trips, ∀ (hinb : ∀ a, (k0_off91 v27 k0_t37) a + S1024x256.size a ≤ S3072x2816.size a), (Rect.unit (s := S3072x2816) (k0_off91 v27 k0_t37) S1024x256.size hinb).PackedRows (EltTy.packing .bf16)) ∧
  ((k0_t46_loop v27).OK) ∧
  (∀ k0_t46 : Fin (k0_t46_loop v27).trips, 32 ∣ (k0_mult87 v27 k0_t46).toNat) ∧
  (∀ k0_t46 : Fin (k0_t46_loop v27).trips, ∀ a, (k0_off108 v27 k0_t46) a + S1x1024.size a ≤ S13x3072.size a) ∧
  (∀ k0_t46 : Fin (k0_t46_loop v27).trips, ∀ a, (k0_off109 v27 k0_t46) a + S160x1024.size a ≤ S1536x3072.size a) ∧
  (∀ k0_t46 : Fin (k0_t46_loop v27).trips, ∀ a, (k0_off110 v27 k0_t46) a + S160x1024.size a ≤ S1792x1024.size a) ∧
  (∀ k0_t46 : Fin (k0_t46_loop v27).trips, ∀ (hinb : ∀ a, (k0_off110 v27 k0_t46) a + S160x1024.size a ≤ S1792x1024.size a), (Rect.unit (s := S1792x1024) (k0_off110 v27 k0_t46) S160x1024.size hinb).PackedRows (EltTy.packing .bf16)) ∧
  ((k0_t47_loop v27).OK) ∧
  (∀ k0_t47 : Fin (k0_t47_loop v27).trips, 32 ∣ (k0_mult88 v27 k0_t47).toNat) ∧
  (∀ k0_t47 : Fin (k0_t47_loop v27).trips, ∀ a, (k0_off111 v27 k0_t47) a + S1x1024.size a ≤ S13x3072.size a) ∧
  (∀ k0_t47 : Fin (k0_t47_loop v27).trips, ∀ a, (k0_off112 v27 k0_t47) a + S160x1024.size a ≤ S1536x3072.size a) ∧
  (∀ k0_t47 : Fin (k0_t47_loop v27).trips, ∀ a, (k0_off113 v27 k0_t47) a + S160x1024.size a ≤ S1792x1024.size a) ∧
  (∀ k0_t47 : Fin (k0_t47_loop v27).trips, ∀ (hinb : ∀ a, (k0_off113 v27 k0_t47) a + S160x1024.size a ≤ S1792x1024.size a), (Rect.unit (s := S1792x1024) (k0_off113 v27 k0_t47) S160x1024.size hinb).PackedRows (EltTy.packing .bf16)) ∧
  ((k0_t56_loop v27).OK) ∧
  (∀ k0_t56 : Fin (k0_t56_loop v27).trips, 16 ∣ (k0_mult97 v27 k0_t56).toNat) ∧
  (∀ k0_t56 : Fin (k0_t56_loop v27).trips, ∀ a, (k0_off138 v27 k0_t56) a + S256x1024.size a ≤ S1792x1024.size a)
def k0_chk1_2 (v27 : BitVec 32) : Prop :=
  (∀ k0_t56 : Fin (k0_t56_loop v27).trips, 256 ∣ (k0_mult98 v27 k0_t56).toNat) ∧
  (∀ k0_t56 : Fin (k0_t56_loop v27).trips, ∀ a, (k0_off139 v27 k0_t56) a + S1024x256.size a ≤ S3072x2816.size a) ∧
  (∀ k0_t56 : Fin (k0_t56_loop v27).trips, ∀ (hinb : ∀ a, (k0_off139 v27 k0_t56) a + S1024x256.size a ≤ S3072x2816.size a), (Rect.unit (s := S3072x2816) (k0_off139 v27 k0_t56) S1024x256.size hinb).PackedRows (EltTy.packing .bf16)) ∧
  ((k0_t57_loop v27).OK) ∧
  (∀ k0_t57 : Fin (k0_t57_loop v27).trips, 16 ∣ (k0_mult99 v27 k0_t57).toNat) ∧
  (∀ k0_t57 : Fin (k0_t57_loop v27).trips, ∀ a, (k0_off140 v27 k0_t57) a + S256x1024.size a ≤ S1792x1024.size a) ∧
  (∀ k0_t57 : Fin (k0_t57_loop v27).trips, 256 ∣ (k0_mult100 v27 k0_t57).toNat) ∧
  (∀ k0_t57 : Fin (k0_t57_loop v27).trips, ∀ a, (k0_off141 v27 k0_t57) a + S1024x256.size a ≤ S3072x2816.size a) ∧
  (∀ k0_t57 : Fin (k0_t57_loop v27).trips, ∀ (hinb : ∀ a, (k0_off141 v27 k0_t57) a + S1024x256.size a ≤ S3072x2816.size a), (Rect.unit (s := S3072x2816) (k0_off141 v27 k0_t57) S1024x256.size hinb).PackedRows (EltTy.packing .bf16)) ∧
  ((k0_t67_loop v27).OK) ∧
  (∀ k0_t67 : Fin (k0_t67_loop v27).trips, 32 ∣ (k0_mult120 v27 k0_t67).toNat) ∧
  (∀ (k0_t66 : Fin k0_t66_loop.trips) (k0_t67 : Fin (k0_t67_loop v27).trips), ∀ a, (k0_off164 v27 k0_t66 k0_t67) a + S1x1024.size a ≤ S13x8192.size a) ∧
  (∀ (k0_t66 : Fin k0_t66_loop.trips) (k0_t67 : Fin (k0_t67_loop v27).trips), ∀ a, (k0_off165 v27 k0_t66 k0_t67) a + S1x160x1024.size a ≤ S2x1536x1024.size a) ∧
  (∀ k0_t67 : Fin (k0_t67_loop v27).trips, ∀ a, (k0_off166 v27 k0_t67) a + S160x1024.size a ≤ S1792x1024.size a) ∧
  (∀ k0_t67 : Fin (k0_t67_loop v27).trips, ∀ (hinb : ∀ a, (k0_off166 v27 k0_t67) a + S160x1024.size a ≤ S1792x1024.size a), (Rect.unit (s := S1792x1024) (k0_off166 v27 k0_t67) S160x1024.size hinb).PackedRows (EltTy.packing .bf16)) ∧
  ((k0_t68_loop v27).OK) ∧
  (∀ k0_t68 : Fin (k0_t68_loop v27).trips, 32 ∣ (k0_mult121 v27 k0_t68).toNat) ∧
  (∀ (k0_t66 : Fin k0_t66_loop.trips) (k0_t68 : Fin (k0_t68_loop v27).trips), ∀ a, (k0_off167 v27 k0_t66 k0_t68) a + S1x1024.size a ≤ S13x8192.size a) ∧
  (∀ (k0_t66 : Fin k0_t66_loop.trips) (k0_t68 : Fin (k0_t68_loop v27).trips), ∀ a, (k0_off168 v27 k0_t66 k0_t68) a + S1x160x1024.size a ≤ S2x1536x1024.size a) ∧
  (∀ k0_t68 : Fin (k0_t68_loop v27).trips, ∀ a, (k0_off169 v27 k0_t68) a + S160x1024.size a ≤ S1792x1024.size a) ∧
  (∀ k0_t68 : Fin (k0_t68_loop v27).trips, ∀ (hinb : ∀ a, (k0_off169 v27 k0_t68) a + S160x1024.size a ≤ S1792x1024.size a), (Rect.unit (s := S1792x1024) (k0_off169 v27 k0_t68) S160x1024.size hinb).PackedRows (EltTy.packing .bf16))
def k0_chk1 (v27 : BitVec 32) : Prop :=
  k0_chk1_0 v27 ∧
  k0_chk1_1 v27 ∧
  k0_chk1_2 v27
theorem k0_mult7_dvd : ∀ (v27 : BitVec 32) (k0_hw1 : k0_chk1 v27), 16 ∣ (k0_mult7 v27).toNat := fun v27 k0_hw1 => k0_hw1.1.1
theorem k0_t6_ok : ∀ (v27 : BitVec 32) (k0_hw1 : k0_chk1 v27), (k0_t6_loop v27).OK := fun v27 k0_hw1 => k0_hw1.1.2.1
theorem k0_mult27_dvd : ∀ (v27 : BitVec 32) (k0_hw1 : k0_chk1 v27) (k0_t6 : Fin (k0_t6_loop v27).trips), 32 ∣ (k0_mult27 v27 k0_t6).toNat := fun v27 k0_hw1 k0_t6 => k0_hw1.1.2.2.1 k0_t6
theorem k0_off8_inb : ∀ (v27 : BitVec 32) (k0_hw1 : k0_chk1 v27) (k0_t6 : Fin (k0_t6_loop v27).trips), ∀ a, (k0_off8 v27 k0_t6) a + S1x1024.size a ≤ S13x3072.size a := fun v27 k0_hw1 k0_t6 => k0_hw1.1.2.2.2.1 k0_t6
theorem k0_off9_inb : ∀ (v27 : BitVec 32) (k0_hw1 : k0_chk1 v27) (k0_t6 : Fin (k0_t6_loop v27).trips), ∀ a, (k0_off9 v27 k0_t6) a + S160x1024.size a ≤ S1536x3072.size a := fun v27 k0_hw1 k0_t6 => k0_hw1.1.2.2.2.2.1 k0_t6
theorem k0_off10_inb : ∀ (v27 : BitVec 32) (k0_hw1 : k0_chk1 v27) (k0_t6 : Fin (k0_t6_loop v27).trips), ∀ a, (k0_off10 v27 k0_t6) a + S160x1024.size a ≤ S1792x1024.size a := fun v27 k0_hw1 k0_t6 => k0_hw1.1.2.2.2.2.2.1 k0_t6
theorem k0_off10_packedbf16 : ∀ (v27 : BitVec 32) (k0_hw1 : k0_chk1 v27) (k0_t6 : Fin (k0_t6_loop v27).trips), (Rect.unit (s := S1792x1024) (k0_off10 v27 k0_t6) S160x1024.size (k0_off10_inb v27 k0_hw1 k0_t6)).PackedRows (EltTy.packing .bf16) := fun v27 k0_hw1 k0_t6 => k0_hw1.1.2.2.2.2.2.2.1 k0_t6 (k0_off10_inb v27 k0_hw1 k0_t6)
theorem k0_t7_ok : ∀ (v27 : BitVec 32) (k0_hw1 : k0_chk1 v27), (k0_t7_loop v27).OK := fun v27 k0_hw1 => k0_hw1.1.2.2.2.2.2.2.2.1
theorem k0_mult28_dvd : ∀ (v27 : BitVec 32) (k0_hw1 : k0_chk1 v27) (k0_t7 : Fin (k0_t7_loop v27).trips), 32 ∣ (k0_mult28 v27 k0_t7).toNat := fun v27 k0_hw1 k0_t7 => k0_hw1.1.2.2.2.2.2.2.2.2.1 k0_t7
theorem k0_off11_inb : ∀ (v27 : BitVec 32) (k0_hw1 : k0_chk1 v27) (k0_t7 : Fin (k0_t7_loop v27).trips), ∀ a, (k0_off11 v27 k0_t7) a + S1x1024.size a ≤ S13x3072.size a := fun v27 k0_hw1 k0_t7 => k0_hw1.1.2.2.2.2.2.2.2.2.2.1 k0_t7
theorem k0_off12_inb : ∀ (v27 : BitVec 32) (k0_hw1 : k0_chk1 v27) (k0_t7 : Fin (k0_t7_loop v27).trips), ∀ a, (k0_off12 v27 k0_t7) a + S160x1024.size a ≤ S1536x3072.size a := fun v27 k0_hw1 k0_t7 => k0_hw1.1.2.2.2.2.2.2.2.2.2.2.1 k0_t7
theorem k0_off13_inb : ∀ (v27 : BitVec 32) (k0_hw1 : k0_chk1 v27) (k0_t7 : Fin (k0_t7_loop v27).trips), ∀ a, (k0_off13 v27 k0_t7) a + S160x1024.size a ≤ S1792x1024.size a := fun v27 k0_hw1 k0_t7 => k0_hw1.1.2.2.2.2.2.2.2.2.2.2.2.1 k0_t7
theorem k0_off13_packedbf16 : ∀ (v27 : BitVec 32) (k0_hw1 : k0_chk1 v27) (k0_t7 : Fin (k0_t7_loop v27).trips), (Rect.unit (s := S1792x1024) (k0_off13 v27 k0_t7) S160x1024.size (k0_off13_inb v27 k0_hw1 k0_t7)).PackedRows (EltTy.packing .bf16) := fun v27 k0_hw1 k0_t7 => k0_hw1.1.2.2.2.2.2.2.2.2.2.2.2.2.1 k0_t7 (k0_off13_inb v27 k0_hw1 k0_t7)
theorem k0_t16_ok : ∀ (v27 : BitVec 32) (k0_hw1 : k0_chk1 v27), (k0_t16_loop v27).OK := fun v27 k0_hw1 => k0_hw1.1.2.2.2.2.2.2.2.2.2.2.2.2.2.1
theorem k0_mult37_dvd : ∀ (v27 : BitVec 32) (k0_hw1 : k0_chk1 v27) (k0_t16 : Fin (k0_t16_loop v27).trips), 16 ∣ (k0_mult37 v27 k0_t16).toNat := fun v27 k0_hw1 k0_t16 => k0_hw1.1.2.2.2.2.2.2.2.2.2.2.2.2.2.2.1 k0_t16
theorem k0_off38_inb : ∀ (v27 : BitVec 32) (k0_hw1 : k0_chk1 v27) (k0_t16 : Fin (k0_t16_loop v27).trips), ∀ a, (k0_off38 v27 k0_t16) a + S256x1024.size a ≤ S1792x1024.size a := fun v27 k0_hw1 k0_t16 => k0_hw1.1.2.2.2.2.2.2.2.2.2.2.2.2.2.2.2.1 k0_t16
theorem k0_mult38_dvd : ∀ (v27 : BitVec 32) (k0_hw1 : k0_chk1 v27) (k0_t16 : Fin (k0_t16_loop v27).trips), 256 ∣ (k0_mult38 v27 k0_t16).toNat := fun v27 k0_hw1 k0_t16 => k0_hw1.1.2.2.2.2.2.2.2.2.2.2.2.2.2.2.2.2.1 k0_t16
theorem k0_off39_inb : ∀ (v27 : BitVec 32) (k0_hw1 : k0_chk1 v27) (k0_t16 : Fin (k0_t16_loop v27).trips), ∀ a, (k0_off39 v27 k0_t16) a + S1024x256.size a ≤ S3072x2816.size a := fun v27 k0_hw1 k0_t16 => k0_hw1.1.2.2.2.2.2.2.2.2.2.2.2.2.2.2.2.2.2.1 k0_t16
theorem k0_off39_packedbf16 : ∀ (v27 : BitVec 32) (k0_hw1 : k0_chk1 v27) (k0_t16 : Fin (k0_t16_loop v27).trips), (Rect.unit (s := S3072x2816) (k0_off39 v27 k0_t16) S1024x256.size (k0_off39_inb v27 k0_hw1 k0_t16)).PackedRows (EltTy.packing .bf16) := fun v27 k0_hw1 k0_t16 => k0_hw1.1.2.2.2.2.2.2.2.2.2.2.2.2.2.2.2.2.2.2.1 k0_t16 (k0_off39_inb v27 k0_hw1 k0_t16)
theorem k0_t17_ok : ∀ (v27 : BitVec 32) (k0_hw1 : k0_chk1 v27), (k0_t17_loop v27).OK := fun v27 k0_hw1 => k0_hw1.1.2.2.2.2.2.2.2.2.2.2.2.2.2.2.2.2.2.2.2.1
theorem k0_mult39_dvd : ∀ (v27 : BitVec 32) (k0_hw1 : k0_chk1 v27) (k0_t17 : Fin (k0_t17_loop v27).trips), 16 ∣ (k0_mult39 v27 k0_t17).toNat := fun v27 k0_hw1 k0_t17 => k0_hw1.1.2.2.2.2.2.2.2.2.2.2.2.2.2.2.2.2.2.2.2.2.1 k0_t17
theorem k0_off40_inb : ∀ (v27 : BitVec 32) (k0_hw1 : k0_chk1 v27) (k0_t17 : Fin (k0_t17_loop v27).trips), ∀ a, (k0_off40 v27 k0_t17) a + S256x1024.size a ≤ S1792x1024.size a := fun v27 k0_hw1 k0_t17 => k0_hw1.1.2.2.2.2.2.2.2.2.2.2.2.2.2.2.2.2.2.2.2.2.2.1 k0_t17
theorem k0_mult40_dvd : ∀ (v27 : BitVec 32) (k0_hw1 : k0_chk1 v27) (k0_t17 : Fin (k0_t17_loop v27).trips), 256 ∣ (k0_mult40 v27 k0_t17).toNat := fun v27 k0_hw1 k0_t17 => k0_hw1.1.2.2.2.2.2.2.2.2.2.2.2.2.2.2.2.2.2.2.2.2.2.2.1 k0_t17
theorem k0_off41_inb : ∀ (v27 : BitVec 32) (k0_hw1 : k0_chk1 v27) (k0_t17 : Fin (k0_t17_loop v27).trips), ∀ a, (k0_off41 v27 k0_t17) a + S1024x256.size a ≤ S3072x2816.size a := fun v27 k0_hw1 k0_t17 => k0_hw1.1.2.2.2.2.2.2.2.2.2.2.2.2.2.2.2.2.2.2.2.2.2.2.2.1 k0_t17
theorem k0_off41_packedbf16 : ∀ (v27 : BitVec 32) (k0_hw1 : k0_chk1 v27) (k0_t17 : Fin (k0_t17_loop v27).trips), (Rect.unit (s := S3072x2816) (k0_off41 v27 k0_t17) S1024x256.size (k0_off41_inb v27 k0_hw1 k0_t17)).PackedRows (EltTy.packing .bf16) := fun v27 k0_hw1 k0_t17 => k0_hw1.1.2.2.2.2.2.2.2.2.2.2.2.2.2.2.2.2.2.2.2.2.2.2.2.2.1 k0_t17 (k0_off41_inb v27 k0_hw1 k0_t17)
theorem k0_t26_ok : ∀ (v27 : BitVec 32) (k0_hw1 : k0_chk1 v27), (k0_t26_loop v27).OK := fun v27 k0_hw1 => k0_hw1.1.2.2.2.2.2.2.2.2.2.2.2.2.2.2.2.2.2.2.2.2.2.2.2.2.2.1
theorem k0_mult57_dvd : ∀ (v27 : BitVec 32) (k0_hw1 : k0_chk1 v27) (k0_t26 : Fin (k0_t26_loop v27).trips), 32 ∣ (k0_mult57 v27 k0_t26).toNat := fun v27 k0_hw1 k0_t26 => k0_hw1.1.2.2.2.2.2.2.2.2.2.2.2.2.2.2.2.2.2.2.2.2.2.2.2.2.2.2.1 k0_t26
theorem k0_off58_inb : ∀ (v27 : BitVec 32) (k0_hw1 : k0_chk1 v27) (k0_t26 : Fin (k0_t26_loop v27).trips), ∀ a, (k0_off58 v27 k0_t26) a + S1x1024.size a ≤ S13x3072.size a := fun v27 k0_hw1 k0_t26 => k0_hw1.1.2.2.2.2.2.2.2.2.2.2.2.2.2.2.2.2.2.2.2.2.2.2.2.2.2.2.2.1 k0_t26
theorem k0_off59_inb : ∀ (v27 : BitVec 32) (k0_hw1 : k0_chk1 v27) (k0_t26 : Fin (k0_t26_loop v27).trips), ∀ a, (k0_off59 v27 k0_t26) a + S160x1024.size a ≤ S1536x3072.size a := fun v27 k0_hw1 k0_t26 => k0_hw1.1.2.2.2.2.2.2.2.2.2.2.2.2.2.2.2.2.2.2.2.2.2.2.2.2.2.2.2.2.1 k0_t26
theorem k0_off60_inb : ∀ (v27 : BitVec 32) (k0_hw1 : k0_chk1 v27) (k0_t26 : Fin (k0_t26_loop v27).trips), ∀ a, (k0_off60 v27 k0_t26) a + S160x1024.size a ≤ S1792x1024.size a := fun v27 k0_hw1 k0_t26 => k0_hw1.1.2.2.2.2.2.2.2.2.2.2.2.2.2.2.2.2.2.2.2.2.2.2.2.2.2.2.2.2.2.1 k0_t26
theorem k0_off60_packedbf16 : ∀ (v27 : BitVec 32) (k0_hw1 : k0_chk1 v27) (k0_t26 : Fin (k0_t26_loop v27).trips), (Rect.unit (s := S1792x1024) (k0_off60 v27 k0_t26) S160x1024.size (k0_off60_inb v27 k0_hw1 k0_t26)).PackedRows (EltTy.packing .bf16) := fun v27 k0_hw1 k0_t26 => k0_hw1.1.2.2.2.2.2.2.2.2.2.2.2.2.2.2.2.2.2.2.2.2.2.2.2.2.2.2.2.2.2.2.1 k0_t26 (k0_off60_inb v27 k0_hw1 k0_t26)
theorem k0_t27_ok : ∀ (v27 : BitVec 32) (k0_hw1 : k0_chk1 v27), (k0_t27_loop v27).OK := fun v27 k0_hw1 => k0_hw1.1.2.2.2.2.2.2.2.2.2.2.2.2.2.2.2.2.2.2.2.2.2.2.2.2.2.2.2.2.2.2.2
theorem k0_mult58_dvd : ∀ (v27 : BitVec 32) (k0_hw1 : k0_chk1 v27) (k0_t27 : Fin (k0_t27_loop v27).trips), 32 ∣ (k0_mult58 v27 k0_t27).toNat := fun v27 k0_hw1 k0_t27 => k0_hw1.2.1.1 k0_t27
theorem k0_off61_inb : ∀ (v27 : BitVec 32) (k0_hw1 : k0_chk1 v27) (k0_t27 : Fin (k0_t27_loop v27).trips), ∀ a, (k0_off61 v27 k0_t27) a + S1x1024.size a ≤ S13x3072.size a := fun v27 k0_hw1 k0_t27 => k0_hw1.2.1.2.1 k0_t27
theorem k0_off62_inb : ∀ (v27 : BitVec 32) (k0_hw1 : k0_chk1 v27) (k0_t27 : Fin (k0_t27_loop v27).trips), ∀ a, (k0_off62 v27 k0_t27) a + S160x1024.size a ≤ S1536x3072.size a := fun v27 k0_hw1 k0_t27 => k0_hw1.2.1.2.2.1 k0_t27
theorem k0_off63_inb : ∀ (v27 : BitVec 32) (k0_hw1 : k0_chk1 v27) (k0_t27 : Fin (k0_t27_loop v27).trips), ∀ a, (k0_off63 v27 k0_t27) a + S160x1024.size a ≤ S1792x1024.size a := fun v27 k0_hw1 k0_t27 => k0_hw1.2.1.2.2.2.1 k0_t27
theorem k0_off63_packedbf16 : ∀ (v27 : BitVec 32) (k0_hw1 : k0_chk1 v27) (k0_t27 : Fin (k0_t27_loop v27).trips), (Rect.unit (s := S1792x1024) (k0_off63 v27 k0_t27) S160x1024.size (k0_off63_inb v27 k0_hw1 k0_t27)).PackedRows (EltTy.packing .bf16) := fun v27 k0_hw1 k0_t27 => k0_hw1.2.1.2.2.2.2.1 k0_t27 (k0_off63_inb v27 k0_hw1 k0_t27)
theorem k0_t36_ok : ∀ (v27 : BitVec 32) (k0_hw1 : k0_chk1 v27), (k0_t36_loop v27).OK := fun v27 k0_hw1 => k0_hw1.2.1.2.2.2.2.2.1
theorem k0_mult67_dvd : ∀ (v27 : BitVec 32) (k0_hw1 : k0_chk1 v27) (k0_t36 : Fin (k0_t36_loop v27).trips), 16 ∣ (k0_mult67 v27 k0_t36).toNat := fun v27 k0_hw1 k0_t36 => k0_hw1.2.1.2.2.2.2.2.2.1 k0_t36
theorem k0_off88_inb : ∀ (v27 : BitVec 32) (k0_hw1 : k0_chk1 v27) (k0_t36 : Fin (k0_t36_loop v27).trips), ∀ a, (k0_off88 v27 k0_t36) a + S256x1024.size a ≤ S1792x1024.size a := fun v27 k0_hw1 k0_t36 => k0_hw1.2.1.2.2.2.2.2.2.2.1 k0_t36
theorem k0_mult68_dvd : ∀ (v27 : BitVec 32) (k0_hw1 : k0_chk1 v27) (k0_t36 : Fin (k0_t36_loop v27).trips), 256 ∣ (k0_mult68 v27 k0_t36).toNat := fun v27 k0_hw1 k0_t36 => k0_hw1.2.1.2.2.2.2.2.2.2.2.1 k0_t36
theorem k0_off89_inb : ∀ (v27 : BitVec 32) (k0_hw1 : k0_chk1 v27) (k0_t36 : Fin (k0_t36_loop v27).trips), ∀ a, (k0_off89 v27 k0_t36) a + S1024x256.size a ≤ S3072x2816.size a := fun v27 k0_hw1 k0_t36 => k0_hw1.2.1.2.2.2.2.2.2.2.2.2.1 k0_t36
theorem k0_off89_packedbf16 : ∀ (v27 : BitVec 32) (k0_hw1 : k0_chk1 v27) (k0_t36 : Fin (k0_t36_loop v27).trips), (Rect.unit (s := S3072x2816) (k0_off89 v27 k0_t36) S1024x256.size (k0_off89_inb v27 k0_hw1 k0_t36)).PackedRows (EltTy.packing .bf16) := fun v27 k0_hw1 k0_t36 => k0_hw1.2.1.2.2.2.2.2.2.2.2.2.2.1 k0_t36 (k0_off89_inb v27 k0_hw1 k0_t36)
theorem k0_t37_ok : ∀ (v27 : BitVec 32) (k0_hw1 : k0_chk1 v27), (k0_t37_loop v27).OK := fun v27 k0_hw1 => k0_hw1.2.1.2.2.2.2.2.2.2.2.2.2.2.1
theorem k0_mult69_dvd : ∀ (v27 : BitVec 32) (k0_hw1 : k0_chk1 v27) (k0_t37 : Fin (k0_t37_loop v27).trips), 16 ∣ (k0_mult69 v27 k0_t37).toNat := fun v27 k0_hw1 k0_t37 => k0_hw1.2.1.2.2.2.2.2.2.2.2.2.2.2.2.1 k0_t37
theorem k0_off90_inb : ∀ (v27 : BitVec 32) (k0_hw1 : k0_chk1 v27) (k0_t37 : Fin (k0_t37_loop v27).trips), ∀ a, (k0_off90 v27 k0_t37) a + S256x1024.size a ≤ S1792x1024.size a := fun v27 k0_hw1 k0_t37 => k0_hw1.2.1.2.2.2.2.2.2.2.2.2.2.2.2.2.1 k0_t37
theorem k0_mult70_dvd : ∀ (v27 : BitVec 32) (k0_hw1 : k0_chk1 v27) (k0_t37 : Fin (k0_t37_loop v27).trips), 256 ∣ (k0_mult70 v27 k0_t37).toNat := fun v27 k0_hw1 k0_t37 => k0_hw1.2.1.2.2.2.2.2.2.2.2.2.2.2.2.2.2.1 k0_t37
theorem k0_off91_inb : ∀ (v27 : BitVec 32) (k0_hw1 : k0_chk1 v27) (k0_t37 : Fin (k0_t37_loop v27).trips), ∀ a, (k0_off91 v27 k0_t37) a + S1024x256.size a ≤ S3072x2816.size a := fun v27 k0_hw1 k0_t37 => k0_hw1.2.1.2.2.2.2.2.2.2.2.2.2.2.2.2.2.2.1 k0_t37
theorem k0_off91_packedbf16 : ∀ (v27 : BitVec 32) (k0_hw1 : k0_chk1 v27) (k0_t37 : Fin (k0_t37_loop v27).trips), (Rect.unit (s := S3072x2816) (k0_off91 v27 k0_t37) S1024x256.size (k0_off91_inb v27 k0_hw1 k0_t37)).PackedRows (EltTy.packing .bf16) := fun v27 k0_hw1 k0_t37 => k0_hw1.2.1.2.2.2.2.2.2.2.2.2.2.2.2.2.2.2.2.1 k0_t37 (k0_off91_inb v27 k0_hw1 k0_t37)
theorem k0_t46_ok : ∀ (v27 : BitVec 32) (k0_hw1 : k0_chk1 v27), (k0_t46_loop v27).OK := fun v27 k0_hw1 => k0_hw1.2.1.2.2.2.2.2.2.2.2.2.2.2.2.2.2.2.2.2.1
theorem k0_mult87_dvd : ∀ (v27 : BitVec 32) (k0_hw1 : k0_chk1 v27) (k0_t46 : Fin (k0_t46_loop v27).trips), 32 ∣ (k0_mult87 v27 k0_t46).toNat := fun v27 k0_hw1 k0_t46 => k0_hw1.2.1.2.2.2.2.2.2.2.2.2.2.2.2.2.2.2.2.2.2.1 k0_t46
theorem k0_off108_inb : ∀ (v27 : BitVec 32) (k0_hw1 : k0_chk1 v27) (k0_t46 : Fin (k0_t46_loop v27).trips), ∀ a, (k0_off108 v27 k0_t46) a + S1x1024.size a ≤ S13x3072.size a := fun v27 k0_hw1 k0_t46 => k0_hw1.2.1.2.2.2.2.2.2.2.2.2.2.2.2.2.2.2.2.2.2.2.1 k0_t46
theorem k0_off109_inb : ∀ (v27 : BitVec 32) (k0_hw1 : k0_chk1 v27) (k0_t46 : Fin (k0_t46_loop v27).trips), ∀ a, (k0_off109 v27 k0_t46) a + S160x1024.size a ≤ S1536x3072.size a := fun v27 k0_hw1 k0_t46 => k0_hw1.2.1.2.2.2.2.2.2.2.2.2.2.2.2.2.2.2.2.2.2.2.2.1 k0_t46
theorem k0_off110_inb : ∀ (v27 : BitVec 32) (k0_hw1 : k0_chk1 v27) (k0_t46 : Fin (k0_t46_loop v27).trips), ∀ a, (k0_off110 v27 k0_t46) a + S160x1024.size a ≤ S1792x1024.size a := fun v27 k0_hw1 k0_t46 => k0_hw1.2.1.2.2.2.2.2.2.2.2.2.2.2.2.2.2.2.2.2.2.2.2.2.1 k0_t46
theorem k0_off110_packedbf16 : ∀ (v27 : BitVec 32) (k0_hw1 : k0_chk1 v27) (k0_t46 : Fin (k0_t46_loop v27).trips), (Rect.unit (s := S1792x1024) (k0_off110 v27 k0_t46) S160x1024.size (k0_off110_inb v27 k0_hw1 k0_t46)).PackedRows (EltTy.packing .bf16) := fun v27 k0_hw1 k0_t46 => k0_hw1.2.1.2.2.2.2.2.2.2.2.2.2.2.2.2.2.2.2.2.2.2.2.2.2.1 k0_t46 (k0_off110_inb v27 k0_hw1 k0_t46)
theorem k0_t47_ok : ∀ (v27 : BitVec 32) (k0_hw1 : k0_chk1 v27), (k0_t47_loop v27).OK := fun v27 k0_hw1 => k0_hw1.2.1.2.2.2.2.2.2.2.2.2.2.2.2.2.2.2.2.2.2.2.2.2.2.2.1
theorem k0_mult88_dvd : ∀ (v27 : BitVec 32) (k0_hw1 : k0_chk1 v27) (k0_t47 : Fin (k0_t47_loop v27).trips), 32 ∣ (k0_mult88 v27 k0_t47).toNat := fun v27 k0_hw1 k0_t47 => k0_hw1.2.1.2.2.2.2.2.2.2.2.2.2.2.2.2.2.2.2.2.2.2.2.2.2.2.2.1 k0_t47
theorem k0_off111_inb : ∀ (v27 : BitVec 32) (k0_hw1 : k0_chk1 v27) (k0_t47 : Fin (k0_t47_loop v27).trips), ∀ a, (k0_off111 v27 k0_t47) a + S1x1024.size a ≤ S13x3072.size a := fun v27 k0_hw1 k0_t47 => k0_hw1.2.1.2.2.2.2.2.2.2.2.2.2.2.2.2.2.2.2.2.2.2.2.2.2.2.2.2.1 k0_t47
theorem k0_off112_inb : ∀ (v27 : BitVec 32) (k0_hw1 : k0_chk1 v27) (k0_t47 : Fin (k0_t47_loop v27).trips), ∀ a, (k0_off112 v27 k0_t47) a + S160x1024.size a ≤ S1536x3072.size a := fun v27 k0_hw1 k0_t47 => k0_hw1.2.1.2.2.2.2.2.2.2.2.2.2.2.2.2.2.2.2.2.2.2.2.2.2.2.2.2.2.1 k0_t47
theorem k0_off113_inb : ∀ (v27 : BitVec 32) (k0_hw1 : k0_chk1 v27) (k0_t47 : Fin (k0_t47_loop v27).trips), ∀ a, (k0_off113 v27 k0_t47) a + S160x1024.size a ≤ S1792x1024.size a := fun v27 k0_hw1 k0_t47 => k0_hw1.2.1.2.2.2.2.2.2.2.2.2.2.2.2.2.2.2.2.2.2.2.2.2.2.2.2.2.2.2.1 k0_t47
theorem k0_off113_packedbf16 : ∀ (v27 : BitVec 32) (k0_hw1 : k0_chk1 v27) (k0_t47 : Fin (k0_t47_loop v27).trips), (Rect.unit (s := S1792x1024) (k0_off113 v27 k0_t47) S160x1024.size (k0_off113_inb v27 k0_hw1 k0_t47)).PackedRows (EltTy.packing .bf16) := fun v27 k0_hw1 k0_t47 => k0_hw1.2.1.2.2.2.2.2.2.2.2.2.2.2.2.2.2.2.2.2.2.2.2.2.2.2.2.2.2.2.2.1 k0_t47 (k0_off113_inb v27 k0_hw1 k0_t47)
theorem k0_t56_ok : ∀ (v27 : BitVec 32) (k0_hw1 : k0_chk1 v27), (k0_t56_loop v27).OK := fun v27 k0_hw1 => k0_hw1.2.1.2.2.2.2.2.2.2.2.2.2.2.2.2.2.2.2.2.2.2.2.2.2.2.2.2.2.2.2.2.1
theorem k0_mult97_dvd : ∀ (v27 : BitVec 32) (k0_hw1 : k0_chk1 v27) (k0_t56 : Fin (k0_t56_loop v27).trips), 16 ∣ (k0_mult97 v27 k0_t56).toNat := fun v27 k0_hw1 k0_t56 => k0_hw1.2.1.2.2.2.2.2.2.2.2.2.2.2.2.2.2.2.2.2.2.2.2.2.2.2.2.2.2.2.2.2.2.1 k0_t56
theorem k0_off138_inb : ∀ (v27 : BitVec 32) (k0_hw1 : k0_chk1 v27) (k0_t56 : Fin (k0_t56_loop v27).trips), ∀ a, (k0_off138 v27 k0_t56) a + S256x1024.size a ≤ S1792x1024.size a := fun v27 k0_hw1 k0_t56 => k0_hw1.2.1.2.2.2.2.2.2.2.2.2.2.2.2.2.2.2.2.2.2.2.2.2.2.2.2.2.2.2.2.2.2.2 k0_t56
theorem k0_mult98_dvd : ∀ (v27 : BitVec 32) (k0_hw1 : k0_chk1 v27) (k0_t56 : Fin (k0_t56_loop v27).trips), 256 ∣ (k0_mult98 v27 k0_t56).toNat := fun v27 k0_hw1 k0_t56 => k0_hw1.2.2.1 k0_t56
theorem k0_off139_inb : ∀ (v27 : BitVec 32) (k0_hw1 : k0_chk1 v27) (k0_t56 : Fin (k0_t56_loop v27).trips), ∀ a, (k0_off139 v27 k0_t56) a + S1024x256.size a ≤ S3072x2816.size a := fun v27 k0_hw1 k0_t56 => k0_hw1.2.2.2.1 k0_t56
theorem k0_off139_packedbf16 : ∀ (v27 : BitVec 32) (k0_hw1 : k0_chk1 v27) (k0_t56 : Fin (k0_t56_loop v27).trips), (Rect.unit (s := S3072x2816) (k0_off139 v27 k0_t56) S1024x256.size (k0_off139_inb v27 k0_hw1 k0_t56)).PackedRows (EltTy.packing .bf16) := fun v27 k0_hw1 k0_t56 => k0_hw1.2.2.2.2.1 k0_t56 (k0_off139_inb v27 k0_hw1 k0_t56)
theorem k0_t57_ok : ∀ (v27 : BitVec 32) (k0_hw1 : k0_chk1 v27), (k0_t57_loop v27).OK := fun v27 k0_hw1 => k0_hw1.2.2.2.2.2.1
theorem k0_mult99_dvd : ∀ (v27 : BitVec 32) (k0_hw1 : k0_chk1 v27) (k0_t57 : Fin (k0_t57_loop v27).trips), 16 ∣ (k0_mult99 v27 k0_t57).toNat := fun v27 k0_hw1 k0_t57 => k0_hw1.2.2.2.2.2.2.1 k0_t57
theorem k0_off140_inb : ∀ (v27 : BitVec 32) (k0_hw1 : k0_chk1 v27) (k0_t57 : Fin (k0_t57_loop v27).trips), ∀ a, (k0_off140 v27 k0_t57) a + S256x1024.size a ≤ S1792x1024.size a := fun v27 k0_hw1 k0_t57 => k0_hw1.2.2.2.2.2.2.2.1 k0_t57
theorem k0_mult100_dvd : ∀ (v27 : BitVec 32) (k0_hw1 : k0_chk1 v27) (k0_t57 : Fin (k0_t57_loop v27).trips), 256 ∣ (k0_mult100 v27 k0_t57).toNat := fun v27 k0_hw1 k0_t57 => k0_hw1.2.2.2.2.2.2.2.2.1 k0_t57
theorem k0_off141_inb : ∀ (v27 : BitVec 32) (k0_hw1 : k0_chk1 v27) (k0_t57 : Fin (k0_t57_loop v27).trips), ∀ a, (k0_off141 v27 k0_t57) a + S1024x256.size a ≤ S3072x2816.size a := fun v27 k0_hw1 k0_t57 => k0_hw1.2.2.2.2.2.2.2.2.2.1 k0_t57
theorem k0_off141_packedbf16 : ∀ (v27 : BitVec 32) (k0_hw1 : k0_chk1 v27) (k0_t57 : Fin (k0_t57_loop v27).trips), (Rect.unit (s := S3072x2816) (k0_off141 v27 k0_t57) S1024x256.size (k0_off141_inb v27 k0_hw1 k0_t57)).PackedRows (EltTy.packing .bf16) := fun v27 k0_hw1 k0_t57 => k0_hw1.2.2.2.2.2.2.2.2.2.2.1 k0_t57 (k0_off141_inb v27 k0_hw1 k0_t57)
theorem k0_t67_ok : ∀ (v27 : BitVec 32) (k0_hw1 : k0_chk1 v27), (k0_t67_loop v27).OK := fun v27 k0_hw1 => k0_hw1.2.2.2.2.2.2.2.2.2.2.2.1
theorem k0_mult120_dvd : ∀ (v27 : BitVec 32) (k0_hw1 : k0_chk1 v27) (k0_t67 : Fin (k0_t67_loop v27).trips), 32 ∣ (k0_mult120 v27 k0_t67).toNat := fun v27 k0_hw1 k0_t67 => k0_hw1.2.2.2.2.2.2.2.2.2.2.2.2.1 k0_t67
theorem k0_off164_inb : ∀ (v27 : BitVec 32) (k0_hw1 : k0_chk1 v27) (k0_t66 : Fin k0_t66_loop.trips) (k0_t67 : Fin (k0_t67_loop v27).trips), ∀ a, (k0_off164 v27 k0_t66 k0_t67) a + S1x1024.size a ≤ S13x8192.size a := fun v27 k0_hw1 k0_t66 k0_t67 => k0_hw1.2.2.2.2.2.2.2.2.2.2.2.2.2.1 k0_t66 k0_t67
theorem k0_off165_inb : ∀ (v27 : BitVec 32) (k0_hw1 : k0_chk1 v27) (k0_t66 : Fin k0_t66_loop.trips) (k0_t67 : Fin (k0_t67_loop v27).trips), ∀ a, (k0_off165 v27 k0_t66 k0_t67) a + S1x160x1024.size a ≤ S2x1536x1024.size a := fun v27 k0_hw1 k0_t66 k0_t67 => k0_hw1.2.2.2.2.2.2.2.2.2.2.2.2.2.2.1 k0_t66 k0_t67
theorem k0_off166_inb : ∀ (v27 : BitVec 32) (k0_hw1 : k0_chk1 v27) (k0_t67 : Fin (k0_t67_loop v27).trips), ∀ a, (k0_off166 v27 k0_t67) a + S160x1024.size a ≤ S1792x1024.size a := fun v27 k0_hw1 k0_t67 => k0_hw1.2.2.2.2.2.2.2.2.2.2.2.2.2.2.2.1 k0_t67
theorem k0_off166_packedbf16 : ∀ (v27 : BitVec 32) (k0_hw1 : k0_chk1 v27) (k0_t67 : Fin (k0_t67_loop v27).trips), (Rect.unit (s := S1792x1024) (k0_off166 v27 k0_t67) S160x1024.size (k0_off166_inb v27 k0_hw1 k0_t67)).PackedRows (EltTy.packing .bf16) := fun v27 k0_hw1 k0_t67 => k0_hw1.2.2.2.2.2.2.2.2.2.2.2.2.2.2.2.2.1 k0_t67 (k0_off166_inb v27 k0_hw1 k0_t67)
theorem k0_t68_ok : ∀ (v27 : BitVec 32) (k0_hw1 : k0_chk1 v27), (k0_t68_loop v27).OK := fun v27 k0_hw1 => k0_hw1.2.2.2.2.2.2.2.2.2.2.2.2.2.2.2.2.2.1
theorem k0_mult121_dvd : ∀ (v27 : BitVec 32) (k0_hw1 : k0_chk1 v27) (k0_t68 : Fin (k0_t68_loop v27).trips), 32 ∣ (k0_mult121 v27 k0_t68).toNat := fun v27 k0_hw1 k0_t68 => k0_hw1.2.2.2.2.2.2.2.2.2.2.2.2.2.2.2.2.2.2.1 k0_t68
theorem k0_off167_inb : ∀ (v27 : BitVec 32) (k0_hw1 : k0_chk1 v27) (k0_t66 : Fin k0_t66_loop.trips) (k0_t68 : Fin (k0_t68_loop v27).trips), ∀ a, (k0_off167 v27 k0_t66 k0_t68) a + S1x1024.size a ≤ S13x8192.size a := fun v27 k0_hw1 k0_t66 k0_t68 => k0_hw1.2.2.2.2.2.2.2.2.2.2.2.2.2.2.2.2.2.2.2.1 k0_t66 k0_t68
theorem k0_off168_inb : ∀ (v27 : BitVec 32) (k0_hw1 : k0_chk1 v27) (k0_t66 : Fin k0_t66_loop.trips) (k0_t68 : Fin (k0_t68_loop v27).trips), ∀ a, (k0_off168 v27 k0_t66 k0_t68) a + S1x160x1024.size a ≤ S2x1536x1024.size a := fun v27 k0_hw1 k0_t66 k0_t68 => k0_hw1.2.2.2.2.2.2.2.2.2.2.2.2.2.2.2.2.2.2.2.2.1 k0_t66 k0_t68
theorem k0_off169_inb : ∀ (v27 : BitVec 32) (k0_hw1 : k0_chk1 v27) (k0_t68 : Fin (k0_t68_loop v27).trips), ∀ a, (k0_off169 v27 k0_t68) a + S160x1024.size a ≤ S1792x1024.size a := fun v27 k0_hw1 k0_t68 => k0_hw1.2.2.2.2.2.2.2.2.2.2.2.2.2.2.2.2.2.2.2.2.2.1 k0_t68
theorem k0_off169_packedbf16 : ∀ (v27 : BitVec 32) (k0_hw1 : k0_chk1 v27) (k0_t68 : Fin (k0_t68_loop v27).trips), (Rect.unit (s := S1792x1024) (k0_off169 v27 k0_t68) S160x1024.size (k0_off169_inb v27 k0_hw1 k0_t68)).PackedRows (EltTy.packing .bf16) := fun v27 k0_hw1 k0_t68 => k0_hw1.2.2.2.2.2.2.2.2.2.2.2.2.2.2.2.2.2.2.2.2.2.2 k0_t68 (k0_off169_inb v27 k0_hw1 k0_t68)

@[reducible] def k0_t69_loop (v96 : BitVec 32) : Scf.Loop 32 :=
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let c1_i32_582 : BitVec 32 := 1#32
  ⟨c0_i32_580, v725, c1_i32_582⟩
def k0_mult122 (v27 : BitVec 32) (v96 : BitVec 32) (k0_t69 : Fin (k0_t69_loop v96).trips) : BitVec 32 :=
  let c0_i32_20 : BitVec 32 := 0#32
  let v28 : BitVec 32 := Scalar.addi c0_i32_20 v27
  let c0_i32_579 : BitVec 32 := 0#32
  let c0_i32_580 : BitVec 32 := 0#32
  let c1_i32_582 : BitVec 32 := 1#32
  let arg22 : BitVec 32 := Scf.iv c0_i32_580 c1_i32_582 k0_t69
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off170 (v27 : BitVec 32) (v96 : BitVec 32) (k0_t66 : Fin k0_t66_loop.trips) (k0_t69 : Fin (k0_t69_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_579 : BitVec 32 := 0#32
  let c0_i32_580 : BitVec 32 := 0#32
  let c1_i32_582 : BitVec 32 := 1#32
  let arg22 : BitVec 32 := Scf.iv c0_i32_580 c1_i32_582 k0_t69
  let c1_i32_578 : BitVec 32 := 1#32
  let v755 : BitVec 32 := Scalar.muli arg22 c1_i32_578
  let v756 : BitVec 32 := Scalar.addi c0_i32_579 v755
  let v781 : BitVec 32 := Scalar.addi v90 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off171 (v27 : BitVec 32) (v96 : BitVec 32) (k0_t66 : Fin k0_t66_loop.trips) (k0_t69 : Fin (k0_t69_loop v96).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let c0_i32_579 : BitVec 32 := 0#32
  let c0_i32_580 : BitVec 32 := 0#32
  let c1_i32_582 : BitVec 32 := 1#32
  let arg22 : BitVec 32 := Scf.iv c0_i32_580 c1_i32_582 k0_t69
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off172 (v27 : BitVec 32) (v96 : BitVec 32) (k0_t69 : Fin (k0_t69_loop v96).trips) : Fin 2 → Nat :=
  let c0_i32_20 : BitVec 32 := 0#32
  let v28 : BitVec 32 := Scalar.addi c0_i32_20 v27
  let c0_i32_579 : BitVec 32 := 0#32
  let c0_i32_580 : BitVec 32 := 0#32
  let c1_i32_582 : BitVec 32 := 1#32
  let arg22 : BitVec 32 := Scf.iv c0_i32_580 c1_i32_582 k0_t69
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]
@[reducible] def k0_t70_loop (v96 : BitVec 32) : Scf.Loop 32 :=
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let v722 : BitVec 32 := Scalar.addi c0_i32_580 v721
  let c1_i32_583 : BitVec 32 := 1#32
  ⟨v725, v722, c1_i32_583⟩
def k0_mult123 (v27 : BitVec 32) (v96 : BitVec 32) (k0_t70 : Fin (k0_t70_loop v96).trips) : BitVec 32 :=
  let c0_i32_20 : BitVec 32 := 0#32
  let v28 : BitVec 32 := Scalar.addi c0_i32_20 v27
  let c0_i32_579 : BitVec 32 := 0#32
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let c1_i32_583 : BitVec 32 := 1#32
  let arg22 : BitVec 32 := Scf.iv v725 c1_i32_583 k0_t70
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off173 (v27 : BitVec 32) (v96 : BitVec 32) (k0_t66 : Fin k0_t66_loop.trips) (k0_t70 : Fin (k0_t70_loop v96).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c0_i32_579 : BitVec 32 := 0#32
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let c1_i32_583 : BitVec 32 := 1#32
  let arg22 : BitVec 32 := Scf.iv v725 c1_i32_583 k0_t70
  let c1_i32_578 : BitVec 32 := 1#32
  let v755 : BitVec 32 := Scalar.muli arg22 c1_i32_578
  let v756 : BitVec 32 := Scalar.addi c0_i32_579 v755
  let v781 : BitVec 32 := Scalar.addi v90 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off174 (v27 : BitVec 32) (v96 : BitVec 32) (k0_t66 : Fin k0_t66_loop.trips) (k0_t70 : Fin (k0_t70_loop v96).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let c0_i32_579 : BitVec 32 := 0#32
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let c1_i32_583 : BitVec 32 := 1#32
  let arg22 : BitVec 32 := Scf.iv v725 c1_i32_583 k0_t70
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off175 (v27 : BitVec 32) (v96 : BitVec 32) (k0_t70 : Fin (k0_t70_loop v96).trips) : Fin 2 → Nat :=
  let c0_i32_20 : BitVec 32 := 0#32
  let v28 : BitVec 32 := Scalar.addi c0_i32_20 v27
  let c0_i32_579 : BitVec 32 := 0#32
  let c0_i32_580 : BitVec 32 := 0#32
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let c0_i32_574 : BitVec 32 := 0#32
  let v717 : BitVec 32 := Scalar.subi v134 c0_i32_574
  let c1_i32_575 : BitVec 32 := 1#32
  let c1_i32_576 : BitVec 32 := 1#32
  let v718 : BitVec 32 := Scalar.subi c1_i32_575 c1_i32_576
  let v719 : BitVec 32 := Scalar.addi v717 v718
  let c1_i32_577 : BitVec 32 := 1#32
  let v720 : BitVec 32 := Scalar.divsi v719 c1_i32_577
  let v721 : BitVec 32 := Scalar.subi v720 c0_i32_580
  let c1_i32_581 : BitVec 32 := 1#32
  let v723 : BitVec 32 := Scalar.divsi v721 c1_i32_581
  let v724 : BitVec 32 := Scalar.muli v723 c1_i32_581
  let v725 : BitVec 32 := Scalar.addi c0_i32_580 v724
  let c1_i32_583 : BitVec 32 := 1#32
  let arg22 : BitVec 32 := Scf.iv v725 c1_i32_583 k0_t70
  let c1_i32_578 : BitVec 32 := 1#32
  let v755 : BitVec 32 := Scalar.muli arg22 c1_i32_578
  let v756 : BitVec 32 := Scalar.addi c0_i32_579 v755
  let c128_i32_617 : BitVec 32 := 128#32
  let v757 : BitVec 32 := Scalar.muli v756 c128_i32_617
  let v758 : BitVec 32 := Scalar.addi v28 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]

def k0_chk2_0 (v27 : BitVec 32) (v96 : BitVec 32) : Prop :=
  (16 ∣ (k0_mult12 v27 v96).toNat) ∧
  ((k0_t8_loop v96).OK) ∧
  (∀ k0_t8 : Fin (k0_t8_loop v96).trips, 32 ∣ (k0_mult29 v27 v96 k0_t8).toNat) ∧
  (∀ k0_t8 : Fin (k0_t8_loop v96).trips, ∀ a, (k0_off14 v27 v96 k0_t8) a + S1x1024.size a ≤ S13x3072.size a) ∧
  (∀ k0_t8 : Fin (k0_t8_loop v96).trips, ∀ a, (k0_off15 v27 v96 k0_t8) a + S160x1024.size a ≤ S1536x3072.size a) ∧
  (∀ k0_t8 : Fin (k0_t8_loop v96).trips, ∀ a, (k0_off16 v27 v96 k0_t8) a + S160x1024.size a ≤ S1792x1024.size a) ∧
  (∀ k0_t8 : Fin (k0_t8_loop v96).trips, ∀ (hinb : ∀ a, (k0_off16 v27 v96 k0_t8) a + S160x1024.size a ≤ S1792x1024.size a), (Rect.unit (s := S1792x1024) (k0_off16 v27 v96 k0_t8) S160x1024.size hinb).PackedRows (EltTy.packing .bf16)) ∧
  ((k0_t9_loop v96).OK) ∧
  (∀ k0_t9 : Fin (k0_t9_loop v96).trips, 32 ∣ (k0_mult30 v27 v96 k0_t9).toNat) ∧
  (∀ k0_t9 : Fin (k0_t9_loop v96).trips, ∀ a, (k0_off17 v27 v96 k0_t9) a + S1x1024.size a ≤ S13x3072.size a) ∧
  (∀ k0_t9 : Fin (k0_t9_loop v96).trips, ∀ a, (k0_off18 v27 v96 k0_t9) a + S160x1024.size a ≤ S1536x3072.size a) ∧
  (∀ k0_t9 : Fin (k0_t9_loop v96).trips, ∀ a, (k0_off19 v27 v96 k0_t9) a + S160x1024.size a ≤ S1792x1024.size a) ∧
  (∀ k0_t9 : Fin (k0_t9_loop v96).trips, ∀ (hinb : ∀ a, (k0_off19 v27 v96 k0_t9) a + S160x1024.size a ≤ S1792x1024.size a), (Rect.unit (s := S1792x1024) (k0_off19 v27 v96 k0_t9) S160x1024.size hinb).PackedRows (EltTy.packing .bf16)) ∧
  ((k0_t18_loop v27 v96).OK) ∧
  (∀ k0_t18 : Fin (k0_t18_loop v27 v96).trips, 16 ∣ (k0_mult41 v27 v96 k0_t18).toNat) ∧
  (∀ k0_t18 : Fin (k0_t18_loop v27 v96).trips, ∀ a, (k0_off42 v27 v96 k0_t18) a + S256x1024.size a ≤ S1792x1024.size a) ∧
  (∀ k0_t18 : Fin (k0_t18_loop v27 v96).trips, 256 ∣ (k0_mult42 v27 v96 k0_t18).toNat) ∧
  (∀ k0_t18 : Fin (k0_t18_loop v27 v96).trips, ∀ a, (k0_off43 v27 v96 k0_t18) a + S1024x256.size a ≤ S3072x2816.size a) ∧
  (∀ k0_t18 : Fin (k0_t18_loop v27 v96).trips, ∀ (hinb : ∀ a, (k0_off43 v27 v96 k0_t18) a + S1024x256.size a ≤ S3072x2816.size a), (Rect.unit (s := S3072x2816) (k0_off43 v27 v96 k0_t18) S1024x256.size hinb).PackedRows (EltTy.packing .bf16)) ∧
  ((k0_t19_loop v27 v96).OK) ∧
  (∀ k0_t19 : Fin (k0_t19_loop v27 v96).trips, 16 ∣ (k0_mult43 v27 v96 k0_t19).toNat) ∧
  (∀ k0_t19 : Fin (k0_t19_loop v27 v96).trips, ∀ a, (k0_off44 v27 v96 k0_t19) a + S256x1024.size a ≤ S1792x1024.size a) ∧
  (∀ k0_t19 : Fin (k0_t19_loop v27 v96).trips, 256 ∣ (k0_mult44 v27 v96 k0_t19).toNat) ∧
  (∀ k0_t19 : Fin (k0_t19_loop v27 v96).trips, ∀ a, (k0_off45 v27 v96 k0_t19) a + S1024x256.size a ≤ S3072x2816.size a) ∧
  (∀ k0_t19 : Fin (k0_t19_loop v27 v96).trips, ∀ (hinb : ∀ a, (k0_off45 v27 v96 k0_t19) a + S1024x256.size a ≤ S3072x2816.size a), (Rect.unit (s := S3072x2816) (k0_off45 v27 v96 k0_t19) S1024x256.size hinb).PackedRows (EltTy.packing .bf16)) ∧
  ((k0_t28_loop v96).OK) ∧
  (∀ k0_t28 : Fin (k0_t28_loop v96).trips, 32 ∣ (k0_mult59 v27 v96 k0_t28).toNat) ∧
  (∀ k0_t28 : Fin (k0_t28_loop v96).trips, ∀ a, (k0_off64 v27 v96 k0_t28) a + S1x1024.size a ≤ S13x3072.size a) ∧
  (∀ k0_t28 : Fin (k0_t28_loop v96).trips, ∀ a, (k0_off65 v27 v96 k0_t28) a + S160x1024.size a ≤ S1536x3072.size a) ∧
  (∀ k0_t28 : Fin (k0_t28_loop v96).trips, ∀ a, (k0_off66 v27 v96 k0_t28) a + S160x1024.size a ≤ S1792x1024.size a) ∧
  (∀ k0_t28 : Fin (k0_t28_loop v96).trips, ∀ (hinb : ∀ a, (k0_off66 v27 v96 k0_t28) a + S160x1024.size a ≤ S1792x1024.size a), (Rect.unit (s := S1792x1024) (k0_off66 v27 v96 k0_t28) S160x1024.size hinb).PackedRows (EltTy.packing .bf16)) ∧
  ((k0_t29_loop v96).OK)
def k0_chk2_1 (v27 : BitVec 32) (v96 : BitVec 32) : Prop :=
  (∀ k0_t29 : Fin (k0_t29_loop v96).trips, 32 ∣ (k0_mult60 v27 v96 k0_t29).toNat) ∧
  (∀ k0_t29 : Fin (k0_t29_loop v96).trips, ∀ a, (k0_off67 v27 v96 k0_t29) a + S1x1024.size a ≤ S13x3072.size a) ∧
  (∀ k0_t29 : Fin (k0_t29_loop v96).trips, ∀ a, (k0_off68 v27 v96 k0_t29) a + S160x1024.size a ≤ S1536x3072.size a) ∧
  (∀ k0_t29 : Fin (k0_t29_loop v96).trips, ∀ a, (k0_off69 v27 v96 k0_t29) a + S160x1024.size a ≤ S1792x1024.size a) ∧
  (∀ k0_t29 : Fin (k0_t29_loop v96).trips, ∀ (hinb : ∀ a, (k0_off69 v27 v96 k0_t29) a + S160x1024.size a ≤ S1792x1024.size a), (Rect.unit (s := S1792x1024) (k0_off69 v27 v96 k0_t29) S160x1024.size hinb).PackedRows (EltTy.packing .bf16)) ∧
  ((k0_t38_loop v27 v96).OK) ∧
  (∀ k0_t38 : Fin (k0_t38_loop v27 v96).trips, 16 ∣ (k0_mult71 v27 v96 k0_t38).toNat) ∧
  (∀ k0_t38 : Fin (k0_t38_loop v27 v96).trips, ∀ a, (k0_off92 v27 v96 k0_t38) a + S256x1024.size a ≤ S1792x1024.size a) ∧
  (∀ k0_t38 : Fin (k0_t38_loop v27 v96).trips, 256 ∣ (k0_mult72 v27 v96 k0_t38).toNat) ∧
  (∀ k0_t38 : Fin (k0_t38_loop v27 v96).trips, ∀ a, (k0_off93 v27 v96 k0_t38) a + S1024x256.size a ≤ S3072x2816.size a) ∧
  (∀ k0_t38 : Fin (k0_t38_loop v27 v96).trips, ∀ (hinb : ∀ a, (k0_off93 v27 v96 k0_t38) a + S1024x256.size a ≤ S3072x2816.size a), (Rect.unit (s := S3072x2816) (k0_off93 v27 v96 k0_t38) S1024x256.size hinb).PackedRows (EltTy.packing .bf16)) ∧
  ((k0_t39_loop v27 v96).OK) ∧
  (∀ k0_t39 : Fin (k0_t39_loop v27 v96).trips, 16 ∣ (k0_mult73 v27 v96 k0_t39).toNat) ∧
  (∀ k0_t39 : Fin (k0_t39_loop v27 v96).trips, ∀ a, (k0_off94 v27 v96 k0_t39) a + S256x1024.size a ≤ S1792x1024.size a) ∧
  (∀ k0_t39 : Fin (k0_t39_loop v27 v96).trips, 256 ∣ (k0_mult74 v27 v96 k0_t39).toNat) ∧
  (∀ k0_t39 : Fin (k0_t39_loop v27 v96).trips, ∀ a, (k0_off95 v27 v96 k0_t39) a + S1024x256.size a ≤ S3072x2816.size a) ∧
  (∀ k0_t39 : Fin (k0_t39_loop v27 v96).trips, ∀ (hinb : ∀ a, (k0_off95 v27 v96 k0_t39) a + S1024x256.size a ≤ S3072x2816.size a), (Rect.unit (s := S3072x2816) (k0_off95 v27 v96 k0_t39) S1024x256.size hinb).PackedRows (EltTy.packing .bf16)) ∧
  ((k0_t48_loop v96).OK) ∧
  (∀ k0_t48 : Fin (k0_t48_loop v96).trips, 32 ∣ (k0_mult89 v27 v96 k0_t48).toNat) ∧
  (∀ k0_t48 : Fin (k0_t48_loop v96).trips, ∀ a, (k0_off114 v27 v96 k0_t48) a + S1x1024.size a ≤ S13x3072.size a) ∧
  (∀ k0_t48 : Fin (k0_t48_loop v96).trips, ∀ a, (k0_off115 v27 v96 k0_t48) a + S160x1024.size a ≤ S1536x3072.size a) ∧
  (∀ k0_t48 : Fin (k0_t48_loop v96).trips, ∀ a, (k0_off116 v27 v96 k0_t48) a + S160x1024.size a ≤ S1792x1024.size a) ∧
  (∀ k0_t48 : Fin (k0_t48_loop v96).trips, ∀ (hinb : ∀ a, (k0_off116 v27 v96 k0_t48) a + S160x1024.size a ≤ S1792x1024.size a), (Rect.unit (s := S1792x1024) (k0_off116 v27 v96 k0_t48) S160x1024.size hinb).PackedRows (EltTy.packing .bf16)) ∧
  ((k0_t49_loop v96).OK) ∧
  (∀ k0_t49 : Fin (k0_t49_loop v96).trips, 32 ∣ (k0_mult90 v27 v96 k0_t49).toNat) ∧
  (∀ k0_t49 : Fin (k0_t49_loop v96).trips, ∀ a, (k0_off117 v27 v96 k0_t49) a + S1x1024.size a ≤ S13x3072.size a) ∧
  (∀ k0_t49 : Fin (k0_t49_loop v96).trips, ∀ a, (k0_off118 v27 v96 k0_t49) a + S160x1024.size a ≤ S1536x3072.size a) ∧
  (∀ k0_t49 : Fin (k0_t49_loop v96).trips, ∀ a, (k0_off119 v27 v96 k0_t49) a + S160x1024.size a ≤ S1792x1024.size a) ∧
  (∀ k0_t49 : Fin (k0_t49_loop v96).trips, ∀ (hinb : ∀ a, (k0_off119 v27 v96 k0_t49) a + S160x1024.size a ≤ S1792x1024.size a), (Rect.unit (s := S1792x1024) (k0_off119 v27 v96 k0_t49) S160x1024.size hinb).PackedRows (EltTy.packing .bf16)) ∧
  ((k0_t58_loop v27 v96).OK) ∧
  (∀ k0_t58 : Fin (k0_t58_loop v27 v96).trips, 16 ∣ (k0_mult101 v27 v96 k0_t58).toNat) ∧
  (∀ k0_t58 : Fin (k0_t58_loop v27 v96).trips, ∀ a, (k0_off142 v27 v96 k0_t58) a + S256x1024.size a ≤ S1792x1024.size a)
def k0_chk2_2 (v27 : BitVec 32) (v96 : BitVec 32) : Prop :=
  (∀ k0_t58 : Fin (k0_t58_loop v27 v96).trips, 256 ∣ (k0_mult102 v27 v96 k0_t58).toNat) ∧
  (∀ k0_t58 : Fin (k0_t58_loop v27 v96).trips, ∀ a, (k0_off143 v27 v96 k0_t58) a + S1024x256.size a ≤ S3072x2816.size a) ∧
  (∀ k0_t58 : Fin (k0_t58_loop v27 v96).trips, ∀ (hinb : ∀ a, (k0_off143 v27 v96 k0_t58) a + S1024x256.size a ≤ S3072x2816.size a), (Rect.unit (s := S3072x2816) (k0_off143 v27 v96 k0_t58) S1024x256.size hinb).PackedRows (EltTy.packing .bf16)) ∧
  ((k0_t59_loop v27 v96).OK) ∧
  (∀ k0_t59 : Fin (k0_t59_loop v27 v96).trips, 16 ∣ (k0_mult103 v27 v96 k0_t59).toNat) ∧
  (∀ k0_t59 : Fin (k0_t59_loop v27 v96).trips, ∀ a, (k0_off144 v27 v96 k0_t59) a + S256x1024.size a ≤ S1792x1024.size a) ∧
  (∀ k0_t59 : Fin (k0_t59_loop v27 v96).trips, 256 ∣ (k0_mult104 v27 v96 k0_t59).toNat) ∧
  (∀ k0_t59 : Fin (k0_t59_loop v27 v96).trips, ∀ a, (k0_off145 v27 v96 k0_t59) a + S1024x256.size a ≤ S3072x2816.size a) ∧
  (∀ k0_t59 : Fin (k0_t59_loop v27 v96).trips, ∀ (hinb : ∀ a, (k0_off145 v27 v96 k0_t59) a + S1024x256.size a ≤ S3072x2816.size a), (Rect.unit (s := S3072x2816) (k0_off145 v27 v96 k0_t59) S1024x256.size hinb).PackedRows (EltTy.packing .bf16)) ∧
  ((k0_t69_loop v96).OK) ∧
  (∀ k0_t69 : Fin (k0_t69_loop v96).trips, 32 ∣ (k0_mult122 v27 v96 k0_t69).toNat) ∧
  (∀ (k0_t66 : Fin k0_t66_loop.trips) (k0_t69 : Fin (k0_t69_loop v96).trips), ∀ a, (k0_off170 v27 v96 k0_t66 k0_t69) a + S1x1024.size a ≤ S13x8192.size a) ∧
  (∀ (k0_t66 : Fin k0_t66_loop.trips) (k0_t69 : Fin (k0_t69_loop v96).trips), ∀ a, (k0_off171 v27 v96 k0_t66 k0_t69) a + S1x160x1024.size a ≤ S2x1536x1024.size a) ∧
  (∀ k0_t69 : Fin (k0_t69_loop v96).trips, ∀ a, (k0_off172 v27 v96 k0_t69) a + S160x1024.size a ≤ S1792x1024.size a) ∧
  (∀ k0_t69 : Fin (k0_t69_loop v96).trips, ∀ (hinb : ∀ a, (k0_off172 v27 v96 k0_t69) a + S160x1024.size a ≤ S1792x1024.size a), (Rect.unit (s := S1792x1024) (k0_off172 v27 v96 k0_t69) S160x1024.size hinb).PackedRows (EltTy.packing .bf16)) ∧
  ((k0_t70_loop v96).OK) ∧
  (∀ k0_t70 : Fin (k0_t70_loop v96).trips, 32 ∣ (k0_mult123 v27 v96 k0_t70).toNat) ∧
  (∀ (k0_t66 : Fin k0_t66_loop.trips) (k0_t70 : Fin (k0_t70_loop v96).trips), ∀ a, (k0_off173 v27 v96 k0_t66 k0_t70) a + S1x1024.size a ≤ S13x8192.size a) ∧
  (∀ (k0_t66 : Fin k0_t66_loop.trips) (k0_t70 : Fin (k0_t70_loop v96).trips), ∀ a, (k0_off174 v27 v96 k0_t66 k0_t70) a + S1x160x1024.size a ≤ S2x1536x1024.size a) ∧
  (∀ k0_t70 : Fin (k0_t70_loop v96).trips, ∀ a, (k0_off175 v27 v96 k0_t70) a + S160x1024.size a ≤ S1792x1024.size a) ∧
  (∀ k0_t70 : Fin (k0_t70_loop v96).trips, ∀ (hinb : ∀ a, (k0_off175 v27 v96 k0_t70) a + S160x1024.size a ≤ S1792x1024.size a), (Rect.unit (s := S1792x1024) (k0_off175 v27 v96 k0_t70) S160x1024.size hinb).PackedRows (EltTy.packing .bf16))
def k0_chk2 (v27 : BitVec 32) (v96 : BitVec 32) : Prop :=
  k0_chk2_0 v27 v96 ∧
  k0_chk2_1 v27 v96 ∧
  k0_chk2_2 v27 v96
theorem k0_mult12_dvd : ∀ (v27 : BitVec 32) (v96 : BitVec 32) (k0_hw2 : k0_chk2 v27 v96), 16 ∣ (k0_mult12 v27 v96).toNat := fun v27 v96 k0_hw2 => k0_hw2.1.1
theorem k0_t8_ok : ∀ (v27 : BitVec 32) (v96 : BitVec 32) (k0_hw2 : k0_chk2 v27 v96), (k0_t8_loop v96).OK := fun v27 v96 k0_hw2 => k0_hw2.1.2.1
theorem k0_mult29_dvd : ∀ (v27 : BitVec 32) (v96 : BitVec 32) (k0_hw2 : k0_chk2 v27 v96) (k0_t8 : Fin (k0_t8_loop v96).trips), 32 ∣ (k0_mult29 v27 v96 k0_t8).toNat := fun v27 v96 k0_hw2 k0_t8 => k0_hw2.1.2.2.1 k0_t8
theorem k0_off14_inb : ∀ (v27 : BitVec 32) (v96 : BitVec 32) (k0_hw2 : k0_chk2 v27 v96) (k0_t8 : Fin (k0_t8_loop v96).trips), ∀ a, (k0_off14 v27 v96 k0_t8) a + S1x1024.size a ≤ S13x3072.size a := fun v27 v96 k0_hw2 k0_t8 => k0_hw2.1.2.2.2.1 k0_t8
theorem k0_off15_inb : ∀ (v27 : BitVec 32) (v96 : BitVec 32) (k0_hw2 : k0_chk2 v27 v96) (k0_t8 : Fin (k0_t8_loop v96).trips), ∀ a, (k0_off15 v27 v96 k0_t8) a + S160x1024.size a ≤ S1536x3072.size a := fun v27 v96 k0_hw2 k0_t8 => k0_hw2.1.2.2.2.2.1 k0_t8
theorem k0_off16_inb : ∀ (v27 : BitVec 32) (v96 : BitVec 32) (k0_hw2 : k0_chk2 v27 v96) (k0_t8 : Fin (k0_t8_loop v96).trips), ∀ a, (k0_off16 v27 v96 k0_t8) a + S160x1024.size a ≤ S1792x1024.size a := fun v27 v96 k0_hw2 k0_t8 => k0_hw2.1.2.2.2.2.2.1 k0_t8
theorem k0_off16_packedbf16 : ∀ (v27 : BitVec 32) (v96 : BitVec 32) (k0_hw2 : k0_chk2 v27 v96) (k0_t8 : Fin (k0_t8_loop v96).trips), (Rect.unit (s := S1792x1024) (k0_off16 v27 v96 k0_t8) S160x1024.size (k0_off16_inb v27 v96 k0_hw2 k0_t8)).PackedRows (EltTy.packing .bf16) := fun v27 v96 k0_hw2 k0_t8 => k0_hw2.1.2.2.2.2.2.2.1 k0_t8 (k0_off16_inb v27 v96 k0_hw2 k0_t8)
theorem k0_t9_ok : ∀ (v27 : BitVec 32) (v96 : BitVec 32) (k0_hw2 : k0_chk2 v27 v96), (k0_t9_loop v96).OK := fun v27 v96 k0_hw2 => k0_hw2.1.2.2.2.2.2.2.2.1
theorem k0_mult30_dvd : ∀ (v27 : BitVec 32) (v96 : BitVec 32) (k0_hw2 : k0_chk2 v27 v96) (k0_t9 : Fin (k0_t9_loop v96).trips), 32 ∣ (k0_mult30 v27 v96 k0_t9).toNat := fun v27 v96 k0_hw2 k0_t9 => k0_hw2.1.2.2.2.2.2.2.2.2.1 k0_t9
theorem k0_off17_inb : ∀ (v27 : BitVec 32) (v96 : BitVec 32) (k0_hw2 : k0_chk2 v27 v96) (k0_t9 : Fin (k0_t9_loop v96).trips), ∀ a, (k0_off17 v27 v96 k0_t9) a + S1x1024.size a ≤ S13x3072.size a := fun v27 v96 k0_hw2 k0_t9 => k0_hw2.1.2.2.2.2.2.2.2.2.2.1 k0_t9
theorem k0_off18_inb : ∀ (v27 : BitVec 32) (v96 : BitVec 32) (k0_hw2 : k0_chk2 v27 v96) (k0_t9 : Fin (k0_t9_loop v96).trips), ∀ a, (k0_off18 v27 v96 k0_t9) a + S160x1024.size a ≤ S1536x3072.size a := fun v27 v96 k0_hw2 k0_t9 => k0_hw2.1.2.2.2.2.2.2.2.2.2.2.1 k0_t9
theorem k0_off19_inb : ∀ (v27 : BitVec 32) (v96 : BitVec 32) (k0_hw2 : k0_chk2 v27 v96) (k0_t9 : Fin (k0_t9_loop v96).trips), ∀ a, (k0_off19 v27 v96 k0_t9) a + S160x1024.size a ≤ S1792x1024.size a := fun v27 v96 k0_hw2 k0_t9 => k0_hw2.1.2.2.2.2.2.2.2.2.2.2.2.1 k0_t9
theorem k0_off19_packedbf16 : ∀ (v27 : BitVec 32) (v96 : BitVec 32) (k0_hw2 : k0_chk2 v27 v96) (k0_t9 : Fin (k0_t9_loop v96).trips), (Rect.unit (s := S1792x1024) (k0_off19 v27 v96 k0_t9) S160x1024.size (k0_off19_inb v27 v96 k0_hw2 k0_t9)).PackedRows (EltTy.packing .bf16) := fun v27 v96 k0_hw2 k0_t9 => k0_hw2.1.2.2.2.2.2.2.2.2.2.2.2.2.1 k0_t9 (k0_off19_inb v27 v96 k0_hw2 k0_t9)
theorem k0_t18_ok : ∀ (v27 : BitVec 32) (v96 : BitVec 32) (k0_hw2 : k0_chk2 v27 v96), (k0_t18_loop v27 v96).OK := fun v27 v96 k0_hw2 => k0_hw2.1.2.2.2.2.2.2.2.2.2.2.2.2.2.1
theorem k0_mult41_dvd : ∀ (v27 : BitVec 32) (v96 : BitVec 32) (k0_hw2 : k0_chk2 v27 v96) (k0_t18 : Fin (k0_t18_loop v27 v96).trips), 16 ∣ (k0_mult41 v27 v96 k0_t18).toNat := fun v27 v96 k0_hw2 k0_t18 => k0_hw2.1.2.2.2.2.2.2.2.2.2.2.2.2.2.2.1 k0_t18
theorem k0_off42_inb : ∀ (v27 : BitVec 32) (v96 : BitVec 32) (k0_hw2 : k0_chk2 v27 v96) (k0_t18 : Fin (k0_t18_loop v27 v96).trips), ∀ a, (k0_off42 v27 v96 k0_t18) a + S256x1024.size a ≤ S1792x1024.size a := fun v27 v96 k0_hw2 k0_t18 => k0_hw2.1.2.2.2.2.2.2.2.2.2.2.2.2.2.2.2.1 k0_t18
theorem k0_mult42_dvd : ∀ (v27 : BitVec 32) (v96 : BitVec 32) (k0_hw2 : k0_chk2 v27 v96) (k0_t18 : Fin (k0_t18_loop v27 v96).trips), 256 ∣ (k0_mult42 v27 v96 k0_t18).toNat := fun v27 v96 k0_hw2 k0_t18 => k0_hw2.1.2.2.2.2.2.2.2.2.2.2.2.2.2.2.2.2.1 k0_t18
theorem k0_off43_inb : ∀ (v27 : BitVec 32) (v96 : BitVec 32) (k0_hw2 : k0_chk2 v27 v96) (k0_t18 : Fin (k0_t18_loop v27 v96).trips), ∀ a, (k0_off43 v27 v96 k0_t18) a + S1024x256.size a ≤ S3072x2816.size a := fun v27 v96 k0_hw2 k0_t18 => k0_hw2.1.2.2.2.2.2.2.2.2.2.2.2.2.2.2.2.2.2.1 k0_t18
theorem k0_off43_packedbf16 : ∀ (v27 : BitVec 32) (v96 : BitVec 32) (k0_hw2 : k0_chk2 v27 v96) (k0_t18 : Fin (k0_t18_loop v27 v96).trips), (Rect.unit (s := S3072x2816) (k0_off43 v27 v96 k0_t18) S1024x256.size (k0_off43_inb v27 v96 k0_hw2 k0_t18)).PackedRows (EltTy.packing .bf16) := fun v27 v96 k0_hw2 k0_t18 => k0_hw2.1.2.2.2.2.2.2.2.2.2.2.2.2.2.2.2.2.2.2.1 k0_t18 (k0_off43_inb v27 v96 k0_hw2 k0_t18)
theorem k0_t19_ok : ∀ (v27 : BitVec 32) (v96 : BitVec 32) (k0_hw2 : k0_chk2 v27 v96), (k0_t19_loop v27 v96).OK := fun v27 v96 k0_hw2 => k0_hw2.1.2.2.2.2.2.2.2.2.2.2.2.2.2.2.2.2.2.2.2.1
theorem k0_mult43_dvd : ∀ (v27 : BitVec 32) (v96 : BitVec 32) (k0_hw2 : k0_chk2 v27 v96) (k0_t19 : Fin (k0_t19_loop v27 v96).trips), 16 ∣ (k0_mult43 v27 v96 k0_t19).toNat := fun v27 v96 k0_hw2 k0_t19 => k0_hw2.1.2.2.2.2.2.2.2.2.2.2.2.2.2.2.2.2.2.2.2.2.1 k0_t19
theorem k0_off44_inb : ∀ (v27 : BitVec 32) (v96 : BitVec 32) (k0_hw2 : k0_chk2 v27 v96) (k0_t19 : Fin (k0_t19_loop v27 v96).trips), ∀ a, (k0_off44 v27 v96 k0_t19) a + S256x1024.size a ≤ S1792x1024.size a := fun v27 v96 k0_hw2 k0_t19 => k0_hw2.1.2.2.2.2.2.2.2.2.2.2.2.2.2.2.2.2.2.2.2.2.2.1 k0_t19
theorem k0_mult44_dvd : ∀ (v27 : BitVec 32) (v96 : BitVec 32) (k0_hw2 : k0_chk2 v27 v96) (k0_t19 : Fin (k0_t19_loop v27 v96).trips), 256 ∣ (k0_mult44 v27 v96 k0_t19).toNat := fun v27 v96 k0_hw2 k0_t19 => k0_hw2.1.2.2.2.2.2.2.2.2.2.2.2.2.2.2.2.2.2.2.2.2.2.2.1 k0_t19
theorem k0_off45_inb : ∀ (v27 : BitVec 32) (v96 : BitVec 32) (k0_hw2 : k0_chk2 v27 v96) (k0_t19 : Fin (k0_t19_loop v27 v96).trips), ∀ a, (k0_off45 v27 v96 k0_t19) a + S1024x256.size a ≤ S3072x2816.size a := fun v27 v96 k0_hw2 k0_t19 => k0_hw2.1.2.2.2.2.2.2.2.2.2.2.2.2.2.2.2.2.2.2.2.2.2.2.2.1 k0_t19
theorem k0_off45_packedbf16 : ∀ (v27 : BitVec 32) (v96 : BitVec 32) (k0_hw2 : k0_chk2 v27 v96) (k0_t19 : Fin (k0_t19_loop v27 v96).trips), (Rect.unit (s := S3072x2816) (k0_off45 v27 v96 k0_t19) S1024x256.size (k0_off45_inb v27 v96 k0_hw2 k0_t19)).PackedRows (EltTy.packing .bf16) := fun v27 v96 k0_hw2 k0_t19 => k0_hw2.1.2.2.2.2.2.2.2.2.2.2.2.2.2.2.2.2.2.2.2.2.2.2.2.2.1 k0_t19 (k0_off45_inb v27 v96 k0_hw2 k0_t19)
theorem k0_t28_ok : ∀ (v27 : BitVec 32) (v96 : BitVec 32) (k0_hw2 : k0_chk2 v27 v96), (k0_t28_loop v96).OK := fun v27 v96 k0_hw2 => k0_hw2.1.2.2.2.2.2.2.2.2.2.2.2.2.2.2.2.2.2.2.2.2.2.2.2.2.2.1
theorem k0_mult59_dvd : ∀ (v27 : BitVec 32) (v96 : BitVec 32) (k0_hw2 : k0_chk2 v27 v96) (k0_t28 : Fin (k0_t28_loop v96).trips), 32 ∣ (k0_mult59 v27 v96 k0_t28).toNat := fun v27 v96 k0_hw2 k0_t28 => k0_hw2.1.2.2.2.2.2.2.2.2.2.2.2.2.2.2.2.2.2.2.2.2.2.2.2.2.2.2.1 k0_t28
theorem k0_off64_inb : ∀ (v27 : BitVec 32) (v96 : BitVec 32) (k0_hw2 : k0_chk2 v27 v96) (k0_t28 : Fin (k0_t28_loop v96).trips), ∀ a, (k0_off64 v27 v96 k0_t28) a + S1x1024.size a ≤ S13x3072.size a := fun v27 v96 k0_hw2 k0_t28 => k0_hw2.1.2.2.2.2.2.2.2.2.2.2.2.2.2.2.2.2.2.2.2.2.2.2.2.2.2.2.2.1 k0_t28
theorem k0_off65_inb : ∀ (v27 : BitVec 32) (v96 : BitVec 32) (k0_hw2 : k0_chk2 v27 v96) (k0_t28 : Fin (k0_t28_loop v96).trips), ∀ a, (k0_off65 v27 v96 k0_t28) a + S160x1024.size a ≤ S1536x3072.size a := fun v27 v96 k0_hw2 k0_t28 => k0_hw2.1.2.2.2.2.2.2.2.2.2.2.2.2.2.2.2.2.2.2.2.2.2.2.2.2.2.2.2.2.1 k0_t28
theorem k0_off66_inb : ∀ (v27 : BitVec 32) (v96 : BitVec 32) (k0_hw2 : k0_chk2 v27 v96) (k0_t28 : Fin (k0_t28_loop v96).trips), ∀ a, (k0_off66 v27 v96 k0_t28) a + S160x1024.size a ≤ S1792x1024.size a := fun v27 v96 k0_hw2 k0_t28 => k0_hw2.1.2.2.2.2.2.2.2.2.2.2.2.2.2.2.2.2.2.2.2.2.2.2.2.2.2.2.2.2.2.1 k0_t28
theorem k0_off66_packedbf16 : ∀ (v27 : BitVec 32) (v96 : BitVec 32) (k0_hw2 : k0_chk2 v27 v96) (k0_t28 : Fin (k0_t28_loop v96).trips), (Rect.unit (s := S1792x1024) (k0_off66 v27 v96 k0_t28) S160x1024.size (k0_off66_inb v27 v96 k0_hw2 k0_t28)).PackedRows (EltTy.packing .bf16) := fun v27 v96 k0_hw2 k0_t28 => k0_hw2.1.2.2.2.2.2.2.2.2.2.2.2.2.2.2.2.2.2.2.2.2.2.2.2.2.2.2.2.2.2.2.1 k0_t28 (k0_off66_inb v27 v96 k0_hw2 k0_t28)
theorem k0_t29_ok : ∀ (v27 : BitVec 32) (v96 : BitVec 32) (k0_hw2 : k0_chk2 v27 v96), (k0_t29_loop v96).OK := fun v27 v96 k0_hw2 => k0_hw2.1.2.2.2.2.2.2.2.2.2.2.2.2.2.2.2.2.2.2.2.2.2.2.2.2.2.2.2.2.2.2.2
theorem k0_mult60_dvd : ∀ (v27 : BitVec 32) (v96 : BitVec 32) (k0_hw2 : k0_chk2 v27 v96) (k0_t29 : Fin (k0_t29_loop v96).trips), 32 ∣ (k0_mult60 v27 v96 k0_t29).toNat := fun v27 v96 k0_hw2 k0_t29 => k0_hw2.2.1.1 k0_t29
theorem k0_off67_inb : ∀ (v27 : BitVec 32) (v96 : BitVec 32) (k0_hw2 : k0_chk2 v27 v96) (k0_t29 : Fin (k0_t29_loop v96).trips), ∀ a, (k0_off67 v27 v96 k0_t29) a + S1x1024.size a ≤ S13x3072.size a := fun v27 v96 k0_hw2 k0_t29 => k0_hw2.2.1.2.1 k0_t29
theorem k0_off68_inb : ∀ (v27 : BitVec 32) (v96 : BitVec 32) (k0_hw2 : k0_chk2 v27 v96) (k0_t29 : Fin (k0_t29_loop v96).trips), ∀ a, (k0_off68 v27 v96 k0_t29) a + S160x1024.size a ≤ S1536x3072.size a := fun v27 v96 k0_hw2 k0_t29 => k0_hw2.2.1.2.2.1 k0_t29
theorem k0_off69_inb : ∀ (v27 : BitVec 32) (v96 : BitVec 32) (k0_hw2 : k0_chk2 v27 v96) (k0_t29 : Fin (k0_t29_loop v96).trips), ∀ a, (k0_off69 v27 v96 k0_t29) a + S160x1024.size a ≤ S1792x1024.size a := fun v27 v96 k0_hw2 k0_t29 => k0_hw2.2.1.2.2.2.1 k0_t29
theorem k0_off69_packedbf16 : ∀ (v27 : BitVec 32) (v96 : BitVec 32) (k0_hw2 : k0_chk2 v27 v96) (k0_t29 : Fin (k0_t29_loop v96).trips), (Rect.unit (s := S1792x1024) (k0_off69 v27 v96 k0_t29) S160x1024.size (k0_off69_inb v27 v96 k0_hw2 k0_t29)).PackedRows (EltTy.packing .bf16) := fun v27 v96 k0_hw2 k0_t29 => k0_hw2.2.1.2.2.2.2.1 k0_t29 (k0_off69_inb v27 v96 k0_hw2 k0_t29)
theorem k0_t38_ok : ∀ (v27 : BitVec 32) (v96 : BitVec 32) (k0_hw2 : k0_chk2 v27 v96), (k0_t38_loop v27 v96).OK := fun v27 v96 k0_hw2 => k0_hw2.2.1.2.2.2.2.2.1
theorem k0_mult71_dvd : ∀ (v27 : BitVec 32) (v96 : BitVec 32) (k0_hw2 : k0_chk2 v27 v96) (k0_t38 : Fin (k0_t38_loop v27 v96).trips), 16 ∣ (k0_mult71 v27 v96 k0_t38).toNat := fun v27 v96 k0_hw2 k0_t38 => k0_hw2.2.1.2.2.2.2.2.2.1 k0_t38
theorem k0_off92_inb : ∀ (v27 : BitVec 32) (v96 : BitVec 32) (k0_hw2 : k0_chk2 v27 v96) (k0_t38 : Fin (k0_t38_loop v27 v96).trips), ∀ a, (k0_off92 v27 v96 k0_t38) a + S256x1024.size a ≤ S1792x1024.size a := fun v27 v96 k0_hw2 k0_t38 => k0_hw2.2.1.2.2.2.2.2.2.2.1 k0_t38
theorem k0_mult72_dvd : ∀ (v27 : BitVec 32) (v96 : BitVec 32) (k0_hw2 : k0_chk2 v27 v96) (k0_t38 : Fin (k0_t38_loop v27 v96).trips), 256 ∣ (k0_mult72 v27 v96 k0_t38).toNat := fun v27 v96 k0_hw2 k0_t38 => k0_hw2.2.1.2.2.2.2.2.2.2.2.1 k0_t38
theorem k0_off93_inb : ∀ (v27 : BitVec 32) (v96 : BitVec 32) (k0_hw2 : k0_chk2 v27 v96) (k0_t38 : Fin (k0_t38_loop v27 v96).trips), ∀ a, (k0_off93 v27 v96 k0_t38) a + S1024x256.size a ≤ S3072x2816.size a := fun v27 v96 k0_hw2 k0_t38 => k0_hw2.2.1.2.2.2.2.2.2.2.2.2.1 k0_t38
theorem k0_off93_packedbf16 : ∀ (v27 : BitVec 32) (v96 : BitVec 32) (k0_hw2 : k0_chk2 v27 v96) (k0_t38 : Fin (k0_t38_loop v27 v96).trips), (Rect.unit (s := S3072x2816) (k0_off93 v27 v96 k0_t38) S1024x256.size (k0_off93_inb v27 v96 k0_hw2 k0_t38)).PackedRows (EltTy.packing .bf16) := fun v27 v96 k0_hw2 k0_t38 => k0_hw2.2.1.2.2.2.2.2.2.2.2.2.2.1 k0_t38 (k0_off93_inb v27 v96 k0_hw2 k0_t38)
theorem k0_t39_ok : ∀ (v27 : BitVec 32) (v96 : BitVec 32) (k0_hw2 : k0_chk2 v27 v96), (k0_t39_loop v27 v96).OK := fun v27 v96 k0_hw2 => k0_hw2.2.1.2.2.2.2.2.2.2.2.2.2.2.1
theorem k0_mult73_dvd : ∀ (v27 : BitVec 32) (v96 : BitVec 32) (k0_hw2 : k0_chk2 v27 v96) (k0_t39 : Fin (k0_t39_loop v27 v96).trips), 16 ∣ (k0_mult73 v27 v96 k0_t39).toNat := fun v27 v96 k0_hw2 k0_t39 => k0_hw2.2.1.2.2.2.2.2.2.2.2.2.2.2.2.1 k0_t39
theorem k0_off94_inb : ∀ (v27 : BitVec 32) (v96 : BitVec 32) (k0_hw2 : k0_chk2 v27 v96) (k0_t39 : Fin (k0_t39_loop v27 v96).trips), ∀ a, (k0_off94 v27 v96 k0_t39) a + S256x1024.size a ≤ S1792x1024.size a := fun v27 v96 k0_hw2 k0_t39 => k0_hw2.2.1.2.2.2.2.2.2.2.2.2.2.2.2.2.1 k0_t39
theorem k0_mult74_dvd : ∀ (v27 : BitVec 32) (v96 : BitVec 32) (k0_hw2 : k0_chk2 v27 v96) (k0_t39 : Fin (k0_t39_loop v27 v96).trips), 256 ∣ (k0_mult74 v27 v96 k0_t39).toNat := fun v27 v96 k0_hw2 k0_t39 => k0_hw2.2.1.2.2.2.2.2.2.2.2.2.2.2.2.2.2.1 k0_t39
theorem k0_off95_inb : ∀ (v27 : BitVec 32) (v96 : BitVec 32) (k0_hw2 : k0_chk2 v27 v96) (k0_t39 : Fin (k0_t39_loop v27 v96).trips), ∀ a, (k0_off95 v27 v96 k0_t39) a + S1024x256.size a ≤ S3072x2816.size a := fun v27 v96 k0_hw2 k0_t39 => k0_hw2.2.1.2.2.2.2.2.2.2.2.2.2.2.2.2.2.2.1 k0_t39
theorem k0_off95_packedbf16 : ∀ (v27 : BitVec 32) (v96 : BitVec 32) (k0_hw2 : k0_chk2 v27 v96) (k0_t39 : Fin (k0_t39_loop v27 v96).trips), (Rect.unit (s := S3072x2816) (k0_off95 v27 v96 k0_t39) S1024x256.size (k0_off95_inb v27 v96 k0_hw2 k0_t39)).PackedRows (EltTy.packing .bf16) := fun v27 v96 k0_hw2 k0_t39 => k0_hw2.2.1.2.2.2.2.2.2.2.2.2.2.2.2.2.2.2.2.1 k0_t39 (k0_off95_inb v27 v96 k0_hw2 k0_t39)
theorem k0_t48_ok : ∀ (v27 : BitVec 32) (v96 : BitVec 32) (k0_hw2 : k0_chk2 v27 v96), (k0_t48_loop v96).OK := fun v27 v96 k0_hw2 => k0_hw2.2.1.2.2.2.2.2.2.2.2.2.2.2.2.2.2.2.2.2.1
theorem k0_mult89_dvd : ∀ (v27 : BitVec 32) (v96 : BitVec 32) (k0_hw2 : k0_chk2 v27 v96) (k0_t48 : Fin (k0_t48_loop v96).trips), 32 ∣ (k0_mult89 v27 v96 k0_t48).toNat := fun v27 v96 k0_hw2 k0_t48 => k0_hw2.2.1.2.2.2.2.2.2.2.2.2.2.2.2.2.2.2.2.2.2.1 k0_t48
theorem k0_off114_inb : ∀ (v27 : BitVec 32) (v96 : BitVec 32) (k0_hw2 : k0_chk2 v27 v96) (k0_t48 : Fin (k0_t48_loop v96).trips), ∀ a, (k0_off114 v27 v96 k0_t48) a + S1x1024.size a ≤ S13x3072.size a := fun v27 v96 k0_hw2 k0_t48 => k0_hw2.2.1.2.2.2.2.2.2.2.2.2.2.2.2.2.2.2.2.2.2.2.1 k0_t48
theorem k0_off115_inb : ∀ (v27 : BitVec 32) (v96 : BitVec 32) (k0_hw2 : k0_chk2 v27 v96) (k0_t48 : Fin (k0_t48_loop v96).trips), ∀ a, (k0_off115 v27 v96 k0_t48) a + S160x1024.size a ≤ S1536x3072.size a := fun v27 v96 k0_hw2 k0_t48 => k0_hw2.2.1.2.2.2.2.2.2.2.2.2.2.2.2.2.2.2.2.2.2.2.2.1 k0_t48
theorem k0_off116_inb : ∀ (v27 : BitVec 32) (v96 : BitVec 32) (k0_hw2 : k0_chk2 v27 v96) (k0_t48 : Fin (k0_t48_loop v96).trips), ∀ a, (k0_off116 v27 v96 k0_t48) a + S160x1024.size a ≤ S1792x1024.size a := fun v27 v96 k0_hw2 k0_t48 => k0_hw2.2.1.2.2.2.2.2.2.2.2.2.2.2.2.2.2.2.2.2.2.2.2.2.1 k0_t48
theorem k0_off116_packedbf16 : ∀ (v27 : BitVec 32) (v96 : BitVec 32) (k0_hw2 : k0_chk2 v27 v96) (k0_t48 : Fin (k0_t48_loop v96).trips), (Rect.unit (s := S1792x1024) (k0_off116 v27 v96 k0_t48) S160x1024.size (k0_off116_inb v27 v96 k0_hw2 k0_t48)).PackedRows (EltTy.packing .bf16) := fun v27 v96 k0_hw2 k0_t48 => k0_hw2.2.1.2.2.2.2.2.2.2.2.2.2.2.2.2.2.2.2.2.2.2.2.2.2.1 k0_t48 (k0_off116_inb v27 v96 k0_hw2 k0_t48)
theorem k0_t49_ok : ∀ (v27 : BitVec 32) (v96 : BitVec 32) (k0_hw2 : k0_chk2 v27 v96), (k0_t49_loop v96).OK := fun v27 v96 k0_hw2 => k0_hw2.2.1.2.2.2.2.2.2.2.2.2.2.2.2.2.2.2.2.2.2.2.2.2.2.2.1
theorem k0_mult90_dvd : ∀ (v27 : BitVec 32) (v96 : BitVec 32) (k0_hw2 : k0_chk2 v27 v96) (k0_t49 : Fin (k0_t49_loop v96).trips), 32 ∣ (k0_mult90 v27 v96 k0_t49).toNat := fun v27 v96 k0_hw2 k0_t49 => k0_hw2.2.1.2.2.2.2.2.2.2.2.2.2.2.2.2.2.2.2.2.2.2.2.2.2.2.2.1 k0_t49
theorem k0_off117_inb : ∀ (v27 : BitVec 32) (v96 : BitVec 32) (k0_hw2 : k0_chk2 v27 v96) (k0_t49 : Fin (k0_t49_loop v96).trips), ∀ a, (k0_off117 v27 v96 k0_t49) a + S1x1024.size a ≤ S13x3072.size a := fun v27 v96 k0_hw2 k0_t49 => k0_hw2.2.1.2.2.2.2.2.2.2.2.2.2.2.2.2.2.2.2.2.2.2.2.2.2.2.2.2.1 k0_t49
theorem k0_off118_inb : ∀ (v27 : BitVec 32) (v96 : BitVec 32) (k0_hw2 : k0_chk2 v27 v96) (k0_t49 : Fin (k0_t49_loop v96).trips), ∀ a, (k0_off118 v27 v96 k0_t49) a + S160x1024.size a ≤ S1536x3072.size a := fun v27 v96 k0_hw2 k0_t49 => k0_hw2.2.1.2.2.2.2.2.2.2.2.2.2.2.2.2.2.2.2.2.2.2.2.2.2.2.2.2.2.1 k0_t49
theorem k0_off119_inb : ∀ (v27 : BitVec 32) (v96 : BitVec 32) (k0_hw2 : k0_chk2 v27 v96) (k0_t49 : Fin (k0_t49_loop v96).trips), ∀ a, (k0_off119 v27 v96 k0_t49) a + S160x1024.size a ≤ S1792x1024.size a := fun v27 v96 k0_hw2 k0_t49 => k0_hw2.2.1.2.2.2.2.2.2.2.2.2.2.2.2.2.2.2.2.2.2.2.2.2.2.2.2.2.2.2.1 k0_t49
theorem k0_off119_packedbf16 : ∀ (v27 : BitVec 32) (v96 : BitVec 32) (k0_hw2 : k0_chk2 v27 v96) (k0_t49 : Fin (k0_t49_loop v96).trips), (Rect.unit (s := S1792x1024) (k0_off119 v27 v96 k0_t49) S160x1024.size (k0_off119_inb v27 v96 k0_hw2 k0_t49)).PackedRows (EltTy.packing .bf16) := fun v27 v96 k0_hw2 k0_t49 => k0_hw2.2.1.2.2.2.2.2.2.2.2.2.2.2.2.2.2.2.2.2.2.2.2.2.2.2.2.2.2.2.2.1 k0_t49 (k0_off119_inb v27 v96 k0_hw2 k0_t49)
theorem k0_t58_ok : ∀ (v27 : BitVec 32) (v96 : BitVec 32) (k0_hw2 : k0_chk2 v27 v96), (k0_t58_loop v27 v96).OK := fun v27 v96 k0_hw2 => k0_hw2.2.1.2.2.2.2.2.2.2.2.2.2.2.2.2.2.2.2.2.2.2.2.2.2.2.2.2.2.2.2.2.1
theorem k0_mult101_dvd : ∀ (v27 : BitVec 32) (v96 : BitVec 32) (k0_hw2 : k0_chk2 v27 v96) (k0_t58 : Fin (k0_t58_loop v27 v96).trips), 16 ∣ (k0_mult101 v27 v96 k0_t58).toNat := fun v27 v96 k0_hw2 k0_t58 => k0_hw2.2.1.2.2.2.2.2.2.2.2.2.2.2.2.2.2.2.2.2.2.2.2.2.2.2.2.2.2.2.2.2.2.1 k0_t58
theorem k0_off142_inb : ∀ (v27 : BitVec 32) (v96 : BitVec 32) (k0_hw2 : k0_chk2 v27 v96) (k0_t58 : Fin (k0_t58_loop v27 v96).trips), ∀ a, (k0_off142 v27 v96 k0_t58) a + S256x1024.size a ≤ S1792x1024.size a := fun v27 v96 k0_hw2 k0_t58 => k0_hw2.2.1.2.2.2.2.2.2.2.2.2.2.2.2.2.2.2.2.2.2.2.2.2.2.2.2.2.2.2.2.2.2.2 k0_t58
theorem k0_mult102_dvd : ∀ (v27 : BitVec 32) (v96 : BitVec 32) (k0_hw2 : k0_chk2 v27 v96) (k0_t58 : Fin (k0_t58_loop v27 v96).trips), 256 ∣ (k0_mult102 v27 v96 k0_t58).toNat := fun v27 v96 k0_hw2 k0_t58 => k0_hw2.2.2.1 k0_t58
theorem k0_off143_inb : ∀ (v27 : BitVec 32) (v96 : BitVec 32) (k0_hw2 : k0_chk2 v27 v96) (k0_t58 : Fin (k0_t58_loop v27 v96).trips), ∀ a, (k0_off143 v27 v96 k0_t58) a + S1024x256.size a ≤ S3072x2816.size a := fun v27 v96 k0_hw2 k0_t58 => k0_hw2.2.2.2.1 k0_t58
theorem k0_off143_packedbf16 : ∀ (v27 : BitVec 32) (v96 : BitVec 32) (k0_hw2 : k0_chk2 v27 v96) (k0_t58 : Fin (k0_t58_loop v27 v96).trips), (Rect.unit (s := S3072x2816) (k0_off143 v27 v96 k0_t58) S1024x256.size (k0_off143_inb v27 v96 k0_hw2 k0_t58)).PackedRows (EltTy.packing .bf16) := fun v27 v96 k0_hw2 k0_t58 => k0_hw2.2.2.2.2.1 k0_t58 (k0_off143_inb v27 v96 k0_hw2 k0_t58)
theorem k0_t59_ok : ∀ (v27 : BitVec 32) (v96 : BitVec 32) (k0_hw2 : k0_chk2 v27 v96), (k0_t59_loop v27 v96).OK := fun v27 v96 k0_hw2 => k0_hw2.2.2.2.2.2.1
theorem k0_mult103_dvd : ∀ (v27 : BitVec 32) (v96 : BitVec 32) (k0_hw2 : k0_chk2 v27 v96) (k0_t59 : Fin (k0_t59_loop v27 v96).trips), 16 ∣ (k0_mult103 v27 v96 k0_t59).toNat := fun v27 v96 k0_hw2 k0_t59 => k0_hw2.2.2.2.2.2.2.1 k0_t59
theorem k0_off144_inb : ∀ (v27 : BitVec 32) (v96 : BitVec 32) (k0_hw2 : k0_chk2 v27 v96) (k0_t59 : Fin (k0_t59_loop v27 v96).trips), ∀ a, (k0_off144 v27 v96 k0_t59) a + S256x1024.size a ≤ S1792x1024.size a := fun v27 v96 k0_hw2 k0_t59 => k0_hw2.2.2.2.2.2.2.2.1 k0_t59
theorem k0_mult104_dvd : ∀ (v27 : BitVec 32) (v96 : BitVec 32) (k0_hw2 : k0_chk2 v27 v96) (k0_t59 : Fin (k0_t59_loop v27 v96).trips), 256 ∣ (k0_mult104 v27 v96 k0_t59).toNat := fun v27 v96 k0_hw2 k0_t59 => k0_hw2.2.2.2.2.2.2.2.2.1 k0_t59
theorem k0_off145_inb : ∀ (v27 : BitVec 32) (v96 : BitVec 32) (k0_hw2 : k0_chk2 v27 v96) (k0_t59 : Fin (k0_t59_loop v27 v96).trips), ∀ a, (k0_off145 v27 v96 k0_t59) a + S1024x256.size a ≤ S3072x2816.size a := fun v27 v96 k0_hw2 k0_t59 => k0_hw2.2.2.2.2.2.2.2.2.2.1 k0_t59
theorem k0_off145_packedbf16 : ∀ (v27 : BitVec 32) (v96 : BitVec 32) (k0_hw2 : k0_chk2 v27 v96) (k0_t59 : Fin (k0_t59_loop v27 v96).trips), (Rect.unit (s := S3072x2816) (k0_off145 v27 v96 k0_t59) S1024x256.size (k0_off145_inb v27 v96 k0_hw2 k0_t59)).PackedRows (EltTy.packing .bf16) := fun v27 v96 k0_hw2 k0_t59 => k0_hw2.2.2.2.2.2.2.2.2.2.2.1 k0_t59 (k0_off145_inb v27 v96 k0_hw2 k0_t59)
theorem k0_t69_ok : ∀ (v27 : BitVec 32) (v96 : BitVec 32) (k0_hw2 : k0_chk2 v27 v96), (k0_t69_loop v96).OK := fun v27 v96 k0_hw2 => k0_hw2.2.2.2.2.2.2.2.2.2.2.2.1
theorem k0_mult122_dvd : ∀ (v27 : BitVec 32) (v96 : BitVec 32) (k0_hw2 : k0_chk2 v27 v96) (k0_t69 : Fin (k0_t69_loop v96).trips), 32 ∣ (k0_mult122 v27 v96 k0_t69).toNat := fun v27 v96 k0_hw2 k0_t69 => k0_hw2.2.2.2.2.2.2.2.2.2.2.2.2.1 k0_t69
theorem k0_off170_inb : ∀ (v27 : BitVec 32) (v96 : BitVec 32) (k0_hw2 : k0_chk2 v27 v96) (k0_t66 : Fin k0_t66_loop.trips) (k0_t69 : Fin (k0_t69_loop v96).trips), ∀ a, (k0_off170 v27 v96 k0_t66 k0_t69) a + S1x1024.size a ≤ S13x8192.size a := fun v27 v96 k0_hw2 k0_t66 k0_t69 => k0_hw2.2.2.2.2.2.2.2.2.2.2.2.2.2.1 k0_t66 k0_t69
theorem k0_off171_inb : ∀ (v27 : BitVec 32) (v96 : BitVec 32) (k0_hw2 : k0_chk2 v27 v96) (k0_t66 : Fin k0_t66_loop.trips) (k0_t69 : Fin (k0_t69_loop v96).trips), ∀ a, (k0_off171 v27 v96 k0_t66 k0_t69) a + S1x160x1024.size a ≤ S2x1536x1024.size a := fun v27 v96 k0_hw2 k0_t66 k0_t69 => k0_hw2.2.2.2.2.2.2.2.2.2.2.2.2.2.2.1 k0_t66 k0_t69
theorem k0_off172_inb : ∀ (v27 : BitVec 32) (v96 : BitVec 32) (k0_hw2 : k0_chk2 v27 v96) (k0_t69 : Fin (k0_t69_loop v96).trips), ∀ a, (k0_off172 v27 v96 k0_t69) a + S160x1024.size a ≤ S1792x1024.size a := fun v27 v96 k0_hw2 k0_t69 => k0_hw2.2.2.2.2.2.2.2.2.2.2.2.2.2.2.2.1 k0_t69
theorem k0_off172_packedbf16 : ∀ (v27 : BitVec 32) (v96 : BitVec 32) (k0_hw2 : k0_chk2 v27 v96) (k0_t69 : Fin (k0_t69_loop v96).trips), (Rect.unit (s := S1792x1024) (k0_off172 v27 v96 k0_t69) S160x1024.size (k0_off172_inb v27 v96 k0_hw2 k0_t69)).PackedRows (EltTy.packing .bf16) := fun v27 v96 k0_hw2 k0_t69 => k0_hw2.2.2.2.2.2.2.2.2.2.2.2.2.2.2.2.2.1 k0_t69 (k0_off172_inb v27 v96 k0_hw2 k0_t69)
theorem k0_t70_ok : ∀ (v27 : BitVec 32) (v96 : BitVec 32) (k0_hw2 : k0_chk2 v27 v96), (k0_t70_loop v96).OK := fun v27 v96 k0_hw2 => k0_hw2.2.2.2.2.2.2.2.2.2.2.2.2.2.2.2.2.2.1
theorem k0_mult123_dvd : ∀ (v27 : BitVec 32) (v96 : BitVec 32) (k0_hw2 : k0_chk2 v27 v96) (k0_t70 : Fin (k0_t70_loop v96).trips), 32 ∣ (k0_mult123 v27 v96 k0_t70).toNat := fun v27 v96 k0_hw2 k0_t70 => k0_hw2.2.2.2.2.2.2.2.2.2.2.2.2.2.2.2.2.2.2.1 k0_t70
theorem k0_off173_inb : ∀ (v27 : BitVec 32) (v96 : BitVec 32) (k0_hw2 : k0_chk2 v27 v96) (k0_t66 : Fin k0_t66_loop.trips) (k0_t70 : Fin (k0_t70_loop v96).trips), ∀ a, (k0_off173 v27 v96 k0_t66 k0_t70) a + S1x1024.size a ≤ S13x8192.size a := fun v27 v96 k0_hw2 k0_t66 k0_t70 => k0_hw2.2.2.2.2.2.2.2.2.2.2.2.2.2.2.2.2.2.2.2.1 k0_t66 k0_t70
theorem k0_off174_inb : ∀ (v27 : BitVec 32) (v96 : BitVec 32) (k0_hw2 : k0_chk2 v27 v96) (k0_t66 : Fin k0_t66_loop.trips) (k0_t70 : Fin (k0_t70_loop v96).trips), ∀ a, (k0_off174 v27 v96 k0_t66 k0_t70) a + S1x160x1024.size a ≤ S2x1536x1024.size a := fun v27 v96 k0_hw2 k0_t66 k0_t70 => k0_hw2.2.2.2.2.2.2.2.2.2.2.2.2.2.2.2.2.2.2.2.2.1 k0_t66 k0_t70
theorem k0_off175_inb : ∀ (v27 : BitVec 32) (v96 : BitVec 32) (k0_hw2 : k0_chk2 v27 v96) (k0_t70 : Fin (k0_t70_loop v96).trips), ∀ a, (k0_off175 v27 v96 k0_t70) a + S160x1024.size a ≤ S1792x1024.size a := fun v27 v96 k0_hw2 k0_t70 => k0_hw2.2.2.2.2.2.2.2.2.2.2.2.2.2.2.2.2.2.2.2.2.2.1 k0_t70
theorem k0_off175_packedbf16 : ∀ (v27 : BitVec 32) (v96 : BitVec 32) (k0_hw2 : k0_chk2 v27 v96) (k0_t70 : Fin (k0_t70_loop v96).trips), (Rect.unit (s := S1792x1024) (k0_off175 v27 v96 k0_t70) S160x1024.size (k0_off175_inb v27 v96 k0_hw2 k0_t70)).PackedRows (EltTy.packing .bf16) := fun v27 v96 k0_hw2 k0_t70 => k0_hw2.2.2.2.2.2.2.2.2.2.2.2.2.2.2.2.2.2.2.2.2.2.2 k0_t70 (k0_off175_inb v27 v96 k0_hw2 k0_t70)

@[reducible] def k0_t71_loop (v165 : BitVec 32) : Scf.Loop 32 :=
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let c1_i32_592 : BitVec 32 := 1#32
  ⟨c0_i32_590, v734, c1_i32_592⟩
def k0_mult124 (v27 : BitVec 32) (v96 : BitVec 32) (v165 : BitVec 32) (k0_t71 : Fin (k0_t71_loop v165).trips) : BitVec 32 :=
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c1_i32_592 : BitVec 32 := 1#32
  let arg22 : BitVec 32 := Scf.iv c0_i32_590 c1_i32_592 k0_t71
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off176 (v27 : BitVec 32) (v96 : BitVec 32) (v165 : BitVec 32) (k0_t66 : Fin k0_t66_loop.trips) (k0_t71 : Fin (k0_t71_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_589 : BitVec 32 := 0#32
  let c0_i32_590 : BitVec 32 := 0#32
  let c1_i32_592 : BitVec 32 := 1#32
  let arg22 : BitVec 32 := Scf.iv c0_i32_590 c1_i32_592 k0_t71
  let c1_i32_588 : BitVec 32 := 1#32
  let v755 : BitVec 32 := Scalar.muli arg22 c1_i32_588
  let v756 : BitVec 32 := Scalar.addi c0_i32_589 v755
  let v781 : BitVec 32 := Scalar.addi v159 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off177 (v27 : BitVec 32) (v96 : BitVec 32) (v165 : BitVec 32) (k0_t66 : Fin k0_t66_loop.trips) (k0_t71 : Fin (k0_t71_loop v165).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c1_i32_592 : BitVec 32 := 1#32
  let arg22 : BitVec 32 := Scf.iv c0_i32_590 c1_i32_592 k0_t71
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off178 (v27 : BitVec 32) (v96 : BitVec 32) (v165 : BitVec 32) (k0_t71 : Fin (k0_t71_loop v165).trips) : Fin 2 → Nat :=
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c1_i32_592 : BitVec 32 := 1#32
  let arg22 : BitVec 32 := Scf.iv c0_i32_590 c1_i32_592 k0_t71
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]
@[reducible] def k0_t72_loop (v165 : BitVec 32) : Scf.Loop 32 :=
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let v731 : BitVec 32 := Scalar.addi c0_i32_590 v730
  let c1_i32_593 : BitVec 32 := 1#32
  ⟨v734, v731, c1_i32_593⟩
def k0_mult125 (v27 : BitVec 32) (v96 : BitVec 32) (v165 : BitVec 32) (k0_t72 : Fin (k0_t72_loop v165).trips) : BitVec 32 :=
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let c1_i32_593 : BitVec 32 := 1#32
  let arg22 : BitVec 32 := Scf.iv v734 c1_i32_593 k0_t72
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off179 (v27 : BitVec 32) (v96 : BitVec 32) (v165 : BitVec 32) (k0_t66 : Fin k0_t66_loop.trips) (k0_t72 : Fin (k0_t72_loop v165).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c0_i32_589 : BitVec 32 := 0#32
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let c1_i32_593 : BitVec 32 := 1#32
  let arg22 : BitVec 32 := Scf.iv v734 c1_i32_593 k0_t72
  let c1_i32_588 : BitVec 32 := 1#32
  let v755 : BitVec 32 := Scalar.muli arg22 c1_i32_588
  let v756 : BitVec 32 := Scalar.addi c0_i32_589 v755
  let v781 : BitVec 32 := Scalar.addi v159 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off180 (v27 : BitVec 32) (v96 : BitVec 32) (v165 : BitVec 32) (k0_t66 : Fin k0_t66_loop.trips) (k0_t72 : Fin (k0_t72_loop v165).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let c1_i32_593 : BitVec 32 := 1#32
  let arg22 : BitVec 32 := Scf.iv v734 c1_i32_593 k0_t72
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off181 (v27 : BitVec 32) (v96 : BitVec 32) (v165 : BitVec 32) (k0_t72 : Fin (k0_t72_loop v165).trips) : Fin 2 → Nat :=
  let c0_i32_20 : BitVec 32 := 0#32
  let v28 : BitVec 32 := Scalar.addi c0_i32_20 v27
  let v97 : BitVec 32 := Scalar.addi v28 v96
  let c0_i32_589 : BitVec 32 := 0#32
  let c0_i32_590 : BitVec 32 := 0#32
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let c0_i32_584 : BitVec 32 := 0#32
  let v726 : BitVec 32 := Scalar.subi v203 c0_i32_584
  let c1_i32_585 : BitVec 32 := 1#32
  let c1_i32_586 : BitVec 32 := 1#32
  let v727 : BitVec 32 := Scalar.subi c1_i32_585 c1_i32_586
  let v728 : BitVec 32 := Scalar.addi v726 v727
  let c1_i32_587 : BitVec 32 := 1#32
  let v729 : BitVec 32 := Scalar.divsi v728 c1_i32_587
  let v730 : BitVec 32 := Scalar.subi v729 c0_i32_590
  let c1_i32_591 : BitVec 32 := 1#32
  let v732 : BitVec 32 := Scalar.divsi v730 c1_i32_591
  let v733 : BitVec 32 := Scalar.muli v732 c1_i32_591
  let v734 : BitVec 32 := Scalar.addi c0_i32_590 v733
  let c1_i32_593 : BitVec 32 := 1#32
  let arg22 : BitVec 32 := Scf.iv v734 c1_i32_593 k0_t72
  let c1_i32_588 : BitVec 32 := 1#32
  let v755 : BitVec 32 := Scalar.muli arg22 c1_i32_588
  let v756 : BitVec 32 := Scalar.addi c0_i32_589 v755
  let c128_i32_617 : BitVec 32 := 128#32
  let v757 : BitVec 32 := Scalar.muli v756 c128_i32_617
  let v758 : BitVec 32 := Scalar.addi v97 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]

def k0_chk3_0 (v27 : BitVec 32) (v96 : BitVec 32) (v165 : BitVec 32) : Prop :=
  (16 ∣ (k0_mult17 v27 v96 v165).toNat) ∧
  ((k0_t10_loop v165).OK) ∧
  (∀ k0_t10 : Fin (k0_t10_loop v165).trips, 32 ∣ (k0_mult31 v27 v96 v165 k0_t10).toNat) ∧
  (∀ k0_t10 : Fin (k0_t10_loop v165).trips, ∀ a, (k0_off20 v27 v96 v165 k0_t10) a + S1x1024.size a ≤ S13x3072.size a) ∧
  (∀ k0_t10 : Fin (k0_t10_loop v165).trips, ∀ a, (k0_off21 v27 v96 v165 k0_t10) a + S160x1024.size a ≤ S1536x3072.size a) ∧
  (∀ k0_t10 : Fin (k0_t10_loop v165).trips, ∀ a, (k0_off22 v27 v96 v165 k0_t10) a + S160x1024.size a ≤ S1792x1024.size a) ∧
  (∀ k0_t10 : Fin (k0_t10_loop v165).trips, ∀ (hinb : ∀ a, (k0_off22 v27 v96 v165 k0_t10) a + S160x1024.size a ≤ S1792x1024.size a), (Rect.unit (s := S1792x1024) (k0_off22 v27 v96 v165 k0_t10) S160x1024.size hinb).PackedRows (EltTy.packing .bf16)) ∧
  ((k0_t11_loop v165).OK) ∧
  (∀ k0_t11 : Fin (k0_t11_loop v165).trips, 32 ∣ (k0_mult32 v27 v96 v165 k0_t11).toNat) ∧
  (∀ k0_t11 : Fin (k0_t11_loop v165).trips, ∀ a, (k0_off23 v27 v96 v165 k0_t11) a + S1x1024.size a ≤ S13x3072.size a) ∧
  (∀ k0_t11 : Fin (k0_t11_loop v165).trips, ∀ a, (k0_off24 v27 v96 v165 k0_t11) a + S160x1024.size a ≤ S1536x3072.size a) ∧
  (∀ k0_t11 : Fin (k0_t11_loop v165).trips, ∀ a, (k0_off25 v27 v96 v165 k0_t11) a + S160x1024.size a ≤ S1792x1024.size a) ∧
  (∀ k0_t11 : Fin (k0_t11_loop v165).trips, ∀ (hinb : ∀ a, (k0_off25 v27 v96 v165 k0_t11) a + S160x1024.size a ≤ S1792x1024.size a), (Rect.unit (s := S1792x1024) (k0_off25 v27 v96 v165 k0_t11) S160x1024.size hinb).PackedRows (EltTy.packing .bf16)) ∧
  ((k0_t20_loop v27 v96 v165).OK) ∧
  (∀ k0_t20 : Fin (k0_t20_loop v27 v96 v165).trips, 16 ∣ (k0_mult45 v27 v96 v165 k0_t20).toNat) ∧
  (∀ k0_t20 : Fin (k0_t20_loop v27 v96 v165).trips, ∀ a, (k0_off46 v27 v96 v165 k0_t20) a + S256x1024.size a ≤ S1792x1024.size a) ∧
  (∀ k0_t20 : Fin (k0_t20_loop v27 v96 v165).trips, 256 ∣ (k0_mult46 v27 v96 v165 k0_t20).toNat) ∧
  (∀ k0_t20 : Fin (k0_t20_loop v27 v96 v165).trips, ∀ a, (k0_off47 v27 v96 v165 k0_t20) a + S1024x256.size a ≤ S3072x2816.size a) ∧
  (∀ k0_t20 : Fin (k0_t20_loop v27 v96 v165).trips, ∀ (hinb : ∀ a, (k0_off47 v27 v96 v165 k0_t20) a + S1024x256.size a ≤ S3072x2816.size a), (Rect.unit (s := S3072x2816) (k0_off47 v27 v96 v165 k0_t20) S1024x256.size hinb).PackedRows (EltTy.packing .bf16)) ∧
  ((k0_t21_loop v27 v96 v165).OK) ∧
  (∀ k0_t21 : Fin (k0_t21_loop v27 v96 v165).trips, 16 ∣ (k0_mult47 v27 v96 v165 k0_t21).toNat) ∧
  (∀ k0_t21 : Fin (k0_t21_loop v27 v96 v165).trips, ∀ a, (k0_off48 v27 v96 v165 k0_t21) a + S256x1024.size a ≤ S1792x1024.size a) ∧
  (∀ k0_t21 : Fin (k0_t21_loop v27 v96 v165).trips, 256 ∣ (k0_mult48 v27 v96 v165 k0_t21).toNat) ∧
  (∀ k0_t21 : Fin (k0_t21_loop v27 v96 v165).trips, ∀ a, (k0_off49 v27 v96 v165 k0_t21) a + S1024x256.size a ≤ S3072x2816.size a) ∧
  (∀ k0_t21 : Fin (k0_t21_loop v27 v96 v165).trips, ∀ (hinb : ∀ a, (k0_off49 v27 v96 v165 k0_t21) a + S1024x256.size a ≤ S3072x2816.size a), (Rect.unit (s := S3072x2816) (k0_off49 v27 v96 v165 k0_t21) S1024x256.size hinb).PackedRows (EltTy.packing .bf16)) ∧
  ((k0_t30_loop v165).OK) ∧
  (∀ k0_t30 : Fin (k0_t30_loop v165).trips, 32 ∣ (k0_mult61 v27 v96 v165 k0_t30).toNat) ∧
  (∀ k0_t30 : Fin (k0_t30_loop v165).trips, ∀ a, (k0_off70 v27 v96 v165 k0_t30) a + S1x1024.size a ≤ S13x3072.size a) ∧
  (∀ k0_t30 : Fin (k0_t30_loop v165).trips, ∀ a, (k0_off71 v27 v96 v165 k0_t30) a + S160x1024.size a ≤ S1536x3072.size a) ∧
  (∀ k0_t30 : Fin (k0_t30_loop v165).trips, ∀ a, (k0_off72 v27 v96 v165 k0_t30) a + S160x1024.size a ≤ S1792x1024.size a) ∧
  (∀ k0_t30 : Fin (k0_t30_loop v165).trips, ∀ (hinb : ∀ a, (k0_off72 v27 v96 v165 k0_t30) a + S160x1024.size a ≤ S1792x1024.size a), (Rect.unit (s := S1792x1024) (k0_off72 v27 v96 v165 k0_t30) S160x1024.size hinb).PackedRows (EltTy.packing .bf16)) ∧
  ((k0_t31_loop v165).OK)
def k0_chk3_1 (v27 : BitVec 32) (v96 : BitVec 32) (v165 : BitVec 32) : Prop :=
  (∀ k0_t31 : Fin (k0_t31_loop v165).trips, 32 ∣ (k0_mult62 v27 v96 v165 k0_t31).toNat) ∧
  (∀ k0_t31 : Fin (k0_t31_loop v165).trips, ∀ a, (k0_off73 v27 v96 v165 k0_t31) a + S1x1024.size a ≤ S13x3072.size a) ∧
  (∀ k0_t31 : Fin (k0_t31_loop v165).trips, ∀ a, (k0_off74 v27 v96 v165 k0_t31) a + S160x1024.size a ≤ S1536x3072.size a) ∧
  (∀ k0_t31 : Fin (k0_t31_loop v165).trips, ∀ a, (k0_off75 v27 v96 v165 k0_t31) a + S160x1024.size a ≤ S1792x1024.size a) ∧
  (∀ k0_t31 : Fin (k0_t31_loop v165).trips, ∀ (hinb : ∀ a, (k0_off75 v27 v96 v165 k0_t31) a + S160x1024.size a ≤ S1792x1024.size a), (Rect.unit (s := S1792x1024) (k0_off75 v27 v96 v165 k0_t31) S160x1024.size hinb).PackedRows (EltTy.packing .bf16)) ∧
  ((k0_t40_loop v27 v96 v165).OK) ∧
  (∀ k0_t40 : Fin (k0_t40_loop v27 v96 v165).trips, 16 ∣ (k0_mult75 v27 v96 v165 k0_t40).toNat) ∧
  (∀ k0_t40 : Fin (k0_t40_loop v27 v96 v165).trips, ∀ a, (k0_off96 v27 v96 v165 k0_t40) a + S256x1024.size a ≤ S1792x1024.size a) ∧
  (∀ k0_t40 : Fin (k0_t40_loop v27 v96 v165).trips, 256 ∣ (k0_mult76 v27 v96 v165 k0_t40).toNat) ∧
  (∀ k0_t40 : Fin (k0_t40_loop v27 v96 v165).trips, ∀ a, (k0_off97 v27 v96 v165 k0_t40) a + S1024x256.size a ≤ S3072x2816.size a) ∧
  (∀ k0_t40 : Fin (k0_t40_loop v27 v96 v165).trips, ∀ (hinb : ∀ a, (k0_off97 v27 v96 v165 k0_t40) a + S1024x256.size a ≤ S3072x2816.size a), (Rect.unit (s := S3072x2816) (k0_off97 v27 v96 v165 k0_t40) S1024x256.size hinb).PackedRows (EltTy.packing .bf16)) ∧
  ((k0_t41_loop v27 v96 v165).OK) ∧
  (∀ k0_t41 : Fin (k0_t41_loop v27 v96 v165).trips, 16 ∣ (k0_mult77 v27 v96 v165 k0_t41).toNat) ∧
  (∀ k0_t41 : Fin (k0_t41_loop v27 v96 v165).trips, ∀ a, (k0_off98 v27 v96 v165 k0_t41) a + S256x1024.size a ≤ S1792x1024.size a) ∧
  (∀ k0_t41 : Fin (k0_t41_loop v27 v96 v165).trips, 256 ∣ (k0_mult78 v27 v96 v165 k0_t41).toNat) ∧
  (∀ k0_t41 : Fin (k0_t41_loop v27 v96 v165).trips, ∀ a, (k0_off99 v27 v96 v165 k0_t41) a + S1024x256.size a ≤ S3072x2816.size a) ∧
  (∀ k0_t41 : Fin (k0_t41_loop v27 v96 v165).trips, ∀ (hinb : ∀ a, (k0_off99 v27 v96 v165 k0_t41) a + S1024x256.size a ≤ S3072x2816.size a), (Rect.unit (s := S3072x2816) (k0_off99 v27 v96 v165 k0_t41) S1024x256.size hinb).PackedRows (EltTy.packing .bf16)) ∧
  ((k0_t50_loop v165).OK) ∧
  (∀ k0_t50 : Fin (k0_t50_loop v165).trips, 32 ∣ (k0_mult91 v27 v96 v165 k0_t50).toNat) ∧
  (∀ k0_t50 : Fin (k0_t50_loop v165).trips, ∀ a, (k0_off120 v27 v96 v165 k0_t50) a + S1x1024.size a ≤ S13x3072.size a) ∧
  (∀ k0_t50 : Fin (k0_t50_loop v165).trips, ∀ a, (k0_off121 v27 v96 v165 k0_t50) a + S160x1024.size a ≤ S1536x3072.size a) ∧
  (∀ k0_t50 : Fin (k0_t50_loop v165).trips, ∀ a, (k0_off122 v27 v96 v165 k0_t50) a + S160x1024.size a ≤ S1792x1024.size a) ∧
  (∀ k0_t50 : Fin (k0_t50_loop v165).trips, ∀ (hinb : ∀ a, (k0_off122 v27 v96 v165 k0_t50) a + S160x1024.size a ≤ S1792x1024.size a), (Rect.unit (s := S1792x1024) (k0_off122 v27 v96 v165 k0_t50) S160x1024.size hinb).PackedRows (EltTy.packing .bf16)) ∧
  ((k0_t51_loop v165).OK) ∧
  (∀ k0_t51 : Fin (k0_t51_loop v165).trips, 32 ∣ (k0_mult92 v27 v96 v165 k0_t51).toNat) ∧
  (∀ k0_t51 : Fin (k0_t51_loop v165).trips, ∀ a, (k0_off123 v27 v96 v165 k0_t51) a + S1x1024.size a ≤ S13x3072.size a) ∧
  (∀ k0_t51 : Fin (k0_t51_loop v165).trips, ∀ a, (k0_off124 v27 v96 v165 k0_t51) a + S160x1024.size a ≤ S1536x3072.size a) ∧
  (∀ k0_t51 : Fin (k0_t51_loop v165).trips, ∀ a, (k0_off125 v27 v96 v165 k0_t51) a + S160x1024.size a ≤ S1792x1024.size a) ∧
  (∀ k0_t51 : Fin (k0_t51_loop v165).trips, ∀ (hinb : ∀ a, (k0_off125 v27 v96 v165 k0_t51) a + S160x1024.size a ≤ S1792x1024.size a), (Rect.unit (s := S1792x1024) (k0_off125 v27 v96 v165 k0_t51) S160x1024.size hinb).PackedRows (EltTy.packing .bf16)) ∧
  ((k0_t60_loop v27 v96 v165).OK) ∧
  (∀ k0_t60 : Fin (k0_t60_loop v27 v96 v165).trips, 16 ∣ (k0_mult105 v27 v96 v165 k0_t60).toNat) ∧
  (∀ k0_t60 : Fin (k0_t60_loop v27 v96 v165).trips, ∀ a, (k0_off146 v27 v96 v165 k0_t60) a + S256x1024.size a ≤ S1792x1024.size a)
def k0_chk3_2 (v27 : BitVec 32) (v96 : BitVec 32) (v165 : BitVec 32) : Prop :=
  (∀ k0_t60 : Fin (k0_t60_loop v27 v96 v165).trips, 256 ∣ (k0_mult106 v27 v96 v165 k0_t60).toNat) ∧
  (∀ k0_t60 : Fin (k0_t60_loop v27 v96 v165).trips, ∀ a, (k0_off147 v27 v96 v165 k0_t60) a + S1024x256.size a ≤ S3072x2816.size a) ∧
  (∀ k0_t60 : Fin (k0_t60_loop v27 v96 v165).trips, ∀ (hinb : ∀ a, (k0_off147 v27 v96 v165 k0_t60) a + S1024x256.size a ≤ S3072x2816.size a), (Rect.unit (s := S3072x2816) (k0_off147 v27 v96 v165 k0_t60) S1024x256.size hinb).PackedRows (EltTy.packing .bf16)) ∧
  ((k0_t61_loop v27 v96 v165).OK) ∧
  (∀ k0_t61 : Fin (k0_t61_loop v27 v96 v165).trips, 16 ∣ (k0_mult107 v27 v96 v165 k0_t61).toNat) ∧
  (∀ k0_t61 : Fin (k0_t61_loop v27 v96 v165).trips, ∀ a, (k0_off148 v27 v96 v165 k0_t61) a + S256x1024.size a ≤ S1792x1024.size a) ∧
  (∀ k0_t61 : Fin (k0_t61_loop v27 v96 v165).trips, 256 ∣ (k0_mult108 v27 v96 v165 k0_t61).toNat) ∧
  (∀ k0_t61 : Fin (k0_t61_loop v27 v96 v165).trips, ∀ a, (k0_off149 v27 v96 v165 k0_t61) a + S1024x256.size a ≤ S3072x2816.size a) ∧
  (∀ k0_t61 : Fin (k0_t61_loop v27 v96 v165).trips, ∀ (hinb : ∀ a, (k0_off149 v27 v96 v165 k0_t61) a + S1024x256.size a ≤ S3072x2816.size a), (Rect.unit (s := S3072x2816) (k0_off149 v27 v96 v165 k0_t61) S1024x256.size hinb).PackedRows (EltTy.packing .bf16)) ∧
  ((k0_t71_loop v165).OK) ∧
  (∀ k0_t71 : Fin (k0_t71_loop v165).trips, 32 ∣ (k0_mult124 v27 v96 v165 k0_t71).toNat) ∧
  (∀ (k0_t66 : Fin k0_t66_loop.trips) (k0_t71 : Fin (k0_t71_loop v165).trips), ∀ a, (k0_off176 v27 v96 v165 k0_t66 k0_t71) a + S1x1024.size a ≤ S13x8192.size a) ∧
  (∀ (k0_t66 : Fin k0_t66_loop.trips) (k0_t71 : Fin (k0_t71_loop v165).trips), ∀ a, (k0_off177 v27 v96 v165 k0_t66 k0_t71) a + S1x160x1024.size a ≤ S2x1536x1024.size a) ∧
  (∀ k0_t71 : Fin (k0_t71_loop v165).trips, ∀ a, (k0_off178 v27 v96 v165 k0_t71) a + S160x1024.size a ≤ S1792x1024.size a) ∧
  (∀ k0_t71 : Fin (k0_t71_loop v165).trips, ∀ (hinb : ∀ a, (k0_off178 v27 v96 v165 k0_t71) a + S160x1024.size a ≤ S1792x1024.size a), (Rect.unit (s := S1792x1024) (k0_off178 v27 v96 v165 k0_t71) S160x1024.size hinb).PackedRows (EltTy.packing .bf16)) ∧
  ((k0_t72_loop v165).OK) ∧
  (∀ k0_t72 : Fin (k0_t72_loop v165).trips, 32 ∣ (k0_mult125 v27 v96 v165 k0_t72).toNat) ∧
  (∀ (k0_t66 : Fin k0_t66_loop.trips) (k0_t72 : Fin (k0_t72_loop v165).trips), ∀ a, (k0_off179 v27 v96 v165 k0_t66 k0_t72) a + S1x1024.size a ≤ S13x8192.size a) ∧
  (∀ (k0_t66 : Fin k0_t66_loop.trips) (k0_t72 : Fin (k0_t72_loop v165).trips), ∀ a, (k0_off180 v27 v96 v165 k0_t66 k0_t72) a + S1x160x1024.size a ≤ S2x1536x1024.size a) ∧
  (∀ k0_t72 : Fin (k0_t72_loop v165).trips, ∀ a, (k0_off181 v27 v96 v165 k0_t72) a + S160x1024.size a ≤ S1792x1024.size a) ∧
  (∀ k0_t72 : Fin (k0_t72_loop v165).trips, ∀ (hinb : ∀ a, (k0_off181 v27 v96 v165 k0_t72) a + S160x1024.size a ≤ S1792x1024.size a), (Rect.unit (s := S1792x1024) (k0_off181 v27 v96 v165 k0_t72) S160x1024.size hinb).PackedRows (EltTy.packing .bf16))
def k0_chk3 (v27 : BitVec 32) (v96 : BitVec 32) (v165 : BitVec 32) : Prop :=
  k0_chk3_0 v27 v96 v165 ∧
  k0_chk3_1 v27 v96 v165 ∧
  k0_chk3_2 v27 v96 v165
theorem k0_mult17_dvd : ∀ (v27 : BitVec 32) (v96 : BitVec 32) (v165 : BitVec 32) (k0_hw3 : k0_chk3 v27 v96 v165), 16 ∣ (k0_mult17 v27 v96 v165).toNat := fun v27 v96 v165 k0_hw3 => k0_hw3.1.1
theorem k0_t10_ok : ∀ (v27 : BitVec 32) (v96 : BitVec 32) (v165 : BitVec 32) (k0_hw3 : k0_chk3 v27 v96 v165), (k0_t10_loop v165).OK := fun v27 v96 v165 k0_hw3 => k0_hw3.1.2.1
theorem k0_mult31_dvd : ∀ (v27 : BitVec 32) (v96 : BitVec 32) (v165 : BitVec 32) (k0_hw3 : k0_chk3 v27 v96 v165) (k0_t10 : Fin (k0_t10_loop v165).trips), 32 ∣ (k0_mult31 v27 v96 v165 k0_t10).toNat := fun v27 v96 v165 k0_hw3 k0_t10 => k0_hw3.1.2.2.1 k0_t10
theorem k0_off20_inb : ∀ (v27 : BitVec 32) (v96 : BitVec 32) (v165 : BitVec 32) (k0_hw3 : k0_chk3 v27 v96 v165) (k0_t10 : Fin (k0_t10_loop v165).trips), ∀ a, (k0_off20 v27 v96 v165 k0_t10) a + S1x1024.size a ≤ S13x3072.size a := fun v27 v96 v165 k0_hw3 k0_t10 => k0_hw3.1.2.2.2.1 k0_t10
theorem k0_off21_inb : ∀ (v27 : BitVec 32) (v96 : BitVec 32) (v165 : BitVec 32) (k0_hw3 : k0_chk3 v27 v96 v165) (k0_t10 : Fin (k0_t10_loop v165).trips), ∀ a, (k0_off21 v27 v96 v165 k0_t10) a + S160x1024.size a ≤ S1536x3072.size a := fun v27 v96 v165 k0_hw3 k0_t10 => k0_hw3.1.2.2.2.2.1 k0_t10
theorem k0_off22_inb : ∀ (v27 : BitVec 32) (v96 : BitVec 32) (v165 : BitVec 32) (k0_hw3 : k0_chk3 v27 v96 v165) (k0_t10 : Fin (k0_t10_loop v165).trips), ∀ a, (k0_off22 v27 v96 v165 k0_t10) a + S160x1024.size a ≤ S1792x1024.size a := fun v27 v96 v165 k0_hw3 k0_t10 => k0_hw3.1.2.2.2.2.2.1 k0_t10
theorem k0_off22_packedbf16 : ∀ (v27 : BitVec 32) (v96 : BitVec 32) (v165 : BitVec 32) (k0_hw3 : k0_chk3 v27 v96 v165) (k0_t10 : Fin (k0_t10_loop v165).trips), (Rect.unit (s := S1792x1024) (k0_off22 v27 v96 v165 k0_t10) S160x1024.size (k0_off22_inb v27 v96 v165 k0_hw3 k0_t10)).PackedRows (EltTy.packing .bf16) := fun v27 v96 v165 k0_hw3 k0_t10 => k0_hw3.1.2.2.2.2.2.2.1 k0_t10 (k0_off22_inb v27 v96 v165 k0_hw3 k0_t10)
theorem k0_t11_ok : ∀ (v27 : BitVec 32) (v96 : BitVec 32) (v165 : BitVec 32) (k0_hw3 : k0_chk3 v27 v96 v165), (k0_t11_loop v165).OK := fun v27 v96 v165 k0_hw3 => k0_hw3.1.2.2.2.2.2.2.2.1
theorem k0_mult32_dvd : ∀ (v27 : BitVec 32) (v96 : BitVec 32) (v165 : BitVec 32) (k0_hw3 : k0_chk3 v27 v96 v165) (k0_t11 : Fin (k0_t11_loop v165).trips), 32 ∣ (k0_mult32 v27 v96 v165 k0_t11).toNat := fun v27 v96 v165 k0_hw3 k0_t11 => k0_hw3.1.2.2.2.2.2.2.2.2.1 k0_t11
theorem k0_off23_inb : ∀ (v27 : BitVec 32) (v96 : BitVec 32) (v165 : BitVec 32) (k0_hw3 : k0_chk3 v27 v96 v165) (k0_t11 : Fin (k0_t11_loop v165).trips), ∀ a, (k0_off23 v27 v96 v165 k0_t11) a + S1x1024.size a ≤ S13x3072.size a := fun v27 v96 v165 k0_hw3 k0_t11 => k0_hw3.1.2.2.2.2.2.2.2.2.2.1 k0_t11
theorem k0_off24_inb : ∀ (v27 : BitVec 32) (v96 : BitVec 32) (v165 : BitVec 32) (k0_hw3 : k0_chk3 v27 v96 v165) (k0_t11 : Fin (k0_t11_loop v165).trips), ∀ a, (k0_off24 v27 v96 v165 k0_t11) a + S160x1024.size a ≤ S1536x3072.size a := fun v27 v96 v165 k0_hw3 k0_t11 => k0_hw3.1.2.2.2.2.2.2.2.2.2.2.1 k0_t11
theorem k0_off25_inb : ∀ (v27 : BitVec 32) (v96 : BitVec 32) (v165 : BitVec 32) (k0_hw3 : k0_chk3 v27 v96 v165) (k0_t11 : Fin (k0_t11_loop v165).trips), ∀ a, (k0_off25 v27 v96 v165 k0_t11) a + S160x1024.size a ≤ S1792x1024.size a := fun v27 v96 v165 k0_hw3 k0_t11 => k0_hw3.1.2.2.2.2.2.2.2.2.2.2.2.1 k0_t11
theorem k0_off25_packedbf16 : ∀ (v27 : BitVec 32) (v96 : BitVec 32) (v165 : BitVec 32) (k0_hw3 : k0_chk3 v27 v96 v165) (k0_t11 : Fin (k0_t11_loop v165).trips), (Rect.unit (s := S1792x1024) (k0_off25 v27 v96 v165 k0_t11) S160x1024.size (k0_off25_inb v27 v96 v165 k0_hw3 k0_t11)).PackedRows (EltTy.packing .bf16) := fun v27 v96 v165 k0_hw3 k0_t11 => k0_hw3.1.2.2.2.2.2.2.2.2.2.2.2.2.1 k0_t11 (k0_off25_inb v27 v96 v165 k0_hw3 k0_t11)
theorem k0_t20_ok : ∀ (v27 : BitVec 32) (v96 : BitVec 32) (v165 : BitVec 32) (k0_hw3 : k0_chk3 v27 v96 v165), (k0_t20_loop v27 v96 v165).OK := fun v27 v96 v165 k0_hw3 => k0_hw3.1.2.2.2.2.2.2.2.2.2.2.2.2.2.1
theorem k0_mult45_dvd : ∀ (v27 : BitVec 32) (v96 : BitVec 32) (v165 : BitVec 32) (k0_hw3 : k0_chk3 v27 v96 v165) (k0_t20 : Fin (k0_t20_loop v27 v96 v165).trips), 16 ∣ (k0_mult45 v27 v96 v165 k0_t20).toNat := fun v27 v96 v165 k0_hw3 k0_t20 => k0_hw3.1.2.2.2.2.2.2.2.2.2.2.2.2.2.2.1 k0_t20
theorem k0_off46_inb : ∀ (v27 : BitVec 32) (v96 : BitVec 32) (v165 : BitVec 32) (k0_hw3 : k0_chk3 v27 v96 v165) (k0_t20 : Fin (k0_t20_loop v27 v96 v165).trips), ∀ a, (k0_off46 v27 v96 v165 k0_t20) a + S256x1024.size a ≤ S1792x1024.size a := fun v27 v96 v165 k0_hw3 k0_t20 => k0_hw3.1.2.2.2.2.2.2.2.2.2.2.2.2.2.2.2.1 k0_t20
theorem k0_mult46_dvd : ∀ (v27 : BitVec 32) (v96 : BitVec 32) (v165 : BitVec 32) (k0_hw3 : k0_chk3 v27 v96 v165) (k0_t20 : Fin (k0_t20_loop v27 v96 v165).trips), 256 ∣ (k0_mult46 v27 v96 v165 k0_t20).toNat := fun v27 v96 v165 k0_hw3 k0_t20 => k0_hw3.1.2.2.2.2.2.2.2.2.2.2.2.2.2.2.2.2.1 k0_t20
theorem k0_off47_inb : ∀ (v27 : BitVec 32) (v96 : BitVec 32) (v165 : BitVec 32) (k0_hw3 : k0_chk3 v27 v96 v165) (k0_t20 : Fin (k0_t20_loop v27 v96 v165).trips), ∀ a, (k0_off47 v27 v96 v165 k0_t20) a + S1024x256.size a ≤ S3072x2816.size a := fun v27 v96 v165 k0_hw3 k0_t20 => k0_hw3.1.2.2.2.2.2.2.2.2.2.2.2.2.2.2.2.2.2.1 k0_t20
theorem k0_off47_packedbf16 : ∀ (v27 : BitVec 32) (v96 : BitVec 32) (v165 : BitVec 32) (k0_hw3 : k0_chk3 v27 v96 v165) (k0_t20 : Fin (k0_t20_loop v27 v96 v165).trips), (Rect.unit (s := S3072x2816) (k0_off47 v27 v96 v165 k0_t20) S1024x256.size (k0_off47_inb v27 v96 v165 k0_hw3 k0_t20)).PackedRows (EltTy.packing .bf16) := fun v27 v96 v165 k0_hw3 k0_t20 => k0_hw3.1.2.2.2.2.2.2.2.2.2.2.2.2.2.2.2.2.2.2.1 k0_t20 (k0_off47_inb v27 v96 v165 k0_hw3 k0_t20)
theorem k0_t21_ok : ∀ (v27 : BitVec 32) (v96 : BitVec 32) (v165 : BitVec 32) (k0_hw3 : k0_chk3 v27 v96 v165), (k0_t21_loop v27 v96 v165).OK := fun v27 v96 v165 k0_hw3 => k0_hw3.1.2.2.2.2.2.2.2.2.2.2.2.2.2.2.2.2.2.2.2.1
theorem k0_mult47_dvd : ∀ (v27 : BitVec 32) (v96 : BitVec 32) (v165 : BitVec 32) (k0_hw3 : k0_chk3 v27 v96 v165) (k0_t21 : Fin (k0_t21_loop v27 v96 v165).trips), 16 ∣ (k0_mult47 v27 v96 v165 k0_t21).toNat := fun v27 v96 v165 k0_hw3 k0_t21 => k0_hw3.1.2.2.2.2.2.2.2.2.2.2.2.2.2.2.2.2.2.2.2.2.1 k0_t21
theorem k0_off48_inb : ∀ (v27 : BitVec 32) (v96 : BitVec 32) (v165 : BitVec 32) (k0_hw3 : k0_chk3 v27 v96 v165) (k0_t21 : Fin (k0_t21_loop v27 v96 v165).trips), ∀ a, (k0_off48 v27 v96 v165 k0_t21) a + S256x1024.size a ≤ S1792x1024.size a := fun v27 v96 v165 k0_hw3 k0_t21 => k0_hw3.1.2.2.2.2.2.2.2.2.2.2.2.2.2.2.2.2.2.2.2.2.2.1 k0_t21
theorem k0_mult48_dvd : ∀ (v27 : BitVec 32) (v96 : BitVec 32) (v165 : BitVec 32) (k0_hw3 : k0_chk3 v27 v96 v165) (k0_t21 : Fin (k0_t21_loop v27 v96 v165).trips), 256 ∣ (k0_mult48 v27 v96 v165 k0_t21).toNat := fun v27 v96 v165 k0_hw3 k0_t21 => k0_hw3.1.2.2.2.2.2.2.2.2.2.2.2.2.2.2.2.2.2.2.2.2.2.2.1 k0_t21
theorem k0_off49_inb : ∀ (v27 : BitVec 32) (v96 : BitVec 32) (v165 : BitVec 32) (k0_hw3 : k0_chk3 v27 v96 v165) (k0_t21 : Fin (k0_t21_loop v27 v96 v165).trips), ∀ a, (k0_off49 v27 v96 v165 k0_t21) a + S1024x256.size a ≤ S3072x2816.size a := fun v27 v96 v165 k0_hw3 k0_t21 => k0_hw3.1.2.2.2.2.2.2.2.2.2.2.2.2.2.2.2.2.2.2.2.2.2.2.2.1 k0_t21
theorem k0_off49_packedbf16 : ∀ (v27 : BitVec 32) (v96 : BitVec 32) (v165 : BitVec 32) (k0_hw3 : k0_chk3 v27 v96 v165) (k0_t21 : Fin (k0_t21_loop v27 v96 v165).trips), (Rect.unit (s := S3072x2816) (k0_off49 v27 v96 v165 k0_t21) S1024x256.size (k0_off49_inb v27 v96 v165 k0_hw3 k0_t21)).PackedRows (EltTy.packing .bf16) := fun v27 v96 v165 k0_hw3 k0_t21 => k0_hw3.1.2.2.2.2.2.2.2.2.2.2.2.2.2.2.2.2.2.2.2.2.2.2.2.2.1 k0_t21 (k0_off49_inb v27 v96 v165 k0_hw3 k0_t21)
theorem k0_t30_ok : ∀ (v27 : BitVec 32) (v96 : BitVec 32) (v165 : BitVec 32) (k0_hw3 : k0_chk3 v27 v96 v165), (k0_t30_loop v165).OK := fun v27 v96 v165 k0_hw3 => k0_hw3.1.2.2.2.2.2.2.2.2.2.2.2.2.2.2.2.2.2.2.2.2.2.2.2.2.2.1
theorem k0_mult61_dvd : ∀ (v27 : BitVec 32) (v96 : BitVec 32) (v165 : BitVec 32) (k0_hw3 : k0_chk3 v27 v96 v165) (k0_t30 : Fin (k0_t30_loop v165).trips), 32 ∣ (k0_mult61 v27 v96 v165 k0_t30).toNat := fun v27 v96 v165 k0_hw3 k0_t30 => k0_hw3.1.2.2.2.2.2.2.2.2.2.2.2.2.2.2.2.2.2.2.2.2.2.2.2.2.2.2.1 k0_t30
theorem k0_off70_inb : ∀ (v27 : BitVec 32) (v96 : BitVec 32) (v165 : BitVec 32) (k0_hw3 : k0_chk3 v27 v96 v165) (k0_t30 : Fin (k0_t30_loop v165).trips), ∀ a, (k0_off70 v27 v96 v165 k0_t30) a + S1x1024.size a ≤ S13x3072.size a := fun v27 v96 v165 k0_hw3 k0_t30 => k0_hw3.1.2.2.2.2.2.2.2.2.2.2.2.2.2.2.2.2.2.2.2.2.2.2.2.2.2.2.2.1 k0_t30
theorem k0_off71_inb : ∀ (v27 : BitVec 32) (v96 : BitVec 32) (v165 : BitVec 32) (k0_hw3 : k0_chk3 v27 v96 v165) (k0_t30 : Fin (k0_t30_loop v165).trips), ∀ a, (k0_off71 v27 v96 v165 k0_t30) a + S160x1024.size a ≤ S1536x3072.size a := fun v27 v96 v165 k0_hw3 k0_t30 => k0_hw3.1.2.2.2.2.2.2.2.2.2.2.2.2.2.2.2.2.2.2.2.2.2.2.2.2.2.2.2.2.1 k0_t30
theorem k0_off72_inb : ∀ (v27 : BitVec 32) (v96 : BitVec 32) (v165 : BitVec 32) (k0_hw3 : k0_chk3 v27 v96 v165) (k0_t30 : Fin (k0_t30_loop v165).trips), ∀ a, (k0_off72 v27 v96 v165 k0_t30) a + S160x1024.size a ≤ S1792x1024.size a := fun v27 v96 v165 k0_hw3 k0_t30 => k0_hw3.1.2.2.2.2.2.2.2.2.2.2.2.2.2.2.2.2.2.2.2.2.2.2.2.2.2.2.2.2.2.1 k0_t30
theorem k0_off72_packedbf16 : ∀ (v27 : BitVec 32) (v96 : BitVec 32) (v165 : BitVec 32) (k0_hw3 : k0_chk3 v27 v96 v165) (k0_t30 : Fin (k0_t30_loop v165).trips), (Rect.unit (s := S1792x1024) (k0_off72 v27 v96 v165 k0_t30) S160x1024.size (k0_off72_inb v27 v96 v165 k0_hw3 k0_t30)).PackedRows (EltTy.packing .bf16) := fun v27 v96 v165 k0_hw3 k0_t30 => k0_hw3.1.2.2.2.2.2.2.2.2.2.2.2.2.2.2.2.2.2.2.2.2.2.2.2.2.2.2.2.2.2.2.1 k0_t30 (k0_off72_inb v27 v96 v165 k0_hw3 k0_t30)
theorem k0_t31_ok : ∀ (v27 : BitVec 32) (v96 : BitVec 32) (v165 : BitVec 32) (k0_hw3 : k0_chk3 v27 v96 v165), (k0_t31_loop v165).OK := fun v27 v96 v165 k0_hw3 => k0_hw3.1.2.2.2.2.2.2.2.2.2.2.2.2.2.2.2.2.2.2.2.2.2.2.2.2.2.2.2.2.2.2.2
theorem k0_mult62_dvd : ∀ (v27 : BitVec 32) (v96 : BitVec 32) (v165 : BitVec 32) (k0_hw3 : k0_chk3 v27 v96 v165) (k0_t31 : Fin (k0_t31_loop v165).trips), 32 ∣ (k0_mult62 v27 v96 v165 k0_t31).toNat := fun v27 v96 v165 k0_hw3 k0_t31 => k0_hw3.2.1.1 k0_t31
theorem k0_off73_inb : ∀ (v27 : BitVec 32) (v96 : BitVec 32) (v165 : BitVec 32) (k0_hw3 : k0_chk3 v27 v96 v165) (k0_t31 : Fin (k0_t31_loop v165).trips), ∀ a, (k0_off73 v27 v96 v165 k0_t31) a + S1x1024.size a ≤ S13x3072.size a := fun v27 v96 v165 k0_hw3 k0_t31 => k0_hw3.2.1.2.1 k0_t31
theorem k0_off74_inb : ∀ (v27 : BitVec 32) (v96 : BitVec 32) (v165 : BitVec 32) (k0_hw3 : k0_chk3 v27 v96 v165) (k0_t31 : Fin (k0_t31_loop v165).trips), ∀ a, (k0_off74 v27 v96 v165 k0_t31) a + S160x1024.size a ≤ S1536x3072.size a := fun v27 v96 v165 k0_hw3 k0_t31 => k0_hw3.2.1.2.2.1 k0_t31
theorem k0_off75_inb : ∀ (v27 : BitVec 32) (v96 : BitVec 32) (v165 : BitVec 32) (k0_hw3 : k0_chk3 v27 v96 v165) (k0_t31 : Fin (k0_t31_loop v165).trips), ∀ a, (k0_off75 v27 v96 v165 k0_t31) a + S160x1024.size a ≤ S1792x1024.size a := fun v27 v96 v165 k0_hw3 k0_t31 => k0_hw3.2.1.2.2.2.1 k0_t31
theorem k0_off75_packedbf16 : ∀ (v27 : BitVec 32) (v96 : BitVec 32) (v165 : BitVec 32) (k0_hw3 : k0_chk3 v27 v96 v165) (k0_t31 : Fin (k0_t31_loop v165).trips), (Rect.unit (s := S1792x1024) (k0_off75 v27 v96 v165 k0_t31) S160x1024.size (k0_off75_inb v27 v96 v165 k0_hw3 k0_t31)).PackedRows (EltTy.packing .bf16) := fun v27 v96 v165 k0_hw3 k0_t31 => k0_hw3.2.1.2.2.2.2.1 k0_t31 (k0_off75_inb v27 v96 v165 k0_hw3 k0_t31)
theorem k0_t40_ok : ∀ (v27 : BitVec 32) (v96 : BitVec 32) (v165 : BitVec 32) (k0_hw3 : k0_chk3 v27 v96 v165), (k0_t40_loop v27 v96 v165).OK := fun v27 v96 v165 k0_hw3 => k0_hw3.2.1.2.2.2.2.2.1
theorem k0_mult75_dvd : ∀ (v27 : BitVec 32) (v96 : BitVec 32) (v165 : BitVec 32) (k0_hw3 : k0_chk3 v27 v96 v165) (k0_t40 : Fin (k0_t40_loop v27 v96 v165).trips), 16 ∣ (k0_mult75 v27 v96 v165 k0_t40).toNat := fun v27 v96 v165 k0_hw3 k0_t40 => k0_hw3.2.1.2.2.2.2.2.2.1 k0_t40
theorem k0_off96_inb : ∀ (v27 : BitVec 32) (v96 : BitVec 32) (v165 : BitVec 32) (k0_hw3 : k0_chk3 v27 v96 v165) (k0_t40 : Fin (k0_t40_loop v27 v96 v165).trips), ∀ a, (k0_off96 v27 v96 v165 k0_t40) a + S256x1024.size a ≤ S1792x1024.size a := fun v27 v96 v165 k0_hw3 k0_t40 => k0_hw3.2.1.2.2.2.2.2.2.2.1 k0_t40
theorem k0_mult76_dvd : ∀ (v27 : BitVec 32) (v96 : BitVec 32) (v165 : BitVec 32) (k0_hw3 : k0_chk3 v27 v96 v165) (k0_t40 : Fin (k0_t40_loop v27 v96 v165).trips), 256 ∣ (k0_mult76 v27 v96 v165 k0_t40).toNat := fun v27 v96 v165 k0_hw3 k0_t40 => k0_hw3.2.1.2.2.2.2.2.2.2.2.1 k0_t40
theorem k0_off97_inb : ∀ (v27 : BitVec 32) (v96 : BitVec 32) (v165 : BitVec 32) (k0_hw3 : k0_chk3 v27 v96 v165) (k0_t40 : Fin (k0_t40_loop v27 v96 v165).trips), ∀ a, (k0_off97 v27 v96 v165 k0_t40) a + S1024x256.size a ≤ S3072x2816.size a := fun v27 v96 v165 k0_hw3 k0_t40 => k0_hw3.2.1.2.2.2.2.2.2.2.2.2.1 k0_t40
theorem k0_off97_packedbf16 : ∀ (v27 : BitVec 32) (v96 : BitVec 32) (v165 : BitVec 32) (k0_hw3 : k0_chk3 v27 v96 v165) (k0_t40 : Fin (k0_t40_loop v27 v96 v165).trips), (Rect.unit (s := S3072x2816) (k0_off97 v27 v96 v165 k0_t40) S1024x256.size (k0_off97_inb v27 v96 v165 k0_hw3 k0_t40)).PackedRows (EltTy.packing .bf16) := fun v27 v96 v165 k0_hw3 k0_t40 => k0_hw3.2.1.2.2.2.2.2.2.2.2.2.2.1 k0_t40 (k0_off97_inb v27 v96 v165 k0_hw3 k0_t40)
theorem k0_t41_ok : ∀ (v27 : BitVec 32) (v96 : BitVec 32) (v165 : BitVec 32) (k0_hw3 : k0_chk3 v27 v96 v165), (k0_t41_loop v27 v96 v165).OK := fun v27 v96 v165 k0_hw3 => k0_hw3.2.1.2.2.2.2.2.2.2.2.2.2.2.1
theorem k0_mult77_dvd : ∀ (v27 : BitVec 32) (v96 : BitVec 32) (v165 : BitVec 32) (k0_hw3 : k0_chk3 v27 v96 v165) (k0_t41 : Fin (k0_t41_loop v27 v96 v165).trips), 16 ∣ (k0_mult77 v27 v96 v165 k0_t41).toNat := fun v27 v96 v165 k0_hw3 k0_t41 => k0_hw3.2.1.2.2.2.2.2.2.2.2.2.2.2.2.1 k0_t41
theorem k0_off98_inb : ∀ (v27 : BitVec 32) (v96 : BitVec 32) (v165 : BitVec 32) (k0_hw3 : k0_chk3 v27 v96 v165) (k0_t41 : Fin (k0_t41_loop v27 v96 v165).trips), ∀ a, (k0_off98 v27 v96 v165 k0_t41) a + S256x1024.size a ≤ S1792x1024.size a := fun v27 v96 v165 k0_hw3 k0_t41 => k0_hw3.2.1.2.2.2.2.2.2.2.2.2.2.2.2.2.1 k0_t41
theorem k0_mult78_dvd : ∀ (v27 : BitVec 32) (v96 : BitVec 32) (v165 : BitVec 32) (k0_hw3 : k0_chk3 v27 v96 v165) (k0_t41 : Fin (k0_t41_loop v27 v96 v165).trips), 256 ∣ (k0_mult78 v27 v96 v165 k0_t41).toNat := fun v27 v96 v165 k0_hw3 k0_t41 => k0_hw3.2.1.2.2.2.2.2.2.2.2.2.2.2.2.2.2.1 k0_t41
theorem k0_off99_inb : ∀ (v27 : BitVec 32) (v96 : BitVec 32) (v165 : BitVec 32) (k0_hw3 : k0_chk3 v27 v96 v165) (k0_t41 : Fin (k0_t41_loop v27 v96 v165).trips), ∀ a, (k0_off99 v27 v96 v165 k0_t41) a + S1024x256.size a ≤ S3072x2816.size a := fun v27 v96 v165 k0_hw3 k0_t41 => k0_hw3.2.1.2.2.2.2.2.2.2.2.2.2.2.2.2.2.2.1 k0_t41
theorem k0_off99_packedbf16 : ∀ (v27 : BitVec 32) (v96 : BitVec 32) (v165 : BitVec 32) (k0_hw3 : k0_chk3 v27 v96 v165) (k0_t41 : Fin (k0_t41_loop v27 v96 v165).trips), (Rect.unit (s := S3072x2816) (k0_off99 v27 v96 v165 k0_t41) S1024x256.size (k0_off99_inb v27 v96 v165 k0_hw3 k0_t41)).PackedRows (EltTy.packing .bf16) := fun v27 v96 v165 k0_hw3 k0_t41 => k0_hw3.2.1.2.2.2.2.2.2.2.2.2.2.2.2.2.2.2.2.1 k0_t41 (k0_off99_inb v27 v96 v165 k0_hw3 k0_t41)
theorem k0_t50_ok : ∀ (v27 : BitVec 32) (v96 : BitVec 32) (v165 : BitVec 32) (k0_hw3 : k0_chk3 v27 v96 v165), (k0_t50_loop v165).OK := fun v27 v96 v165 k0_hw3 => k0_hw3.2.1.2.2.2.2.2.2.2.2.2.2.2.2.2.2.2.2.2.1
theorem k0_mult91_dvd : ∀ (v27 : BitVec 32) (v96 : BitVec 32) (v165 : BitVec 32) (k0_hw3 : k0_chk3 v27 v96 v165) (k0_t50 : Fin (k0_t50_loop v165).trips), 32 ∣ (k0_mult91 v27 v96 v165 k0_t50).toNat := fun v27 v96 v165 k0_hw3 k0_t50 => k0_hw3.2.1.2.2.2.2.2.2.2.2.2.2.2.2.2.2.2.2.2.2.1 k0_t50
theorem k0_off120_inb : ∀ (v27 : BitVec 32) (v96 : BitVec 32) (v165 : BitVec 32) (k0_hw3 : k0_chk3 v27 v96 v165) (k0_t50 : Fin (k0_t50_loop v165).trips), ∀ a, (k0_off120 v27 v96 v165 k0_t50) a + S1x1024.size a ≤ S13x3072.size a := fun v27 v96 v165 k0_hw3 k0_t50 => k0_hw3.2.1.2.2.2.2.2.2.2.2.2.2.2.2.2.2.2.2.2.2.2.1 k0_t50
theorem k0_off121_inb : ∀ (v27 : BitVec 32) (v96 : BitVec 32) (v165 : BitVec 32) (k0_hw3 : k0_chk3 v27 v96 v165) (k0_t50 : Fin (k0_t50_loop v165).trips), ∀ a, (k0_off121 v27 v96 v165 k0_t50) a + S160x1024.size a ≤ S1536x3072.size a := fun v27 v96 v165 k0_hw3 k0_t50 => k0_hw3.2.1.2.2.2.2.2.2.2.2.2.2.2.2.2.2.2.2.2.2.2.2.1 k0_t50
theorem k0_off122_inb : ∀ (v27 : BitVec 32) (v96 : BitVec 32) (v165 : BitVec 32) (k0_hw3 : k0_chk3 v27 v96 v165) (k0_t50 : Fin (k0_t50_loop v165).trips), ∀ a, (k0_off122 v27 v96 v165 k0_t50) a + S160x1024.size a ≤ S1792x1024.size a := fun v27 v96 v165 k0_hw3 k0_t50 => k0_hw3.2.1.2.2.2.2.2.2.2.2.2.2.2.2.2.2.2.2.2.2.2.2.2.1 k0_t50
theorem k0_off122_packedbf16 : ∀ (v27 : BitVec 32) (v96 : BitVec 32) (v165 : BitVec 32) (k0_hw3 : k0_chk3 v27 v96 v165) (k0_t50 : Fin (k0_t50_loop v165).trips), (Rect.unit (s := S1792x1024) (k0_off122 v27 v96 v165 k0_t50) S160x1024.size (k0_off122_inb v27 v96 v165 k0_hw3 k0_t50)).PackedRows (EltTy.packing .bf16) := fun v27 v96 v165 k0_hw3 k0_t50 => k0_hw3.2.1.2.2.2.2.2.2.2.2.2.2.2.2.2.2.2.2.2.2.2.2.2.2.1 k0_t50 (k0_off122_inb v27 v96 v165 k0_hw3 k0_t50)
theorem k0_t51_ok : ∀ (v27 : BitVec 32) (v96 : BitVec 32) (v165 : BitVec 32) (k0_hw3 : k0_chk3 v27 v96 v165), (k0_t51_loop v165).OK := fun v27 v96 v165 k0_hw3 => k0_hw3.2.1.2.2.2.2.2.2.2.2.2.2.2.2.2.2.2.2.2.2.2.2.2.2.2.1
theorem k0_mult92_dvd : ∀ (v27 : BitVec 32) (v96 : BitVec 32) (v165 : BitVec 32) (k0_hw3 : k0_chk3 v27 v96 v165) (k0_t51 : Fin (k0_t51_loop v165).trips), 32 ∣ (k0_mult92 v27 v96 v165 k0_t51).toNat := fun v27 v96 v165 k0_hw3 k0_t51 => k0_hw3.2.1.2.2.2.2.2.2.2.2.2.2.2.2.2.2.2.2.2.2.2.2.2.2.2.2.1 k0_t51
theorem k0_off123_inb : ∀ (v27 : BitVec 32) (v96 : BitVec 32) (v165 : BitVec 32) (k0_hw3 : k0_chk3 v27 v96 v165) (k0_t51 : Fin (k0_t51_loop v165).trips), ∀ a, (k0_off123 v27 v96 v165 k0_t51) a + S1x1024.size a ≤ S13x3072.size a := fun v27 v96 v165 k0_hw3 k0_t51 => k0_hw3.2.1.2.2.2.2.2.2.2.2.2.2.2.2.2.2.2.2.2.2.2.2.2.2.2.2.2.1 k0_t51
theorem k0_off124_inb : ∀ (v27 : BitVec 32) (v96 : BitVec 32) (v165 : BitVec 32) (k0_hw3 : k0_chk3 v27 v96 v165) (k0_t51 : Fin (k0_t51_loop v165).trips), ∀ a, (k0_off124 v27 v96 v165 k0_t51) a + S160x1024.size a ≤ S1536x3072.size a := fun v27 v96 v165 k0_hw3 k0_t51 => k0_hw3.2.1.2.2.2.2.2.2.2.2.2.2.2.2.2.2.2.2.2.2.2.2.2.2.2.2.2.2.1 k0_t51
theorem k0_off125_inb : ∀ (v27 : BitVec 32) (v96 : BitVec 32) (v165 : BitVec 32) (k0_hw3 : k0_chk3 v27 v96 v165) (k0_t51 : Fin (k0_t51_loop v165).trips), ∀ a, (k0_off125 v27 v96 v165 k0_t51) a + S160x1024.size a ≤ S1792x1024.size a := fun v27 v96 v165 k0_hw3 k0_t51 => k0_hw3.2.1.2.2.2.2.2.2.2.2.2.2.2.2.2.2.2.2.2.2.2.2.2.2.2.2.2.2.2.1 k0_t51
theorem k0_off125_packedbf16 : ∀ (v27 : BitVec 32) (v96 : BitVec 32) (v165 : BitVec 32) (k0_hw3 : k0_chk3 v27 v96 v165) (k0_t51 : Fin (k0_t51_loop v165).trips), (Rect.unit (s := S1792x1024) (k0_off125 v27 v96 v165 k0_t51) S160x1024.size (k0_off125_inb v27 v96 v165 k0_hw3 k0_t51)).PackedRows (EltTy.packing .bf16) := fun v27 v96 v165 k0_hw3 k0_t51 => k0_hw3.2.1.2.2.2.2.2.2.2.2.2.2.2.2.2.2.2.2.2.2.2.2.2.2.2.2.2.2.2.2.1 k0_t51 (k0_off125_inb v27 v96 v165 k0_hw3 k0_t51)
theorem k0_t60_ok : ∀ (v27 : BitVec 32) (v96 : BitVec 32) (v165 : BitVec 32) (k0_hw3 : k0_chk3 v27 v96 v165), (k0_t60_loop v27 v96 v165).OK := fun v27 v96 v165 k0_hw3 => k0_hw3.2.1.2.2.2.2.2.2.2.2.2.2.2.2.2.2.2.2.2.2.2.2.2.2.2.2.2.2.2.2.2.1
theorem k0_mult105_dvd : ∀ (v27 : BitVec 32) (v96 : BitVec 32) (v165 : BitVec 32) (k0_hw3 : k0_chk3 v27 v96 v165) (k0_t60 : Fin (k0_t60_loop v27 v96 v165).trips), 16 ∣ (k0_mult105 v27 v96 v165 k0_t60).toNat := fun v27 v96 v165 k0_hw3 k0_t60 => k0_hw3.2.1.2.2.2.2.2.2.2.2.2.2.2.2.2.2.2.2.2.2.2.2.2.2.2.2.2.2.2.2.2.2.1 k0_t60
theorem k0_off146_inb : ∀ (v27 : BitVec 32) (v96 : BitVec 32) (v165 : BitVec 32) (k0_hw3 : k0_chk3 v27 v96 v165) (k0_t60 : Fin (k0_t60_loop v27 v96 v165).trips), ∀ a, (k0_off146 v27 v96 v165 k0_t60) a + S256x1024.size a ≤ S1792x1024.size a := fun v27 v96 v165 k0_hw3 k0_t60 => k0_hw3.2.1.2.2.2.2.2.2.2.2.2.2.2.2.2.2.2.2.2.2.2.2.2.2.2.2.2.2.2.2.2.2.2 k0_t60
theorem k0_mult106_dvd : ∀ (v27 : BitVec 32) (v96 : BitVec 32) (v165 : BitVec 32) (k0_hw3 : k0_chk3 v27 v96 v165) (k0_t60 : Fin (k0_t60_loop v27 v96 v165).trips), 256 ∣ (k0_mult106 v27 v96 v165 k0_t60).toNat := fun v27 v96 v165 k0_hw3 k0_t60 => k0_hw3.2.2.1 k0_t60
theorem k0_off147_inb : ∀ (v27 : BitVec 32) (v96 : BitVec 32) (v165 : BitVec 32) (k0_hw3 : k0_chk3 v27 v96 v165) (k0_t60 : Fin (k0_t60_loop v27 v96 v165).trips), ∀ a, (k0_off147 v27 v96 v165 k0_t60) a + S1024x256.size a ≤ S3072x2816.size a := fun v27 v96 v165 k0_hw3 k0_t60 => k0_hw3.2.2.2.1 k0_t60
theorem k0_off147_packedbf16 : ∀ (v27 : BitVec 32) (v96 : BitVec 32) (v165 : BitVec 32) (k0_hw3 : k0_chk3 v27 v96 v165) (k0_t60 : Fin (k0_t60_loop v27 v96 v165).trips), (Rect.unit (s := S3072x2816) (k0_off147 v27 v96 v165 k0_t60) S1024x256.size (k0_off147_inb v27 v96 v165 k0_hw3 k0_t60)).PackedRows (EltTy.packing .bf16) := fun v27 v96 v165 k0_hw3 k0_t60 => k0_hw3.2.2.2.2.1 k0_t60 (k0_off147_inb v27 v96 v165 k0_hw3 k0_t60)
theorem k0_t61_ok : ∀ (v27 : BitVec 32) (v96 : BitVec 32) (v165 : BitVec 32) (k0_hw3 : k0_chk3 v27 v96 v165), (k0_t61_loop v27 v96 v165).OK := fun v27 v96 v165 k0_hw3 => k0_hw3.2.2.2.2.2.1
theorem k0_mult107_dvd : ∀ (v27 : BitVec 32) (v96 : BitVec 32) (v165 : BitVec 32) (k0_hw3 : k0_chk3 v27 v96 v165) (k0_t61 : Fin (k0_t61_loop v27 v96 v165).trips), 16 ∣ (k0_mult107 v27 v96 v165 k0_t61).toNat := fun v27 v96 v165 k0_hw3 k0_t61 => k0_hw3.2.2.2.2.2.2.1 k0_t61
theorem k0_off148_inb : ∀ (v27 : BitVec 32) (v96 : BitVec 32) (v165 : BitVec 32) (k0_hw3 : k0_chk3 v27 v96 v165) (k0_t61 : Fin (k0_t61_loop v27 v96 v165).trips), ∀ a, (k0_off148 v27 v96 v165 k0_t61) a + S256x1024.size a ≤ S1792x1024.size a := fun v27 v96 v165 k0_hw3 k0_t61 => k0_hw3.2.2.2.2.2.2.2.1 k0_t61
theorem k0_mult108_dvd : ∀ (v27 : BitVec 32) (v96 : BitVec 32) (v165 : BitVec 32) (k0_hw3 : k0_chk3 v27 v96 v165) (k0_t61 : Fin (k0_t61_loop v27 v96 v165).trips), 256 ∣ (k0_mult108 v27 v96 v165 k0_t61).toNat := fun v27 v96 v165 k0_hw3 k0_t61 => k0_hw3.2.2.2.2.2.2.2.2.1 k0_t61
theorem k0_off149_inb : ∀ (v27 : BitVec 32) (v96 : BitVec 32) (v165 : BitVec 32) (k0_hw3 : k0_chk3 v27 v96 v165) (k0_t61 : Fin (k0_t61_loop v27 v96 v165).trips), ∀ a, (k0_off149 v27 v96 v165 k0_t61) a + S1024x256.size a ≤ S3072x2816.size a := fun v27 v96 v165 k0_hw3 k0_t61 => k0_hw3.2.2.2.2.2.2.2.2.2.1 k0_t61
theorem k0_off149_packedbf16 : ∀ (v27 : BitVec 32) (v96 : BitVec 32) (v165 : BitVec 32) (k0_hw3 : k0_chk3 v27 v96 v165) (k0_t61 : Fin (k0_t61_loop v27 v96 v165).trips), (Rect.unit (s := S3072x2816) (k0_off149 v27 v96 v165 k0_t61) S1024x256.size (k0_off149_inb v27 v96 v165 k0_hw3 k0_t61)).PackedRows (EltTy.packing .bf16) := fun v27 v96 v165 k0_hw3 k0_t61 => k0_hw3.2.2.2.2.2.2.2.2.2.2.1 k0_t61 (k0_off149_inb v27 v96 v165 k0_hw3 k0_t61)
theorem k0_t71_ok : ∀ (v27 : BitVec 32) (v96 : BitVec 32) (v165 : BitVec 32) (k0_hw3 : k0_chk3 v27 v96 v165), (k0_t71_loop v165).OK := fun v27 v96 v165 k0_hw3 => k0_hw3.2.2.2.2.2.2.2.2.2.2.2.1
theorem k0_mult124_dvd : ∀ (v27 : BitVec 32) (v96 : BitVec 32) (v165 : BitVec 32) (k0_hw3 : k0_chk3 v27 v96 v165) (k0_t71 : Fin (k0_t71_loop v165).trips), 32 ∣ (k0_mult124 v27 v96 v165 k0_t71).toNat := fun v27 v96 v165 k0_hw3 k0_t71 => k0_hw3.2.2.2.2.2.2.2.2.2.2.2.2.1 k0_t71
theorem k0_off176_inb : ∀ (v27 : BitVec 32) (v96 : BitVec 32) (v165 : BitVec 32) (k0_hw3 : k0_chk3 v27 v96 v165) (k0_t66 : Fin k0_t66_loop.trips) (k0_t71 : Fin (k0_t71_loop v165).trips), ∀ a, (k0_off176 v27 v96 v165 k0_t66 k0_t71) a + S1x1024.size a ≤ S13x8192.size a := fun v27 v96 v165 k0_hw3 k0_t66 k0_t71 => k0_hw3.2.2.2.2.2.2.2.2.2.2.2.2.2.1 k0_t66 k0_t71
theorem k0_off177_inb : ∀ (v27 : BitVec 32) (v96 : BitVec 32) (v165 : BitVec 32) (k0_hw3 : k0_chk3 v27 v96 v165) (k0_t66 : Fin k0_t66_loop.trips) (k0_t71 : Fin (k0_t71_loop v165).trips), ∀ a, (k0_off177 v27 v96 v165 k0_t66 k0_t71) a + S1x160x1024.size a ≤ S2x1536x1024.size a := fun v27 v96 v165 k0_hw3 k0_t66 k0_t71 => k0_hw3.2.2.2.2.2.2.2.2.2.2.2.2.2.2.1 k0_t66 k0_t71
theorem k0_off178_inb : ∀ (v27 : BitVec 32) (v96 : BitVec 32) (v165 : BitVec 32) (k0_hw3 : k0_chk3 v27 v96 v165) (k0_t71 : Fin (k0_t71_loop v165).trips), ∀ a, (k0_off178 v27 v96 v165 k0_t71) a + S160x1024.size a ≤ S1792x1024.size a := fun v27 v96 v165 k0_hw3 k0_t71 => k0_hw3.2.2.2.2.2.2.2.2.2.2.2.2.2.2.2.1 k0_t71
theorem k0_off178_packedbf16 : ∀ (v27 : BitVec 32) (v96 : BitVec 32) (v165 : BitVec 32) (k0_hw3 : k0_chk3 v27 v96 v165) (k0_t71 : Fin (k0_t71_loop v165).trips), (Rect.unit (s := S1792x1024) (k0_off178 v27 v96 v165 k0_t71) S160x1024.size (k0_off178_inb v27 v96 v165 k0_hw3 k0_t71)).PackedRows (EltTy.packing .bf16) := fun v27 v96 v165 k0_hw3 k0_t71 => k0_hw3.2.2.2.2.2.2.2.2.2.2.2.2.2.2.2.2.1 k0_t71 (k0_off178_inb v27 v96 v165 k0_hw3 k0_t71)
theorem k0_t72_ok : ∀ (v27 : BitVec 32) (v96 : BitVec 32) (v165 : BitVec 32) (k0_hw3 : k0_chk3 v27 v96 v165), (k0_t72_loop v165).OK := fun v27 v96 v165 k0_hw3 => k0_hw3.2.2.2.2.2.2.2.2.2.2.2.2.2.2.2.2.2.1
theorem k0_mult125_dvd : ∀ (v27 : BitVec 32) (v96 : BitVec 32) (v165 : BitVec 32) (k0_hw3 : k0_chk3 v27 v96 v165) (k0_t72 : Fin (k0_t72_loop v165).trips), 32 ∣ (k0_mult125 v27 v96 v165 k0_t72).toNat := fun v27 v96 v165 k0_hw3 k0_t72 => k0_hw3.2.2.2.2.2.2.2.2.2.2.2.2.2.2.2.2.2.2.1 k0_t72
theorem k0_off179_inb : ∀ (v27 : BitVec 32) (v96 : BitVec 32) (v165 : BitVec 32) (k0_hw3 : k0_chk3 v27 v96 v165) (k0_t66 : Fin k0_t66_loop.trips) (k0_t72 : Fin (k0_t72_loop v165).trips), ∀ a, (k0_off179 v27 v96 v165 k0_t66 k0_t72) a + S1x1024.size a ≤ S13x8192.size a := fun v27 v96 v165 k0_hw3 k0_t66 k0_t72 => k0_hw3.2.2.2.2.2.2.2.2.2.2.2.2.2.2.2.2.2.2.2.1 k0_t66 k0_t72
theorem k0_off180_inb : ∀ (v27 : BitVec 32) (v96 : BitVec 32) (v165 : BitVec 32) (k0_hw3 : k0_chk3 v27 v96 v165) (k0_t66 : Fin k0_t66_loop.trips) (k0_t72 : Fin (k0_t72_loop v165).trips), ∀ a, (k0_off180 v27 v96 v165 k0_t66 k0_t72) a + S1x160x1024.size a ≤ S2x1536x1024.size a := fun v27 v96 v165 k0_hw3 k0_t66 k0_t72 => k0_hw3.2.2.2.2.2.2.2.2.2.2.2.2.2.2.2.2.2.2.2.2.1 k0_t66 k0_t72
theorem k0_off181_inb : ∀ (v27 : BitVec 32) (v96 : BitVec 32) (v165 : BitVec 32) (k0_hw3 : k0_chk3 v27 v96 v165) (k0_t72 : Fin (k0_t72_loop v165).trips), ∀ a, (k0_off181 v27 v96 v165 k0_t72) a + S160x1024.size a ≤ S1792x1024.size a := fun v27 v96 v165 k0_hw3 k0_t72 => k0_hw3.2.2.2.2.2.2.2.2.2.2.2.2.2.2.2.2.2.2.2.2.2.1 k0_t72
theorem k0_off181_packedbf16 : ∀ (v27 : BitVec 32) (v96 : BitVec 32) (v165 : BitVec 32) (k0_hw3 : k0_chk3 v27 v96 v165) (k0_t72 : Fin (k0_t72_loop v165).trips), (Rect.unit (s := S1792x1024) (k0_off181 v27 v96 v165 k0_t72) S160x1024.size (k0_off181_inb v27 v96 v165 k0_hw3 k0_t72)).PackedRows (EltTy.packing .bf16) := fun v27 v96 v165 k0_hw3 k0_t72 => k0_hw3.2.2.2.2.2.2.2.2.2.2.2.2.2.2.2.2.2.2.2.2.2.2 k0_t72 (k0_off181_inb v27 v96 v165 k0_hw3 k0_t72)

@[reducible] def k0_t73_loop (v234 : BitVec 32) : Scf.Loop 32 :=
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let c1_i32_602 : BitVec 32 := 1#32
  ⟨c0_i32_600, v743, c1_i32_602⟩
def k0_mult126 (v27 : BitVec 32) (v96 : BitVec 32) (v165 : BitVec 32) (v234 : BitVec 32) (k0_t73 : Fin (k0_t73_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c1_i32_602 : BitVec 32 := 1#32
  let arg22 : BitVec 32 := Scf.iv c0_i32_600 c1_i32_602 k0_t73
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off182 (v27 : BitVec 32) (v96 : BitVec 32) (v165 : BitVec 32) (v234 : BitVec 32) (k0_t66 : Fin k0_t66_loop.trips) (k0_t73 : Fin (k0_t73_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_599 : BitVec 32 := 0#32
  let c0_i32_600 : BitVec 32 := 0#32
  let c1_i32_602 : BitVec 32 := 1#32
  let arg22 : BitVec 32 := Scf.iv c0_i32_600 c1_i32_602 k0_t73
  let c1_i32_598 : BitVec 32 := 1#32
  let v755 : BitVec 32 := Scalar.muli arg22 c1_i32_598
  let v756 : BitVec 32 := Scalar.addi c0_i32_599 v755
  let v781 : BitVec 32 := Scalar.addi v228 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off183 (v27 : BitVec 32) (v96 : BitVec 32) (v165 : BitVec 32) (v234 : BitVec 32) (k0_t66 : Fin k0_t66_loop.trips) (k0_t73 : Fin (k0_t73_loop v234).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c1_i32_602 : BitVec 32 := 1#32
  let arg22 : BitVec 32 := Scf.iv c0_i32_600 c1_i32_602 k0_t73
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off184 (v27 : BitVec 32) (v96 : BitVec 32) (v165 : BitVec 32) (v234 : BitVec 32) (k0_t73 : Fin (k0_t73_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c1_i32_602 : BitVec 32 := 1#32
  let arg22 : BitVec 32 := Scf.iv c0_i32_600 c1_i32_602 k0_t73
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]
@[reducible] def k0_t74_loop (v234 : BitVec 32) : Scf.Loop 32 :=
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let v740 : BitVec 32 := Scalar.addi c0_i32_600 v739
  let c1_i32_603 : BitVec 32 := 1#32
  ⟨v743, v740, c1_i32_603⟩
def k0_mult127 (v27 : BitVec 32) (v96 : BitVec 32) (v165 : BitVec 32) (v234 : BitVec 32) (k0_t74 : Fin (k0_t74_loop v234).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let c1_i32_603 : BitVec 32 := 1#32
  let arg22 : BitVec 32 := Scf.iv v743 c1_i32_603 k0_t74
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off185 (v27 : BitVec 32) (v96 : BitVec 32) (v165 : BitVec 32) (v234 : BitVec 32) (k0_t66 : Fin k0_t66_loop.trips) (k0_t74 : Fin (k0_t74_loop v234).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c0_i32_599 : BitVec 32 := 0#32
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let c1_i32_603 : BitVec 32 := 1#32
  let arg22 : BitVec 32 := Scf.iv v743 c1_i32_603 k0_t74
  let c1_i32_598 : BitVec 32 := 1#32
  let v755 : BitVec 32 := Scalar.muli arg22 c1_i32_598
  let v756 : BitVec 32 := Scalar.addi c0_i32_599 v755
  let v781 : BitVec 32 := Scalar.addi v228 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off186 (v27 : BitVec 32) (v96 : BitVec 32) (v165 : BitVec 32) (v234 : BitVec 32) (k0_t66 : Fin k0_t66_loop.trips) (k0_t74 : Fin (k0_t74_loop v234).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let c1_i32_603 : BitVec 32 := 1#32
  let arg22 : BitVec 32 := Scf.iv v743 c1_i32_603 k0_t74
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off187 (v27 : BitVec 32) (v96 : BitVec 32) (v165 : BitVec 32) (v234 : BitVec 32) (k0_t74 : Fin (k0_t74_loop v234).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let c0_i32_599 : BitVec 32 := 0#32
  let c0_i32_600 : BitVec 32 := 0#32
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let c0_i32_594 : BitVec 32 := 0#32
  let v735 : BitVec 32 := Scalar.subi v272 c0_i32_594
  let c1_i32_595 : BitVec 32 := 1#32
  let c1_i32_596 : BitVec 32 := 1#32
  let v736 : BitVec 32 := Scalar.subi c1_i32_595 c1_i32_596
  let v737 : BitVec 32 := Scalar.addi v735 v736
  let c1_i32_597 : BitVec 32 := 1#32
  let v738 : BitVec 32 := Scalar.divsi v737 c1_i32_597
  let v739 : BitVec 32 := Scalar.subi v738 c0_i32_600
  let c1_i32_601 : BitVec 32 := 1#32
  let v741 : BitVec 32 := Scalar.divsi v739 c1_i32_601
  let v742 : BitVec 32 := Scalar.muli v741 c1_i32_601
  let v743 : BitVec 32 := Scalar.addi c0_i32_600 v742
  let c1_i32_603 : BitVec 32 := 1#32
  let arg22 : BitVec 32 := Scf.iv v743 c1_i32_603 k0_t74
  let c1_i32_598 : BitVec 32 := 1#32
  let v755 : BitVec 32 := Scalar.muli arg22 c1_i32_598
  let v756 : BitVec 32 := Scalar.addi c0_i32_599 v755
  let c128_i32_617 : BitVec 32 := 128#32
  let v757 : BitVec 32 := Scalar.muli v756 c128_i32_617
  let v758 : BitVec 32 := Scalar.addi v166 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]

def k0_chk4_0 (v27 : BitVec 32) (v96 : BitVec 32) (v165 : BitVec 32) (v234 : BitVec 32) : Prop :=
  (16 ∣ (k0_mult22 v27 v96 v165 v234).toNat) ∧
  ((k0_t12_loop v234).OK) ∧
  (∀ k0_t12 : Fin (k0_t12_loop v234).trips, 32 ∣ (k0_mult33 v27 v96 v165 v234 k0_t12).toNat) ∧
  (∀ k0_t12 : Fin (k0_t12_loop v234).trips, ∀ a, (k0_off26 v27 v96 v165 v234 k0_t12) a + S1x1024.size a ≤ S13x3072.size a) ∧
  (∀ k0_t12 : Fin (k0_t12_loop v234).trips, ∀ a, (k0_off27 v27 v96 v165 v234 k0_t12) a + S160x1024.size a ≤ S1536x3072.size a) ∧
  (∀ k0_t12 : Fin (k0_t12_loop v234).trips, ∀ a, (k0_off28 v27 v96 v165 v234 k0_t12) a + S160x1024.size a ≤ S1792x1024.size a) ∧
  (∀ k0_t12 : Fin (k0_t12_loop v234).trips, ∀ (hinb : ∀ a, (k0_off28 v27 v96 v165 v234 k0_t12) a + S160x1024.size a ≤ S1792x1024.size a), (Rect.unit (s := S1792x1024) (k0_off28 v27 v96 v165 v234 k0_t12) S160x1024.size hinb).PackedRows (EltTy.packing .bf16)) ∧
  ((k0_t13_loop v234).OK) ∧
  (∀ k0_t13 : Fin (k0_t13_loop v234).trips, 32 ∣ (k0_mult34 v27 v96 v165 v234 k0_t13).toNat) ∧
  (∀ k0_t13 : Fin (k0_t13_loop v234).trips, ∀ a, (k0_off29 v27 v96 v165 v234 k0_t13) a + S1x1024.size a ≤ S13x3072.size a) ∧
  (∀ k0_t13 : Fin (k0_t13_loop v234).trips, ∀ a, (k0_off30 v27 v96 v165 v234 k0_t13) a + S160x1024.size a ≤ S1536x3072.size a) ∧
  (∀ k0_t13 : Fin (k0_t13_loop v234).trips, ∀ a, (k0_off31 v27 v96 v165 v234 k0_t13) a + S160x1024.size a ≤ S1792x1024.size a) ∧
  (∀ k0_t13 : Fin (k0_t13_loop v234).trips, ∀ (hinb : ∀ a, (k0_off31 v27 v96 v165 v234 k0_t13) a + S160x1024.size a ≤ S1792x1024.size a), (Rect.unit (s := S1792x1024) (k0_off31 v27 v96 v165 v234 k0_t13) S160x1024.size hinb).PackedRows (EltTy.packing .bf16)) ∧
  ((k0_t22_loop v27 v96 v165 v234).OK) ∧
  (∀ k0_t22 : Fin (k0_t22_loop v27 v96 v165 v234).trips, 16 ∣ (k0_mult49 v27 v96 v165 v234 k0_t22).toNat) ∧
  (∀ k0_t22 : Fin (k0_t22_loop v27 v96 v165 v234).trips, ∀ a, (k0_off50 v27 v96 v165 v234 k0_t22) a + S256x1024.size a ≤ S1792x1024.size a) ∧
  (∀ k0_t22 : Fin (k0_t22_loop v27 v96 v165 v234).trips, 256 ∣ (k0_mult50 v27 v96 v165 v234 k0_t22).toNat) ∧
  (∀ k0_t22 : Fin (k0_t22_loop v27 v96 v165 v234).trips, ∀ a, (k0_off51 v27 v96 v165 v234 k0_t22) a + S1024x256.size a ≤ S3072x2816.size a) ∧
  (∀ k0_t22 : Fin (k0_t22_loop v27 v96 v165 v234).trips, ∀ (hinb : ∀ a, (k0_off51 v27 v96 v165 v234 k0_t22) a + S1024x256.size a ≤ S3072x2816.size a), (Rect.unit (s := S3072x2816) (k0_off51 v27 v96 v165 v234 k0_t22) S1024x256.size hinb).PackedRows (EltTy.packing .bf16)) ∧
  ((k0_t23_loop v27 v96 v165 v234).OK) ∧
  (∀ k0_t23 : Fin (k0_t23_loop v27 v96 v165 v234).trips, 16 ∣ (k0_mult51 v27 v96 v165 v234 k0_t23).toNat) ∧
  (∀ k0_t23 : Fin (k0_t23_loop v27 v96 v165 v234).trips, ∀ a, (k0_off52 v27 v96 v165 v234 k0_t23) a + S256x1024.size a ≤ S1792x1024.size a) ∧
  (∀ k0_t23 : Fin (k0_t23_loop v27 v96 v165 v234).trips, 256 ∣ (k0_mult52 v27 v96 v165 v234 k0_t23).toNat) ∧
  (∀ k0_t23 : Fin (k0_t23_loop v27 v96 v165 v234).trips, ∀ a, (k0_off53 v27 v96 v165 v234 k0_t23) a + S1024x256.size a ≤ S3072x2816.size a) ∧
  (∀ k0_t23 : Fin (k0_t23_loop v27 v96 v165 v234).trips, ∀ (hinb : ∀ a, (k0_off53 v27 v96 v165 v234 k0_t23) a + S1024x256.size a ≤ S3072x2816.size a), (Rect.unit (s := S3072x2816) (k0_off53 v27 v96 v165 v234 k0_t23) S1024x256.size hinb).PackedRows (EltTy.packing .bf16)) ∧
  ((k0_t32_loop v234).OK) ∧
  (∀ k0_t32 : Fin (k0_t32_loop v234).trips, 32 ∣ (k0_mult63 v27 v96 v165 v234 k0_t32).toNat) ∧
  (∀ k0_t32 : Fin (k0_t32_loop v234).trips, ∀ a, (k0_off76 v27 v96 v165 v234 k0_t32) a + S1x1024.size a ≤ S13x3072.size a) ∧
  (∀ k0_t32 : Fin (k0_t32_loop v234).trips, ∀ a, (k0_off77 v27 v96 v165 v234 k0_t32) a + S160x1024.size a ≤ S1536x3072.size a) ∧
  (∀ k0_t32 : Fin (k0_t32_loop v234).trips, ∀ a, (k0_off78 v27 v96 v165 v234 k0_t32) a + S160x1024.size a ≤ S1792x1024.size a) ∧
  (∀ k0_t32 : Fin (k0_t32_loop v234).trips, ∀ (hinb : ∀ a, (k0_off78 v27 v96 v165 v234 k0_t32) a + S160x1024.size a ≤ S1792x1024.size a), (Rect.unit (s := S1792x1024) (k0_off78 v27 v96 v165 v234 k0_t32) S160x1024.size hinb).PackedRows (EltTy.packing .bf16)) ∧
  ((k0_t33_loop v234).OK)
def k0_chk4_1 (v27 : BitVec 32) (v96 : BitVec 32) (v165 : BitVec 32) (v234 : BitVec 32) : Prop :=
  (∀ k0_t33 : Fin (k0_t33_loop v234).trips, 32 ∣ (k0_mult64 v27 v96 v165 v234 k0_t33).toNat) ∧
  (∀ k0_t33 : Fin (k0_t33_loop v234).trips, ∀ a, (k0_off79 v27 v96 v165 v234 k0_t33) a + S1x1024.size a ≤ S13x3072.size a) ∧
  (∀ k0_t33 : Fin (k0_t33_loop v234).trips, ∀ a, (k0_off80 v27 v96 v165 v234 k0_t33) a + S160x1024.size a ≤ S1536x3072.size a) ∧
  (∀ k0_t33 : Fin (k0_t33_loop v234).trips, ∀ a, (k0_off81 v27 v96 v165 v234 k0_t33) a + S160x1024.size a ≤ S1792x1024.size a) ∧
  (∀ k0_t33 : Fin (k0_t33_loop v234).trips, ∀ (hinb : ∀ a, (k0_off81 v27 v96 v165 v234 k0_t33) a + S160x1024.size a ≤ S1792x1024.size a), (Rect.unit (s := S1792x1024) (k0_off81 v27 v96 v165 v234 k0_t33) S160x1024.size hinb).PackedRows (EltTy.packing .bf16)) ∧
  ((k0_t42_loop v27 v96 v165 v234).OK) ∧
  (∀ k0_t42 : Fin (k0_t42_loop v27 v96 v165 v234).trips, 16 ∣ (k0_mult79 v27 v96 v165 v234 k0_t42).toNat) ∧
  (∀ k0_t42 : Fin (k0_t42_loop v27 v96 v165 v234).trips, ∀ a, (k0_off100 v27 v96 v165 v234 k0_t42) a + S256x1024.size a ≤ S1792x1024.size a) ∧
  (∀ k0_t42 : Fin (k0_t42_loop v27 v96 v165 v234).trips, 256 ∣ (k0_mult80 v27 v96 v165 v234 k0_t42).toNat) ∧
  (∀ k0_t42 : Fin (k0_t42_loop v27 v96 v165 v234).trips, ∀ a, (k0_off101 v27 v96 v165 v234 k0_t42) a + S1024x256.size a ≤ S3072x2816.size a) ∧
  (∀ k0_t42 : Fin (k0_t42_loop v27 v96 v165 v234).trips, ∀ (hinb : ∀ a, (k0_off101 v27 v96 v165 v234 k0_t42) a + S1024x256.size a ≤ S3072x2816.size a), (Rect.unit (s := S3072x2816) (k0_off101 v27 v96 v165 v234 k0_t42) S1024x256.size hinb).PackedRows (EltTy.packing .bf16)) ∧
  ((k0_t43_loop v27 v96 v165 v234).OK) ∧
  (∀ k0_t43 : Fin (k0_t43_loop v27 v96 v165 v234).trips, 16 ∣ (k0_mult81 v27 v96 v165 v234 k0_t43).toNat) ∧
  (∀ k0_t43 : Fin (k0_t43_loop v27 v96 v165 v234).trips, ∀ a, (k0_off102 v27 v96 v165 v234 k0_t43) a + S256x1024.size a ≤ S1792x1024.size a) ∧
  (∀ k0_t43 : Fin (k0_t43_loop v27 v96 v165 v234).trips, 256 ∣ (k0_mult82 v27 v96 v165 v234 k0_t43).toNat) ∧
  (∀ k0_t43 : Fin (k0_t43_loop v27 v96 v165 v234).trips, ∀ a, (k0_off103 v27 v96 v165 v234 k0_t43) a + S1024x256.size a ≤ S3072x2816.size a) ∧
  (∀ k0_t43 : Fin (k0_t43_loop v27 v96 v165 v234).trips, ∀ (hinb : ∀ a, (k0_off103 v27 v96 v165 v234 k0_t43) a + S1024x256.size a ≤ S3072x2816.size a), (Rect.unit (s := S3072x2816) (k0_off103 v27 v96 v165 v234 k0_t43) S1024x256.size hinb).PackedRows (EltTy.packing .bf16)) ∧
  ((k0_t52_loop v234).OK) ∧
  (∀ k0_t52 : Fin (k0_t52_loop v234).trips, 32 ∣ (k0_mult93 v27 v96 v165 v234 k0_t52).toNat) ∧
  (∀ k0_t52 : Fin (k0_t52_loop v234).trips, ∀ a, (k0_off126 v27 v96 v165 v234 k0_t52) a + S1x1024.size a ≤ S13x3072.size a) ∧
  (∀ k0_t52 : Fin (k0_t52_loop v234).trips, ∀ a, (k0_off127 v27 v96 v165 v234 k0_t52) a + S160x1024.size a ≤ S1536x3072.size a) ∧
  (∀ k0_t52 : Fin (k0_t52_loop v234).trips, ∀ a, (k0_off128 v27 v96 v165 v234 k0_t52) a + S160x1024.size a ≤ S1792x1024.size a) ∧
  (∀ k0_t52 : Fin (k0_t52_loop v234).trips, ∀ (hinb : ∀ a, (k0_off128 v27 v96 v165 v234 k0_t52) a + S160x1024.size a ≤ S1792x1024.size a), (Rect.unit (s := S1792x1024) (k0_off128 v27 v96 v165 v234 k0_t52) S160x1024.size hinb).PackedRows (EltTy.packing .bf16)) ∧
  ((k0_t53_loop v234).OK) ∧
  (∀ k0_t53 : Fin (k0_t53_loop v234).trips, 32 ∣ (k0_mult94 v27 v96 v165 v234 k0_t53).toNat) ∧
  (∀ k0_t53 : Fin (k0_t53_loop v234).trips, ∀ a, (k0_off129 v27 v96 v165 v234 k0_t53) a + S1x1024.size a ≤ S13x3072.size a) ∧
  (∀ k0_t53 : Fin (k0_t53_loop v234).trips, ∀ a, (k0_off130 v27 v96 v165 v234 k0_t53) a + S160x1024.size a ≤ S1536x3072.size a) ∧
  (∀ k0_t53 : Fin (k0_t53_loop v234).trips, ∀ a, (k0_off131 v27 v96 v165 v234 k0_t53) a + S160x1024.size a ≤ S1792x1024.size a) ∧
  (∀ k0_t53 : Fin (k0_t53_loop v234).trips, ∀ (hinb : ∀ a, (k0_off131 v27 v96 v165 v234 k0_t53) a + S160x1024.size a ≤ S1792x1024.size a), (Rect.unit (s := S1792x1024) (k0_off131 v27 v96 v165 v234 k0_t53) S160x1024.size hinb).PackedRows (EltTy.packing .bf16)) ∧
  ((k0_t62_loop v27 v96 v165 v234).OK) ∧
  (∀ k0_t62 : Fin (k0_t62_loop v27 v96 v165 v234).trips, 16 ∣ (k0_mult109 v27 v96 v165 v234 k0_t62).toNat) ∧
  (∀ k0_t62 : Fin (k0_t62_loop v27 v96 v165 v234).trips, ∀ a, (k0_off150 v27 v96 v165 v234 k0_t62) a + S256x1024.size a ≤ S1792x1024.size a)
def k0_chk4_2 (v27 : BitVec 32) (v96 : BitVec 32) (v165 : BitVec 32) (v234 : BitVec 32) : Prop :=
  (∀ k0_t62 : Fin (k0_t62_loop v27 v96 v165 v234).trips, 256 ∣ (k0_mult110 v27 v96 v165 v234 k0_t62).toNat) ∧
  (∀ k0_t62 : Fin (k0_t62_loop v27 v96 v165 v234).trips, ∀ a, (k0_off151 v27 v96 v165 v234 k0_t62) a + S1024x256.size a ≤ S3072x2816.size a) ∧
  (∀ k0_t62 : Fin (k0_t62_loop v27 v96 v165 v234).trips, ∀ (hinb : ∀ a, (k0_off151 v27 v96 v165 v234 k0_t62) a + S1024x256.size a ≤ S3072x2816.size a), (Rect.unit (s := S3072x2816) (k0_off151 v27 v96 v165 v234 k0_t62) S1024x256.size hinb).PackedRows (EltTy.packing .bf16)) ∧
  ((k0_t63_loop v27 v96 v165 v234).OK) ∧
  (∀ k0_t63 : Fin (k0_t63_loop v27 v96 v165 v234).trips, 16 ∣ (k0_mult111 v27 v96 v165 v234 k0_t63).toNat) ∧
  (∀ k0_t63 : Fin (k0_t63_loop v27 v96 v165 v234).trips, ∀ a, (k0_off152 v27 v96 v165 v234 k0_t63) a + S256x1024.size a ≤ S1792x1024.size a) ∧
  (∀ k0_t63 : Fin (k0_t63_loop v27 v96 v165 v234).trips, 256 ∣ (k0_mult112 v27 v96 v165 v234 k0_t63).toNat) ∧
  (∀ k0_t63 : Fin (k0_t63_loop v27 v96 v165 v234).trips, ∀ a, (k0_off153 v27 v96 v165 v234 k0_t63) a + S1024x256.size a ≤ S3072x2816.size a) ∧
  (∀ k0_t63 : Fin (k0_t63_loop v27 v96 v165 v234).trips, ∀ (hinb : ∀ a, (k0_off153 v27 v96 v165 v234 k0_t63) a + S1024x256.size a ≤ S3072x2816.size a), (Rect.unit (s := S3072x2816) (k0_off153 v27 v96 v165 v234 k0_t63) S1024x256.size hinb).PackedRows (EltTy.packing .bf16)) ∧
  ((k0_t73_loop v234).OK) ∧
  (∀ k0_t73 : Fin (k0_t73_loop v234).trips, 32 ∣ (k0_mult126 v27 v96 v165 v234 k0_t73).toNat) ∧
  (∀ (k0_t66 : Fin k0_t66_loop.trips) (k0_t73 : Fin (k0_t73_loop v234).trips), ∀ a, (k0_off182 v27 v96 v165 v234 k0_t66 k0_t73) a + S1x1024.size a ≤ S13x8192.size a) ∧
  (∀ (k0_t66 : Fin k0_t66_loop.trips) (k0_t73 : Fin (k0_t73_loop v234).trips), ∀ a, (k0_off183 v27 v96 v165 v234 k0_t66 k0_t73) a + S1x160x1024.size a ≤ S2x1536x1024.size a) ∧
  (∀ k0_t73 : Fin (k0_t73_loop v234).trips, ∀ a, (k0_off184 v27 v96 v165 v234 k0_t73) a + S160x1024.size a ≤ S1792x1024.size a) ∧
  (∀ k0_t73 : Fin (k0_t73_loop v234).trips, ∀ (hinb : ∀ a, (k0_off184 v27 v96 v165 v234 k0_t73) a + S160x1024.size a ≤ S1792x1024.size a), (Rect.unit (s := S1792x1024) (k0_off184 v27 v96 v165 v234 k0_t73) S160x1024.size hinb).PackedRows (EltTy.packing .bf16)) ∧
  ((k0_t74_loop v234).OK) ∧
  (∀ k0_t74 : Fin (k0_t74_loop v234).trips, 32 ∣ (k0_mult127 v27 v96 v165 v234 k0_t74).toNat) ∧
  (∀ (k0_t66 : Fin k0_t66_loop.trips) (k0_t74 : Fin (k0_t74_loop v234).trips), ∀ a, (k0_off185 v27 v96 v165 v234 k0_t66 k0_t74) a + S1x1024.size a ≤ S13x8192.size a) ∧
  (∀ (k0_t66 : Fin k0_t66_loop.trips) (k0_t74 : Fin (k0_t74_loop v234).trips), ∀ a, (k0_off186 v27 v96 v165 v234 k0_t66 k0_t74) a + S1x160x1024.size a ≤ S2x1536x1024.size a) ∧
  (∀ k0_t74 : Fin (k0_t74_loop v234).trips, ∀ a, (k0_off187 v27 v96 v165 v234 k0_t74) a + S160x1024.size a ≤ S1792x1024.size a) ∧
  (∀ k0_t74 : Fin (k0_t74_loop v234).trips, ∀ (hinb : ∀ a, (k0_off187 v27 v96 v165 v234 k0_t74) a + S160x1024.size a ≤ S1792x1024.size a), (Rect.unit (s := S1792x1024) (k0_off187 v27 v96 v165 v234 k0_t74) S160x1024.size hinb).PackedRows (EltTy.packing .bf16))
def k0_chk4 (v27 : BitVec 32) (v96 : BitVec 32) (v165 : BitVec 32) (v234 : BitVec 32) : Prop :=
  k0_chk4_0 v27 v96 v165 v234 ∧
  k0_chk4_1 v27 v96 v165 v234 ∧
  k0_chk4_2 v27 v96 v165 v234
theorem k0_mult22_dvd : ∀ (v27 : BitVec 32) (v96 : BitVec 32) (v165 : BitVec 32) (v234 : BitVec 32) (k0_hw4 : k0_chk4 v27 v96 v165 v234), 16 ∣ (k0_mult22 v27 v96 v165 v234).toNat := fun v27 v96 v165 v234 k0_hw4 => k0_hw4.1.1
theorem k0_t12_ok : ∀ (v27 : BitVec 32) (v96 : BitVec 32) (v165 : BitVec 32) (v234 : BitVec 32) (k0_hw4 : k0_chk4 v27 v96 v165 v234), (k0_t12_loop v234).OK := fun v27 v96 v165 v234 k0_hw4 => k0_hw4.1.2.1
theorem k0_mult33_dvd : ∀ (v27 : BitVec 32) (v96 : BitVec 32) (v165 : BitVec 32) (v234 : BitVec 32) (k0_hw4 : k0_chk4 v27 v96 v165 v234) (k0_t12 : Fin (k0_t12_loop v234).trips), 32 ∣ (k0_mult33 v27 v96 v165 v234 k0_t12).toNat := fun v27 v96 v165 v234 k0_hw4 k0_t12 => k0_hw4.1.2.2.1 k0_t12
theorem k0_off26_inb : ∀ (v27 : BitVec 32) (v96 : BitVec 32) (v165 : BitVec 32) (v234 : BitVec 32) (k0_hw4 : k0_chk4 v27 v96 v165 v234) (k0_t12 : Fin (k0_t12_loop v234).trips), ∀ a, (k0_off26 v27 v96 v165 v234 k0_t12) a + S1x1024.size a ≤ S13x3072.size a := fun v27 v96 v165 v234 k0_hw4 k0_t12 => k0_hw4.1.2.2.2.1 k0_t12
theorem k0_off27_inb : ∀ (v27 : BitVec 32) (v96 : BitVec 32) (v165 : BitVec 32) (v234 : BitVec 32) (k0_hw4 : k0_chk4 v27 v96 v165 v234) (k0_t12 : Fin (k0_t12_loop v234).trips), ∀ a, (k0_off27 v27 v96 v165 v234 k0_t12) a + S160x1024.size a ≤ S1536x3072.size a := fun v27 v96 v165 v234 k0_hw4 k0_t12 => k0_hw4.1.2.2.2.2.1 k0_t12
theorem k0_off28_inb : ∀ (v27 : BitVec 32) (v96 : BitVec 32) (v165 : BitVec 32) (v234 : BitVec 32) (k0_hw4 : k0_chk4 v27 v96 v165 v234) (k0_t12 : Fin (k0_t12_loop v234).trips), ∀ a, (k0_off28 v27 v96 v165 v234 k0_t12) a + S160x1024.size a ≤ S1792x1024.size a := fun v27 v96 v165 v234 k0_hw4 k0_t12 => k0_hw4.1.2.2.2.2.2.1 k0_t12
theorem k0_off28_packedbf16 : ∀ (v27 : BitVec 32) (v96 : BitVec 32) (v165 : BitVec 32) (v234 : BitVec 32) (k0_hw4 : k0_chk4 v27 v96 v165 v234) (k0_t12 : Fin (k0_t12_loop v234).trips), (Rect.unit (s := S1792x1024) (k0_off28 v27 v96 v165 v234 k0_t12) S160x1024.size (k0_off28_inb v27 v96 v165 v234 k0_hw4 k0_t12)).PackedRows (EltTy.packing .bf16) := fun v27 v96 v165 v234 k0_hw4 k0_t12 => k0_hw4.1.2.2.2.2.2.2.1 k0_t12 (k0_off28_inb v27 v96 v165 v234 k0_hw4 k0_t12)
theorem k0_t13_ok : ∀ (v27 : BitVec 32) (v96 : BitVec 32) (v165 : BitVec 32) (v234 : BitVec 32) (k0_hw4 : k0_chk4 v27 v96 v165 v234), (k0_t13_loop v234).OK := fun v27 v96 v165 v234 k0_hw4 => k0_hw4.1.2.2.2.2.2.2.2.1
theorem k0_mult34_dvd : ∀ (v27 : BitVec 32) (v96 : BitVec 32) (v165 : BitVec 32) (v234 : BitVec 32) (k0_hw4 : k0_chk4 v27 v96 v165 v234) (k0_t13 : Fin (k0_t13_loop v234).trips), 32 ∣ (k0_mult34 v27 v96 v165 v234 k0_t13).toNat := fun v27 v96 v165 v234 k0_hw4 k0_t13 => k0_hw4.1.2.2.2.2.2.2.2.2.1 k0_t13
theorem k0_off29_inb : ∀ (v27 : BitVec 32) (v96 : BitVec 32) (v165 : BitVec 32) (v234 : BitVec 32) (k0_hw4 : k0_chk4 v27 v96 v165 v234) (k0_t13 : Fin (k0_t13_loop v234).trips), ∀ a, (k0_off29 v27 v96 v165 v234 k0_t13) a + S1x1024.size a ≤ S13x3072.size a := fun v27 v96 v165 v234 k0_hw4 k0_t13 => k0_hw4.1.2.2.2.2.2.2.2.2.2.1 k0_t13
theorem k0_off30_inb : ∀ (v27 : BitVec 32) (v96 : BitVec 32) (v165 : BitVec 32) (v234 : BitVec 32) (k0_hw4 : k0_chk4 v27 v96 v165 v234) (k0_t13 : Fin (k0_t13_loop v234).trips), ∀ a, (k0_off30 v27 v96 v165 v234 k0_t13) a + S160x1024.size a ≤ S1536x3072.size a := fun v27 v96 v165 v234 k0_hw4 k0_t13 => k0_hw4.1.2.2.2.2.2.2.2.2.2.2.1 k0_t13
theorem k0_off31_inb : ∀ (v27 : BitVec 32) (v96 : BitVec 32) (v165 : BitVec 32) (v234 : BitVec 32) (k0_hw4 : k0_chk4 v27 v96 v165 v234) (k0_t13 : Fin (k0_t13_loop v234).trips), ∀ a, (k0_off31 v27 v96 v165 v234 k0_t13) a + S160x1024.size a ≤ S1792x1024.size a := fun v27 v96 v165 v234 k0_hw4 k0_t13 => k0_hw4.1.2.2.2.2.2.2.2.2.2.2.2.1 k0_t13
theorem k0_off31_packedbf16 : ∀ (v27 : BitVec 32) (v96 : BitVec 32) (v165 : BitVec 32) (v234 : BitVec 32) (k0_hw4 : k0_chk4 v27 v96 v165 v234) (k0_t13 : Fin (k0_t13_loop v234).trips), (Rect.unit (s := S1792x1024) (k0_off31 v27 v96 v165 v234 k0_t13) S160x1024.size (k0_off31_inb v27 v96 v165 v234 k0_hw4 k0_t13)).PackedRows (EltTy.packing .bf16) := fun v27 v96 v165 v234 k0_hw4 k0_t13 => k0_hw4.1.2.2.2.2.2.2.2.2.2.2.2.2.1 k0_t13 (k0_off31_inb v27 v96 v165 v234 k0_hw4 k0_t13)
theorem k0_t22_ok : ∀ (v27 : BitVec 32) (v96 : BitVec 32) (v165 : BitVec 32) (v234 : BitVec 32) (k0_hw4 : k0_chk4 v27 v96 v165 v234), (k0_t22_loop v27 v96 v165 v234).OK := fun v27 v96 v165 v234 k0_hw4 => k0_hw4.1.2.2.2.2.2.2.2.2.2.2.2.2.2.1
theorem k0_mult49_dvd : ∀ (v27 : BitVec 32) (v96 : BitVec 32) (v165 : BitVec 32) (v234 : BitVec 32) (k0_hw4 : k0_chk4 v27 v96 v165 v234) (k0_t22 : Fin (k0_t22_loop v27 v96 v165 v234).trips), 16 ∣ (k0_mult49 v27 v96 v165 v234 k0_t22).toNat := fun v27 v96 v165 v234 k0_hw4 k0_t22 => k0_hw4.1.2.2.2.2.2.2.2.2.2.2.2.2.2.2.1 k0_t22
theorem k0_off50_inb : ∀ (v27 : BitVec 32) (v96 : BitVec 32) (v165 : BitVec 32) (v234 : BitVec 32) (k0_hw4 : k0_chk4 v27 v96 v165 v234) (k0_t22 : Fin (k0_t22_loop v27 v96 v165 v234).trips), ∀ a, (k0_off50 v27 v96 v165 v234 k0_t22) a + S256x1024.size a ≤ S1792x1024.size a := fun v27 v96 v165 v234 k0_hw4 k0_t22 => k0_hw4.1.2.2.2.2.2.2.2.2.2.2.2.2.2.2.2.1 k0_t22
theorem k0_mult50_dvd : ∀ (v27 : BitVec 32) (v96 : BitVec 32) (v165 : BitVec 32) (v234 : BitVec 32) (k0_hw4 : k0_chk4 v27 v96 v165 v234) (k0_t22 : Fin (k0_t22_loop v27 v96 v165 v234).trips), 256 ∣ (k0_mult50 v27 v96 v165 v234 k0_t22).toNat := fun v27 v96 v165 v234 k0_hw4 k0_t22 => k0_hw4.1.2.2.2.2.2.2.2.2.2.2.2.2.2.2.2.2.1 k0_t22
theorem k0_off51_inb : ∀ (v27 : BitVec 32) (v96 : BitVec 32) (v165 : BitVec 32) (v234 : BitVec 32) (k0_hw4 : k0_chk4 v27 v96 v165 v234) (k0_t22 : Fin (k0_t22_loop v27 v96 v165 v234).trips), ∀ a, (k0_off51 v27 v96 v165 v234 k0_t22) a + S1024x256.size a ≤ S3072x2816.size a := fun v27 v96 v165 v234 k0_hw4 k0_t22 => k0_hw4.1.2.2.2.2.2.2.2.2.2.2.2.2.2.2.2.2.2.1 k0_t22
theorem k0_off51_packedbf16 : ∀ (v27 : BitVec 32) (v96 : BitVec 32) (v165 : BitVec 32) (v234 : BitVec 32) (k0_hw4 : k0_chk4 v27 v96 v165 v234) (k0_t22 : Fin (k0_t22_loop v27 v96 v165 v234).trips), (Rect.unit (s := S3072x2816) (k0_off51 v27 v96 v165 v234 k0_t22) S1024x256.size (k0_off51_inb v27 v96 v165 v234 k0_hw4 k0_t22)).PackedRows (EltTy.packing .bf16) := fun v27 v96 v165 v234 k0_hw4 k0_t22 => k0_hw4.1.2.2.2.2.2.2.2.2.2.2.2.2.2.2.2.2.2.2.1 k0_t22 (k0_off51_inb v27 v96 v165 v234 k0_hw4 k0_t22)
theorem k0_t23_ok : ∀ (v27 : BitVec 32) (v96 : BitVec 32) (v165 : BitVec 32) (v234 : BitVec 32) (k0_hw4 : k0_chk4 v27 v96 v165 v234), (k0_t23_loop v27 v96 v165 v234).OK := fun v27 v96 v165 v234 k0_hw4 => k0_hw4.1.2.2.2.2.2.2.2.2.2.2.2.2.2.2.2.2.2.2.2.1
theorem k0_mult51_dvd : ∀ (v27 : BitVec 32) (v96 : BitVec 32) (v165 : BitVec 32) (v234 : BitVec 32) (k0_hw4 : k0_chk4 v27 v96 v165 v234) (k0_t23 : Fin (k0_t23_loop v27 v96 v165 v234).trips), 16 ∣ (k0_mult51 v27 v96 v165 v234 k0_t23).toNat := fun v27 v96 v165 v234 k0_hw4 k0_t23 => k0_hw4.1.2.2.2.2.2.2.2.2.2.2.2.2.2.2.2.2.2.2.2.2.1 k0_t23
theorem k0_off52_inb : ∀ (v27 : BitVec 32) (v96 : BitVec 32) (v165 : BitVec 32) (v234 : BitVec 32) (k0_hw4 : k0_chk4 v27 v96 v165 v234) (k0_t23 : Fin (k0_t23_loop v27 v96 v165 v234).trips), ∀ a, (k0_off52 v27 v96 v165 v234 k0_t23) a + S256x1024.size a ≤ S1792x1024.size a := fun v27 v96 v165 v234 k0_hw4 k0_t23 => k0_hw4.1.2.2.2.2.2.2.2.2.2.2.2.2.2.2.2.2.2.2.2.2.2.1 k0_t23
theorem k0_mult52_dvd : ∀ (v27 : BitVec 32) (v96 : BitVec 32) (v165 : BitVec 32) (v234 : BitVec 32) (k0_hw4 : k0_chk4 v27 v96 v165 v234) (k0_t23 : Fin (k0_t23_loop v27 v96 v165 v234).trips), 256 ∣ (k0_mult52 v27 v96 v165 v234 k0_t23).toNat := fun v27 v96 v165 v234 k0_hw4 k0_t23 => k0_hw4.1.2.2.2.2.2.2.2.2.2.2.2.2.2.2.2.2.2.2.2.2.2.2.1 k0_t23
theorem k0_off53_inb : ∀ (v27 : BitVec 32) (v96 : BitVec 32) (v165 : BitVec 32) (v234 : BitVec 32) (k0_hw4 : k0_chk4 v27 v96 v165 v234) (k0_t23 : Fin (k0_t23_loop v27 v96 v165 v234).trips), ∀ a, (k0_off53 v27 v96 v165 v234 k0_t23) a + S1024x256.size a ≤ S3072x2816.size a := fun v27 v96 v165 v234 k0_hw4 k0_t23 => k0_hw4.1.2.2.2.2.2.2.2.2.2.2.2.2.2.2.2.2.2.2.2.2.2.2.2.1 k0_t23
theorem k0_off53_packedbf16 : ∀ (v27 : BitVec 32) (v96 : BitVec 32) (v165 : BitVec 32) (v234 : BitVec 32) (k0_hw4 : k0_chk4 v27 v96 v165 v234) (k0_t23 : Fin (k0_t23_loop v27 v96 v165 v234).trips), (Rect.unit (s := S3072x2816) (k0_off53 v27 v96 v165 v234 k0_t23) S1024x256.size (k0_off53_inb v27 v96 v165 v234 k0_hw4 k0_t23)).PackedRows (EltTy.packing .bf16) := fun v27 v96 v165 v234 k0_hw4 k0_t23 => k0_hw4.1.2.2.2.2.2.2.2.2.2.2.2.2.2.2.2.2.2.2.2.2.2.2.2.2.1 k0_t23 (k0_off53_inb v27 v96 v165 v234 k0_hw4 k0_t23)
theorem k0_t32_ok : ∀ (v27 : BitVec 32) (v96 : BitVec 32) (v165 : BitVec 32) (v234 : BitVec 32) (k0_hw4 : k0_chk4 v27 v96 v165 v234), (k0_t32_loop v234).OK := fun v27 v96 v165 v234 k0_hw4 => k0_hw4.1.2.2.2.2.2.2.2.2.2.2.2.2.2.2.2.2.2.2.2.2.2.2.2.2.2.1
theorem k0_mult63_dvd : ∀ (v27 : BitVec 32) (v96 : BitVec 32) (v165 : BitVec 32) (v234 : BitVec 32) (k0_hw4 : k0_chk4 v27 v96 v165 v234) (k0_t32 : Fin (k0_t32_loop v234).trips), 32 ∣ (k0_mult63 v27 v96 v165 v234 k0_t32).toNat := fun v27 v96 v165 v234 k0_hw4 k0_t32 => k0_hw4.1.2.2.2.2.2.2.2.2.2.2.2.2.2.2.2.2.2.2.2.2.2.2.2.2.2.2.1 k0_t32
theorem k0_off76_inb : ∀ (v27 : BitVec 32) (v96 : BitVec 32) (v165 : BitVec 32) (v234 : BitVec 32) (k0_hw4 : k0_chk4 v27 v96 v165 v234) (k0_t32 : Fin (k0_t32_loop v234).trips), ∀ a, (k0_off76 v27 v96 v165 v234 k0_t32) a + S1x1024.size a ≤ S13x3072.size a := fun v27 v96 v165 v234 k0_hw4 k0_t32 => k0_hw4.1.2.2.2.2.2.2.2.2.2.2.2.2.2.2.2.2.2.2.2.2.2.2.2.2.2.2.2.1 k0_t32
theorem k0_off77_inb : ∀ (v27 : BitVec 32) (v96 : BitVec 32) (v165 : BitVec 32) (v234 : BitVec 32) (k0_hw4 : k0_chk4 v27 v96 v165 v234) (k0_t32 : Fin (k0_t32_loop v234).trips), ∀ a, (k0_off77 v27 v96 v165 v234 k0_t32) a + S160x1024.size a ≤ S1536x3072.size a := fun v27 v96 v165 v234 k0_hw4 k0_t32 => k0_hw4.1.2.2.2.2.2.2.2.2.2.2.2.2.2.2.2.2.2.2.2.2.2.2.2.2.2.2.2.2.1 k0_t32
theorem k0_off78_inb : ∀ (v27 : BitVec 32) (v96 : BitVec 32) (v165 : BitVec 32) (v234 : BitVec 32) (k0_hw4 : k0_chk4 v27 v96 v165 v234) (k0_t32 : Fin (k0_t32_loop v234).trips), ∀ a, (k0_off78 v27 v96 v165 v234 k0_t32) a + S160x1024.size a ≤ S1792x1024.size a := fun v27 v96 v165 v234 k0_hw4 k0_t32 => k0_hw4.1.2.2.2.2.2.2.2.2.2.2.2.2.2.2.2.2.2.2.2.2.2.2.2.2.2.2.2.2.2.1 k0_t32
theorem k0_off78_packedbf16 : ∀ (v27 : BitVec 32) (v96 : BitVec 32) (v165 : BitVec 32) (v234 : BitVec 32) (k0_hw4 : k0_chk4 v27 v96 v165 v234) (k0_t32 : Fin (k0_t32_loop v234).trips), (Rect.unit (s := S1792x1024) (k0_off78 v27 v96 v165 v234 k0_t32) S160x1024.size (k0_off78_inb v27 v96 v165 v234 k0_hw4 k0_t32)).PackedRows (EltTy.packing .bf16) := fun v27 v96 v165 v234 k0_hw4 k0_t32 => k0_hw4.1.2.2.2.2.2.2.2.2.2.2.2.2.2.2.2.2.2.2.2.2.2.2.2.2.2.2.2.2.2.2.1 k0_t32 (k0_off78_inb v27 v96 v165 v234 k0_hw4 k0_t32)
theorem k0_t33_ok : ∀ (v27 : BitVec 32) (v96 : BitVec 32) (v165 : BitVec 32) (v234 : BitVec 32) (k0_hw4 : k0_chk4 v27 v96 v165 v234), (k0_t33_loop v234).OK := fun v27 v96 v165 v234 k0_hw4 => k0_hw4.1.2.2.2.2.2.2.2.2.2.2.2.2.2.2.2.2.2.2.2.2.2.2.2.2.2.2.2.2.2.2.2
theorem k0_mult64_dvd : ∀ (v27 : BitVec 32) (v96 : BitVec 32) (v165 : BitVec 32) (v234 : BitVec 32) (k0_hw4 : k0_chk4 v27 v96 v165 v234) (k0_t33 : Fin (k0_t33_loop v234).trips), 32 ∣ (k0_mult64 v27 v96 v165 v234 k0_t33).toNat := fun v27 v96 v165 v234 k0_hw4 k0_t33 => k0_hw4.2.1.1 k0_t33
theorem k0_off79_inb : ∀ (v27 : BitVec 32) (v96 : BitVec 32) (v165 : BitVec 32) (v234 : BitVec 32) (k0_hw4 : k0_chk4 v27 v96 v165 v234) (k0_t33 : Fin (k0_t33_loop v234).trips), ∀ a, (k0_off79 v27 v96 v165 v234 k0_t33) a + S1x1024.size a ≤ S13x3072.size a := fun v27 v96 v165 v234 k0_hw4 k0_t33 => k0_hw4.2.1.2.1 k0_t33
theorem k0_off80_inb : ∀ (v27 : BitVec 32) (v96 : BitVec 32) (v165 : BitVec 32) (v234 : BitVec 32) (k0_hw4 : k0_chk4 v27 v96 v165 v234) (k0_t33 : Fin (k0_t33_loop v234).trips), ∀ a, (k0_off80 v27 v96 v165 v234 k0_t33) a + S160x1024.size a ≤ S1536x3072.size a := fun v27 v96 v165 v234 k0_hw4 k0_t33 => k0_hw4.2.1.2.2.1 k0_t33
theorem k0_off81_inb : ∀ (v27 : BitVec 32) (v96 : BitVec 32) (v165 : BitVec 32) (v234 : BitVec 32) (k0_hw4 : k0_chk4 v27 v96 v165 v234) (k0_t33 : Fin (k0_t33_loop v234).trips), ∀ a, (k0_off81 v27 v96 v165 v234 k0_t33) a + S160x1024.size a ≤ S1792x1024.size a := fun v27 v96 v165 v234 k0_hw4 k0_t33 => k0_hw4.2.1.2.2.2.1 k0_t33
theorem k0_off81_packedbf16 : ∀ (v27 : BitVec 32) (v96 : BitVec 32) (v165 : BitVec 32) (v234 : BitVec 32) (k0_hw4 : k0_chk4 v27 v96 v165 v234) (k0_t33 : Fin (k0_t33_loop v234).trips), (Rect.unit (s := S1792x1024) (k0_off81 v27 v96 v165 v234 k0_t33) S160x1024.size (k0_off81_inb v27 v96 v165 v234 k0_hw4 k0_t33)).PackedRows (EltTy.packing .bf16) := fun v27 v96 v165 v234 k0_hw4 k0_t33 => k0_hw4.2.1.2.2.2.2.1 k0_t33 (k0_off81_inb v27 v96 v165 v234 k0_hw4 k0_t33)
theorem k0_t42_ok : ∀ (v27 : BitVec 32) (v96 : BitVec 32) (v165 : BitVec 32) (v234 : BitVec 32) (k0_hw4 : k0_chk4 v27 v96 v165 v234), (k0_t42_loop v27 v96 v165 v234).OK := fun v27 v96 v165 v234 k0_hw4 => k0_hw4.2.1.2.2.2.2.2.1
theorem k0_mult79_dvd : ∀ (v27 : BitVec 32) (v96 : BitVec 32) (v165 : BitVec 32) (v234 : BitVec 32) (k0_hw4 : k0_chk4 v27 v96 v165 v234) (k0_t42 : Fin (k0_t42_loop v27 v96 v165 v234).trips), 16 ∣ (k0_mult79 v27 v96 v165 v234 k0_t42).toNat := fun v27 v96 v165 v234 k0_hw4 k0_t42 => k0_hw4.2.1.2.2.2.2.2.2.1 k0_t42
theorem k0_off100_inb : ∀ (v27 : BitVec 32) (v96 : BitVec 32) (v165 : BitVec 32) (v234 : BitVec 32) (k0_hw4 : k0_chk4 v27 v96 v165 v234) (k0_t42 : Fin (k0_t42_loop v27 v96 v165 v234).trips), ∀ a, (k0_off100 v27 v96 v165 v234 k0_t42) a + S256x1024.size a ≤ S1792x1024.size a := fun v27 v96 v165 v234 k0_hw4 k0_t42 => k0_hw4.2.1.2.2.2.2.2.2.2.1 k0_t42
theorem k0_mult80_dvd : ∀ (v27 : BitVec 32) (v96 : BitVec 32) (v165 : BitVec 32) (v234 : BitVec 32) (k0_hw4 : k0_chk4 v27 v96 v165 v234) (k0_t42 : Fin (k0_t42_loop v27 v96 v165 v234).trips), 256 ∣ (k0_mult80 v27 v96 v165 v234 k0_t42).toNat := fun v27 v96 v165 v234 k0_hw4 k0_t42 => k0_hw4.2.1.2.2.2.2.2.2.2.2.1 k0_t42
theorem k0_off101_inb : ∀ (v27 : BitVec 32) (v96 : BitVec 32) (v165 : BitVec 32) (v234 : BitVec 32) (k0_hw4 : k0_chk4 v27 v96 v165 v234) (k0_t42 : Fin (k0_t42_loop v27 v96 v165 v234).trips), ∀ a, (k0_off101 v27 v96 v165 v234 k0_t42) a + S1024x256.size a ≤ S3072x2816.size a := fun v27 v96 v165 v234 k0_hw4 k0_t42 => k0_hw4.2.1.2.2.2.2.2.2.2.2.2.1 k0_t42
theorem k0_off101_packedbf16 : ∀ (v27 : BitVec 32) (v96 : BitVec 32) (v165 : BitVec 32) (v234 : BitVec 32) (k0_hw4 : k0_chk4 v27 v96 v165 v234) (k0_t42 : Fin (k0_t42_loop v27 v96 v165 v234).trips), (Rect.unit (s := S3072x2816) (k0_off101 v27 v96 v165 v234 k0_t42) S1024x256.size (k0_off101_inb v27 v96 v165 v234 k0_hw4 k0_t42)).PackedRows (EltTy.packing .bf16) := fun v27 v96 v165 v234 k0_hw4 k0_t42 => k0_hw4.2.1.2.2.2.2.2.2.2.2.2.2.1 k0_t42 (k0_off101_inb v27 v96 v165 v234 k0_hw4 k0_t42)
theorem k0_t43_ok : ∀ (v27 : BitVec 32) (v96 : BitVec 32) (v165 : BitVec 32) (v234 : BitVec 32) (k0_hw4 : k0_chk4 v27 v96 v165 v234), (k0_t43_loop v27 v96 v165 v234).OK := fun v27 v96 v165 v234 k0_hw4 => k0_hw4.2.1.2.2.2.2.2.2.2.2.2.2.2.1
theorem k0_mult81_dvd : ∀ (v27 : BitVec 32) (v96 : BitVec 32) (v165 : BitVec 32) (v234 : BitVec 32) (k0_hw4 : k0_chk4 v27 v96 v165 v234) (k0_t43 : Fin (k0_t43_loop v27 v96 v165 v234).trips), 16 ∣ (k0_mult81 v27 v96 v165 v234 k0_t43).toNat := fun v27 v96 v165 v234 k0_hw4 k0_t43 => k0_hw4.2.1.2.2.2.2.2.2.2.2.2.2.2.2.1 k0_t43
theorem k0_off102_inb : ∀ (v27 : BitVec 32) (v96 : BitVec 32) (v165 : BitVec 32) (v234 : BitVec 32) (k0_hw4 : k0_chk4 v27 v96 v165 v234) (k0_t43 : Fin (k0_t43_loop v27 v96 v165 v234).trips), ∀ a, (k0_off102 v27 v96 v165 v234 k0_t43) a + S256x1024.size a ≤ S1792x1024.size a := fun v27 v96 v165 v234 k0_hw4 k0_t43 => k0_hw4.2.1.2.2.2.2.2.2.2.2.2.2.2.2.2.1 k0_t43
theorem k0_mult82_dvd : ∀ (v27 : BitVec 32) (v96 : BitVec 32) (v165 : BitVec 32) (v234 : BitVec 32) (k0_hw4 : k0_chk4 v27 v96 v165 v234) (k0_t43 : Fin (k0_t43_loop v27 v96 v165 v234).trips), 256 ∣ (k0_mult82 v27 v96 v165 v234 k0_t43).toNat := fun v27 v96 v165 v234 k0_hw4 k0_t43 => k0_hw4.2.1.2.2.2.2.2.2.2.2.2.2.2.2.2.2.1 k0_t43
theorem k0_off103_inb : ∀ (v27 : BitVec 32) (v96 : BitVec 32) (v165 : BitVec 32) (v234 : BitVec 32) (k0_hw4 : k0_chk4 v27 v96 v165 v234) (k0_t43 : Fin (k0_t43_loop v27 v96 v165 v234).trips), ∀ a, (k0_off103 v27 v96 v165 v234 k0_t43) a + S1024x256.size a ≤ S3072x2816.size a := fun v27 v96 v165 v234 k0_hw4 k0_t43 => k0_hw4.2.1.2.2.2.2.2.2.2.2.2.2.2.2.2.2.2.1 k0_t43
theorem k0_off103_packedbf16 : ∀ (v27 : BitVec 32) (v96 : BitVec 32) (v165 : BitVec 32) (v234 : BitVec 32) (k0_hw4 : k0_chk4 v27 v96 v165 v234) (k0_t43 : Fin (k0_t43_loop v27 v96 v165 v234).trips), (Rect.unit (s := S3072x2816) (k0_off103 v27 v96 v165 v234 k0_t43) S1024x256.size (k0_off103_inb v27 v96 v165 v234 k0_hw4 k0_t43)).PackedRows (EltTy.packing .bf16) := fun v27 v96 v165 v234 k0_hw4 k0_t43 => k0_hw4.2.1.2.2.2.2.2.2.2.2.2.2.2.2.2.2.2.2.1 k0_t43 (k0_off103_inb v27 v96 v165 v234 k0_hw4 k0_t43)
theorem k0_t52_ok : ∀ (v27 : BitVec 32) (v96 : BitVec 32) (v165 : BitVec 32) (v234 : BitVec 32) (k0_hw4 : k0_chk4 v27 v96 v165 v234), (k0_t52_loop v234).OK := fun v27 v96 v165 v234 k0_hw4 => k0_hw4.2.1.2.2.2.2.2.2.2.2.2.2.2.2.2.2.2.2.2.1
theorem k0_mult93_dvd : ∀ (v27 : BitVec 32) (v96 : BitVec 32) (v165 : BitVec 32) (v234 : BitVec 32) (k0_hw4 : k0_chk4 v27 v96 v165 v234) (k0_t52 : Fin (k0_t52_loop v234).trips), 32 ∣ (k0_mult93 v27 v96 v165 v234 k0_t52).toNat := fun v27 v96 v165 v234 k0_hw4 k0_t52 => k0_hw4.2.1.2.2.2.2.2.2.2.2.2.2.2.2.2.2.2.2.2.2.1 k0_t52
theorem k0_off126_inb : ∀ (v27 : BitVec 32) (v96 : BitVec 32) (v165 : BitVec 32) (v234 : BitVec 32) (k0_hw4 : k0_chk4 v27 v96 v165 v234) (k0_t52 : Fin (k0_t52_loop v234).trips), ∀ a, (k0_off126 v27 v96 v165 v234 k0_t52) a + S1x1024.size a ≤ S13x3072.size a := fun v27 v96 v165 v234 k0_hw4 k0_t52 => k0_hw4.2.1.2.2.2.2.2.2.2.2.2.2.2.2.2.2.2.2.2.2.2.1 k0_t52
theorem k0_off127_inb : ∀ (v27 : BitVec 32) (v96 : BitVec 32) (v165 : BitVec 32) (v234 : BitVec 32) (k0_hw4 : k0_chk4 v27 v96 v165 v234) (k0_t52 : Fin (k0_t52_loop v234).trips), ∀ a, (k0_off127 v27 v96 v165 v234 k0_t52) a + S160x1024.size a ≤ S1536x3072.size a := fun v27 v96 v165 v234 k0_hw4 k0_t52 => k0_hw4.2.1.2.2.2.2.2.2.2.2.2.2.2.2.2.2.2.2.2.2.2.2.1 k0_t52
theorem k0_off128_inb : ∀ (v27 : BitVec 32) (v96 : BitVec 32) (v165 : BitVec 32) (v234 : BitVec 32) (k0_hw4 : k0_chk4 v27 v96 v165 v234) (k0_t52 : Fin (k0_t52_loop v234).trips), ∀ a, (k0_off128 v27 v96 v165 v234 k0_t52) a + S160x1024.size a ≤ S1792x1024.size a := fun v27 v96 v165 v234 k0_hw4 k0_t52 => k0_hw4.2.1.2.2.2.2.2.2.2.2.2.2.2.2.2.2.2.2.2.2.2.2.2.1 k0_t52
theorem k0_off128_packedbf16 : ∀ (v27 : BitVec 32) (v96 : BitVec 32) (v165 : BitVec 32) (v234 : BitVec 32) (k0_hw4 : k0_chk4 v27 v96 v165 v234) (k0_t52 : Fin (k0_t52_loop v234).trips), (Rect.unit (s := S1792x1024) (k0_off128 v27 v96 v165 v234 k0_t52) S160x1024.size (k0_off128_inb v27 v96 v165 v234 k0_hw4 k0_t52)).PackedRows (EltTy.packing .bf16) := fun v27 v96 v165 v234 k0_hw4 k0_t52 => k0_hw4.2.1.2.2.2.2.2.2.2.2.2.2.2.2.2.2.2.2.2.2.2.2.2.2.1 k0_t52 (k0_off128_inb v27 v96 v165 v234 k0_hw4 k0_t52)
theorem k0_t53_ok : ∀ (v27 : BitVec 32) (v96 : BitVec 32) (v165 : BitVec 32) (v234 : BitVec 32) (k0_hw4 : k0_chk4 v27 v96 v165 v234), (k0_t53_loop v234).OK := fun v27 v96 v165 v234 k0_hw4 => k0_hw4.2.1.2.2.2.2.2.2.2.2.2.2.2.2.2.2.2.2.2.2.2.2.2.2.2.1
theorem k0_mult94_dvd : ∀ (v27 : BitVec 32) (v96 : BitVec 32) (v165 : BitVec 32) (v234 : BitVec 32) (k0_hw4 : k0_chk4 v27 v96 v165 v234) (k0_t53 : Fin (k0_t53_loop v234).trips), 32 ∣ (k0_mult94 v27 v96 v165 v234 k0_t53).toNat := fun v27 v96 v165 v234 k0_hw4 k0_t53 => k0_hw4.2.1.2.2.2.2.2.2.2.2.2.2.2.2.2.2.2.2.2.2.2.2.2.2.2.2.1 k0_t53
theorem k0_off129_inb : ∀ (v27 : BitVec 32) (v96 : BitVec 32) (v165 : BitVec 32) (v234 : BitVec 32) (k0_hw4 : k0_chk4 v27 v96 v165 v234) (k0_t53 : Fin (k0_t53_loop v234).trips), ∀ a, (k0_off129 v27 v96 v165 v234 k0_t53) a + S1x1024.size a ≤ S13x3072.size a := fun v27 v96 v165 v234 k0_hw4 k0_t53 => k0_hw4.2.1.2.2.2.2.2.2.2.2.2.2.2.2.2.2.2.2.2.2.2.2.2.2.2.2.2.1 k0_t53
theorem k0_off130_inb : ∀ (v27 : BitVec 32) (v96 : BitVec 32) (v165 : BitVec 32) (v234 : BitVec 32) (k0_hw4 : k0_chk4 v27 v96 v165 v234) (k0_t53 : Fin (k0_t53_loop v234).trips), ∀ a, (k0_off130 v27 v96 v165 v234 k0_t53) a + S160x1024.size a ≤ S1536x3072.size a := fun v27 v96 v165 v234 k0_hw4 k0_t53 => k0_hw4.2.1.2.2.2.2.2.2.2.2.2.2.2.2.2.2.2.2.2.2.2.2.2.2.2.2.2.2.1 k0_t53
theorem k0_off131_inb : ∀ (v27 : BitVec 32) (v96 : BitVec 32) (v165 : BitVec 32) (v234 : BitVec 32) (k0_hw4 : k0_chk4 v27 v96 v165 v234) (k0_t53 : Fin (k0_t53_loop v234).trips), ∀ a, (k0_off131 v27 v96 v165 v234 k0_t53) a + S160x1024.size a ≤ S1792x1024.size a := fun v27 v96 v165 v234 k0_hw4 k0_t53 => k0_hw4.2.1.2.2.2.2.2.2.2.2.2.2.2.2.2.2.2.2.2.2.2.2.2.2.2.2.2.2.2.1 k0_t53
theorem k0_off131_packedbf16 : ∀ (v27 : BitVec 32) (v96 : BitVec 32) (v165 : BitVec 32) (v234 : BitVec 32) (k0_hw4 : k0_chk4 v27 v96 v165 v234) (k0_t53 : Fin (k0_t53_loop v234).trips), (Rect.unit (s := S1792x1024) (k0_off131 v27 v96 v165 v234 k0_t53) S160x1024.size (k0_off131_inb v27 v96 v165 v234 k0_hw4 k0_t53)).PackedRows (EltTy.packing .bf16) := fun v27 v96 v165 v234 k0_hw4 k0_t53 => k0_hw4.2.1.2.2.2.2.2.2.2.2.2.2.2.2.2.2.2.2.2.2.2.2.2.2.2.2.2.2.2.2.1 k0_t53 (k0_off131_inb v27 v96 v165 v234 k0_hw4 k0_t53)
theorem k0_t62_ok : ∀ (v27 : BitVec 32) (v96 : BitVec 32) (v165 : BitVec 32) (v234 : BitVec 32) (k0_hw4 : k0_chk4 v27 v96 v165 v234), (k0_t62_loop v27 v96 v165 v234).OK := fun v27 v96 v165 v234 k0_hw4 => k0_hw4.2.1.2.2.2.2.2.2.2.2.2.2.2.2.2.2.2.2.2.2.2.2.2.2.2.2.2.2.2.2.2.1
theorem k0_mult109_dvd : ∀ (v27 : BitVec 32) (v96 : BitVec 32) (v165 : BitVec 32) (v234 : BitVec 32) (k0_hw4 : k0_chk4 v27 v96 v165 v234) (k0_t62 : Fin (k0_t62_loop v27 v96 v165 v234).trips), 16 ∣ (k0_mult109 v27 v96 v165 v234 k0_t62).toNat := fun v27 v96 v165 v234 k0_hw4 k0_t62 => k0_hw4.2.1.2.2.2.2.2.2.2.2.2.2.2.2.2.2.2.2.2.2.2.2.2.2.2.2.2.2.2.2.2.2.1 k0_t62
theorem k0_off150_inb : ∀ (v27 : BitVec 32) (v96 : BitVec 32) (v165 : BitVec 32) (v234 : BitVec 32) (k0_hw4 : k0_chk4 v27 v96 v165 v234) (k0_t62 : Fin (k0_t62_loop v27 v96 v165 v234).trips), ∀ a, (k0_off150 v27 v96 v165 v234 k0_t62) a + S256x1024.size a ≤ S1792x1024.size a := fun v27 v96 v165 v234 k0_hw4 k0_t62 => k0_hw4.2.1.2.2.2.2.2.2.2.2.2.2.2.2.2.2.2.2.2.2.2.2.2.2.2.2.2.2.2.2.2.2.2 k0_t62
theorem k0_mult110_dvd : ∀ (v27 : BitVec 32) (v96 : BitVec 32) (v165 : BitVec 32) (v234 : BitVec 32) (k0_hw4 : k0_chk4 v27 v96 v165 v234) (k0_t62 : Fin (k0_t62_loop v27 v96 v165 v234).trips), 256 ∣ (k0_mult110 v27 v96 v165 v234 k0_t62).toNat := fun v27 v96 v165 v234 k0_hw4 k0_t62 => k0_hw4.2.2.1 k0_t62
theorem k0_off151_inb : ∀ (v27 : BitVec 32) (v96 : BitVec 32) (v165 : BitVec 32) (v234 : BitVec 32) (k0_hw4 : k0_chk4 v27 v96 v165 v234) (k0_t62 : Fin (k0_t62_loop v27 v96 v165 v234).trips), ∀ a, (k0_off151 v27 v96 v165 v234 k0_t62) a + S1024x256.size a ≤ S3072x2816.size a := fun v27 v96 v165 v234 k0_hw4 k0_t62 => k0_hw4.2.2.2.1 k0_t62
theorem k0_off151_packedbf16 : ∀ (v27 : BitVec 32) (v96 : BitVec 32) (v165 : BitVec 32) (v234 : BitVec 32) (k0_hw4 : k0_chk4 v27 v96 v165 v234) (k0_t62 : Fin (k0_t62_loop v27 v96 v165 v234).trips), (Rect.unit (s := S3072x2816) (k0_off151 v27 v96 v165 v234 k0_t62) S1024x256.size (k0_off151_inb v27 v96 v165 v234 k0_hw4 k0_t62)).PackedRows (EltTy.packing .bf16) := fun v27 v96 v165 v234 k0_hw4 k0_t62 => k0_hw4.2.2.2.2.1 k0_t62 (k0_off151_inb v27 v96 v165 v234 k0_hw4 k0_t62)
theorem k0_t63_ok : ∀ (v27 : BitVec 32) (v96 : BitVec 32) (v165 : BitVec 32) (v234 : BitVec 32) (k0_hw4 : k0_chk4 v27 v96 v165 v234), (k0_t63_loop v27 v96 v165 v234).OK := fun v27 v96 v165 v234 k0_hw4 => k0_hw4.2.2.2.2.2.1
theorem k0_mult111_dvd : ∀ (v27 : BitVec 32) (v96 : BitVec 32) (v165 : BitVec 32) (v234 : BitVec 32) (k0_hw4 : k0_chk4 v27 v96 v165 v234) (k0_t63 : Fin (k0_t63_loop v27 v96 v165 v234).trips), 16 ∣ (k0_mult111 v27 v96 v165 v234 k0_t63).toNat := fun v27 v96 v165 v234 k0_hw4 k0_t63 => k0_hw4.2.2.2.2.2.2.1 k0_t63
theorem k0_off152_inb : ∀ (v27 : BitVec 32) (v96 : BitVec 32) (v165 : BitVec 32) (v234 : BitVec 32) (k0_hw4 : k0_chk4 v27 v96 v165 v234) (k0_t63 : Fin (k0_t63_loop v27 v96 v165 v234).trips), ∀ a, (k0_off152 v27 v96 v165 v234 k0_t63) a + S256x1024.size a ≤ S1792x1024.size a := fun v27 v96 v165 v234 k0_hw4 k0_t63 => k0_hw4.2.2.2.2.2.2.2.1 k0_t63
theorem k0_mult112_dvd : ∀ (v27 : BitVec 32) (v96 : BitVec 32) (v165 : BitVec 32) (v234 : BitVec 32) (k0_hw4 : k0_chk4 v27 v96 v165 v234) (k0_t63 : Fin (k0_t63_loop v27 v96 v165 v234).trips), 256 ∣ (k0_mult112 v27 v96 v165 v234 k0_t63).toNat := fun v27 v96 v165 v234 k0_hw4 k0_t63 => k0_hw4.2.2.2.2.2.2.2.2.1 k0_t63
theorem k0_off153_inb : ∀ (v27 : BitVec 32) (v96 : BitVec 32) (v165 : BitVec 32) (v234 : BitVec 32) (k0_hw4 : k0_chk4 v27 v96 v165 v234) (k0_t63 : Fin (k0_t63_loop v27 v96 v165 v234).trips), ∀ a, (k0_off153 v27 v96 v165 v234 k0_t63) a + S1024x256.size a ≤ S3072x2816.size a := fun v27 v96 v165 v234 k0_hw4 k0_t63 => k0_hw4.2.2.2.2.2.2.2.2.2.1 k0_t63
theorem k0_off153_packedbf16 : ∀ (v27 : BitVec 32) (v96 : BitVec 32) (v165 : BitVec 32) (v234 : BitVec 32) (k0_hw4 : k0_chk4 v27 v96 v165 v234) (k0_t63 : Fin (k0_t63_loop v27 v96 v165 v234).trips), (Rect.unit (s := S3072x2816) (k0_off153 v27 v96 v165 v234 k0_t63) S1024x256.size (k0_off153_inb v27 v96 v165 v234 k0_hw4 k0_t63)).PackedRows (EltTy.packing .bf16) := fun v27 v96 v165 v234 k0_hw4 k0_t63 => k0_hw4.2.2.2.2.2.2.2.2.2.2.1 k0_t63 (k0_off153_inb v27 v96 v165 v234 k0_hw4 k0_t63)
theorem k0_t73_ok : ∀ (v27 : BitVec 32) (v96 : BitVec 32) (v165 : BitVec 32) (v234 : BitVec 32) (k0_hw4 : k0_chk4 v27 v96 v165 v234), (k0_t73_loop v234).OK := fun v27 v96 v165 v234 k0_hw4 => k0_hw4.2.2.2.2.2.2.2.2.2.2.2.1
theorem k0_mult126_dvd : ∀ (v27 : BitVec 32) (v96 : BitVec 32) (v165 : BitVec 32) (v234 : BitVec 32) (k0_hw4 : k0_chk4 v27 v96 v165 v234) (k0_t73 : Fin (k0_t73_loop v234).trips), 32 ∣ (k0_mult126 v27 v96 v165 v234 k0_t73).toNat := fun v27 v96 v165 v234 k0_hw4 k0_t73 => k0_hw4.2.2.2.2.2.2.2.2.2.2.2.2.1 k0_t73
theorem k0_off182_inb : ∀ (v27 : BitVec 32) (v96 : BitVec 32) (v165 : BitVec 32) (v234 : BitVec 32) (k0_hw4 : k0_chk4 v27 v96 v165 v234) (k0_t66 : Fin k0_t66_loop.trips) (k0_t73 : Fin (k0_t73_loop v234).trips), ∀ a, (k0_off182 v27 v96 v165 v234 k0_t66 k0_t73) a + S1x1024.size a ≤ S13x8192.size a := fun v27 v96 v165 v234 k0_hw4 k0_t66 k0_t73 => k0_hw4.2.2.2.2.2.2.2.2.2.2.2.2.2.1 k0_t66 k0_t73
theorem k0_off183_inb : ∀ (v27 : BitVec 32) (v96 : BitVec 32) (v165 : BitVec 32) (v234 : BitVec 32) (k0_hw4 : k0_chk4 v27 v96 v165 v234) (k0_t66 : Fin k0_t66_loop.trips) (k0_t73 : Fin (k0_t73_loop v234).trips), ∀ a, (k0_off183 v27 v96 v165 v234 k0_t66 k0_t73) a + S1x160x1024.size a ≤ S2x1536x1024.size a := fun v27 v96 v165 v234 k0_hw4 k0_t66 k0_t73 => k0_hw4.2.2.2.2.2.2.2.2.2.2.2.2.2.2.1 k0_t66 k0_t73
theorem k0_off184_inb : ∀ (v27 : BitVec 32) (v96 : BitVec 32) (v165 : BitVec 32) (v234 : BitVec 32) (k0_hw4 : k0_chk4 v27 v96 v165 v234) (k0_t73 : Fin (k0_t73_loop v234).trips), ∀ a, (k0_off184 v27 v96 v165 v234 k0_t73) a + S160x1024.size a ≤ S1792x1024.size a := fun v27 v96 v165 v234 k0_hw4 k0_t73 => k0_hw4.2.2.2.2.2.2.2.2.2.2.2.2.2.2.2.1 k0_t73
theorem k0_off184_packedbf16 : ∀ (v27 : BitVec 32) (v96 : BitVec 32) (v165 : BitVec 32) (v234 : BitVec 32) (k0_hw4 : k0_chk4 v27 v96 v165 v234) (k0_t73 : Fin (k0_t73_loop v234).trips), (Rect.unit (s := S1792x1024) (k0_off184 v27 v96 v165 v234 k0_t73) S160x1024.size (k0_off184_inb v27 v96 v165 v234 k0_hw4 k0_t73)).PackedRows (EltTy.packing .bf16) := fun v27 v96 v165 v234 k0_hw4 k0_t73 => k0_hw4.2.2.2.2.2.2.2.2.2.2.2.2.2.2.2.2.1 k0_t73 (k0_off184_inb v27 v96 v165 v234 k0_hw4 k0_t73)
theorem k0_t74_ok : ∀ (v27 : BitVec 32) (v96 : BitVec 32) (v165 : BitVec 32) (v234 : BitVec 32) (k0_hw4 : k0_chk4 v27 v96 v165 v234), (k0_t74_loop v234).OK := fun v27 v96 v165 v234 k0_hw4 => k0_hw4.2.2.2.2.2.2.2.2.2.2.2.2.2.2.2.2.2.1
theorem k0_mult127_dvd : ∀ (v27 : BitVec 32) (v96 : BitVec 32) (v165 : BitVec 32) (v234 : BitVec 32) (k0_hw4 : k0_chk4 v27 v96 v165 v234) (k0_t74 : Fin (k0_t74_loop v234).trips), 32 ∣ (k0_mult127 v27 v96 v165 v234 k0_t74).toNat := fun v27 v96 v165 v234 k0_hw4 k0_t74 => k0_hw4.2.2.2.2.2.2.2.2.2.2.2.2.2.2.2.2.2.2.1 k0_t74
theorem k0_off185_inb : ∀ (v27 : BitVec 32) (v96 : BitVec 32) (v165 : BitVec 32) (v234 : BitVec 32) (k0_hw4 : k0_chk4 v27 v96 v165 v234) (k0_t66 : Fin k0_t66_loop.trips) (k0_t74 : Fin (k0_t74_loop v234).trips), ∀ a, (k0_off185 v27 v96 v165 v234 k0_t66 k0_t74) a + S1x1024.size a ≤ S13x8192.size a := fun v27 v96 v165 v234 k0_hw4 k0_t66 k0_t74 => k0_hw4.2.2.2.2.2.2.2.2.2.2.2.2.2.2.2.2.2.2.2.1 k0_t66 k0_t74
theorem k0_off186_inb : ∀ (v27 : BitVec 32) (v96 : BitVec 32) (v165 : BitVec 32) (v234 : BitVec 32) (k0_hw4 : k0_chk4 v27 v96 v165 v234) (k0_t66 : Fin k0_t66_loop.trips) (k0_t74 : Fin (k0_t74_loop v234).trips), ∀ a, (k0_off186 v27 v96 v165 v234 k0_t66 k0_t74) a + S1x160x1024.size a ≤ S2x1536x1024.size a := fun v27 v96 v165 v234 k0_hw4 k0_t66 k0_t74 => k0_hw4.2.2.2.2.2.2.2.2.2.2.2.2.2.2.2.2.2.2.2.2.1 k0_t66 k0_t74
theorem k0_off187_inb : ∀ (v27 : BitVec 32) (v96 : BitVec 32) (v165 : BitVec 32) (v234 : BitVec 32) (k0_hw4 : k0_chk4 v27 v96 v165 v234) (k0_t74 : Fin (k0_t74_loop v234).trips), ∀ a, (k0_off187 v27 v96 v165 v234 k0_t74) a + S160x1024.size a ≤ S1792x1024.size a := fun v27 v96 v165 v234 k0_hw4 k0_t74 => k0_hw4.2.2.2.2.2.2.2.2.2.2.2.2.2.2.2.2.2.2.2.2.2.1 k0_t74
theorem k0_off187_packedbf16 : ∀ (v27 : BitVec 32) (v96 : BitVec 32) (v165 : BitVec 32) (v234 : BitVec 32) (k0_hw4 : k0_chk4 v27 v96 v165 v234) (k0_t74 : Fin (k0_t74_loop v234).trips), (Rect.unit (s := S1792x1024) (k0_off187 v27 v96 v165 v234 k0_t74) S160x1024.size (k0_off187_inb v27 v96 v165 v234 k0_hw4 k0_t74)).PackedRows (EltTy.packing .bf16) := fun v27 v96 v165 v234 k0_hw4 k0_t74 => k0_hw4.2.2.2.2.2.2.2.2.2.2.2.2.2.2.2.2.2.2.2.2.2.2 k0_t74 (k0_off187_inb v27 v96 v165 v234 k0_hw4 k0_t74)

@[reducible] def k0_t75_loop (v303 : BitVec 32) : Scf.Loop 32 :=
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let c1_i32_612 : BitVec 32 := 1#32
  ⟨c0_i32_610, v752, c1_i32_612⟩
def k0_mult128 (v27 : BitVec 32) (v96 : BitVec 32) (v165 : BitVec 32) (v234 : BitVec 32) (v303 : BitVec 32) (k0_t75 : Fin (k0_t75_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c1_i32_612 : BitVec 32 := 1#32
  let arg22 : BitVec 32 := Scf.iv c0_i32_610 c1_i32_612 k0_t75
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off188 (v27 : BitVec 32) (v96 : BitVec 32) (v165 : BitVec 32) (v234 : BitVec 32) (v303 : BitVec 32) (k0_t66 : Fin k0_t66_loop.trips) (k0_t75 : Fin (k0_t75_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_609 : BitVec 32 := 0#32
  let c0_i32_610 : BitVec 32 := 0#32
  let c1_i32_612 : BitVec 32 := 1#32
  let arg22 : BitVec 32 := Scf.iv c0_i32_610 c1_i32_612 k0_t75
  let c1_i32_608 : BitVec 32 := 1#32
  let v755 : BitVec 32 := Scalar.muli arg22 c1_i32_608
  let v756 : BitVec 32 := Scalar.addi c0_i32_609 v755
  let v781 : BitVec 32 := Scalar.addi v297 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off189 (v27 : BitVec 32) (v96 : BitVec 32) (v165 : BitVec 32) (v234 : BitVec 32) (v303 : BitVec 32) (k0_t66 : Fin k0_t66_loop.trips) (k0_t75 : Fin (k0_t75_loop v303).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c1_i32_612 : BitVec 32 := 1#32
  let arg22 : BitVec 32 := Scf.iv c0_i32_610 c1_i32_612 k0_t75
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off190 (v27 : BitVec 32) (v96 : BitVec 32) (v165 : BitVec 32) (v234 : BitVec 32) (v303 : BitVec 32) (k0_t75 : Fin (k0_t75_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c1_i32_612 : BitVec 32 := 1#32
  let arg22 : BitVec 32 := Scf.iv c0_i32_610 c1_i32_612 k0_t75
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]
@[reducible] def k0_t76_loop (v303 : BitVec 32) : Scf.Loop 32 :=
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let v749 : BitVec 32 := Scalar.addi c0_i32_610 v748
  let c1_i32_613 : BitVec 32 := 1#32
  ⟨v752, v749, c1_i32_613⟩
def k0_mult129 (v27 : BitVec 32) (v96 : BitVec 32) (v165 : BitVec 32) (v234 : BitVec 32) (v303 : BitVec 32) (k0_t76 : Fin (k0_t76_loop v303).trips) : BitVec 32 :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let c1_i32_613 : BitVec 32 := 1#32
  let arg22 : BitVec 32 := Scf.iv v752 c1_i32_613 k0_t76
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  v779
def k0_off191 (v27 : BitVec 32) (v96 : BitVec 32) (v165 : BitVec 32) (v234 : BitVec 32) (v303 : BitVec 32) (k0_t66 : Fin k0_t66_loop.trips) (k0_t76 : Fin (k0_t76_loop v303).trips) : Fin 2 → Nat :=
  let c0_i32_48 : BitVec 32 := 0#32
  let c127_i32 : BitVec 32 := 127#32
  let v48 : BitVec 32 := Scalar.addi v27 c127_i32
  let c0_i32_29 : BitVec 32 := 0#32
  let v50 : BitVec 1 := Scalar.cmpi .sgt v48 c0_i32_29
  let v51 : BitVec 32 := Scalar.extui v50
  let c0_i32_30 : BitVec 32 := 0#32
  let v52 : BitVec 1 := Scalar.cmpi .slt v48 c0_i32_30
  let v53 : BitVec 32 := Scalar.extui v52
  let v54 : BitVec 32 := Scalar.subi v51 v53
  let c128_i32 : BitVec 32 := 128#32
  let c0_i32_31 : BitVec 32 := 0#32
  let v55 : BitVec 1 := Scalar.cmpi .sgt c128_i32 c0_i32_31
  let v56 : BitVec 32 := Scalar.extui v55
  let c0_i32_32 : BitVec 32 := 0#32
  let v57 : BitVec 1 := Scalar.cmpi .slt c128_i32 c0_i32_32
  let v58 : BitVec 32 := Scalar.extui v57
  let v59 : BitVec 32 := Scalar.subi v56 v58
  let v60 : BitVec 1 := Scalar.cmpi .ne v54 v59
  let v61 : BitVec 32 := Scalar.remsi v48 c128_i32
  let c0_i32_33 : BitVec 32 := 0#32
  let v62 : BitVec 1 := Scalar.cmpi .ne v61 c0_i32_33
  let v63 : BitVec 1 := Scalar.andi v60 v62
  let v49 : BitVec 32 := Scalar.divsi v48 c128_i32
  let c1_i32_34 : BitVec 32 := 1#32
  let v64 : BitVec 32 := Scalar.subi v49 c1_i32_34
  let v65 : BitVec 32 := Scalar.select v63 v64 v49
  let v90 : BitVec 32 := Scalar.addi c0_i32_48 v65
  let c127_i32_62 : BitVec 32 := 127#32
  let v117 : BitVec 32 := Scalar.addi v96 c127_i32_62
  let c0_i32_64 : BitVec 32 := 0#32
  let v119 : BitVec 1 := Scalar.cmpi .sgt v117 c0_i32_64
  let v120 : BitVec 32 := Scalar.extui v119
  let c0_i32_65 : BitVec 32 := 0#32
  let v121 : BitVec 1 := Scalar.cmpi .slt v117 c0_i32_65
  let v122 : BitVec 32 := Scalar.extui v121
  let v123 : BitVec 32 := Scalar.subi v120 v122
  let c128_i32_63 : BitVec 32 := 128#32
  let c0_i32_66 : BitVec 32 := 0#32
  let v124 : BitVec 1 := Scalar.cmpi .sgt c128_i32_63 c0_i32_66
  let v125 : BitVec 32 := Scalar.extui v124
  let c0_i32_67 : BitVec 32 := 0#32
  let v126 : BitVec 1 := Scalar.cmpi .slt c128_i32_63 c0_i32_67
  let v127 : BitVec 32 := Scalar.extui v126
  let v128 : BitVec 32 := Scalar.subi v125 v127
  let v129 : BitVec 1 := Scalar.cmpi .ne v123 v128
  let v130 : BitVec 32 := Scalar.remsi v117 c128_i32_63
  let c0_i32_68 : BitVec 32 := 0#32
  let v131 : BitVec 1 := Scalar.cmpi .ne v130 c0_i32_68
  let v132 : BitVec 1 := Scalar.andi v129 v131
  let v118 : BitVec 32 := Scalar.divsi v117 c128_i32_63
  let c1_i32_69 : BitVec 32 := 1#32
  let v133 : BitVec 32 := Scalar.subi v118 c1_i32_69
  let v134 : BitVec 32 := Scalar.select v132 v133 v118
  let v159 : BitVec 32 := Scalar.addi v90 v134
  let c127_i32_98 : BitVec 32 := 127#32
  let v186 : BitVec 32 := Scalar.addi v165 c127_i32_98
  let c0_i32_100 : BitVec 32 := 0#32
  let v188 : BitVec 1 := Scalar.cmpi .sgt v186 c0_i32_100
  let v189 : BitVec 32 := Scalar.extui v188
  let c0_i32_101 : BitVec 32 := 0#32
  let v190 : BitVec 1 := Scalar.cmpi .slt v186 c0_i32_101
  let v191 : BitVec 32 := Scalar.extui v190
  let v192 : BitVec 32 := Scalar.subi v189 v191
  let c128_i32_99 : BitVec 32 := 128#32
  let c0_i32_102 : BitVec 32 := 0#32
  let v193 : BitVec 1 := Scalar.cmpi .sgt c128_i32_99 c0_i32_102
  let v194 : BitVec 32 := Scalar.extui v193
  let c0_i32_103 : BitVec 32 := 0#32
  let v195 : BitVec 1 := Scalar.cmpi .slt c128_i32_99 c0_i32_103
  let v196 : BitVec 32 := Scalar.extui v195
  let v197 : BitVec 32 := Scalar.subi v194 v196
  let v198 : BitVec 1 := Scalar.cmpi .ne v192 v197
  let v199 : BitVec 32 := Scalar.remsi v186 c128_i32_99
  let c0_i32_104 : BitVec 32 := 0#32
  let v200 : BitVec 1 := Scalar.cmpi .ne v199 c0_i32_104
  let v201 : BitVec 1 := Scalar.andi v198 v200
  let v187 : BitVec 32 := Scalar.divsi v186 c128_i32_99
  let c1_i32_105 : BitVec 32 := 1#32
  let v202 : BitVec 32 := Scalar.subi v187 c1_i32_105
  let v203 : BitVec 32 := Scalar.select v201 v202 v187
  let v228 : BitVec 32 := Scalar.addi v159 v203
  let c127_i32_133 : BitVec 32 := 127#32
  let v255 : BitVec 32 := Scalar.addi v234 c127_i32_133
  let c0_i32_135 : BitVec 32 := 0#32
  let v257 : BitVec 1 := Scalar.cmpi .sgt v255 c0_i32_135
  let v258 : BitVec 32 := Scalar.extui v257
  let c0_i32_136 : BitVec 32 := 0#32
  let v259 : BitVec 1 := Scalar.cmpi .slt v255 c0_i32_136
  let v260 : BitVec 32 := Scalar.extui v259
  let v261 : BitVec 32 := Scalar.subi v258 v260
  let c128_i32_134 : BitVec 32 := 128#32
  let c0_i32_137 : BitVec 32 := 0#32
  let v262 : BitVec 1 := Scalar.cmpi .sgt c128_i32_134 c0_i32_137
  let v263 : BitVec 32 := Scalar.extui v262
  let c0_i32_138 : BitVec 32 := 0#32
  let v264 : BitVec 1 := Scalar.cmpi .slt c128_i32_134 c0_i32_138
  let v265 : BitVec 32 := Scalar.extui v264
  let v266 : BitVec 32 := Scalar.subi v263 v265
  let v267 : BitVec 1 := Scalar.cmpi .ne v261 v266
  let v268 : BitVec 32 := Scalar.remsi v255 c128_i32_134
  let c0_i32_139 : BitVec 32 := 0#32
  let v269 : BitVec 1 := Scalar.cmpi .ne v268 c0_i32_139
  let v270 : BitVec 1 := Scalar.andi v267 v269
  let v256 : BitVec 32 := Scalar.divsi v255 c128_i32_134
  let c1_i32_140 : BitVec 32 := 1#32
  let v271 : BitVec 32 := Scalar.subi v256 c1_i32_140
  let v272 : BitVec 32 := Scalar.select v270 v271 v256
  let v297 : BitVec 32 := Scalar.addi v228 v272
  let c0_i32_609 : BitVec 32 := 0#32
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let c1_i32_613 : BitVec 32 := 1#32
  let arg22 : BitVec 32 := Scf.iv v752 c1_i32_613 k0_t76
  let c1_i32_608 : BitVec 32 := 1#32
  let v755 : BitVec 32 := Scalar.muli arg22 c1_i32_608
  let v756 : BitVec 32 := Scalar.addi c0_i32_609 v755
  let v781 : BitVec 32 := Scalar.addi v297 v756
  let v782 : Index := Scalar.indexCast v781
  let c0_i32_529 : BitVec 32 := 0#32
  let c1_i32_530 : BitVec 32 := 1#32
  let arg20 : BitVec 32 := Scf.iv c0_i32_529 c1_i32_530 k0_t66
  let c1024_i32_563 : BitVec 32 := 1024#32
  let v706 : BitVec 32 := Scalar.muli arg20 c1024_i32_563
  let v707 : BitVec 32 := v706
  let v783 : Index := Scalar.indexCast v707
  ![v782.toNat, v783.toNat]
def k0_off192 (v27 : BitVec 32) (v96 : BitVec 32) (v165 : BitVec 32) (v234 : BitVec 32) (v303 : BitVec 32) (k0_t66 : Fin k0_t66_loop.trips) (k0_t76 : Fin (k0_t76_loop v303).trips) : Fin 3 → Nat :=
  let c0_i32_529 : BitVec 32 := 0#32
  let c1_i32_530 : BitVec 32 := 1#32
  let arg20 : BitVec 32 := Scf.iv c0_i32_529 c1_i32_530 k0_t66
  let c2_i32_562 : BitVec 32 := 2#32
  let v705 : BitVec 32 := Scalar.remsi arg20 c2_i32_562
  let v786 : Index := Scalar.indexCast v705
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let c1_i32_613 : BitVec 32 := 1#32
  let arg22 : BitVec 32 := Scf.iv v752 c1_i32_613 k0_t76
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v787 : Index := Scalar.indexCast v780
  let c0_626 : Index := 0#32
  ![v786.toNat, v787.toNat, 0]
def k0_off193 (v27 : BitVec 32) (v96 : BitVec 32) (v165 : BitVec 32) (v234 : BitVec 32) (v303 : BitVec 32) (k0_t76 : Fin (k0_t76_loop v303).trips) : Fin 2 → Nat :=
  let c0_i32_20 : BitVec 32 := 0#32
  let v28 : BitVec 32 := Scalar.addi c0_i32_20 v27
  let v97 : BitVec 32 := Scalar.addi v28 v96
  let v166 : BitVec 32 := Scalar.addi v97 v165
  let v235 : BitVec 32 := Scalar.addi v166 v234
  let c0_i32_609 : BitVec 32 := 0#32
  let c0_i32_610 : BitVec 32 := 0#32
  let c127_i32_168 : BitVec 32 := 127#32
  let v324 : BitVec 32 := Scalar.addi v303 c127_i32_168
  let c0_i32_170 : BitVec 32 := 0#32
  let v326 : BitVec 1 := Scalar.cmpi .sgt v324 c0_i32_170
  let v327 : BitVec 32 := Scalar.extui v326
  let c0_i32_171 : BitVec 32 := 0#32
  let v328 : BitVec 1 := Scalar.cmpi .slt v324 c0_i32_171
  let v329 : BitVec 32 := Scalar.extui v328
  let v330 : BitVec 32 := Scalar.subi v327 v329
  let c128_i32_169 : BitVec 32 := 128#32
  let c0_i32_172 : BitVec 32 := 0#32
  let v331 : BitVec 1 := Scalar.cmpi .sgt c128_i32_169 c0_i32_172
  let v332 : BitVec 32 := Scalar.extui v331
  let c0_i32_173 : BitVec 32 := 0#32
  let v333 : BitVec 1 := Scalar.cmpi .slt c128_i32_169 c0_i32_173
  let v334 : BitVec 32 := Scalar.extui v333
  let v335 : BitVec 32 := Scalar.subi v332 v334
  let v336 : BitVec 1 := Scalar.cmpi .ne v330 v335
  let v337 : BitVec 32 := Scalar.remsi v324 c128_i32_169
  let c0_i32_174 : BitVec 32 := 0#32
  let v338 : BitVec 1 := Scalar.cmpi .ne v337 c0_i32_174
  let v339 : BitVec 1 := Scalar.andi v336 v338
  let v325 : BitVec 32 := Scalar.divsi v324 c128_i32_169
  let c1_i32_175 : BitVec 32 := 1#32
  let v340 : BitVec 32 := Scalar.subi v325 c1_i32_175
  let v341 : BitVec 32 := Scalar.select v339 v340 v325
  let c0_i32_604 : BitVec 32 := 0#32
  let v744 : BitVec 32 := Scalar.subi v341 c0_i32_604
  let c1_i32_605 : BitVec 32 := 1#32
  let c1_i32_606 : BitVec 32 := 1#32
  let v745 : BitVec 32 := Scalar.subi c1_i32_605 c1_i32_606
  let v746 : BitVec 32 := Scalar.addi v744 v745
  let c1_i32_607 : BitVec 32 := 1#32
  let v747 : BitVec 32 := Scalar.divsi v746 c1_i32_607
  let v748 : BitVec 32 := Scalar.subi v747 c0_i32_610
  let c1_i32_611 : BitVec 32 := 1#32
  let v750 : BitVec 32 := Scalar.divsi v748 c1_i32_611
  let v751 : BitVec 32 := Scalar.muli v750 c1_i32_611
  let v752 : BitVec 32 := Scalar.addi c0_i32_610 v751
  let c1_i32_613 : BitVec 32 := 1#32
  let arg22 : BitVec 32 := Scf.iv v752 c1_i32_613 k0_t76
  let c1_i32_608 : BitVec 32 := 1#32
  let v755 : BitVec 32 := Scalar.muli arg22 c1_i32_608
  let v756 : BitVec 32 := Scalar.addi c0_i32_609 v755
  let c128_i32_617 : BitVec 32 := 128#32
  let v757 : BitVec 32 := Scalar.muli v756 c128_i32_617
  let v758 : BitVec 32 := Scalar.addi v235 v757
  let c0_i32_619 : BitVec 32 := 0#32
  let v762 : BitVec 1 := Scalar.cmpi .sgt v758 c0_i32_619
  let v763 : BitVec 32 := Scalar.extui v762
  let c0_i32_620 : BitVec 32 := 0#32
  let v764 : BitVec 1 := Scalar.cmpi .slt v758 c0_i32_620
  let v765 : BitVec 32 := Scalar.extui v764
  let v766 : BitVec 32 := Scalar.subi v763 v765
  let c32_i32 : BitVec 32 := 32#32
  let c0_i32_621 : BitVec 32 := 0#32
  let v767 : BitVec 1 := Scalar.cmpi .sgt c32_i32 c0_i32_621
  let v768 : BitVec 32 := Scalar.extui v767
  let c0_i32_622 : BitVec 32 := 0#32
  let v769 : BitVec 1 := Scalar.cmpi .slt c32_i32 c0_i32_622
  let v770 : BitVec 32 := Scalar.extui v769
  let v771 : BitVec 32 := Scalar.subi v768 v770
  let v772 : BitVec 1 := Scalar.cmpi .ne v766 v771
  let v773 : BitVec 32 := Scalar.remsi v758 c32_i32
  let c0_i32_623 : BitVec 32 := 0#32
  let v774 : BitVec 1 := Scalar.cmpi .ne v773 c0_i32_623
  let v775 : BitVec 1 := Scalar.andi v772 v774
  let v761 : BitVec 32 := Scalar.divsi v758 c32_i32
  let c1_i32_624 : BitVec 32 := 1#32
  let v776 : BitVec 32 := Scalar.subi v761 c1_i32_624
  let v777 : BitVec 32 := Scalar.select v775 v776 v761
  let c32_i32_625 : BitVec 32 := 32#32
  let v778 : BitVec 32 := Scalar.muli v777 c32_i32_625
  let c1376_i32 : BitVec 32 := 1376#32
  let v779 : BitVec 32 := Scalar.minsi v778 c1376_i32
  let v780 : BitVec 32 := v779
  let v801 : Index := Scalar.indexCast v780
  let c0_627 : Index := 0#32
  ![v801.toNat, 0]

def k0_chk5_0 (v27 : BitVec 32) (v96 : BitVec 32) (v165 : BitVec 32) (v234 : BitVec 32) (v303 : BitVec 32) : Prop :=
  ((k0_t14_loop v303).OK) ∧
  (∀ k0_t14 : Fin (k0_t14_loop v303).trips, 32 ∣ (k0_mult35 v27 v96 v165 v234 v303 k0_t14).toNat) ∧
  (∀ k0_t14 : Fin (k0_t14_loop v303).trips, ∀ a, (k0_off32 v27 v96 v165 v234 v303 k0_t14) a + S1x1024.size a ≤ S13x3072.size a) ∧
  (∀ k0_t14 : Fin (k0_t14_loop v303).trips, ∀ a, (k0_off33 v27 v96 v165 v234 v303 k0_t14) a + S160x1024.size a ≤ S1536x3072.size a) ∧
  (∀ k0_t14 : Fin (k0_t14_loop v303).trips, ∀ a, (k0_off34 v27 v96 v165 v234 v303 k0_t14) a + S160x1024.size a ≤ S1792x1024.size a) ∧
  (∀ k0_t14 : Fin (k0_t14_loop v303).trips, ∀ (hinb : ∀ a, (k0_off34 v27 v96 v165 v234 v303 k0_t14) a + S160x1024.size a ≤ S1792x1024.size a), (Rect.unit (s := S1792x1024) (k0_off34 v27 v96 v165 v234 v303 k0_t14) S160x1024.size hinb).PackedRows (EltTy.packing .bf16)) ∧
  ((k0_t15_loop v303).OK) ∧
  (∀ k0_t15 : Fin (k0_t15_loop v303).trips, 32 ∣ (k0_mult36 v27 v96 v165 v234 v303 k0_t15).toNat) ∧
  (∀ k0_t15 : Fin (k0_t15_loop v303).trips, ∀ a, (k0_off35 v27 v96 v165 v234 v303 k0_t15) a + S1x1024.size a ≤ S13x3072.size a) ∧
  (∀ k0_t15 : Fin (k0_t15_loop v303).trips, ∀ a, (k0_off36 v27 v96 v165 v234 v303 k0_t15) a + S160x1024.size a ≤ S1536x3072.size a) ∧
  (∀ k0_t15 : Fin (k0_t15_loop v303).trips, ∀ a, (k0_off37 v27 v96 v165 v234 v303 k0_t15) a + S160x1024.size a ≤ S1792x1024.size a) ∧
  (∀ k0_t15 : Fin (k0_t15_loop v303).trips, ∀ (hinb : ∀ a, (k0_off37 v27 v96 v165 v234 v303 k0_t15) a + S160x1024.size a ≤ S1792x1024.size a), (Rect.unit (s := S1792x1024) (k0_off37 v27 v96 v165 v234 v303 k0_t15) S160x1024.size hinb).PackedRows (EltTy.packing .bf16)) ∧
  ((k0_t24_loop v27 v96 v165 v234 v303).OK) ∧
  (∀ k0_t24 : Fin (k0_t24_loop v27 v96 v165 v234 v303).trips, 16 ∣ (k0_mult53 v27 v96 v165 v234 v303 k0_t24).toNat) ∧
  (∀ k0_t24 : Fin (k0_t24_loop v27 v96 v165 v234 v303).trips, ∀ a, (k0_off54 v27 v96 v165 v234 v303 k0_t24) a + S256x1024.size a ≤ S1792x1024.size a) ∧
  (∀ k0_t24 : Fin (k0_t24_loop v27 v96 v165 v234 v303).trips, 256 ∣ (k0_mult54 v27 v96 v165 v234 v303 k0_t24).toNat) ∧
  (∀ k0_t24 : Fin (k0_t24_loop v27 v96 v165 v234 v303).trips, ∀ a, (k0_off55 v27 v96 v165 v234 v303 k0_t24) a + S1024x256.size a ≤ S3072x2816.size a) ∧
  (∀ k0_t24 : Fin (k0_t24_loop v27 v96 v165 v234 v303).trips, ∀ (hinb : ∀ a, (k0_off55 v27 v96 v165 v234 v303 k0_t24) a + S1024x256.size a ≤ S3072x2816.size a), (Rect.unit (s := S3072x2816) (k0_off55 v27 v96 v165 v234 v303 k0_t24) S1024x256.size hinb).PackedRows (EltTy.packing .bf16)) ∧
  ((k0_t25_loop v27 v96 v165 v234 v303).OK) ∧
  (∀ k0_t25 : Fin (k0_t25_loop v27 v96 v165 v234 v303).trips, 16 ∣ (k0_mult55 v27 v96 v165 v234 v303 k0_t25).toNat) ∧
  (∀ k0_t25 : Fin (k0_t25_loop v27 v96 v165 v234 v303).trips, ∀ a, (k0_off56 v27 v96 v165 v234 v303 k0_t25) a + S256x1024.size a ≤ S1792x1024.size a) ∧
  (∀ k0_t25 : Fin (k0_t25_loop v27 v96 v165 v234 v303).trips, 256 ∣ (k0_mult56 v27 v96 v165 v234 v303 k0_t25).toNat) ∧
  (∀ k0_t25 : Fin (k0_t25_loop v27 v96 v165 v234 v303).trips, ∀ a, (k0_off57 v27 v96 v165 v234 v303 k0_t25) a + S1024x256.size a ≤ S3072x2816.size a) ∧
  (∀ k0_t25 : Fin (k0_t25_loop v27 v96 v165 v234 v303).trips, ∀ (hinb : ∀ a, (k0_off57 v27 v96 v165 v234 v303 k0_t25) a + S1024x256.size a ≤ S3072x2816.size a), (Rect.unit (s := S3072x2816) (k0_off57 v27 v96 v165 v234 v303 k0_t25) S1024x256.size hinb).PackedRows (EltTy.packing .bf16)) ∧
  ((k0_t34_loop v303).OK) ∧
  (∀ k0_t34 : Fin (k0_t34_loop v303).trips, 32 ∣ (k0_mult65 v27 v96 v165 v234 v303 k0_t34).toNat) ∧
  (∀ k0_t34 : Fin (k0_t34_loop v303).trips, ∀ a, (k0_off82 v27 v96 v165 v234 v303 k0_t34) a + S1x1024.size a ≤ S13x3072.size a) ∧
  (∀ k0_t34 : Fin (k0_t34_loop v303).trips, ∀ a, (k0_off83 v27 v96 v165 v234 v303 k0_t34) a + S160x1024.size a ≤ S1536x3072.size a) ∧
  (∀ k0_t34 : Fin (k0_t34_loop v303).trips, ∀ a, (k0_off84 v27 v96 v165 v234 v303 k0_t34) a + S160x1024.size a ≤ S1792x1024.size a) ∧
  (∀ k0_t34 : Fin (k0_t34_loop v303).trips, ∀ (hinb : ∀ a, (k0_off84 v27 v96 v165 v234 v303 k0_t34) a + S160x1024.size a ≤ S1792x1024.size a), (Rect.unit (s := S1792x1024) (k0_off84 v27 v96 v165 v234 v303 k0_t34) S160x1024.size hinb).PackedRows (EltTy.packing .bf16)) ∧
  ((k0_t35_loop v303).OK) ∧
  (∀ k0_t35 : Fin (k0_t35_loop v303).trips, 32 ∣ (k0_mult66 v27 v96 v165 v234 v303 k0_t35).toNat)
def k0_chk5_1 (v27 : BitVec 32) (v96 : BitVec 32) (v165 : BitVec 32) (v234 : BitVec 32) (v303 : BitVec 32) : Prop :=
  (∀ k0_t35 : Fin (k0_t35_loop v303).trips, ∀ a, (k0_off85 v27 v96 v165 v234 v303 k0_t35) a + S1x1024.size a ≤ S13x3072.size a) ∧
  (∀ k0_t35 : Fin (k0_t35_loop v303).trips, ∀ a, (k0_off86 v27 v96 v165 v234 v303 k0_t35) a + S160x1024.size a ≤ S1536x3072.size a) ∧
  (∀ k0_t35 : Fin (k0_t35_loop v303).trips, ∀ a, (k0_off87 v27 v96 v165 v234 v303 k0_t35) a + S160x1024.size a ≤ S1792x1024.size a) ∧
  (∀ k0_t35 : Fin (k0_t35_loop v303).trips, ∀ (hinb : ∀ a, (k0_off87 v27 v96 v165 v234 v303 k0_t35) a + S160x1024.size a ≤ S1792x1024.size a), (Rect.unit (s := S1792x1024) (k0_off87 v27 v96 v165 v234 v303 k0_t35) S160x1024.size hinb).PackedRows (EltTy.packing .bf16)) ∧
  ((k0_t44_loop v27 v96 v165 v234 v303).OK) ∧
  (∀ k0_t44 : Fin (k0_t44_loop v27 v96 v165 v234 v303).trips, 16 ∣ (k0_mult83 v27 v96 v165 v234 v303 k0_t44).toNat) ∧
  (∀ k0_t44 : Fin (k0_t44_loop v27 v96 v165 v234 v303).trips, ∀ a, (k0_off104 v27 v96 v165 v234 v303 k0_t44) a + S256x1024.size a ≤ S1792x1024.size a) ∧
  (∀ k0_t44 : Fin (k0_t44_loop v27 v96 v165 v234 v303).trips, 256 ∣ (k0_mult84 v27 v96 v165 v234 v303 k0_t44).toNat) ∧
  (∀ k0_t44 : Fin (k0_t44_loop v27 v96 v165 v234 v303).trips, ∀ a, (k0_off105 v27 v96 v165 v234 v303 k0_t44) a + S1024x256.size a ≤ S3072x2816.size a) ∧
  (∀ k0_t44 : Fin (k0_t44_loop v27 v96 v165 v234 v303).trips, ∀ (hinb : ∀ a, (k0_off105 v27 v96 v165 v234 v303 k0_t44) a + S1024x256.size a ≤ S3072x2816.size a), (Rect.unit (s := S3072x2816) (k0_off105 v27 v96 v165 v234 v303 k0_t44) S1024x256.size hinb).PackedRows (EltTy.packing .bf16)) ∧
  ((k0_t45_loop v27 v96 v165 v234 v303).OK) ∧
  (∀ k0_t45 : Fin (k0_t45_loop v27 v96 v165 v234 v303).trips, 16 ∣ (k0_mult85 v27 v96 v165 v234 v303 k0_t45).toNat) ∧
  (∀ k0_t45 : Fin (k0_t45_loop v27 v96 v165 v234 v303).trips, ∀ a, (k0_off106 v27 v96 v165 v234 v303 k0_t45) a + S256x1024.size a ≤ S1792x1024.size a) ∧
  (∀ k0_t45 : Fin (k0_t45_loop v27 v96 v165 v234 v303).trips, 256 ∣ (k0_mult86 v27 v96 v165 v234 v303 k0_t45).toNat) ∧
  (∀ k0_t45 : Fin (k0_t45_loop v27 v96 v165 v234 v303).trips, ∀ a, (k0_off107 v27 v96 v165 v234 v303 k0_t45) a + S1024x256.size a ≤ S3072x2816.size a) ∧
  (∀ k0_t45 : Fin (k0_t45_loop v27 v96 v165 v234 v303).trips, ∀ (hinb : ∀ a, (k0_off107 v27 v96 v165 v234 v303 k0_t45) a + S1024x256.size a ≤ S3072x2816.size a), (Rect.unit (s := S3072x2816) (k0_off107 v27 v96 v165 v234 v303 k0_t45) S1024x256.size hinb).PackedRows (EltTy.packing .bf16)) ∧
  ((k0_t54_loop v303).OK) ∧
  (∀ k0_t54 : Fin (k0_t54_loop v303).trips, 32 ∣ (k0_mult95 v27 v96 v165 v234 v303 k0_t54).toNat) ∧
  (∀ k0_t54 : Fin (k0_t54_loop v303).trips, ∀ a, (k0_off132 v27 v96 v165 v234 v303 k0_t54) a + S1x1024.size a ≤ S13x3072.size a) ∧
  (∀ k0_t54 : Fin (k0_t54_loop v303).trips, ∀ a, (k0_off133 v27 v96 v165 v234 v303 k0_t54) a + S160x1024.size a ≤ S1536x3072.size a) ∧
  (∀ k0_t54 : Fin (k0_t54_loop v303).trips, ∀ a, (k0_off134 v27 v96 v165 v234 v303 k0_t54) a + S160x1024.size a ≤ S1792x1024.size a) ∧
  (∀ k0_t54 : Fin (k0_t54_loop v303).trips, ∀ (hinb : ∀ a, (k0_off134 v27 v96 v165 v234 v303 k0_t54) a + S160x1024.size a ≤ S1792x1024.size a), (Rect.unit (s := S1792x1024) (k0_off134 v27 v96 v165 v234 v303 k0_t54) S160x1024.size hinb).PackedRows (EltTy.packing .bf16)) ∧
  ((k0_t55_loop v303).OK) ∧
  (∀ k0_t55 : Fin (k0_t55_loop v303).trips, 32 ∣ (k0_mult96 v27 v96 v165 v234 v303 k0_t55).toNat) ∧
  (∀ k0_t55 : Fin (k0_t55_loop v303).trips, ∀ a, (k0_off135 v27 v96 v165 v234 v303 k0_t55) a + S1x1024.size a ≤ S13x3072.size a) ∧
  (∀ k0_t55 : Fin (k0_t55_loop v303).trips, ∀ a, (k0_off136 v27 v96 v165 v234 v303 k0_t55) a + S160x1024.size a ≤ S1536x3072.size a) ∧
  (∀ k0_t55 : Fin (k0_t55_loop v303).trips, ∀ a, (k0_off137 v27 v96 v165 v234 v303 k0_t55) a + S160x1024.size a ≤ S1792x1024.size a) ∧
  (∀ k0_t55 : Fin (k0_t55_loop v303).trips, ∀ (hinb : ∀ a, (k0_off137 v27 v96 v165 v234 v303 k0_t55) a + S160x1024.size a ≤ S1792x1024.size a), (Rect.unit (s := S1792x1024) (k0_off137 v27 v96 v165 v234 v303 k0_t55) S160x1024.size hinb).PackedRows (EltTy.packing .bf16)) ∧
  ((k0_t64_loop v27 v96 v165 v234 v303).OK) ∧
  (∀ k0_t64 : Fin (k0_t64_loop v27 v96 v165 v234 v303).trips, 16 ∣ (k0_mult113 v27 v96 v165 v234 v303 k0_t64).toNat) ∧
  (∀ k0_t64 : Fin (k0_t64_loop v27 v96 v165 v234 v303).trips, ∀ a, (k0_off154 v27 v96 v165 v234 v303 k0_t64) a + S256x1024.size a ≤ S1792x1024.size a) ∧
  (∀ k0_t64 : Fin (k0_t64_loop v27 v96 v165 v234 v303).trips, 256 ∣ (k0_mult114 v27 v96 v165 v234 v303 k0_t64).toNat)
def k0_chk5_2 (v27 : BitVec 32) (v96 : BitVec 32) (v165 : BitVec 32) (v234 : BitVec 32) (v303 : BitVec 32) : Prop :=
  (∀ k0_t64 : Fin (k0_t64_loop v27 v96 v165 v234 v303).trips, ∀ a, (k0_off155 v27 v96 v165 v234 v303 k0_t64) a + S1024x256.size a ≤ S3072x2816.size a) ∧
  (∀ k0_t64 : Fin (k0_t64_loop v27 v96 v165 v234 v303).trips, ∀ (hinb : ∀ a, (k0_off155 v27 v96 v165 v234 v303 k0_t64) a + S1024x256.size a ≤ S3072x2816.size a), (Rect.unit (s := S3072x2816) (k0_off155 v27 v96 v165 v234 v303 k0_t64) S1024x256.size hinb).PackedRows (EltTy.packing .bf16)) ∧
  ((k0_t65_loop v27 v96 v165 v234 v303).OK) ∧
  (∀ k0_t65 : Fin (k0_t65_loop v27 v96 v165 v234 v303).trips, 16 ∣ (k0_mult115 v27 v96 v165 v234 v303 k0_t65).toNat) ∧
  (∀ k0_t65 : Fin (k0_t65_loop v27 v96 v165 v234 v303).trips, ∀ a, (k0_off156 v27 v96 v165 v234 v303 k0_t65) a + S256x1024.size a ≤ S1792x1024.size a) ∧
  (∀ k0_t65 : Fin (k0_t65_loop v27 v96 v165 v234 v303).trips, 256 ∣ (k0_mult116 v27 v96 v165 v234 v303 k0_t65).toNat) ∧
  (∀ k0_t65 : Fin (k0_t65_loop v27 v96 v165 v234 v303).trips, ∀ a, (k0_off157 v27 v96 v165 v234 v303 k0_t65) a + S1024x256.size a ≤ S3072x2816.size a) ∧
  (∀ k0_t65 : Fin (k0_t65_loop v27 v96 v165 v234 v303).trips, ∀ (hinb : ∀ a, (k0_off157 v27 v96 v165 v234 v303 k0_t65) a + S1024x256.size a ≤ S3072x2816.size a), (Rect.unit (s := S3072x2816) (k0_off157 v27 v96 v165 v234 v303 k0_t65) S1024x256.size hinb).PackedRows (EltTy.packing .bf16)) ∧
  ((k0_t75_loop v303).OK) ∧
  (∀ k0_t75 : Fin (k0_t75_loop v303).trips, 32 ∣ (k0_mult128 v27 v96 v165 v234 v303 k0_t75).toNat) ∧
  (∀ (k0_t66 : Fin k0_t66_loop.trips) (k0_t75 : Fin (k0_t75_loop v303).trips), ∀ a, (k0_off188 v27 v96 v165 v234 v303 k0_t66 k0_t75) a + S1x1024.size a ≤ S13x8192.size a) ∧
  (∀ (k0_t66 : Fin k0_t66_loop.trips) (k0_t75 : Fin (k0_t75_loop v303).trips), ∀ a, (k0_off189 v27 v96 v165 v234 v303 k0_t66 k0_t75) a + S1x160x1024.size a ≤ S2x1536x1024.size a) ∧
  (∀ k0_t75 : Fin (k0_t75_loop v303).trips, ∀ a, (k0_off190 v27 v96 v165 v234 v303 k0_t75) a + S160x1024.size a ≤ S1792x1024.size a) ∧
  (∀ k0_t75 : Fin (k0_t75_loop v303).trips, ∀ (hinb : ∀ a, (k0_off190 v27 v96 v165 v234 v303 k0_t75) a + S160x1024.size a ≤ S1792x1024.size a), (Rect.unit (s := S1792x1024) (k0_off190 v27 v96 v165 v234 v303 k0_t75) S160x1024.size hinb).PackedRows (EltTy.packing .bf16)) ∧
  ((k0_t76_loop v303).OK) ∧
  (∀ k0_t76 : Fin (k0_t76_loop v303).trips, 32 ∣ (k0_mult129 v27 v96 v165 v234 v303 k0_t76).toNat) ∧
  (∀ (k0_t66 : Fin k0_t66_loop.trips) (k0_t76 : Fin (k0_t76_loop v303).trips), ∀ a, (k0_off191 v27 v96 v165 v234 v303 k0_t66 k0_t76) a + S1x1024.size a ≤ S13x8192.size a) ∧
  (∀ (k0_t66 : Fin k0_t66_loop.trips) (k0_t76 : Fin (k0_t76_loop v303).trips), ∀ a, (k0_off192 v27 v96 v165 v234 v303 k0_t66 k0_t76) a + S1x160x1024.size a ≤ S2x1536x1024.size a) ∧
  (∀ k0_t76 : Fin (k0_t76_loop v303).trips, ∀ a, (k0_off193 v27 v96 v165 v234 v303 k0_t76) a + S160x1024.size a ≤ S1792x1024.size a) ∧
  (∀ k0_t76 : Fin (k0_t76_loop v303).trips, ∀ (hinb : ∀ a, (k0_off193 v27 v96 v165 v234 v303 k0_t76) a + S160x1024.size a ≤ S1792x1024.size a), (Rect.unit (s := S1792x1024) (k0_off193 v27 v96 v165 v234 v303 k0_t76) S160x1024.size hinb).PackedRows (EltTy.packing .bf16))
def k0_chk5 (v27 : BitVec 32) (v96 : BitVec 32) (v165 : BitVec 32) (v234 : BitVec 32) (v303 : BitVec 32) : Prop :=
  k0_chk5_0 v27 v96 v165 v234 v303 ∧
  k0_chk5_1 v27 v96 v165 v234 v303 ∧
  k0_chk5_2 v27 v96 v165 v234 v303
theorem k0_t14_ok : ∀ (v27 : BitVec 32) (v96 : BitVec 32) (v165 : BitVec 32) (v234 : BitVec 32) (v303 : BitVec 32) (k0_hw5 : k0_chk5 v27 v96 v165 v234 v303), (k0_t14_loop v303).OK := fun v27 v96 v165 v234 v303 k0_hw5 => k0_hw5.1.1
theorem k0_mult35_dvd : ∀ (v27 : BitVec 32) (v96 : BitVec 32) (v165 : BitVec 32) (v234 : BitVec 32) (v303 : BitVec 32) (k0_hw5 : k0_chk5 v27 v96 v165 v234 v303) (k0_t14 : Fin (k0_t14_loop v303).trips), 32 ∣ (k0_mult35 v27 v96 v165 v234 v303 k0_t14).toNat := fun v27 v96 v165 v234 v303 k0_hw5 k0_t14 => k0_hw5.1.2.1 k0_t14
theorem k0_off32_inb : ∀ (v27 : BitVec 32) (v96 : BitVec 32) (v165 : BitVec 32) (v234 : BitVec 32) (v303 : BitVec 32) (k0_hw5 : k0_chk5 v27 v96 v165 v234 v303) (k0_t14 : Fin (k0_t14_loop v303).trips), ∀ a, (k0_off32 v27 v96 v165 v234 v303 k0_t14) a + S1x1024.size a ≤ S13x3072.size a := fun v27 v96 v165 v234 v303 k0_hw5 k0_t14 => k0_hw5.1.2.2.1 k0_t14
theorem k0_off33_inb : ∀ (v27 : BitVec 32) (v96 : BitVec 32) (v165 : BitVec 32) (v234 : BitVec 32) (v303 : BitVec 32) (k0_hw5 : k0_chk5 v27 v96 v165 v234 v303) (k0_t14 : Fin (k0_t14_loop v303).trips), ∀ a, (k0_off33 v27 v96 v165 v234 v303 k0_t14) a + S160x1024.size a ≤ S1536x3072.size a := fun v27 v96 v165 v234 v303 k0_hw5 k0_t14 => k0_hw5.1.2.2.2.1 k0_t14
theorem k0_off34_inb : ∀ (v27 : BitVec 32) (v96 : BitVec 32) (v165 : BitVec 32) (v234 : BitVec 32) (v303 : BitVec 32) (k0_hw5 : k0_chk5 v27 v96 v165 v234 v303) (k0_t14 : Fin (k0_t14_loop v303).trips), ∀ a, (k0_off34 v27 v96 v165 v234 v303 k0_t14) a + S160x1024.size a ≤ S1792x1024.size a := fun v27 v96 v165 v234 v303 k0_hw5 k0_t14 => k0_hw5.1.2.2.2.2.1 k0_t14
theorem k0_off34_packedbf16 : ∀ (v27 : BitVec 32) (v96 : BitVec 32) (v165 : BitVec 32) (v234 : BitVec 32) (v303 : BitVec 32) (k0_hw5 : k0_chk5 v27 v96 v165 v234 v303) (k0_t14 : Fin (k0_t14_loop v303).trips), (Rect.unit (s := S1792x1024) (k0_off34 v27 v96 v165 v234 v303 k0_t14) S160x1024.size (k0_off34_inb v27 v96 v165 v234 v303 k0_hw5 k0_t14)).PackedRows (EltTy.packing .bf16) := fun v27 v96 v165 v234 v303 k0_hw5 k0_t14 => k0_hw5.1.2.2.2.2.2.1 k0_t14 (k0_off34_inb v27 v96 v165 v234 v303 k0_hw5 k0_t14)
theorem k0_t15_ok : ∀ (v27 : BitVec 32) (v96 : BitVec 32) (v165 : BitVec 32) (v234 : BitVec 32) (v303 : BitVec 32) (k0_hw5 : k0_chk5 v27 v96 v165 v234 v303), (k0_t15_loop v303).OK := fun v27 v96 v165 v234 v303 k0_hw5 => k0_hw5.1.2.2.2.2.2.2.1
theorem k0_mult36_dvd : ∀ (v27 : BitVec 32) (v96 : BitVec 32) (v165 : BitVec 32) (v234 : BitVec 32) (v303 : BitVec 32) (k0_hw5 : k0_chk5 v27 v96 v165 v234 v303) (k0_t15 : Fin (k0_t15_loop v303).trips), 32 ∣ (k0_mult36 v27 v96 v165 v234 v303 k0_t15).toNat := fun v27 v96 v165 v234 v303 k0_hw5 k0_t15 => k0_hw5.1.2.2.2.2.2.2.2.1 k0_t15
theorem k0_off35_inb : ∀ (v27 : BitVec 32) (v96 : BitVec 32) (v165 : BitVec 32) (v234 : BitVec 32) (v303 : BitVec 32) (k0_hw5 : k0_chk5 v27 v96 v165 v234 v303) (k0_t15 : Fin (k0_t15_loop v303).trips), ∀ a, (k0_off35 v27 v96 v165 v234 v303 k0_t15) a + S1x1024.size a ≤ S13x3072.size a := fun v27 v96 v165 v234 v303 k0_hw5 k0_t15 => k0_hw5.1.2.2.2.2.2.2.2.2.1 k0_t15
theorem k0_off36_inb : ∀ (v27 : BitVec 32) (v96 : BitVec 32) (v165 : BitVec 32) (v234 : BitVec 32) (v303 : BitVec 32) (k0_hw5 : k0_chk5 v27 v96 v165 v234 v303) (k0_t15 : Fin (k0_t15_loop v303).trips), ∀ a, (k0_off36 v27 v96 v165 v234 v303 k0_t15) a + S160x1024.size a ≤ S1536x3072.size a := fun v27 v96 v165 v234 v303 k0_hw5 k0_t15 => k0_hw5.1.2.2.2.2.2.2.2.2.2.1 k0_t15
theorem k0_off37_inb : ∀ (v27 : BitVec 32) (v96 : BitVec 32) (v165 : BitVec 32) (v234 : BitVec 32) (v303 : BitVec 32) (k0_hw5 : k0_chk5 v27 v96 v165 v234 v303) (k0_t15 : Fin (k0_t15_loop v303).trips), ∀ a, (k0_off37 v27 v96 v165 v234 v303 k0_t15) a + S160x1024.size a ≤ S1792x1024.size a := fun v27 v96 v165 v234 v303 k0_hw5 k0_t15 => k0_hw5.1.2.2.2.2.2.2.2.2.2.2.1 k0_t15
theorem k0_off37_packedbf16 : ∀ (v27 : BitVec 32) (v96 : BitVec 32) (v165 : BitVec 32) (v234 : BitVec 32) (v303 : BitVec 32) (k0_hw5 : k0_chk5 v27 v96 v165 v234 v303) (k0_t15 : Fin (k0_t15_loop v303).trips), (Rect.unit (s := S1792x1024) (k0_off37 v27 v96 v165 v234 v303 k0_t15) S160x1024.size (k0_off37_inb v27 v96 v165 v234 v303 k0_hw5 k0_t15)).PackedRows (EltTy.packing .bf16) := fun v27 v96 v165 v234 v303 k0_hw5 k0_t15 => k0_hw5.1.2.2.2.2.2.2.2.2.2.2.2.1 k0_t15 (k0_off37_inb v27 v96 v165 v234 v303 k0_hw5 k0_t15)
theorem k0_t24_ok : ∀ (v27 : BitVec 32) (v96 : BitVec 32) (v165 : BitVec 32) (v234 : BitVec 32) (v303 : BitVec 32) (k0_hw5 : k0_chk5 v27 v96 v165 v234 v303), (k0_t24_loop v27 v96 v165 v234 v303).OK := fun v27 v96 v165 v234 v303 k0_hw5 => k0_hw5.1.2.2.2.2.2.2.2.2.2.2.2.2.1
theorem k0_mult53_dvd : ∀ (v27 : BitVec 32) (v96 : BitVec 32) (v165 : BitVec 32) (v234 : BitVec 32) (v303 : BitVec 32) (k0_hw5 : k0_chk5 v27 v96 v165 v234 v303) (k0_t24 : Fin (k0_t24_loop v27 v96 v165 v234 v303).trips), 16 ∣ (k0_mult53 v27 v96 v165 v234 v303 k0_t24).toNat := fun v27 v96 v165 v234 v303 k0_hw5 k0_t24 => k0_hw5.1.2.2.2.2.2.2.2.2.2.2.2.2.2.1 k0_t24
theorem k0_off54_inb : ∀ (v27 : BitVec 32) (v96 : BitVec 32) (v165 : BitVec 32) (v234 : BitVec 32) (v303 : BitVec 32) (k0_hw5 : k0_chk5 v27 v96 v165 v234 v303) (k0_t24 : Fin (k0_t24_loop v27 v96 v165 v234 v303).trips), ∀ a, (k0_off54 v27 v96 v165 v234 v303 k0_t24) a + S256x1024.size a ≤ S1792x1024.size a := fun v27 v96 v165 v234 v303 k0_hw5 k0_t24 => k0_hw5.1.2.2.2.2.2.2.2.2.2.2.2.2.2.2.1 k0_t24
theorem k0_mult54_dvd : ∀ (v27 : BitVec 32) (v96 : BitVec 32) (v165 : BitVec 32) (v234 : BitVec 32) (v303 : BitVec 32) (k0_hw5 : k0_chk5 v27 v96 v165 v234 v303) (k0_t24 : Fin (k0_t24_loop v27 v96 v165 v234 v303).trips), 256 ∣ (k0_mult54 v27 v96 v165 v234 v303 k0_t24).toNat := fun v27 v96 v165 v234 v303 k0_hw5 k0_t24 => k0_hw5.1.2.2.2.2.2.2.2.2.2.2.2.2.2.2.2.1 k0_t24
theorem k0_off55_inb : ∀ (v27 : BitVec 32) (v96 : BitVec 32) (v165 : BitVec 32) (v234 : BitVec 32) (v303 : BitVec 32) (k0_hw5 : k0_chk5 v27 v96 v165 v234 v303) (k0_t24 : Fin (k0_t24_loop v27 v96 v165 v234 v303).trips), ∀ a, (k0_off55 v27 v96 v165 v234 v303 k0_t24) a + S1024x256.size a ≤ S3072x2816.size a := fun v27 v96 v165 v234 v303 k0_hw5 k0_t24 => k0_hw5.1.2.2.2.2.2.2.2.2.2.2.2.2.2.2.2.2.1 k0_t24
theorem k0_off55_packedbf16 : ∀ (v27 : BitVec 32) (v96 : BitVec 32) (v165 : BitVec 32) (v234 : BitVec 32) (v303 : BitVec 32) (k0_hw5 : k0_chk5 v27 v96 v165 v234 v303) (k0_t24 : Fin (k0_t24_loop v27 v96 v165 v234 v303).trips), (Rect.unit (s := S3072x2816) (k0_off55 v27 v96 v165 v234 v303 k0_t24) S1024x256.size (k0_off55_inb v27 v96 v165 v234 v303 k0_hw5 k0_t24)).PackedRows (EltTy.packing .bf16) := fun v27 v96 v165 v234 v303 k0_hw5 k0_t24 => k0_hw5.1.2.2.2.2.2.2.2.2.2.2.2.2.2.2.2.2.2.1 k0_t24 (k0_off55_inb v27 v96 v165 v234 v303 k0_hw5 k0_t24)
theorem k0_t25_ok : ∀ (v27 : BitVec 32) (v96 : BitVec 32) (v165 : BitVec 32) (v234 : BitVec 32) (v303 : BitVec 32) (k0_hw5 : k0_chk5 v27 v96 v165 v234 v303), (k0_t25_loop v27 v96 v165 v234 v303).OK := fun v27 v96 v165 v234 v303 k0_hw5 => k0_hw5.1.2.2.2.2.2.2.2.2.2.2.2.2.2.2.2.2.2.2.1
theorem k0_mult55_dvd : ∀ (v27 : BitVec 32) (v96 : BitVec 32) (v165 : BitVec 32) (v234 : BitVec 32) (v303 : BitVec 32) (k0_hw5 : k0_chk5 v27 v96 v165 v234 v303) (k0_t25 : Fin (k0_t25_loop v27 v96 v165 v234 v303).trips), 16 ∣ (k0_mult55 v27 v96 v165 v234 v303 k0_t25).toNat := fun v27 v96 v165 v234 v303 k0_hw5 k0_t25 => k0_hw5.1.2.2.2.2.2.2.2.2.2.2.2.2.2.2.2.2.2.2.2.1 k0_t25
theorem k0_off56_inb : ∀ (v27 : BitVec 32) (v96 : BitVec 32) (v165 : BitVec 32) (v234 : BitVec 32) (v303 : BitVec 32) (k0_hw5 : k0_chk5 v27 v96 v165 v234 v303) (k0_t25 : Fin (k0_t25_loop v27 v96 v165 v234 v303).trips), ∀ a, (k0_off56 v27 v96 v165 v234 v303 k0_t25) a + S256x1024.size a ≤ S1792x1024.size a := fun v27 v96 v165 v234 v303 k0_hw5 k0_t25 => k0_hw5.1.2.2.2.2.2.2.2.2.2.2.2.2.2.2.2.2.2.2.2.2.1 k0_t25
theorem k0_mult56_dvd : ∀ (v27 : BitVec 32) (v96 : BitVec 32) (v165 : BitVec 32) (v234 : BitVec 32) (v303 : BitVec 32) (k0_hw5 : k0_chk5 v27 v96 v165 v234 v303) (k0_t25 : Fin (k0_t25_loop v27 v96 v165 v234 v303).trips), 256 ∣ (k0_mult56 v27 v96 v165 v234 v303 k0_t25).toNat := fun v27 v96 v165 v234 v303 k0_hw5 k0_t25 => k0_hw5.1.2.2.2.2.2.2.2.2.2.2.2.2.2.2.2.2.2.2.2.2.2.1 k0_t25
theorem k0_off57_inb : ∀ (v27 : BitVec 32) (v96 : BitVec 32) (v165 : BitVec 32) (v234 : BitVec 32) (v303 : BitVec 32) (k0_hw5 : k0_chk5 v27 v96 v165 v234 v303) (k0_t25 : Fin (k0_t25_loop v27 v96 v165 v234 v303).trips), ∀ a, (k0_off57 v27 v96 v165 v234 v303 k0_t25) a + S1024x256.size a ≤ S3072x2816.size a := fun v27 v96 v165 v234 v303 k0_hw5 k0_t25 => k0_hw5.1.2.2.2.2.2.2.2.2.2.2.2.2.2.2.2.2.2.2.2.2.2.2.1 k0_t25
theorem k0_off57_packedbf16 : ∀ (v27 : BitVec 32) (v96 : BitVec 32) (v165 : BitVec 32) (v234 : BitVec 32) (v303 : BitVec 32) (k0_hw5 : k0_chk5 v27 v96 v165 v234 v303) (k0_t25 : Fin (k0_t25_loop v27 v96 v165 v234 v303).trips), (Rect.unit (s := S3072x2816) (k0_off57 v27 v96 v165 v234 v303 k0_t25) S1024x256.size (k0_off57_inb v27 v96 v165 v234 v303 k0_hw5 k0_t25)).PackedRows (EltTy.packing .bf16) := fun v27 v96 v165 v234 v303 k0_hw5 k0_t25 => k0_hw5.1.2.2.2.2.2.2.2.2.2.2.2.2.2.2.2.2.2.2.2.2.2.2.2.1 k0_t25 (k0_off57_inb v27 v96 v165 v234 v303 k0_hw5 k0_t25)
theorem k0_t34_ok : ∀ (v27 : BitVec 32) (v96 : BitVec 32) (v165 : BitVec 32) (v234 : BitVec 32) (v303 : BitVec 32) (k0_hw5 : k0_chk5 v27 v96 v165 v234 v303), (k0_t34_loop v303).OK := fun v27 v96 v165 v234 v303 k0_hw5 => k0_hw5.1.2.2.2.2.2.2.2.2.2.2.2.2.2.2.2.2.2.2.2.2.2.2.2.2.1
theorem k0_mult65_dvd : ∀ (v27 : BitVec 32) (v96 : BitVec 32) (v165 : BitVec 32) (v234 : BitVec 32) (v303 : BitVec 32) (k0_hw5 : k0_chk5 v27 v96 v165 v234 v303) (k0_t34 : Fin (k0_t34_loop v303).trips), 32 ∣ (k0_mult65 v27 v96 v165 v234 v303 k0_t34).toNat := fun v27 v96 v165 v234 v303 k0_hw5 k0_t34 => k0_hw5.1.2.2.2.2.2.2.2.2.2.2.2.2.2.2.2.2.2.2.2.2.2.2.2.2.2.1 k0_t34
theorem k0_off82_inb : ∀ (v27 : BitVec 32) (v96 : BitVec 32) (v165 : BitVec 32) (v234 : BitVec 32) (v303 : BitVec 32) (k0_hw5 : k0_chk5 v27 v96 v165 v234 v303) (k0_t34 : Fin (k0_t34_loop v303).trips), ∀ a, (k0_off82 v27 v96 v165 v234 v303 k0_t34) a + S1x1024.size a ≤ S13x3072.size a := fun v27 v96 v165 v234 v303 k0_hw5 k0_t34 => k0_hw5.1.2.2.2.2.2.2.2.2.2.2.2.2.2.2.2.2.2.2.2.2.2.2.2.2.2.2.1 k0_t34
theorem k0_off83_inb : ∀ (v27 : BitVec 32) (v96 : BitVec 32) (v165 : BitVec 32) (v234 : BitVec 32) (v303 : BitVec 32) (k0_hw5 : k0_chk5 v27 v96 v165 v234 v303) (k0_t34 : Fin (k0_t34_loop v303).trips), ∀ a, (k0_off83 v27 v96 v165 v234 v303 k0_t34) a + S160x1024.size a ≤ S1536x3072.size a := fun v27 v96 v165 v234 v303 k0_hw5 k0_t34 => k0_hw5.1.2.2.2.2.2.2.2.2.2.2.2.2.2.2.2.2.2.2.2.2.2.2.2.2.2.2.2.1 k0_t34
theorem k0_off84_inb : ∀ (v27 : BitVec 32) (v96 : BitVec 32) (v165 : BitVec 32) (v234 : BitVec 32) (v303 : BitVec 32) (k0_hw5 : k0_chk5 v27 v96 v165 v234 v303) (k0_t34 : Fin (k0_t34_loop v303).trips), ∀ a, (k0_off84 v27 v96 v165 v234 v303 k0_t34) a + S160x1024.size a ≤ S1792x1024.size a := fun v27 v96 v165 v234 v303 k0_hw5 k0_t34 => k0_hw5.1.2.2.2.2.2.2.2.2.2.2.2.2.2.2.2.2.2.2.2.2.2.2.2.2.2.2.2.2.1 k0_t34
theorem k0_off84_packedbf16 : ∀ (v27 : BitVec 32) (v96 : BitVec 32) (v165 : BitVec 32) (v234 : BitVec 32) (v303 : BitVec 32) (k0_hw5 : k0_chk5 v27 v96 v165 v234 v303) (k0_t34 : Fin (k0_t34_loop v303).trips), (Rect.unit (s := S1792x1024) (k0_off84 v27 v96 v165 v234 v303 k0_t34) S160x1024.size (k0_off84_inb v27 v96 v165 v234 v303 k0_hw5 k0_t34)).PackedRows (EltTy.packing .bf16) := fun v27 v96 v165 v234 v303 k0_hw5 k0_t34 => k0_hw5.1.2.2.2.2.2.2.2.2.2.2.2.2.2.2.2.2.2.2.2.2.2.2.2.2.2.2.2.2.2.1 k0_t34 (k0_off84_inb v27 v96 v165 v234 v303 k0_hw5 k0_t34)
theorem k0_t35_ok : ∀ (v27 : BitVec 32) (v96 : BitVec 32) (v165 : BitVec 32) (v234 : BitVec 32) (v303 : BitVec 32) (k0_hw5 : k0_chk5 v27 v96 v165 v234 v303), (k0_t35_loop v303).OK := fun v27 v96 v165 v234 v303 k0_hw5 => k0_hw5.1.2.2.2.2.2.2.2.2.2.2.2.2.2.2.2.2.2.2.2.2.2.2.2.2.2.2.2.2.2.2.1
theorem k0_mult66_dvd : ∀ (v27 : BitVec 32) (v96 : BitVec 32) (v165 : BitVec 32) (v234 : BitVec 32) (v303 : BitVec 32) (k0_hw5 : k0_chk5 v27 v96 v165 v234 v303) (k0_t35 : Fin (k0_t35_loop v303).trips), 32 ∣ (k0_mult66 v27 v96 v165 v234 v303 k0_t35).toNat := fun v27 v96 v165 v234 v303 k0_hw5 k0_t35 => k0_hw5.1.2.2.2.2.2.2.2.2.2.2.2.2.2.2.2.2.2.2.2.2.2.2.2.2.2.2.2.2.2.2.2 k0_t35
theorem k0_off85_inb : ∀ (v27 : BitVec 32) (v96 : BitVec 32) (v165 : BitVec 32) (v234 : BitVec 32) (v303 : BitVec 32) (k0_hw5 : k0_chk5 v27 v96 v165 v234 v303) (k0_t35 : Fin (k0_t35_loop v303).trips), ∀ a, (k0_off85 v27 v96 v165 v234 v303 k0_t35) a + S1x1024.size a ≤ S13x3072.size a := fun v27 v96 v165 v234 v303 k0_hw5 k0_t35 => k0_hw5.2.1.1 k0_t35
theorem k0_off86_inb : ∀ (v27 : BitVec 32) (v96 : BitVec 32) (v165 : BitVec 32) (v234 : BitVec 32) (v303 : BitVec 32) (k0_hw5 : k0_chk5 v27 v96 v165 v234 v303) (k0_t35 : Fin (k0_t35_loop v303).trips), ∀ a, (k0_off86 v27 v96 v165 v234 v303 k0_t35) a + S160x1024.size a ≤ S1536x3072.size a := fun v27 v96 v165 v234 v303 k0_hw5 k0_t35 => k0_hw5.2.1.2.1 k0_t35
theorem k0_off87_inb : ∀ (v27 : BitVec 32) (v96 : BitVec 32) (v165 : BitVec 32) (v234 : BitVec 32) (v303 : BitVec 32) (k0_hw5 : k0_chk5 v27 v96 v165 v234 v303) (k0_t35 : Fin (k0_t35_loop v303).trips), ∀ a, (k0_off87 v27 v96 v165 v234 v303 k0_t35) a + S160x1024.size a ≤ S1792x1024.size a := fun v27 v96 v165 v234 v303 k0_hw5 k0_t35 => k0_hw5.2.1.2.2.1 k0_t35
theorem k0_off87_packedbf16 : ∀ (v27 : BitVec 32) (v96 : BitVec 32) (v165 : BitVec 32) (v234 : BitVec 32) (v303 : BitVec 32) (k0_hw5 : k0_chk5 v27 v96 v165 v234 v303) (k0_t35 : Fin (k0_t35_loop v303).trips), (Rect.unit (s := S1792x1024) (k0_off87 v27 v96 v165 v234 v303 k0_t35) S160x1024.size (k0_off87_inb v27 v96 v165 v234 v303 k0_hw5 k0_t35)).PackedRows (EltTy.packing .bf16) := fun v27 v96 v165 v234 v303 k0_hw5 k0_t35 => k0_hw5.2.1.2.2.2.1 k0_t35 (k0_off87_inb v27 v96 v165 v234 v303 k0_hw5 k0_t35)
theorem k0_t44_ok : ∀ (v27 : BitVec 32) (v96 : BitVec 32) (v165 : BitVec 32) (v234 : BitVec 32) (v303 : BitVec 32) (k0_hw5 : k0_chk5 v27 v96 v165 v234 v303), (k0_t44_loop v27 v96 v165 v234 v303).OK := fun v27 v96 v165 v234 v303 k0_hw5 => k0_hw5.2.1.2.2.2.2.1
theorem k0_mult83_dvd : ∀ (v27 : BitVec 32) (v96 : BitVec 32) (v165 : BitVec 32) (v234 : BitVec 32) (v303 : BitVec 32) (k0_hw5 : k0_chk5 v27 v96 v165 v234 v303) (k0_t44 : Fin (k0_t44_loop v27 v96 v165 v234 v303).trips), 16 ∣ (k0_mult83 v27 v96 v165 v234 v303 k0_t44).toNat := fun v27 v96 v165 v234 v303 k0_hw5 k0_t44 => k0_hw5.2.1.2.2.2.2.2.1 k0_t44
theorem k0_off104_inb : ∀ (v27 : BitVec 32) (v96 : BitVec 32) (v165 : BitVec 32) (v234 : BitVec 32) (v303 : BitVec 32) (k0_hw5 : k0_chk5 v27 v96 v165 v234 v303) (k0_t44 : Fin (k0_t44_loop v27 v96 v165 v234 v303).trips), ∀ a, (k0_off104 v27 v96 v165 v234 v303 k0_t44) a + S256x1024.size a ≤ S1792x1024.size a := fun v27 v96 v165 v234 v303 k0_hw5 k0_t44 => k0_hw5.2.1.2.2.2.2.2.2.1 k0_t44
theorem k0_mult84_dvd : ∀ (v27 : BitVec 32) (v96 : BitVec 32) (v165 : BitVec 32) (v234 : BitVec 32) (v303 : BitVec 32) (k0_hw5 : k0_chk5 v27 v96 v165 v234 v303) (k0_t44 : Fin (k0_t44_loop v27 v96 v165 v234 v303).trips), 256 ∣ (k0_mult84 v27 v96 v165 v234 v303 k0_t44).toNat := fun v27 v96 v165 v234 v303 k0_hw5 k0_t44 => k0_hw5.2.1.2.2.2.2.2.2.2.1 k0_t44
theorem k0_off105_inb : ∀ (v27 : BitVec 32) (v96 : BitVec 32) (v165 : BitVec 32) (v234 : BitVec 32) (v303 : BitVec 32) (k0_hw5 : k0_chk5 v27 v96 v165 v234 v303) (k0_t44 : Fin (k0_t44_loop v27 v96 v165 v234 v303).trips), ∀ a, (k0_off105 v27 v96 v165 v234 v303 k0_t44) a + S1024x256.size a ≤ S3072x2816.size a := fun v27 v96 v165 v234 v303 k0_hw5 k0_t44 => k0_hw5.2.1.2.2.2.2.2.2.2.2.1 k0_t44
theorem k0_off105_packedbf16 : ∀ (v27 : BitVec 32) (v96 : BitVec 32) (v165 : BitVec 32) (v234 : BitVec 32) (v303 : BitVec 32) (k0_hw5 : k0_chk5 v27 v96 v165 v234 v303) (k0_t44 : Fin (k0_t44_loop v27 v96 v165 v234 v303).trips), (Rect.unit (s := S3072x2816) (k0_off105 v27 v96 v165 v234 v303 k0_t44) S1024x256.size (k0_off105_inb v27 v96 v165 v234 v303 k0_hw5 k0_t44)).PackedRows (EltTy.packing .bf16) := fun v27 v96 v165 v234 v303 k0_hw5 k0_t44 => k0_hw5.2.1.2.2.2.2.2.2.2.2.2.1 k0_t44 (k0_off105_inb v27 v96 v165 v234 v303 k0_hw5 k0_t44)
theorem k0_t45_ok : ∀ (v27 : BitVec 32) (v96 : BitVec 32) (v165 : BitVec 32) (v234 : BitVec 32) (v303 : BitVec 32) (k0_hw5 : k0_chk5 v27 v96 v165 v234 v303), (k0_t45_loop v27 v96 v165 v234 v303).OK := fun v27 v96 v165 v234 v303 k0_hw5 => k0_hw5.2.1.2.2.2.2.2.2.2.2.2.2.1
theorem k0_mult85_dvd : ∀ (v27 : BitVec 32) (v96 : BitVec 32) (v165 : BitVec 32) (v234 : BitVec 32) (v303 : BitVec 32) (k0_hw5 : k0_chk5 v27 v96 v165 v234 v303) (k0_t45 : Fin (k0_t45_loop v27 v96 v165 v234 v303).trips), 16 ∣ (k0_mult85 v27 v96 v165 v234 v303 k0_t45).toNat := fun v27 v96 v165 v234 v303 k0_hw5 k0_t45 => k0_hw5.2.1.2.2.2.2.2.2.2.2.2.2.2.1 k0_t45
theorem k0_off106_inb : ∀ (v27 : BitVec 32) (v96 : BitVec 32) (v165 : BitVec 32) (v234 : BitVec 32) (v303 : BitVec 32) (k0_hw5 : k0_chk5 v27 v96 v165 v234 v303) (k0_t45 : Fin (k0_t45_loop v27 v96 v165 v234 v303).trips), ∀ a, (k0_off106 v27 v96 v165 v234 v303 k0_t45) a + S256x1024.size a ≤ S1792x1024.size a := fun v27 v96 v165 v234 v303 k0_hw5 k0_t45 => k0_hw5.2.1.2.2.2.2.2.2.2.2.2.2.2.2.1 k0_t45
theorem k0_mult86_dvd : ∀ (v27 : BitVec 32) (v96 : BitVec 32) (v165 : BitVec 32) (v234 : BitVec 32) (v303 : BitVec 32) (k0_hw5 : k0_chk5 v27 v96 v165 v234 v303) (k0_t45 : Fin (k0_t45_loop v27 v96 v165 v234 v303).trips), 256 ∣ (k0_mult86 v27 v96 v165 v234 v303 k0_t45).toNat := fun v27 v96 v165 v234 v303 k0_hw5 k0_t45 => k0_hw5.2.1.2.2.2.2.2.2.2.2.2.2.2.2.2.1 k0_t45
theorem k0_off107_inb : ∀ (v27 : BitVec 32) (v96 : BitVec 32) (v165 : BitVec 32) (v234 : BitVec 32) (v303 : BitVec 32) (k0_hw5 : k0_chk5 v27 v96 v165 v234 v303) (k0_t45 : Fin (k0_t45_loop v27 v96 v165 v234 v303).trips), ∀ a, (k0_off107 v27 v96 v165 v234 v303 k0_t45) a + S1024x256.size a ≤ S3072x2816.size a := fun v27 v96 v165 v234 v303 k0_hw5 k0_t45 => k0_hw5.2.1.2.2.2.2.2.2.2.2.2.2.2.2.2.2.1 k0_t45
theorem k0_off107_packedbf16 : ∀ (v27 : BitVec 32) (v96 : BitVec 32) (v165 : BitVec 32) (v234 : BitVec 32) (v303 : BitVec 32) (k0_hw5 : k0_chk5 v27 v96 v165 v234 v303) (k0_t45 : Fin (k0_t45_loop v27 v96 v165 v234 v303).trips), (Rect.unit (s := S3072x2816) (k0_off107 v27 v96 v165 v234 v303 k0_t45) S1024x256.size (k0_off107_inb v27 v96 v165 v234 v303 k0_hw5 k0_t45)).PackedRows (EltTy.packing .bf16) := fun v27 v96 v165 v234 v303 k0_hw5 k0_t45 => k0_hw5.2.1.2.2.2.2.2.2.2.2.2.2.2.2.2.2.2.1 k0_t45 (k0_off107_inb v27 v96 v165 v234 v303 k0_hw5 k0_t45)
theorem k0_t54_ok : ∀ (v27 : BitVec 32) (v96 : BitVec 32) (v165 : BitVec 32) (v234 : BitVec 32) (v303 : BitVec 32) (k0_hw5 : k0_chk5 v27 v96 v165 v234 v303), (k0_t54_loop v303).OK := fun v27 v96 v165 v234 v303 k0_hw5 => k0_hw5.2.1.2.2.2.2.2.2.2.2.2.2.2.2.2.2.2.2.1
theorem k0_mult95_dvd : ∀ (v27 : BitVec 32) (v96 : BitVec 32) (v165 : BitVec 32) (v234 : BitVec 32) (v303 : BitVec 32) (k0_hw5 : k0_chk5 v27 v96 v165 v234 v303) (k0_t54 : Fin (k0_t54_loop v303).trips), 32 ∣ (k0_mult95 v27 v96 v165 v234 v303 k0_t54).toNat := fun v27 v96 v165 v234 v303 k0_hw5 k0_t54 => k0_hw5.2.1.2.2.2.2.2.2.2.2.2.2.2.2.2.2.2.2.2.1 k0_t54
theorem k0_off132_inb : ∀ (v27 : BitVec 32) (v96 : BitVec 32) (v165 : BitVec 32) (v234 : BitVec 32) (v303 : BitVec 32) (k0_hw5 : k0_chk5 v27 v96 v165 v234 v303) (k0_t54 : Fin (k0_t54_loop v303).trips), ∀ a, (k0_off132 v27 v96 v165 v234 v303 k0_t54) a + S1x1024.size a ≤ S13x3072.size a := fun v27 v96 v165 v234 v303 k0_hw5 k0_t54 => k0_hw5.2.1.2.2.2.2.2.2.2.2.2.2.2.2.2.2.2.2.2.2.1 k0_t54
theorem k0_off133_inb : ∀ (v27 : BitVec 32) (v96 : BitVec 32) (v165 : BitVec 32) (v234 : BitVec 32) (v303 : BitVec 32) (k0_hw5 : k0_chk5 v27 v96 v165 v234 v303) (k0_t54 : Fin (k0_t54_loop v303).trips), ∀ a, (k0_off133 v27 v96 v165 v234 v303 k0_t54) a + S160x1024.size a ≤ S1536x3072.size a := fun v27 v96 v165 v234 v303 k0_hw5 k0_t54 => k0_hw5.2.1.2.2.2.2.2.2.2.2.2.2.2.2.2.2.2.2.2.2.2.1 k0_t54
theorem k0_off134_inb : ∀ (v27 : BitVec 32) (v96 : BitVec 32) (v165 : BitVec 32) (v234 : BitVec 32) (v303 : BitVec 32) (k0_hw5 : k0_chk5 v27 v96 v165 v234 v303) (k0_t54 : Fin (k0_t54_loop v303).trips), ∀ a, (k0_off134 v27 v96 v165 v234 v303 k0_t54) a + S160x1024.size a ≤ S1792x1024.size a := fun v27 v96 v165 v234 v303 k0_hw5 k0_t54 => k0_hw5.2.1.2.2.2.2.2.2.2.2.2.2.2.2.2.2.2.2.2.2.2.2.1 k0_t54
theorem k0_off134_packedbf16 : ∀ (v27 : BitVec 32) (v96 : BitVec 32) (v165 : BitVec 32) (v234 : BitVec 32) (v303 : BitVec 32) (k0_hw5 : k0_chk5 v27 v96 v165 v234 v303) (k0_t54 : Fin (k0_t54_loop v303).trips), (Rect.unit (s := S1792x1024) (k0_off134 v27 v96 v165 v234 v303 k0_t54) S160x1024.size (k0_off134_inb v27 v96 v165 v234 v303 k0_hw5 k0_t54)).PackedRows (EltTy.packing .bf16) := fun v27 v96 v165 v234 v303 k0_hw5 k0_t54 => k0_hw5.2.1.2.2.2.2.2.2.2.2.2.2.2.2.2.2.2.2.2.2.2.2.2.1 k0_t54 (k0_off134_inb v27 v96 v165 v234 v303 k0_hw5 k0_t54)
theorem k0_t55_ok : ∀ (v27 : BitVec 32) (v96 : BitVec 32) (v165 : BitVec 32) (v234 : BitVec 32) (v303 : BitVec 32) (k0_hw5 : k0_chk5 v27 v96 v165 v234 v303), (k0_t55_loop v303).OK := fun v27 v96 v165 v234 v303 k0_hw5 => k0_hw5.2.1.2.2.2.2.2.2.2.2.2.2.2.2.2.2.2.2.2.2.2.2.2.2.1
theorem k0_mult96_dvd : ∀ (v27 : BitVec 32) (v96 : BitVec 32) (v165 : BitVec 32) (v234 : BitVec 32) (v303 : BitVec 32) (k0_hw5 : k0_chk5 v27 v96 v165 v234 v303) (k0_t55 : Fin (k0_t55_loop v303).trips), 32 ∣ (k0_mult96 v27 v96 v165 v234 v303 k0_t55).toNat := fun v27 v96 v165 v234 v303 k0_hw5 k0_t55 => k0_hw5.2.1.2.2.2.2.2.2.2.2.2.2.2.2.2.2.2.2.2.2.2.2.2.2.2.1 k0_t55
theorem k0_off135_inb : ∀ (v27 : BitVec 32) (v96 : BitVec 32) (v165 : BitVec 32) (v234 : BitVec 32) (v303 : BitVec 32) (k0_hw5 : k0_chk5 v27 v96 v165 v234 v303) (k0_t55 : Fin (k0_t55_loop v303).trips), ∀ a, (k0_off135 v27 v96 v165 v234 v303 k0_t55) a + S1x1024.size a ≤ S13x3072.size a := fun v27 v96 v165 v234 v303 k0_hw5 k0_t55 => k0_hw5.2.1.2.2.2.2.2.2.2.2.2.2.2.2.2.2.2.2.2.2.2.2.2.2.2.2.1 k0_t55
theorem k0_off136_inb : ∀ (v27 : BitVec 32) (v96 : BitVec 32) (v165 : BitVec 32) (v234 : BitVec 32) (v303 : BitVec 32) (k0_hw5 : k0_chk5 v27 v96 v165 v234 v303) (k0_t55 : Fin (k0_t55_loop v303).trips), ∀ a, (k0_off136 v27 v96 v165 v234 v303 k0_t55) a + S160x1024.size a ≤ S1536x3072.size a := fun v27 v96 v165 v234 v303 k0_hw5 k0_t55 => k0_hw5.2.1.2.2.2.2.2.2.2.2.2.2.2.2.2.2.2.2.2.2.2.2.2.2.2.2.2.1 k0_t55
theorem k0_off137_inb : ∀ (v27 : BitVec 32) (v96 : BitVec 32) (v165 : BitVec 32) (v234 : BitVec 32) (v303 : BitVec 32) (k0_hw5 : k0_chk5 v27 v96 v165 v234 v303) (k0_t55 : Fin (k0_t55_loop v303).trips), ∀ a, (k0_off137 v27 v96 v165 v234 v303 k0_t55) a + S160x1024.size a ≤ S1792x1024.size a := fun v27 v96 v165 v234 v303 k0_hw5 k0_t55 => k0_hw5.2.1.2.2.2.2.2.2.2.2.2.2.2.2.2.2.2.2.2.2.2.2.2.2.2.2.2.2.1 k0_t55
theorem k0_off137_packedbf16 : ∀ (v27 : BitVec 32) (v96 : BitVec 32) (v165 : BitVec 32) (v234 : BitVec 32) (v303 : BitVec 32) (k0_hw5 : k0_chk5 v27 v96 v165 v234 v303) (k0_t55 : Fin (k0_t55_loop v303).trips), (Rect.unit (s := S1792x1024) (k0_off137 v27 v96 v165 v234 v303 k0_t55) S160x1024.size (k0_off137_inb v27 v96 v165 v234 v303 k0_hw5 k0_t55)).PackedRows (EltTy.packing .bf16) := fun v27 v96 v165 v234 v303 k0_hw5 k0_t55 => k0_hw5.2.1.2.2.2.2.2.2.2.2.2.2.2.2.2.2.2.2.2.2.2.2.2.2.2.2.2.2.2.1 k0_t55 (k0_off137_inb v27 v96 v165 v234 v303 k0_hw5 k0_t55)
theorem k0_t64_ok : ∀ (v27 : BitVec 32) (v96 : BitVec 32) (v165 : BitVec 32) (v234 : BitVec 32) (v303 : BitVec 32) (k0_hw5 : k0_chk5 v27 v96 v165 v234 v303), (k0_t64_loop v27 v96 v165 v234 v303).OK := fun v27 v96 v165 v234 v303 k0_hw5 => k0_hw5.2.1.2.2.2.2.2.2.2.2.2.2.2.2.2.2.2.2.2.2.2.2.2.2.2.2.2.2.2.2.1
theorem k0_mult113_dvd : ∀ (v27 : BitVec 32) (v96 : BitVec 32) (v165 : BitVec 32) (v234 : BitVec 32) (v303 : BitVec 32) (k0_hw5 : k0_chk5 v27 v96 v165 v234 v303) (k0_t64 : Fin (k0_t64_loop v27 v96 v165 v234 v303).trips), 16 ∣ (k0_mult113 v27 v96 v165 v234 v303 k0_t64).toNat := fun v27 v96 v165 v234 v303 k0_hw5 k0_t64 => k0_hw5.2.1.2.2.2.2.2.2.2.2.2.2.2.2.2.2.2.2.2.2.2.2.2.2.2.2.2.2.2.2.2.1 k0_t64
theorem k0_off154_inb : ∀ (v27 : BitVec 32) (v96 : BitVec 32) (v165 : BitVec 32) (v234 : BitVec 32) (v303 : BitVec 32) (k0_hw5 : k0_chk5 v27 v96 v165 v234 v303) (k0_t64 : Fin (k0_t64_loop v27 v96 v165 v234 v303).trips), ∀ a, (k0_off154 v27 v96 v165 v234 v303 k0_t64) a + S256x1024.size a ≤ S1792x1024.size a := fun v27 v96 v165 v234 v303 k0_hw5 k0_t64 => k0_hw5.2.1.2.2.2.2.2.2.2.2.2.2.2.2.2.2.2.2.2.2.2.2.2.2.2.2.2.2.2.2.2.2.1 k0_t64
theorem k0_mult114_dvd : ∀ (v27 : BitVec 32) (v96 : BitVec 32) (v165 : BitVec 32) (v234 : BitVec 32) (v303 : BitVec 32) (k0_hw5 : k0_chk5 v27 v96 v165 v234 v303) (k0_t64 : Fin (k0_t64_loop v27 v96 v165 v234 v303).trips), 256 ∣ (k0_mult114 v27 v96 v165 v234 v303 k0_t64).toNat := fun v27 v96 v165 v234 v303 k0_hw5 k0_t64 => k0_hw5.2.1.2.2.2.2.2.2.2.2.2.2.2.2.2.2.2.2.2.2.2.2.2.2.2.2.2.2.2.2.2.2.2 k0_t64
theorem k0_off155_inb : ∀ (v27 : BitVec 32) (v96 : BitVec 32) (v165 : BitVec 32) (v234 : BitVec 32) (v303 : BitVec 32) (k0_hw5 : k0_chk5 v27 v96 v165 v234 v303) (k0_t64 : Fin (k0_t64_loop v27 v96 v165 v234 v303).trips), ∀ a, (k0_off155 v27 v96 v165 v234 v303 k0_t64) a + S1024x256.size a ≤ S3072x2816.size a := fun v27 v96 v165 v234 v303 k0_hw5 k0_t64 => k0_hw5.2.2.1 k0_t64
theorem k0_off155_packedbf16 : ∀ (v27 : BitVec 32) (v96 : BitVec 32) (v165 : BitVec 32) (v234 : BitVec 32) (v303 : BitVec 32) (k0_hw5 : k0_chk5 v27 v96 v165 v234 v303) (k0_t64 : Fin (k0_t64_loop v27 v96 v165 v234 v303).trips), (Rect.unit (s := S3072x2816) (k0_off155 v27 v96 v165 v234 v303 k0_t64) S1024x256.size (k0_off155_inb v27 v96 v165 v234 v303 k0_hw5 k0_t64)).PackedRows (EltTy.packing .bf16) := fun v27 v96 v165 v234 v303 k0_hw5 k0_t64 => k0_hw5.2.2.2.1 k0_t64 (k0_off155_inb v27 v96 v165 v234 v303 k0_hw5 k0_t64)
theorem k0_t65_ok : ∀ (v27 : BitVec 32) (v96 : BitVec 32) (v165 : BitVec 32) (v234 : BitVec 32) (v303 : BitVec 32) (k0_hw5 : k0_chk5 v27 v96 v165 v234 v303), (k0_t65_loop v27 v96 v165 v234 v303).OK := fun v27 v96 v165 v234 v303 k0_hw5 => k0_hw5.2.2.2.2.1
theorem k0_mult115_dvd : ∀ (v27 : BitVec 32) (v96 : BitVec 32) (v165 : BitVec 32) (v234 : BitVec 32) (v303 : BitVec 32) (k0_hw5 : k0_chk5 v27 v96 v165 v234 v303) (k0_t65 : Fin (k0_t65_loop v27 v96 v165 v234 v303).trips), 16 ∣ (k0_mult115 v27 v96 v165 v234 v303 k0_t65).toNat := fun v27 v96 v165 v234 v303 k0_hw5 k0_t65 => k0_hw5.2.2.2.2.2.1 k0_t65
theorem k0_off156_inb : ∀ (v27 : BitVec 32) (v96 : BitVec 32) (v165 : BitVec 32) (v234 : BitVec 32) (v303 : BitVec 32) (k0_hw5 : k0_chk5 v27 v96 v165 v234 v303) (k0_t65 : Fin (k0_t65_loop v27 v96 v165 v234 v303).trips), ∀ a, (k0_off156 v27 v96 v165 v234 v303 k0_t65) a + S256x1024.size a ≤ S1792x1024.size a := fun v27 v96 v165 v234 v303 k0_hw5 k0_t65 => k0_hw5.2.2.2.2.2.2.1 k0_t65
theorem k0_mult116_dvd : ∀ (v27 : BitVec 32) (v96 : BitVec 32) (v165 : BitVec 32) (v234 : BitVec 32) (v303 : BitVec 32) (k0_hw5 : k0_chk5 v27 v96 v165 v234 v303) (k0_t65 : Fin (k0_t65_loop v27 v96 v165 v234 v303).trips), 256 ∣ (k0_mult116 v27 v96 v165 v234 v303 k0_t65).toNat := fun v27 v96 v165 v234 v303 k0_hw5 k0_t65 => k0_hw5.2.2.2.2.2.2.2.1 k0_t65
theorem k0_off157_inb : ∀ (v27 : BitVec 32) (v96 : BitVec 32) (v165 : BitVec 32) (v234 : BitVec 32) (v303 : BitVec 32) (k0_hw5 : k0_chk5 v27 v96 v165 v234 v303) (k0_t65 : Fin (k0_t65_loop v27 v96 v165 v234 v303).trips), ∀ a, (k0_off157 v27 v96 v165 v234 v303 k0_t65) a + S1024x256.size a ≤ S3072x2816.size a := fun v27 v96 v165 v234 v303 k0_hw5 k0_t65 => k0_hw5.2.2.2.2.2.2.2.2.1 k0_t65
theorem k0_off157_packedbf16 : ∀ (v27 : BitVec 32) (v96 : BitVec 32) (v165 : BitVec 32) (v234 : BitVec 32) (v303 : BitVec 32) (k0_hw5 : k0_chk5 v27 v96 v165 v234 v303) (k0_t65 : Fin (k0_t65_loop v27 v96 v165 v234 v303).trips), (Rect.unit (s := S3072x2816) (k0_off157 v27 v96 v165 v234 v303 k0_t65) S1024x256.size (k0_off157_inb v27 v96 v165 v234 v303 k0_hw5 k0_t65)).PackedRows (EltTy.packing .bf16) := fun v27 v96 v165 v234 v303 k0_hw5 k0_t65 => k0_hw5.2.2.2.2.2.2.2.2.2.1 k0_t65 (k0_off157_inb v27 v96 v165 v234 v303 k0_hw5 k0_t65)
theorem k0_t75_ok : ∀ (v27 : BitVec 32) (v96 : BitVec 32) (v165 : BitVec 32) (v234 : BitVec 32) (v303 : BitVec 32) (k0_hw5 : k0_chk5 v27 v96 v165 v234 v303), (k0_t75_loop v303).OK := fun v27 v96 v165 v234 v303 k0_hw5 => k0_hw5.2.2.2.2.2.2.2.2.2.2.1
theorem k0_mult128_dvd : ∀ (v27 : BitVec 32) (v96 : BitVec 32) (v165 : BitVec 32) (v234 : BitVec 32) (v303 : BitVec 32) (k0_hw5 : k0_chk5 v27 v96 v165 v234 v303) (k0_t75 : Fin (k0_t75_loop v303).trips), 32 ∣ (k0_mult128 v27 v96 v165 v234 v303 k0_t75).toNat := fun v27 v96 v165 v234 v303 k0_hw5 k0_t75 => k0_hw5.2.2.2.2.2.2.2.2.2.2.2.1 k0_t75
theorem k0_off188_inb : ∀ (v27 : BitVec 32) (v96 : BitVec 32) (v165 : BitVec 32) (v234 : BitVec 32) (v303 : BitVec 32) (k0_hw5 : k0_chk5 v27 v96 v165 v234 v303) (k0_t66 : Fin k0_t66_loop.trips) (k0_t75 : Fin (k0_t75_loop v303).trips), ∀ a, (k0_off188 v27 v96 v165 v234 v303 k0_t66 k0_t75) a + S1x1024.size a ≤ S13x8192.size a := fun v27 v96 v165 v234 v303 k0_hw5 k0_t66 k0_t75 => k0_hw5.2.2.2.2.2.2.2.2.2.2.2.2.1 k0_t66 k0_t75
theorem k0_off189_inb : ∀ (v27 : BitVec 32) (v96 : BitVec 32) (v165 : BitVec 32) (v234 : BitVec 32) (v303 : BitVec 32) (k0_hw5 : k0_chk5 v27 v96 v165 v234 v303) (k0_t66 : Fin k0_t66_loop.trips) (k0_t75 : Fin (k0_t75_loop v303).trips), ∀ a, (k0_off189 v27 v96 v165 v234 v303 k0_t66 k0_t75) a + S1x160x1024.size a ≤ S2x1536x1024.size a := fun v27 v96 v165 v234 v303 k0_hw5 k0_t66 k0_t75 => k0_hw5.2.2.2.2.2.2.2.2.2.2.2.2.2.1 k0_t66 k0_t75
theorem k0_off190_inb : ∀ (v27 : BitVec 32) (v96 : BitVec 32) (v165 : BitVec 32) (v234 : BitVec 32) (v303 : BitVec 32) (k0_hw5 : k0_chk5 v27 v96 v165 v234 v303) (k0_t75 : Fin (k0_t75_loop v303).trips), ∀ a, (k0_off190 v27 v96 v165 v234 v303 k0_t75) a + S160x1024.size a ≤ S1792x1024.size a := fun v27 v96 v165 v234 v303 k0_hw5 k0_t75 => k0_hw5.2.2.2.2.2.2.2.2.2.2.2.2.2.2.1 k0_t75
theorem k0_off190_packedbf16 : ∀ (v27 : BitVec 32) (v96 : BitVec 32) (v165 : BitVec 32) (v234 : BitVec 32) (v303 : BitVec 32) (k0_hw5 : k0_chk5 v27 v96 v165 v234 v303) (k0_t75 : Fin (k0_t75_loop v303).trips), (Rect.unit (s := S1792x1024) (k0_off190 v27 v96 v165 v234 v303 k0_t75) S160x1024.size (k0_off190_inb v27 v96 v165 v234 v303 k0_hw5 k0_t75)).PackedRows (EltTy.packing .bf16) := fun v27 v96 v165 v234 v303 k0_hw5 k0_t75 => k0_hw5.2.2.2.2.2.2.2.2.2.2.2.2.2.2.2.1 k0_t75 (k0_off190_inb v27 v96 v165 v234 v303 k0_hw5 k0_t75)
theorem k0_t76_ok : ∀ (v27 : BitVec 32) (v96 : BitVec 32) (v165 : BitVec 32) (v234 : BitVec 32) (v303 : BitVec 32) (k0_hw5 : k0_chk5 v27 v96 v165 v234 v303), (k0_t76_loop v303).OK := fun v27 v96 v165 v234 v303 k0_hw5 => k0_hw5.2.2.2.2.2.2.2.2.2.2.2.2.2.2.2.2.1
theorem k0_mult129_dvd : ∀ (v27 : BitVec 32) (v96 : BitVec 32) (v165 : BitVec 32) (v234 : BitVec 32) (v303 : BitVec 32) (k0_hw5 : k0_chk5 v27 v96 v165 v234 v303) (k0_t76 : Fin (k0_t76_loop v303).trips), 32 ∣ (k0_mult129 v27 v96 v165 v234 v303 k0_t76).toNat := fun v27 v96 v165 v234 v303 k0_hw5 k0_t76 => k0_hw5.2.2.2.2.2.2.2.2.2.2.2.2.2.2.2.2.2.1 k0_t76
theorem k0_off191_inb : ∀ (v27 : BitVec 32) (v96 : BitVec 32) (v165 : BitVec 32) (v234 : BitVec 32) (v303 : BitVec 32) (k0_hw5 : k0_chk5 v27 v96 v165 v234 v303) (k0_t66 : Fin k0_t66_loop.trips) (k0_t76 : Fin (k0_t76_loop v303).trips), ∀ a, (k0_off191 v27 v96 v165 v234 v303 k0_t66 k0_t76) a + S1x1024.size a ≤ S13x8192.size a := fun v27 v96 v165 v234 v303 k0_hw5 k0_t66 k0_t76 => k0_hw5.2.2.2.2.2.2.2.2.2.2.2.2.2.2.2.2.2.2.1 k0_t66 k0_t76
theorem k0_off192_inb : ∀ (v27 : BitVec 32) (v96 : BitVec 32) (v165 : BitVec 32) (v234 : BitVec 32) (v303 : BitVec 32) (k0_hw5 : k0_chk5 v27 v96 v165 v234 v303) (k0_t66 : Fin k0_t66_loop.trips) (k0_t76 : Fin (k0_t76_loop v303).trips), ∀ a, (k0_off192 v27 v96 v165 v234 v303 k0_t66 k0_t76) a + S1x160x1024.size a ≤ S2x1536x1024.size a := fun v27 v96 v165 v234 v303 k0_hw5 k0_t66 k0_t76 => k0_hw5.2.2.2.2.2.2.2.2.2.2.2.2.2.2.2.2.2.2.2.1 k0_t66 k0_t76
theorem k0_off193_inb : ∀ (v27 : BitVec 32) (v96 : BitVec 32) (v165 : BitVec 32) (v234 : BitVec 32) (v303 : BitVec 32) (k0_hw5 : k0_chk5 v27 v96 v165 v234 v303) (k0_t76 : Fin (k0_t76_loop v303).trips), ∀ a, (k0_off193 v27 v96 v165 v234 v303 k0_t76) a + S160x1024.size a ≤ S1792x1024.size a := fun v27 v96 v165 v234 v303 k0_hw5 k0_t76 => k0_hw5.2.2.2.2.2.2.2.2.2.2.2.2.2.2.2.2.2.2.2.2.1 k0_t76
theorem k0_off193_packedbf16 : ∀ (v27 : BitVec 32) (v96 : BitVec 32) (v165 : BitVec 32) (v234 : BitVec 32) (v303 : BitVec 32) (k0_hw5 : k0_chk5 v27 v96 v165 v234 v303) (k0_t76 : Fin (k0_t76_loop v303).trips), (Rect.unit (s := S1792x1024) (k0_off193 v27 v96 v165 v234 v303 k0_t76) S160x1024.size (k0_off193_inb v27 v96 v165 v234 v303 k0_hw5 k0_t76)).PackedRows (EltTy.packing .bf16) := fun v27 v96 v165 v234 v303 k0_hw5 k0_t76 => k0_hw5.2.2.2.2.2.2.2.2.2.2.2.2.2.2.2.2.2.2.2.2.2 k0_t76 (k0_off193_inb v27 v96 v165 v234 v303 k0_hw5 k0_t76)

@[reducible] def k0_t77_loop : Scf.Loop 32 :=
  let c0_i32_614 : BitVec 32 := 0#32
  let c15_i32 : BitVec 32 := 15#32
  let v753 : BitVec 32 := Scalar.addi c0_i32_614 c15_i32
  let c1_i32_615 : BitVec 32 := 1#32
  ⟨c0_i32_614, v753, c1_i32_615⟩
def k0_off194 (k0_t77 : Fin k0_t77_loop.trips) : Fin 2 → Nat :=
  let c1_624 : Index := 1#32
  let c0_i32_614 : BitVec 32 := 0#32
  let c1_i32_615 : BitVec 32 := 1#32
  let arg22 : BitVec 32 := Scf.iv c0_i32_614 c1_i32_615 k0_t77
  let c5_i32_623 : BitVec 32 := 5#32
  let v772 : BitVec 32 := Scalar.remsi arg22 c5_i32_623
  let v773 : Index := Scalar.indexCast v772
  ![1, v773.toNat]
def k0_mult130 (k0_t66 : Fin k0_t66_loop.trips) (k0_t77 : Fin k0_t77_loop.trips) : BitVec 32 :=
  let c0_i32_529 : BitVec 32 := 0#32
  let c1_i32_530 : BitVec 32 := 1#32
  let arg20 : BitVec 32 := Scf.iv c0_i32_529 c1_i32_530 k0_t66
  let c3_i32_625 : BitVec 32 := 3#32
  let v776 : BitVec 32 := Scalar.muli arg20 c3_i32_625
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let v777 : BitVec 32 := Scalar.addi v776 v771
  let c4_i32_632 : BitVec 32 := 4#32
  let v789 : BitVec 32 := Scalar.muli v777 c4_i32_632
  let c0_i32_633 : BitVec 32 := 0#32
  let v790 : BitVec 32 := Scalar.addi v789 c0_i32_633
  let c32_i32 : BitVec 32 := 32#32
  let v791 : BitVec 32 := Scalar.muli v790 c32_i32
  v791
def k0_off195 (k0_t66 : Fin k0_t66_loop.trips) (k0_t77 : Fin k0_t77_loop.trips) (c0_i32_633 : BitVec 32) : Fin 3 → Nat :=
  let c0_i32_614 : BitVec 32 := 0#32
  let c1_i32_615 : BitVec 32 := 1#32
  let arg22 : BitVec 32 := Scf.iv c0_i32_614 c1_i32_615 k0_t77
  let c5_i32_623 : BitVec 32 := 5#32
  let v772 : BitVec 32 := Scalar.remsi arg22 c5_i32_623
  let c0_i32_529 : BitVec 32 := 0#32
  let c1_i32_530 : BitVec 32 := 1#32
  let arg20 : BitVec 32 := Scf.iv c0_i32_529 c1_i32_530 k0_t66
  let c3_i32_625 : BitVec 32 := 3#32
  let v776 : BitVec 32 := Scalar.muli arg20 c3_i32_625
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let v777 : BitVec 32 := Scalar.addi v776 v771
  let c4_i32_632 : BitVec 32 := 4#32
  let v789 : BitVec 32 := Scalar.muli v777 c4_i32_632
  let v790 : BitVec 32 := Scalar.addi v789 c0_i32_633
  let c32_i32 : BitVec 32 := 32#32
  let v791 : BitVec 32 := Scalar.muli v790 c32_i32
  let v792 : BitVec 32 := v791
  let c0_i32_634 : BitVec 32 := 0#32
  ![v772.toNat, v792.toNat, 0]
def k0_mult131 (k0_t66 : Fin k0_t66_loop.trips) (k0_t77 : Fin k0_t77_loop.trips) : BitVec 32 :=
  let c0_i32_529 : BitVec 32 := 0#32
  let c1_i32_530 : BitVec 32 := 1#32
  let arg20 : BitVec 32 := Scf.iv c0_i32_529 c1_i32_530 k0_t66
  let c3_i32_625 : BitVec 32 := 3#32
  let v776 : BitVec 32 := Scalar.muli arg20 c3_i32_625
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let v777 : BitVec 32 := Scalar.addi v776 v771
  let c4_i32_635 : BitVec 32 := 4#32
  let v795 : BitVec 32 := Scalar.muli v777 c4_i32_635
  let c1_i32_636 : BitVec 32 := 1#32
  let v796 : BitVec 32 := Scalar.addi v795 c1_i32_636
  let c32_i32_637 : BitVec 32 := 32#32
  let v797 : BitVec 32 := Scalar.muli v796 c32_i32_637
  v797
def k0_mult132 (k0_t66 : Fin k0_t66_loop.trips) (k0_t77 : Fin k0_t77_loop.trips) : BitVec 32 :=
  let c0_i32_529 : BitVec 32 := 0#32
  let c1_i32_530 : BitVec 32 := 1#32
  let arg20 : BitVec 32 := Scf.iv c0_i32_529 c1_i32_530 k0_t66
  let c3_i32_625 : BitVec 32 := 3#32
  let v776 : BitVec 32 := Scalar.muli arg20 c3_i32_625
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let v777 : BitVec 32 := Scalar.addi v776 v771
  let c4_i32_639 : BitVec 32 := 4#32
  let v801 : BitVec 32 := Scalar.muli v777 c4_i32_639
  let c2_i32_640 : BitVec 32 := 2#32
  let v802 : BitVec 32 := Scalar.addi v801 c2_i32_640
  let c32_i32_641 : BitVec 32 := 32#32
  let v803 : BitVec 32 := Scalar.muli v802 c32_i32_641
  v803
def k0_mult133 (k0_t66 : Fin k0_t66_loop.trips) (k0_t77 : Fin k0_t77_loop.trips) : BitVec 32 :=
  let c0_i32_529 : BitVec 32 := 0#32
  let c1_i32_530 : BitVec 32 := 1#32
  let arg20 : BitVec 32 := Scf.iv c0_i32_529 c1_i32_530 k0_t66
  let c3_i32_625 : BitVec 32 := 3#32
  let v776 : BitVec 32 := Scalar.muli arg20 c3_i32_625
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let v777 : BitVec 32 := Scalar.addi v776 v771
  let c4_i32_643 : BitVec 32 := 4#32
  let v807 : BitVec 32 := Scalar.muli v777 c4_i32_643
  let c3_i32_644 : BitVec 32 := 3#32
  let v808 : BitVec 32 := Scalar.addi v807 c3_i32_644
  let c32_i32_645 : BitVec 32 := 32#32
  let v809 : BitVec 32 := Scalar.muli v808 c32_i32_645
  v809
def k0_mult134 : BitVec 32 :=
  let c0_i32_658 : BitVec 32 := 0#32
  c0_i32_658
def k0_mult135 : BitVec 32 :=
  let c0_i32_659 : BitVec 32 := 0#32
  c0_i32_659
def k0_off196 (arg23 : BitVec 32) : Fin 1 → Nat :=
  let c4_i32 : BitVec 32 := 4#32
  let v775 : BitVec 32 := Scalar.remsi arg23 c4_i32
  ![v775.toNat]
def k0_cond8 (v774 : BitVec 32) : BitVec 1 :=
  let c0_i32_629 : BitVec 32 := 0#32
  let v783 : BitVec 1 := Scalar.cmpi .sgt v774 c0_i32_629
  let v784 : BitVec 32 := Scalar.extui v783
  let c0_i32_630 : BitVec 32 := 0#32
  let v785 : BitVec 1 := Scalar.cmpi .ne v784 c0_i32_630
  v785

def k0_cond9 (arg23 : BitVec 32) : BitVec 1 :=
  let c4_i32_632 : BitVec 32 := 4#32
  let v789 : BitVec 1 := Scalar.cmpi .sge arg23 c4_i32_632
  let v790 : BitVec 32 := Scalar.extui v789
  let c0_i32_633 : BitVec 32 := 0#32
  let v791 : BitVec 1 := Scalar.cmpi .ne v790 c0_i32_633
  v791

def k0_off197 (arg23 : BitVec 32) : Fin 3 → Nat :=
  let c4_i32 : BitVec 32 := 4#32
  let v775 : BitVec 32 := Scalar.remsi arg23 c4_i32
  let c0_i32_661 : BitVec 32 := 0#32
  let c0_i32_662 : BitVec 32 := 0#32
  ![v775.toNat, 0, 0]
def k0_off198 (k0_t77 : Fin k0_t77_loop.trips) : Fin 2 → Nat :=
  let c0_634 : Index := 0#32
  let c0_i32_614 : BitVec 32 := 0#32
  let c1_i32_615 : BitVec 32 := 1#32
  let arg22 : BitVec 32 := Scf.iv c0_i32_614 c1_i32_615 k0_t77
  let c5_i32_623 : BitVec 32 := 5#32
  let v772 : BitVec 32 := Scalar.remsi arg22 c5_i32_623
  let v792 : Index := Scalar.indexCast v772
  ![0, v792.toNat]
def k0_off199 (k0_t77 : Fin k0_t77_loop.trips) : Fin 2 → Nat :=
  let c2_635 : Index := 2#32
  let c0_i32_614 : BitVec 32 := 0#32
  let c1_i32_615 : BitVec 32 := 1#32
  let arg22 : BitVec 32 := Scf.iv c0_i32_614 c1_i32_615 k0_t77
  let c5_i32_623 : BitVec 32 := 5#32
  let v772 : BitVec 32 := Scalar.remsi arg22 c5_i32_623
  let v794 : Index := Scalar.indexCast v772
  ![2, v794.toNat]
def k0_mult136 (k0_t77 : Fin k0_t77_loop.trips) : BitVec 32 :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  v796
def k0_mult137 (v795 : BitVec 32) : BitVec 32 :=
  let c0_i32_658 : BitVec 32 := 0#32
  let v827 : BitVec 32 := Scalar.addi v795 c0_i32_658
  v827
def k0_cond10 (v774 : BitVec 32) : BitVec 1 :=
  let c1_i32_637 : BitVec 32 := 1#32
  let v798 : BitVec 1 := Scalar.cmpi .eq v774 c1_i32_637
  let v799 : BitVec 32 := Scalar.extui v798
  let c0_i32_638 : BitVec 32 := 0#32
  let v800 : BitVec 1 := Scalar.cmpi .ne v799 c0_i32_638
  v800

def k0_off200 (k0_t77 : Fin k0_t77_loop.trips) (v795 : BitVec 32) : Fin 2 → Nat :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  let v797 : BitVec 32 := v796
  let v829 : Index := Scalar.indexCast v797
  let c0_i32_658 : BitVec 32 := 0#32
  let v827 : BitVec 32 := Scalar.addi v795 c0_i32_658
  let v828 : BitVec 32 := v827
  let v830 : Index := Scalar.indexCast v828
  ![v829.toNat, v830.toNat]
def k0_mult138 (v793 : BitVec 32) : BitVec 32 :=
  let c0_i32_659 : BitVec 32 := 0#32
  let v832 : BitVec 32 := Scalar.addi v793 c0_i32_659
  v832

def k0_off201 (v793 : BitVec 32) : Fin 2 → Nat :=
  let c0_i32_659 : BitVec 32 := 0#32
  let v832 : BitVec 32 := Scalar.addi v793 c0_i32_659
  let v833 : BitVec 32 := v832
  let v834 : Index := Scalar.indexCast v833
  let c0_660 : Index := 0#32
  ![v834.toNat, 0]
def k0_off202 (arg23 : BitVec 32) : Fin 3 → Nat :=
  let c4_i32 : BitVec 32 := 4#32
  let v775 : BitVec 32 := Scalar.remsi arg23 c4_i32
  let v837 : Index := Scalar.indexCast v775
  let c0_662 : Index := 0#32
  let c0_663 : Index := 0#32
  ![v837.toNat, 0, 0]
def k0_mult139 (v795 : BitVec 32) : BitVec 32 :=
  let c0_i32_658 : BitVec 32 := 0#32
  let v827 : BitVec 32 := Scalar.addi v795 c0_i32_658
  v827
def k0_cond11 (v774 : BitVec 32) : BitVec 1 :=
  let c2_i32_639 : BitVec 32 := 2#32
  let v801 : BitVec 1 := Scalar.cmpi .eq v774 c2_i32_639
  let v802 : BitVec 32 := Scalar.extui v801
  let c0_i32_640 : BitVec 32 := 0#32
  let v803 : BitVec 1 := Scalar.cmpi .ne v802 c0_i32_640
  v803

def k0_off203 (k0_t77 : Fin k0_t77_loop.trips) (v795 : BitVec 32) : Fin 2 → Nat :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  let v797 : BitVec 32 := v796
  let v829 : Index := Scalar.indexCast v797
  let c0_i32_658 : BitVec 32 := 0#32
  let v827 : BitVec 32 := Scalar.addi v795 c0_i32_658
  let v828 : BitVec 32 := v827
  let v830 : Index := Scalar.indexCast v828
  ![v829.toNat, v830.toNat]
def k0_mult140 (v793 : BitVec 32) : BitVec 32 :=
  let c0_i32_659 : BitVec 32 := 0#32
  let v832 : BitVec 32 := Scalar.addi v793 c0_i32_659
  v832
def k0_off204 (v793 : BitVec 32) : Fin 2 → Nat :=
  let c0_i32_659 : BitVec 32 := 0#32
  let v832 : BitVec 32 := Scalar.addi v793 c0_i32_659
  let v833 : BitVec 32 := v832
  let v834 : Index := Scalar.indexCast v833
  let c0_660 : Index := 0#32
  ![v834.toNat, 0]
def k0_off205 (arg23 : BitVec 32) : Fin 3 → Nat :=
  let c4_i32 : BitVec 32 := 4#32
  let v775 : BitVec 32 := Scalar.remsi arg23 c4_i32
  let v837 : Index := Scalar.indexCast v775
  let c0_662 : Index := 0#32
  let c0_663 : Index := 0#32
  ![v837.toNat, 0, 0]
def k0_mult141 (v795 : BitVec 32) : BitVec 32 :=
  let c0_i32_658 : BitVec 32 := 0#32
  let v827 : BitVec 32 := Scalar.addi v795 c0_i32_658
  v827
def k0_cond12 (v774 : BitVec 32) : BitVec 1 :=
  let c3_i32_641 : BitVec 32 := 3#32
  let v804 : BitVec 1 := Scalar.cmpi .sge v774 c3_i32_641
  let v805 : BitVec 32 := Scalar.extui v804
  let c0_i32_642 : BitVec 32 := 0#32
  let v806 : BitVec 1 := Scalar.cmpi .ne v805 c0_i32_642
  v806

def k0_off206 (k0_t77 : Fin k0_t77_loop.trips) (v795 : BitVec 32) : Fin 2 → Nat :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  let v797 : BitVec 32 := v796
  let v829 : Index := Scalar.indexCast v797
  let c0_i32_658 : BitVec 32 := 0#32
  let v827 : BitVec 32 := Scalar.addi v795 c0_i32_658
  let v828 : BitVec 32 := v827
  let v830 : Index := Scalar.indexCast v828
  ![v829.toNat, v830.toNat]
def k0_mult142 (v793 : BitVec 32) : BitVec 32 :=
  let c0_i32_659 : BitVec 32 := 0#32
  let v832 : BitVec 32 := Scalar.addi v793 c0_i32_659
  v832
def k0_off207 (v793 : BitVec 32) : Fin 2 → Nat :=
  let c0_i32_659 : BitVec 32 := 0#32
  let v832 : BitVec 32 := Scalar.addi v793 c0_i32_659
  let v833 : BitVec 32 := v832
  let v834 : Index := Scalar.indexCast v833
  let c0_660 : Index := 0#32
  ![v834.toNat, 0]
def k0_off208 (arg23 : BitVec 32) : Fin 3 → Nat :=
  let c4_i32 : BitVec 32 := 4#32
  let v775 : BitVec 32 := Scalar.remsi arg23 c4_i32
  let v837 : Index := Scalar.indexCast v775
  let c0_662 : Index := 0#32
  let c0_663 : Index := 0#32
  ![v837.toNat, 0, 0]
@[reducible] def k0_t78_loop (v774 : BitVec 32) : Scf.Loop 32 :=
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let c1_i32_652 : BitVec 32 := 1#32
  ⟨c0_i32_650, v816, c1_i32_652⟩
def k0_off209 (arg23 : BitVec 32) : Fin 3 → Nat :=
  let c4_i32 : BitVec 32 := 4#32
  let v775 : BitVec 32 := Scalar.remsi arg23 c4_i32
  let v829 : Index := Scalar.indexCast v775
  let c0_658 : Index := 0#32
  let c0_659 : Index := 0#32
  ![v829.toNat, 0, 0]
def k0_mult143 (v774 : BitVec 32) (v795 : BitVec 32) (k0_t78 : Fin (k0_t78_loop v774).trips) : BitVec 32 :=
  let c3_i32_649 : BitVec 32 := 3#32
  let c0_i32_650 : BitVec 32 := 0#32
  let c1_i32_652 : BitVec 32 := 1#32
  let arg24 : BitVec 32 := Scf.iv c0_i32_650 c1_i32_652 k0_t78
  let c1_i32_648 : BitVec 32 := 1#32
  let v827 : BitVec 32 := Scalar.muli arg24 c1_i32_648
  let v828 : BitVec 32 := Scalar.addi c3_i32_649 v827
  let c256_i32_660 : BitVec 32 := 256#32
  let v832 : BitVec 32 := Scalar.muli v828 c256_i32_660
  let v833 : BitVec 32 := Scalar.addi v795 v832
  v833
def k0_off210 (k0_t77 : Fin k0_t77_loop.trips) (v774 : BitVec 32) (v795 : BitVec 32) (k0_t78 : Fin (k0_t78_loop v774).trips) : Fin 2 → Nat :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  let v797 : BitVec 32 := v796
  let v835 : Index := Scalar.indexCast v797
  let c3_i32_649 : BitVec 32 := 3#32
  let c0_i32_650 : BitVec 32 := 0#32
  let c1_i32_652 : BitVec 32 := 1#32
  let arg24 : BitVec 32 := Scf.iv c0_i32_650 c1_i32_652 k0_t78
  let c1_i32_648 : BitVec 32 := 1#32
  let v827 : BitVec 32 := Scalar.muli arg24 c1_i32_648
  let v828 : BitVec 32 := Scalar.addi c3_i32_649 v827
  let c256_i32_660 : BitVec 32 := 256#32
  let v832 : BitVec 32 := Scalar.muli v828 c256_i32_660
  let v833 : BitVec 32 := Scalar.addi v795 v832
  let v834 : BitVec 32 := v833
  let v836 : Index := Scalar.indexCast v834
  ![v835.toNat, v836.toNat]
def k0_mult144 (v774 : BitVec 32) (v793 : BitVec 32) (k0_t78 : Fin (k0_t78_loop v774).trips) : BitVec 32 :=
  let c3_i32_649 : BitVec 32 := 3#32
  let c0_i32_650 : BitVec 32 := 0#32
  let c1_i32_652 : BitVec 32 := 1#32
  let arg24 : BitVec 32 := Scf.iv c0_i32_650 c1_i32_652 k0_t78
  let c1_i32_648 : BitVec 32 := 1#32
  let v827 : BitVec 32 := Scalar.muli arg24 c1_i32_648
  let v828 : BitVec 32 := Scalar.addi c3_i32_649 v827
  let c256_i32_661 : BitVec 32 := 256#32
  let v838 : BitVec 32 := Scalar.muli v828 c256_i32_661
  let v839 : BitVec 32 := Scalar.addi v793 v838
  v839
def k0_off211 (v774 : BitVec 32) (v793 : BitVec 32) (k0_t78 : Fin (k0_t78_loop v774).trips) : Fin 2 → Nat :=
  let c3_i32_649 : BitVec 32 := 3#32
  let c0_i32_650 : BitVec 32 := 0#32
  let c1_i32_652 : BitVec 32 := 1#32
  let arg24 : BitVec 32 := Scf.iv c0_i32_650 c1_i32_652 k0_t78
  let c1_i32_648 : BitVec 32 := 1#32
  let v827 : BitVec 32 := Scalar.muli arg24 c1_i32_648
  let v828 : BitVec 32 := Scalar.addi c3_i32_649 v827
  let c256_i32_661 : BitVec 32 := 256#32
  let v838 : BitVec 32 := Scalar.muli v828 c256_i32_661
  let v839 : BitVec 32 := Scalar.addi v793 v838
  let v840 : BitVec 32 := v839
  let v841 : Index := Scalar.indexCast v840
  let c0_662 : Index := 0#32
  ![v841.toNat, 0]
@[reducible] def k0_t79_loop (v774 : BitVec 32) : Scf.Loop 32 :=
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let v813 : BitVec 32 := Scalar.addi c0_i32_650 v812
  let c1_i32_653 : BitVec 32 := 1#32
  ⟨v816, v813, c1_i32_653⟩
def k0_off212 (arg23 : BitVec 32) : Fin 3 → Nat :=
  let c4_i32 : BitVec 32 := 4#32
  let v775 : BitVec 32 := Scalar.remsi arg23 c4_i32
  let v829 : Index := Scalar.indexCast v775
  let c0_658 : Index := 0#32
  let c0_659 : Index := 0#32
  ![v829.toNat, 0, 0]
def k0_mult145 (v774 : BitVec 32) (v795 : BitVec 32) (k0_t79 : Fin (k0_t79_loop v774).trips) : BitVec 32 :=
  let c3_i32_649 : BitVec 32 := 3#32
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let c1_i32_653 : BitVec 32 := 1#32
  let arg24 : BitVec 32 := Scf.iv v816 c1_i32_653 k0_t79
  let c1_i32_648 : BitVec 32 := 1#32
  let v827 : BitVec 32 := Scalar.muli arg24 c1_i32_648
  let v828 : BitVec 32 := Scalar.addi c3_i32_649 v827
  let c256_i32_660 : BitVec 32 := 256#32
  let v832 : BitVec 32 := Scalar.muli v828 c256_i32_660
  let v833 : BitVec 32 := Scalar.addi v795 v832
  v833
def k0_off213 (k0_t77 : Fin k0_t77_loop.trips) (v774 : BitVec 32) (v795 : BitVec 32) (k0_t79 : Fin (k0_t79_loop v774).trips) : Fin 2 → Nat :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_636 : BitVec 32 := 1024#32
  let v796 : BitVec 32 := Scalar.muli v771 c1024_i32_636
  let v797 : BitVec 32 := v796
  let v835 : Index := Scalar.indexCast v797
  let c3_i32_649 : BitVec 32 := 3#32
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let c1_i32_653 : BitVec 32 := 1#32
  let arg24 : BitVec 32 := Scf.iv v816 c1_i32_653 k0_t79
  let c1_i32_648 : BitVec 32 := 1#32
  let v827 : BitVec 32 := Scalar.muli arg24 c1_i32_648
  let v828 : BitVec 32 := Scalar.addi c3_i32_649 v827
  let c256_i32_660 : BitVec 32 := 256#32
  let v832 : BitVec 32 := Scalar.muli v828 c256_i32_660
  let v833 : BitVec 32 := Scalar.addi v795 v832
  let v834 : BitVec 32 := v833
  let v836 : Index := Scalar.indexCast v834
  ![v835.toNat, v836.toNat]

def k0_chk7 (k0_t77 : Fin k0_t77_loop.trips) (v774 : BitVec 32) (v795 : BitVec 32) : Prop :=
  (∀ (k0_h8 : k0_cond8 v774 = 1#1), ∀ (k0_h10 : k0_cond10 v774 = 1#1), 256 ∣ (k0_mult137 v795).toNat) ∧
  (∀ (k0_h8 : k0_cond8 v774 = 1#1), ∀ (k0_h10 : k0_cond10 v774 = 1#1), ∀ a, (k0_off200 k0_t77 v795) a + S1024x256.size a ≤ S3072x2816.size a) ∧
  (∀ (k0_h8 : k0_cond8 v774 = 1#1), ∀ (k0_h11 : k0_cond11 v774 = 1#1), 256 ∣ (k0_mult139 v795).toNat) ∧
  (∀ (k0_h8 : k0_cond8 v774 = 1#1), ∀ (k0_h11 : k0_cond11 v774 = 1#1), ∀ a, (k0_off203 k0_t77 v795) a + S1024x512.size a ≤ S3072x2816.size a) ∧
  (∀ (k0_h8 : k0_cond8 v774 = 1#1), ∀ (k0_h12 : k0_cond12 v774 = 1#1), 256 ∣ (k0_mult141 v795).toNat) ∧
  (∀ (k0_h8 : k0_cond8 v774 = 1#1), ∀ (k0_h12 : k0_cond12 v774 = 1#1), ∀ a, (k0_off206 k0_t77 v795) a + S1024x768.size a ≤ S3072x2816.size a) ∧
  (∀ k0_t78 : Fin (k0_t78_loop v774).trips, ∀ (k0_h8 : k0_cond8 v774 = 1#1), 256 ∣ (k0_mult143 v774 v795 k0_t78).toNat) ∧
  (∀ k0_t78 : Fin (k0_t78_loop v774).trips, ∀ (k0_h8 : k0_cond8 v774 = 1#1), ∀ a, (k0_off210 k0_t77 v774 v795 k0_t78) a + S1024x256.size a ≤ S3072x2816.size a) ∧
  (∀ k0_t79 : Fin (k0_t79_loop v774).trips, ∀ (k0_h8 : k0_cond8 v774 = 1#1), 256 ∣ (k0_mult145 v774 v795 k0_t79).toNat) ∧
  (∀ k0_t79 : Fin (k0_t79_loop v774).trips, ∀ (k0_h8 : k0_cond8 v774 = 1#1), ∀ a, (k0_off213 k0_t77 v774 v795 k0_t79) a + S1024x256.size a ≤ S3072x2816.size a)
theorem k0_mult137_dvd : ∀ (k0_t77 : Fin k0_t77_loop.trips) (v774 : BitVec 32) (v795 : BitVec 32) (k0_hw7 : k0_chk7 k0_t77 v774 v795), ∀ (k0_h8 : k0_cond8 v774 = 1#1), ∀ (k0_h10 : k0_cond10 v774 = 1#1), 256 ∣ (k0_mult137 v795).toNat := fun k0_t77 v774 v795 k0_hw7 k0_h8 k0_h10 => k0_hw7.1 k0_h8 k0_h10
theorem k0_off200_inb : ∀ (k0_t77 : Fin k0_t77_loop.trips) (v774 : BitVec 32) (v795 : BitVec 32) (k0_hw7 : k0_chk7 k0_t77 v774 v795), ∀ (k0_h8 : k0_cond8 v774 = 1#1), ∀ (k0_h10 : k0_cond10 v774 = 1#1), ∀ a, (k0_off200 k0_t77 v795) a + S1024x256.size a ≤ S3072x2816.size a := fun k0_t77 v774 v795 k0_hw7 k0_h8 k0_h10 => k0_hw7.2.1 k0_h8 k0_h10
theorem k0_mult139_dvd : ∀ (k0_t77 : Fin k0_t77_loop.trips) (v774 : BitVec 32) (v795 : BitVec 32) (k0_hw7 : k0_chk7 k0_t77 v774 v795), ∀ (k0_h8 : k0_cond8 v774 = 1#1), ∀ (k0_h11 : k0_cond11 v774 = 1#1), 256 ∣ (k0_mult139 v795).toNat := fun k0_t77 v774 v795 k0_hw7 k0_h8 k0_h11 => k0_hw7.2.2.1 k0_h8 k0_h11
theorem k0_off203_inb : ∀ (k0_t77 : Fin k0_t77_loop.trips) (v774 : BitVec 32) (v795 : BitVec 32) (k0_hw7 : k0_chk7 k0_t77 v774 v795), ∀ (k0_h8 : k0_cond8 v774 = 1#1), ∀ (k0_h11 : k0_cond11 v774 = 1#1), ∀ a, (k0_off203 k0_t77 v795) a + S1024x512.size a ≤ S3072x2816.size a := fun k0_t77 v774 v795 k0_hw7 k0_h8 k0_h11 => k0_hw7.2.2.2.1 k0_h8 k0_h11
theorem k0_mult141_dvd : ∀ (k0_t77 : Fin k0_t77_loop.trips) (v774 : BitVec 32) (v795 : BitVec 32) (k0_hw7 : k0_chk7 k0_t77 v774 v795), ∀ (k0_h8 : k0_cond8 v774 = 1#1), ∀ (k0_h12 : k0_cond12 v774 = 1#1), 256 ∣ (k0_mult141 v795).toNat := fun k0_t77 v774 v795 k0_hw7 k0_h8 k0_h12 => k0_hw7.2.2.2.2.1 k0_h8 k0_h12
theorem k0_off206_inb : ∀ (k0_t77 : Fin k0_t77_loop.trips) (v774 : BitVec 32) (v795 : BitVec 32) (k0_hw7 : k0_chk7 k0_t77 v774 v795), ∀ (k0_h8 : k0_cond8 v774 = 1#1), ∀ (k0_h12 : k0_cond12 v774 = 1#1), ∀ a, (k0_off206 k0_t77 v795) a + S1024x768.size a ≤ S3072x2816.size a := fun k0_t77 v774 v795 k0_hw7 k0_h8 k0_h12 => k0_hw7.2.2.2.2.2.1 k0_h8 k0_h12
theorem k0_mult143_dvd : ∀ (k0_t77 : Fin k0_t77_loop.trips) (v774 : BitVec 32) (v795 : BitVec 32) (k0_hw7 : k0_chk7 k0_t77 v774 v795) (k0_t78 : Fin (k0_t78_loop v774).trips), ∀ (k0_h8 : k0_cond8 v774 = 1#1), 256 ∣ (k0_mult143 v774 v795 k0_t78).toNat := fun k0_t77 v774 v795 k0_hw7 k0_t78 k0_h8 => k0_hw7.2.2.2.2.2.2.1 k0_t78 k0_h8
theorem k0_off210_inb : ∀ (k0_t77 : Fin k0_t77_loop.trips) (v774 : BitVec 32) (v795 : BitVec 32) (k0_hw7 : k0_chk7 k0_t77 v774 v795) (k0_t78 : Fin (k0_t78_loop v774).trips), ∀ (k0_h8 : k0_cond8 v774 = 1#1), ∀ a, (k0_off210 k0_t77 v774 v795 k0_t78) a + S1024x256.size a ≤ S3072x2816.size a := fun k0_t77 v774 v795 k0_hw7 k0_t78 k0_h8 => k0_hw7.2.2.2.2.2.2.2.1 k0_t78 k0_h8
theorem k0_mult145_dvd : ∀ (k0_t77 : Fin k0_t77_loop.trips) (v774 : BitVec 32) (v795 : BitVec 32) (k0_hw7 : k0_chk7 k0_t77 v774 v795) (k0_t79 : Fin (k0_t79_loop v774).trips), ∀ (k0_h8 : k0_cond8 v774 = 1#1), 256 ∣ (k0_mult145 v774 v795 k0_t79).toNat := fun k0_t77 v774 v795 k0_hw7 k0_t79 k0_h8 => k0_hw7.2.2.2.2.2.2.2.2.1 k0_t79 k0_h8
theorem k0_off213_inb : ∀ (k0_t77 : Fin k0_t77_loop.trips) (v774 : BitVec 32) (v795 : BitVec 32) (k0_hw7 : k0_chk7 k0_t77 v774 v795) (k0_t79 : Fin (k0_t79_loop v774).trips), ∀ (k0_h8 : k0_cond8 v774 = 1#1), ∀ a, (k0_off213 k0_t77 v774 v795 k0_t79) a + S1024x256.size a ≤ S3072x2816.size a := fun k0_t77 v774 v795 k0_hw7 k0_t79 k0_h8 => k0_hw7.2.2.2.2.2.2.2.2.2 k0_t79 k0_h8

def k0_mult146 (v774 : BitVec 32) (v793 : BitVec 32) (k0_t79 : Fin (k0_t79_loop v774).trips) : BitVec 32 :=
  let c3_i32_649 : BitVec 32 := 3#32
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let c1_i32_653 : BitVec 32 := 1#32
  let arg24 : BitVec 32 := Scf.iv v816 c1_i32_653 k0_t79
  let c1_i32_648 : BitVec 32 := 1#32
  let v827 : BitVec 32 := Scalar.muli arg24 c1_i32_648
  let v828 : BitVec 32 := Scalar.addi c3_i32_649 v827
  let c256_i32_661 : BitVec 32 := 256#32
  let v838 : BitVec 32 := Scalar.muli v828 c256_i32_661
  let v839 : BitVec 32 := Scalar.addi v793 v838
  v839
def k0_off214 (v774 : BitVec 32) (v793 : BitVec 32) (k0_t79 : Fin (k0_t79_loop v774).trips) : Fin 2 → Nat :=
  let c3_i32_649 : BitVec 32 := 3#32
  let c0_i32_650 : BitVec 32 := 0#32
  let c3_i32_643 : BitVec 32 := 3#32
  let v807 : BitVec 32 := Scalar.maxsi v774 c3_i32_643
  let c3_i32_644 : BitVec 32 := 3#32
  let v808 : BitVec 32 := Scalar.subi v807 c3_i32_644
  let c1_i32_645 : BitVec 32 := 1#32
  let c1_i32_646 : BitVec 32 := 1#32
  let v809 : BitVec 32 := Scalar.subi c1_i32_645 c1_i32_646
  let v810 : BitVec 32 := Scalar.addi v808 v809
  let c1_i32_647 : BitVec 32 := 1#32
  let v811 : BitVec 32 := Scalar.divsi v810 c1_i32_647
  let v812 : BitVec 32 := Scalar.subi v811 c0_i32_650
  let c1_i32_651 : BitVec 32 := 1#32
  let v814 : BitVec 32 := Scalar.divsi v812 c1_i32_651
  let v815 : BitVec 32 := Scalar.muli v814 c1_i32_651
  let v816 : BitVec 32 := Scalar.addi c0_i32_650 v815
  let c1_i32_653 : BitVec 32 := 1#32
  let arg24 : BitVec 32 := Scf.iv v816 c1_i32_653 k0_t79
  let c1_i32_648 : BitVec 32 := 1#32
  let v827 : BitVec 32 := Scalar.muli arg24 c1_i32_648
  let v828 : BitVec 32 := Scalar.addi c3_i32_649 v827
  let c256_i32_661 : BitVec 32 := 256#32
  let v838 : BitVec 32 := Scalar.muli v828 c256_i32_661
  let v839 : BitVec 32 := Scalar.addi v793 v838
  let v840 : BitVec 32 := v839
  let v841 : Index := Scalar.indexCast v840
  let c0_662 : Index := 0#32
  ![v841.toNat, 0]

def k0_chk8 (v774 : BitVec 32) (v793 : BitVec 32) : Prop :=
  (∀ (k0_h8 : k0_cond8 v774 = 1#1), ∀ (k0_h10 : k0_cond10 v774 = 1#1), 16 ∣ (k0_mult138 v793).toNat) ∧
  (∀ (k0_h8 : k0_cond8 v774 = 1#1), ∀ (k0_h10 : k0_cond10 v774 = 1#1), ∀ a, (k0_off201 v793) a + S256x1024.size a ≤ S1792x1024.size a) ∧
  (∀ (k0_h8 : k0_cond8 v774 = 1#1), ∀ (k0_h11 : k0_cond11 v774 = 1#1), 16 ∣ (k0_mult140 v793).toNat) ∧
  (∀ (k0_h8 : k0_cond8 v774 = 1#1), ∀ (k0_h11 : k0_cond11 v774 = 1#1), ∀ a, (k0_off204 v793) a + S512x1024.size a ≤ S1792x1024.size a) ∧
  (∀ (k0_h8 : k0_cond8 v774 = 1#1), ∀ (k0_h12 : k0_cond12 v774 = 1#1), 16 ∣ (k0_mult142 v793).toNat) ∧
  (∀ (k0_h8 : k0_cond8 v774 = 1#1), ∀ (k0_h12 : k0_cond12 v774 = 1#1), ∀ a, (k0_off207 v793) a + S768x1024.size a ≤ S1792x1024.size a) ∧
  (∀ k0_t78 : Fin (k0_t78_loop v774).trips, ∀ (k0_h8 : k0_cond8 v774 = 1#1), 16 ∣ (k0_mult144 v774 v793 k0_t78).toNat) ∧
  (∀ k0_t78 : Fin (k0_t78_loop v774).trips, ∀ (k0_h8 : k0_cond8 v774 = 1#1), ∀ a, (k0_off211 v774 v793 k0_t78) a + S256x1024.size a ≤ S1792x1024.size a) ∧
  (∀ k0_t79 : Fin (k0_t79_loop v774).trips, ∀ (k0_h8 : k0_cond8 v774 = 1#1), 16 ∣ (k0_mult146 v774 v793 k0_t79).toNat) ∧
  (∀ k0_t79 : Fin (k0_t79_loop v774).trips, ∀ (k0_h8 : k0_cond8 v774 = 1#1), ∀ a, (k0_off214 v774 v793 k0_t79) a + S256x1024.size a ≤ S1792x1024.size a)
theorem k0_mult138_dvd : ∀ (v774 : BitVec 32) (v793 : BitVec 32) (k0_hw8 : k0_chk8 v774 v793), ∀ (k0_h8 : k0_cond8 v774 = 1#1), ∀ (k0_h10 : k0_cond10 v774 = 1#1), 16 ∣ (k0_mult138 v793).toNat := fun v774 v793 k0_hw8 k0_h8 k0_h10 => k0_hw8.1 k0_h8 k0_h10
theorem k0_off201_inb : ∀ (v774 : BitVec 32) (v793 : BitVec 32) (k0_hw8 : k0_chk8 v774 v793), ∀ (k0_h8 : k0_cond8 v774 = 1#1), ∀ (k0_h10 : k0_cond10 v774 = 1#1), ∀ a, (k0_off201 v793) a + S256x1024.size a ≤ S1792x1024.size a := fun v774 v793 k0_hw8 k0_h8 k0_h10 => k0_hw8.2.1 k0_h8 k0_h10
theorem k0_mult140_dvd : ∀ (v774 : BitVec 32) (v793 : BitVec 32) (k0_hw8 : k0_chk8 v774 v793), ∀ (k0_h8 : k0_cond8 v774 = 1#1), ∀ (k0_h11 : k0_cond11 v774 = 1#1), 16 ∣ (k0_mult140 v793).toNat := fun v774 v793 k0_hw8 k0_h8 k0_h11 => k0_hw8.2.2.1 k0_h8 k0_h11
theorem k0_off204_inb : ∀ (v774 : BitVec 32) (v793 : BitVec 32) (k0_hw8 : k0_chk8 v774 v793), ∀ (k0_h8 : k0_cond8 v774 = 1#1), ∀ (k0_h11 : k0_cond11 v774 = 1#1), ∀ a, (k0_off204 v793) a + S512x1024.size a ≤ S1792x1024.size a := fun v774 v793 k0_hw8 k0_h8 k0_h11 => k0_hw8.2.2.2.1 k0_h8 k0_h11
theorem k0_mult142_dvd : ∀ (v774 : BitVec 32) (v793 : BitVec 32) (k0_hw8 : k0_chk8 v774 v793), ∀ (k0_h8 : k0_cond8 v774 = 1#1), ∀ (k0_h12 : k0_cond12 v774 = 1#1), 16 ∣ (k0_mult142 v793).toNat := fun v774 v793 k0_hw8 k0_h8 k0_h12 => k0_hw8.2.2.2.2.1 k0_h8 k0_h12
theorem k0_off207_inb : ∀ (v774 : BitVec 32) (v793 : BitVec 32) (k0_hw8 : k0_chk8 v774 v793), ∀ (k0_h8 : k0_cond8 v774 = 1#1), ∀ (k0_h12 : k0_cond12 v774 = 1#1), ∀ a, (k0_off207 v793) a + S768x1024.size a ≤ S1792x1024.size a := fun v774 v793 k0_hw8 k0_h8 k0_h12 => k0_hw8.2.2.2.2.2.1 k0_h8 k0_h12
theorem k0_mult144_dvd : ∀ (v774 : BitVec 32) (v793 : BitVec 32) (k0_hw8 : k0_chk8 v774 v793) (k0_t78 : Fin (k0_t78_loop v774).trips), ∀ (k0_h8 : k0_cond8 v774 = 1#1), 16 ∣ (k0_mult144 v774 v793 k0_t78).toNat := fun v774 v793 k0_hw8 k0_t78 k0_h8 => k0_hw8.2.2.2.2.2.2.1 k0_t78 k0_h8
theorem k0_off211_inb : ∀ (v774 : BitVec 32) (v793 : BitVec 32) (k0_hw8 : k0_chk8 v774 v793) (k0_t78 : Fin (k0_t78_loop v774).trips), ∀ (k0_h8 : k0_cond8 v774 = 1#1), ∀ a, (k0_off211 v774 v793 k0_t78) a + S256x1024.size a ≤ S1792x1024.size a := fun v774 v793 k0_hw8 k0_t78 k0_h8 => k0_hw8.2.2.2.2.2.2.2.1 k0_t78 k0_h8
theorem k0_mult146_dvd : ∀ (v774 : BitVec 32) (v793 : BitVec 32) (k0_hw8 : k0_chk8 v774 v793) (k0_t79 : Fin (k0_t79_loop v774).trips), ∀ (k0_h8 : k0_cond8 v774 = 1#1), 16 ∣ (k0_mult146 v774 v793 k0_t79).toNat := fun v774 v793 k0_hw8 k0_t79 k0_h8 => k0_hw8.2.2.2.2.2.2.2.2.1 k0_t79 k0_h8
theorem k0_off214_inb : ∀ (v774 : BitVec 32) (v793 : BitVec 32) (k0_hw8 : k0_chk8 v774 v793) (k0_t79 : Fin (k0_t79_loop v774).trips), ∀ (k0_h8 : k0_cond8 v774 = 1#1), ∀ a, (k0_off214 v774 v793 k0_t79) a + S256x1024.size a ≤ S1792x1024.size a := fun v774 v793 k0_hw8 k0_t79 k0_h8 => k0_hw8.2.2.2.2.2.2.2.2.2 k0_t79 k0_h8

def k0_mult147 (k0_t77 : Fin k0_t77_loop.trips) : BitVec 32 :=
  let c0_i32_614 : BitVec 32 := 0#32
  let c1_i32_615 : BitVec 32 := 1#32
  let arg22 : BitVec 32 := Scf.iv c0_i32_614 c1_i32_615 k0_t77
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_654 : BitVec 32 := 1024#32
  let v817 : BitVec 32 := Scalar.muli v771 c1024_i32_654
  v817
def k0_mult148 (k0_t66 : Fin k0_t66_loop.trips) : BitVec 32 :=
  let c0_i32_529 : BitVec 32 := 0#32
  let c1_i32_530 : BitVec 32 := 1#32
  let arg20 : BitVec 32 := Scf.iv c0_i32_529 c1_i32_530 k0_t66
  let c1024_i32_655 : BitVec 32 := 1024#32
  let v819 : BitVec 32 := Scalar.muli arg20 c1024_i32_655
  v819
def k0_off215 (arg23 : BitVec 32) : Fin 1 → Nat :=
  let c4_i32 : BitVec 32 := 4#32
  let v775 : BitVec 32 := Scalar.remsi arg23 c4_i32
  ![v775.toNat]
def k0_off216 (k0_t66 : Fin k0_t66_loop.trips) (k0_t77 : Fin k0_t77_loop.trips) : Fin 3 → Nat :=
  let c0_i32_614 : BitVec 32 := 0#32
  let c1_i32_615 : BitVec 32 := 1#32
  let arg22 : BitVec 32 := Scf.iv c0_i32_614 c1_i32_615 k0_t77
  let c5_i32_623 : BitVec 32 := 5#32
  let v772 : BitVec 32 := Scalar.remsi arg22 c5_i32_623
  let c0_i32_617 : BitVec 32 := 0#32
  let v756 : BitVec 1 := Scalar.cmpi .sgt arg22 c0_i32_617
  let v757 : BitVec 32 := Scalar.extui v756
  let c0_i32_618 : BitVec 32 := 0#32
  let v758 : BitVec 1 := Scalar.cmpi .slt arg22 c0_i32_618
  let v759 : BitVec 32 := Scalar.extui v758
  let v760 : BitVec 32 := Scalar.subi v757 v759
  let c5_i32 : BitVec 32 := 5#32
  let c0_i32_619 : BitVec 32 := 0#32
  let v761 : BitVec 1 := Scalar.cmpi .sgt c5_i32 c0_i32_619
  let v762 : BitVec 32 := Scalar.extui v761
  let c0_i32_620 : BitVec 32 := 0#32
  let v763 : BitVec 1 := Scalar.cmpi .slt c5_i32 c0_i32_620
  let v764 : BitVec 32 := Scalar.extui v763
  let v765 : BitVec 32 := Scalar.subi v762 v764
  let v766 : BitVec 1 := Scalar.cmpi .ne v760 v765
  let v767 : BitVec 32 := Scalar.remsi arg22 c5_i32
  let c0_i32_621 : BitVec 32 := 0#32
  let v768 : BitVec 1 := Scalar.cmpi .ne v767 c0_i32_621
  let v769 : BitVec 1 := Scalar.andi v766 v768
  let v755 : BitVec 32 := Scalar.divsi arg22 c5_i32
  let c1_i32_622 : BitVec 32 := 1#32
  let v770 : BitVec 32 := Scalar.subi v755 c1_i32_622
  let v771 : BitVec 32 := Scalar.select v769 v770 v755
  let c1024_i32_654 : BitVec 32 := 1024#32
  let v817 : BitVec 32 := Scalar.muli v771 c1024_i32_654
  let v818 : BitVec 32 := v817
  let c0_i32_529 : BitVec 32 := 0#32
  let c1_i32_530 : BitVec 32 := 1#32
  let arg20 : BitVec 32 := Scf.iv c0_i32_529 c1_i32_530 k0_t66
  let c1024_i32_655 : BitVec 32 := 1024#32
  let v819 : BitVec 32 := Scalar.muli arg20 c1024_i32_655
  let v820 : BitVec 32 := v819
  ![v772.toNat, v818.toNat, v820.toNat]
def k0_off217 (arg23 : BitVec 32) : Fin 3 → Nat :=
  let c4_i32 : BitVec 32 := 4#32
  let v775 : BitVec 32 := Scalar.remsi arg23 c4_i32
  let c0_i32_656 : BitVec 32 := 0#32
  let c0_i32_657 : BitVec 32 := 0#32
  ![v775.toNat, 0, 0]

def k0_chk6 (arg23 : BitVec 32) (v774 : BitVec 32) : Prop :=
  (∀ (k0_h8 : k0_cond8 v774 = 1#1), ∀ (k0_h9 : k0_cond9 arg23 = 1#1), ∀ a, (k0_off196 arg23) a + S1.size a ≤ S4.size a) ∧
  (∀ (k0_h8 : k0_cond8 v774 = 1#1), ∀ (k0_h9 : k0_cond9 arg23 = 1#1), ∀ a, (k0_off197 arg23) a + S1x1024x1024.size a ≤ S4x1024x1024.size a) ∧
  (∀ (k0_h8 : k0_cond8 v774 = 1#1), ∀ (k0_h10 : k0_cond10 v774 = 1#1), ∀ a, (k0_off202 arg23) a + S1x1024x1024.size a ≤ S4x1024x1024.size a) ∧
  (∀ (k0_h8 : k0_cond8 v774 = 1#1), ∀ (k0_h11 : k0_cond11 v774 = 1#1), ∀ a, (k0_off205 arg23) a + S1x1024x1024.size a ≤ S4x1024x1024.size a) ∧
  (∀ (k0_h8 : k0_cond8 v774 = 1#1), ∀ (k0_h12 : k0_cond12 v774 = 1#1), ∀ a, (k0_off208 arg23) a + S1x1024x1024.size a ≤ S4x1024x1024.size a) ∧
  (∀ (k0_h8 : k0_cond8 v774 = 1#1), (k0_t78_loop v774).OK) ∧
  (∀ k0_t78 : Fin (k0_t78_loop v774).trips, ∀ (k0_h8 : k0_cond8 v774 = 1#1), ∀ a, (k0_off209 arg23) a + S1x1024x1024.size a ≤ S4x1024x1024.size a) ∧
  (∀ (k0_h8 : k0_cond8 v774 = 1#1), (k0_t79_loop v774).OK) ∧
  (∀ k0_t79 : Fin (k0_t79_loop v774).trips, ∀ (k0_h8 : k0_cond8 v774 = 1#1), ∀ a, (k0_off212 arg23) a + S1x1024x1024.size a ≤ S4x1024x1024.size a) ∧
  (∀ (k0_h8 : k0_cond8 v774 = 1#1), ∀ a, (k0_off215 arg23) a + S1.size a ≤ S4.size a) ∧
  (∀ (k0_h8 : k0_cond8 v774 = 1#1), ∀ a, (k0_off217 arg23) a + S1x1024x1024.size a ≤ S4x1024x1024.size a)
theorem k0_off196_inb : ∀ (arg23 : BitVec 32) (v774 : BitVec 32) (k0_hw6 : k0_chk6 arg23 v774), ∀ (k0_h8 : k0_cond8 v774 = 1#1), ∀ (k0_h9 : k0_cond9 arg23 = 1#1), ∀ a, (k0_off196 arg23) a + S1.size a ≤ S4.size a := fun arg23 v774 k0_hw6 k0_h8 k0_h9 => k0_hw6.1 k0_h8 k0_h9
theorem k0_off197_inb : ∀ (arg23 : BitVec 32) (v774 : BitVec 32) (k0_hw6 : k0_chk6 arg23 v774), ∀ (k0_h8 : k0_cond8 v774 = 1#1), ∀ (k0_h9 : k0_cond9 arg23 = 1#1), ∀ a, (k0_off197 arg23) a + S1x1024x1024.size a ≤ S4x1024x1024.size a := fun arg23 v774 k0_hw6 k0_h8 k0_h9 => k0_hw6.2.1 k0_h8 k0_h9
theorem k0_off202_inb : ∀ (arg23 : BitVec 32) (v774 : BitVec 32) (k0_hw6 : k0_chk6 arg23 v774), ∀ (k0_h8 : k0_cond8 v774 = 1#1), ∀ (k0_h10 : k0_cond10 v774 = 1#1), ∀ a, (k0_off202 arg23) a + S1x1024x1024.size a ≤ S4x1024x1024.size a := fun arg23 v774 k0_hw6 k0_h8 k0_h10 => k0_hw6.2.2.1 k0_h8 k0_h10
theorem k0_off205_inb : ∀ (arg23 : BitVec 32) (v774 : BitVec 32) (k0_hw6 : k0_chk6 arg23 v774), ∀ (k0_h8 : k0_cond8 v774 = 1#1), ∀ (k0_h11 : k0_cond11 v774 = 1#1), ∀ a, (k0_off205 arg23) a + S1x1024x1024.size a ≤ S4x1024x1024.size a := fun arg23 v774 k0_hw6 k0_h8 k0_h11 => k0_hw6.2.2.2.1 k0_h8 k0_h11
theorem k0_off208_inb : ∀ (arg23 : BitVec 32) (v774 : BitVec 32) (k0_hw6 : k0_chk6 arg23 v774), ∀ (k0_h8 : k0_cond8 v774 = 1#1), ∀ (k0_h12 : k0_cond12 v774 = 1#1), ∀ a, (k0_off208 arg23) a + S1x1024x1024.size a ≤ S4x1024x1024.size a := fun arg23 v774 k0_hw6 k0_h8 k0_h12 => k0_hw6.2.2.2.2.1 k0_h8 k0_h12
theorem k0_t78_ok : ∀ (arg23 : BitVec 32) (v774 : BitVec 32) (k0_hw6 : k0_chk6 arg23 v774), ∀ (k0_h8 : k0_cond8 v774 = 1#1), (k0_t78_loop v774).OK := fun arg23 v774 k0_hw6 k0_h8 => k0_hw6.2.2.2.2.2.1 k0_h8
theorem k0_off209_inb : ∀ (arg23 : BitVec 32) (v774 : BitVec 32) (k0_hw6 : k0_chk6 arg23 v774) (k0_t78 : Fin (k0_t78_loop v774).trips), ∀ (k0_h8 : k0_cond8 v774 = 1#1), ∀ a, (k0_off209 arg23) a + S1x1024x1024.size a ≤ S4x1024x1024.size a := fun arg23 v774 k0_hw6 k0_t78 k0_h8 => k0_hw6.2.2.2.2.2.2.1 k0_t78 k0_h8
theorem k0_t79_ok : ∀ (arg23 : BitVec 32) (v774 : BitVec 32) (k0_hw6 : k0_chk6 arg23 v774), ∀ (k0_h8 : k0_cond8 v774 = 1#1), (k0_t79_loop v774).OK := fun arg23 v774 k0_hw6 k0_h8 => k0_hw6.2.2.2.2.2.2.2.1 k0_h8
theorem k0_off212_inb : ∀ (arg23 : BitVec 32) (v774 : BitVec 32) (k0_hw6 : k0_chk6 arg23 v774) (k0_t79 : Fin (k0_t79_loop v774).trips), ∀ (k0_h8 : k0_cond8 v774 = 1#1), ∀ a, (k0_off212 arg23) a + S1x1024x1024.size a ≤ S4x1024x1024.size a := fun arg23 v774 k0_hw6 k0_t79 k0_h8 => k0_hw6.2.2.2.2.2.2.2.2.1 k0_t79 k0_h8
theorem k0_off215_inb : ∀ (arg23 : BitVec 32) (v774 : BitVec 32) (k0_hw6 : k0_chk6 arg23 v774), ∀ (k0_h8 : k0_cond8 v774 = 1#1), ∀ a, (k0_off215 arg23) a + S1.size a ≤ S4.size a := fun arg23 v774 k0_hw6 k0_h8 => k0_hw6.2.2.2.2.2.2.2.2.2.1 k0_h8
theorem k0_off217_inb : ∀ (arg23 : BitVec 32) (v774 : BitVec 32) (k0_hw6 : k0_chk6 arg23 v774), ∀ (k0_h8 : k0_cond8 v774 = 1#1), ∀ a, (k0_off217 arg23) a + S1x1024x1024.size a ≤ S4x1024x1024.size a := fun arg23 v774 k0_hw6 k0_h8 => k0_hw6.2.2.2.2.2.2.2.2.2.2 k0_h8

def k0_mult149 : BitVec 32 :=
  let c0_i32_554 : BitVec 32 := 0#32
  c0_i32_554
def k0_mult150 : BitVec 32 :=
  let c0_i32_555 : BitVec 32 := 0#32
  c0_i32_555
def k0_mult151 : BitVec 32 :=
  let c0_i32_554 : BitVec 32 := 0#32
  c0_i32_554
def k0_mult152 : BitVec 32 :=
  let c0_i32_555 : BitVec 32 := 0#32
  c0_i32_555
def k0_mult153 : BitVec 32 :=
  let c0_i32_554 : BitVec 32 := 0#32
  c0_i32_554
def k0_mult154 : BitVec 32 :=
  let c0_i32_555 : BitVec 32 := 0#32
  c0_i32_555
def k0_mult155 : BitVec 32 :=
  let c0_i32_554 : BitVec 32 := 0#32
  c0_i32_554
def k0_mult156 : BitVec 32 :=
  let c0_i32_555 : BitVec 32 := 0#32
  c0_i32_555
@[reducible] def k0_t80_loop : Scf.Loop 32 :=
  let c0_i32_554 : BitVec 32 := 0#32
  let c96_i32 : BitVec 32 := 96#32
  let v693 : BitVec 32 := Scalar.addi c0_i32_554 c96_i32
  let c1_i32_555 : BitVec 32 := 1#32
  ⟨c0_i32_554, v693, c1_i32_555⟩
def k0_mult157 (k0_t80 : Fin k0_t80_loop.trips) : BitVec 32 :=
  let c0_i32_558 : BitVec 32 := 0#32
  let c0_i32_554 : BitVec 32 := 0#32
  let c1_i32_555 : BitVec 32 := 1#32
  let arg20 : BitVec 32 := Scf.iv c0_i32_554 c1_i32_555 k0_t80
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  v696
def k0_off218 (k0_t80 : Fin k0_t80_loop.trips) : Fin 3 → Nat :=
  let c0_i32_559 : BitVec 32 := 0#32
  let c0_i32_558 : BitVec 32 := 0#32
  let c0_i32_554 : BitVec 32 := 0#32
  let c1_i32_555 : BitVec 32 := 1#32
  let arg20 : BitVec 32 := Scf.iv c0_i32_554 c1_i32_555 k0_t80
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  let v697 : BitVec 32 := v696
  let c0_i32_560 : BitVec 32 := 0#32
  ![0, v697.toNat, 0]
@[reducible] def k0_t81_loop : Scf.Loop 32 :=
  let c0_i32_554 : BitVec 32 := 0#32
  let c96_i32 : BitVec 32 := 96#32
  let v693 : BitVec 32 := Scalar.addi c0_i32_554 c96_i32
  let c1_i32_555 : BitVec 32 := 1#32
  ⟨c0_i32_554, v693, c1_i32_555⟩
def k0_mult158 (k0_t81 : Fin k0_t81_loop.trips) : BitVec 32 :=
  let c0_i32_558 : BitVec 32 := 0#32
  let c0_i32_554 : BitVec 32 := 0#32
  let c1_i32_555 : BitVec 32 := 1#32
  let arg20 : BitVec 32 := Scf.iv c0_i32_554 c1_i32_555 k0_t81
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  v696
def k0_off219 (k0_t81 : Fin k0_t81_loop.trips) : Fin 3 → Nat :=
  let c1_i32_559 : BitVec 32 := 1#32
  let c0_i32_558 : BitVec 32 := 0#32
  let c0_i32_554 : BitVec 32 := 0#32
  let c1_i32_555 : BitVec 32 := 1#32
  let arg20 : BitVec 32 := Scf.iv c0_i32_554 c1_i32_555 k0_t81
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  let v697 : BitVec 32 := v696
  let c0_i32_560 : BitVec 32 := 0#32
  ![1, v697.toNat, 0]
@[reducible] def k0_t82_loop : Scf.Loop 32 :=
  let c0_i32_554 : BitVec 32 := 0#32
  let c96_i32 : BitVec 32 := 96#32
  let v693 : BitVec 32 := Scalar.addi c0_i32_554 c96_i32
  let c1_i32_555 : BitVec 32 := 1#32
  ⟨c0_i32_554, v693, c1_i32_555⟩
def k0_mult159 (k0_t82 : Fin k0_t82_loop.trips) : BitVec 32 :=
  let c0_i32_558 : BitVec 32 := 0#32
  let c0_i32_554 : BitVec 32 := 0#32
  let c1_i32_555 : BitVec 32 := 1#32
  let arg20 : BitVec 32 := Scf.iv c0_i32_554 c1_i32_555 k0_t82
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  v696
def k0_off220 (k0_t82 : Fin k0_t82_loop.trips) : Fin 3 → Nat :=
  let c2_i32_559 : BitVec 32 := 2#32
  let c0_i32_558 : BitVec 32 := 0#32
  let c0_i32_554 : BitVec 32 := 0#32
  let c1_i32_555 : BitVec 32 := 1#32
  let arg20 : BitVec 32 := Scf.iv c0_i32_554 c1_i32_555 k0_t82
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  let v697 : BitVec 32 := v696
  let c0_i32_560 : BitVec 32 := 0#32
  ![2, v697.toNat, 0]
@[reducible] def k0_t83_loop : Scf.Loop 32 :=
  let c0_i32_554 : BitVec 32 := 0#32
  let c96_i32 : BitVec 32 := 96#32
  let v693 : BitVec 32 := Scalar.addi c0_i32_554 c96_i32
  let c1_i32_555 : BitVec 32 := 1#32
  ⟨c0_i32_554, v693, c1_i32_555⟩
def k0_mult160 (k0_t83 : Fin k0_t83_loop.trips) : BitVec 32 :=
  let c0_i32_558 : BitVec 32 := 0#32
  let c0_i32_554 : BitVec 32 := 0#32
  let c1_i32_555 : BitVec 32 := 1#32
  let arg20 : BitVec 32 := Scf.iv c0_i32_554 c1_i32_555 k0_t83
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  v696
def k0_off221 (k0_t83 : Fin k0_t83_loop.trips) : Fin 3 → Nat :=
  let c3_i32_559 : BitVec 32 := 3#32
  let c0_i32_558 : BitVec 32 := 0#32
  let c0_i32_554 : BitVec 32 := 0#32
  let c1_i32_555 : BitVec 32 := 1#32
  let arg20 : BitVec 32 := Scf.iv c0_i32_554 c1_i32_555 k0_t83
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  let v697 : BitVec 32 := v696
  let c0_i32_560 : BitVec 32 := 0#32
  ![3, v697.toNat, 0]
@[reducible] def k0_t84_loop : Scf.Loop 32 :=
  let c0_i32_554 : BitVec 32 := 0#32
  let c96_i32 : BitVec 32 := 96#32
  let v693 : BitVec 32 := Scalar.addi c0_i32_554 c96_i32
  let c1_i32_555 : BitVec 32 := 1#32
  ⟨c0_i32_554, v693, c1_i32_555⟩
def k0_mult161 (k0_t84 : Fin k0_t84_loop.trips) : BitVec 32 :=
  let c0_i32_558 : BitVec 32 := 0#32
  let c0_i32_554 : BitVec 32 := 0#32
  let c1_i32_555 : BitVec 32 := 1#32
  let arg20 : BitVec 32 := Scf.iv c0_i32_554 c1_i32_555 k0_t84
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  v696
def k0_off222 (k0_t84 : Fin k0_t84_loop.trips) : Fin 3 → Nat :=
  let c4_i32 : BitVec 32 := 4#32
  let c0_i32_558 : BitVec 32 := 0#32
  let c0_i32_554 : BitVec 32 := 0#32
  let c1_i32_555 : BitVec 32 := 1#32
  let arg20 : BitVec 32 := Scf.iv c0_i32_554 c1_i32_555 k0_t84
  let c1_i32_557 : BitVec 32 := 1#32
  let v694 : BitVec 32 := Scalar.muli arg20 c1_i32_557
  let v695 : BitVec 32 := Scalar.addi c0_i32_558 v694
  let c32_i32 : BitVec 32 := 32#32
  let v696 : BitVec 32 := Scalar.muli v695 c32_i32
  let v697 : BitVec 32 := v696
  let c0_i32_559 : BitVec 32 := 0#32
  ![4, v697.toNat, 0]
abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1536x3072 : Shape := ⟨2, ![1536, 3072]⟩
abbrev S13x3072 : Shape := ⟨2, ![13, 3072]⟩
abbrev S1536x8192 : Shape := ⟨2, ![1536, 8192]⟩
abbrev S13x8192 : Shape := ⟨2, ![13, 8192]⟩
abbrev S5 : Shape := ⟨1, ![5]⟩
abbrev S5x3072x8192 : Shape := ⟨3, ![5, 3072, 8192]⟩
abbrev S1536x1 : Shape := ⟨2, ![1536, 1]⟩
abbrev S1 : Shape := ⟨1, ![1]⟩
abbrev S1x3072 : Shape := ⟨2, ![1, 3072]⟩
abbrev S1x8192 : Shape := ⟨2, ![1, 8192]⟩
abbrev S3072x8192 : Shape := ⟨2, ![3072, 8192]⟩
abbrev S1x3072x8192 : Shape := ⟨3, ![1, 3072, 8192]⟩

abbrev nBuf : Space → Nat
  | .hbm => 6
  | .vmem => 5
  | .smem => 1
  | _ => 0

abbrev bufTy : (tb : Table) → Fin (tcTables nBuf tb) → BufTy
  | .hbm, ⟨0, _⟩ => ⟨S1536x3072, .fp8e4m3⟩
  | .hbm, ⟨1, _⟩ => ⟨S13x3072, .f32⟩
  | .hbm, ⟨2, _⟩ => ⟨S1536x8192, .fp8e4m3⟩
  | .hbm, ⟨3, _⟩ => ⟨S13x8192, .f32⟩
  | .hbm, ⟨4, _⟩ => ⟨S5, .i32⟩
  | .hbm, ⟨5, _⟩ => ⟨S5x3072x8192, .f32⟩
  | .local _ .vmem, ⟨0, _⟩ => ⟨S1536x3072, .fp8e4m3⟩
  | .local _ .vmem, ⟨1, _⟩ => ⟨S13x3072, .f32⟩
  | .local _ .vmem, ⟨2, _⟩ => ⟨S1536x8192, .fp8e4m3⟩
  | .local _ .vmem, ⟨3, _⟩ => ⟨S13x8192, .f32⟩
  | .local _ .vmem, ⟨4, _⟩ => ⟨S5x3072x8192, .f32⟩
  | .local _ .smem, ⟨0, _⟩ => ⟨S5, .i32⟩
  | _, _ => ⟨S1536x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3072 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S13x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x3072x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Ctx.lean ====
/- The separation logic of the kernel's body, with the transfers' counters. -/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Batch
public import Idealize.ShloMosaic.Lib.Tactic

@[expose] public section

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The proof's algebra: the pipeline library's beside the transfers' counters. -/
abbrev MM (F : FTy → Type) : Type := MT nD τ sig Unit (Elt F) ℕ (Pipeline.UD sig nD τ) ℕ

variable {F : FTy → Type} [FloatOps F]

/-- The kernel has no call of its own to bound. -/
abbrev 𝒱₀ : Variants := Variants.none

/-- A program of the kernel's body run on core `c`, to a post. -/
abbrev W (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

abbrev mXc : Memref sig .tc .vmem S1536x3072 .fp8e4m3 := Memref.whole cc0_scratch0
abbrev mYc : Memref sig .tc .vmem S2x1536x1024 .fp8e4m3 := Memref.whole cc0_scratch1
abbrev mXs : Memref sig .tc .vmem S13x3072 .f32 := Memref.whole cc0_scratch2
abbrev mYs : Memref sig .tc .vmem S13x8192 .f32 := Memref.whole cc0_scratch3
abbrev mRows : Memref sig .tc .vmem S1792x1024 .bf16 := Memref.whole cc0_scratch4
abbrev mXt : Memref sig .tc .vmem S3072x2816 .bf16 := Memref.whole cc0_scratch5
abbrev mOb : Memref sig .tc .vmem S4x1024x1024 .f32 := Memref.whole cc0_scratch6
abbrev mZ : Memref sig .tc .vmem S32x8192 .f32 := Memref.whole cc0_scratch7
abbrev mTab : Memref sig .tc .smem S3x5 .i32 := Memref.whole cc0_scratch8
abbrev mN : Memref sig .tc .smem S5 .i32 := Memref.whole cc0_stg0_0
abbrev mX : Memref sig .tc .hbm S1536x3072 .fp8e4m3 := Memref.whole main_arg0
abbrev mSx : Memref sig .tc .hbm S13x3072 .f32 := Memref.whole main_arg1
abbrev mY : Memref sig .tc .hbm S1536x8192 .fp8e4m3 := Memref.whole main_arg2
abbrev mSy : Memref sig .tc .hbm S13x8192 .f32 := Memref.whole main_arg3
abbrev mOut : Memref sig .tc .hbm S5x3072x8192 .f32 := Memref.whole main_v0

/-- A buffer's elements `S` held at `f`, through a memref of it. -/
abbrev ptsOn (c : Dev nD) {sp : Space} {s : Shape} {e : EltTy} (m : Memref sig .tc sp s e) (S : Finset (Idx (m.view.loc (c : Thread nD τ))))
    (f : Buf (Elt F) (m.view.loc (c : Thread nD τ))) : sProp (MM F) :=
  m.view.loc (c : Thread nD τ) ↦[S]{fullShare} f

/-- A buffer held whole at `f`. -/
abbrev pts (c : Dev nD) {sp : Space} {s : Shape} {e : EltTy} (m : Memref sig .tc sp s e)
    (f : Buf (Elt F) (m.view.loc (c : Thread nD τ))) : sProp (MM F) :=
  m.view.loc (c : Thread nD τ) ↦{fullShare} f

end Cert.Kernel
-- ==== Proof.Wr.lean ====
/- A store through a unit-stride rectangle of a whole buffer, read back at an index. -/
module

public import Idealize.ShloMosaic.Lib.Pipeline.Value

@[expose] public section

namespace GW

open Idealize.ShloMosaic

variable {sig : RefSig} {κ : Kind} {Val : EltTy → Type}

/-- Inside the rectangle the store's value is read. -/
theorem wr_in (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx) (y : (Rect.unit off size inb).shape.Idx)
    (h : ∀ a, (i a).val = off a + (y a).val) :
    ((View.whole b).slice (Rect.unit off size inb)).write Val f w Finset.univ i = w y := by
  have hy : ((View.whole b).slice (Rect.unit off size inb)).emb y = i := by
    funext a; apply Fin.ext
    rw [View.emb_slice, Function.Embedding.trans_apply, View.emb_whole, Function.Embedding.refl_apply, Rect.emb_apply]
    show off a + 1 * (y a).val = _
    rw [h a, Nat.one_mul]
  conv_lhs => rw [← hy, View.write_emb_of_mem _ _ (Finset.mem_univ _)]
  rfl

/-- Outside it the old contents are. -/
theorem wr_out (b : Ref sig κ) (off size : Fin b.ty.shape.rank → Nat) (inb : ∀ a, off a + size a ≤ b.ty.shape.size a)
    (f : b.ty.Contents Val) (w : (Rect.unit off size inb).shape.Idx → Val b.ty.elt) (i : b.ty.shape.Idx) (a : Fin b.ty.shape.rank)
    (h : (i a).val < off a ∨ off a + size a ≤ (i a).val) :
    ((View.whole b).slice (Rect.unit off size inb)).write Val f w Finset.univ i = f i := by
  refine View.write_of_not_mem _ _ _ fun hmem => ?_
  rw [View.setOn_univ, View.set_slice, Finset.mem_map] at hmem
  obtain ⟨j, hj, rfl⟩ := hmem
  have h2 := (Rect.mem_set_unit (inb := inb)).mp hj a
  rw [View.emb_whole, Function.Embedding.refl_apply] at h
  have := h2.1; have := h2.2
  omega

/-- The elements of a whole buffer a rectangle reaches. -/
theorem mem_setOn_unit (b : Ref sig κ) (off size : Fin b.ty.shape.rank → Nat) (inb : ∀ a, off a + size a ≤ b.ty.shape.size a) (i : b.ty.shape.Idx) :
    i ∈ (View.whole b).setOn (Rect.unit off size inb).set ↔ ∀ a, off a ≤ (i a).val ∧ (i a).val < off a + size a := by
  rw [View.setOn, Finset.mem_map]
  constructor
  · rintro ⟨j, hj, rfl⟩ a
    rw [View.emb_whole, Function.Embedding.refl_apply]
    exact (Rect.mem_set_unit (inb := inb)).mp hj a
  · intro h
    exact ⟨i, (Rect.mem_set_unit (inb := inb)).mpr h, by rw [View.emb_whole, Function.Embedding.refl_apply]⟩

/-- The elements of the view of a rectangle of a whole buffer. -/
theorem mem_slice_unit (b : Ref sig κ) (off size : Fin b.ty.shape.rank → Nat) (inb : ∀ a, off a + size a ≤ b.ty.shape.size a) (i : b.ty.shape.Idx) :
    i ∈ ((View.whole b).slice (Rect.unit off size inb)).set ↔ ∀ a, off a ≤ (i a).val ∧ (i a).val < off a + size a := by
  rw [View.set_slice]
  exact mem_setOn_unit b off size inb i

end GW
-- ==== Proof.Words.lean ====
/- The kernel's index words, as functions of the words they are computed from, and what each reads as a natural number. -/
module

public import Idealize.ShloMosaic.Lib.Pipeline
public import Idealize.ShloMosaic.Lib.Affine
public import Idealize.ShloMosaic.Lib.WordArith
public import Idealize.ShloMosaic.Lib.WordArith.Masks
public import Idealize.ShloMosaic.Lib.WordCmp

@[expose] public section

namespace GW

open Idealize.ShloMosaic Idealize.ShloMosaic.WordArith Idealize.ShloMosaic.WordCmp

/-- The printed floor division of a word. -/
def fdivW (x c : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt c 0#32)) (Scalar.extui (Scalar.cmpi .slt c 0#32))))
      (Scalar.cmpi .ne (Scalar.remsi x c) 0#32))
    (Scalar.subi (Scalar.divsi x c) 1#32) (Scalar.divsi x c)

/-- The number of scaling groups of a segment of `v` rows. -/
def grpW (v : BitVec 32) : BitVec 32 := fdivW (Scalar.addi v 127#32) 128#32
/-- A segment's start, rounded down to a multiple of 16. -/
def loW (s : BitVec 32) : BitVec 32 := Scalar.muli (fdivW s 16#32) 16#32
/-- The number of row tiles of a segment of `v` rows from `s`. -/
def nkW (v s : BitVec 32) : BitVec 32 :=
  Scalar.select (Scalar.cmpi .sgt v 0#32)
    (fdivW (Scalar.addi (Scalar.subi (Scalar.addi s v) (loW s)) 255#32) 256#32) 0#32
/-- The trip count the printed loop's main part reaches. -/
def tripW (n : BitVec 32) : BitVec 32 :=
  Scalar.addi 0#32 (Scalar.muli (Scalar.divsi (Scalar.subi
    (Scalar.divsi (Scalar.addi (Scalar.subi n 0#32) (Scalar.subi 1#32 1#32)) 1#32) 0#32) 1#32) 1#32)
/-- The trip count of the printed loop. -/
def totW (n : BitVec 32) : BitVec 32 :=
  Scalar.addi 0#32 (Scalar.subi
    (Scalar.divsi (Scalar.addi (Scalar.subi n 0#32) (Scalar.subi 1#32 1#32)) 1#32) 0#32)
/-- The main part of a printed loop of `n` trips. -/
@[reducible] def mainLoop (n : BitVec 32) : Scf.Loop 32 := ⟨0#32, tripW n, 1#32⟩
/-- Its remainder, which has no trip. -/
@[reducible] def remLoop (n : BitVec 32) : Scf.Loop 32 := ⟨tripW n, totW n, 1#32⟩
/-- The induction variable at trip `t`. -/
def kW (t : ℕ) : BitVec 32 := Scalar.addi 0#32 (Scalar.muli (Scf.iv 0#32 1#32 t) 1#32)
/-- The first row of group `t` of a segment from `s`. -/
def glW (s : BitVec 32) (t : ℕ) : BitVec 32 := Scalar.addi s (Scalar.muli (kW t) 128#32)
/-- The first row of the window read for that group. -/
def winW (s : BitVec 32) (t : ℕ) : BitVec 32 := Scalar.minsi (Scalar.muli (fdivW (glW s t) 32#32) 32#32) 1376#32
/-- The first row of tile `t` from row `a`. -/
def tileW (a : BitVec 32) (t : ℕ) : BitVec 32 := Scalar.addi a (Scalar.muli (kW t) 256#32)

theorem toNat_addi {x y : BitVec 32} (h : x.toNat + y.toNat < 2 ^ 32) : (Scalar.addi x y).toNat = x.toNat + y.toNat := by
  show (x + y).toNat = _
  rw [BitVec.toNat_add]; omega
theorem toNat_subi {x y : BitVec 32} (h : y.toNat ≤ x.toNat) : (Scalar.subi x y).toNat = x.toNat - y.toNat := by
  show (x - y).toNat = _
  exact BitVec.toNat_sub_of_le h
theorem toNat_muli {x y : BitVec 32} (h : x.toNat * y.toNat < 2 ^ 32) : (Scalar.muli x y).toNat = x.toNat * y.toNat := by
  show (x * y).toNat = _
  rw [BitVec.toNat_mul]; exact Nat.mod_eq_of_lt h

theorem toNat_divsi {x c : BitVec 32} (hx : x.toNat < 2 ^ 31) (hc : 0 < c.toNat) (hc' : c.toNat < 2 ^ 31) :
    (Scalar.divsi x c).toNat = x.toNat / c.toNat := by
  have hm : x.msb = false := by rw [BitVec.msb_eq_false_iff_two_mul_lt]; omega
  have hcm : c.msb = false := by rw [BitVec.msb_eq_false_iff_two_mul_lt]; omega
  have : Scalar.divsi x c = x.sdiv c := by
    show IntOp.divsi _ _ _ = _
    exact if_neg (IntOp.not_corner_of_pos (by rw [BitVec.toInt_eq_toNat_of_lt (by omega)]; omega))
  rw [this, BitVec.sdiv_eq, hm, hcm]
  show (x / c).toNat = _
  exact BitVec.toNat_udiv ..

theorem sgt_zero {x : BitVec 32} (hx : x.toNat < 2 ^ 31) : Scalar.cmpi .sgt x 0#32 = 1#1 ↔ 0 < x.toNat := by
  rw [Scalar.cmpi, IntOp.cmpi_sgt, BitVec.toInt_eq_toNat_of_lt (x := x) (by omega), show (0#32 : BitVec 32).toInt = 0 from rfl]
  omega
theorem slt_zero {x : BitVec 32} (hx : x.toNat < 2 ^ 31) : Scalar.cmpi .slt x 0#32 = 0#1 := by
  have : ¬ Scalar.cmpi .slt x 0#32 = 1#1 := by
    rw [Scalar.cmpi, IntOp.cmpi_slt, BitVec.toInt_eq_toNat_of_lt (x := x) (by omega), show (0#32 : BitVec 32).toInt = 0 from rfl]
    omega
  revert this; generalize Scalar.cmpi .slt x 0#32 = b; revert b; decide

theorem eq_zero_of_ne_one {b : BitVec 1} (h : ¬ b = 1#1) : b = 0#1 := by revert b; decide

theorem fdivW_toNat {x : BitVec 32} (hx : x.toNat < 2 ^ 31) (c : ℕ) (hc : 0 < c) (hc' : c < 2 ^ 31) :
    (fdivW x (BitVec.ofNat 32 c)).toNat = x.toNat / c := by
  have hcN : (BitVec.ofNat 32 c).toNat = c := by rw [BitVec.toNat_ofNat]; omega
  have hr : (Scalar.remsi x (BitVec.ofNat 32 c)).toNat = x.toNat % c := IntOp.toNat_remsi _ (by omega) c hc (by omega)
  have hcg : Scalar.cmpi .sgt (BitVec.ofNat 32 c) 0#32 = 1#1 := (sgt_zero (by omega)).2 (by omega)
  unfold fdivW
  rw [hcg, slt_zero (x := x) hx, slt_zero (x := BitVec.ofNat 32 c) (by omega)]
  by_cases h0 : 0 < x.toNat
  · rw [(sgt_zero hx).2 h0]
    have : ∀ b : BitVec 1, Scalar.andi (Scalar.cmpi .ne (Scalar.subi (Scalar.extui 1#1) (Scalar.extui 0#1)) (Scalar.subi (Scalar.extui 1#1) (Scalar.extui 0#1))) b = 0#1 := by decide
    rw [this, select_of_eq_zero rfl, toNat_divsi hx (by omega) (by omega), hcN]
  · have hr0 : Scalar.remsi x (BitVec.ofNat 32 c) = 0#32 := by
      apply BitVec.eq_of_toNat_eq; rw [hr]
      have : x.toNat = 0 := by omega
      rw [this]; simp
    rw [hr0]
    have : ∀ b : BitVec 1, Scalar.andi b (Scalar.cmpi .ne 0#32 0#32) = 0#1 := by decide
    rw [this, select_of_eq_zero rfl, toNat_divsi hx (by omega) (by omega), hcN]

theorem grpW_toNat {v : BitVec 32} (h : v.toNat ≤ 1536) : (grpW v).toNat = (v.toNat + 127) / 128 := by
  have h1 : (Scalar.addi v 127#32).toNat = v.toNat + 127 := toNat_addi (by show v.toNat + 127 < _; omega)
  have := fdivW_toNat (x := Scalar.addi v 127#32) (by omega) 128 (by omega) (by omega)
  rw [h1] at this; exact this

theorem loW_toNat {s : BitVec 32} (h : s.toNat ≤ 1536) : (loW s).toNat = s.toNat / 16 * 16 := by
  have := fdivW_toNat (x := s) (by omega) 16 (by omega) (by omega)
  unfold loW
  rw [toNat_muli (y := 16#32)]
  · rw [show fdivW s 16#32 = fdivW s (BitVec.ofNat 32 16) from rfl, this]; rfl
  · rw [show fdivW s 16#32 = fdivW s (BitVec.ofNat 32 16) from rfl, this]; show _ * 16 < _; omega

/-- The number of row tiles, as numbers. -/
def nk (v s : ℕ) : ℕ := if 0 < v then (s + v - s / 16 * 16 + 255) / 256 else 0

theorem nkW_toNat {v s : BitVec 32} (hs : s.toNat + v.toNat ≤ 1536) : (nkW v s).toNat = nk v.toNat s.toNat := by
  have hl := loW_toNat (s := s) (by omega)
  have ha : (Scalar.addi s v).toNat = s.toNat + v.toNat := toNat_addi (by omega)
  have hsb : (Scalar.subi (Scalar.addi s v) (loW s)).toNat = s.toNat + v.toNat - s.toNat / 16 * 16 := by
    rw [toNat_subi (by rw [ha, hl]; omega), ha, hl]
  have h5 : (Scalar.addi (Scalar.subi (Scalar.addi s v) (loW s)) 255#32).toNat = s.toNat + v.toNat - s.toNat / 16 * 16 + 255 := by
    rw [toNat_addi (by rw [hsb]; show _ + 255 < _; omega), hsb]; rfl
  have := fdivW_toNat (x := Scalar.addi (Scalar.subi (Scalar.addi s v) (loW s)) 255#32) (by omega) 256 (by omega) (by omega)
  unfold nkW nk
  by_cases h0 : 0 < v.toNat
  · rw [select_of_eq_one ((sgt_zero (by omega)).2 h0), if_pos h0, ← h5]; exact this
  · rw [select_of_eq_zero (eq_zero_of_ne_one fun h => h0 ((sgt_zero (by omega)).1 h)), if_neg h0]; rfl

theorem addi_zero (x : BitVec 32) : Scalar.addi 0#32 x = x := BitVec.zero_add x
theorem muli_one (x : BitVec 32) : Scalar.muli x 1#32 = x := BitVec.mul_one x
theorem subi_zero (x : BitVec 32) : Scalar.subi x 0#32 = x := BitVec.sub_zero x
theorem divsi_one' (x : BitVec 32) : Scalar.divsi x 1#32 = x := divsi_one _ x

theorem tripW_eq (n : BitVec 32) : tripW n = n := by
  unfold tripW
  rw [addi_zero, muli_one, divsi_one', subi_zero, divsi_one', subi_zero]
  exact BitVec.add_zero n
theorem totW_eq (n : BitVec 32) : totW n = n := by
  unfold totW
  rw [addi_zero, subi_zero, divsi_one', subi_zero]
  exact BitVec.add_zero n

theorem trips_unit {n : BitVec 32} (h : n.toNat < 2 ^ 31) : Scf.trips 0#32 n 1#32 = n.toNat := by
  unfold Scf.trips
  rw [BitVec.toInt_eq_toNat_of_lt (x := n) (by omega), show (0#32 : BitVec 32).toInt = 0 from rfl, show (1#32 : BitVec 32).toInt = 1 from rfl]
  omega
theorem main_trips {n : BitVec 32} (h : n.toNat < 2 ^ 31) : (mainLoop n).trips = n.toNat := by
  show Scf.trips 0#32 (tripW n) 1#32 = _
  rw [tripW_eq, trips_unit h]
theorem main_ok {n : BitVec 32} (h : n.toNat < 2 ^ 31) : (mainLoop n).OK := by
  refine ⟨show 0 < (1#32 : BitVec 32).toInt from by decide, ?_⟩
  show (0#32 : BitVec 32).toInt + ((mainLoop n).trips : ℤ) * (1#32 : BitVec 32).toInt < _
  rw [main_trips h, show (0#32 : BitVec 32).toInt = 0 from rfl, show (1#32 : BitVec 32).toInt = 1 from rfl]
  omega
theorem rem_trips (n : BitVec 32) : (remLoop n).trips = 0 := by
  show Scf.trips (tripW n) (totW n) 1#32 = 0
  rw [tripW_eq, totW_eq]; unfold Scf.trips
  rw [show (1#32 : BitVec 32).toInt = 1 from rfl]; omega
theorem rem_ok {n : BitVec 32} (h : n.toNat < 2 ^ 31) : (remLoop n).OK := by
  refine ⟨show 0 < (1#32 : BitVec 32).toInt from by decide, ?_⟩
  show (tripW n).toInt + ((remLoop n).trips : ℤ) * (1#32 : BitVec 32).toInt < _
  rw [rem_trips, tripW_eq, BitVec.toInt_eq_toNat_of_lt (by omega)]
  omega
theorem rem_false {n : BitVec 32} {P : Prop} (t : Fin (remLoop n).trips) : P :=
  absurd t.isLt (by have := rem_trips n; omega)

theorem kW_toNat {t : ℕ} (h : t < 2 ^ 31) : (kW t).toNat = t := by
  unfold kW
  rw [addi_zero, muli_one]; exact toNat_iv_zero_one t (by omega)

theorem glW_toNat {s : BitVec 32} {t : ℕ} (h : s.toNat + 128 * t ≤ 1536) : (glW s t).toNat = s.toNat + 128 * t := by
  unfold glW
  have hk := kW_toNat (t := t) (by omega)
  have hm : (Scalar.muli (kW t) 128#32).toNat = t * 128 := by
    rw [toNat_muli (by rw [hk]; show t * 128 < _; omega), hk]; rfl
  rw [toNat_addi (by omega), hm]; omega

theorem winW_toNat {s : BitVec 32} {t : ℕ} (h : s.toNat + 128 * t ≤ 1536) :
    (winW s t).toNat = min ((s.toNat + 128 * t) / 32 * 32) 1376 := by
  have hg := glW_toNat h
  have hf := fdivW_toNat (x := glW s t) (by omega) 32 (by omega) (by omega)
  have hm : (Scalar.muli (fdivW (glW s t) 32#32) 32#32).toNat = (s.toNat + 128 * t) / 32 * 32 := by
    rw [toNat_muli (by rw [show fdivW (glW s t) 32#32 = fdivW (glW s t) (BitVec.ofNat 32 32) from rfl, hf]; show _ * 32 < _; omega),
      show fdivW (glW s t) 32#32 = fdivW (glW s t) (BitVec.ofNat 32 32) from rfl, hf, hg]; rfl
  unfold winW
  rw [show Scalar.minsi (Scalar.muli (fdivW (glW s t) 32#32) 32#32) 1376#32 = IntOp.minsi (Scalar.muli (fdivW (glW s t) 32#32) 32#32) 1376#32 from rfl]
  rw [toNat_minsi_of_lt _ _ (by omega) (by decide), hm]; rfl

theorem tileW_toNat {a : BitVec 32} {t : ℕ} (h : a.toNat + 256 * t ≤ 4096) : (tileW a t).toNat = a.toNat + 256 * t := by
  unfold tileW
  have hk := kW_toNat (t := t) (by omega)
  have hm : (Scalar.muli (kW t) 256#32).toNat = t * 256 := by
    rw [toNat_muli (by rw [hk]; show t * 256 < _; omega), hk]; rfl
  rw [toNat_addi (by omega), hm]; omega

end GW
-- ==== Proof.Segs.lean ====
/- An expert's segment: its words, the numbers they read as, and the bounds every access of the kernel needs. -/
module

public import proofs.«01_k».proof.Proof.Words

@[expose] public section

namespace GW

open Idealize.ShloMosaic

/-- A segment of `v` rows from row `s`, from scaling group `g`, its tiles from column `ko` of the transposed copy: all in range. -/
structure Seg (v s g ko : BitVec 32) : Prop where
  row : s.toNat + v.toNat ≤ 1536
  grp : g.toNat + (v.toNat + 127) / 128 ≤ 13
  col : ko.toNat + 256 * nk v.toNat s.toNat ≤ 2816
  dvd : 256 ∣ ko.toNat

theorem nk_le (v s : ℕ) : 256 * nk v s ≤ v + 270 := by
  unfold nk; split <;> omega
theorem nk_row (v s : ℕ) : s / 16 * 16 + 256 * nk v s ≤ s + v + 255 := by
  unfold nk; split <;> omega
theorem le_nk {v s : ℕ} (h : 0 < v) : s + v ≤ s / 16 * 16 + 256 * nk v s := by
  unfold nk; rw [if_pos h]; omega
theorem nk_pos {v s : ℕ} : 0 < nk v s ↔ 0 < v := by
  unfold nk; split <;> omega

/-- Where a segment begins, as numbers. -/
structure At (s g ko : BitVec 32) (S G K : ℕ) : Prop where
  s : s.toNat = S
  g : g.toNat = G
  k : ko.toNat = 256 * K

theorem At.zero : At 0#32 0#32 0#32 0 0 0 := ⟨rfl, rfl, rfl⟩

theorem At.next {v s g ko : BitVec 32} {S G K : ℕ} (h : At s g ko S G K) (hr : S + v.toNat ≤ 1536) (hg : G ≤ 64) (hk : K ≤ 64) :
    At (Scalar.addi s v) (Scalar.addi g (grpW v)) (Scalar.addi ko (Scalar.muli (nkW v s) 256#32))
      (S + v.toNat) (G + (v.toNat + 127) / 128) (K + nk v.toNat S) := by
  have hs := h.s; have hg' := h.g; have hk' := h.k
  have hn := nkW_toNat (v := v) (s := s) (by omega)
  have hb := nk_le v.toNat s.toNat
  have hG := grpW_toNat (v := v) (by omega)
  have hm : (Scalar.muli (nkW v s) 256#32).toNat = nk v.toNat s.toNat * 256 := by
    rw [toNat_muli (by rw [hn]; show _ * 256 < _; omega), hn]; rfl
  refine ⟨?_, ?_, ?_⟩
  · rw [toNat_addi (by omega), hs]
  · rw [toNat_addi (by omega), hG, hg']
  · rw [toNat_addi (by omega), hm, hk', ← hs]; omega

/-- The words the kernel reads for the five experts' row counts fit the arrays. -/
structure Fit (w0 w1 w2 w3 w4 : BitVec 32) : Prop where
  b0 : w0.toNat ≤ 1536
  b1 : w1.toNat ≤ 1536
  b2 : w2.toNat ≤ 1536
  b3 : w3.toNat ≤ 1536
  b4 : w4.toNat ≤ 1536
  rows : w0.toNat + w1.toNat + w2.toNat + w3.toNat + w4.toNat ≤ 1536
  grps : (w0.toNat + 127) / 128 + (w1.toNat + 127) / 128 + (w2.toNat + 127) / 128 + (w3.toNat + 127) / 128 + (w4.toNat + 127) / 128 ≤ 13

abbrev s1 (w0 : BitVec 32) := Scalar.addi 0#32 w0
abbrev s2 (w0 w1 : BitVec 32) := Scalar.addi (s1 w0) w1
abbrev s3 (w0 w1 w2 : BitVec 32) := Scalar.addi (s2 w0 w1) w2
abbrev s4 (w0 w1 w2 w3 : BitVec 32) := Scalar.addi (s3 w0 w1 w2) w3
abbrev g1 (w0 : BitVec 32) := Scalar.addi 0#32 (grpW w0)
abbrev g2 (w0 w1 : BitVec 32) := Scalar.addi (g1 w0) (grpW w1)
abbrev g3 (w0 w1 w2 : BitVec 32) := Scalar.addi (g2 w0 w1) (grpW w2)
abbrev g4 (w0 w1 w2 w3 : BitVec 32) := Scalar.addi (g3 w0 w1 w2) (grpW w3)
abbrev k1 (w0 : BitVec 32) := Scalar.addi 0#32 (Scalar.muli (nkW w0 0#32) 256#32)
abbrev k2 (w0 w1 : BitVec 32) := Scalar.addi (k1 w0) (Scalar.muli (nkW w1 (s1 w0)) 256#32)
abbrev k3 (w0 w1 w2 : BitVec 32) := Scalar.addi (k2 w0 w1) (Scalar.muli (nkW w2 (s2 w0 w1)) 256#32)
abbrev k4 (w0 w1 w2 w3 : BitVec 32) := Scalar.addi (k3 w0 w1 w2) (Scalar.muli (nkW w3 (s3 w0 w1 w2)) 256#32)

namespace Fit
variable {w0 w1 w2 w3 w4 : BitVec 32} (h : Fit w0 w1 w2 w3 w4)
include h

theorem at1 : At (s1 w0) (g1 w0) (k1 w0) (0 + w0.toNat) (0 + (w0.toNat + 127) / 128) (0 + nk w0.toNat 0) :=
  At.zero.next (by have := h.b0; omega) (by omega) (by omega)
theorem at2 : At (s2 w0 w1) (g2 w0 w1) (k2 w0 w1) (0 + w0.toNat + w1.toNat) (0 + (w0.toNat + 127) / 128 + (w1.toNat + 127) / 128)
    (0 + nk w0.toNat 0 + nk w1.toNat (0 + w0.toNat)) := by
  have := h.rows; have := h.grps; have := nk_le w0.toNat 0
  exact h.at1.next (by omega) (by omega) (by omega)
theorem at3 : At (s3 w0 w1 w2) (g3 w0 w1 w2) (k3 w0 w1 w2) (0 + w0.toNat + w1.toNat + w2.toNat)
    (0 + (w0.toNat + 127) / 128 + (w1.toNat + 127) / 128 + (w2.toNat + 127) / 128)
    (0 + nk w0.toNat 0 + nk w1.toNat (0 + w0.toNat) + nk w2.toNat (0 + w0.toNat + w1.toNat)) := by
  have := h.rows; have := h.grps; have := nk_le w0.toNat 0; have := nk_le w1.toNat (0 + w0.toNat)
  exact h.at2.next (by omega) (by omega) (by omega)
theorem at4 : At (s4 w0 w1 w2 w3) (g4 w0 w1 w2 w3) (k4 w0 w1 w2 w3) (0 + w0.toNat + w1.toNat + w2.toNat + w3.toNat)
    (0 + (w0.toNat + 127) / 128 + (w1.toNat + 127) / 128 + (w2.toNat + 127) / 128 + (w3.toNat + 127) / 128)
    (0 + nk w0.toNat 0 + nk w1.toNat (0 + w0.toNat) + nk w2.toNat (0 + w0.toNat + w1.toNat) + nk w3.toNat (0 + w0.toNat + w1.toNat + w2.toNat)) := by
  have := h.rows; have := h.grps; have := nk_le w0.toNat 0; have := nk_le w1.toNat (0 + w0.toNat)
  have := nk_le w2.toNat (0 + w0.toNat + w1.toNat)
  exact h.at3.next (by omega) (by omega) (by omega)

theorem tiles : 256 * (nk w0.toNat 0 + nk w1.toNat (0 + w0.toNat) + nk w2.toNat (0 + w0.toNat + w1.toNat) +
    nk w3.toNat (0 + w0.toNat + w1.toNat + w2.toNat) + nk w4.toNat (0 + w0.toNat + w1.toNat + w2.toNat + w3.toNat)) ≤ 2816 := by
  have := h.rows; have := nk_le w0.toNat 0; have := nk_le w1.toNat (0 + w0.toNat)
  have := nk_le w2.toNat (0 + w0.toNat + w1.toNat); have := nk_le w3.toNat (0 + w0.toNat + w1.toNat + w2.toNat)
  have := nk_le w4.toNat (0 + w0.toNat + w1.toNat + w2.toNat + w3.toNat)
  omega

theorem seg0 : Seg w0 0#32 0#32 0#32 := by
  have := h.rows; have := h.grps; have := h.tiles
  refine ⟨?_, ?_, ?_, ?_⟩ <;> rw [show (0#32 : BitVec 32).toNat = 0 from rfl] <;> omega
theorem seg1 : Seg w1 (s1 w0) (g1 w0) (k1 w0) := by
  have := h.rows; have := h.grps; have := h.tiles; have ha := h.at1
  exact ⟨by rw [ha.s]; omega, by rw [ha.g]; omega, by rw [ha.k, ha.s]; omega, by rw [ha.k]; omega⟩
theorem seg2 : Seg w2 (s2 w0 w1) (g2 w0 w1) (k2 w0 w1) := by
  have := h.rows; have := h.grps; have := h.tiles; have ha := h.at2
  exact ⟨by rw [ha.s]; omega, by rw [ha.g]; omega, by rw [ha.k, ha.s]; omega, by rw [ha.k]; omega⟩
theorem seg3 : Seg w3 (s3 w0 w1 w2) (g3 w0 w1 w2) (k3 w0 w1 w2) := by
  have := h.rows; have := h.grps; have := h.tiles; have ha := h.at3
  exact ⟨by rw [ha.s]; omega, by rw [ha.g]; omega, by rw [ha.k, ha.s]; omega, by rw [ha.k]; omega⟩
theorem seg4 : Seg w4 (s4 w0 w1 w2 w3) (g4 w0 w1 w2 w3) (k4 w0 w1 w2 w3) := by
  have := h.rows; have := h.grps; have := h.tiles; have ha := h.at4
  exact ⟨by rw [ha.s]; omega, by rw [ha.g]; omega, by rw [ha.k, ha.s]; omega, by rw [ha.k]; omega⟩

end Fit

/-- A unit rectangle of a rank-2 array is in range, axis by axis. -/
theorem inb2 {x c m n M N : ℕ} (h : x + m ≤ M) (h' : c + n ≤ N) : ∀ a : Fin 2, ![x, c] a + ![m, n] a ≤ ![M, N] a :=
  Fin.forall_fin_two.2 ⟨h, h'⟩
theorem inb3 {w x c l m n L M N : ℕ} (h0 : w + l ≤ L) (h : x + m ≤ M) (h' : c + n ≤ N) :
    ∀ a : Fin 3, ![w, x, c] a + ![l, m, n] a ≤ ![L, M, N] a := by
  intro a; fin_cases a; exacts [h0, h, h']
/-- A rectangle of whole pairs of rows. -/
theorem packed2 {d : Fin 2 → ℕ} {x c m n : ℕ} (hinb : ∀ a, ![x, c] a + ![m, n] a ≤ d a) (h : 2 ∣ x) (h' : 2 ∣ m) :
    (Rect.unit (s := ⟨2, d⟩) ![x, c] ![m, n] hinb).PackedRows 2 :=
  .inr ⟨Nat.le_refl 2, rfl, .inl ⟨h, h'⟩⟩

namespace Seg
variable {v s g ko : BitVec 32} (h : Seg v s g ko)
include h

theorem grp_ok : (mainLoop (grpW v)).OK := main_ok (by have := h.row; rw [grpW_toNat (by omega)]; omega)
theorem grp_rem_ok : (remLoop (grpW v)).OK := rem_ok (by have := h.row; rw [grpW_toNat (by omega)]; omega)
theorem nk_ok : (mainLoop (nkW v s)).OK := main_ok (by have := h.row; have := nk_le v.toNat s.toNat; rw [nkW_toNat (by omega)]; omega)
theorem nk_rem_ok : (remLoop (nkW v s)).OK := rem_ok (by have := h.row; have := nk_le v.toNat s.toNat; rw [nkW_toNat (by omega)]; omega)
theorem grp_trips : (mainLoop (grpW v)).trips = (v.toNat + 127) / 128 := by
  have := h.row
  rw [main_trips (by rw [grpW_toNat (by omega)]; omega), grpW_toNat (by omega)]
theorem nk_trips : (mainLoop (nkW v s)).trips = nk v.toNat s.toNat := by
  have := h.row; have := nk_le v.toNat s.toNat
  rw [main_trips (by rw [nkW_toNat (by omega)]; omega), nkW_toNat (by omega)]
theorem lt_grp (t : Fin (mainLoop (grpW v)).trips) : 128 * t.val < v.toNat := by
  have := lt_of_lt_of_eq t.isLt h.grp_trips; omega
theorem lt_nk (t : Fin (mainLoop (nkW v s)).trips) : t.val < nk v.toNat s.toNat := by
  exact lt_of_lt_of_eq t.isLt h.nk_trips
/-- The window's first row. -/
theorem win_toNat (t : Fin (mainLoop (grpW v)).trips) : (winW s t).toNat = min ((s.toNat + 128 * t.val) / 32 * 32) 1376 :=
  winW_toNat (by have := h.row; have := h.lt_grp t; omega)
theorem win_dvd (t : Fin (mainLoop (grpW v)).trips) : 32 ∣ (winW s t).toNat := by rw [h.win_toNat t]; omega
theorem win_le (t : Fin (mainLoop (grpW v)).trips) : (winW s t).toNat + 160 ≤ 1536 := by rw [h.win_toNat t]; omega
theorem win_dvd2 (t : Fin (mainLoop (grpW v)).trips) : 2 ∣ (winW s t).toNat := by have := h.win_dvd t; omega
/-- The scaling group's row. -/
theorem sc_toNat (t : Fin (mainLoop (grpW v)).trips) : (Scalar.addi g (kW t)).toNat = g.toNat + t.val := by
  have := h.grp; have := h.lt_grp t; have := h.row
  rw [toNat_addi (by rw [kW_toNat (by omega)]; omega), kW_toNat (by omega)]
theorem sc_le (t : Fin (mainLoop (grpW v)).trips) : (Scalar.addi g (kW t)).toNat + 1 ≤ 13 := by
  have := h.grp; have := h.lt_grp t; rw [h.sc_toNat t]; omega
theorem lo_toNat : (loW s).toNat = s.toNat / 16 * 16 := loW_toNat (by have := h.row; omega)
theorem lo_dvd : 16 ∣ (loW s).toNat := by rw [h.lo_toNat]; omega
theorem next_lo_dvd : 16 ∣ (loW (Scalar.addi s v)).toNat := by
  have := h.row
  rw [loW_toNat (by rw [toNat_addi (by omega)]; omega)]; omega
/-- A tile's first row. -/
theorem tile_toNat (t : Fin (mainLoop (nkW v s)).trips) : (tileW (loW s) t).toNat = s.toNat / 16 * 16 + 256 * t.val := by
  have := h.row; have := h.lt_nk t; have := nk_le v.toNat s.toNat; have := h.lo_toNat
  rw [tileW_toNat (by omega), h.lo_toNat]
theorem tile_dvd (t : Fin (mainLoop (nkW v s)).trips) : 16 ∣ (tileW (loW s) t).toNat := by rw [h.tile_toNat t]; omega
theorem tile_le (t : Fin (mainLoop (nkW v s)).trips) : (tileW (loW s) t).toNat + 256 ≤ 1792 := by
  have := h.row; have := h.lt_nk t; have := nk_row v.toNat s.toNat; rw [h.tile_toNat t]; omega
/-- A tile's first column of the transposed copy. -/
theorem kt_toNat (t : Fin (mainLoop (nkW v s)).trips) : (tileW ko t).toNat = ko.toNat + 256 * t.val := by
  have := h.col; have := h.lt_nk t
  rw [tileW_toNat (by omega)]
theorem kt_dvd (t : Fin (mainLoop (nkW v s)).trips) : 256 ∣ (tileW ko t).toNat := by have := h.dvd; rw [h.kt_toNat t]; omega
theorem kt_le (t : Fin (mainLoop (nkW v s)).trips) : (tileW ko t).toNat + 256 ≤ 2816 := by
  have := h.col; have := h.lt_nk t; rw [h.kt_toNat t]; omega

end Seg

/-- The column block's slot and columns. -/
theorem iv_toNat {j : ℕ} (h : j < 2 ^ 31) : (Scf.iv 0#32 1#32 j).toNat = j :=
  Idealize.ShloMosaic.WordArith.toNat_iv_zero_one j (by omega)
theorem slotY_toNat {j : ℕ} (h : j < 2 ^ 31) : (Scalar.remsi (Scf.iv 0#32 1#32 j) 2#32).toNat = j % 2 := by
  have := IntOp.toNat_remsi .scalar (x := Scf.iv 0#32 1#32 j) (by rw [iv_toNat h]; omega) 2 (by omega) (by omega)
  rw [iv_toNat h] at this; exact this
theorem colY_toNat {j : ℕ} (h : j < 8) : (Scalar.muli (Scf.iv 0#32 1#32 j) 1024#32).toNat = j * 1024 := by
  rw [toNat_muli (by rw [iv_toNat (by omega)]; show j * 1024 < _; omega), iv_toNat (by omega)]; rfl

end GW
-- ==== Proof.Dq.lean ====
/- The scaled rows: what one window's masked store leaves in the row buffer. -/
module

public import proofs.«01_k».proof.Proof.Gen.Kernel.Skeleton
public import proofs.«01_k».proof.Proof.Segs
public import proofs.«01_k».proof.Proof.Wr
public import Idealize.ShloMosaic.Lib.Pointwise
public import Idealize.ShloMosaic.Lib.Pipeline.Value

@[expose] public section

noncomputable section

namespace Cert.Kernel

open Idealize.ShloMosaic Idealize.ShloMosaic.TcCoe Cert.Kernel.Gen GW

variable {F : FTy → Type} [FloatOps F]

/-- The index `k` of an axis of `n`. -/
abbrev fin (n k : ℕ) [NeZero n] : Fin n := Fin.ofNat n k

theorem ofNat_val {n : ℕ} [NeZero n] (k : Fin n) : Fin.ofNat n k.val = k := Fin.ofNat_val_eq_self k

/-- The scaled value of an operand's element `x`, its group's scale `s`. -/
abbrev dq (x : F .fp8e4m3) (s : F .f32) : F .bf16 :=
  FloatOps.mulf (FloatOps.extf .bf16 bitsLt_fp8e4m3_bf16 x) (FloatOps.truncf .bf16 bitsLt_bf16_f32 s)

/-- Row `r`, column `q` of column block `c` of the scaled `x`, the row's group `G r`. -/
def RX (x : S1536x3072.Idx → F .fp8e4m3) (sx : S13x3072.Idx → F .f32) (G : ℕ → ℕ) (c : ℕ) (i : S1792x1024.Idx) : F .bf16 :=
  dq (x (ix2 (fin 1536 (i 0)) (fin 3072 (c * 1024 + (i 1).val)))) (sx (ix2 (fin 13 (G (i 0))) (fin 3072 (c * 1024 + (i 1).val))))

/-- The same of `y`. -/
def RY (y : S1536x8192.Idx → F .fp8e4m3) (sy : S13x8192.Idx → F .f32) (G : ℕ → ℕ) (c : ℕ) (i : S1792x1024.Idx) : F .bf16 :=
  dq (y (ix2 (fin 1536 (i 0)) (fin 8192 (c * 1024 + (i 1).val)))) (sy (ix2 (fin 13 (G (i 0))) (fin 8192 (c * 1024 + (i 1).val))))

/-- The first `n` rows hold `R`. -/
def RowsUpto (n : ℕ) (R f : S1792x1024.Idx → F .bf16) : Prop := ∀ i, (i 0).val < n → f i = R i

theorem RowsUpto.mono {n n' : ℕ} {R f : S1792x1024.Idx → F .bf16} (h : RowsUpto n R f) (hn : n' ≤ n) : RowsUpto n' R f :=
  fun i hi => h i (by omega)

/-- The rows a window's store changes: row `y` of the window at `win` when its row number is in `[lo, hi)`. -/
def mask (win lo hi : BitVec 32) : IVec S160x1024 1 :=
  andi (cmpi .sge (addi (iota .tc S160x1024 32 [0] iota_S160x1024_d0_w32) (broadcast S160x1024 win)) (broadcast S160x1024 lo))
    (cmpi .slt (addi (iota .tc S160x1024 32 [0] iota_S160x1024_d0_w32) (broadcast S160x1024 win)) (broadcast S160x1024 hi))

theorem mask_apply {win lo hi : BitVec 32} (hw : win.toNat + 160 ≤ 1536) (hl : lo.toNat ≤ 1536) (hh : hi.toNat ≤ 1536) (y : S160x1024.Idx) :
    mask win lo hi y = 1#1 ↔ lo.toNat ≤ win.toNat + (y 0).val ∧ win.toNat + (y 0).val < hi.toNat := by
  have hy : (y 0).val < 160 := (y 0).isLt
  have e : (IntOp.addi (BitVec.ofNat 32 (y 0).val) win).toNat = win.toNat + (y 0).val := by
    show (BitVec.ofNat 32 (y 0).val + win).toNat = _
    rw [BitVec.toNat_add, BitVec.toNat_ofNat]; omega
  have e0 : iota .tc S160x1024 32 [0] iota_S160x1024_d0_w32 y = BitVec.ofNat 32 (y 0).val := by
    show BitVec.ofNat 32 (0 * 160 + (y 0).val) = _
    rw [Nat.zero_mul, Nat.zero_add]
  show IntOp.andi (IntOp.cmpi .sge (IntOp.addi (iota .tc S160x1024 32 [0] iota_S160x1024_d0_w32 y) win) lo) (IntOp.cmpi .slt (IntOp.addi (iota .tc S160x1024 32 [0] iota_S160x1024_d0_w32 y) win) hi) = 1#1 ↔ _
  rw [e0, IntOp.andi_eq_one, IntOp.cmpi_sge, IntOp.cmpi_slt, BitVec.toInt_eq_toNat_of_lt (by omega), BitVec.toInt_eq_toNat_of_lt (by omega),
    BitVec.toInt_eq_toNat_of_lt (by omega), e]
  omega

/-- What a window's store leaves: the rows up to `n'` hold `R` if those up to `n` did. -/
theorem rows_step {R f : S1792x1024.Idx → F .bf16} {win lo hi : BitVec 32} {off : Fin 2 → ℕ} (inb : ∀ a, off a + S160x1024.size a ≤ S1792x1024.size a)
    (h0 : off 0 = win.toNat) (h1 : off 1 = 0) (val : S160x1024.Idx → F .bf16) {n n' : ℕ}
    (hw : win.toNat + 160 ≤ 1536) (hl : lo.toNat ≤ 1536) (hh : hi.toNat ≤ 1536)
    (hval : ∀ y : S160x1024.Idx, lo.toNat ≤ win.toNat + (y 0).val → win.toNat + (y 0).val < hi.toNat →
      val y = R (ix2 ⟨win.toNat + (y 0).val, by have : (y 0).val < 160 := (y 0).isLt; omega⟩ (y 1)))
    (hwl : win.toNat ≤ lo.toNat) (hln : lo.toNat ≤ n) (hn1 : n' ≤ win.toNat + 160) (hn2 : n' ≤ hi.toNat) (hf : RowsUpto n R f) :
    RowsUpto n' R (((Memref.whole cc0_scratch4 : Memref sig .tc .vmem S1792x1024 .bf16).access (Rect.unit (s := S1792x1024) off S160x1024.size inb)).write (Elt F) f
      (select (mask win lo hi) val ((Memref.whole cc0_scratch4 : Memref sig .tc .vmem S1792x1024 .bf16).view.readAt (Elt F) (Rect.unit (s := S1792x1024) off S160x1024.size inb).toLoadRect f)) Finset.univ) := by
  intro i hi'
  have hi1 : (i 1).val < 1024 := (i 1).isLt
  by_cases hin : off 0 ≤ (i 0).val ∧ (i 0).val < off 0 + 160
  · rw [h0] at hin
    let y : S160x1024.Idx := ix2 (⟨(i 0).val - win.toNat, by omega⟩ : Fin 160) (⟨(i 1).val, hi1⟩ : Fin 1024)
    have hy0 : (y 0).val = (i 0).val - win.toNat := rfl
    have hiy : (Rect.unit (s := S1792x1024) off S160x1024.size inb).toLoadRect.idx y = i := by
      funext a; apply Fin.ext
      match a with
      | 0 => show off 0 + 1 * ((i 0).val - win.toNat) = _; rw [h0]; omega
      | 1 => show off 1 + 1 * (i 1).val = _; rw [h1]; omega
    refine (wr_in (Val := Elt F) cc0_scratch4 off S160x1024.size inb f _ i y fun a => ?_).trans ?_
    · match a with
      | 0 => show _ = off 0 + ((i 0).val - win.toNat); rw [h0]; show (i 0).val = _; omega
      | 1 => show _ = off 1 + (i 1).val; rw [h1]; show (i 1).val = _; omega
    show Scalar.select (mask win lo hi y) (val y) _ = _
    by_cases hm : lo.toNat ≤ win.toNat + (y 0).val ∧ win.toNat + (y 0).val < hi.toNat
    · rw [(mask_apply hw hl hh y).2 hm]
      show val y = _
      rw [hval y hm.1 hm.2]
      congr 1
      funext a; apply Fin.ext
      match a with
      | 0 => show win.toNat + (y 0).val = _; rw [hy0]; omega
      | 1 => rfl
    · rw [eq_zero_of_ne_one (fun hc => hm ((mask_apply hw hl hh y).1 hc))]
      show f ((Rect.unit (s := S1792x1024) off S160x1024.size inb).toLoadRect.idx y) = _
      rw [hiy]
      exact hf i (by omega)
  · refine (wr_out (Val := Elt F) cc0_scratch4 off S160x1024.size inb f _ i 0 ?_).trans ?_
    · show (i 0).val < off 0 ∨ off 0 + 160 ≤ (i 0).val
      omega
    · rw [h0] at hin
      exact hf i (by omega)

end Cert.Kernel
-- ==== Proof.DqLoop.lean ====
/- The loops that scale a segment's rows. -/
module

public import proofs.«01_k».proof.Proof.Ctx
public import proofs.«01_k».proof.Proof.Dq

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where the rows of a window end being a segment's. -/
theorem hi_toNat {v s g ko : BitVec 32} (h : Seg v s g ko) (t : Fin (mainLoop (grpW v)).trips) :
    (Scalar.minsi (Scalar.addi (glW s t) 128#32) (Scalar.addi s v)).toNat = min (s.toNat + 128 * (t.val + 1)) (s.toNat + v.toNat) := by
  have hr := h.row
  have ht := h.lt_grp t
  have hg : (glW s t).toNat = s.toNat + 128 * t.val := glW_toNat (by omega)
  have h1 : (Scalar.addi (glW s t) 128#32).toNat = s.toNat + 128 * (t.val + 1) := by
    rw [toNat_addi (y := 128#32) (by rw [hg]; show _ + 128 < _; omega), hg]; show _ + 128 = _; omega
  have h2 : (Scalar.addi s v).toNat = s.toNat + v.toNat := toNat_addi (by omega)
  show (IntOp.minsi _ _).toNat = _
  rw [WordArith.toNat_minsi_of_lt _ _ (by omega) (by omega), h1, h2]

/-- The mask of trip `t` of a segment's loop. -/
abbrev segMask (v s : BitVec 32) (t : ℕ) : IVec S160x1024 1 :=
  mask (winW s t) (glW s t) (Scalar.minsi (Scalar.addi (glW s t) 128#32) (Scalar.addi s v))

theorem rows_inb {v s g ko : BitVec 32} (h : Seg v s g ko) (t : Fin (mainLoop (grpW v)).trips) :
    ∀ a, (![(winW s t).toNat, 0] : Fin 2 → ℕ) a + S160x1024.size a ≤ S1792x1024.size a :=
  inb2 (by have := h.win_le t; omega) (by omega)

/-- One trip's store into the row buffer, whatever scaled values `val` it selects. -/
abbrev rowsStore {v s g ko : BitVec 32} (h : Seg v s g ko) (t : Fin (mainLoop (grpW v)).trips) (val : FVec F S160x1024 .bf16)
    (f : S1792x1024.Idx → F .bf16) : S1792x1024.Idx → F .bf16 :=
  (mRows.access (Rect.unit (s := S1792x1024) ![(winW s t).toNat, 0] S160x1024.size (rows_inb h t))).write (Elt F) f
    (shapeCast S160x1024 (select (segMask v s t) val (mRows.view.readAt (Elt F)
      (Rect.unit (s := S1792x1024) ![(winW s t).toNat, 0] S160x1024.size (rows_inb h t)).toLoadRect f)) shapeCasts_S160x1024_S160x1024) Finset.univ

theorem rowsStore_upto {v s g ko : BitVec 32} (h : Seg v s g ko) (t : Fin (mainLoop (grpW v)).trips) (val : FVec F S160x1024 .bf16)
    {R f : S1792x1024.Idx → F .bf16}
    (hval : ∀ y : S160x1024.Idx, s.toNat + 128 * t.val ≤ (winW s t).toNat + (y 0).val →
      (winW s t).toNat + (y 0).val < min (s.toNat + 128 * (t.val + 1)) (s.toNat + v.toNat) →
      ∀ hlt, val y = R (ix2 ⟨(winW s t).toNat + (y 0).val, hlt⟩ (y 1)))
    (hf : RowsUpto (min (s.toNat + 128 * t.val) (s.toNat + v.toNat)) R f) :
    RowsUpto (min (s.toNat + 128 * (t.val + 1)) (s.toNat + v.toNat)) R (rowsStore h t val f) := by
  have hr := h.row
  have ht := h.lt_grp t
  have hw := h.win_toNat t
  have hg : (glW s t).toNat = s.toNat + 128 * t.val := glW_toNat (by omega)
  have hh := hi_toNat h t
  have hsc : ∀ z : FVec F S160x1024 .bf16, shapeCast S160x1024 z shapeCasts_S160x1024_S160x1024 = z := fun z => by
    funext y; pointwise
  unfold rowsStore
  rw [hsc]
  refine rows_step (rows_inb h t) rfl rfl val (n := min (s.toNat + 128 * t.val) (s.toNat + v.toNat)) (h.win_le t) (by omega) (by omega) ?_ (by omega) (by omega) (by omega) (by omega) hf
  intro y h1 h2
  rw [hg] at h1; rw [hh] at h2
  exact hval y h1 h2 _

theorem sx_inb {v s g ko : BitVec 32} (h : Seg v s g ko) {C : ℕ} (hC : C < 3) (t : Fin (mainLoop (grpW v)).trips) :
    ∀ a, (![(Scalar.addi g (kW t)).toNat, C * 1024] : Fin 2 → ℕ) a + S1x1024.size a ≤ S13x3072.size a := inb2 (h.sc_le t) (by omega)
theorem x_inb {v s g ko : BitVec 32} (h : Seg v s g ko) {C : ℕ} (hC : C < 3) (t : Fin (mainLoop (grpW v)).trips) :
    ∀ a, (![(winW s t).toNat, C * 1024] : Fin 2 → ℕ) a + S160x1024.size a ≤ S1536x3072.size a := inb2 (h.win_le t) (by omega)

/-- One trip of the loop that scales a segment's rows of column block `C` of `x`. -/
def dqxBody {v s g ko : BitVec 32} (h : Seg v s g ko) {C : ℕ} (hC : C < 3) (t : Fin (mainLoop (grpW v)).trips) :
    Prog (TpuEff nD τ sig (Elt F) Λ₀ .tc) Unit :=
  .op (.load mXs (Rect.unit (s := S13x3072) ![(Scalar.addi g (kW t)).toNat, C * 1024] S1x1024.size (sx_inb h hC t)).toLoadRect (View.loadsAt_vmem h_S1x1024)) fun a =>
  .op (.load mXc (Rect.unit (s := S1536x3072) ![(winW s t).toNat, C * 1024] S160x1024.size (x_inb h hC t)).toLoadRect (View.loadsAt_vmem h_S160x1024)) fun b =>
  .op (.load mRows (Rect.unit (s := S1792x1024) ![(winW s t).toNat, 0] S160x1024.size (rows_inb h t)).toLoadRect (View.loadsAt_vmem h_S160x1024)) fun o =>
  .op (.load mRows (Rect.unit (s := S1792x1024) ![(winW s t).toNat, 0] S160x1024.size (rows_inb h t)).toLoadRect (View.loadsAt_vmem h_S160x1024)) fun _ =>
  .op (.store mRows (Rect.unit (s := S1792x1024) ![(winW s t).toNat, 0] S160x1024.size (rows_inb h t))
    (shapeCast S160x1024 (select (segMask v s t) (k0_pay1 a b) o) shapeCasts_S160x1024_S160x1024) Finset.univ
    (View.stores_vmem h_S160x1024 ((Memref.isWhole_whole _).storeExact_slice rfl _ (packed2 (rows_inb h t) (h.win_dvd2 t) (by decide))) (fun _ => rfl)) (.inl rfl)) fun _ => .ret ()

/-- The piece of the copied `x` that column block `C` is read from. -/
def xPiece (C : ℕ) : Finset S1536x3072.Idx := Finset.univ.filter fun i => C * 1024 ≤ (i 1).val ∧ (i 1).val < (C + 1) * 1024

theorem x_sub {v s g ko : BitVec 32} (h : Seg v s g ko) {C : ℕ} (hC : C < 3) (t : Fin (mainLoop (grpW v)).trips) :
    mXc.view.setOn (Rect.unit (s := S1536x3072) ![(winW s t).toNat, C * 1024] S160x1024.size (x_inb h hC t)).toLoadRect.set ⊆ xPiece C := by
  intro i hi
  have h2 : C * 1024 ≤ (i 1).val ∧ (i 1).val < C * 1024 + 1024 := (mem_setOn_unit cc0_scratch0 _ _ (x_inb h hC t) i).1 hi 1
  exact Finset.mem_filter.2 ⟨Finset.mem_univ _, h2.1, by omega⟩

theorem dqx_trip (c : Dev nD) {v s g ko : BitVec 32} (h : Seg v s g ko) {C : ℕ} (hC : C < 3) (t : Fin (mainLoop (grpW v)).trips)
    (x : S1536x3072.Idx → F .fp8e4m3) (sx : S13x3072.Idx → F .f32) (G : ℕ → ℕ)
    (hG : ∀ r, s.toNat ≤ r → r < s.toNat + v.toNat → G r = g.toNat + (r - s.toNat) / 128) :
    iprop(pts c mXs sx ∗ ptsOn c mXc (xPiece C) x ∗ (∃ f, ⌜RowsUpto (min (s.toNat + 128 * t.val) (s.toNat + v.toNat)) (RX x sx G C) f⌝ ∗ pts c mRows f))
      ⊢ W c (dqxBody (F := F) h hC t) fun _ =>
        iprop(pts c mXs sx ∗ ptsOn c mXc (xPiece C) x ∗ (∃ f, ⌜RowsUpto (min (s.toNat + 128 * (t.val + 1)) (s.toNat + v.toNat)) (RX x sx G C) f⌝ ∗ pts c mRows f)) := by
  unfold dqxBody
  iintro ⟨Hs, Hx, ⟨%f, %hf, Hr⟩⟩
  iapply (wp_load 𝒱₀ (c : Thread nD τ) none Set.univ (m := mXs) (Finset.subset_univ _)) $$ Hs; iintro Hs
  iapply (wp_load 𝒱₀ (c : Thread nD τ) none Set.univ (m := mXc) (x_sub h hC t)) $$ Hx; iintro Hx
  iapply (wp_load 𝒱₀ (c : Thread nD τ) none Set.univ (m := mRows) (Finset.subset_univ _)) $$ Hr; iintro Hr
  iapply (wp_load 𝒱₀ (c : Thread nD τ) none Set.univ (m := mRows) (Finset.subset_univ _)) $$ Hr; iintro Hr
  iapply (wp_store 𝒱₀ (c : Thread nD τ) none Set.univ (m := mRows) (r := Rect.unit (s := S1792x1024) ![(winW s t).toNat, 0] S160x1024.size (rows_inb h t)) (Mk := Finset.univ) (Finset.subset_univ _)) $$ Hr; iintro Hr
  rw [wp_ret]; imodintro
  isplitl [Hs]; · iexact Hs
  isplitl [Hx]; · iexact Hx
  iexists _
  isplitr
  swap; · iexact Hr
  ipureintro
  refine rowsStore_upto h t _ ?_ hf
  · intro y h1 h2 hlt
    have h3 := h.sc_toNat t
    have h4 := h.row
    have h5 := h.sc_le t
    have h6 := h.win_le t
    have hy : (y 1).val < 1024 := (y 1).isLt
    have hy0 : (y 0).val < 160 := (y 0).isLt
    have hgr := hG _ (show s.toNat ≤ (winW s t).toNat + (y 0).val by omega) (by omega)
    have hgt : ((winW s t).toNat + (y 0).val - s.toNat) / 128 = t.val := by omega
    unfold RX dq
    refine congrArg₂ FloatOps.mulf (congrArg _ (congrArg x ?_)) (congrArg _ (congrArg sx ?_))
    · funext a; apply Fin.ext
      match a with
      | 0 => show (winW s t).toNat + 1 * (y 0).val = ((winW s t).toNat + (y 0).val) % 1536; omega
      | 1 => show C * 1024 + 1 * (y 1).val = (C * 1024 + (y 1).val) % 3072; omega
    · funext a; apply Fin.ext
      match a with
      | 0 => show (Scalar.addi g (kW t)).toNat + 1 * 0 = G ((winW s t).toNat + (y 0).val) % 13; omega
      | 1 => show C * 1024 + 1 * (y 1).val = (C * 1024 + (y 1).val) % 3072; omega

/-- The remainder of a printed loop has no trip: the program goes on. -/
theorem rem_loop (c : Dev nD) {n : BitVec 32} {hok : (remLoop n).OK} {body : Fin (remLoop n).trips → PUnit → Prog (TpuEff nD τ sig (Elt F) Λ₀ .tc) PUnit}
    {β : Type} {kk : PUnit → Prog (TpuEff nD τ sig (Elt F) Λ₀ .tc) β} {Q : β → sProp (MM F)} :
    W c (kk ⟨⟩) Q ⊢ W c (Scf.Loop.for (remLoop n) hok ⟨⟩ body >>= kk) Q :=
  Scf.wp_for0_bind frame _ _ _ _ _ hok body (rem_trips n) kk Q _ .rfl

/-- The loop that scales a segment's rows of column block `C` of `x`: from the rows before the segment scaled, the
    rows up to its end are. -/
theorem dqx_loop (c : Dev nD) {v s g ko : BitVec 32} (h : Seg v s g ko) {C : ℕ} (hC : C < 3)
    (x : S1536x3072.Idx → F .fp8e4m3) (sx : S13x3072.Idx → F .f32) (G : ℕ → ℕ)
    (hG : ∀ r, s.toNat ≤ r → r < s.toNat + v.toNat → G r = g.toNat + (r - s.toNat) / 128)
    {hok : (mainLoop (grpW v)).OK} {body : Fin (mainLoop (grpW v)).trips → PUnit → Prog (TpuEff nD τ sig (Elt F) Λ₀ .tc) PUnit}
    (hb : ∀ t u, body t u = dqxBody h hC t)
    {β : Type} {kk : PUnit → Prog (TpuEff nD τ sig (Elt F) Λ₀ .tc) β} {Q : β → sProp (MM F)} :
    iprop(pts c mXs sx ∗ ptsOn c mXc (xPiece C) x ∗ (∃ f, ⌜RowsUpto s.toNat (RX x sx G C) f⌝ ∗ pts c mRows f)
      ∗ ((pts c mXs sx ∗ ptsOn c mXc (xPiece C) x ∗ (∃ f, ⌜RowsUpto (s.toNat + v.toNat) (RX x sx G C) f⌝ ∗ pts c mRows f)) -∗ W c (kk ⟨⟩) Q))
    ⊢ W c (Scf.Loop.for (mainLoop (grpW v)) hok ⟨⟩ body >>= kk) Q := by
  iintro ⟨Hs, Hx, ⟨%f, %hf, Hr⟩, Hk⟩
  iapply (Scf.wp_for_bind frame (wpE (defs₀ (F := F)) 𝒱₀ (c : Thread nD τ) none) Set.univ _ _ _ hok _ body
    (fun k _ => iprop(pts c mXs sx ∗ ptsOn c mXc (xPiece C) x ∗ (∃ f, ⌜RowsUpto (min (s.toNat + 128 * k) (s.toNat + v.toNat)) (RX x sx G C) f⌝ ∗ pts c mRows f)))
    (fun t u => by rw [hb]; exact dqx_trip c h hC t x sx G hG)) $$ [Hs Hx Hr]
  · isplitl [Hs]; · iexact Hs
    isplitl [Hx]; · iexact Hx
    iexists f
    isplitr; · ipureintro; exact hf.mono (by omega)
    iexact Hr
  iintro %u ⟨Hs, Hx, ⟨%f', %hf', Hr⟩⟩
  iapply Hk
  isplitl [Hs]; · iexact Hs
  isplitl [Hx]; · iexact Hx
  iexists f'
  isplitr
  · ipureintro
    have h1 : Scf.trips 0#32 (tripW (grpW v)) 1#32 = (v.toNat + 127) / 128 := h.grp_trips
    exact hf'.mono (by rw [h1]; omega)
  iexact Hr

end Cert.Kernel
-- ==== Proof.DqYLoop.lean ====
/- The loops that scale a segment's rows of one column block of `y`. -/
module

public import proofs.«01_k».proof.Proof.DqLoop

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The slot of the copied `y` that column block `j` is read from. -/
abbrev slotW (j : ℕ) : BitVec 32 := Scalar.remsi (Scf.iv 0#32 1#32 j) 2#32
/-- Its first column in `y`. -/
abbrev colW (j : ℕ) : BitVec 32 := Scalar.muli (Scf.iv 0#32 1#32 j) 1024#32

/-- The elements of slot `b` of the copied `y`. -/
def yPiece (b : ℕ) : Finset S2x1536x1024.Idx := Finset.univ.filter fun i => (i 0).val = b

/-- What the slots hold when they hold column block `j` of `y`. -/
def YB (y : S1536x8192.Idx → F .fp8e4m3) (j : ℕ) : S2x1536x1024.Idx → F .fp8e4m3 :=
  fun i => y (ix2 (fin 1536 (i 1).val) (fin 8192 (j * 1024 + (i 2).val)))

theorem sy_inb {v s g ko : BitVec 32} (h : Seg v s g ko) {j : ℕ} (hj : j < 8) (t : Fin (mainLoop (grpW v)).trips) :
    ∀ a, (![(Scalar.addi g (kW t)).toNat, (colW j).toNat] : Fin 2 → ℕ) a + S1x1024.size a ≤ S13x8192.size a :=
  inb2 (h.sc_le t) (by rw [colY_toNat hj]; omega)
theorem y_inb {v s g ko : BitVec 32} (h : Seg v s g ko) {j : ℕ} (hj : j < 8) (t : Fin (mainLoop (grpW v)).trips) :
    ∀ a, (![(slotW j).toNat, (winW s t).toNat, 0] : Fin 3 → ℕ) a + S1x160x1024.size a ≤ S2x1536x1024.size a :=
  inb3 (by rw [slotY_toNat (by omega)]; omega) (h.win_le t) (by omega)

/-- One trip of the loop that scales a segment's rows of column block `j` of `y`. -/
def dqyBody {v s g ko : BitVec 32} (h : Seg v s g ko) {j : ℕ} (hj : j < 8) (t : Fin (mainLoop (grpW v)).trips) :
    Prog (TpuEff nD τ sig (Elt F) Λ₀ .tc) Unit :=
  .op (.load mYs (Rect.unit (s := S13x8192) ![(Scalar.addi g (kW t)).toNat, (colW j).toNat] S1x1024.size (sy_inb h hj t)).toLoadRect (View.loadsAt_vmem h_S1x1024)) fun a =>
  .op (.load mYc (Rect.unit (s := S2x1536x1024) ![(slotW j).toNat, (winW s t).toNat, 0] S1x160x1024.size (y_inb h hj t)).toLoadRect (View.loadsAt_vmem h_S1x160x1024)) fun b =>
  .op (.load mRows (Rect.unit (s := S1792x1024) ![(winW s t).toNat, 0] S160x1024.size (rows_inb h t)).toLoadRect (View.loadsAt_vmem h_S160x1024)) fun o =>
  .op (.load mRows (Rect.unit (s := S1792x1024) ![(winW s t).toNat, 0] S160x1024.size (rows_inb h t)).toLoadRect (View.loadsAt_vmem h_S160x1024)) fun _ =>
  .op (.store mRows (Rect.unit (s := S1792x1024) ![(winW s t).toNat, 0] S160x1024.size (rows_inb h t))
    (shapeCast S160x1024 (select (segMask v s t) (k0_pay61 a b) o) shapeCasts_S160x1024_S160x1024) Finset.univ
    (View.stores_vmem h_S160x1024 ((Memref.isWhole_whole _).storeExact_slice rfl _ (packed2 (rows_inb h t) (h.win_dvd2 t) (by decide))) (fun _ => rfl)) (.inl rfl)) fun _ => .ret ()

theorem y_sub {v s g ko : BitVec 32} (h : Seg v s g ko) {j : ℕ} (hj : j < 8) (t : Fin (mainLoop (grpW v)).trips) :
    mYc.view.setOn (Rect.unit (s := S2x1536x1024) ![(slotW j).toNat, (winW s t).toNat, 0] S1x160x1024.size (y_inb h hj t)).toLoadRect.set ⊆ yPiece (j % 2) := by
  intro i hi
  have h2 : (slotW j).toNat ≤ (i 0).val ∧ (i 0).val < (slotW j).toNat + 1 := (mem_setOn_unit cc0_scratch1 _ _ (y_inb h hj t) i).1 hi 0
  rw [slotY_toNat (by omega)] at h2
  exact Finset.mem_filter.2 ⟨Finset.mem_univ _, by omega⟩

theorem dqy_trip (c : Dev nD) {v s g ko : BitVec 32} (h : Seg v s g ko) {j : ℕ} (hj : j < 8) (t : Fin (mainLoop (grpW v)).trips)
    (y : S1536x8192.Idx → F .fp8e4m3) (sy : S13x8192.Idx → F .f32) (G : ℕ → ℕ)
    (hG : ∀ r, s.toNat ≤ r → r < s.toNat + v.toNat → G r = g.toNat + (r - s.toNat) / 128) :
    iprop(pts c mYs sy ∗ ptsOn c mYc (yPiece (j % 2)) (YB y j) ∗ (∃ f, ⌜RowsUpto (min (s.toNat + 128 * t.val) (s.toNat + v.toNat)) (RY y sy G j) f⌝ ∗ pts c mRows f))
      ⊢ W c (dqyBody (F := F) h hj t) fun _ =>
        iprop(pts c mYs sy ∗ ptsOn c mYc (yPiece (j % 2)) (YB y j) ∗ (∃ f, ⌜RowsUpto (min (s.toNat + 128 * (t.val + 1)) (s.toNat + v.toNat)) (RY y sy G j) f⌝ ∗ pts c mRows f)) := by
  unfold dqyBody
  iintro ⟨Hs, Hx, ⟨%f, %hf, Hr⟩⟩
  iapply (wp_load 𝒱₀ (c : Thread nD τ) none Set.univ (m := mYs) (Finset.subset_univ _)) $$ Hs; iintro Hs
  iapply (wp_load 𝒱₀ (c : Thread nD τ) none Set.univ (m := mYc) (y_sub h hj t)) $$ Hx; iintro Hx
  iapply (wp_load 𝒱₀ (c : Thread nD τ) none Set.univ (m := mRows) (Finset.subset_univ _)) $$ Hr; iintro Hr
  iapply (wp_load 𝒱₀ (c : Thread nD τ) none Set.univ (m := mRows) (Finset.subset_univ _)) $$ Hr; iintro Hr
  iapply (wp_store 𝒱₀ (c : Thread nD τ) none Set.univ (m := mRows) (r := Rect.unit (s := S1792x1024) ![(winW s t).toNat, 0] S160x1024.size (rows_inb h t)) (Mk := Finset.univ) (Finset.subset_univ _)) $$ Hr; iintro Hr
  rw [wp_ret]; imodintro
  isplitl [Hs]; · iexact Hs
  isplitl [Hx]; · iexact Hx
  iexists _
  isplitr
  swap; · iexact Hr
  ipureintro
  refine rowsStore_upto h t _ ?_ hf
  intro i h1 h2 hlt
  have h3 := h.sc_toNat t
  have h4 := h.row
  have h5 := h.sc_le t
  have h6 := h.win_le t
  have h7 : (colW j).toNat = j * 1024 := colY_toNat hj
  have hy : (i 1).val < 1024 := (i 1).isLt
  have hy0 : (i 0).val < 160 := (i 0).isLt
  have hgr := hG _ (show s.toNat ≤ (winW s t).toNat + (i 0).val by omega) (by omega)
  have hgt : ((winW s t).toNat + (i 0).val - s.toNat) / 128 = t.val := by omega
  have e : ∀ (a : Vec F S1x1024 .f32) (b : Vec F S1x160x1024 .fp8e4m3), k0_pay61 a b i = dq (b (ix3 0 (i 0) (i 1))) (a (ix2 0 (i 1))) := fun a b => by
    unfold k0_pay61 dq
    pointwise
  refine (e _ _).trans ?_
  unfold RY dq
  refine congrArg₂ FloatOps.mulf (congrArg _ (congrArg y ?_)) (congrArg _ (congrArg sy ?_))
  · funext a; apply Fin.ext
    match a with
    | 0 => show ((winW s t).toNat + 1 * (i 0).val) % 1536 = ((winW s t).toNat + (i 0).val) % 1536; omega
    | 1 => show (j * 1024 + (0 + 1 * (i 1).val)) % 8192 = (j * 1024 + (i 1).val) % 8192; omega
  · funext a; apply Fin.ext
    match a with
    | 0 => show (Scalar.addi g (kW t)).toNat + 1 * 0 = G ((winW s t).toNat + (i 0).val) % 13; omega
    | 1 => show (colW j).toNat + 1 * (i 1).val = (j * 1024 + (i 1).val) % 8192; omega

/-- The loop that scales a segment's rows of column block `j` of `y`: from the rows before the segment scaled, the
    rows up to its end are. -/
theorem dqy_loop (c : Dev nD) {v s g ko : BitVec 32} (h : Seg v s g ko) {j : ℕ} (hj : j < 8)
    (y : S1536x8192.Idx → F .fp8e4m3) (sy : S13x8192.Idx → F .f32) (G : ℕ → ℕ)
    (hG : ∀ r, s.toNat ≤ r → r < s.toNat + v.toNat → G r = g.toNat + (r - s.toNat) / 128)
    {hok : (mainLoop (grpW v)).OK} {body : Fin (mainLoop (grpW v)).trips → PUnit → Prog (TpuEff nD τ sig (Elt F) Λ₀ .tc) PUnit}
    (hb : ∀ t u, body t u = dqyBody h hj t)
    {β : Type} {kk : PUnit → Prog (TpuEff nD τ sig (Elt F) Λ₀ .tc) β} {Q : β → sProp (MM F)} :
    iprop(pts c mYs sy ∗ ptsOn c mYc (yPiece (j % 2)) (YB y j) ∗ (∃ f, ⌜RowsUpto s.toNat (RY y sy G j) f⌝ ∗ pts c mRows f)
      ∗ ((pts c mYs sy ∗ ptsOn c mYc (yPiece (j % 2)) (YB y j) ∗ (∃ f, ⌜RowsUpto (s.toNat + v.toNat) (RY y sy G j) f⌝ ∗ pts c mRows f)) -∗ W c (kk ⟨⟩) Q))
    ⊢ W c (Scf.Loop.for (mainLoop (grpW v)) hok ⟨⟩ body >>= kk) Q := by
  iintro ⟨Hs, Hx, ⟨%f, %hf, Hr⟩, Hk⟩
  iapply (Scf.wp_for_bind frame (wpE (defs₀ (F := F)) 𝒱₀ (c : Thread nD τ) none) Set.univ _ _ _ hok _ body
    (fun k _ => iprop(pts c mYs sy ∗ ptsOn c mYc (yPiece (j % 2)) (YB y j) ∗ (∃ f, ⌜RowsUpto (min (s.toNat + 128 * k) (s.toNat + v.toNat)) (RY y sy G j) f⌝ ∗ pts c mRows f)))
    (fun t u => by rw [hb]; exact dqy_trip c h hj t y sy G hG)) $$ [Hs Hx Hr]
  · isplitl [Hs]; · iexact Hs
    isplitl [Hx]; · iexact Hx
    iexists f
    isplitr; · ipureintro; exact hf.mono (by omega)
    iexact Hr
  iintro %u ⟨Hs, Hx, ⟨%f', %hf', Hr⟩⟩
  iapply Hk
  isplitl [Hs]; · iexact Hs
  isplitl [Hx]; · iexact Hx
  iexists f'
  isplitr
  · ipureintro
    have h1 : Scf.trips 0#32 (tripW (grpW v)) 1#32 = (v.toNat + 127) / 128 := h.grp_trips
    exact hf'.mono (by rw [h1]; omega)
  iexact Hr

end Cert.Kernel
-- ==== Proof.Xt.lean ====
/- The loops that write a segment's scaled `x` rows, transposed and masked, into their column tiles. -/
module

public import proofs.«01_k».proof.Proof.DqLoop

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The zero the masked elements are. -/
abbrev z16 : F .bf16 := Scalar.ofBits .bf16 0x0000#16

open Classical in
/-- Element `i` of the transposed tiles: column `i 1` is row `Row (i 1)` of the operand, zero where that row is not
    in the column's segment. -/
def XT (x : S1536x3072.Idx → F .fp8e4m3) (sx : S13x3072.Idx → F .f32) (G Row : ℕ → ℕ) (In : ℕ → Prop) (i : S3072x2816.Idx) : F .bf16 :=
  if In (i 1).val then
    dq (x (ix2 (fin 1536 (Row (i 1).val)) (fin 3072 (i 0).val))) (sx (ix2 (fin 13 (G (Row (i 1).val))) (fin 3072 (i 0).val)))
  else z16

/-- The tiles of the columns below `T` are written in the column blocks before `C`, and in block `C` those below `P`. -/
def XtUpto (T C P : ℕ) (X f : S3072x2816.Idx → F .bf16) : Prop :=
  ∀ i, (i 1).val < T → ((i 0).val < C * 1024 ∨ (i 0).val < (C + 1) * 1024 ∧ (i 1).val < P) → f i = X i

/-- What a tile's store writes of the rows `w` read at `lo`. -/
def xtPay (s hi lo : BitVec 32) (w : Vec F S256x1024 .bf16) : FVec F S1024x256 .bf16 :=
  shapeCast S1024x256 (transpose S1024x256 [1, 0]
    (select (andi (cmpi .sge (addi (iota .tc S256x1024 32 [0] iota_S256x1024_d0_w32) (broadcast S256x1024 lo)) (broadcast S256x1024 s))
      (cmpi .slt (addi (iota .tc S256x1024 32 [0] iota_S256x1024_d0_w32) (broadcast S256x1024 lo)) (broadcast S256x1024 hi))) w (broadcast S256x1024 z16))
    transposes_S256x1024_p1_0_S1024x256) shapeCasts_S1024x256_S1024x256

open Classical in
theorem xtPay_apply {s hi lo : BitVec 32} (hl : lo.toNat + 256 ≤ 1792) (hs : s.toNat ≤ 1536) (hh : hi.toNat ≤ 1536) (w : Vec F S256x1024 .bf16)
    (a : Fin 1024) (b : Fin 256) :
    xtPay s hi lo w (ix2 a b) = if s.toNat ≤ lo.toNat + b.val ∧ lo.toNat + b.val < hi.toNat then w (ix2 b a) else z16 := by
  have e : (IntOp.addi (BitVec.ofNat 32 b.val) lo).toNat = lo.toNat + b.val := by
    show (BitVec.ofNat 32 b.val + lo).toNat = _
    have := b.isLt
    rw [BitVec.toNat_add, BitVec.toNat_ofNat]; omega
  have hm : IntOp.andi (IntOp.cmpi .sge (IntOp.addi (BitVec.ofNat 32 b.val) lo) s) (IntOp.cmpi .slt (IntOp.addi (BitVec.ofNat 32 b.val) lo) hi) = 1#1
      ↔ s.toNat ≤ lo.toNat + b.val ∧ lo.toNat + b.val < hi.toNat := by
    have := b.isLt
    rw [IntOp.andi_eq_one, IntOp.cmpi_sge, IntOp.cmpi_slt, BitVec.toInt_eq_toNat_of_lt (by omega), BitVec.toInt_eq_toNat_of_lt (by omega),
      BitVec.toInt_eq_toNat_of_lt (by omega), e]
    omega
  have e1 : xtPay s hi lo w (ix2 a b) = Scalar.select (IntOp.andi (IntOp.cmpi .sge (IntOp.addi (BitVec.ofNat 32 b.val) lo) s) (IntOp.cmpi .slt (IntOp.addi (BitVec.ofNat 32 b.val) lo) hi)) (w (ix2 b a)) z16 := by
    unfold xtPay
    have e0 : iota .tc S256x1024 32 [0] iota_S256x1024_d0_w32 (ix2 b a) = BitVec.ofNat 32 b.val := by
      show BitVec.ofNat 32 (0 * 256 + b.val) = _
      rw [Nat.zero_mul, Nat.zero_add]
    have hsc : ∀ z : FVec F S1024x256 .bf16, shapeCast S1024x256 z shapeCasts_S1024x256_S1024x256 = z := fun z => by
      funext y; pointwise
    rw [hsc]
    have ht : ∀ z : FVec F S256x1024 .bf16, transpose S1024x256 [1, 0] z transposes_S256x1024_p1_0_S1024x256 (ix2 a b) = z (ix2 b a) := fun z => by
      pointwise
    refine (ht _).trans ?_
    show Scalar.select (IntOp.andi (IntOp.cmpi .sge (IntOp.addi (iota .tc S256x1024 32 [0] iota_S256x1024_d0_w32 (ix2 b a)) lo) s) (IntOp.cmpi .slt (IntOp.addi (iota .tc S256x1024 32 [0] iota_S256x1024_d0_w32 (ix2 b a)) lo) hi)) (w (ix2 b a)) z16 = _
    rw [e0]
  rw [e1]
  by_cases hc : s.toNat ≤ lo.toNat + b.val ∧ lo.toNat + b.val < hi.toNat
  · rw [if_pos hc, hm.2 hc]; rfl
  · rw [if_neg hc, eq_zero_of_ne_one (fun hx => hc (hm.1 hx))]; rfl

theorem tile_inb {v s g ko : BitVec 32} (h : Seg v s g ko) (t : Fin (mainLoop (nkW v s)).trips) :
    ∀ a, (![(tileW (loW s) t).toNat, 0] : Fin 2 → ℕ) a + S256x1024.size a ≤ S1792x1024.size a := inb2 (h.tile_le t) (by omega)
theorem xt_inb {v s g ko : BitVec 32} (h : Seg v s g ko) {C : ℕ} (hC : C < 3) (t : Fin (mainLoop (nkW v s)).trips) :
    ∀ a, (![C * 1024, (tileW ko t).toNat] : Fin 2 → ℕ) a + S1024x256.size a ≤ S3072x2816.size a := inb2 (by omega) (h.kt_le t)

/-- One trip of the loop that writes a segment's tiles of column block `C`. -/
def xtBody {v s g ko : BitVec 32} (h : Seg v s g ko) {C : ℕ} (hC : C < 3) (t : Fin (mainLoop (nkW v s)).trips) :
    Prog (TpuEff nD τ sig (Elt F) Λ₀ .tc) Unit :=
  .op (.load mRows (Rect.unit (s := S1792x1024) ![(tileW (loW s) t).toNat, 0] S256x1024.size (tile_inb h t)).toLoadRect (View.loadsAt_vmem h_S256x1024)) fun w =>
  .op (.load mXt (Rect.unit (s := S3072x2816) ![C * 1024, (tileW ko t).toNat] S1024x256.size (xt_inb h hC t)).toLoadRect (View.loadsAt_vmem h_S1024x256)) fun _ =>
  .op (.store mXt (Rect.unit (s := S3072x2816) ![C * 1024, (tileW ko t).toNat] S1024x256.size (xt_inb h hC t))
    (xtPay s (Scalar.addi s v) (tileW (loW s) t) w) Finset.univ
    (View.stores_vmem h_S1024x256 ((Memref.isWhole_whole _).storeExact_slice rfl _ (packed2 (xt_inb h hC t) (by omega) (by decide))) (fun _ => rfl)) (.inl rfl)) fun _ => .ret ()

theorem xt_trip (c : Dev nD) {v s g ko : BitVec 32} (h : Seg v s g ko) {C : ℕ} (hC : C < 3) (t : Fin (mainLoop (nkW v s)).trips)
    (x : S1536x3072.Idx → F .fp8e4m3) (sx : S13x3072.Idx → F .f32) (G Row : ℕ → ℕ) (In : ℕ → Prop) (T : ℕ)
    (hRow : ∀ p < 256 * nk v.toNat s.toNat, Row (ko.toNat + p) = s.toNat / 16 * 16 + p)
    (hIn : ∀ p < 256 * nk v.toNat s.toNat, In (ko.toNat + p) ↔ s.toNat ≤ s.toNat / 16 * 16 + p ∧ s.toNat / 16 * 16 + p < s.toNat + v.toNat)
    {f : S1792x1024.Idx → F .bf16} (hf : RowsUpto (s.toNat + v.toNat) (RX x sx G C) f) :
    iprop(pts c mRows f ∗ (∃ g, ⌜XtUpto T C (ko.toNat + 256 * t.val) (XT x sx G Row In) g⌝ ∗ pts c mXt g))
      ⊢ W c (xtBody (F := F) h hC t) fun _ =>
        iprop(pts c mRows f ∗ (∃ g, ⌜XtUpto T C (ko.toNat + 256 * (t.val + 1)) (XT x sx G Row In) g⌝ ∗ pts c mXt g)) := by
  unfold xtBody
  iintro ⟨Hr, ⟨%g0, %hg0, Hx⟩⟩
  iapply (wp_load 𝒱₀ (c : Thread nD τ) none Set.univ (m := mRows) (Finset.subset_univ _)) $$ Hr; iintro Hr
  iapply (wp_load 𝒱₀ (c : Thread nD τ) none Set.univ (m := mXt) (Finset.subset_univ _)) $$ Hx; iintro Hx
  iapply (wp_store 𝒱₀ (c : Thread nD τ) none Set.univ (m := mXt) (r := Rect.unit (s := S3072x2816) ![C * 1024, (tileW ko t).toNat] S1024x256.size (xt_inb h hC t)) (Mk := Finset.univ) (Finset.subset_univ _)) $$ Hx; iintro Hx
  rw [wp_ret]; imodintro
  isplitl [Hr]; · iexact Hr
  iexists _
  isplitr
  swap; · iexact Hx
  ipureintro
  have hko := h.kt_toNat t
  have htl := h.tile_toNat t
  have htle := h.tile_le t
  have hnk := h.lt_nk t
  have hr := h.row
  have h2 : (Scalar.addi s v).toNat = s.toNat + v.toNat := toNat_addi (by omega)
  intro i hiT hi
  have hi1 : (i 1).val < 2816 := (i 1).isLt
  by_cases hin : (C * 1024 ≤ (i 0).val ∧ (i 0).val < C * 1024 + 1024) ∧ ((tileW ko t).toNat ≤ (i 1).val ∧ (i 1).val < (tileW ko t).toNat + 256)
  · obtain ⟨⟨ha1, ha2⟩, hb1, hb2⟩ := hin
    refine (wr_in (Val := Elt F) cc0_scratch5 ![C * 1024, (tileW ko t).toNat] S1024x256.size (xt_inb h hC t) g0 _ i
      (ix2 (⟨(i 0).val - C * 1024, by omega⟩ : Fin 1024) (⟨(i 1).val - (tileW ko t).toNat, by omega⟩ : Fin 256)) fun a => ?_).trans ?_
    · match a with
      | 0 => show (i 0).val = C * 1024 + ((i 0).val - C * 1024); omega
      | 1 => show (i 1).val = (tileW ko t).toNat + ((i 1).val - (tileW ko t).toNat); omega
    refine (xtPay_apply htle (by omega) (by omega) _ _ _).trans ?_
    have hp : (i 1).val = ko.toNat + (256 * t.val + ((i 1).val - (tileW ko t).toNat)) := by omega
    have hplt : 256 * t.val + ((i 1).val - (tileW ko t).toNat) < 256 * nk v.toNat s.toNat := by omega
    have hI := hIn _ hplt
    have hR := hRow _ hplt
    rw [← hp] at hI hR
    unfold XT
    by_cases hc : In (i 1).val
    · have hc' := hI.1 hc
      rw [if_pos hc, if_pos (by show s.toNat ≤ (tileW (loW s) t).toNat + ((i 1).val - (tileW ko t).toNat) ∧ (tileW (loW s) t).toNat + ((i 1).val - (tileW ko t).toNat) < (Scalar.addi s v).toNat; omega)]
      let q : S1792x1024.Idx := (Rect.unit (s := S1792x1024) ![(tileW (loW s) t).toNat, 0] S256x1024.size (tile_inb h t)).toLoadRect.idx
        (ix2 (⟨(i 1).val - (tileW ko t).toNat, by omega⟩ : Fin 256) (⟨(i 0).val - C * 1024, by omega⟩ : Fin 1024))
      have hq0 : (q 0).val = (tileW (loW s) t).toNat + 1 * ((i 1).val - (tileW ko t).toNat) := rfl
      have hq1 : (q 1).val = 0 + 1 * ((i 0).val - C * 1024) := rfl
      show f q = _
      rw [hf q (by omega), hR]
      unfold RX
      have hrow : (q 0).val = s.toNat / 16 * 16 + (256 * t.val + ((i 1).val - (tileW ko t).toNat)) := by omega
      have hcol : C * 1024 + (q 1).val = (i 0).val := by omega
      rw [hcol, hrow]
    · rw [if_neg hc, if_neg (fun hx => hc (hI.2 ?_))]
      have hx' : s.toNat ≤ (tileW (loW s) t).toNat + ((i 1).val - (tileW ko t).toNat) ∧ (tileW (loW s) t).toNat + ((i 1).val - (tileW ko t).toNat) < (Scalar.addi s v).toNat := hx
      omega
  · rw [hko] at hin
    have hout : (i 0).val < C * 1024 ∨ (i 0).val < (C + 1) * 1024 ∧ (i 1).val < ko.toNat + 256 * t.val := by omega
    by_cases h0 : (i 0).val < C * 1024
    · refine (wr_out (Val := Elt F) cc0_scratch5 ![C * 1024, (tileW ko t).toNat] S1024x256.size (xt_inb h hC t) g0 _ i 0 (.inl h0)).trans (hg0 i hiT hout)
    · refine (wr_out (Val := Elt F) cc0_scratch5 ![C * 1024, (tileW ko t).toNat] S1024x256.size (xt_inb h hC t) g0 _ i 1 (.inl ?_)).trans (hg0 i hiT hout)
      show (i 1).val < (tileW ko t).toNat
      omega

/-- The loop that writes a segment's tiles of column block `C`. -/
theorem xt_loop (c : Dev nD) {v s g ko : BitVec 32} (h : Seg v s g ko) {C : ℕ} (hC : C < 3)
    (x : S1536x3072.Idx → F .fp8e4m3) (sx : S13x3072.Idx → F .f32) (G Row : ℕ → ℕ) (In : ℕ → Prop) (T : ℕ)
    (hRow : ∀ p < 256 * nk v.toNat s.toNat, Row (ko.toNat + p) = s.toNat / 16 * 16 + p)
    (hIn : ∀ p < 256 * nk v.toNat s.toNat, In (ko.toNat + p) ↔ s.toNat ≤ s.toNat / 16 * 16 + p ∧ s.toNat / 16 * 16 + p < s.toNat + v.toNat)
    {f : S1792x1024.Idx → F .bf16} (hf : RowsUpto (s.toNat + v.toNat) (RX x sx G C) f)
    {hok : (mainLoop (nkW v s)).OK} {body : Fin (mainLoop (nkW v s)).trips → PUnit → Prog (TpuEff nD τ sig (Elt F) Λ₀ .tc) PUnit}
    (hb : ∀ t u, body t u = xtBody h hC t)
    {β : Type} {kk : PUnit → Prog (TpuEff nD τ sig (Elt F) Λ₀ .tc) β} {Q : β → sProp (MM F)} :
    iprop(pts c mRows f ∗ (∃ g, ⌜XtUpto T C ko.toNat (XT x sx G Row In) g⌝ ∗ pts c mXt g)
      ∗ ((pts c mRows f ∗ (∃ g, ⌜XtUpto T C (ko.toNat + 256 * nk v.toNat s.toNat) (XT x sx G Row In) g⌝ ∗ pts c mXt g)) -∗ W c (kk ⟨⟩) Q))
    ⊢ W c (Scf.Loop.for (mainLoop (nkW v s)) hok ⟨⟩ body >>= kk) Q := by
  iintro ⟨Hr, ⟨%g0, %hg0, Hx⟩, Hk⟩
  iapply (Scf.wp_for_bind frame (wpE (defs₀ (F := F)) 𝒱₀ (c : Thread nD τ) none) Set.univ _ _ _ hok _ body
    (fun k _ => iprop(pts c mRows f ∗ (∃ g, ⌜XtUpto T C (ko.toNat + 256 * k) (XT x sx G Row In) g⌝ ∗ pts c mXt g)))
    (fun t u => by rw [hb]; exact xt_trip c h hC t x sx G Row In T hRow hIn hf)) $$ [Hr Hx]
  · isplitl [Hr]; · iexact Hr
    iexists g0
    isplitr; · ipureintro; exact hg0
    iexact Hx
  iintro %u ⟨Hr, ⟨%g1, %hg1, Hx⟩⟩
  iapply Hk
  isplitl [Hr]; · iexact Hr
  iexists g1
  isplitr
  · ipureintro
    have h1 : Scf.trips 0#32 (tripW (nkW v s)) 1#32 = nk v.toNat s.toNat := h.nk_trips
    rw [h1] at hg1; exact hg1
  iexact Hx

end Cert.Kernel
-- ==== Proof.Checks2.lean ====
/- The facts the kernel assumes of a step's table entries and of its count of tiles. -/
module

public import proofs.«01_k».proof.Proof.Segs
public import proofs.«01_k».proof.Kernel

@[expose] public section

set_option maxRecDepth 4000

namespace GW

open Idealize.ShloMosaic

/-- The slot of the output buffer the `a`-th tile takes. -/
abbrev slotO (a : BitVec 32) : BitVec 32 := Scalar.remsi a 4#32
/-- The rows left after a tile's first product. -/
abbrev restW (n : BitVec 32) : BitVec 32 := Scalar.subi (Scalar.maxsi n 3#32) 3#32
/-- The first row of the column block a step works on. -/
abbrev blkW (t : ℕ) : BitVec 32 := Scalar.muli (fdivW (Scf.iv 0#32 1#32 t) 5#32) 1024#32
/-- Where the `t`-th later part of a tile's rows begins. -/
abbrev laterW (a : BitVec 32) (t : ℕ) : BitVec 32 :=
  Scalar.addi a (Scalar.muli (Scalar.addi 3#32 (Scalar.muli (Scf.iv 0#32 1#32 t) 1#32)) 256#32)

theorem slotO_toNat {a : BitVec 32} (h : a.toNat < 2 ^ 31) : (slotO a).toNat = a.toNat % 4 :=
  IntOp.toNat_remsi .scalar (x := a) (by omega) 4 (by omega) (by omega)

theorem restW_toNat {n : BitVec 32} (h : n.toNat ≤ 64) : (restW n).toNat = n.toNat - 3 := by
  have e : (Scalar.maxsi n 3#32).toNat = max n.toNat 3 := by
    have h3 : (3#32 : BitVec 32).toInt = 3 := by decide
    have hn : n.toInt = n.toNat := BitVec.toInt_eq_toNat_of_lt (by omega)
    show (if (3#32 : BitVec 32).slt n then n else 3#32).toNat = _
    by_cases hc : 3 < n.toNat
    · rw [if_pos (by simp only [BitVec.slt, h3, hn, decide_eq_true_eq]; omega)]; omega
    · rw [if_neg (by simp only [BitVec.slt, h3, hn, decide_eq_true_eq]; omega)]; show 3 = _; omega
  rw [toNat_subi (by rw [e]; show 3 ≤ _; omega), e]; show max n.toNat 3 - 3 = _; omega

theorem blkW_toNat {t : ℕ} (h : t < 15) : (blkW t).toNat = t / 5 * 1024 := by
  have e : (fdivW (Scf.iv 0#32 1#32 t) 5#32).toNat = t / 5 := by
    rw [fdivW_toNat (by rw [iv_toNat (by omega)]; omega) 5 (by omega) (by omega), iv_toNat (by omega)]
  rw [toNat_muli (by rw [e]; show t / 5 * 1024 < _; omega), e]; rfl

theorem laterW_toNat {a : BitVec 32} {t : ℕ} (h : a.toNat + 256 * t ≤ 4096) : (laterW a t).toNat = a.toNat + 256 * (3 + t) := by
  have e1 : (Scalar.addi 3#32 (Scalar.muli (Scf.iv 0#32 1#32 t) 1#32)).toNat = 3 + t := by
    rw [muli_one, toNat_addi (by rw [iv_toNat (by omega)]; show 3 + t < _; omega), iv_toNat (by omega)]; rfl
  have e2 : (Scalar.muli (Scalar.addi 3#32 (Scalar.muli (Scf.iv 0#32 1#32 t) 1#32)) 256#32).toNat = (3 + t) * 256 := by
    rw [toNat_muli (by rw [e1]; show (3 + t) * 256 < _; omega), e1]; rfl
  rw [toNat_addi (by rw [e2]; omega), e2]; omega

/-- The words of a printed loop whose trip count is `r`. -/
def tripR (r : BitVec 32) : BitVec 32 :=
  Scalar.addi 0#32 (Scalar.muli (Scalar.divsi (Scalar.subi (Scalar.divsi (Scalar.addi r (Scalar.subi 1#32 1#32)) 1#32) 0#32) 1#32) 1#32)
def totR (r : BitVec 32) : BitVec 32 :=
  Scalar.addi 0#32 (Scalar.subi (Scalar.divsi (Scalar.addi r (Scalar.subi 1#32 1#32)) 1#32) 0#32)
@[reducible] def mainR (r : BitVec 32) : Scf.Loop 32 := ⟨0#32, tripR r, 1#32⟩
@[reducible] def remR (r : BitVec 32) : Scf.Loop 32 := ⟨tripR r, totR r, 1#32⟩
theorem tripR_eq (r : BitVec 32) : tripR r = r := by
  unfold tripR
  rw [addi_zero, muli_one, divsi_one', subi_zero, divsi_one']
  exact BitVec.add_zero r
theorem totR_eq (r : BitVec 32) : totR r = r := by
  unfold totR
  rw [addi_zero, subi_zero, divsi_one']
  exact BitVec.add_zero r
theorem mainR_trips {r : BitVec 32} (h : r.toNat < 2 ^ 31) : (mainR r).trips = r.toNat := by
  show Scf.trips 0#32 (tripR r) 1#32 = _
  rw [tripR_eq, trips_unit h]
theorem mainR_ok {r : BitVec 32} (h : r.toNat < 2 ^ 31) : (mainR r).OK := by
  refine ⟨show 0 < (1#32 : BitVec 32).toInt from by decide, ?_⟩
  show (0#32 : BitVec 32).toInt + ((mainR r).trips : ℤ) * (1#32 : BitVec 32).toInt < _
  rw [mainR_trips h, show (0#32 : BitVec 32).toInt = 0 from rfl, show (1#32 : BitVec 32).toInt = 1 from rfl]
  omega
theorem remR_trips (r : BitVec 32) : (remR r).trips = 0 := by
  show Scf.trips (tripR r) (totR r) 1#32 = 0
  rw [tripR_eq, totR_eq]; unfold Scf.trips
  rw [show (1#32 : BitVec 32).toInt = 1 from rfl]; omega
theorem remR_ok {r : BitVec 32} (h : r.toNat < 2 ^ 31) : (remR r).OK := by
  refine ⟨show 0 < (1#32 : BitVec 32).toInt from by decide, ?_⟩
  show (tripR r).toInt + ((remR r).trips : ℤ) * (1#32 : BitVec 32).toInt < _
  rw [remR_trips, tripR_eq, BitVec.toInt_eq_toNat_of_lt (by omega)]
  omega
theorem remR_false {r : BitVec 32} {P : Prop} (t : Fin (remR r).trips) : P :=
  absurd t.isLt (by have := remR_trips r; omega)

theorem addi_zero_r (x : BitVec 32) : Scalar.addi x 0#32 = x := BitVec.add_zero x

/-- The condition word of a guarded region. -/
theorem guard_ne (b : BitVec 1) : Scalar.cmpi .ne (Scalar.extui b : BitVec 32) 0#32 = 1#1 ↔ b = 1#1 := by
  revert b; decide

theorem cmpi_eq_nat {n : BitVec 32} (k : ℕ) (hk : k < 2 ^ 32) : Scalar.cmpi .eq n (BitVec.ofNat 32 k) = 1#1 ↔ n.toNat = k := by
  show BitVec.ofBool (n == BitVec.ofNat 32 k) = 1#1 ↔ _
  rw [show (1#1 : BitVec 1) = BitVec.ofBool true from rfl]
  have hk' : (BitVec.ofNat 32 k).toNat = k := by rw [BitVec.toNat_ofNat]; omega
  constructor
  · intro h
    have : (n == BitVec.ofNat 32 k) = true := by revert h; cases (n == BitVec.ofNat 32 k) <;> decide
    rw [beq_iff_eq] at this; rw [this, hk']
  · intro h
    have : n = BitVec.ofNat 32 k := BitVec.eq_of_toNat_eq (by rw [hk', h])
    rw [this, beq_self_eq_true]

theorem cmpi_sge_nat {n : BitVec 32} (hn : n.toNat < 2 ^ 31) (k : ℕ) (hk : k < 2 ^ 31) : Scalar.cmpi .sge n (BitVec.ofNat 32 k) = 1#1 ↔ k ≤ n.toNat := by
  have hk' : (BitVec.ofNat 32 k).toNat = k := by rw [BitVec.toNat_ofNat]; omega
  refine (IntOp.cmpi_sge (x := n) (y := BitVec.ofNat 32 k)).trans ?_
  rw [BitVec.toInt_eq_toNat_of_lt (by omega), BitVec.toInt_eq_toNat_of_lt (by omega), hk']; omega

end GW

namespace Cert.Kernel

open Idealize.ShloMosaic GW

theorem cond8_iff {n : BitVec 32} (h : n.toNat ≤ 64) : k0_cond8 n = 1#1 ↔ 0 < n.toNat := by
  unfold k0_cond8
  exact (guard_ne _).trans (sgt_zero (by omega))
theorem cond9_iff {a : BitVec 32} (h : a.toNat < 2 ^ 31) : k0_cond9 a = 1#1 ↔ 4 ≤ a.toNat := by
  unfold k0_cond9
  exact (guard_ne _).trans (cmpi_sge_nat h 4 (by omega))
theorem cond10_iff (n : BitVec 32) : k0_cond10 n = 1#1 ↔ n.toNat = 1 := by
  unfold k0_cond10
  exact (guard_ne _).trans (cmpi_eq_nat 1 (by omega))
theorem cond11_iff (n : BitVec 32) : k0_cond11 n = 1#1 ↔ n.toNat = 2 := by
  unfold k0_cond11
  exact (guard_ne _).trans (cmpi_eq_nat 2 (by omega))
theorem cond12_iff {n : BitVec 32} (h : n.toNat ≤ 64) : k0_cond12 n = 1#1 ↔ 3 ≤ n.toNat := by
  unfold k0_cond12
  exact (guard_ne _).trans (cmpi_sge_nat (by omega) 3 (by omega))

theorem later_lt {n : BitVec 32} (h : n.toNat ≤ 16) (t : Fin (mainR (restW n)).trips) : t.val < n.toNat - 3 := by
  have e := mainR_trips (r := restW n) (by rw [restW_toNat (by omega)]; omega)
  rw [restW_toNat (by omega)] at e
  exact lt_of_lt_of_eq t.isLt e

theorem slotO_le {a : BitVec 32} (h : a.toNat < 2 ^ 31) : (slotO a).toNat + 1 ≤ 4 := by
  rw [slotO_toNat h]; omega

theorem chk6 {a n : BitVec 32} (ha : a.toNat < 2 ^ 31) (h : n.toNat ≤ 16) : k0_chk6 a n := by
  have hs := slotO_le ha
  have h1 : ∀ i : Fin 1, (![(slotO a).toNat] : Fin 1 → ℕ) i + S1.size i ≤ S4.size i := fun i => by
    fin_cases i; exact hs
  have h3 : ∀ i : Fin 3, (![(slotO a).toNat, 0, 0] : Fin 3 → ℕ) i + S1x1024x1024.size i ≤ S4x1024x1024.size i :=
    inb3 hs (by decide) (by decide)
  have hr : (restW n).toNat < 2 ^ 31 := by rw [restW_toNat (by omega)]; omega
  unfold k0_chk6
  exact ⟨fun _ _ => h1, fun _ _ => h3, fun _ _ => h3, fun _ _ => h3, fun _ _ => h3, fun _ => mainR_ok hr, fun _ _ => h3,
    fun _ => remR_ok hr, fun t => remR_false (r := restW n) t, fun _ => h1, fun _ => h3⟩

theorem blk_le (t : Fin k0_t77_loop.trips) : (blkW t).toNat + 1024 ≤ 3072 := by
  have ht : t.val < 15 := t.isLt
  rw [blkW_toNat ht]; omega

theorem chk7 (t : Fin k0_t77_loop.trips) {n ko : BitVec 32} (h : n.toNat ≤ 16) (hk : ko.toNat + 256 * n.toNat ≤ 2816) (hd : 256 ∣ ko.toNat) :
    k0_chk7 t n ko := by
  have hb := blk_le t
  have hz : (Scalar.addi ko 0#32).toNat = ko.toNat := by rw [addi_zero_r]
  have hl : ∀ u : Fin (mainR (restW n)).trips, (laterW ko u).toNat = ko.toNat + 256 * (3 + u.val) ∧ u.val < n.toNat - 3 := fun u => by
    have := later_lt h u
    exact ⟨laterW_toNat (by omega), this⟩
  unfold k0_chk7
  refine ⟨fun _ _ => ?_, fun _ h1 => inb2 hb ?_, fun _ _ => ?_, fun _ h1 => inb2 hb ?_, fun _ _ => ?_, fun _ h1 => inb2 hb ?_,
    fun u _ => ?_, fun u _ => inb2 hb ?_, fun u => remR_false (r := restW n) u, fun u => remR_false (r := restW n) u⟩
  · show 256 ∣ (Scalar.addi ko 0#32).toNat; rw [hz]; exact hd
  · have := (cond10_iff n).1 h1; show (Scalar.addi _ 0#32).toNat + 256 ≤ _; omega
  · show 256 ∣ (Scalar.addi ko 0#32).toNat; rw [hz]; exact hd
  · have := (cond11_iff n).1 h1; show (Scalar.addi _ 0#32).toNat + 512 ≤ _; omega
  · show 256 ∣ (Scalar.addi ko 0#32).toNat; rw [hz]; exact hd
  · have := (cond12_iff (by omega)).1 h1; show (Scalar.addi _ 0#32).toNat + 768 ≤ _; omega
  · have := hl u
    show 256 ∣ (laterW ko u).toNat; omega
  · have := hl u
    show (laterW ko u).toNat + 256 ≤ 2816; omega

theorem chk8 {n lo : BitVec 32} (h : n.toNat ≤ 16) (hk : lo.toNat + 256 * n.toNat ≤ 1792) (hd : 16 ∣ lo.toNat) :
    k0_chk8 n lo := by
  have hz : (Scalar.addi lo 0#32).toNat = lo.toNat := by rw [addi_zero_r]
  have hl : ∀ u : Fin (mainR (restW n)).trips, (laterW lo u).toNat = lo.toNat + 256 * (3 + u.val) ∧ u.val < n.toNat - 3 := fun u => by
    have := later_lt h u
    exact ⟨laterW_toNat (by omega), this⟩
  unfold k0_chk8
  refine ⟨fun _ _ => ?_, fun _ h1 => inb2 ?_ (by decide), fun _ _ => ?_, fun _ h1 => inb2 ?_ (by decide), fun _ _ => ?_, fun _ h1 => inb2 ?_ (by decide),
    fun u _ => ?_, fun u _ => inb2 ?_ (by decide), fun u => remR_false (r := restW n) u, fun u => remR_false (r := restW n) u⟩
  · show 16 ∣ (Scalar.addi lo 0#32).toNat; rw [hz]; exact hd
  · have := (cond10_iff n).1 h1; show (Scalar.addi _ 0#32).toNat + 256 ≤ _; omega
  · show 16 ∣ (Scalar.addi lo 0#32).toNat; rw [hz]; exact hd
  · have := (cond11_iff n).1 h1; show (Scalar.addi _ 0#32).toNat + 512 ≤ _; omega
  · show 16 ∣ (Scalar.addi lo 0#32).toNat; rw [hz]; exact hd
  · have := (cond12_iff (by omega)).1 h1; show (Scalar.addi _ 0#32).toNat + 768 ≤ _; omega
  · have := hl u
    show 16 ∣ (laterW lo u).toNat; omega
  · have := hl u
    show (laterW lo u).toNat + 256 ≤ 1792; omega

end Cert.Kernel
-- ==== Proof.Acc.lean ====
/- A tile's product: the parts of the contraction it is summed from, and the loop that adds the later ones. -/
module

public import proofs.«01_k».proof.Proof.DqYLoop
public import proofs.«01_k».proof.Proof.Xt
public import proofs.«01_k».proof.Proof.Checks2

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The columns from `k` of column block `C` of the transposed copy, and the rows from `r` of the scaled rows. -/
def colsAt {n : ℕ} (g : S3072x2816.Idx → F .bf16) (C k : ℕ) : Vec F ⟨2, ![1024, n]⟩ .bf16 :=
  fun i => g (ix2 (fin 3072 (C * 1024 + (i 0).val)) (fin 2816 (k + (i 1).val)))
def rowsAt {n : ℕ} (f : S1792x1024.Idx → F .bf16) (r : ℕ) : Vec F ⟨2, ![n, 1024]⟩ .bf16 :=
  fun i => f (ix2 (fin 1792 (r + (i 0).val)) (fin 1024 (i 1).val))

/-- A tile of `n` parts after its first product and `u` later ones. -/
def acc (g : S3072x2816.Idx → F .bf16) (f : S1792x1024.Idx → F .bf16) (C k r n : ℕ) : ℕ → FVec F S1x1024x1024 .f32
  | 0 => if n = 1 then k0_pay81 (colsAt g C k) (rowsAt f r) else if n = 2 then k0_pay82 (colsAt g C k) (rowsAt f r) else k0_pay83 (colsAt g C k) (rowsAt f r)
  | u + 1 => k0_pay84 (acc g f C k r n u) (colsAt g C (k + 256 * (3 + u))) (rowsAt f (r + 256 * (3 + u)))

theorem acc_succ (g : S3072x2816.Idx → F .bf16) (f : S1792x1024.Idx → F .bf16) (C k r n u : ℕ) :
    acc g f C k r n (u + 1) = k0_pay84 (acc g f C k r n u) (colsAt g C (k + 256 * (3 + u))) (rowsAt f (r + 256 * (3 + u))) := rfl

/-- Slot `q` of the output buffer. -/
def obPiece (q : ℕ) : Finset S4x1024x1024.Idx := Finset.univ.filter fun i => (i 0).val = q
/-- It holds the tile `V`. -/
def ObHas (q : ℕ) (V : FVec F S1x1024x1024 .f32) (d : S4x1024x1024.Idx → F .f32) : Prop :=
  ∀ i, (i 0).val = q → d i = V (ix3 0 (i 1) (i 2))

theorem ob_inb {a : BitVec 32} (ha : a.toNat < 2 ^ 31) :
    ∀ i, (![(slotO a).toNat, 0, 0] : Fin 3 → ℕ) i + S1x1024x1024.size i ≤ S4x1024x1024.size i := by
  exact inb3 (slotO_le ha) (by omega) (by omega)
theorem later_c_inb {n ko : BitVec 32} (h : n.toNat ≤ 16) (hk : ko.toNat + 256 * n.toNat ≤ 2816) (T : Fin k0_t77_loop.trips) (t : Fin (mainR (restW n)).trips) :
    ∀ a, (![(blkW T).toNat, (laterW ko t).toNat] : Fin 2 → ℕ) a + S1024x256.size a ≤ S3072x2816.size a := by
  have := later_lt h t
  exact inb2 (blk_le T) (by rw [laterW_toNat (by omega)]; omega)
theorem later_r_inb {n lo : BitVec 32} (h : n.toNat ≤ 16) (hk : lo.toNat + 256 * n.toNat ≤ 1792) (t : Fin (mainR (restW n)).trips) :
    ∀ a, (![(laterW lo t).toNat, 0] : Fin 2 → ℕ) a + S256x1024.size a ≤ S1792x1024.size a := by
  have := later_lt h t
  exact inb2 (by rw [laterW_toNat (by omega)]; omega) (by omega)

theorem ob_sub {a : BitVec 32} (ha : a.toNat < 2 ^ 31) :
    mOb.view.setOn (Rect.unit (s := S4x1024x1024) ![(slotO a).toNat, 0, 0] S1x1024x1024.size (ob_inb ha)).toLoadRect.set ⊆ obPiece (a.toNat % 4) := by
  intro i hi
  have h2 : (slotO a).toNat ≤ (i 0).val ∧ (i 0).val < (slotO a).toNat + 1 := (mem_setOn_unit cc0_scratch6 _ _ (ob_inb ha) i).1 hi 0
  rw [slotO_toNat ha] at h2
  exact Finset.mem_filter.2 ⟨Finset.mem_univ _, by omega⟩

theorem ob_sub' {a : BitVec 32} (ha : a.toNat < 2 ^ 31) :
    (mOb.access (Rect.unit (s := S4x1024x1024) ![(slotO a).toNat, 0, 0] S1x1024x1024.size (ob_inb ha))).setOn Finset.univ ⊆ obPiece (a.toNat % 4) := by
  intro i hi
  have h2 : (slotO a).toNat ≤ (i 0).val ∧ (i 0).val < (slotO a).toNat + 1 := (mem_slice_unit cc0_scratch6 _ _ (ob_inb ha) i).1 hi 0
  have h3 := slotO_toNat ha
  exact Finset.mem_filter.2 ⟨Finset.mem_univ _, by omega⟩

/-- What a store of a slot leaves in it. -/
theorem ob_has {a : BitVec 32} (ha : a.toNat < 2 ^ 31) (d : S4x1024x1024.Idx → F .f32) (V : FVec F S1x1024x1024 .f32) :
    ObHas (a.toNat % 4) V (((View.whole cc0_scratch6).slice (Rect.unit ![(slotO a).toNat, 0, 0] S1x1024x1024.size (ob_inb ha))).write (Elt F) d V Finset.univ) := by
  intro i hi
  have hs := slotO_toNat ha
  refine wr_in (Val := Elt F) cc0_scratch6 ![(slotO a).toNat, 0, 0] S1x1024x1024.size (ob_inb ha) d V i (ix3 0 (i 1) (i 2)) fun b => ?_
  match b with
  | 0 => show (i 0).val = (slotO a).toNat + 0; omega
  | 1 => show (i 1).val = 0 + (i 1).val; omega
  | 2 => show (i 2).val = 0 + (i 2).val; omega

/-- What a load of a slot reads of it. -/
theorem ob_read {a : BitVec 32} (ha : a.toNat < 2 ^ 31) {d : S4x1024x1024.Idx → F .f32} {V : FVec F S1x1024x1024 .f32} (h : ObHas (a.toNat % 4) V d) :
    (fun i => d ((Rect.unit (s := S4x1024x1024) ![(slotO a).toNat, 0, 0] S1x1024x1024.size (ob_inb ha)).toLoadRect.idx i)) = V := by
  funext i
  have hs := slotO_toNat ha
  have h0 : (i 0).val = 0 := by have := (i 0).isLt; show (i 0).val = 0; have h1 : (i 0).val < 1 := this; omega
  refine (h _ ?_).trans (congrArg V ?_)
  · show (slotO a).toNat + 1 * (i 0).val = _; omega
  · funext b; apply Fin.ext
    match b with
    | 0 => show 0 = (i 0).val; omega
    | 1 => show 0 + 1 * (i 1).val = (i 1).val; omega
    | 2 => show 0 + 1 * (i 2).val = (i 2).val; omega

theorem cols_read {C k n : ℕ} {x y : ℕ} (hx : x = C * 1024) (hy : y = k) (hC : C < 3) (hn : k + n ≤ 2816)
    (inb : ∀ a, (![x, y] : Fin 2 → ℕ) a + (![1024, n] : Fin 2 → ℕ) a ≤ S3072x2816.size a) (g : S3072x2816.Idx → F .bf16) :
    (fun i => g ((Rect.unit (s := S3072x2816) ![x, y] ![1024, n] inb).toLoadRect.idx i)) = colsAt (n := n) g C k := by
  funext i
  have h0 : (i 0).val < 1024 := (i 0).isLt
  have h1 : (i 1).val < n := (i 1).isLt
  refine congrArg g ?_
  funext b; apply Fin.ext
  match b with
  | 0 => show x + 1 * (i 0).val = (C * 1024 + (i 0).val) % 3072; omega
  | 1 => show y + 1 * (i 1).val = (k + (i 1).val) % 2816; omega

theorem rows_read {r n : ℕ} {x : ℕ} (hx : x = r) (hn : r + n ≤ 1792)
    (inb : ∀ a, (![x, 0] : Fin 2 → ℕ) a + (![n, 1024] : Fin 2 → ℕ) a ≤ S1792x1024.size a) (f : S1792x1024.Idx → F .bf16) :
    (fun i => f ((Rect.unit (s := S1792x1024) ![x, 0] ![n, 1024] inb).toLoadRect.idx i)) = rowsAt (n := n) f r := by
  funext i
  have h0 : (i 0).val < n := (i 0).isLt
  have h1 : (i 1).val < 1024 := (i 1).isLt
  refine congrArg f ?_
  funext b; apply Fin.ext
  match b with
  | 0 => show x + 1 * (i 0).val = (r + (i 0).val) % 1792; omega
  | 1 => show 0 + 1 * (i 1).val = (i 1).val % 1024; omega

theorem pay84_congr {v v' : Vec F S1x1024x1024 .f32} {a a' : Vec F S1024x256 .bf16} {b b' : Vec F S256x1024 .bf16} (h : v = v') (h1 : a = a') (h2 : b = b') :
    k0_pay84 v a b = k0_pay84 v' a' b' := by rw [h, h1, h2]

/-- One trip of the loop that adds a tile's later products. -/
def laterBody {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (t : Fin (mainR (restW n)).trips) : Prog (TpuEff nD τ sig (Elt F) Λ₀ .tc) Unit :=
  .op (.load mOb (Rect.unit (s := S4x1024x1024) ![(slotO a).toNat, 0, 0] S1x1024x1024.size (ob_inb ha)).toLoadRect (View.loadsAt_vmem h_S1x1024x1024)) fun v =>
  .op (.load mXt (Rect.unit (s := S3072x2816) ![(blkW T).toNat, (laterW ko t).toNat] S1024x256.size (later_c_inb h hk T t)).toLoadRect (View.loadsAt_vmem h_S1024x256)) fun a' =>
  .op (.load mRows (Rect.unit (s := S1792x1024) ![(laterW lo t).toNat, 0] S256x1024.size (later_r_inb h hl t)).toLoadRect (View.loadsAt_vmem h_S256x1024)) fun b =>
  .op (.load mOb (Rect.unit (s := S4x1024x1024) ![(slotO a).toNat, 0, 0] S1x1024x1024.size (ob_inb ha)).toLoadRect (View.loadsAt_vmem h_S1x1024x1024)) fun _ =>
  .op (.store mOb (Rect.unit (s := S4x1024x1024) ![(slotO a).toNat, 0, 0] S1x1024x1024.size (ob_inb ha)) (k0_pay84 v a' b) Finset.univ
    (View.stores_vmem_bits_univ h_S1x1024x1024 rfl) (.inl rfl)) fun _ => .ret ()

theorem later_trip (c : Dev nD) {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (t : Fin (mainR (restW n)).trips) (g : S3072x2816.Idx → F .bf16) (f : S1792x1024.Idx → F .bf16) :
    iprop(pts c mXt g ∗ pts c mRows f ∗ (∃ d, ⌜ObHas (a.toNat % 4) (acc g f (T.val / 5) ko.toNat lo.toNat n.toNat t.val) d⌝ ∗ ptsOn c mOb (obPiece (a.toNat % 4)) d))
      ⊢ W c (laterBody (F := F) ha h hk hl T t) fun _ =>
        iprop(pts c mXt g ∗ pts c mRows f ∗ (∃ d, ⌜ObHas (a.toNat % 4) (acc g f (T.val / 5) ko.toNat lo.toNat n.toNat (t.val + 1)) d⌝ ∗ ptsOn c mOb (obPiece (a.toNat % 4)) d)) := by
  unfold laterBody
  iintro ⟨Hx, Hr, ⟨%d, %hd, Ho⟩⟩
  iapply (wp_load 𝒱₀ (c : Thread nD τ) none Set.univ (m := mOb) (ob_sub ha)) $$ Ho; iintro Ho
  iapply (wp_load 𝒱₀ (c : Thread nD τ) none Set.univ (m := mXt) (Finset.subset_univ _)) $$ Hx; iintro Hx
  iapply (wp_load 𝒱₀ (c : Thread nD τ) none Set.univ (m := mRows) (Finset.subset_univ _)) $$ Hr; iintro Hr
  iapply (wp_load 𝒱₀ (c : Thread nD τ) none Set.univ (m := mOb) (ob_sub ha)) $$ Ho; iintro Ho
  iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
  rw [wp_ret]; imodintro
  isplitl [Hx]; · iexact Hx
  isplitl [Hr]; · iexact Hr
  iexists _
  isplitr
  swap; · iexact Ho
  ipureintro
  have ht := later_lt h t
  have hT : T.val < 15 := T.isLt
  have e1 := ob_read ha hd
  have e2 := cols_read (n := 256) (blkW_toNat hT) (laterW_toNat (a := ko) (t := t.val) (by omega)) (by omega) (by omega) (later_c_inb h hk T t) g
  have e3 := rows_read (n := 256) (laterW_toNat (a := lo) (t := t.val) (by omega)) (by omega) (later_r_inb h hl t) f
  have e : acc g f (T.val / 5) ko.toNat lo.toNat n.toNat (t.val + 1) =
      k0_pay84 (fun i => d ((Rect.unit (s := S4x1024x1024) ![(slotO a).toNat, 0, 0] S1x1024x1024.size (ob_inb ha)).toLoadRect.idx i))
        (fun i => g ((Rect.unit (s := S3072x2816) ![(blkW T).toNat, (laterW ko t).toNat] ![1024, 256] (later_c_inb h hk T t)).toLoadRect.idx i))
        (fun i => f ((Rect.unit (s := S1792x1024) ![(laterW lo t).toNat, 0] ![256, 1024] (later_r_inb h hl t)).toLoadRect.idx i)) := by
    exact (acc_succ g f _ _ _ _ _).trans (pay84_congr e1.symm e2.symm e3.symm)
  rw [e]
  exact ob_has ha d _

/-- The loop that adds a tile's later products. -/
theorem later_loop (c : Dev nD) {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (g : S3072x2816.Idx → F .bf16) (f : S1792x1024.Idx → F .bf16)
    {hok : (mainR (restW n)).OK} {body : Fin (mainR (restW n)).trips → PUnit → Prog (TpuEff nD τ sig (Elt F) Λ₀ .tc) PUnit}
    (hb : ∀ t u, body t u = laterBody ha h hk hl T t)
    {β : Type} {kk : PUnit → Prog (TpuEff nD τ sig (Elt F) Λ₀ .tc) β} {Q : β → sProp (MM F)} :
    iprop(pts c mXt g ∗ pts c mRows f ∗ (∃ d, ⌜ObHas (a.toNat % 4) (acc g f (T.val / 5) ko.toNat lo.toNat n.toNat 0) d⌝ ∗ ptsOn c mOb (obPiece (a.toNat % 4)) d)
      ∗ ((pts c mXt g ∗ pts c mRows f ∗ (∃ d, ⌜ObHas (a.toNat % 4) (acc g f (T.val / 5) ko.toNat lo.toNat n.toNat (n.toNat - 3)) d⌝ ∗ ptsOn c mOb (obPiece (a.toNat % 4)) d)) -∗ W c (kk ⟨⟩) Q))
    ⊢ W c (Scf.Loop.for (mainR (restW n)) hok ⟨⟩ body >>= kk) Q := by
  iintro ⟨Hx, Hr, Ho, Hk⟩
  iapply (Scf.wp_for_bind frame (wpE (defs₀ (F := F)) 𝒱₀ (c : Thread nD τ) none) Set.univ _ _ _ hok _ body
    (fun k _ => iprop(pts c mXt g ∗ pts c mRows f ∗ (∃ d, ⌜ObHas (a.toNat % 4) (acc g f (T.val / 5) ko.toNat lo.toNat n.toNat k) d⌝ ∗ ptsOn c mOb (obPiece (a.toNat % 4)) d)))
    (fun t u => by rw [hb]; exact later_trip c ha h hk hl T t g f)) $$ [Hx Hr Ho]
  · isplitl [Hx]; · iexact Hx
    isplitl [Hr]; · iexact Hr
    iexact Ho
  iintro %u ⟨Hx, Hr, ⟨%d, %hd, Ho⟩⟩
  iapply Hk
  isplitl [Hx]; · iexact Hx
  isplitl [Hr]; · iexact Hr
  iexists d
  isplitr
  · ipureintro
    have h1 : Scf.trips 0#32 (tripR (restW n)) 1#32 = n.toNat - 3 :=
      (mainR_trips (by rw [restW_toNat (by omega)]; omega)).trans (restW_toNat (by omega))
    rw [h1] at hd; exact hd
  iexact Ho

theorem remR_loop (c : Dev nD) {r : BitVec 32} {hok : (remR r).OK} {body : Fin (remR r).trips → PUnit → Prog (TpuEff nD τ sig (Elt F) Λ₀ .tc) PUnit}
    {β : Type} {kk : PUnit → Prog (TpuEff nD τ sig (Elt F) Λ₀ .tc) β} {Q : β → sProp (MM F)} :
    W c (kk ⟨⟩) Q ⊢ W c (Scf.Loop.for (remR r) hok ⟨⟩ body >>= kk) Q :=
  Scf.wp_for0_bind frame _ _ _ _ _ hok body (remR_trips r) kk Q _ .rfl

end Cert.Kernel
-- ==== Proof.Out.lean ====
/- The copies into the output while the kernel runs: zero bands and finished tiles. -/
module

public import proofs.«01_k».proof.Proof.Ctx
public import proofs.«01_k».proof.Proof.Wr
public import proofs.«01_k».proof.Proof.Acc

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

abbrev EC : UEmb Counters (MM F) := countersEmb (U := Pipeline.UD sig nD τ)

/-- The output's elements of a property. -/
def oset (P : S5x3072x8192.Idx → Prop) : Finset S5x3072x8192.Idx := @Finset.filter _ P (fun _ => Classical.propDecidable _) Finset.univ
theorem mem_oset {P : S5x3072x8192.Idx → Prop} {i : S5x3072x8192.Idx} : i ∈ oset P ↔ P i := by
  unfold oset; exact (@Finset.mem_filter _ P (fun _ => Classical.propDecidable _) _ _).trans ⟨fun h => h.2, fun h => ⟨Finset.mem_univ _, h⟩⟩
theorem oset_congr {P P' : S5x3072x8192.Idx → Prop} (h : ∀ i, P i ↔ P' i) : oset P = oset P' := by
  ext i; rw [mem_oset, mem_oset, h]

/-- The output's elements of `P` hold values that `OK` accepts. -/
def TAcc (c : Dev nD) (OK : S5x3072x8192.Idx → F .f32 → Prop) (P : S5x3072x8192.Idx → Prop) : sProp (MM F) :=
  iprop(∃ f : S5x3072x8192.Idx → F .f32, ⌜∀ i, P i → OK i (f i)⌝ ∗ ptsOn c mOut (oset P) f)
/-- The output's elements of `T`, not written yet. -/
def Todo (c : Dev nD) (T : S5x3072x8192.Idx → Prop) : sProp (MM F) :=
  iprop(∃ f : S5x3072x8192.Idx → F .f32, ptsOn c mOut (oset T) f)

theorem TAcc_congr (c : Dev nD) (OK : S5x3072x8192.Idx → F .f32 → Prop) {P P' : S5x3072x8192.Idx → Prop} (h : ∀ i, P i ↔ P' i) :
    TAcc c OK P = TAcc c OK P' := by rw [show P = P' from funext fun i => propext (h i)]
theorem Todo_congr (c : Dev nD) {P P' : S5x3072x8192.Idx → Prop} (h : ∀ i, P i ↔ P' i) :
    (Todo c P : sProp (MM F)) = Todo c P' := by rw [show P = P' from funext fun i => propext (h i)]

theorem TAcc_join (c : Dev nD) (OK : S5x3072x8192.Idx → F .f32 → Prop) {P R P' : S5x3072x8192.Idx → Prop} (hd : ∀ i, P i → ¬ R i) (h : ∀ i, P' i ↔ P i ∨ R i) :
    iprop(TAcc c OK P ∗ TAcc c OK R) ⊢ TAcc c OK P' := by
  classical
  have hdj : Disjoint (oset P) (oset R) := Finset.disjoint_left.2 fun i hi hr => hd i (mem_oset.1 hi) (mem_oset.1 hr)
  have hu : oset P ∪ oset R = oset P' := by ext i; rw [Finset.mem_union, mem_oset, mem_oset, mem_oset, h]
  unfold TAcc
  iintro ⟨⟨%f, %hf, H⟩, ⟨%g, %hg, H'⟩⟩
  iexists (oset R).piecewise g f
  isplitr
  · ipureintro
    intro i hi
    by_cases hr : R i
    · rw [Finset.piecewise_eq_of_mem _ _ _ (mem_oset.2 hr)]; exact hg i hr
    · rw [Finset.piecewise_eq_of_notMem _ _ _ (fun hx => hr (mem_oset.1 hx))]; exact hf i (((h i).1 hi).resolve_right hr)
  · rw [← hu]
    iapply (pointsTo_join (ℓ := mOut.view.loc (c : Thread nD τ)) hdj)
    isplitl [H] <;> iassumption

theorem Todo_take (c : Dev nD) {T R T' : S5x3072x8192.Idx → Prop} (hR : ∀ i, R i → T i) (h : ∀ i, T' i ↔ T i ∧ ¬ R i) :
    Todo c T ⊢ (iprop((∃ f : S5x3072x8192.Idx → F .f32, ptsOn c mOut (oset R) f) ∗ Todo c T') : sProp (MM F)) := by
  classical
  have hs : oset R ⊆ oset T := fun i hi => mem_oset.2 (hR i (mem_oset.1 hi))
  have hu : oset T \ oset R = oset T' := by ext i; rw [Finset.mem_sdiff, mem_oset, mem_oset, mem_oset, h]
  unfold Todo
  iintro ⟨%f, H⟩
  ihave H2 := (pointsTo_split_subset (ℓ := mOut.view.loc (c : Thread nD τ)) hs).1 $$ H
  icases H2 with ⟨H1, H2⟩
  rw [hu]
  isplitl [H1] <;> iexists f <;> iassumption

/-- The band of 32 rows of the output a zero copy writes. -/
abbrev zDst (off : Fin 3 → ℕ) (inb : ∀ a, off a + S1x32x8192.size a ≤ S5x3072x8192.size a) : Memref sig .tc .hbm S32x8192 .f32 :=
  (mOut.slice (Rect.unit (s := S5x3072x8192) off S1x32x8192.size inb) (fun _ => rfl)).squeeze S32x8192 squeezes_S1x32x8192_S32x8192
abbrev semZ : DmaSem sig := cc0_scratch13.sem
/-- What one zero copy credits. -/
def NZ : ℕ := (zDst ![0, 0, 0] (by decide)).view.dmaCredit
theorem NZ_pos : 0 < NZ := View.amount_pos (zDst ![0, 0, 0] (by decide)).view (.dma semZ) (by decide)

/-- The zeros. -/
abbrev z32 : F .f32 := Scalar.ofBits .f32 0x00000000#32
def Zc : S32x8192.Idx → F .f32 := fun _ => z32
def isZ (_ : S5x3072x8192.Idx) (v : F .f32) : Prop := v = z32

/-- A list of resources, all held. -/
def All : List (sProp (MM F)) → sProp (MM F)
  | [] => iprop(emp)
  | D :: Ds => iprop(D ∗ All Ds)

theorem All_append (Ds : List (sProp (MM F))) (D : sProp (MM F)) : All (Ds ++ [D]) ⊢ iprop(All Ds ∗ D) := by
  induction Ds with
  | nil =>
    show iprop(D ∗ emp) ⊢ iprop(emp ∗ D)
    iintro ⟨H, -⟩; isplitr; · iempintro
    iexact H
  | cons E Ds ih =>
    show iprop(E ∗ All (Ds ++ [D])) ⊢ iprop((E ∗ All Ds) ∗ D)
    iintro ⟨H, H2⟩
    ihave H3 := ih $$ H2
    icases H3 with ⟨H3, H4⟩
    isplitl [H H3]
    · isplitl [H] <;> iassumption
    · iexact H4

theorem All_of_deliv (Ds : List (sProp (MM F))) : ∀ {m : ℕ} (hm : Ds.length = m), bigSep Finset.univ (deliv (m := m) Ds) ⊢ All Ds := by
  induction Ds with
  | nil => intro m hm; subst hm; show _ ⊢ iprop(emp); iintro -; iempintro
  | cons E Ds ih =>
    intro m hm; subst hm
    show bigSep (Finset.univ : Finset (Fin (Ds.length + 1))) _ ⊢ _
    rw [Fin.univ_succ, Finset.cons_eq_insert, bigSep_insert (by simp [Fin.succ_ne_zero]), bigSep_map]
    show iprop(E ∗ bigSep Finset.univ fun t : Fin Ds.length => deliv (m := Ds.length) Ds t) ⊢ iprop(E ∗ All Ds)
    iintro ⟨H, H2⟩
    isplitl [H]; · iexact H
    iapply (ih (m := Ds.length) rfl); iexact H2

/-- The zero copies: `k` of `m` issued, to the bands of `P`; those of `T` are to come. -/
def ZSt (c : Dev nD) (m k : ℕ) (P T : S5x3072x8192.Idx → Prop) : sProp (MM F) :=
  iprop(∃ (Ds : List (sProp (MM F))) (q : PosShare TreeShare), ⌜Ds.length = k⌝ ∗ Batched EC (c : Thread nD τ) (.dma semZ) () NZ m Ds 0 ∗
    (mZ.view.loc (c : Thread nD τ) ↦[mZ.view.set]{q} (Zc (F := F))) ∗
    ((All Ds ∗ (mZ.view.loc (c : Thread nD τ) ↦[mZ.view.set]{q} (Zc (F := F)))) -∗
      ((mZ.view.loc (c : Thread nD τ) ↦[mZ.view.set]{fullShare} (Zc (F := F))) ∗ TAcc c isZ P)) ∗ Todo c T)

def inBand (off : Fin 3 → ℕ) (i : S5x3072x8192.Idx) : Prop := ∀ a, off a ≤ (i a).val ∧ (i a).val < off a + S1x32x8192.size a

theorem zDst_set (off : Fin 3 → ℕ) (inb : ∀ a, off a + S1x32x8192.size a ≤ S5x3072x8192.size a) : (zDst off inb).view.set = oset (inBand off) := by
  refine (View.set_reshape (v := (View.whole main_v0).slice (Rect.unit (s := S5x3072x8192) off S1x32x8192.size inb)) _).trans ?_
  ext i; rw [mem_oset]
  exact mem_slice_unit main_v0 off S1x32x8192.size inb i

theorem zero_copy (c : Dev nD) {α : Type} {kk : PUnit → Prog (TpuEff nD τ sig (Elt F) Λ₀ .tc) α} {Q : α → sProp (MM F)}
    {m k : ℕ} {P T P' T' : S5x3072x8192.Idx → Prop} (off : Fin 3 → ℕ) (inb : ∀ a, off a + S1x32x8192.size a ≤ S5x3072x8192.size a)
    {h1} {h2} {h3} (hk : k < m) (hR : ∀ i, inBand off i → T i) (hd : ∀ i, P i → ¬ inBand off i)
    (hP : ∀ i, P' i ↔ P i ∨ inBand off i) (hT : ∀ i, T' i ↔ T i ∧ ¬ inBand off i) :
    iprop(ZSt c m k P T ∗ (ZSt c m (k + 1) P' T' -∗ W c (kk ⟨⟩) Q))
      ⊢ W c (.op (.enqueueDma mZ (.here (zDst off inb)) (.dma semZ) h1 h2 h3) kk) Q := by
  unfold ZSt
  iintro ⟨⟨%Ds, %q, %hl, HB, HZ, Hw, HT⟩, Hk⟩
  ihave H2 := (pointsTo_share (ℓ := mZ.view.loc (c : Thread nD τ)) (PosShare.mem_left_op_right q)).1 $$ HZ
  icases H2 with ⟨HZ, HZ2⟩
  ihave H3 := (Todo_take c hR hT) $$ HT
  icases H3 with ⟨⟨%f, HR⟩, HT⟩
  have hsd : (zDst off inb).view.set ⊆ oset (inBand off) := (zDst_set off inb).le
  iapply (wp_dmaBatched EC 𝒱₀ (c : Thread nD τ) none (src := mZ) (dst := zDst off inb) (sm := .dma semZ) (q := q.right) (Sd := oset (inBand off)) () NZ rfl hsd (by rw [hl]; exact hk) (Nat.zero_le _)) $$ [HZ2 HR HB]
  · isplitl [HZ2]; · iexact HZ2
    isplitl [HR] <;> iassumption
  iintro HB
  iapply Hk
  iexists _, q.left
  isplitr; swap
  · isplitl [HB]; · iexact HB
    isplitl [HZ]; · iexact HZ
    isplitr [HT]; swap; · iexact HT
    iintro ⟨HA, HZ⟩
    ihave H4 := (All_append Ds _) $$ HA
    icases H4 with ⟨HA, ⟨HR, HZ2⟩⟩
    ihave H5 := (pointsTo_share (ℓ := mZ.view.loc (c : Thread nD τ)) (PosShare.mem_left_op_right q)).2 $$ [HZ HZ2]
    · isplitl [HZ] <;> iassumption
    ihave H6 := Hw $$ [HA H5]
    · isplitl [HA] <;> iassumption
    icases H6 with ⟨HZ, HP⟩
    isplitl [HZ]; · iexact HZ
    iapply (TAcc_join c isZ hd hP)
    isplitl [HP]; · iexact HP
    unfold TAcc
    iexists _
    isplitr; swap; · iexact HR
    ipureintro
    intro i hi
    have hm2 : i ∈ (zDst off inb).view.set := (zDst_set off inb).ge (mem_oset.2 hi)
    obtain ⟨y, -, rfl⟩ := Finset.mem_map.1 hm2
    exact View.write_emb_of_mem (Val := Elt F) (v := (zDst off inb).view) _ _ (Finset.mem_univ y)
  · ipureintro
    rw [List.length_append, hl]; rfl

/-- The cell of one output slot's copies. -/
abbrev semO (q : Fin 4) : DmaSem sig := ⟨8 + q.val, by have := q.isLt; show 8 + q.val < 13; omega⟩
/-- The tile of the output a finished slot is copied to, and the slot. -/
abbrev tDst (off : Fin 3 → ℕ) (inb : ∀ a, off a + S1x1024x1024.size a ≤ S5x3072x8192.size a) : Memref sig .tc .hbm S1024x1024 .f32 :=
  (mOut.slice (Rect.unit (s := S5x3072x8192) off S1x1024x1024.size inb) (fun _ => rfl)).squeeze S1024x1024 squeezes_S1x1024x1024_S1024x1024
abbrev tSrc (off : Fin 3 → ℕ) (inb : ∀ a, off a + S1x1024x1024.size a ≤ S4x1024x1024.size a) : Memref sig .tc .vmem S1024x1024 .f32 :=
  (mOb.slice (Rect.unit (s := S4x1024x1024) off S1x1024x1024.size inb) (fun _ => rfl)).squeeze S1024x1024 squeezes_S1x1024x1024_S1024x1024
def NT : ℕ := (tDst ![0, 0, 0] (by decide)).view.dmaCredit
theorem NT_pos : 0 < NT := View.amount_pos (tDst ![0, 0, 0] (by decide)).view (.dma semZ) (by decide)

/-- Slot `q`'s buffer, whatever it holds. -/
def Slot (c : Dev nD) (q : Fin 4) : sProp (MM F) := iprop(∃ d : S4x1024x1024.Idx → F .f32, ptsOn c mOb (obPiece q.val) d)
/-- Slot `q` with its copy under way (`b`) or not; `D` is what the copy left, or leaves, of the output. -/
def SlotSt (c : Dev nD) (q : Fin 4) (b : Bool) (D : sProp (MM F)) : sProp (MM F) :=
  if b then iprop(∃ X : sProp (MM F), Flight EC (c : Thread nD τ) (.dma (semO q)) () NT X ∗ (X -∗ (D ∗ Slot c q)))
  else iprop(semVal ((c : Thread nD τ), SemLoc.dma (semO q)) 0 ∗ Slot c q ∗ D)

variable (OK : S5x3072x8192.Idx → F .f32 → Prop)

def Slots (c : Dev nD) (b : Fin 4 → Bool) (P : S5x3072x8192.Idx → Prop) : sProp (MM F) :=
  iprop(∃ Ps : Fin 4 → sProp (MM F), bigSep Finset.univ (fun q => SlotSt c q (b q) (Ps q)) ∗ (bigSep Finset.univ Ps -∗ TAcc c OK P))
/-- The slots other than `q`, which holds `D`. -/
def SlotsBut (c : Dev nD) (q : Fin 4) (b : Fin 4 → Bool) (D : sProp (MM F)) (P : S5x3072x8192.Idx → Prop) : sProp (MM F) :=
  iprop(∃ Ps : Fin 4 → sProp (MM F), bigSep (Finset.univ.erase q) (fun q => SlotSt c q (b q) (Ps q)) ∗ ((D ∗ bigSep (Finset.univ.erase q) Ps) -∗ TAcc c OK P))

theorem erase_sep (q : Fin 4) (Φ : Fin 4 → sProp (MM F)) : bigSep Finset.univ Φ = iprop(Φ q ∗ bigSep (Finset.univ.erase q) Φ) := bigSep_erase (Finset.mem_univ q)

theorem slots_open (c : Dev nD) (q : Fin 4) (b : Fin 4 → Bool) (P : S5x3072x8192.Idx → Prop) :
    Slots OK c b P ⊢ iprop(∃ D : sProp (MM F), SlotSt c q (b q) D ∗ SlotsBut OK c q b D P) := by
  unfold Slots SlotsBut
  iintro ⟨%Ps, HS, Hw⟩
  ihave HS2 := (Entails.of_eq (erase_sep q _)) $$ HS
  icases HS2 with ⟨H, HS⟩
  iexists Ps q
  isplitl [H]; · iexact H
  iexists Ps
  isplitl [HS]; · iexact HS
  iintro ⟨HD, HPs⟩
  iapply Hw
  iapply (Entails.of_eq (erase_sep q Ps).symm)
  isplitl [HD] <;> iassumption

theorem slots_close (c : Dev nD) (q : Fin 4) (b b' : Fin 4 → Bool) (hb : ∀ r, r ≠ q → b' r = b r) (D D' : sProp (MM F)) (P P' : S5x3072x8192.Idx → Prop) :
    iprop(SlotSt c q (b' q) D' ∗ SlotsBut OK c q b D P ∗ (D' -∗ TAcc c OK P -∗ TAcc c OK P') ∗ D) ⊢ Slots OK c b' P' := by
  unfold Slots SlotsBut
  iintro ⟨H, ⟨%Ps, HS, Hw⟩, HP, HD⟩
  iexists (fun r => if r = q then D' else Ps r)
  isplitl [H HS]
  · iapply (Entails.of_eq (show iprop(SlotSt c q (b' q) D' ∗ bigSep (Finset.univ.erase q) (fun q => SlotSt c q (b q) (Ps q)))
        = bigSep Finset.univ (fun r => SlotSt c r (b' r) ((fun r => if r = q then D' else Ps r) r)) from by
      rw [erase_sep q]
      show _ = iprop(SlotSt c q (b' q) (if q = q then D' else Ps q) ∗ _)
      rw [if_pos rfl, bigSep_congr (s := Finset.univ.erase q) (Φ := fun r => SlotSt c r (b' r) (if r = q then D' else Ps r)) (Ψ := fun r => SlotSt c r (b r) (Ps r))
        (fun r hr => by rw [if_neg (Finset.ne_of_mem_erase hr), hb r (Finset.ne_of_mem_erase hr)])]))
    isplitl [H] <;> iassumption
  iintro HPs
  ihave HPs2 := (Entails.of_eq (show bigSep Finset.univ (fun r => if r = q then D' else Ps r) = iprop(D' ∗ bigSep (Finset.univ.erase q) Ps) from by
      rw [erase_sep q, if_pos rfl, bigSep_congr (s := Finset.univ.erase q) (Φ := fun r => if r = q then D' else Ps r) (Ψ := Ps)
        (fun r hr => by rw [if_neg (Finset.ne_of_mem_erase hr)])])) $$ HPs
  icases HPs2 with ⟨HD', HPs⟩
  iapply HP $$ HD'
  iapply Hw
  isplitl [HD] <;> iassumption

/-- A finished tile's copy to the output. -/
theorem tile_copy (c : Dev nD) {α : Type} {kk : PUnit → Prog (TpuEff nD τ sig (Elt F) Λ₀ .tc) α} {Q : α → sProp (MM F)}
    {P T P' T' R : S5x3072x8192.Idx → Prop} (q : Fin 4) (b b' : Fin 4 → Bool) (hb : ∀ r, r ≠ q → b' r = b r) (hq : b' q = true)
    {D : sProp (MM F)} {V : FVec F S1x1024x1024 .f32} {d : S4x1024x1024.Idx → F .f32}
    {off : Fin 3 → ℕ} {inb : ∀ a, off a + S1x1024x1024.size a ≤ S5x3072x8192.size a} {o : Fin 3 → ℕ} {inb' : ∀ a, o a + S1x1024x1024.size a ≤ S4x1024x1024.size a}
    {sm : DmaSem sig} {h1} {h2} {h3} (hsm : sm = semO q) (ho : o = ![q.val, 0, 0]) (hd : ObHas q.val V d)
    (hin : ∀ i, R i ↔ ∀ a, off a ≤ (i a).val ∧ (i a).val < off a + S1x1024x1024.size a)
    (hOK : ∀ (z : S1x1024x1024.Idx) (i : S5x3072x8192.Idx), (∀ a, (i a).val = off a + (z a).val) → OK i (V z))
    (hR : ∀ i, R i → T i) (hdj : ∀ i, P i → ¬ R i) (hP : ∀ i, P' i ↔ P i ∨ R i) (hT : ∀ i, T' i ↔ T i ∧ ¬ R i) :
    iprop(semVal ((c : Thread nD τ), SemLoc.dma (semO q)) 0 ∗ ptsOn c mOb (obPiece q.val) d ∗ D ∗ SlotsBut OK c q b D P ∗ Todo c T ∗
        ((Slots OK c b' P' ∗ Todo c T') -∗ W c (kk ⟨⟩) Q))
      ⊢ W c (.op (.enqueueDma (tSrc o inb') (.here (tDst off inb)) (.dma sm) h1 h2 h3) kk) Q := by
  subst hsm; subst ho
  iintro ⟨Hv, Ho, HD, HB, HT, Hk⟩
  ihave H3 := (Todo_take c hR hT) $$ HT
  icases H3 with ⟨⟨%f, HR⟩, HT⟩
  have hsS : (tSrc ![q.val, 0, 0] inb').view.set = obPiece q.val := by
    refine (View.set_reshape (v := (View.whole cc0_scratch6).slice (Rect.unit (s := S4x1024x1024) ![q.val, 0, 0] S1x1024x1024.size inb')) _).trans ?_
    ext i
    refine (mem_slice_unit cc0_scratch6 ![q.val, 0, 0] S1x1024x1024.size inb' i).trans ?_
    unfold obPiece
    rw [Finset.mem_filter]
    constructor
    · intro h
      have h0 : q.val ≤ (i 0).val ∧ (i 0).val < q.val + 1 := h 0
      exact ⟨Finset.mem_univ _, by omega⟩
    · rintro ⟨-, h⟩ a
      have h1 : (i 1).val < 1024 := (i 1).isLt
      have h2 : (i 2).val < 1024 := (i 2).isLt
      match a with
      | 0 => show q.val ≤ (i 0).val ∧ (i 0).val < q.val + 1; omega
      | 1 => show 0 ≤ (i 1).val ∧ (i 1).val < 0 + 1024; omega
      | 2 => show 0 ≤ (i 2).val ∧ (i 2).val < 0 + 1024; omega
  have hsd : (tDst off inb).view.set = oset R := by
    refine (View.set_reshape (v := (View.whole main_v0).slice (Rect.unit (s := S5x3072x8192) off S1x1024x1024.size inb)) _).trans ?_
    ext i; rw [mem_oset, hin]
    exact mem_slice_unit main_v0 off S1x1024x1024.size inb i
  iapply (wp_dmaLocal EC 𝒱₀ (c : Thread nD τ) none (src := tSrc ![q.val, 0, 0] inb') (dst := tDst off inb) (sm := .dma (semO q)) (q := fullShare) (fs := d) (fd := f) (Sd := oset R) () NT rfl NT_pos hsd.le) $$ [Ho HR Hv]
  · isplitl [Ho]; · rw [hsS]; iexact Ho
    isplitl [HR] <;> iassumption
  iintro HF
  iapply Hk
  isplitr [HT]; swap; · iexact HT
  iapply (slots_close OK c q b b' hb D (TAcc c OK R) P P')
  isplitl [HF]
  · rw [hq]; unfold SlotSt; rw [if_pos rfl]
    iexists _
    isplitl [HF]; · iexact HF
    iintro ⟨HR, Ho⟩
    isplitl [HR]
    · unfold TAcc
      iexists _
      isplitr; swap; · iexact HR
      ipureintro
      intro i hi
      have hm2 : i ∈ (tDst off inb).view.set := hsd.ge (mem_oset.2 hi)
      obtain ⟨y, -, rfl⟩ := Finset.mem_map.1 hm2
      refine cast (congrArg (OK _) ?_) (hOK (Shape.reshapeEquiv squeezes_S1x1024x1024_S1024x1024.numel_eq y) _ ?_)
      · refine Eq.trans ?_ (View.write_emb_of_mem (Val := Elt F) (v := (tDst off inb).view) _ _ (Finset.mem_univ y)).symm
        have hz0 : (Shape.reshapeEquiv squeezes_S1x1024x1024_S1024x1024.numel_eq y 0).val = 0 := by
          have h1 : (Shape.reshapeEquiv squeezes_S1x1024x1024_S1024x1024.numel_eq y 0).val < 1 := (Shape.reshapeEquiv squeezes_S1x1024x1024_S1024x1024.numel_eq y 0).isLt
          omega
        refine Eq.trans ?_ ((hd ((tSrc ![q.val, 0, 0] inb').view.emb y) ?_).symm.trans rfl)
        · refine congrArg V ?_
          funext a; apply Fin.ext
          match a with
          | 0 => exact hz0
          | 1 =>
            show _ = 0 + 1 * (Shape.reshapeEquiv squeezes_S1x1024x1024_S1024x1024.numel_eq y 1).val
            omega
          | 2 =>
            show _ = 0 + 1 * (Shape.reshapeEquiv squeezes_S1x1024x1024_S1024x1024.numel_eq y 2).val
            omega
        · show q.val + 1 * (Shape.reshapeEquiv squeezes_S1x1024x1024_S1024x1024.numel_eq y 0).val = q.val
          omega
      · intro a
        show off a + 1 * (Shape.reshapeEquiv squeezes_S1x1024x1024_S1024x1024.numel_eq y a).val = _
        omega
    · unfold Slot; iexists d; rw [← hsS]; iexact Ho
  isplitl [HB]; · iexact HB
  isplitr; swap; · iexact HD
  iintro HR HP
  iapply (TAcc_join c OK hdj hP)
  isplitl [HP] <;> iassumption

end Cert.Kernel
-- ==== Proof.Step.lean ====
/- One tile: its slot taken, its first product stored, the later ones added. -/
module

public import proofs.«01_k».proof.Proof.Out

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

theorem slotSt_busy (c : Dev nD) (q : Fin 4) (D : sProp (MM F)) {b : Bool} (hb : b = true) :
    SlotSt c q b D = iprop(∃ X : sProp (MM F), Flight EC (c : Thread nD τ) (.dma (semO q)) () NT X ∗ (X -∗ (D ∗ ∃ d : S4x1024x1024.Idx → F .f32, ptsOn c mOb (obPiece q.val) d))) := by
  subst hb; rfl
theorem slotSt_idle (c : Dev nD) (q : Fin 4) (D : sProp (MM F)) {b : Bool} (hb : b = false) :
    SlotSt c q b D = iprop(semVal ((c : Thread nD τ), SemLoc.dma (semO q)) 0 ∗ (∃ d : S4x1024x1024.Idx → F .f32, ptsOn c mOb (obPiece q.val) d) ∗ D) := by
  subst hb; rfl

theorem semO_at {x : ℕ} (hx : x < 4) (inb : ∀ b, (![x] : Fin 1 → ℕ) b + S1.size b ≤ S4.size b) :
    ((cc0_scratch12.slice (Rect.unit (s := S4) ![x] S1.size inb)).squeeze S_ squeezes_S1_S_).sem = semO ⟨x, hx⟩ := by
  have h : ∀ (x : Fin 4) (inb : ∀ b, (![x.val] : Fin 1 → ℕ) b + S1.size b ≤ S4.size b),
      ((cc0_scratch12.slice (Rect.unit (s := S4) ![x.val] S1.size inb)).squeeze S_ squeezes_S1_S_).sem = semO x := by decide
  exact h ⟨x, hx⟩ inb
/-- The cell a tile's slot waits on. -/
theorem slotO_sem {a : BitVec 32} (ha : a.toNat < 2 ^ 31) (inb : ∀ b, (![(slotO a).toNat] : Fin 1 → ℕ) b + S1.size b ≤ S4.size b) :
    ((cc0_scratch12.slice (Rect.unit (s := S4) ![(slotO a).toNat] S1.size inb)).squeeze S_ squeezes_S1_S_).sem = semO ⟨a.toNat % 4, by omega⟩ := by
  have h := slotO_toNat ha
  rw [semO_at (by omega)]
  exact congrArg semO (Fin.ext h)

theorem ob1_inb {a : BitVec 32} (ha : a.toNat < 2 ^ 31) : ∀ b, (![(slotO a).toNat] : Fin 1 → ℕ) b + S1.size b ≤ S4.size b := by
  have h := slotO_toNat ha
  exact Fin.forall_fin_one.2 (show (slotO a).toNat + 1 ≤ 4 by omega)

/-- A wait for a copy under way, through a destination of the same size. -/
theorem wait_flight (c : Dev nD) {N : ℕ} {sp sp' : Space} {s s' : Shape} {e e' : EltTy} {sem sem' : DmaSem sig} (hs : sem = sem')
    {srcw : Memref sig .tc sp' s' e'} {dstw : Memref sig .tc sp s e} {h1} {h2} (hN : dstw.view.dmaCredit = N)
    {α : Type} {k : PUnit → Prog (TpuEff nD τ sig (Elt F) Λ₀ .tc) α} {Q : α → sProp (MM F)} {D : sProp (MM F)} {W₀ : Waits sig Unit} :
    iprop(Flight EC (c : Thread nD τ) (.dma sem') () N D ∗ owes (c : Thread nD τ) 0 W₀)
      ⊢ iprop(((D ∗ semVal ((c : Thread nD τ), SemLoc.dma sem') 0 ∗ owes (c : Thread nD τ) 0 (insert (SemLoc.dma sem', ()) W₀)) -∗ W c (k ⟨⟩) Q)
          -∗ W c (.op (.waitDma2 sem srcw dstw h1 h2) k) Q) := by
  subst hs
  exact wp_waitLocal EC 𝒱₀ (c : Thread nD τ) none (srcw := srcw) (dstw := dstw) () hN

/-- The expert of a step. -/
theorem exp_toNat {t : ℕ} (h : t < 15) : (Scalar.remsi (Scf.iv 0#32 1#32 t) 5#32).toNat = t % 5 := by
  have := IntOp.toNat_remsi .scalar (x := Scf.iv 0#32 1#32 t) (by rw [iv_toNat (by omega)]; omega) 5 (by omega) (by omega)
  rw [iv_toNat (by omega)] at this; exact this
theorem addi_zero_toNat (x : BitVec 32) : (Scalar.addi x 0#32).toNat = x.toNat := by rw [addi_zero_r]

theorem tab_load (c : Dev nD) (tb : S3x5.Idx → BitVec 32) (i : Fin 3) (e : Fin 5) {off : Fin 2 → ℕ} (ho : off = ![i.val, e.val])
    {inb : ∀ a, off a + S1x1.size a ≤ S3x5.size a} {h1} {h2}
    {β : Type} {kk : BitVec 32 → Prog (TpuEff nD τ sig (Elt F) Λ₀ .tc) β} {Q : β → sProp (MM F)} :
    iprop(pts (F := F) c mTab tb ∗ (pts (F := F) c mTab tb -∗ W c (kk (tb (ix2 i e))) Q))
    ⊢ W c (smemLoad (nD := nD) (τ := τ) (Val := Elt F) (Λ := Λ₀) (p := .tc) mTab (Rect.unit (s := S3x5) off S1x1.size inb) h1 h2 >>= kk) Q := by
  subst ho
  iintro ⟨H, Hk⟩
  unfold smemLoad smemLoadElt
  rw [Prog.bind_op]
  iapply (wp_load 𝒱₀ (c : Thread nD τ) none Set.univ (m := mTab) (Finset.subset_univ _)) $$ H; iintro H
  rw [Prog.bind_ret]
  have e1 : tb (ix2 i e) = (mTab.access (Rect.unit (s := S3x5) ![i.val, e.val] S1x1.size inb)).read (Elt F) tb (Shape.Idx.first (h1.symm ▸ Nat.one_pos)) := by
    refine congrArg tb ?_
    funext a; apply Fin.ext
    have h3 := (Shape.Idx.first (s := S1x1) (h1.symm ▸ Nat.one_pos) a).isLt
    match a with
    | 0 =>
      have h3 : (Shape.Idx.first (s := S1x1) (h1.symm ▸ Nat.one_pos) 0).val < 1 := (Shape.Idx.first (s := S1x1) (h1.symm ▸ Nat.one_pos) 0).isLt
      show i.val = i.val + 1 * (Shape.Idx.first (s := S1x1) (h1.symm ▸ Nat.one_pos) 0).val
      omega
    | 1 =>
      have h3 : (Shape.Idx.first (s := S1x1) (h1.symm ▸ Nat.one_pos) 1).val < 1 := (Shape.Idx.first (s := S1x1) (h1.symm ▸ Nat.one_pos) 1).isLt
      show e.val = e.val + 1 * (Shape.Idx.first (s := S1x1) (h1.symm ▸ Nat.one_pos) 1).val
      omega
  rw [e1]
  iapply Hk
  iexact H

theorem off198_eq (T : Fin k0_t77_loop.trips) : k0_off198 T = ![0, T.val % 5] := by
  have h := exp_toNat (t := T.val) T.isLt
  show ![0, (Scalar.remsi (Scf.iv 0#32 1#32 T.val) 5#32).toNat] = _
  rw [h]
theorem off199_eq (T : Fin k0_t77_loop.trips) : k0_off199 T = ![2, T.val % 5] := by
  have h := exp_toNat (t := T.val) T.isLt
  show ![2, (Scalar.remsi (Scf.iv 0#32 1#32 T.val) 5#32).toNat] = _
  rw [h]
theorem off194_eq (T : Fin k0_t77_loop.trips) : k0_off194 T = ![1, T.val % 5] := by
  have h := exp_toNat (t := T.val) T.isLt
  show ![1, (Scalar.remsi (Scf.iv 0#32 1#32 T.val) 5#32).toNat] = _
  rw [h]

theorem first1 {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (g : S3072x2816.Idx → F .bf16) (f : S1792x1024.Idx → F .bf16) (d : S4x1024x1024.Idx → F .f32) (hn : n.toNat = 1)
    (i1 : ∀ b, (![(blkW T).toNat, (Scalar.addi ko 0#32).toNat] : Fin 2 → ℕ) b + S1024x256.size b ≤ S3072x2816.size b)
    (i2 : ∀ b, (![(Scalar.addi lo 0#32).toNat, 0] : Fin 2 → ℕ) b + S256x1024.size b ≤ S1792x1024.size b) :
    ObHas (a.toNat % 4) (acc g f (T.val / 5) ko.toNat lo.toNat n.toNat 0)
      (((View.whole cc0_scratch6).slice (Rect.unit ![(slotO a).toNat, 0, 0] S1x1024x1024.size (ob_inb ha))).write (Elt F) d
        (k0_pay81 (fun i => g ((Rect.unit (s := S3072x2816) ![(blkW T).toNat, (Scalar.addi ko 0#32).toNat] S1024x256.size i1).toLoadRect.idx i))
          (fun i => f ((Rect.unit (s := S1792x1024) ![(Scalar.addi lo 0#32).toNat, 0] S256x1024.size i2).toLoadRect.idx i))) Finset.univ) := by
  have hT : T.val < 15 := T.isLt
  have e2 := cols_read (n := 256) (blkW_toNat hT) (addi_zero_toNat ko) (by omega) (by omega) i1 g
  have e3 := rows_read (n := 256) (addi_zero_toNat lo) (by omega) i2 f
  have e : acc g f (T.val / 5) ko.toNat lo.toNat n.toNat 0 =
      k0_pay81 (fun i => g ((Rect.unit (s := S3072x2816) ![(blkW T).toNat, (Scalar.addi ko 0#32).toNat] ![1024, 256] i1).toLoadRect.idx i))
        (fun i => f ((Rect.unit (s := S1792x1024) ![(Scalar.addi lo 0#32).toNat, 0] ![256, 1024] i2).toLoadRect.idx i)) := by
    show (if n.toNat = 1 then _ else if n.toNat = 2 then _ else _) = _
    rw [if_pos hn]
    exact congrArg₂ k0_pay81 e2.symm e3.symm
  rw [e]
  exact ob_has ha d _

theorem first2 {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (g : S3072x2816.Idx → F .bf16) (f : S1792x1024.Idx → F .bf16) (d : S4x1024x1024.Idx → F .f32) (hn : n.toNat = 2)
    (i1 : ∀ b, (![(blkW T).toNat, (Scalar.addi ko 0#32).toNat] : Fin 2 → ℕ) b + S1024x512.size b ≤ S3072x2816.size b)
    (i2 : ∀ b, (![(Scalar.addi lo 0#32).toNat, 0] : Fin 2 → ℕ) b + S512x1024.size b ≤ S1792x1024.size b) :
    ObHas (a.toNat % 4) (acc g f (T.val / 5) ko.toNat lo.toNat n.toNat 0)
      (((View.whole cc0_scratch6).slice (Rect.unit ![(slotO a).toNat, 0, 0] S1x1024x1024.size (ob_inb ha))).write (Elt F) d
        (k0_pay82 (fun i => g ((Rect.unit (s := S3072x2816) ![(blkW T).toNat, (Scalar.addi ko 0#32).toNat] S1024x512.size i1).toLoadRect.idx i))
          (fun i => f ((Rect.unit (s := S1792x1024) ![(Scalar.addi lo 0#32).toNat, 0] S512x1024.size i2).toLoadRect.idx i))) Finset.univ) := by
  have hT : T.val < 15 := T.isLt
  have e2 := cols_read (n := 512) (blkW_toNat hT) (addi_zero_toNat ko) (by omega) (by omega) i1 g
  have e3 := rows_read (n := 512) (addi_zero_toNat lo) (by omega) i2 f
  have e : acc g f (T.val / 5) ko.toNat lo.toNat n.toNat 0 =
      k0_pay82 (fun i => g ((Rect.unit (s := S3072x2816) ![(blkW T).toNat, (Scalar.addi ko 0#32).toNat] ![1024, 512] i1).toLoadRect.idx i))
        (fun i => f ((Rect.unit (s := S1792x1024) ![(Scalar.addi lo 0#32).toNat, 0] ![512, 1024] i2).toLoadRect.idx i)) := by
    show (if n.toNat = 1 then _ else if n.toNat = 2 then _ else _) = _
    rw [if_neg (by omega : ¬ n.toNat = 1), if_pos hn]
    exact congrArg₂ k0_pay82 e2.symm e3.symm
  rw [e]
  exact ob_has ha d _

theorem first3 {a n lo ko : BitVec 32} (ha : a.toNat < 2 ^ 31) (h : n.toNat ≤ 16) (hk : ko.toNat + 256 * n.toNat ≤ 2816) (hl : lo.toNat + 256 * n.toNat ≤ 1792)
    (T : Fin k0_t77_loop.trips) (g : S3072x2816.Idx → F .bf16) (f : S1792x1024.Idx → F .bf16) (d : S4x1024x1024.Idx → F .f32) (hn : 3 ≤ n.toNat)
    (i1 : ∀ b, (![(blkW T).toNat, (Scalar.addi ko 0#32).toNat] : Fin 2 → ℕ) b + S1024x768.size b ≤ S3072x2816.size b)
    (i2 : ∀ b, (![(Scalar.addi lo 0#32).toNat, 0] : Fin 2 → ℕ) b + S768x1024.size b ≤ S1792x1024.size b) :
    ObHas (a.toNat % 4) (acc g f (T.val / 5) ko.toNat lo.toNat n.toNat 0)
      (((View.whole cc0_scratch6).slice (Rect.unit ![(slotO a).toNat, 0, 0] S1x1024x1024.size (ob_inb ha))).write (Elt F) d
        (k0_pay83 (fun i => g ((Rect.unit (s := S3072x2816) ![(blkW T).toNat, (Scalar.addi ko 0#32).toNat] S1024x768.size i1).toLoadRect.idx i))
          (fun i => f ((Rect.unit (s := S1792x1024) ![(Scalar.addi lo 0#32).toNat, 0] S768x1024.size i2).toLoadRect.idx i))) Finset.univ) := by
  have hT : T.val < 15 := T.isLt
  have e2 := cols_read (n := 768) (blkW_toNat hT) (addi_zero_toNat ko) (by omega) (by omega) i1 g
  have e3 := rows_read (n := 768) (addi_zero_toNat lo) (by omega) i2 f
  have e : acc g f (T.val / 5) ko.toNat lo.toNat n.toNat 0 =
      k0_pay83 (fun i => g ((Rect.unit (s := S3072x2816) ![(blkW T).toNat, (Scalar.addi ko 0#32).toNat] ![1024, 768] i1).toLoadRect.idx i))
        (fun i => f ((Rect.unit (s := S1792x1024) ![(Scalar.addi lo 0#32).toNat, 0] ![768, 1024] i2).toLoadRect.idx i)) := by
    show (if n.toNat = 1 then _ else if n.toNat = 2 then _ else _) = _
    rw [if_neg (by omega : ¬ n.toNat = 1), if_neg (by omega : ¬ n.toNat = 2)]
    exact congrArg₂ k0_pay83 e2.symm e3.symm
  rw [e]
  exact ob_has ha d _

/-- A tile's slot taken and its products summed into it. -/
theorem tile_sum (c : Dev nD) {a n lo ko : BitVec 32} (ha : a.toNat < 2 ^ 31) (h0 : 0 < n.toNat) (h : n.toNat ≤ 10) (hk : ko.toNat + 256 * n.toNat ≤ 2816)
    (hl : lo.toNat + 256 * n.toNat ≤ 1792) (hd7 : 256 ∣ ko.toNat) (hd8 : 16 ∣ lo.toNat) (T : Fin k0_t77_loop.trips)
    (tb : S3x5.Idx → BitVec 32) (hlo : tb (ix2 0 ⟨T.val % 5, by omega⟩) = lo) (hko : tb (ix2 2 ⟨T.val % 5, by omega⟩) = ko)
    (g : S3072x2816.Idx → F .bf16) (f : S1792x1024.Idx → F .bf16) (D : sProp (MM F)) {W₀ : Waits sig Unit}
    (v771 v772 v775 : BitVec 32) (h6 : k0_chk6 a n) (h8 : k0_cond8 n = 1#1)
    {β : Type} {kk : BitVec 32 → Prog (TpuEff nD τ sig (Elt F) Λ₀ .tc) β} {Q : β → sProp (MM F)} :
    iprop(SlotSt c ⟨a.toNat % 4, by omega⟩ (decide (4 ≤ a.toNat)) D ∗ owes (c : Thread nD τ) 0 W₀ ∗ pts (F := F) c mTab tb ∗ pts c mXt g ∗ pts c mRows f ∗
      (((∃ d, ⌜ObHas (a.toNat % 4) (acc g f (T.val / 5) ko.toNat lo.toNat n.toNat (n.toNat - 3)) d⌝ ∗ ptsOn c mOb (obPiece (a.toNat % 4)) d) ∗
          semVal ((c : Thread nD τ), SemLoc.dma (semO ⟨a.toNat % 4, by omega⟩)) 0 ∗ D ∗ (∃ W', owes (c : Thread nD τ) 0 W') ∗ pts (F := F) c mTab tb ∗ pts c mXt g ∗ pts c mRows f)
        -∗ W c (kk (Scalar.muli v771 1024#32)) Q))
    ⊢ W c (k0_part41_skel (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 T a v771 v772 n h6 v775 h8 >>= kk) Q := by
  replace h : n.toNat ≤ 16 := by omega
  unfold k0_part41_skel
  by_cases hc : 4 ≤ a.toNat
  · have h9 : k0_cond9 a = 1#1 := (cond9_iff ha).2 hc
    rcases (show n.toNat = 1 ∨ n.toNat = 2 ∨ 3 ≤ n.toNat by omega) with hn | hn | hn
    · have h10 : k0_cond10 n = 1#1 := by rw [cond10_iff]; omega
      have h11 : ¬ k0_cond11 n = 1#1 := by rw [cond11_iff]; omega
      have h12 : ¬ k0_cond12 n = 1#1 := by rw [cond12_iff (by omega)]; omega
      simp only [dif_pos h9, dif_pos h10, dif_neg h11, dif_neg h12, bind_assoc, pure_bind, Prog.bind_lift, Prog.bind_op]
      iintro ⟨HS, HO, Htab, Hx, Hr, Hk⟩
      ihave HS2 := (Entails.of_eq (slotSt_busy c _ D (decide_eq_true hc))) $$ HS
      icases HS2 with ⟨%X, HF, HX⟩
      iapply (wait_flight c (N := NT) (slotO_sem ha (ob1_inb ha)) rfl) $$ [HF HO]
      · isplitl [HF] <;> iassumption
      iintro ⟨HX1, Hv, HO⟩
      ihave HX2 := HX $$ HX1
      icases HX2 with ⟨HD, ⟨%d0, Ho⟩⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first1 ha h hk hl T g f d0 hn _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption
    · have h10 : ¬ k0_cond10 n = 1#1 := by rw [cond10_iff]; omega
      have h11 : k0_cond11 n = 1#1 := by rw [cond11_iff]; omega
      have h12 : ¬ k0_cond12 n = 1#1 := by rw [cond12_iff (by omega)]; omega
      simp only [dif_pos h9, dif_neg h10, dif_pos h11, dif_neg h12, bind_assoc, pure_bind, Prog.bind_lift, Prog.bind_op]
      iintro ⟨HS, HO, Htab, Hx, Hr, Hk⟩
      ihave HS2 := (Entails.of_eq (slotSt_busy c _ D (decide_eq_true hc))) $$ HS
      icases HS2 with ⟨%X, HF, HX⟩
      iapply (wait_flight c (N := NT) (slotO_sem ha (ob1_inb ha)) rfl) $$ [HF HO]
      · isplitl [HF] <;> iassumption
      iintro ⟨HX1, Hv, HO⟩
      ihave HX2 := HX $$ HX1
      icases HX2 with ⟨HD, ⟨%d0, Ho⟩⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first2 ha h hk hl T g f d0 hn _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption
    · have h10 : ¬ k0_cond10 n = 1#1 := by rw [cond10_iff]; omega
      have h11 : ¬ k0_cond11 n = 1#1 := by rw [cond11_iff]; omega
      have h12 : k0_cond12 n = 1#1 := by rw [cond12_iff (by omega)]; omega
      simp only [dif_pos h9, dif_neg h10, dif_neg h11, dif_pos h12, bind_assoc, pure_bind, Prog.bind_lift, Prog.bind_op]
      iintro ⟨HS, HO, Htab, Hx, Hr, Hk⟩
      ihave HS2 := (Entails.of_eq (slotSt_busy c _ D (decide_eq_true hc))) $$ HS
      icases HS2 with ⟨%X, HF, HX⟩
      iapply (wait_flight c (N := NT) (slotO_sem ha (ob1_inb ha)) rfl) $$ [HF HO]
      · isplitl [HF] <;> iassumption
      iintro ⟨HX1, Hv, HO⟩
      ihave HX2 := HX $$ HX1
      icases HX2 with ⟨HD, ⟨%d0, Ho⟩⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first3 ha h hk hl T g f d0 (by omega) _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption
  · have h9 : ¬ k0_cond9 a = 1#1 := fun x => hc ((cond9_iff ha).1 x)
    rcases (show n.toNat = 1 ∨ n.toNat = 2 ∨ 3 ≤ n.toNat by omega) with hn | hn | hn
    · have h10 : k0_cond10 n = 1#1 := by rw [cond10_iff]; omega
      have h11 : ¬ k0_cond11 n = 1#1 := by rw [cond11_iff]; omega
      have h12 : ¬ k0_cond12 n = 1#1 := by rw [cond12_iff (by omega)]; omega
      simp only [dif_neg h9, dif_pos h10, dif_neg h11, dif_neg h12, bind_assoc, pure_bind, Prog.bind_lift, Prog.bind_op]
      iintro ⟨HS, HO, Htab, Hx, Hr, Hk⟩
      ihave HS2 := (Entails.of_eq (slotSt_idle c _ D (decide_eq_false hc))) $$ HS
      icases HS2 with ⟨Hv, ⟨%d0, Ho⟩, HD⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first1 ha h hk hl T g f d0 hn _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption
    · have h10 : ¬ k0_cond10 n = 1#1 := by rw [cond10_iff]; omega
      have h11 : k0_cond11 n = 1#1 := by rw [cond11_iff]; omega
      have h12 : ¬ k0_cond12 n = 1#1 := by rw [cond12_iff (by omega)]; omega
      simp only [dif_neg h9, dif_neg h10, dif_pos h11, dif_neg h12, bind_assoc, pure_bind, Prog.bind_lift, Prog.bind_op]
      iintro ⟨HS, HO, Htab, Hx, Hr, Hk⟩
      ihave HS2 := (Entails.of_eq (slotSt_idle c _ D (decide_eq_false hc))) $$ HS
      icases HS2 with ⟨Hv, ⟨%d0, Ho⟩, HD⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first2 ha h hk hl T g f d0 hn _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption
    · have h10 : ¬ k0_cond10 n = 1#1 := by rw [cond10_iff]; omega
      have h11 : ¬ k0_cond11 n = 1#1 := by rw [cond11_iff]; omega
      have h12 : k0_cond12 n = 1#1 := by rw [cond12_iff (by omega)]; omega
      simp only [dif_neg h9, dif_neg h10, dif_neg h11, dif_pos h12, bind_assoc, pure_bind, Prog.bind_lift, Prog.bind_op]
      iintro ⟨HS, HO, Htab, Hx, Hr, Hk⟩
      ihave HS2 := (Entails.of_eq (slotSt_idle c _ D (decide_eq_false hc))) $$ HS
      icases HS2 with ⟨Hv, ⟨%d0, Ho⟩, HD⟩
      iapply (tab_load c tb 0 ⟨T.val % 5, by omega⟩ (off198_eq T))
      isplitl [Htab]; · iexact Htab
      iintro Htab
      rw [hlo]
      iapply (wp_assume 𝒱₀ (c : Thread nD τ) none Set.univ (chk8 h hl hd8))
      iapply (tab_load c tb 2 ⟨T.val % 5, by omega⟩ (off199_eq T))
      isplitl [Htab]; · iexact Htab
      iintro Htab
      rw [hko]
      iapply (wp_assume 𝒱₀ (c : Thread nD τ) none Set.univ (chk7 T h hk hd7))
      iapply (wp_load 𝒱₀ (c : Thread nD τ) none Set.univ (m := mXt) (Finset.subset_univ _)) $$ Hx; iintro Hx
      iapply (wp_load 𝒱₀ (c : Thread nD τ) none Set.univ (m := mRows) (Finset.subset_univ _)) $$ Hr; iintro Hr
      iapply (wp_load 𝒱₀ (c : Thread nD τ) none Set.univ (m := mOb) (ob_sub ha)) $$ Ho; iintro Ho
      iapply (wp_store 𝒱₀ (c : Thread nD τ) none Set.univ (m := mOb) (r := Rect.unit (s := S4x1024x1024) ![(slotO a).toNat, 0, 0] S1x1024x1024.size (ob_inb ha)) (Mk := Finset.univ) (ob_sub' ha)) $$ Ho; iintro Ho
      iapply (later_loop c ha h hk hl T g f (fun _ _ => rfl))
      isplitl [Hx]; · iexact Hx
      isplitl [Hr]; · iexact Hr
      isplitl [Ho]
      · iexists _
        isplitr; swap; · iexact Ho
        ipureintro
        exact first3 ha h hk hl T g f d0 (by omega) _ _
      iintro ⟨Hx, Hr, Ho⟩
      iapply (remR_loop c)
      iapply Hk
      isplitl [Ho]; · iexact Ho
      isplitl [Hv]; · iexact Hv
      isplitl [HD]; · iexact HD
      isplitl [HO]; · iexists _; iexact HO
      isplitl [Htab]; · iexact Htab
      isplitl [Hx] <;> iassumption

end Cert.Kernel
-- ==== Proof.Plan.lean ====
/- The operands of one run, the experts' segments, and what the output's elements end as. -/
module

public import proofs.«01_k».proof.Proof.Step

@[expose] public section

noncomputable section

namespace Cert.Kernel

open Cert.Kernel.Gen GW
open Idealize.ShloMosaic Idealize.ShloMosaic.TcCoe Idealize.ShloMosaic.Tactic

/-- The operands a run reads. -/
structure Ins (F : FTy → Type) where
  x : S1536x3072.Idx → F .fp8e4m3
  sx : S13x3072.Idx → F .f32
  y : S1536x8192.Idx → F .fp8e4m3
  sy : S13x8192.Idx → F .f32
  w0 : BitVec 32
  w1 : BitVec 32
  w2 : BitVec 32
  w3 : BitVec 32
  w4 : BitVec 32
  fit : Fit w0 w1 w2 w3 w4

variable {F : FTy → Type} [FloatOps F]

namespace Ins
variable (I : Ins F)

/-- Expert `e`'s rows, first row, first group, first column of the transposed copy. -/
def sz : ℕ → BitVec 32 | 0 => I.w0 | 1 => I.w1 | 2 => I.w2 | 3 => I.w3 | _ => I.w4
def st : ℕ → BitVec 32 | 0 => 0#32 | 1 => s1 I.w0 | 2 => s2 I.w0 I.w1 | 3 => s3 I.w0 I.w1 I.w2 | _ => s4 I.w0 I.w1 I.w2 I.w3
def gr : ℕ → BitVec 32 | 0 => 0#32 | 1 => g1 I.w0 | 2 => g2 I.w0 I.w1 | 3 => g3 I.w0 I.w1 I.w2 | _ => g4 I.w0 I.w1 I.w2 I.w3
def ko : ℕ → BitVec 32 | 0 => 0#32 | 1 => k1 I.w0 | 2 => k2 I.w0 I.w1 | 3 => k3 I.w0 I.w1 I.w2 | _ => k4 I.w0 I.w1 I.w2 I.w3
def szN (e : ℕ) : ℕ := (I.sz e).toNat
def stN (e : ℕ) : ℕ := (I.st e).toNat
def grN (e : ℕ) : ℕ := (I.gr e).toNat
def koN (e : ℕ) : ℕ := (I.ko e).toNat
def nkN (e : ℕ) : ℕ := nk (I.szN e) (I.stN e)

theorem seg : ∀ e, e < 5 → Seg (I.sz e) (I.st e) (I.gr e) (I.ko e)
  | 0, _ => I.fit.seg0 | 1, _ => I.fit.seg1 | 2, _ => I.fit.seg2 | 3, _ => I.fit.seg3 | 4, _ => I.fit.seg4

theorem st_succ : ∀ e, e < 4 → I.stN (e + 1) = I.stN e + I.szN e
  | 0, _ => I.fit.at1.s | 1, _ => I.fit.at2.s.trans (by have := I.fit.at1.s; show _ = (s1 _).toNat + _; rw [this]; rfl)
  | 2, _ => I.fit.at3.s.trans (by have := I.fit.at2.s; show _ = (s2 _ _).toNat + _; rw [this]; rfl)
  | 3, _ => I.fit.at4.s.trans (by have := I.fit.at3.s; show _ = (s3 _ _ _).toNat + _; rw [this]; rfl)
theorem ko_succ : ∀ e, e < 4 → I.koN (e + 1) = I.koN e + 256 * I.nkN e
  | 0, _ => I.fit.at1.k.trans (by show _ = 0 + 256 * nk I.w0.toNat 0; omega)
  | 1, _ => I.fit.at2.k.trans (by
      have h1 := I.fit.at1.k; have h2 := I.fit.at1.s
      show _ = (k1 _).toNat + 256 * nk I.w1.toNat (s1 _).toNat; rw [h1, h2]; omega)
  | 2, _ => I.fit.at3.k.trans (by
      have h1 := I.fit.at2.k; have h2 := I.fit.at2.s
      show _ = (k2 _ _).toNat + 256 * nk I.w2.toNat (s2 _ _).toNat; rw [h1, h2]; omega)
  | 3, _ => I.fit.at4.k.trans (by
      have h1 := I.fit.at3.k; have h2 := I.fit.at3.s
      show _ = (k3 _ _ _).toNat + 256 * nk I.w3.toNat (s3 _ _ _).toNat; rw [h1, h2]; omega)

/-- The rows used, the columns used. -/
def tot : ℕ := I.stN 4 + I.szN 4
def cols : ℕ := I.koN 4 + 256 * I.nkN 4

theorem tot_le : I.tot ≤ 1536 := (I.seg 4 (by omega)).row

/-- The expert of a row, of a column. -/
def eR (r : ℕ) : ℕ := if r < I.stN 1 then 0 else if r < I.stN 2 then 1 else if r < I.stN 3 then 2 else if r < I.stN 4 then 3 else 4
def eC (p : ℕ) : ℕ := if p < I.koN 1 then 0 else if p < I.koN 2 then 1 else if p < I.koN 3 then 2 else if p < I.koN 4 then 3 else 4

theorem eR_eq {e : ℕ} (he : e < 5) {r : ℕ} (h : I.stN e ≤ r) (h' : r < I.stN e + I.szN e) : I.eR r = e := by
  have e0 := I.st_succ 0 (by omega); have e1 := I.st_succ 1 (by omega); have e2 := I.st_succ 2 (by omega); have e3 := I.st_succ 3 (by omega)
  have : e = 0 ∨ e = 1 ∨ e = 2 ∨ e = 3 ∨ e = 4 := by omega
  unfold eR
  rcases this with rfl | rfl | rfl | rfl | rfl <;> (simp only [Nat.zero_add, Nat.reduceAdd] at *; split_ifs <;> omega)
theorem eC_eq {e : ℕ} (he : e < 5) {p : ℕ} (h : I.koN e ≤ p) (h' : p < I.koN e + 256 * I.nkN e) : I.eC p = e := by
  have e0 := I.ko_succ 0 (by omega); have e1 := I.ko_succ 1 (by omega); have e2 := I.ko_succ 2 (by omega); have e3 := I.ko_succ 3 (by omega)
  have : e = 0 ∨ e = 1 ∨ e = 2 ∨ e = 3 ∨ e = 4 := by omega
  unfold eC
  rcases this with rfl | rfl | rfl | rfl | rfl <;> (simp only [Nat.zero_add, Nat.reduceAdd] at *; split_ifs <;> omega)

/-- Where each segment ends among all. -/
theorem st_le {e : ℕ} (he : e < 5) : I.stN e + I.szN e ≤ I.tot := by
  have e0 := I.st_succ 0 (by omega); have e1 := I.st_succ 1 (by omega); have e2 := I.st_succ 2 (by omega); have e3 := I.st_succ 3 (by omega)
  have : e = 0 ∨ e = 1 ∨ e = 2 ∨ e = 3 ∨ e = 4 := by omega
  unfold tot
  rcases this with rfl | rfl | rfl | rfl | rfl <;> simp only [Nat.zero_add, Nat.reduceAdd] at * <;> omega
theorem ko_le {e : ℕ} (he : e < 5) : I.koN e + 256 * I.nkN e ≤ I.cols := by
  have e0 := I.ko_succ 0 (by omega); have e1 := I.ko_succ 1 (by omega); have e2 := I.ko_succ 2 (by omega); have e3 := I.ko_succ 3 (by omega)
  have : e = 0 ∨ e = 1 ∨ e = 2 ∨ e = 3 ∨ e = 4 := by omega
  unfold cols
  rcases this with rfl | rfl | rfl | rfl | rfl <;> simp only [Nat.zero_add, Nat.reduceAdd] at * <;> omega

/-- The group of a row; the row of a column of the transposed copy, and whether it belongs to the column's segment. -/
def G (r : ℕ) : ℕ := I.grN (I.eR r) + (r - I.stN (I.eR r)) / 128
def Row (p : ℕ) : ℕ := I.stN (I.eC p) / 16 * 16 + (p - I.koN (I.eC p))
def In (p : ℕ) : Prop := I.stN (I.eC p) ≤ I.Row p ∧ I.Row p < I.stN (I.eC p) + I.szN (I.eC p)

theorem G_eq {e : ℕ} (he : e < 5) : ∀ r, I.stN e ≤ r → r < I.stN e + I.szN e → I.G r = I.grN e + (r - I.stN e) / 128 := by
  intro r h h'; unfold G; rw [I.eR_eq he h h']
theorem Row_eq {e : ℕ} (he : e < 5) : ∀ p, p < 256 * I.nkN e → I.Row (I.koN e + p) = I.stN e / 16 * 16 + p := by
  intro p hp; unfold Row; rw [I.eC_eq he (by omega) (by omega)]; congr 1; omega
theorem In_eq {e : ℕ} (he : e < 5) : ∀ p, p < 256 * I.nkN e → (I.In (I.koN e + p) ↔ I.stN e ≤ I.stN e / 16 * 16 + p ∧ I.stN e / 16 * 16 + p < I.stN e + I.szN e) := by
  intro p hp; unfold In; rw [I.Row_eq he p hp, I.eC_eq he (by omega) (by omega)]

/-- The transposed copy and a column block's scaled rows. -/
def X : S3072x2816.Idx → F .bf16 := XT I.x I.sx I.G I.Row I.In
def R (c : ℕ) : S1792x1024.Idx → F .bf16 := RY I.y I.sy I.G c

/-- The table of the segments: first row of the tiles, tiles, first column. -/
def TabOK (tb : S3x5.Idx → BitVec 32) : Prop :=
  ∀ e : Fin 5, (tb (ix2 0 e)).toNat = I.stN e / 16 * 16 ∧ (tb (ix2 1 e)).toNat = I.nkN e ∧ (tb (ix2 2 e)).toNat = I.koN e

/-- The experts without rows. -/
def emp (e : ℕ) : Prop := I.szN e = 0
open Classical in
/-- One where expert `e` has no rows. -/
def em (e : ℕ) : ℕ := if I.emp e then 1 else 0
def nE : ℕ := I.em 0 + I.em 1 + I.em 2 + I.em 3 + I.em 4
/-- The zero copies issued before step `n`. -/
def kz : ℕ → ℕ
  | 0 => 32 * I.nE
  | n + 1 => kz n + if 8 ≤ n / 5 then 4 * I.em (n % 5) else 0

theorem em_emp {e : ℕ} (h : I.emp e) : I.em e = 1 := if_pos h
theorem em_not {e : ℕ} (h : ¬ I.emp e) : I.em e = 0 := if_neg h
theorem kz_mono {n m : ℕ} (h : n ≤ m) : I.kz n ≤ I.kz m := by
  induction h with
  | refl => exact le_refl _
  | step _ ih => exact ih.trans (by simp only [kz]; exact Nat.le_add_right _ _)
theorem kz_block (b : ℕ) : I.kz (5 * b) = 32 * I.nE + 4 * I.nE * (b - 8) := by
  induction b with
  | zero => rfl
  | succ b ih =>
    have e : I.kz (5 * (b + 1)) = I.kz (5 * b) + (if 8 ≤ b then 4 * I.nE else 0) := by
      show I.kz (5 * b + 1 + 1 + 1 + 1 + 1) = _
      simp only [kz]
      rw [show (5 * b) / 5 = b by omega, show (5 * b + 1) / 5 = b by omega, show (5 * b + 1 + 1) / 5 = b by omega,
        show (5 * b + 1 + 1 + 1) / 5 = b by omega, show (5 * b + 1 + 1 + 1 + 1) / 5 = b by omega,
        show (5 * b) % 5 = 0 by omega, show (5 * b + 1) % 5 = 1 by omega, show (5 * b + 1 + 1) % 5 = 2 by omega,
        show (5 * b + 1 + 1 + 1) % 5 = 3 by omega, show (5 * b + 1 + 1 + 1 + 1) % 5 = 4 by omega]
      unfold nE
      split_ifs <;> omega
    rw [e, ih]
    by_cases h : 8 ≤ b
    · rw [if_pos h, show b + 1 - 8 = (b - 8) + 1 by omega, Nat.mul_add]; omega
    · rw [if_neg h, show b - 8 = 0 by omega, show b + 1 - 8 = 0 by omega]; rfl
theorem kz_all : I.kz 120 = 96 * I.nE := by
  have := I.kz_block 24; rw [show 5 * 24 = 120 from rfl] at this; rw [this]; omega

/-- What an element of a tile may hold. -/
def OKt (i : S5x3072x8192.Idx) (v : F .f32) : Prop :=
  ∃ (g : S3072x2816.Idx → F .bf16) (f : S1792x1024.Idx → F .bf16),
    XtUpto I.cols 3 0 I.X g ∧ RowsUpto I.tot (I.R ((i 2).val / 1024)) f ∧
    v = acc g f ((i 1).val / 1024) (I.koN (i 0).val) (I.stN (i 0).val / 16 * 16) (I.nkN (i 0).val) (I.nkN (i 0).val - 3)
      (ix3 0 (fin 1024 ((i 1).val % 1024)) (fin 1024 ((i 2).val % 1024)))

/-- The step that computes an element's tile; the step whose zero copies reach it. -/
def stp (i : S5x3072x8192.Idx) : ℕ := (i 2).val / 1024 * 15 + (i 1).val / 1024 * 5 + (i 0).val
def bnd (i : S5x3072x8192.Idx) : ℕ := (i 1).val / 128 * 5 + (i 0).val
def Pt (n : ℕ) (i : S5x3072x8192.Idx) : Prop := ¬ I.emp (i 0).val ∧ stp i < n
def Tt (n : ℕ) (i : S5x3072x8192.Idx) : Prop := ¬ I.emp (i 0).val ∧ n ≤ stp i
/-- The zeros issued before step `n` and, in it, `k` copies. -/
def Pz (n k : ℕ) (i : S5x3072x8192.Idx) : Prop :=
  I.emp (i 0).val ∧ ((i 1).val < 1024 ∨ bnd i < n ∨ bnd i = n ∧ (i 1).val / 32 % 4 < k)
def Tz (n k : ℕ) (i : S5x3072x8192.Idx) : Prop :=
  I.emp (i 0).val ∧ 1024 ≤ (i 1).val ∧ (n < bnd i ∨ bnd i = n ∧ k ≤ (i 1).val / 32 % 4)
/-- Before the steps: the bands of the experts below `E`, and `t` whole bands and `k` copies of expert `E`. -/
def Pz1 (E t k : ℕ) (i : S5x3072x8192.Idx) : Prop :=
  I.emp (i 0).val ∧ (i 1).val < 1024 ∧ ((i 0).val < E ∨ (i 0).val = E ∧ (i 1).val / 32 < 4 * t + k)
def Tz1 (E t k : ℕ) (i : S5x3072x8192.Idx) : Prop :=
  I.emp (i 0).val ∧ (1024 ≤ (i 1).val ∨ E < (i 0).val ∨ (i 0).val = E ∧ 4 * t + k ≤ (i 1).val / 32)

end Ins

theorem inBand_iff {e r : ℕ} {off : Fin 3 → ℕ} (ho : off = ![e, r * 32, 0]) (i : S5x3072x8192.Idx) :
    inBand off i ↔ (i 0).val = e ∧ (i 1).val / 32 = r := by
  subst ho
  unfold inBand
  have h2 : (i 2).val < 8192 := (i 2).isLt
  constructor
  · intro h
    have a0 : e ≤ (i 0).val ∧ (i 0).val < e + 1 := h 0
    have a1 : r * 32 ≤ (i 1).val ∧ (i 1).val < r * 32 + 32 := h 1
    omega
  · rintro ⟨h0, h1⟩ a
    fin_cases a
    · show e ≤ (i 0).val ∧ (i 0).val < e + 1; omega
    · show r * 32 ≤ (i 1).val ∧ (i 1).val < r * 32 + 32; omega
    · show 0 ≤ (i 2).val ∧ (i 2).val < 0 + 8192; omega

end Cert.Kernel
-- ==== Proof.Trip.lean ====
/- One step of a column block: an empty expert's zero band, or one tile. -/
module

public import proofs.«01_k».proof.Proof.Plan

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- What a step holds: the slots, the output's elements, the zero copies, the operands of a tile. -/
def SS (c : Dev nD) (I : Ins F) (tb : S3x5.Idx → BitVec 32) (g : S3072x2816.Idx → F .bf16) (f : S1792x1024.Idx → F .bf16) (n : ℕ) (a : BitVec 32) : sProp (MM F) :=
  iprop(Slots I.OKt c (fun q => decide (q.val < a.toNat)) (I.Pt n) ∗ Todo c (I.Tt n) ∗ ZSt c (I.kz 120) (I.kz n) (I.Pz n 0) (I.Tz n 0) ∗
    (∃ W', owes (c : Thread nD τ) 0 W') ∗ pts (F := F) c mTab tb ∗ pts c mXt g ∗ pts c mRows f)

theorem band_toNat (j : Fin k0_t66_loop.trips) (T : Fin k0_t77_loop.trips) :
    (Scalar.addi (Scalar.muli (Scf.iv 0#32 1#32 j) 3#32) (fdivW (Scf.iv 0#32 1#32 T) 5#32)).toNat = 3 * j.val + T.val / 5 := by
  have hj : j.val < 8 := j.isLt
  have hT : T.val < 15 := T.isLt
  have e : (fdivW (Scf.iv 0#32 1#32 T) 5#32).toNat = T.val / 5 := by
    rw [show fdivW (Scf.iv 0#32 1#32 T) 5#32 = fdivW (Scf.iv 0#32 1#32 T) (BitVec.ofNat 32 5) from rfl,
      fdivW_toNat (by rw [iv_toNat (by omega)]; omega) 5 (by omega) (by omega), iv_toNat (by omega)]
  have e3 : (3#32 : BitVec 32).toNat = 3 := rfl
  have e2 : (Scalar.muli (Scf.iv 0#32 1#32 j) 3#32).toNat = j.val * 3 := by
    rw [toNat_muli (by rw [iv_toNat (by omega), e3]; omega), iv_toNat (by omega), e3]
  rw [toNat_addi (by omega), e, e2]; omega

theorem off195_eq (j : Fin k0_t66_loop.trips) (T : Fin k0_t77_loop.trips) (k : ℕ) (hk : k < 4) :
    k0_off195 j T (BitVec.ofNat 32 k) = ![T.val % 5, ((3 * j.val + T.val / 5) * 4 + k) * 32, 0] := by
  have hj : j.val < 8 := j.isLt
  have hT : T.val < 15 := T.isLt
  have eb := band_toNat j T
  have e4 : (4#32 : BitVec 32).toNat = 4 := rfl
  have e32 : (32#32 : BitVec 32).toNat = 32 := rfl
  have ek : (BitVec.ofNat 32 k).toNat = k := by rw [BitVec.toNat_ofNat]; omega
  have e2 : (Scalar.muli (Scalar.addi (Scalar.muli (Scf.iv 0#32 1#32 j) 3#32) (fdivW (Scf.iv 0#32 1#32 T) 5#32)) 4#32).toNat = (3 * j.val + T.val / 5) * 4 := by
    rw [toNat_muli (by rw [eb, e4]; omega), eb, e4]
  have e3 : (Scalar.addi (Scalar.muli (Scalar.addi (Scalar.muli (Scf.iv 0#32 1#32 j) 3#32) (fdivW (Scf.iv 0#32 1#32 T) 5#32)) 4#32) (BitVec.ofNat 32 k)).toNat
      = (3 * j.val + T.val / 5) * 4 + k := by
    rw [toNat_addi (by omega), e2, ek]
  have e5 : (Scalar.muli (Scalar.addi (Scalar.muli (Scalar.addi (Scalar.muli (Scf.iv 0#32 1#32 j) 3#32) (fdivW (Scf.iv 0#32 1#32 T) 5#32)) 4#32) (BitVec.ofNat 32 k)) 32#32).toNat
      = ((3 * j.val + T.val / 5) * 4 + k) * 32 := by
    rw [toNat_muli (by rw [e3, e32]; omega), e3, e32]
  show ![(Scalar.remsi (Scf.iv 0#32 1#32 T) 5#32).toNat, (Scalar.muli (Scalar.addi (Scalar.muli (Scalar.addi (Scalar.muli (Scf.iv 0#32 1#32 j) 3#32) (fdivW (Scf.iv 0#32 1#32 T) 5#32)) 4#32) (BitVec.ofNat 32 k)) 32#32).toNat, 0] = _
  rw [exp_toNat hT, e5]

theorem off216_eq (j : Fin k0_t66_loop.trips) (T : Fin k0_t77_loop.trips) : k0_off216 j T = ![T.val % 5, T.val / 5 * 1024, j.val * 1024] := by
  have hj : j.val < 8 := j.isLt
  have hT : T.val < 15 := T.isLt
  have e1 : (1024#32 : BitVec 32).toNat = 1024 := rfl
  have e2 : (Scalar.muli (Scf.iv 0#32 1#32 j) 1024#32).toNat = j.val * 1024 := by
    rw [toNat_muli (by rw [iv_toNat (by omega), e1]; omega), iv_toNat (by omega), e1]
  show ![(Scalar.remsi (Scf.iv 0#32 1#32 T) 5#32).toNat, (blkW T).toNat, (Scalar.muli (Scf.iv 0#32 1#32 j) 1024#32).toNat] = _
  rw [exp_toNat hT, blkW_toNat hT, e2]

theorem cond_zero {n : BitVec 32} (j : Fin k0_t66_loop.trips) (T : Fin k0_t77_loop.trips) :
    Scalar.cmpi .ne (Scalar.extui (Scalar.andi (Scalar.cmpi .eq n 0#32)
      (Scalar.cmpi .sge (Scalar.addi (Scalar.muli (Scf.iv 0#32 1#32 j) 3#32) (fdivW (Scf.iv 0#32 1#32 T) 5#32)) 8#32)) : BitVec 32) 0#32 = 1#1
      ↔ n.toNat = 0 ∧ 8 ≤ 3 * j.val + T.val / 5 := by
  have eb := band_toNat j T
  have hj : j.val < 8 := j.isLt
  have hT : T.val < 15 := T.isLt
  refine (guard_ne _).trans (IntOp.andi_eq_one.trans ?_)
  have h1 := cmpi_eq_nat (n := n) 0 (by omega)
  have h2 := cmpi_sge_nat (n := Scalar.addi (Scalar.muli (Scf.iv 0#32 1#32 j) 3#32) (fdivW (Scf.iv 0#32 1#32 T) 5#32)) (by omega) 8 (by omega)
  exact (and_congr h1 h2).trans (by rw [eb])

theorem count_toNat {a n : BitVec 32} (ha : a.toNat < 1000) (hn : n.toNat ≤ 64) :
    (Scalar.addi a (Scalar.extui (Scalar.cmpi .sgt n 0#32) : BitVec 32)).toNat = a.toNat + if 0 < n.toNat then 1 else 0 := by
  have h := sgt_zero (x := n) (by omega)
  split_ifs with h0
  · have e : (Scalar.cmpi .sgt n 0#32) = 1#1 := h.2 h0
    rw [e, toNat_addi (by show a.toNat + 1 < _; omega)]; rfl
  · have e : (Scalar.cmpi .sgt n 0#32) = 0#1 := by
      have := mt h.1 h0
      revert this; generalize (Scalar.cmpi .sgt n 0#32 : BitVec 1) = b; revert b; decide
    rw [e, toNat_addi (by show a.toNat + 0 < _; omega)]; rfl

namespace Ins
variable (I : Ins F)

theorem bnd_iff {n : ℕ} (i : S5x3072x8192.Idx) : bnd i = n ↔ (i 0).val = n % 5 ∧ (i 1).val / 128 = n / 5 := by
  have h0 : (i 0).val < 5 := (i 0).isLt
  unfold bnd; omega

theorem Pz_in {n k : ℕ} (he : I.emp (n % 5)) (hb : 8 ≤ n / 5) (hk : k < 4) (i : S5x3072x8192.Idx) :
    I.Pz n (k + 1) i ↔ I.Pz n k i ∨ ((i 0).val = n % 5 ∧ (i 1).val / 32 = n / 5 * 4 + k) := by
  have h0 : (i 0).val < 5 := (i 0).isLt
  unfold Pz bnd
  by_cases h : I.emp (i 0).val
  · simp only [h, _root_.true_and]; omega
  · have : (i 0).val ≠ n % 5 := fun e => h (e ▸ he)
    simp only [h, _root_.false_and, _root_.false_or]
    exact ⟨False.elim, fun e => this e.1⟩
theorem Tz_in {n k : ℕ} (he : I.emp (n % 5)) (hb : 8 ≤ n / 5) (hk : k < 4) (i : S5x3072x8192.Idx) :
    I.Tz n (k + 1) i ↔ I.Tz n k i ∧ ¬ ((i 0).val = n % 5 ∧ (i 1).val / 32 = n / 5 * 4 + k) := by
  have h0 : (i 0).val < 5 := (i 0).isLt
  unfold Tz bnd
  by_cases h : I.emp (i 0).val
  · simp only [h, _root_.true_and]; omega
  · simp only [h, _root_.false_and]
theorem Tz_of {n k : ℕ} (he : I.emp (n % 5)) (hb : 8 ≤ n / 5) (hk : k < 4) (i : S5x3072x8192.Idx)
    (h : (i 0).val = n % 5 ∧ (i 1).val / 32 = n / 5 * 4 + k) : I.Tz n k i := by
  have h0 : (i 0).val < 5 := (i 0).isLt
  unfold Tz bnd
  exact ⟨h.1 ▸ he, by omega, by omega⟩
theorem Pz_not {n k : ℕ} (hb : 8 ≤ n / 5) (hk : k < 4) (i : S5x3072x8192.Idx) (h : I.Pz n k i) :
    ¬ ((i 0).val = n % 5 ∧ (i 1).val / 32 = n / 5 * 4 + k) := by
  have h2 := h.2
  have h0 : (i 0).val < 5 := (i 0).isLt
  unfold bnd at h2; omega
theorem Pz_next (n : ℕ) (i : S5x3072x8192.Idx) : I.Pz n 4 i ↔ I.Pz (n + 1) 0 i := by
  unfold Pz; refine and_congr_right fun _ => ?_; omega
theorem Tz_next (n : ℕ) (i : S5x3072x8192.Idx) : I.Tz n 4 i ↔ I.Tz (n + 1) 0 i := by
  unfold Tz; refine and_congr_right fun _ => ?_; omega
theorem Pz_skip {n : ℕ} (h : ¬ (I.emp (n % 5) ∧ 8 ≤ n / 5)) (i : S5x3072x8192.Idx) : I.Pz n 0 i ↔ I.Pz (n + 1) 0 i := by
  unfold Pz; refine and_congr_right fun he => ?_
  have h0 : (i 0).val < 5 := (i 0).isLt
  have : bnd i = n → n / 5 < 8 := fun e => by
    by_contra hc
    exact h ⟨((bnd_iff i).1 e).1 ▸ he, by omega⟩
  unfold bnd at *; omega
theorem Tz_skip {n : ℕ} (h : ¬ (I.emp (n % 5) ∧ 8 ≤ n / 5)) (i : S5x3072x8192.Idx) : I.Tz n 0 i ↔ I.Tz (n + 1) 0 i := by
  unfold Tz; refine and_congr_right fun he => ?_
  have h0 : (i 0).val < 5 := (i 0).isLt
  have : bnd i = n → n / 5 < 8 := fun e => by
    by_contra hc
    exact h ⟨((bnd_iff i).1 e).1 ▸ he, by omega⟩
  unfold bnd at *; omega
theorem kz_in {n : ℕ} (he : I.emp (n % 5)) (hb : 8 ≤ n / 5) : I.kz (n + 1) = I.kz n + 4 := by
  show I.kz n + (if 8 ≤ n / 5 then 4 * I.em (n % 5) else 0) = _
  rw [if_pos hb, I.em_emp he]
theorem kz_skip {n : ℕ} (h : ¬ (I.emp (n % 5) ∧ 8 ≤ n / 5)) : I.kz n = I.kz (n + 1) := by
  show _ = I.kz n + (if 8 ≤ n / 5 then 4 * I.em (n % 5) else 0)
  split_ifs with hb
  · rw [I.em_not fun he => h ⟨he, hb⟩]; rfl
  · rfl
theorem stp_iff {n : ℕ} (i : S5x3072x8192.Idx) : stp i = n ↔ (i 0).val = n % 5 ∧ (i 1).val / 1024 = n / 5 % 3 ∧ (i 2).val / 1024 = n / 15 := by
  have h0 : (i 0).val < 5 := (i 0).isLt
  have h1 : (i 1).val < 3072 := (i 1).isLt
  unfold stp; omega
theorem Pt_skip {n : ℕ} (h : I.emp (n % 5)) (i : S5x3072x8192.Idx) : I.Pt n i ↔ I.Pt (n + 1) i := by
  unfold Pt; refine and_congr_right fun he => ?_
  have : stp i ≠ n := fun e => he (((stp_iff i).1 e).1 ▸ h)
  omega
theorem Tt_skip {n : ℕ} (h : I.emp (n % 5)) (i : S5x3072x8192.Idx) : I.Tt n i ↔ I.Tt (n + 1) i := by
  unfold Tt; refine and_congr_right fun he => ?_
  have : stp i ≠ n := fun e => he (((stp_iff i).1 e).1 ▸ h)
  omega
theorem Pt_in {n : ℕ} (h : ¬ I.emp (n % 5)) (i : S5x3072x8192.Idx) : I.Pt (n + 1) i ↔ I.Pt n i ∨ stp i = n := by
  unfold Pt
  by_cases he : I.emp (i 0).val
  · have : stp i ≠ n := fun e => h (((stp_iff i).1 e).1 ▸ he)
    simp only [he, not_true, _root_.false_and, _root_.false_or]
    exact ⟨False.elim, this⟩
  · simp only [he, not_false_iff, _root_.true_and]; omega
theorem Tt_in {n : ℕ} (i : S5x3072x8192.Idx) : I.Tt (n + 1) i ↔ I.Tt n i ∧ ¬ stp i = n := by
  unfold Tt
  by_cases he : I.emp (i 0).val
  · simp only [he, not_true, _root_.false_and]
  · simp only [he, not_false_iff, _root_.true_and]; omega
theorem Tt_of {n : ℕ} (h : ¬ I.emp (n % 5)) (i : S5x3072x8192.Idx) (e : stp i = n) : I.Tt n i :=
  ⟨fun he => h (((stp_iff i).1 e).1 ▸ he), e.ge⟩
theorem Pt_not {n : ℕ} (i : S5x3072x8192.Idx) (h : I.Pt n i) : ¬ stp i = n := fun e => absurd h.2 (by omega)

end Ins

theorem wp_pure_intro (c : Dev nD) {α : Type} {v : α} {Q : α → sProp (MM F)} : Q v ⊢ W c (Pure.pure v) Q := by
  show Q v ⊢ W c (.ret v) Q
  unfold W
  rw [wp_ret]
  exact BI.fupd_intro

set_option maxHeartbeats 4000000 in
/-- One step. -/
theorem step_trip (c : Dev nD) (I : Ins F) (tb : S3x5.Idx → BitVec 32) (htb : I.TabOK tb) (g : S3072x2816.Idx → F .bf16) (f : S1792x1024.Idx → F .bf16)
    (j : Fin k0_t66_loop.trips) (T : Fin k0_t77_loop.trips) (a : BitVec 32) (ha : a.toNat ≤ 15 * j.val + T.val)
    (hg : XtUpto I.cols 3 0 I.X g) (hf : RowsUpto I.tot (I.R j.val) f)
    (v27 : Elt F .i32) (k0_hw1 : k0_chk1 v27) (v28 : BitVec 32) (v65 : BitVec 32) (v90 : BitVec 32) (v96 : Elt F .i32) (k0_hw2 : k0_chk2 v27 v96) (v97 : BitVec 32) (v134 : BitVec 32) (v159 : BitVec 32) (v165 : Elt F .i32) (k0_hw3 : k0_chk3 v27 v96 v165) (v166 : BitVec 32) (v203 : BitVec 32) (v228 : BitVec 32) (v230 : BitVec 32) (v234 : Elt F .i32) (k0_hw4 : k0_chk4 v27 v96 v165 v234) (v235 : BitVec 32) (v254 : BitVec 32) (v272 : BitVec 32) (v297 : BitVec 32) (v299 : BitVec 32) (v303 : Elt F .i32) (k0_hw5 : k0_chk5 v27 v96 v165 v234 v303) (v304 : BitVec 32) (v323 : BitVec 32) (v341 : BitVec 32) (v362 : BitVec 32) (v641 : BitVec 32) (c1_i32_508 : BitVec 32) :
    SS c I tb g f (15 * j.val + T.val) a ⊢ W c (Gen.k0_t77_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 k0_hw1 v28 v65 v90 v96 k0_hw2 v97 v134 v159 v165 k0_hw3 v166 v203 v228 v230 v234 k0_hw4 v235 v254 v272 v297 v299 v303 k0_hw5 v304 v323 v341 v362 v641 c1_i32_508 j (Scf.iv 0#32 1#32 j) T a)
      (fun r => iprop(⌜r.toNat ≤ 15 * j.val + T.val + 1⌝ ∗ SS c I tb g f (15 * j.val + T.val + 1) r)) := by
  have hj : j.val < 8 := j.isLt
  have hT : T.val < 15 := T.isLt
  have hE : T.val % 5 < 5 := Nat.mod_lt _ (by omega)
  have hn5 : (15 * j.val + T.val) % 5 = T.val % 5 := by omega
  have hd5 : (15 * j.val + T.val) / 5 = 3 * j.val + T.val / 5 := by omega
  obtain ⟨t0, t1, t2⟩ := htb ⟨T.val % 5, hE⟩
  have hs := I.seg _ hE
  have ha' : a.toNat < 2 ^ 31 := by omega
  have hnk := nk_le (I.szN (T.val % 5)) (I.stN (T.val % 5))
  have hrow : I.stN (T.val % 5) + I.szN (T.val % 5) ≤ 1536 := hs.row
  have hn10 : (tb (ix2 1 ⟨T.val % 5, hE⟩)).toNat ≤ 10 := by rw [t1]; show nk (I.szN (T.val % 5)) (I.stN (T.val % 5)) ≤ 10; omega
  have hempN : I.emp (T.val % 5) ↔ (tb (ix2 1 ⟨T.val % 5, hE⟩)).toNat = 0 := by
    have := nk_pos (v := I.szN (T.val % 5)) (s := I.stN (T.val % 5))
    rw [t1]; show I.szN (T.val % 5) = 0 ↔ nk (I.szN (T.val % 5)) (I.stN (T.val % 5)) = 0; omega
  have hcnt := count_toNat (a := a) (n := tb (ix2 1 ⟨T.val % 5, hE⟩)) (by omega) (by omega)
  have hcz := cond_zero (n := tb (ix2 1 ⟨T.val % 5, hE⟩)) j T
  unfold fdivW at hcz
  unfold Gen.k0_t77_body
  simp only [bind_assoc, pure_bind, Prog.bind_lift, Prog.bind_op]
  unfold SS
  iintro ⟨HS, HT, HZ, HO, Htab, Hx, Hr⟩
  iapply (tab_load c tb 1 ⟨T.val % 5, hE⟩ (off194_eq T))
  isplitl [Htab]; · iexact Htab
  iintro Htab
  iapply (wp_assume 𝒱₀ (c : Thread nD τ) none Set.univ (chk6 ha' (by omega)))
  by_cases h0 : (tb (ix2 1 ⟨T.val % 5, hE⟩)).toNat = 0
  · have hemp : I.emp ((15 * j.val + T.val) % 5) := by rw [hn5]; exact hempN.2 h0
    have h8 : ¬ k0_cond8 (tb (ix2 1 ⟨T.val % 5, hE⟩)) = 1#1 := by rw [cond8_iff (by omega)]; omega
    have hcnt' : (Scalar.addi a (Scalar.extui (Scalar.cmpi .sgt (tb (ix2 1 ⟨T.val % 5, hE⟩)) 0#32) : BitVec 32)) = a := by
      apply BitVec.eq_of_toNat_eq; rw [hcnt, if_neg (by omega)]; rfl
    by_cases hb : 8 ≤ 3 * j.val + T.val / 5
    · have hc := hcz.2 ⟨h0, hb⟩
      have hb' : 8 ≤ (15 * j.val + T.val) / 5 := by omega
      have hk4 := I.kz_in hemp hb'
      have hkm := I.kz_mono (n := 15 * j.val + T.val + 1) (m := 120) (by omega)
      have hin : ∀ k, k < 4 → ∀ i, inBand (k0_off195 j T (BitVec.ofNat 32 k)) i ↔ (i 0).val = (15 * j.val + T.val) % 5 ∧ (i 1).val / 32 = (15 * j.val + T.val) / 5 * 4 + k := by
        intro k hk i; rw [hn5, hd5]; exact inBand_iff (off195_eq j T k hk) i
      have z0 := fun k (hk : k < 4) i (h : inBand (k0_off195 j T (BitVec.ofNat 32 k)) i) => I.Tz_of hemp hb' hk i ((hin k hk i).1 h)
      have z1 := fun k (hk : k < 4) i (h : I.Pz (15 * j.val + T.val) k i) (h' : inBand (k0_off195 j T (BitVec.ofNat 32 k)) i) => I.Pz_not hb' hk i h ((hin k hk i).1 h')
      have z2 := fun k (hk : k < 4) i => (I.Pz_in hemp hb' hk i).trans (or_congr_right (hin k hk i).symm)
      have z3 := fun k (hk : k < 4) i => (I.Tz_in hemp hb' hk i).trans (and_congr_right fun _ => not_congr (hin k hk i).symm)
      simp only [if_pos hc, dif_neg h8, bind_assoc, pure_bind, Prog.bind_lift, Prog.bind_op]
      iapply (zero_copy c (m := I.kz 120) (k := I.kz (15 * j.val + T.val)) (k0_off195 j T 0#32) _ (P' := I.Pz (15 * j.val + T.val) 1) (T' := I.Tz (15 * j.val + T.val) 1) (by omega) (z0 0 (by omega)) (z1 0 (by omega)) (z2 0 (by omega)) (z3 0 (by omega)))
      isplitl [HZ]; · iexact HZ
      iintro HZ
      iapply (zero_copy c (m := I.kz 120) (k := I.kz (15 * j.val + T.val) + 1) (k0_off195 j T 1#32) _ (P' := I.Pz (15 * j.val + T.val) 2) (T' := I.Tz (15 * j.val + T.val) 2) (by omega) (z0 1 (by omega)) (z1 1 (by omega)) (z2 1 (by omega)) (z3 1 (by omega)))
      isplitl [HZ]; · iexact HZ
      iintro HZ
      iapply (zero_copy c (m := I.kz 120) (k := I.kz (15 * j.val + T.val) + 1 + 1) (k0_off195 j T 2#32) _ (P' := I.Pz (15 * j.val + T.val) 3) (T' := I.Tz (15 * j.val + T.val) 3) (by omega) (z0 2 (by omega)) (z1 2 (by omega)) (z2 2 (by omega)) (z3 2 (by omega)))
      isplitl [HZ]; · iexact HZ
      iintro HZ
      iapply (zero_copy c (m := I.kz 120) (k := I.kz (15 * j.val + T.val) + 1 + 1 + 1) (k0_off195 j T 3#32) _ (P' := I.Pz (15 * j.val + T.val) 4) (T' := I.Tz (15 * j.val + T.val) 4) (by omega) (z0 3 (by omega)) (z1 3 (by omega)) (z2 3 (by omega)) (z3 3 (by omega)))
      isplitl [HZ]; · iexact HZ
      iintro HZ
      iapply (wp_pure_intro c)
      rw [hcnt']
      isplitr; · ipureintro; omega
      rw [← show I.Pt (15 * j.val + T.val) = I.Pt (15 * j.val + T.val + 1) from funext fun i => propext (I.Pt_skip hemp i),
        ← show I.Tt (15 * j.val + T.val) = I.Tt (15 * j.val + T.val + 1) from funext fun i => propext (I.Tt_skip hemp i),
        ← show I.Pz (15 * j.val + T.val) 4 = I.Pz (15 * j.val + T.val + 1) 0 from funext fun i => propext (I.Pz_next _ i),
        ← show I.Tz (15 * j.val + T.val) 4 = I.Tz (15 * j.val + T.val + 1) 0 from funext fun i => propext (I.Tz_next _ i), hk4]
      isplitl [HS]; · iexact HS
      isplitl [HT]; · iexact HT
      isplitl [HZ]; · iexact HZ
      isplitl [HO]; · iexact HO
      isplitl [Htab]; · iexact Htab
      isplitl [Hx] <;> iassumption
    · have hc := mt hcz.1 (fun h => hb h.2)
      have hskip : ¬ (I.emp ((15 * j.val + T.val) % 5) ∧ 8 ≤ (15 * j.val + T.val) / 5) := fun h => hb (hd5 ▸ h.2)
      simp only [if_neg hc, dif_neg h8, bind_assoc, pure_bind, Prog.bind_lift, Prog.bind_op]
      iapply (wp_pure_intro c)
      rw [hcnt']
      isplitr; · ipureintro; omega
      rw [← show I.Pt (15 * j.val + T.val) = I.Pt (15 * j.val + T.val + 1) from funext fun i => propext (I.Pt_skip hemp i),
        ← show I.Tt (15 * j.val + T.val) = I.Tt (15 * j.val + T.val + 1) from funext fun i => propext (I.Tt_skip hemp i),
        ← show I.Pz (15 * j.val + T.val) 0 = I.Pz (15 * j.val + T.val + 1) 0 from funext fun i => propext (I.Pz_skip hskip i),
        ← show I.Tz (15 * j.val + T.val) 0 = I.Tz (15 * j.val + T.val + 1) 0 from funext fun i => propext (I.Tz_skip hskip i), ← I.kz_skip hskip]
      isplitl [HS]; · iexact HS
      isplitl [HT]; · iexact HT
      isplitl [HZ]; · iexact HZ
      isplitl [HO]; · iexact HO
      isplitl [Htab]; · iexact Htab
      isplitl [Hx] <;> iassumption
  · have hemp : ¬ I.emp ((15 * j.val + T.val) % 5) := by rw [hn5]; exact mt hempN.1 h0
    have h8 : k0_cond8 (tb (ix2 1 ⟨T.val % 5, hE⟩)) = 1#1 := by rw [cond8_iff (by omega)]; omega
    have hcnt' : (Scalar.addi a (Scalar.extui (Scalar.cmpi .sgt (tb (ix2 1 ⟨T.val % 5, hE⟩)) 0#32) : BitVec 32)).toNat = a.toNat + 1 := by
      rw [hcnt, if_pos (by omega)]
    have hc := mt hcz.1 (fun h => h0 h.1)
    have hskip : ¬ (I.emp ((15 * j.val + T.val) % 5) ∧ 8 ≤ (15 * j.val + T.val) / 5) := fun h => hemp h.1
    simp only [if_neg hc, dif_pos h8, bind_assoc, pure_bind, Prog.bind_lift, Prog.bind_op]
    have hlt4 : a.toNat % 4 < 4 := Nat.mod_lt _ (by omega)
    have hb4 : ∀ r : Fin 4, r ≠ ⟨a.toNat % 4, by omega⟩ → decide (r.val < a.toNat + 1) = decide (r.val < a.toNat) := by
      intro r hr
      have hr4 := r.isLt
      have hne : r.val ≠ a.toNat % 4 := fun e => hr (Fin.ext e)
      by_cases h : r.val < a.toNat
      · rw [decide_eq_true h, decide_eq_true (by omega)]
      · rw [decide_eq_false h, decide_eq_false (by omega)]
    have hq4 : decide (a.toNat % 4 < a.toNat + 1) = true := decide_eq_true (by omega)
    have hsl : (![(slotO a).toNat, 0, 0] : Fin 3 → ℕ) = ![a.toNat % 4, 0, 0] := by rw [slotO_toNat ha']
    have hinR : ∀ i : S5x3072x8192.Idx, Ins.stp i = 15 * j.val + T.val ↔ ∀ x, k0_off216 j T x ≤ (i x).val ∧ (i x).val < k0_off216 j T x + S1x1024x1024.size x := by
      intro i
      rw [Ins.stp_iff, off216_eq]
      constructor
      · rintro ⟨h0, h1, h2⟩ x
        fin_cases x
        · show T.val % 5 ≤ (i 0).val ∧ (i 0).val < T.val % 5 + 1; omega
        · show T.val / 5 * 1024 ≤ (i 1).val ∧ (i 1).val < T.val / 5 * 1024 + 1024; omega
        · show j.val * 1024 ≤ (i 2).val ∧ (i 2).val < j.val * 1024 + 1024; omega
      · intro h
        have a0 : T.val % 5 ≤ (i 0).val ∧ (i 0).val < T.val % 5 + 1 := h 0
        have a1 : T.val / 5 * 1024 ≤ (i 1).val ∧ (i 1).val < T.val / 5 * 1024 + 1024 := h 1
        have a2 : j.val * 1024 ≤ (i 2).val ∧ (i 2).val < j.val * 1024 + 1024 := h 2
        omega
    have hOKt : ∀ (z : S1x1024x1024.Idx) (i : S5x3072x8192.Idx), (∀ x, (i x).val = k0_off216 j T x + (z x).val) →
        I.OKt i (acc g f (T.val / 5) (I.koN (T.val % 5)) (I.stN (T.val % 5) / 16 * 16) (I.nkN (T.val % 5)) (I.nkN (T.val % 5) - 3) z) := by
      intro z i h
      rw [off216_eq] at h
      have a0 : (i 0).val = T.val % 5 + (z 0).val := h 0
      have a1 : (i 1).val = T.val / 5 * 1024 + (z 1).val := h 1
      have a2 : (i 2).val = j.val * 1024 + (z 2).val := h 2
      have z0 : (z 0).val < 1 := (z 0).isLt
      have z1 : (z 1).val < 1024 := (z 1).isLt
      have z2 : (z 2).val < 1024 := (z 2).isLt
      have e0 : (i 0).val = T.val % 5 := by omega
      have e1 : (i 1).val / 1024 = T.val / 5 := by omega
      have e2 : (i 2).val / 1024 = j.val := by omega
      refine ⟨g, f, hg, by rw [e2]; exact hf, ?_⟩
      rw [e0, e1]
      congr 1
      funext x
      fin_cases x
      · exact Fin.ext (by show (z 0).val = 0; omega)
      · exact Fin.ext (by show (z 1).val = (i 1).val % 1024 % 1024; omega)
      · exact Fin.ext (by show (z 2).val = (i 2).val % 1024 % 1024; omega)
    icases HO with ⟨%W0, HO⟩
    ihave HS2 := (slots_open I.OKt c ⟨a.toNat % 4, by omega⟩ (fun q => decide (q.val < a.toNat)) (I.Pt (15 * j.val + T.val))) $$ HS
    icases HS2 with ⟨%D, HS, HB⟩
    have hdec : decide (a.toNat % 4 < a.toNat) = decide (4 ≤ a.toNat) := by
      by_cases h : 4 ≤ a.toNat
      · rw [decide_eq_true h, decide_eq_true (by omega)]
      · rw [decide_eq_false h, decide_eq_false (by omega)]
    have hko := t2; have hlo := t0
    have hkr : I.koN (T.val % 5) + 256 * I.nkN (T.val % 5) ≤ 2816 := hs.col
    have hlr := nk_row (I.szN (T.val % 5)) (I.stN (T.val % 5))
    ihave HS3 := (Entails.of_eq (congrArg (fun b => SlotSt c ⟨a.toNat % 4, hlt4⟩ b D) hdec)) $$ HS
    rw [k0_part41_eq_skeleton]
    iapply (tile_sum c (n := tb (ix2 1 ⟨T.val % 5, hE⟩)) (lo := tb (ix2 0 ⟨T.val % 5, hE⟩)) (ko := tb (ix2 2 ⟨T.val % 5, hE⟩)) ha' (by omega) hn10 (by rw [t1, t2]; exact hkr) (by rw [t0, t1]; show I.stN (T.val % 5) / 16 * 16 + 256 * nk (I.szN (T.val % 5)) (I.stN (T.val % 5)) ≤ 1792; omega)
      (by rw [t2]; exact hs.dvd) (by rw [t0]; exact Dvd.intro_left _ rfl) T tb rfl rfl g f D _ _ _ _ h8)
    isplitl [HS3]; · iexact HS3
    isplitl [HO]; · iexact HO
    isplitl [Htab]; · iexact Htab
    isplitl [Hx]; · iexact Hx
    isplitl [Hr]; · iexact Hr
    iintro ⟨⟨%d, %hd, Hob⟩, Hv, HD, HO, Htab, Hx, Hr⟩
    rw [t0, t1, t2] at hd
    iapply (tile_copy I.OKt c ⟨a.toNat % 4, by omega⟩ (fun q => decide (q.val < a.toNat)) (fun q => decide (q.val < a.toNat + 1))
      (R := fun i => Ins.stp i = 15 * j.val + T.val) (P := I.Pt (15 * j.val + T.val)) (P' := I.Pt (15 * j.val + T.val + 1)) (T' := I.Tt (15 * j.val + T.val + 1))
      hb4 hq4 (slotO_sem ha' (ob1_inb ha')) hsl hd hinR hOKt (I.Tt_of hemp) (fun i => I.Pt_not i) (I.Pt_in hemp) (I.Tt_in))
    isplitl [Hv]; · iexact Hv
    isplitl [Hob]; · iexact Hob
    isplitl [HD]; · iexact HD
    isplitl [HB]; · iexact HB
    isplitl [HT]; · iexact HT
    iintro ⟨HS, HT⟩
    iapply (wp_pure_intro c)
    rw [hcnt']
    isplitr; · ipureintro; omega
    rw [← show I.Pz (15 * j.val + T.val) 0 = I.Pz (15 * j.val + T.val + 1) 0 from funext fun i => propext (I.Pz_skip hskip i),
      ← show I.Tz (15 * j.val + T.val) 0 = I.Tz (15 * j.val + T.val + 1) 0 from funext fun i => propext (I.Tz_skip hskip i), ← I.kz_skip hskip]
    isplitl [HS]; · iexact HS
    isplitl [HT]; · iexact HT
    isplitl [HZ]; · iexact HZ
    isplitl [HO]; · iexact HO
    isplitl [Htab]; · iexact Htab
    isplitl [Hx] <;> iassumption

end Cert.Kernel
-- ==== Proof.Starts.lean ====
/- The copies that bring the operands in: what each leaves when waited for. -/
module

public import proofs.«01_k».proof.Proof.Step
public import proofs.«01_k».proof.Proof.DqYLoop

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- A copy under way on semaphore `sm`: waited for, it leaves `D`. -/
def Fly (c : Dev nD) (sm : DmaSem sig) (N : ℕ) (D : sProp (MM F)) : sProp (MM F) :=
  iprop(∃ X : sProp (MM F), Flight EC (c : Thread nD τ) (.dma sm) () N X ∗ (X -∗ D))

/-- A copy starts. -/
theorem start_copy (c : Dev nD) {sp sp' : Space} {s : Shape} {e : EltTy} {src : Memref sig .tc sp s e} {dst : Memref sig .tc sp' s e}
    {sm sm' : DmaSem sig} {N : ℕ} {h1} {h2} {h3} {S : Finset (Idx (src.view.loc (c : Thread nD τ)))} {Sd : Finset (Idx (dst.view.loc (c : Thread nD τ)))}
    {fs : Buf (Elt F) (src.view.loc (c : Thread nD τ))} {fd : Buf (Elt F) (dst.view.loc (c : Thread nD τ))} {D : sProp (MM F)}
    {α : Type} {k : PUnit → Prog (TpuEff nD τ sig (Elt F) Λ₀ .tc) α} {Q : α → sProp (MM F)}
    (hs : sm = sm') (hN : dst.view.dmaCredit = N) (hN0 : 0 < N) (hS : src.view.set ⊆ S) (hSd : dst.view.set ⊆ Sd)
    (hD : iprop((dst.view.loc (c : Thread nD τ) ↦[Sd]{fullShare} (dst.view.write (Elt F) fd (src.view.read (Elt F) fs) Finset.univ)) ∗ (src.view.loc (c : Thread nD τ) ↦[S]{fullShare} fs)) ⊢ D) :
    iprop((src.view.loc (c : Thread nD τ) ↦[S]{fullShare} fs) ∗ (dst.view.loc (c : Thread nD τ) ↦[Sd]{fullShare} fd) ∗ semVal ((c : Thread nD τ), SemLoc.dma sm') 0)
      ⊢ iprop((Fly c sm' N D -∗ W c (k ⟨⟩) Q) -∗ W c (.op (.enqueueDma src (.here dst) (.dma sm) h1 h2 h3) k) Q) := by
  subst hs
  iintro ⟨Hs, Hd, Hv⟩ Hk
  ihave H2 := (pointsTo_split_subset (ℓ := src.view.loc (c : Thread nD τ)) hS).1 $$ Hs
  icases H2 with ⟨Hs, Hr⟩
  iapply (wp_dmaLocal EC 𝒱₀ (c : Thread nD τ) none (src := src) (dst := dst) (sm := .dma sm) (q := fullShare) (fs := fs) (fd := fd) (Sd := Sd) () N hN hN0 hSd) $$ [Hs Hd Hv]
  · isplitl [Hs]; · iexact Hs
    isplitl [Hd] <;> iassumption
  iintro HF
  iapply Hk
  unfold Fly
  iexists _
  isplitl [HF]; · iexact HF
  iintro ⟨Hd, Hs⟩
  iapply hD
  isplitl [Hd]; · iexact Hd
  iapply (pointsTo_split_subset (ℓ := src.view.loc (c : Thread nD τ)) hS).2
  isplitl [Hs] <;> iassumption

/-- A copy is waited for. -/
theorem wait_fly (c : Dev nD) {N : ℕ} {sp sp' : Space} {s s' : Shape} {e e' : EltTy} {sem sem' : DmaSem sig} (hs : sem = sem')
    {srcw : Memref sig .tc sp' s' e'} {dstw : Memref sig .tc sp s e} {h1} {h2} (hN : dstw.view.dmaCredit = N)
    {α : Type} {k : PUnit → Prog (TpuEff nD τ sig (Elt F) Λ₀ .tc) α} {Q : α → sProp (MM F)} {D : sProp (MM F)} :
    iprop(Fly c sem' N D ∗ (∃ W₀, owes (c : Thread nD τ) 0 W₀))
      ⊢ iprop(((D ∗ semVal ((c : Thread nD τ), SemLoc.dma sem') 0 ∗ (∃ W₀, owes (c : Thread nD τ) 0 W₀)) -∗ W c (k ⟨⟩) Q)
          -∗ W c (.op (.waitDma2 sem srcw dstw h1 h2) k) Q) := by
  unfold Fly
  iintro ⟨⟨%X, HF, HX⟩, ⟨%W0, HO⟩⟩ Hk
  iapply (wait_flight c hs hN) $$ [HF HO]
  · isplitl [HF] <;> iassumption
  iintro ⟨H1, Hv, HO⟩
  iapply Hk
  isplitl [H1 HX]
  · iapply HX; iexact H1
  isplitl [Hv]; · iexact Hv
  iexists _; iexact HO

abbrev semX (C : Fin 3) : DmaSem sig := ⟨1 + C.val, by show 1 + C.val < 13; omega⟩
abbrev semY (b : Fin 2) : DmaSem sig := ⟨4 + b.val, by show 4 + b.val < 13; omega⟩
abbrev semS (b : Fin 2) : DmaSem sig := ⟨6 + b.val, by show 6 + b.val < 13; omega⟩

theorem semX_at (x : Fin 3) (inb : ∀ b, (![x.val] : Fin 1 → ℕ) b + S1.size b ≤ S3.size b) :
    ((cc0_scratch9.slice (Rect.unit (s := S3) ![x.val] S1.size inb)).squeeze S_ squeezes_S1_S_).sem = semX x := by
  revert x; decide
theorem semY_at (x : Fin 2) (inb : ∀ b, (![x.val] : Fin 1 → ℕ) b + S1.size b ≤ S2.size b) :
    ((cc0_scratch10.slice (Rect.unit (s := S2) ![x.val] S1.size inb)).squeeze S_ squeezes_S1_S_).sem = semY x := by
  revert x; decide
theorem semS_at (x : Fin 2) (inb : ∀ b, (![x.val] : Fin 1 → ℕ) b + S1.size b ≤ S2.size b) :
    ((cc0_scratch11.slice (Rect.unit (s := S2) ![x.val] S1.size inb)).squeeze S_ squeezes_S1_S_).sem = semS x := by
  revert x; decide
theorem semY_of {b : ℕ} (hb : b < 2) {o : Fin 1 → ℕ} (ho : o = ![b]) (inb : ∀ a, o a + S1.size a ≤ S2.size a) :
    ((cc0_scratch10.slice (Rect.unit (s := S2) o S1.size inb)).squeeze S_ squeezes_S1_S_).sem = semY ⟨b, hb⟩ := by
  subst ho; exact semY_at ⟨b, hb⟩ inb

/-- A column block of `x`, in its buffer and in the operand. -/
abbrev xDst (C : ℕ) (inb : ∀ a, (![0, C * 1024] : Fin 2 → ℕ) a + S1536x1024.size a ≤ S1536x3072.size a) : Memref sig .tc .vmem S1536x1024 .fp8e4m3 :=
  mXc.slice (Rect.unit (s := S1536x3072) ![0, C * 1024] S1536x1024.size inb) (fun _ => rfl)
abbrev xSrc (C : ℕ) (inb : ∀ a, (![0, C * 1024] : Fin 2 → ℕ) a + S1536x1024.size a ≤ S1536x3072.size a) : Memref sig .tc .hbm S1536x1024 .fp8e4m3 :=
  mX.slice (Rect.unit (s := S1536x3072) ![0, C * 1024] S1536x1024.size inb) (fun _ => rfl)
def NX : ℕ := (xDst 0 (by decide)).view.dmaCredit
theorem NX_pos : 0 < NX := View.amount_pos (xDst 0 (by decide)).view (.dma (semX 0)) (by decide)

theorem xDst_set (C : ℕ) (inb) : (xDst C inb).view.set = xPiece C := by
  ext i
  refine (mem_slice_unit cc0_scratch0 ![0, C * 1024] S1536x1024.size inb i).trans ?_
  unfold xPiece
  rw [Finset.mem_filter]
  have h1 : (i 0).val < 1536 := (i 0).isLt
  constructor
  · intro h
    have h0 : C * 1024 ≤ (i 1).val ∧ (i 1).val < C * 1024 + 1024 := h 1
    exact ⟨Finset.mem_univ _, by omega⟩
  · rintro ⟨-, h⟩ a
    match a with
    | 0 => show 0 ≤ (i 0).val ∧ (i 0).val < 0 + 1536; omega
    | 1 => show C * 1024 ≤ (i 1).val ∧ (i 1).val < C * 1024 + 1024; omega

theorem x_start (c : Dev nD) {C : ℕ} (hC : C < 3) (x : S1536x3072.Idx → F .fp8e4m3) (f : S1536x3072.Idx → F .fp8e4m3) {inb} {sm : DmaSem sig} {h1} {h2} {h3}
    (hs : sm = semX ⟨C, hC⟩) {α : Type} {k : PUnit → Prog (TpuEff nD τ sig (Elt F) Λ₀ .tc) α} {Q : α → sProp (MM F)} :
    iprop(ptsOn c mX (xPiece C) x ∗ ptsOn c mXc (xPiece C) f ∗ semVal ((c : Thread nD τ), SemLoc.dma (semX ⟨C, hC⟩)) 0)
      ⊢ iprop((Fly c (semX ⟨C, hC⟩) NX iprop(ptsOn c mXc (xPiece C) x ∗ ptsOn c mX (xPiece C) x) -∗ W c (k ⟨⟩) Q)
        -∗ W c (.op (.enqueueDma (xSrc C inb) (.here (xDst C inb)) (.dma sm) h1 h2 h3) k) Q) := by
  refine start_copy c (src := xSrc C inb) (dst := xDst C inb) hs rfl NX_pos (xDst_set C inb).le (xDst_set C inb).le ?_
  refine sep_mono (Entails.of_eq (pointsTo_congr fun i hi => ?_)) .rfl
  obtain ⟨y, -, rfl⟩ := Finset.mem_map.1 ((xDst_set C inb).ge hi)
  exact (View.write_emb_of_mem (Val := Elt F) (v := (xDst C inb).view) _ _ (Finset.mem_univ y)).trans rfl

/-- A column block of `y`, in its slot and in the operand. -/
abbrev yDst (o : Fin 3 → ℕ) (inb : ∀ a, o a + S1x1536x1024.size a ≤ S2x1536x1024.size a) : Memref sig .tc .vmem S1536x1024 .fp8e4m3 :=
  (mYc.slice (Rect.unit (s := S2x1536x1024) o S1x1536x1024.size inb) (fun _ => rfl)).squeeze S1536x1024 squeezes_S1x1536x1024_S1536x1024
abbrev ySrc (o : Fin 2 → ℕ) (inb : ∀ a, o a + S1536x1024.size a ≤ S1536x8192.size a) : Memref sig .tc .hbm S1536x1024 .fp8e4m3 :=
  mY.slice (Rect.unit (s := S1536x8192) o S1536x1024.size inb) (fun _ => rfl)
def NY : ℕ := (yDst ![0, 0, 0] (by decide)).view.dmaCredit
theorem NY_pos : 0 < NY := View.amount_pos (yDst ![0, 0, 0] (by decide)).view (.dma (semY 0)) (by decide)

theorem yDst_set (b : ℕ) (inb) : (yDst ![b, 0, 0] inb).view.set = yPiece b := by
  refine (View.set_reshape (v := (View.whole cc0_scratch1).slice (Rect.unit (s := S2x1536x1024) ![b, 0, 0] S1x1536x1024.size inb)) _).trans ?_
  ext i
  refine (mem_slice_unit cc0_scratch1 ![b, 0, 0] S1x1536x1024.size inb i).trans ?_
  unfold yPiece
  rw [Finset.mem_filter]
  have h1 : (i 1).val < 1536 := (i 1).isLt
  have h2 : (i 2).val < 1024 := (i 2).isLt
  constructor
  · intro h
    have h0 : b ≤ (i 0).val ∧ (i 0).val < b + 1 := h 0
    exact ⟨Finset.mem_univ _, by omega⟩
  · rintro ⟨-, h⟩ a
    match a with
    | 0 => show b ≤ (i 0).val ∧ (i 0).val < b + 1; omega
    | 1 => show 0 ≤ (i 1).val ∧ (i 1).val < 0 + 1536; omega
    | 2 => show 0 ≤ (i 2).val ∧ (i 2).val < 0 + 1024; omega

/-- Column block `j` of `y` on its way in. -/
def YF (c : Dev nD) (y : S1536x8192.Idx → F .fp8e4m3) (j : ℕ) : sProp (MM F) :=
  Fly c (semY ⟨j % 2, Nat.mod_lt _ (by omega)⟩) NY iprop(ptsOn c mYc (yPiece (j % 2)) (YB y j) ∗ pts c mY y)

theorem sq_coord (z : S1536x1024.Idx) : (Shape.reshapeEquiv squeezes_S1x1536x1024_S1536x1024.numel_eq z 1).val = (z 0).val ∧
    (Shape.reshapeEquiv squeezes_S1x1536x1024_S1536x1024.numel_eq z 2).val = (z 1).val := by
  have e := Shape.reshapeEquiv_cons_one (n := 2) (d := ![1536, 1024]) squeezes_S1x1536x1024_S1536x1024.numel_eq z
  exact ⟨congrArg (fun w => (w 1).val) e, congrArg (fun w => (w 2).val) e⟩

theorem y_start (c : Dev nD) {j : ℕ} (hj : j < 8) (y : S1536x8192.Idx → F .fp8e4m3) (f : S2x1536x1024.Idx → F .fp8e4m3)
    {o : Fin 3 → ℕ} {o' : Fin 2 → ℕ} (ho : o = ![j % 2, 0, 0]) (ho' : o' = ![0, j * 1024]) {inb} {inb'} {sm : DmaSem sig} {h1} {h2} {h3}
    (hs : sm = semY ⟨j % 2, Nat.mod_lt _ (by omega)⟩) {α : Type} {k : PUnit → Prog (TpuEff nD τ sig (Elt F) Λ₀ .tc) α} {Q : α → sProp (MM F)} :
    iprop(pts c mY y ∗ ptsOn c mYc (yPiece (j % 2)) f ∗ semVal ((c : Thread nD τ), SemLoc.dma (semY ⟨j % 2, Nat.mod_lt _ (by omega)⟩)) 0)
      ⊢ iprop((YF c y j -∗ W c (k ⟨⟩) Q)
        -∗ W c (.op (.enqueueDma (ySrc o' inb') (.here (yDst o inb)) (.dma sm) h1 h2 h3) k) Q) := by
  subst ho; subst ho'
  refine start_copy c (src := ySrc ![0, j * 1024] inb') (dst := yDst ![j % 2, 0, 0] inb) hs rfl NY_pos (Finset.subset_univ _) (yDst_set _ inb).le ?_
  refine sep_mono (Entails.of_eq (pointsTo_congr fun i hi => ?_)) .rfl
  obtain ⟨z, -, rfl⟩ := Finset.mem_map.1 ((yDst_set _ inb).ge hi)
  refine (View.write_emb_of_mem (Val := Elt F) (v := (yDst ![j % 2, 0, 0] inb).view) _ _ (Finset.mem_univ z)).trans ?_
  refine congrArg y ?_
  have hz0 : (Shape.reshapeEquiv squeezes_S1x1536x1024_S1536x1024.numel_eq z 0).val = 0 := by
    have h1 : (Shape.reshapeEquiv squeezes_S1x1536x1024_S1536x1024.numel_eq z 0).val < 1 := (Shape.reshapeEquiv squeezes_S1x1536x1024_S1536x1024.numel_eq z 0).isLt
    omega
  have hsq := sq_coord z
  obtain ⟨e1, e2⟩ := hsq
  have b1 : (z 0).val < 1536 := (z 0).isLt
  have b2 : (z 1).val < 1024 := (z 1).isLt
  funext a; apply Fin.ext
  match a with
  | 0 =>
    show 0 + 1 * (z 0).val = (0 + 1 * (Shape.reshapeEquiv squeezes_S1x1536x1024_S1536x1024.numel_eq z 1).val) % 1536
    omega
  | 1 =>
    show j * 1024 + 1 * (z 1).val = (j * 1024 + (0 + 1 * (Shape.reshapeEquiv squeezes_S1x1536x1024_S1536x1024.numel_eq z 2).val)) % 8192
    omega

def NSx : ℕ := mXs.view.dmaCredit
theorem NSx_pos : 0 < NSx := View.amount_pos mXs.view (.dma (semS 0)) (by decide)
def NSy : ℕ := mYs.view.dmaCredit
theorem NSy_pos : 0 < NSy := View.amount_pos mYs.view (.dma (semS 1)) (by decide)

theorem sx_start (c : Dev nD) (s f : S13x3072.Idx → F .f32) {sm : DmaSem sig} {h1} {h2} {h3}
    (hs : sm = semS 0) {α : Type} {k : PUnit → Prog (TpuEff nD τ sig (Elt F) Λ₀ .tc) α} {Q : α → sProp (MM F)} :
    iprop(pts c mSx s ∗ pts c mXs f ∗ semVal ((c : Thread nD τ), SemLoc.dma (semS 0)) 0)
      ⊢ iprop((Fly c (semS 0) NSx iprop(pts c mXs s ∗ pts c mSx s) -∗ W c (k ⟨⟩) Q)
        -∗ W c (.op (.enqueueDma mSx (.here mXs) (.dma sm) h1 h2 h3) k) Q) := by
  refine start_copy c (src := mSx) (dst := mXs) hs rfl NSx_pos (Finset.subset_univ _) (Finset.subset_univ _) ?_
  refine sep_mono (Entails.of_eq ?_) .rfl
  exact congrArg _ (View.write_whole_univ (Val := Elt F) cc0_scratch2 f s)
theorem sy_start (c : Dev nD) (s f : S13x8192.Idx → F .f32) {sm : DmaSem sig} {h1} {h2} {h3}
    (hs : sm = semS 1) {α : Type} {k : PUnit → Prog (TpuEff nD τ sig (Elt F) Λ₀ .tc) α} {Q : α → sProp (MM F)} :
    iprop(pts c mSy s ∗ pts c mYs f ∗ semVal ((c : Thread nD τ), SemLoc.dma (semS 1)) 0)
      ⊢ iprop((Fly c (semS 1) NSy iprop(pts c mYs s ∗ pts c mSy s) -∗ W c (k ⟨⟩) Q)
        -∗ W c (.op (.enqueueDma mSy (.here mYs) (.dma sm) h1 h2 h3) k) Q) := by
  refine start_copy c (src := mSy) (dst := mYs) hs rfl NSy_pos (Finset.subset_univ _) (Finset.subset_univ _) ?_
  refine sep_mono (Entails.of_eq ?_) .rfl
  exact congrArg _ (View.write_whole_univ (Val := Elt F) cc0_scratch3 f s)

end Cert.Kernel
-- ==== Proof.Block.lean ====
/- One column block: its operand waited for, the next one started, its rows scaled, its steps. -/
module

public import proofs.«01_k».proof.Proof.Trip
public import proofs.«01_k».proof.Proof.Starts

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- Slot `b` of `y` not in use. -/
def YI (c : Dev nD) (b : ℕ) (hb : b < 2) : sProp (MM F) :=
  iprop(semVal ((c : Thread nD τ), SemLoc.dma (semY ⟨b, hb⟩)) 0 ∗ ∃ d : S2x1536x1024.Idx → F .fp8e4m3, ptsOn c mYc (yPiece b) d)

theorem YI_congr (c : Dev nD) {b b' : ℕ} (h : b = b') (hb : b < 2) (hb' : b' < 2) : (YI c b hb : sProp (MM F)) = YI c b' hb' := by subst h; rfl

/-- The column blocks of `y` before step block `j`. -/
def YSt (c : Dev nD) (y : S1536x8192.Idx → F .fp8e4m3) (j : ℕ) : sProp (MM F) :=
  if j < 8 then iprop(YF c y j ∗ YI c ((j + 1) % 2) (Nat.mod_lt _ (by omega))) else iprop(YI c 0 (by omega) ∗ YI c 1 (by omega) ∗ pts c mY y)

/-- What a column block holds before it. -/
def BS (c : Dev nD) (I : Ins F) (tb : S3x5.Idx → BitVec 32) (g : S3072x2816.Idx → F .bf16) (j : ℕ) (a : BitVec 32) : sProp (MM F) :=
  iprop((∃ f, SS c I tb g f (15 * j) a) ∗ pts c mYs I.sy ∗ YSt c I.y j)

theorem NY_eq (o) (inb) : (yDst o inb).view.dmaCredit = NY := rfl
theorem YI_eq (c : Dev nD) (b : ℕ) (hb : b < 2) : (YI c b hb : sProp (MM F)) =
    iprop(semVal ((c : Thread nD τ), SemLoc.dma (semY ⟨b, hb⟩)) 0 ∗ ∃ d : S2x1536x1024.Idx → F .fp8e4m3, ptsOn c mYc (yPiece b) d) := rfl
theorem BS_open (c : Dev nD) (I : Ins F) (tb : S3x5.Idx → BitVec 32) (g : S3072x2816.Idx → F .bf16) {j : ℕ} (hj : j < 8) (a : BitVec 32) :
    BS c I tb g j a ⊢ iprop((∃ f, Slots I.OKt c (fun q => decide (q.val < a.toNat)) (I.Pt (15 * j)) ∗ Todo c (I.Tt (15 * j)) ∗ ZSt c (I.kz 120) (I.kz (15 * j)) (I.Pz (15 * j) 0) (I.Tz (15 * j) 0) ∗
      (∃ W', owes (c : Thread nD τ) 0 W') ∗ pts (F := F) c mTab tb ∗ pts c mXt g ∗ pts c mRows f) ∗ pts c mYs I.sy ∗
      Fly c (semY ⟨j % 2, Nat.mod_lt _ (by omega)⟩) NY iprop(ptsOn c mYc (yPiece (j % 2)) (YB I.y j) ∗ pts c mY I.y) ∗ YI c ((j + 1) % 2) (Nat.mod_lt _ (by omega))) := by
  unfold BS YSt SS YF
  rw [if_pos hj]
  exact .rfl
theorem cond6_iff : ∀ j : Fin k0_t66_loop.trips, k0_cond6 j = 1#1 ↔ j.val + 1 < 8 := by decide
theorem off158_eq : ∀ j : Fin k0_t66_loop.trips, k0_off158 j = ![j.val % 2] := by decide
theorem off161_eq : ∀ j : Fin k0_t66_loop.trips, k0_off161 j = ![(j.val + 1) % 2] := by decide
theorem off162_eq : ∀ j : Fin k0_t66_loop.trips, k0_off162 j = ![(j.val + 1) % 2, 0, 0] := by decide
theorem off163_eq : ∀ j : Fin k0_t66_loop.trips, k0_off163 j = ![0, (j.val + 1) * 1024] := by decide

set_option maxRecDepth 10000 in
set_option maxHeartbeats 4000000 in
/-- One column block. -/
theorem block_trip (c : Dev nD) (I : Ins F) (tb : S3x5.Idx → BitVec 32) (htb : I.TabOK tb) (g : S3072x2816.Idx → F .bf16)
    (j : Fin k0_t66_loop.trips) (a : BitVec 32) (ha : a.toNat ≤ 15 * j.val) (hg : XtUpto I.cols 3 0 I.X g)
    (k0_hw1 : k0_chk1 I.w0) (k0_hw2 : k0_chk2 I.w0 I.w1) (k0_hw3 : k0_chk3 I.w0 I.w1 I.w2) (k0_hw4 : k0_chk4 I.w0 I.w1 I.w2 I.w3) (k0_hw5 : k0_chk5 I.w0 I.w1 I.w2 I.w3 I.w4)
    (v65 v134 v203 v230 v254 v272 v299 v323 v341 v362 v641 c1_i32_508 : BitVec 32) :
    BS c I tb g j.val a ⊢ W c (Gen.k0_t66_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 I.w0 k0_hw1 (s1 I.w0) v65 (g1 I.w0) I.w1 k0_hw2 (s2 I.w0 I.w1) v134 (g2 I.w0 I.w1) I.w2 k0_hw3 (s3 I.w0 I.w1 I.w2) v203 (g3 I.w0 I.w1 I.w2) v230 I.w3 k0_hw4 (s4 I.w0 I.w1 I.w2 I.w3) v254 v272 (g4 I.w0 I.w1 I.w2 I.w3) v299 I.w4 k0_hw5 (Scalar.addi (s4 I.w0 I.w1 I.w2 I.w3) I.w4) v323 v341 v362 v641 c1_i32_508 j a)
      (fun r => iprop(⌜r.toNat ≤ 15 * (j.val + 1)⌝ ∗ BS c I tb g (j.val + 1) r)) := by
  have hj : j.val < 8 := j.isLt
  unfold Gen.k0_t66_body
  rw [k0_part42_eq_skeleton, k0_part43_eq_skeleton]
  unfold k0_part42_skel k0_part43_skel
  by_cases h6 : k0_cond6 j = 1#1
  · have hj1 : j.val + 1 < 8 := (cond6_iff j).1 h6
    simp only [dif_pos h6, bind_assoc, pure_bind, Prog.bind_lift, Prog.bind_op]
    iintro HB
    ihave HB2 := (BS_open c I tb g hj a) $$ HB
    icases HB2 with ⟨⟨%f0, HS, HT, HZ, HO, Htab, Hx, Hr⟩, Hys, HYF, HYI⟩
    iapply (wait_fly c (N := NY) (semY_of (Nat.mod_lt _ (by omega)) (off158_eq j) _) (NY_eq _ _)) $$ [HYF HO]
    · isplitl [HYF] <;> iassumption
    iintro ⟨⟨Hyc, Hy⟩, Hv, HO⟩
    ihave HYI2 := (Entails.of_eq (YI_eq c _ (Nat.mod_lt _ (by omega)))) $$ HYI
    icases HYI2 with ⟨Hv2, %d, Hyc2⟩
    iapply (y_start c hj1 I.y d (off162_eq j) (off163_eq j) (semY_of (Nat.mod_lt _ (by omega)) (off161_eq j) _)) $$ [Hy Hyc2 Hv2]
    · isplitl [Hy]; · iexact Hy
      isplitl [Hyc2] <;> iassumption
    iintro HYF
    have hf0 : RowsUpto (I.stN 0) (RY I.y I.sy I.G j.val) f0 := fun i hi => absurd hi (Nat.not_lt_zero _)
    iapply (dqy_loop c (I.seg 0 (by omega)) hj I.y I.sy I.G (I.G_eq (e := 0) (by omega)) (fun t u => rfl))
    isplitl [Hys]; · iexact Hys
    isplitl [Hyc]; · iexact Hyc
    isplitl [Hr]
    · iexists f0
      isplitr; · ipureintro; exact hf0
      iexact Hr
    iintro ⟨Hys, Hyc, ⟨%f1, %hf99, Hr⟩⟩
    iapply (rem_loop c)
    replace hf99 : RowsUpto (I.stN 1) (RY I.y I.sy I.G j.val) f1 := hf99.mono (I.st_succ 0 (by omega)).le
    rename' hf99 => hf1
    iapply (dqy_loop c (I.seg 1 (by omega)) hj I.y I.sy I.G (I.G_eq (e := 1) (by omega)) (fun t u => rfl))
    isplitl [Hys]; · iexact Hys
    isplitl [Hyc]; · iexact Hyc
    isplitl [Hr]
    · iexists f1
      isplitr; · ipureintro; exact hf1
      iexact Hr
    iintro ⟨Hys, Hyc, ⟨%f2, %hf99, Hr⟩⟩
    iapply (rem_loop c)
    replace hf99 : RowsUpto (I.stN 2) (RY I.y I.sy I.G j.val) f2 := hf99.mono (I.st_succ 1 (by omega)).le
    rename' hf99 => hf2
    iapply (dqy_loop c (I.seg 2 (by omega)) hj I.y I.sy I.G (I.G_eq (e := 2) (by omega)) (fun t u => rfl))
    isplitl [Hys]; · iexact Hys
    isplitl [Hyc]; · iexact Hyc
    isplitl [Hr]
    · iexists f2
      isplitr; · ipureintro; exact hf2
      iexact Hr
    iintro ⟨Hys, Hyc, ⟨%f3, %hf99, Hr⟩⟩
    iapply (rem_loop c)
    replace hf99 : RowsUpto (I.stN 3) (RY I.y I.sy I.G j.val) f3 := hf99.mono (I.st_succ 2 (by omega)).le
    rename' hf99 => hf3
    iapply (dqy_loop c (I.seg 3 (by omega)) hj I.y I.sy I.G (I.G_eq (e := 3) (by omega)) (fun t u => rfl))
    isplitl [Hys]; · iexact Hys
    isplitl [Hyc]; · iexact Hyc
    isplitl [Hr]
    · iexists f3
      isplitr; · ipureintro; exact hf3
      iexact Hr
    iintro ⟨Hys, Hyc, ⟨%f4, %hf99, Hr⟩⟩
    iapply (rem_loop c)
    replace hf99 : RowsUpto (I.stN 4) (RY I.y I.sy I.G j.val) f4 := hf99.mono (I.st_succ 3 (by omega)).le
    rename' hf99 => hf4
    iapply (dqy_loop c (I.seg 4 (by omega)) hj I.y I.sy I.G (I.G_eq (e := 4) (by omega)) (fun t u => rfl))
    isplitl [Hys]; · iexact Hys
    isplitl [Hyc]; · iexact Hyc
    isplitl [Hr]
    · iexists f4
      isplitr; · ipureintro; exact hf4
      iexact Hr
    iintro ⟨Hys, Hyc, ⟨%f5, %hf5, Hr⟩⟩
    iapply (rem_loop c)
    iapply (Scf.wp_for_bind frame (wpE (defs₀ (F := F)) 𝒱₀ (c : Thread nD τ) none) Set.univ _ _ _ _ _ _
      (fun n a => iprop(⌜a.toNat ≤ 15 * j.val + n⌝ ∗ SS c I tb g f5 (15 * j.val + n) a))
      (fun T a => by
        iintro ⟨%ha', H⟩
        iapply (step_trip c I tb htb g f5 j T a ha' hg hf5)
        iexact H)) $$ [HS HT HZ HO Htab Hx Hr]
    · isplitr; · ipureintro; exact ha
      unfold SS
      isplitl [HS]; · iexact HS
      isplitl [HT]; · iexact HT
      isplitl [HZ]; · iexact HZ
      isplitl [HO]; · iexact HO
      isplitl [Htab]; · iexact Htab
      isplitl [Hx] <;> iassumption
    iintro %r ⟨%hr, H⟩
    iapply (wp_pure_intro c)
    have htr : 15 * j.val + Scf.trips k0_t77_loop.lb k0_t77_loop.ub k0_t77_loop.st = 15 * (j.val + 1) := by
      rw [show Scf.trips k0_t77_loop.lb k0_t77_loop.ub k0_t77_loop.st = 15 by decide]; omega
    isplitr
    · ipureintro
      have hr2 : r.toNat ≤ 15 * j.val + 15 := hr
      omega
    unfold BS YSt
    isplitl [H]
    · iexists f5
      iapply (Entails.of_eq (congrArg (fun n => SS c I tb g f5 n r) htr))
      iexact H
    isplitl [Hys]; · iexact Hys
    rw [if_pos hj1]
    isplitl [HYF]; · iexact HYF
    rw [YI_congr c (show (j.val + 1 + 1) % 2 = j.val % 2 by omega) _ (Nat.mod_lt _ (by omega))]
    unfold YI
    isplitl [Hv]; · iexact Hv
    iexists _; iexact Hyc
  · have hj1 : j.val = 7 := by have := mt (cond6_iff j).2 h6; omega
    simp only [dif_neg h6, bind_assoc, pure_bind, Prog.bind_lift, Prog.bind_op]
    iintro HB
    ihave HB2 := (BS_open c I tb g hj a) $$ HB
    icases HB2 with ⟨⟨%f0, HS, HT, HZ, HO, Htab, Hx, Hr⟩, Hys, HYF, HYI⟩
    iapply (wait_fly c (N := NY) (semY_of (Nat.mod_lt _ (by omega)) (off158_eq j) _) (NY_eq _ _)) $$ [HYF HO]
    · isplitl [HYF] <;> iassumption
    iintro ⟨⟨Hyc, Hy⟩, Hv, HO⟩
    have hf0 : RowsUpto (I.stN 0) (RY I.y I.sy I.G j.val) f0 := fun i hi => absurd hi (Nat.not_lt_zero _)
    iapply (dqy_loop c (I.seg 0 (by omega)) hj I.y I.sy I.G (I.G_eq (e := 0) (by omega)) (fun t u => rfl))
    isplitl [Hys]; · iexact Hys
    isplitl [Hyc]; · iexact Hyc
    isplitl [Hr]
    · iexists f0
      isplitr; · ipureintro; exact hf0
      iexact Hr
    iintro ⟨Hys, Hyc, ⟨%f1, %hf99, Hr⟩⟩
    iapply (rem_loop c)
    replace hf99 : RowsUpto (I.stN 1) (RY I.y I.sy I.G j.val) f1 := hf99.mono (I.st_succ 0 (by omega)).le
    rename' hf99 => hf1
    iapply (dqy_loop c (I.seg 1 (by omega)) hj I.y I.sy I.G (I.G_eq (e := 1) (by omega)) (fun t u => rfl))
    isplitl [Hys]; · iexact Hys
    isplitl [Hyc]; · iexact Hyc
    isplitl [Hr]
    · iexists f1
      isplitr; · ipureintro; exact hf1
      iexact Hr
    iintro ⟨Hys, Hyc, ⟨%f2, %hf99, Hr⟩⟩
    iapply (rem_loop c)
    replace hf99 : RowsUpto (I.stN 2) (RY I.y I.sy I.G j.val) f2 := hf99.mono (I.st_succ 1 (by omega)).le
    rename' hf99 => hf2
    iapply (dqy_loop c (I.seg 2 (by omega)) hj I.y I.sy I.G (I.G_eq (e := 2) (by omega)) (fun t u => rfl))
    isplitl [Hys]; · iexact Hys
    isplitl [Hyc]; · iexact Hyc
    isplitl [Hr]
    · iexists f2
      isplitr; · ipureintro; exact hf2
      iexact Hr
    iintro ⟨Hys, Hyc, ⟨%f3, %hf99, Hr⟩⟩
    iapply (rem_loop c)
    replace hf99 : RowsUpto (I.stN 3) (RY I.y I.sy I.G j.val) f3 := hf99.mono (I.st_succ 2 (by omega)).le
    rename' hf99 => hf3
    iapply (dqy_loop c (I.seg 3 (by omega)) hj I.y I.sy I.G (I.G_eq (e := 3) (by omega)) (fun t u => rfl))
    isplitl [Hys]; · iexact Hys
    isplitl [Hyc]; · iexact Hyc
    isplitl [Hr]
    · iexists f3
      isplitr; · ipureintro; exact hf3
      iexact Hr
    iintro ⟨Hys, Hyc, ⟨%f4, %hf99, Hr⟩⟩
    iapply (rem_loop c)
    replace hf99 : RowsUpto (I.stN 4) (RY I.y I.sy I.G j.val) f4 := hf99.mono (I.st_succ 3 (by omega)).le
    rename' hf99 => hf4
    iapply (dqy_loop c (I.seg 4 (by omega)) hj I.y I.sy I.G (I.G_eq (e := 4) (by omega)) (fun t u => rfl))
    isplitl [Hys]; · iexact Hys
    isplitl [Hyc]; · iexact Hyc
    isplitl [Hr]
    · iexists f4
      isplitr; · ipureintro; exact hf4
      iexact Hr
    iintro ⟨Hys, Hyc, ⟨%f5, %hf5, Hr⟩⟩
    iapply (rem_loop c)
    iapply (Scf.wp_for_bind frame (wpE (defs₀ (F := F)) 𝒱₀ (c : Thread nD τ) none) Set.univ _ _ _ _ _ _
      (fun n a => iprop(⌜a.toNat ≤ 15 * j.val + n⌝ ∗ SS c I tb g f5 (15 * j.val + n) a))
      (fun T a => by
        iintro ⟨%ha', H⟩
        iapply (step_trip c I tb htb g f5 j T a ha' hg hf5)
        iexact H)) $$ [HS HT HZ HO Htab Hx Hr]
    · isplitr; · ipureintro; exact ha
      unfold SS
      isplitl [HS]; · iexact HS
      isplitl [HT]; · iexact HT
      isplitl [HZ]; · iexact HZ
      isplitl [HO]; · iexact HO
      isplitl [Htab]; · iexact Htab
      isplitl [Hx] <;> iassumption
    iintro %r ⟨%hr, H⟩
    iapply (wp_pure_intro c)
    have htr : 15 * j.val + Scf.trips k0_t77_loop.lb k0_t77_loop.ub k0_t77_loop.st = 15 * (j.val + 1) := by
      rw [show Scf.trips k0_t77_loop.lb k0_t77_loop.ub k0_t77_loop.st = 15 by decide]; omega
    isplitr
    · ipureintro
      have hr2 : r.toNat ≤ 15 * j.val + 15 := hr
      omega
    unfold BS YSt
    isplitl [H]
    · iexists f5
      iapply (Entails.of_eq (congrArg (fun n => SS c I tb g f5 n r) htr))
      iexact H
    isplitl [Hys]; · iexact Hys
    rw [if_neg (show ¬ j.val + 1 < 8 by omega)]
    isplitl [HYI]
    · rw [YI_congr c (show 0 = (j.val + 1) % 2 by omega) _ (Nat.mod_lt _ (by omega))]
      iexact HYI
    isplitr [Hy]; swap; · iexact Hy
    rw [YI_congr c (show 1 = j.val % 2 by omega) _ (Nat.mod_lt _ (by omega))]
    unfold YI
    isplitl [Hv]; · iexact Hv
    iexists _; iexact Hyc

end Cert.Kernel
-- ==== Proof.Begin.lean ====
/- The start: the sizes read, the table of the segments written, the first zero bands issued. -/
module

public import proofs.«01_k».proof.Proof.Block

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- A size is read. -/
theorem sz_load (c : Dev nD) (I : Ins F) (nv : S5.Idx → BitVec 32) (hn : ∀ i : S5.Idx, nv i = I.sz (i 0).val) (e : Fin 5)
    {off : Fin 1 → ℕ} (ho : off = ![e.val])
    {inb : ∀ a, off a + S1.size a ≤ S5.size a} {h1} {h2}
    {β : Type} {kk : BitVec 32 → Prog (TpuEff nD τ sig (Elt F) Λ₀ .tc) β} {Q : β → sProp (MM F)} :
    iprop(pts (F := F) c mN nv ∗ (pts (F := F) c mN nv -∗ W c (kk (I.sz e.val)) Q))
    ⊢ W c (smemLoad (nD := nD) (τ := τ) (Val := Elt F) (Λ := Λ₀) (p := .tc) mN (Rect.unit (s := S5) off S1.size inb) h1 h2 >>= kk) Q := by
  subst ho
  iintro ⟨H, Hk⟩
  unfold smemLoad smemLoadElt
  rw [Prog.bind_op]
  iapply (wp_load 𝒱₀ (c : Thread nD τ) none Set.univ (m := mN) (Finset.subset_univ _)) $$ H; iintro H
  rw [Prog.bind_ret]
  have e1 : I.sz e.val = (mN.access (Rect.unit (s := S5) ![e.val] S1.size inb)).read (Elt F) nv (Shape.Idx.first (h1.symm ▸ Nat.one_pos)) := by
    have h3 : (Shape.Idx.first (s := S1) (h1.symm ▸ Nat.one_pos) 0).val < 1 := (Shape.Idx.first (s := S1) (h1.symm ▸ Nat.one_pos) 0).isLt
    have h4 : (((mN.access (Rect.unit (s := S5) ![e.val] S1.size inb)).emb (Shape.Idx.first (h1.symm ▸ Nat.one_pos)) : S5.Idx) 0).val = e.val := by
      show e.val + 1 * (Shape.Idx.first (s := S1) (h1.symm ▸ Nat.one_pos) 0).val = e.val
      omega
    refine Eq.trans ?_ (hn ((mN.access (Rect.unit (s := S5) ![e.val] S1.size inb)).emb (Shape.Idx.first (h1.symm ▸ Nat.one_pos)))).symm
    rw [h4]
  rw [e1]
  iapply Hk
  iexact H

/-- A cell of the table. -/
def Ins.cell (I : Ins F) (a e : ℕ) : ℕ := if a = 0 then I.stN e / 16 * 16 else if a = 1 then I.nkN e else I.koN e
/-- The table with its first `n` cells written, expert by expert. -/
def Ins.TabN (I : Ins F) (n : ℕ) (tb : S3x5.Idx → BitVec 32) : Prop :=
  ∀ (e : Fin 5) (a : Fin 3), 3 * e.val + a.val < n → (tb (ix2 a e)).toNat = I.cell a.val e.val

theorem Ins.TabN.ok {I : Ins F} {tb : S3x5.Idx → BitVec 32} (h : I.TabN 15 tb) : I.TabOK tb := fun e =>
  ⟨h e 0 (by have := e.isLt; show _ + 0 < _; omega), h e 1 (by have := e.isLt; show _ + 1 < _; omega), h e 2 (by have := e.isLt; show _ + 2 < _; omega)⟩

theorem tab_wr (I : Ins F) {n : ℕ} (a : Fin 3) (e : Fin 5) (hn : n = 3 * e.val + a.val) (v : BitVec 32) (hv : v.toNat = I.cell a.val e.val)
    {inb : ∀ x, (![a.val, e.val] : Fin 2 → ℕ) x + S1x1.size x ≤ S3x5.size x} (tb : S3x5.Idx → BitVec 32) (h : I.TabN n tb) :
    I.TabN (n + 1) ((mTab.access (Rect.unit (s := S3x5) ![a.val, e.val] S1x1.size inb)).write (Elt F) tb (fun _ => v) Finset.univ) := by
  intro e' a' hlt
  by_cases hc : e'.val = e.val ∧ a'.val = a.val
  · obtain ⟨h1, h2⟩ := hc
    refine Eq.trans (congrArg BitVec.toNat (wr_in (Val := Elt F) cc0_scratch8 ![a.val, e.val] S1x1.size inb tb (fun _ => v) (ix2 a' e') (ix2 (0 : Fin 1) (0 : Fin 1)) ?_)) ?_
    · intro x
      match x with
      | 0 => show a'.val = a.val + 0; omega
      | 1 => show e'.val = e.val + 0; omega
    · rw [h1, h2]; exact hv
  · have ha := a.isLt; have ha' := a'.isLt
    by_cases h1 : e'.val = e.val
    · refine Eq.trans (congrArg BitVec.toNat (wr_out (Val := Elt F) cc0_scratch8 ![a.val, e.val] S1x1.size inb tb (fun _ => v) (ix2 a' e') (0 : Fin 2) ?_)) (h e' a' (by omega))
      show a'.val < a.val ∨ a.val + 1 ≤ a'.val; omega
    · refine Eq.trans (congrArg BitVec.toNat (wr_out (Val := Elt F) cc0_scratch8 ![a.val, e.val] S1x1.size inb tb (fun _ => v) (ix2 a' e') (1 : Fin 2) ?_)) (h e' a' (by omega))
      show e'.val < e.val ∨ e.val + 1 ≤ e'.val; omega

/-- A cell is read and written. -/
theorem tab_set (c : Dev nD) (I : Ins F) {n : ℕ} (a : Fin 3) (e : Fin 5) (hn : n = 3 * e.val + a.val) (v : BitVec 32) (hv : v.toNat = I.cell a.val e.val)
    {off : Fin 2 → ℕ} (ho : off = ![a.val, e.val])
    {inb inb' : ∀ x, off x + S1x1.size x ≤ S3x5.size x} {h1} {h2} {h3 h4}
    {β : Type} {kk : PUnit → Prog (TpuEff nD τ sig (Elt F) Λ₀ .tc) β} {Q : β → sProp (MM F)} :
    iprop((∃ tb, ⌜I.TabN n tb⌝ ∗ pts (F := F) c mTab tb) ∗ ((∃ tb, ⌜I.TabN (n + 1) tb⌝ ∗ pts (F := F) c mTab tb) -∗ W c (kk ⟨⟩) Q))
    ⊢ W c (smemLoad (nD := nD) (τ := τ) (Val := Elt F) (Λ := Λ₀) (p := .tc) mTab (Rect.unit (s := S3x5) off S1x1.size inb) h1 h2 >>= fun _ =>
      .op (.store mTab (Rect.unit (s := S3x5) off S1x1.size inb') (fun _ => v) Finset.univ h3 h4) kk) Q := by
  subst ho
  iintro ⟨⟨%tb, %ht, H⟩, Hk⟩
  iapply (tab_load c tb a e rfl)
  isplitl [H]; · iexact H
  iintro H
  iapply (wp_store 𝒱₀ (c : Thread nD τ) none Set.univ (m := mTab) (r := Rect.unit (s := S3x5) ![a.val, e.val] S1x1.size inb') (Mk := Finset.univ) (Finset.subset_univ _)) $$ H; iintro H
  iapply Hk
  iexists _
  isplitr; · ipureintro; exact tab_wr I a e hn v hv (inb := inb') tb ht
  iexact H

namespace Ins
variable (I : Ins F)

/-- The zero copies issued for the experts before `E`, at the start. -/
def emS : ℕ → ℕ
  | 0 => 0
  | E + 1 => emS E + 32 * I.em E

theorem emS5 : I.emS 5 = I.kz 0 := by
  show 0 + 32 * I.em 0 + 32 * I.em 1 + 32 * I.em 2 + 32 * I.em 3 + 32 * I.em 4 = 32 * (I.em 0 + I.em 1 + I.em 2 + I.em 3 + I.em 4)
  omega
theorem emS_le {E : ℕ} (h : E < 5) (he : I.emp E) : I.emS E + 32 ≤ I.kz 120 := by
  have h5 := I.kz_mono (n := 0) (m := 120) (by omega)
  rw [← I.emS5] at h5
  have h1 : I.emS (E + 1) = I.emS E + 32 := by show I.emS E + 32 * I.em E = _; rw [I.em_emp he]
  have h2 : I.emS (E + 1) ≤ I.emS 5 := by
    have hm : ∀ a b, a ≤ b → I.emS a ≤ I.emS b := fun a b hab => by
      induction hab with
      | refl => exact le_refl _
      | step _ ih => exact ih.trans (Nat.le_add_right _ _)
    exact hm _ _ (by omega)
  omega

theorem Pz1_in {E t k : ℕ} (he : I.emp E) (ht : t < 8) (hk : k < 4) (i : S5x3072x8192.Idx) :
    I.Pz1 E t (k + 1) i ↔ I.Pz1 E t k i ∨ ((i 0).val = E ∧ (i 1).val / 32 = 4 * t + k) := by
  unfold Pz1
  by_cases h : I.emp (i 0).val
  · simp only [h, _root_.true_and]; omega
  · have : (i 0).val ≠ E := fun e => h (e ▸ he)
    simp only [h, _root_.false_and, _root_.false_or]
    exact ⟨False.elim, fun e => this e.1⟩
theorem Tz1_in {E t k : ℕ} (he : I.emp E) (ht : t < 8) (hk : k < 4) (i : S5x3072x8192.Idx) :
    I.Tz1 E t (k + 1) i ↔ I.Tz1 E t k i ∧ ¬ ((i 0).val = E ∧ (i 1).val / 32 = 4 * t + k) := by
  unfold Tz1
  by_cases h : I.emp (i 0).val
  · simp only [h, _root_.true_and]; omega
  · simp only [h, _root_.false_and]
theorem Tz1_of {E t k : ℕ} (he : I.emp E) (i : S5x3072x8192.Idx) (h : (i 0).val = E ∧ (i 1).val / 32 = 4 * t + k) : I.Tz1 E t k i :=
  ⟨h.1 ▸ he, by omega⟩
theorem Pz1_not {E t k : ℕ} (i : S5x3072x8192.Idx) (h : I.Pz1 E t k i) : ¬ ((i 0).val = E ∧ (i 1).val / 32 = 4 * t + k) := by
  have h2 := h.2; omega
theorem Pz1_step (E t : ℕ) : I.Pz1 E t 4 = I.Pz1 E (t + 1) 0 := by
  funext i; apply propext; unfold Pz1; refine and_congr_right fun _ => ?_; omega
theorem Tz1_step (E t : ℕ) : I.Tz1 E t 4 = I.Tz1 E (t + 1) 0 := by
  funext i; apply propext; unfold Tz1; refine and_congr_right fun _ => ?_; omega
theorem Pz1_end (E : ℕ) : I.Pz1 E 8 0 = I.Pz1 (E + 1) 0 0 := by
  funext i; apply propext; unfold Pz1; refine and_congr_right fun _ => ?_; omega
theorem Tz1_end (E : ℕ) : I.Tz1 E 8 0 = I.Tz1 (E + 1) 0 0 := by
  funext i; apply propext; unfold Tz1; refine and_congr_right fun _ => ?_; omega
theorem Pz1_skip {E : ℕ} (h : ¬ I.emp E) : I.Pz1 E 0 0 = I.Pz1 (E + 1) 0 0 := by
  funext i; apply propext; unfold Pz1; refine and_congr_right fun he => ?_
  have : (i 0).val ≠ E := fun e => h (e ▸ he)
  omega
theorem Tz1_skip {E : ℕ} (h : ¬ I.emp E) : I.Tz1 E 0 0 = I.Tz1 (E + 1) 0 0 := by
  funext i; apply propext; unfold Tz1; refine and_congr_right fun he => ?_
  have : (i 0).val ≠ E := fun e => h (e ▸ he)
  omega
theorem Pz1_all : I.Pz1 5 0 0 = I.Pz 0 0 := by
  funext i; apply propext; unfold Pz1 Pz; refine and_congr_right fun he => ?_
  have : (i 0).val < 5 := (i 0).isLt
  omega
theorem Tz1_all : I.Tz1 5 0 0 = I.Tz 0 0 := by
  funext i; apply propext; unfold Tz1 Tz bnd; refine and_congr_right fun he => ?_
  have : (i 0).val < 5 := (i 0).isLt
  omega

end Ins

/-- The zero copies before the steps. -/
def ZP (c : Dev nD) (I : Ins F) (E t : ℕ) : sProp (MM F) :=
  ZSt c (I.kz 120) (I.emS E + 4 * t) (I.Pz1 E t 0) (I.Tz1 E t 0)

/-- One trip's four zero copies. -/
theorem zero4 (c : Dev nD) (I : Ins F) {E t : ℕ} (hE : E < 5) (he : I.emp E) (ht : t < 8) {off0 off1 off2 off3 : Fin 3 → ℕ}
    (ho0 : off0 = ![E, (4 * t + 0) * 32, 0]) (ho1 : off1 = ![E, (4 * t + 1) * 32, 0])
    (ho2 : off2 = ![E, (4 * t + 2) * 32, 0]) (ho3 : off3 = ![E, (4 * t + 3) * 32, 0])
    {inb0 : ∀ a, off0 a + S1x32x8192.size a ≤ S5x3072x8192.size a} {inb1 : ∀ a, off1 a + S1x32x8192.size a ≤ S5x3072x8192.size a}
    {inb2 : ∀ a, off2 a + S1x32x8192.size a ≤ S5x3072x8192.size a} {inb3 : ∀ a, off3 a + S1x32x8192.size a ≤ S5x3072x8192.size a}
    {a1 a2 a3 b1 b2 b3 c1 c2 c3 d1 d2 d3} {α : Type} {kk : PUnit → Prog (TpuEff nD τ sig (Elt F) Λ₀ .tc) α} {Q : α → sProp (MM F)} :
    iprop(ZP c I E t ∗ (ZP c I E (t + 1) -∗ W c (kk ⟨⟩) Q))
      ⊢ W c (.op (.enqueueDma mZ (.here (zDst off0 inb0)) (.dma semZ) a1 a2 a3) fun _ =>
        .op (.enqueueDma mZ (.here (zDst off1 inb1)) (.dma semZ) b1 b2 b3) fun _ =>
        .op (.enqueueDma mZ (.here (zDst off2 inb2)) (.dma semZ) c1 c2 c3) fun _ =>
        .op (.enqueueDma mZ (.here (zDst off3 inb3)) (.dma semZ) d1 d2 d3) kk) Q := by
  have hm := I.emS_le hE he
  have z0 := fun k (hk : k < 4) off (ho : off = ![E, (4 * t + k) * 32, 0]) i (h : inBand off i) => I.Tz1_of (t := t) (k := k) he i ((inBand_iff ho i).1 h)
  have z1 := fun k (hk : k < 4) off (ho : off = ![E, (4 * t + k) * 32, 0]) i (h : I.Pz1 E t k i) (h' : inBand off i) => I.Pz1_not i h ((inBand_iff ho i).1 h')
  have z2 := fun k (hk : k < 4) off (ho : off = ![E, (4 * t + k) * 32, 0]) i => (I.Pz1_in (t := t) he ht hk i).trans (or_congr_right (inBand_iff ho i).symm)
  have z3 := fun k (hk : k < 4) off (ho : off = ![E, (4 * t + k) * 32, 0]) i => (I.Tz1_in (t := t) he ht hk i).trans (and_congr_right fun _ => not_congr (inBand_iff ho i).symm)
  unfold ZP
  iintro ⟨HZ, Hk⟩
  iapply (zero_copy c (m := I.kz 120) (k := I.emS E + 4 * t) off0 inb0 (P' := I.Pz1 E t 1) (T' := I.Tz1 E t 1) (by omega) (z0 0 (by omega) _ ho0) (z1 0 (by omega) _ ho0) (z2 0 (by omega) _ ho0) (z3 0 (by omega) _ ho0))
  isplitl [HZ]; · iexact HZ
  iintro HZ
  iapply (zero_copy c (m := I.kz 120) (k := I.emS E + 4 * t + 1) off1 inb1 (P' := I.Pz1 E t 2) (T' := I.Tz1 E t 2) (by omega) (z0 1 (by omega) _ ho1) (z1 1 (by omega) _ ho1) (z2 1 (by omega) _ ho1) (z3 1 (by omega) _ ho1))
  isplitl [HZ]; · iexact HZ
  iintro HZ
  iapply (zero_copy c (m := I.kz 120) (k := I.emS E + 4 * t + 1 + 1) off2 inb2 (P' := I.Pz1 E t 3) (T' := I.Tz1 E t 3) (by omega) (z0 2 (by omega) _ ho2) (z1 2 (by omega) _ ho2) (z2 2 (by omega) _ ho2) (z3 2 (by omega) _ ho2))
  isplitl [HZ]; · iexact HZ
  iintro HZ
  iapply (zero_copy c (m := I.kz 120) (k := I.emS E + 4 * t + 1 + 1 + 1) off3 inb3 (P' := I.Pz1 E t 4) (T' := I.Tz1 E t 4) (by omega) (z0 3 (by omega) _ ho3) (z1 3 (by omega) _ ho3) (z2 3 (by omega) _ ho3) (z3 3 (by omega) _ ho3))
  isplitl [HZ]; · iexact HZ
  iintro HZ
  iapply Hk
  rw [← I.Pz1_step, ← I.Tz1_step, show I.emS E + 4 * (t + 1) = I.emS E + 4 * t + 1 + 1 + 1 + 1 by omega]
  iexact HZ

/-- The zero bands of an expert, where it has no rows. -/
theorem zero_if (c : Dev nD) (I : Ins F) {E : ℕ} (hE : E < 5) {L : Scf.Loop 32} (hL : L.trips = 8) {hok : L.OK}
    {body : Fin L.trips → PUnit → Prog (TpuEff nD τ sig (Elt F) Λ₀ .tc) PUnit}
    (hb : I.emp E → ∀ (t : Fin L.trips) u, ZP c I E t.val ⊢ W c (body t u) (fun _ => ZP c I E (t.val + 1)))
    {cond : Prop} [Decidable cond] (hc : cond ↔ I.emp E)
    {β : Type} {K : Prog (TpuEff nD τ sig (Elt F) Λ₀ .tc) β} {Q : β → sProp (MM F)} :
    iprop(ZP c I E 0 ∗ (ZP c I (E + 1) 0 -∗ W c K Q))
      ⊢ W c (if cond then (Scf.Loop.for L hok ⟨⟩ body >>= fun _ => K) else K) Q := by
  by_cases he : I.emp E
  · rw [if_pos (hc.2 he)]
    iintro ⟨HZ, Hk⟩
    iapply (Scf.wp_for_bind frame (wpE (defs₀ (F := F)) 𝒱₀ (c : Thread nD τ) none) Set.univ _ _ _ hok _ body
      (fun n _ => ZP c I E n) (fun t u => hb he t u)) $$ [HZ]
    · iexact HZ
    · iintro %r HZ
      iapply Hk
      have e8 : Scf.trips L.lb L.ub L.st = 8 := hL
      rw [e8]
      unfold ZP
      rw [I.Pz1_end, I.Tz1_end, show I.emS (E + 1) + 4 * 0 = I.emS E + 4 * 8 from by
        show I.emS E + 32 * I.em E + 4 * 0 = _; rw [I.em_emp he]]
      iexact HZ
  · rw [if_neg (mt hc.1 he)]
    iintro ⟨HZ, Hk⟩
    iapply Hk
    unfold ZP
    rw [I.Pz1_skip he, I.Tz1_skip he, show I.emS (E + 1) + 4 * 0 = I.emS E + 4 * 0 from by
        show I.emS E + 32 * I.em E + 4 * 0 = _; rw [I.em_not he]]
    iexact HZ

end Cert.Kernel
-- ==== Proof.Zeros.lean ====
/- The loops that issue the first zero bands. -/
module

public import proofs.«01_k».proof.Proof.Begin

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

theorem k0_off3_eq : ∀ (t : Fin k0_t1_loop.trips) (k : Fin 4), k0_off3 t (BitVec.ofNat 32 k.val) = ![0, (4 * t.val + k.val) * 32, 0] := by decide
theorem zero_trip1 (c : Dev nD) (I : Ins F) (he : I.emp 0) {v27 : Elt F .i32} {v28 : BitVec 32} {v47 : BitVec 32} {v65 : BitVec 32} {c0_i32_35 : BitVec 32} (t : Fin k0_t1_loop.trips) (u : PUnit) :
    ZP c I 0 t.val ⊢ W c (Gen.k0_t1_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v28 v47 v65 c0_i32_35 t u) (fun _ => ZP c I 0 (t.val + 1)) := by
  have ht : t.val < 8 := t.isLt
  unfold Gen.k0_t1_body
  simp only [bind_assoc, pure_bind, Prog.bind_lift, Prog.bind_op]
  iintro HZ
  iapply (zero4 c I (by omega) he ht (k0_off3_eq t 0) (k0_off3_eq t 1) (k0_off3_eq t 2) (k0_off3_eq t 3))
  isplitl [HZ]; · iexact HZ
  iintro HZ
  iapply (wp_pure_intro c)
  iexact HZ

theorem k0_off4_eq : ∀ (t : Fin k0_t2_loop.trips) (k : Fin 4), k0_off4 t (BitVec.ofNat 32 k.val) = ![1, (4 * t.val + k.val) * 32, 0] := by decide
theorem zero_trip2 (c : Dev nD) (I : Ins F) (he : I.emp 1) {v27 : Elt F .i32} {v90 : BitVec 32} {v92 : BitVec 32} {v96 : Elt F .i32} {v97 : BitVec 32} {v116 : BitVec 32} {v134 : BitVec 32} {v135 : BitVec 1} {v137 : BitVec 32} {c256_i32_72 : BitVec 32} {v138 : BitVec 32} {c0_i32_73 : BitVec 32} (t : Fin k0_t2_loop.trips) (u : PUnit) :
    ZP c I 1 t.val ⊢ W c (Gen.k0_t2_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v90 v92 v96 v97 v116 v134 v135 v137 c256_i32_72 v138 c0_i32_73 t u) (fun _ => ZP c I 1 (t.val + 1)) := by
  have ht : t.val < 8 := t.isLt
  unfold Gen.k0_t2_body
  simp only [bind_assoc, pure_bind, Prog.bind_lift, Prog.bind_op]
  iintro HZ
  iapply (zero4 c I (by omega) he ht (k0_off4_eq t 0) (k0_off4_eq t 1) (k0_off4_eq t 2) (k0_off4_eq t 3))
  isplitl [HZ]; · iexact HZ
  iintro HZ
  iapply (wp_pure_intro c)
  iexact HZ

theorem k0_off5_eq : ∀ (t : Fin k0_t3_loop.trips) (k : Fin 4), k0_off5 t (BitVec.ofNat 32 k.val) = ![2, (4 * t.val + k.val) * 32, 0] := by decide
theorem zero_trip3 (c : Dev nD) (I : Ins F) (he : I.emp 2) {v27 : Elt F .i32} {v96 : Elt F .i32} {v159 : BitVec 32} {v161 : BitVec 32} {v165 : Elt F .i32} {v166 : BitVec 32} {v185 : BitVec 32} {v203 : BitVec 32} {v204 : BitVec 1} {v206 : BitVec 32} {c256_i32_108 : BitVec 32} {v207 : BitVec 32} {v212 : BitVec 32} {v214 : BitVec 32} {c0_i32_112 : BitVec 32} (t : Fin k0_t3_loop.trips) (u : PUnit) :
    ZP c I 2 t.val ⊢ W c (Gen.k0_t3_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v96 v159 v161 v165 v166 v185 v203 v204 v206 c256_i32_108 v207 v212 v214 c0_i32_112 t u) (fun _ => ZP c I 2 (t.val + 1)) := by
  have ht : t.val < 8 := t.isLt
  unfold Gen.k0_t3_body
  simp only [bind_assoc, pure_bind, Prog.bind_lift, Prog.bind_op]
  iintro HZ
  iapply (zero4 c I (by omega) he ht (k0_off5_eq t 0) (k0_off5_eq t 1) (k0_off5_eq t 2) (k0_off5_eq t 3))
  isplitl [HZ]; · iexact HZ
  iintro HZ
  iapply (wp_pure_intro c)
  iexact HZ

theorem k0_off6_eq : ∀ (t : Fin k0_t4_loop.trips) (k : Fin 4), k0_off6 t (BitVec.ofNat 32 k.val) = ![3, (4 * t.val + k.val) * 32, 0] := by decide
theorem zero_trip4 (c : Dev nD) (I : Ins F) (he : I.emp 3) {v27 : Elt F .i32} {v96 : Elt F .i32} {v165 : Elt F .i32} {v228 : BitVec 32} {v230 : BitVec 32} {v234 : Elt F .i32} {v235 : BitVec 32} {v254 : BitVec 32} {v272 : BitVec 32} {v273 : BitVec 1} {v276 : BitVec 32} {v290 : BitVec 1} {v291 : BitVec 32} (t : Fin k0_t4_loop.trips) (u : PUnit) :
    ZP c I 3 t.val ⊢ W c (Gen.k0_t4_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v96 v165 v228 v230 v234 v235 v254 v272 v273 v276 v290 v291 t u) (fun _ => ZP c I 3 (t.val + 1)) := by
  have ht : t.val < 8 := t.isLt
  unfold Gen.k0_t4_body
  simp only [bind_assoc, pure_bind, Prog.bind_lift, Prog.bind_op]
  iintro HZ
  iapply (zero4 c I (by omega) he ht (k0_off6_eq t 0) (k0_off6_eq t 1) (k0_off6_eq t 2) (k0_off6_eq t 3))
  isplitl [HZ]; · iexact HZ
  iintro HZ
  iapply (wp_pure_intro c)
  iexact HZ

theorem k0_off7_eq : ∀ (t : Fin k0_t5_loop.trips) (k : Fin 4), k0_off7 t (BitVec.ofNat 32 k.val) = ![4, (4 * t.val + k.val) * 32, 0] := by decide
theorem zero_trip5 (c : Dev nD) (I : Ins F) (he : I.emp 4) {v27 : Elt F .i32} {k0_hw1 : k0_chk1 v27} {v28 : BitVec 32} {v65 : BitVec 32} {v134 : BitVec 32} {v299 : BitVec 32} {v303 : Elt F .i32} {v362 : BitVec 32} (t : Fin k0_t5_loop.trips) (u : PUnit) :
    ZP c I 4 t.val ⊢ W c (Gen.k0_t5_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 k0_hw1 v28 v65 v134 v299 v303 v362 t u) (fun _ => ZP c I 4 (t.val + 1)) := by
  have ht : t.val < 8 := t.isLt
  unfold Gen.k0_t5_body
  simp only [bind_assoc, pure_bind, Prog.bind_lift, Prog.bind_op]
  iintro HZ
  iapply (zero4 c I (by omega) he ht (k0_off7_eq t 0) (k0_off7_eq t 1) (k0_off7_eq t 2) (k0_off7_eq t 3))
  isplitl [HZ]; · iexact HZ
  iintro HZ
  iapply (wp_pure_intro c)
  iexact HZ

end Cert.Kernel
-- ==== Proof.Opens.lean ====
/- The first copies: the operands into their buffers, the zeros, and what the zero copies and the output begin as. -/
module

public import proofs.«01_k».proof.Proof.Zeros

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- The three column blocks of an array, together all of it. -/
theorem xPieces : (xPiece 0 ∪ xPiece 1) ∪ xPiece 2 = (Finset.univ : Finset S1536x3072.Idx) := by
  ext i
  have h1 : (i 1).val < 3072 := (i 1).isLt
  simp only [xPiece, Finset.mem_union, Finset.mem_filter, Finset.mem_univ, _root_.true_and, iff_true]
  omega
theorem xPieces_01 : Disjoint (xPiece 0) (xPiece 1) := by
  rw [Finset.disjoint_left]; intro i h h'
  simp only [xPiece, Finset.mem_filter, Finset.mem_univ, _root_.true_and] at h h'; omega
theorem xPieces_2 : Disjoint (xPiece 0 ∪ xPiece 1) (xPiece 2) := by
  rw [Finset.disjoint_left]; intro i h h'
  simp only [xPiece, Finset.mem_union, Finset.mem_filter, Finset.mem_univ, _root_.true_and] at h h'; omega
theorem mX_split (c : Dev nD) (x : S1536x3072.Idx → F .fp8e4m3) :
    (pts c mX x : sProp (MM F)) ⊣⊢ iprop((ptsOn c mX (xPiece 0) x ∗ ptsOn c mX (xPiece 1) x) ∗ ptsOn c mX (xPiece 2) x) := by
  show (ptsOn c mX Finset.univ x : sProp (MM F)) ⊣⊢ _
  rw [← xPieces]
  exact (pointsTo_union (ℓ := mX.view.loc (c : Thread nD τ)) xPieces_2).trans
    ⟨sep_mono (pointsTo_union (ℓ := mX.view.loc (c : Thread nD τ)) xPieces_01).1 .rfl, sep_mono (pointsTo_union (ℓ := mX.view.loc (c : Thread nD τ)) xPieces_01).2 .rfl⟩
theorem mXc_split (c : Dev nD) (x : S1536x3072.Idx → F .fp8e4m3) :
    (pts c mXc x : sProp (MM F)) ⊣⊢ iprop((ptsOn c mXc (xPiece 0) x ∗ ptsOn c mXc (xPiece 1) x) ∗ ptsOn c mXc (xPiece 2) x) := by
  show (ptsOn c mXc Finset.univ x : sProp (MM F)) ⊣⊢ _
  rw [← xPieces]
  exact (pointsTo_union (ℓ := mXc.view.loc (c : Thread nD τ)) xPieces_2).trans
    ⟨sep_mono (pointsTo_union (ℓ := mXc.view.loc (c : Thread nD τ)) xPieces_01).1 .rfl, sep_mono (pointsTo_union (ℓ := mXc.view.loc (c : Thread nD τ)) xPieces_01).2 .rfl⟩

theorem yPieces : yPiece 0 ∪ yPiece 1 = (Finset.univ : Finset S2x1536x1024.Idx) := by
  ext i
  have h1 : (i 0).val < 2 := (i 0).isLt
  simp only [yPiece, Finset.mem_union, Finset.mem_filter, Finset.mem_univ, _root_.true_and, iff_true]
  omega
theorem yPieces_01 : Disjoint (yPiece 0) (yPiece 1) := by
  rw [Finset.disjoint_left]; intro i h h'
  simp only [yPiece, Finset.mem_filter, Finset.mem_univ, _root_.true_and] at h h'; omega
theorem mYc_split (c : Dev nD) (y : S2x1536x1024.Idx → F .fp8e4m3) :
    (pts c mYc y : sProp (MM F)) ⊢ iprop(ptsOn c mYc (yPiece 0) y ∗ ptsOn c mYc (yPiece 1) y) := by
  show (ptsOn c mYc Finset.univ y : sProp (MM F)) ⊢ _
  rw [← yPieces]
  exact (pointsTo_union (ℓ := mYc.view.loc (c : Thread nD τ)) yPieces_01).1
theorem mYc_join (c : Dev nD) (y y' : S2x1536x1024.Idx → F .fp8e4m3) :
    iprop(ptsOn c mYc (yPiece 0) y ∗ ptsOn c mYc (yPiece 1) y') ⊢ (iprop(∃ d, pts c mYc d) : sProp (MM F)) := by
  iintro H
  ihave H2 := (pointsTo_join (ℓ := mYc.view.loc (c : Thread nD τ)) yPieces_01) $$ H
  iexists _
  ihave H3 := (Entails.of_eq (congrArg (fun S => (ptsOn c mYc S ((yPiece 1).piecewise y' y) : sProp (MM F))) yPieces)) $$ H2
  iexact H3

theorem zero_write (inb : ∀ a, (![0, 0] : Fin 2 → ℕ) a + S32x8192.size a ≤ S32x8192.size a) (f : S32x8192.Idx → F .f32) :
    (mZ.access (Rect.unit (s := S32x8192) ![0, 0] S32x8192.size inb)).write (Elt F) f (k0_pay94 (F := F)) Finset.univ = Zc (F := F) := by
  funext i
  refine (wr_in (Val := Elt F) cc0_scratch7 ![0, 0] S32x8192.size inb f (k0_pay94 (F := F)) i i ?_).trans rfl
  intro a; fin_cases a <;> (show _ = 0 + _; omega)

/-- The copies of zeros, none issued. -/
theorem ZP_intro (c : Dev nD) (I : Ins F) :
    iprop(Batched EC (c : Thread nD τ) (.dma semZ) () NZ (I.kz 120) [] 0 ∗ pts c mZ (Zc (F := F)) ∗ Todo c (I.Tz1 0 0 0)) ⊢ ZP c I 0 0 := by
  unfold ZP ZSt
  iintro ⟨HB, HZ, HT⟩
  iexists ([] : List (sProp (MM F))), fullShare
  isplitr; · ipureintro; rfl
  isplitl [HB]; · iexact HB
  have e : (mZ.view.set : Finset (Idx (mZ.view.loc (c : Thread nD τ)))) = Finset.univ := View.set_whole _
  isplitl [HZ]
  · rw [e]; iexact HZ
  isplitr
  · iintro ⟨-, HZ⟩
    isplitl [HZ]; · iexact HZ
    unfold TAcc
    iexists (fun _ => z32)
    isplitr; · ipureintro; exact fun _ _ => rfl
    have e0 : oset (I.Pz1 0 0 0) = ∅ := by
      ext i; rw [mem_oset]
      refine ⟨fun h => ?_, fun h => absurd h (Finset.notMem_empty _)⟩
      have := h.2; omega
    rw [e0]
    iapply (Entails.of_eq (pointsTo_empty (ℓ := mOut.view.loc (c : Thread nD τ))).symm)
    iempintro
  · iexact HT

/-- The output, before anything is written. -/
theorem out_split (c : Dev nD) (I : Ins F) (f : S5x3072x8192.Idx → F .f32) :
    pts c mOut f ⊢ (iprop(Todo c (I.Tt 0) ∗ Todo c (I.Tz1 0 0 0)) : sProp (MM F)) := by
  iintro H
  have e : oset (fun _ => True) = (Finset.univ : Finset S5x3072x8192.Idx) := by ext i; rw [mem_oset]; simp
  ihave H2 := (show (pts c mOut f : sProp (MM F)) ⊢ Todo c (fun _ => True) from by
    unfold Todo; iintro H; iexists f; rw [e]; iexact H) $$ H
  ihave H3 := (Todo_take c (R := I.Tt 0) (T' := I.Tz1 0 0 0) (fun _ _ => trivial) (fun i => by
    unfold Ins.Tz1 Ins.Tt
    by_cases h : I.emp (i 0).val
    · simp only [h, not_true, _root_.false_and, not_false_iff, and_self, _root_.true_and, iff_true]; omega
    · simp only [h, not_false_iff, _root_.false_and, _root_.true_and, false_iff, not_not]; omega)) $$ H2
  unfold Todo
  iexact H3

/-- What the body has to start from. -/
def St0 (c : Dev nD) (I : Ins F) : sProp (MM F) :=
  iprop(pts c mX I.x ∗ pts c mSx I.sx ∗ pts c mY I.y ∗ pts c mSy I.sy ∗ (∃ d, pts c mXc d) ∗ (∃ d, pts c mYc d) ∗ (∃ d, pts c mXs d) ∗ (∃ d, pts c mYs d)
    ∗ (∃ d, pts c mZ d) ∗ (∃ d, pts c mOut d)
    ∗ semVal ((c : Thread nD τ), SemLoc.dma (semS 0)) 0 ∗ semVal ((c : Thread nD τ), SemLoc.dma (semX 0)) 0 ∗ semVal ((c : Thread nD τ), SemLoc.dma (semX 1)) 0
    ∗ semVal ((c : Thread nD τ), SemLoc.dma (semX 2)) 0 ∗ semVal ((c : Thread nD τ), SemLoc.dma (semS 1)) 0 ∗ semVal ((c : Thread nD τ), SemLoc.dma (semY 0)) 0
    ∗ semVal ((c : Thread nD τ), SemLoc.dma (semY 1)) 0 ∗ semVal ((c : Thread nD τ), SemLoc.dma semZ) 0)
/-- A copy of a column block of `x` under way. -/
def XF (c : Dev nD) (I : Ins F) (C : ℕ) (hC : C < 3) : sProp (MM F) :=
  Fly c (semX ⟨C, hC⟩) NX iprop(ptsOn c mXc (xPiece C) I.x ∗ ptsOn c mX (xPiece C) I.x)
/-- What the first copies leave. -/
def St1 (c : Dev nD) (I : Ins F) : sProp (MM F) :=
  iprop(Fly c (semS 0) NSx iprop(pts c mXs I.sx ∗ pts c mSx I.sx) ∗ XF c I 0 (by omega) ∗ XF c I 1 (by omega) ∗ XF c I 2 (by omega)
    ∗ Fly c (semS 1) NSy iprop(pts c mYs I.sy ∗ pts c mSy I.sy) ∗ YF c I.y 0 ∗ YI c 1 (by omega) ∗ ZP c I 0 0 ∗ Todo c (I.Tt 0))

set_option maxHeartbeats 4000000 in
theorem start_phase (c : Dev nD) (I : Ins F) {β : Type} {kk : PUnit → Prog (TpuEff nD τ sig (Elt F) Λ₀ .tc) β} {Q : β → sProp (MM F)} :
    iprop(St0 c I ∗ (St1 c I -∗ W c (kk ⟨⟩) Q)) ⊢ W c (k0_part44 (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 >>= kk) Q := by
  rw [k0_part44_eq_skeleton]
  unfold k0_part44_skel
  simp only [bind_assoc, pure_bind, Prog.bind_lift, Prog.bind_op]
  unfold St0
  iintro ⟨⟨Hx, Hsx, Hy, Hsy, ⟨%dxc, Hxc⟩, ⟨%dyc, Hyc⟩, ⟨%dxs, Hxs⟩, ⟨%dys, Hys⟩, ⟨%dz, Hz⟩, ⟨%dout, Hout⟩, Hs0, Hx0, Hx1, Hx2, Hs1, Hy0, Hy1, Hvz⟩, Hk⟩
  iapply (sx_start c I.sx dxs (semS_at 0 _)) $$ [Hsx Hxs Hs0]
  · isplitl [Hsx]; · iexact Hsx
    isplitl [Hxs] <;> iassumption
  iintro HF0
  ihave H2 := (mX_split c I.x).1 $$ Hx
  icases H2 with ⟨⟨HxA, HxB⟩, HxC⟩
  ihave H2 := (mXc_split c dxc).1 $$ Hxc
  icases H2 with ⟨⟨HcA, HcB⟩, HcC⟩
  iapply (x_start c (C := 0) (by omega) I.x dxc (semX_at 0 _)) $$ [HxA HcA Hx0]
  · isplitl [HxA]; · iexact HxA
    isplitl [HcA] <;> iassumption
  iintro HF1
  iapply (x_start c (C := 1) (by omega) I.x dxc (semX_at 1 _)) $$ [HxB HcB Hx1]
  · isplitl [HxB]; · iexact HxB
    isplitl [HcB] <;> iassumption
  iintro HF2
  iapply (x_start c (C := 2) (by omega) I.x dxc (semX_at 2 _)) $$ [HxC HcC Hx2]
  · isplitl [HxC]; · iexact HxC
    isplitl [HcC] <;> iassumption
  iintro HF3
  iapply (sy_start c I.sy dys (semS_at 1 _)) $$ [Hsy Hys Hs1]
  · isplitl [Hsy]; · iexact Hsy
    isplitl [Hys] <;> iassumption
  iintro HF4
  ihave H2 := (mYc_split c dyc) $$ Hyc
  icases H2 with ⟨HyA, HyB⟩
  have e1 : k0_off1 = ![0] := by decide
  have e2 : k0_off2 = ![0, 0, 0] := by decide
  iapply (y_start c (j := 0) (by omega) I.y dyc e2 rfl (semY_of (by omega) e1 _)) $$ [Hy HyA Hy0]
  · isplitl [Hy]; · iexact Hy
    isplitl [HyA] <;> iassumption
  iintro HF5
  iapply (wp_load 𝒱₀ (c : Thread nD τ) none Set.univ (m := mZ) (Finset.subset_univ _)) $$ Hz; iintro Hz
  iapply (wp_store 𝒱₀ (c : Thread nD τ) none Set.univ (m := mZ) (r := Rect.unit (s := S32x8192) ![0, 0] S32x8192.size inb_S32x8192_S32x8192_0_0) (Mk := Finset.univ) (Finset.subset_univ _)) $$ Hz; iintro Hz
  ihave Hz2 := (Entails.of_eq (congrArg (fun f => (pts c mZ f : sProp (MM F))) (zero_write inb_S32x8192_S32x8192_0_0 dz))) $$ Hz
  imod (batched_alloc EC (c : Thread nD τ) () NZ (I.kz 120)) $$ Hvz with HB
  ihave Ho := (out_split c I dout) $$ Hout
  icases Ho with ⟨HT, HTz⟩
  iapply Hk
  unfold St1 XF YI
  isplitl [HF0]; · iexact HF0
  isplitl [HF1]; · iexact HF1
  isplitl [HF2]; · iexact HF2
  isplitl [HF3]; · iexact HF3
  isplitl [HF4]; · iexact HF4
  isplitl [HF5]; · iexact HF5
  isplitl [Hy1 HyB]
  · isplitl [Hy1]; · iexact Hy1
    iexists dyc; iexact HyB
  isplitr [HT]
  · iapply (ZP_intro c I)
    isplitl [HB]; · iexact HB
    isplitl [Hz2] <;> iassumption
  · iexact HT

end Cert.Kernel
-- ==== Proof.Finish.lean ====
/- The end: the last tiles waited for, then the zero copies, and the output gathered. -/
module

public import proofs.«01_k».proof.Proof.Opens

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

/-- The four slots, together the whole buffer. -/
theorem obPieces : ((obPiece 0 ∪ obPiece 1) ∪ obPiece 2) ∪ obPiece 3 = (Finset.univ : Finset S4x1024x1024.Idx) := by
  ext i
  have h1 : (i 0).val < 4 := (i 0).isLt
  simp only [obPiece, Finset.mem_union, Finset.mem_filter, Finset.mem_univ, _root_.true_and, iff_true]
  omega
theorem obPieces_1 : Disjoint (obPiece 0) (obPiece 1) := by
  rw [Finset.disjoint_left]; intro i h h'
  simp only [obPiece, Finset.mem_union, Finset.mem_filter, Finset.mem_univ, _root_.true_and] at h h'; omega
theorem obPieces_2 : Disjoint (obPiece 0 ∪ obPiece 1) (obPiece 2) := by
  rw [Finset.disjoint_left]; intro i h h'
  simp only [obPiece, Finset.mem_union, Finset.mem_filter, Finset.mem_univ, _root_.true_and] at h h'; omega
theorem obPieces_3 : Disjoint ((obPiece 0 ∪ obPiece 1) ∪ obPiece 2) (obPiece 3) := by
  rw [Finset.disjoint_left]; intro i h h'
  simp only [obPiece, Finset.mem_union, Finset.mem_filter, Finset.mem_univ, _root_.true_and] at h h'; omega
theorem mOb_split (c : Dev nD) (d : S4x1024x1024.Idx → F .f32) :
    (pts c mOb d : sProp (MM F)) ⊢ iprop(((ptsOn c mOb (obPiece 0) d ∗ ptsOn c mOb (obPiece 1) d) ∗ ptsOn c mOb (obPiece 2) d) ∗ ptsOn c mOb (obPiece 3) d) := by
  show (ptsOn c mOb Finset.univ d : sProp (MM F)) ⊢ _
  rw [← obPieces]
  exact (pointsTo_union (ℓ := mOb.view.loc (c : Thread nD τ)) obPieces_3).1.trans (sep_mono
    ((pointsTo_union (ℓ := mOb.view.loc (c : Thread nD τ)) obPieces_2).1.trans (sep_mono
      (pointsTo_union (ℓ := mOb.view.loc (c : Thread nD τ)) obPieces_1).1 .rfl)) .rfl)
theorem mOb_join (c : Dev nD) (d0 d1 d2 d3 : S4x1024x1024.Idx → F .f32) :
    iprop(ptsOn c mOb (obPiece 0) d0 ∗ ptsOn c mOb (obPiece 1) d1 ∗ ptsOn c mOb (obPiece 2) d2 ∗ ptsOn c mOb (obPiece 3) d3) ⊢ (iprop(∃ d, pts c mOb d) : sProp (MM F)) := by
  iintro ⟨H0, H1, H2, H3⟩
  ihave Ha := (pointsTo_join (ℓ := mOb.view.loc (c : Thread nD τ)) obPieces_1) $$ [H0 H1]
  · isplitl [H0] <;> iassumption
  ihave Hb := (pointsTo_join (ℓ := mOb.view.loc (c : Thread nD τ)) obPieces_2) $$ [Ha H2]
  · isplitl [Ha] <;> iassumption
  ihave Hc := (pointsTo_join (ℓ := mOb.view.loc (c : Thread nD τ)) obPieces_3) $$ [Hb H3]
  · isplitl [Hb] <;> iassumption
  iexists ((obPiece 3).piecewise d3 ((obPiece 2).piecewise d2 ((obPiece 1).piecewise d1 d0)))
  ihave Hd := (Entails.of_eq (congrArg (fun S => (ptsOn c mOb S ((obPiece 3).piecewise d3 ((obPiece 2).piecewise d2 ((obPiece 1).piecewise d1 d0))) : sProp (MM F))) obPieces)) $$ Hc
  iexact Hd

theorem sep4 (Φ : Fin 4 → sProp (MM F)) : bigSep Finset.univ Φ = iprop(Φ 0 ∗ Φ 1 ∗ Φ 2 ∗ Φ 3) := by
  rw [BI.bigSep_eq_bigSepL_of_eq [0, 1, 2, 3] (by decide) (by decide)]; rfl

/-- The slots, no tile computed. -/
theorem slots_init (c : Dev nD) (I : Ins F) (b : Fin 4 → Bool) (hb : ∀ q, b q = false) (d : S4x1024x1024.Idx → F .f32) :
    iprop(pts c mOb d ∗ semVal ((c : Thread nD τ), SemLoc.dma (semO 0)) 0 ∗ semVal ((c : Thread nD τ), SemLoc.dma (semO 1)) 0
      ∗ semVal ((c : Thread nD τ), SemLoc.dma (semO 2)) 0 ∗ semVal ((c : Thread nD τ), SemLoc.dma (semO 3)) 0)
      ⊢ Slots I.OKt c b (I.Pt 0) := by
  unfold Slots SlotSt Slot
  iintro ⟨Hd, H0, H1, H2, H3⟩
  ihave Hs := (mOb_split c d) $$ Hd
  icases Hs with ⟨⟨⟨P0, P1⟩, P2⟩, P3⟩
  iexists (fun _ => iprop(emp))
  isplitl
  · rw [sep4]
    simp only [hb, Bool.false_eq_true, if_false]
    isplitl [H0 P0]
    · isplitl [H0]; · iexact H0
      isplitl; · iexists d; iexact P0
      iempintro
    isplitl [H1 P1]
    · isplitl [H1]; · iexact H1
      isplitl; · iexists d; iexact P1
      iempintro
    isplitl [H2 P2]
    · isplitl [H2]; · iexact H2
      isplitl; · iexists d; iexact P2
      iempintro
    · isplitl [H3]; · iexact H3
      isplitl; · iexists d; iexact P3
      iempintro
  · iintro -
    unfold TAcc
    iexists (fun _ => z32)
    isplitr; · ipureintro; exact fun i h => absurd h.2 (Nat.not_lt_zero _)
    have e0 : oset (I.Pt 0) = ∅ := by
      ext i; rw [mem_oset]
      exact ⟨fun h => absurd h.2 (Nat.not_lt_zero _), fun h => absurd h (Finset.notMem_empty _)⟩
    rw [e0]
    iapply (Entails.of_eq (pointsTo_empty (ℓ := mOut.view.loc (c : Thread nD τ))).symm)
    iempintro

/-- The slots, every tile written. -/
theorem slots_fin (c : Dev nD) (I : Ins F) (b : Fin 4 → Bool) (hb : ∀ q, b q = false) (P : S5x3072x8192.Idx → Prop) :
    Slots I.OKt c b P ⊢ iprop((∃ d, pts c mOb d) ∗ semVal ((c : Thread nD τ), SemLoc.dma (semO 0)) 0 ∗ semVal ((c : Thread nD τ), SemLoc.dma (semO 1)) 0
      ∗ semVal ((c : Thread nD τ), SemLoc.dma (semO 2)) 0 ∗ semVal ((c : Thread nD τ), SemLoc.dma (semO 3)) 0 ∗ TAcc c I.OKt P) := by
  unfold Slots SlotSt Slot
  iintro ⟨%Ps, HS, Hw⟩
  ihave HS2 := (Entails.of_eq (sep4 _)) $$ HS
  simp only [hb, Bool.false_eq_true, if_false]
  icases HS2 with ⟨⟨V0, ⟨%d0, P0⟩, D0⟩, ⟨V1, ⟨%d1, P1⟩, D1⟩, ⟨V2, ⟨%d2, P2⟩, D2⟩, ⟨V3, ⟨%d3, P3⟩, D3⟩⟩
  isplitl [P0 P1 P2 P3]
  · iapply (mOb_join c d0 d1 d2 d3)
    isplitl [P0]; · iexact P0
    isplitl [P1]; · iexact P1
    isplitl [P2]; · iexact P2
    iexact P3
  isplitl [V0]; · iexact V0
  isplitl [V1]; · iexact V1
  isplitl [V2]; · iexact V2
  isplitl [V3]; · iexact V3
  iapply Hw
  iapply (Entails.of_eq (sep4 Ps).symm)
  isplitl [D0]; · iexact D0
  isplitl [D1]; · iexact D1
  isplitl [D2] <;> iassumption

/-- A slot's last copy is waited for, where one is under way. -/
theorem slot_if (c : Dev nD) (I : Ins F) (b b' : Fin 4 → Bool) (q : Fin 4) (hq : b' q = false) (hb : ∀ r, r ≠ q → b' r = b r) (P : S5x3072x8192.Idx → Prop)
    {cond : Prop} [Decidable cond] (hc : cond ↔ b q = true)
    {sp sp' : Space} {s s' : Shape} {e e' : EltTy} {sem : DmaSem sig} (hs : sem = semO q)
    {srcw : Memref sig .tc sp' s' e'} {dstw : Memref sig .tc sp s e} {h1} {h2} (hN : dstw.view.dmaCredit = NT)
    {β : Type} {K : Prog (TpuEff nD τ sig (Elt F) Λ₀ .tc) β} {Q : β → sProp (MM F)} :
    iprop(Slots I.OKt c b P ∗ (∃ W', owes (c : Thread nD τ) 0 W') ∗ ((Slots I.OKt c b' P ∗ (∃ W', owes (c : Thread nD τ) 0 W')) -∗ W c K Q))
      ⊢ W c (if cond then (.op (.waitDma2 sem srcw dstw h1 h2) fun _ => K) else K) Q := by
  by_cases h : cond
  · rw [if_pos h]
    unfold Slots
    iintro ⟨⟨%Ps, HS, Hw⟩, ⟨%W0, HO⟩, Hk⟩
    ihave HS2 := (Entails.of_eq (erase_sep q _)) $$ HS
    icases HS2 with ⟨H, HS⟩
    ihave H2 := (Entails.of_eq (slotSt_busy c q (Ps q) (hc.1 h))) $$ H
    icases H2 with ⟨%X, HF, HX⟩
    iapply (wait_flight c hs hN) $$ [HF HO]
    · isplitl [HF] <;> iassumption
    iintro ⟨HX1, Hv, HO⟩
    ihave HX2 := HX $$ HX1
    icases HX2 with ⟨HD, Ho⟩
    iapply Hk
    isplitr [HO]
    · iexists Ps
      isplitr [Hw]
      · iapply (Entails.of_eq (erase_sep q (fun r => SlotSt c r (b' r) (Ps r))).symm)
        isplitl [Hv Ho HD]
        · iapply (Entails.of_eq (slotSt_idle c q (Ps q) hq).symm)
          isplitl [Hv]; · iexact Hv
          isplitl [Ho] <;> iassumption
        · iapply (Entails.of_eq (bigSep_congr (fun r hr => by rw [hb r (Finset.ne_of_mem_erase hr)]))) $$ HS
      · iexact Hw
    · iexists _; iexact HO
  · rw [if_neg h]
    iintro ⟨HS, HO, Hk⟩
    have e : b' = b := by
      funext r
      by_cases hr : r = q
      · subst hr; rw [hq]; symm
        revert h; rw [hc]; cases b r <;> simp
      · exact hb r hr
    rw [e]
    iapply Hk
    isplitl [HS] <;> iassumption

/-- The zero copies all issued, `n` of them waited for. -/
def ZW (c : Dev nD) (I : Ins F) (n : ℕ) : sProp (MM F) :=
  iprop(∃ (Ds : List (sProp (MM F))) (q : PosShare TreeShare), ⌜Ds.length = I.kz 120⌝ ∗ Batched EC (c : Thread nD τ) (.dma semZ) () NZ (I.kz 120) Ds (n * NZ) ∗
    (mZ.view.loc (c : Thread nD τ) ↦[mZ.view.set]{q} (Zc (F := F))) ∗
    ((All Ds ∗ (mZ.view.loc (c : Thread nD τ) ↦[mZ.view.set]{q} (Zc (F := F)))) -∗
      ((mZ.view.loc (c : Thread nD τ) ↦[mZ.view.set]{fullShare} (Zc (F := F))) ∗ TAcc c isZ (I.Pz 120 0))))

theorem ZW_intro (c : Dev nD) (I : Ins F) : ZSt c (I.kz 120) (I.kz 120) (I.Pz 120 0) (I.Tz 120 0) ⊢ ZW c I 0 := by
  unfold ZSt ZW
  rw [Nat.zero_mul]
  iintro ⟨%Ds, %q, %hl, HB, HZ, Hw, -⟩
  iexists Ds, q
  isplitr; · ipureintro; exact hl
  isplitl [HB]; · iexact HB
  isplitl [HZ] <;> iassumption

theorem ZW_fin (c : Dev nD) (I : Ins F) :
    ZW c I (I.kz 120) ⊢ (|={Set.univ}=> iprop((∃ d, pts c mZ d) ∗ TAcc c isZ (I.Pz 120 0) ∗ semVal ((c : Thread nD τ), SemLoc.dma semZ) 0) : sProp (MM F)) := by
  unfold ZW
  rw [Nat.mul_comm]
  iintro ⟨%Ds, %q, %hl, HB, HZ, Hw⟩
  imod (batched_collect EC (c : Thread nD τ) NZ_pos hl) $$ HB with ⟨HD, Hv⟩
  imodintro
  ihave HA := (All_of_deliv Ds hl) $$ HD
  ihave H2 := Hw $$ [HA HZ]
  · isplitl [HA] <;> iassumption
  icases H2 with ⟨HZ, HT⟩
  have e : (mZ.view.set : Finset (Idx (mZ.view.loc (c : Thread nD τ)))) = Finset.univ := View.set_whole _
  isplitl [HZ]
  · iexists (Zc (F := F))
    ihave H3 := (Entails.of_eq (congrArg (fun S => (ptsOn c mZ S (Zc (F := F)) : sProp (MM F))) e)) $$ HZ
    iexact H3
  isplitl [HT] <;> iassumption

theorem zDst_credit (off : Fin 3 → ℕ) (inb : ∀ a, off a + S1x32x8192.size a ≤ S5x3072x8192.size a) : (zDst off inb).view.dmaCredit = NZ := rfl

/-- A zero copy is waited for. -/
theorem zero_wait (c : Dev nD) (I : Ins F) {n : ℕ} (hn : n < I.kz 120)
    {sp sp' : Space} {s s' : Shape} {e e' : EltTy} {sem : DmaSem sig} (hs : sem = semZ)
    {srcw : Memref sig .tc sp' s' e'} {dstw : Memref sig .tc sp s e} {h1} {h2} (hN : dstw.view.dmaCredit = NZ)
    {β : Type} {kk : PUnit → Prog (TpuEff nD τ sig (Elt F) Λ₀ .tc) β} {Q : β → sProp (MM F)} :
    iprop((ZW c I n ∗ (∃ W', owes (c : Thread nD τ) 0 W')) ∗ ((ZW c I (n + 1) ∗ (∃ W', owes (c : Thread nD τ) 0 W')) -∗ W c (kk ⟨⟩) Q))
      ⊢ W c (.op (.waitDma2 sem srcw dstw h1 h2) kk) Q := by
  subst hs
  unfold ZW
  iintro ⟨⟨⟨%Ds, %q, %hl, HB, HZ, Hw⟩, ⟨%W0, HO⟩⟩, Hk⟩
  have hu : n * NZ + 1 * NZ ≤ NZ * Ds.length := by
    rw [hl, ← Nat.add_mul, Nat.mul_comm NZ]; exact Nat.mul_le_mul_right _ hn
  iapply (wp_waitBatchedMul EC 𝒱₀ (c : Thread nD τ) none (srcw := srcw) (dstw := dstw) () (N := NZ) 1 (by rw [hN, Nat.one_mul]) hu) $$ [HB HO]
  · isplitl [HB] <;> iassumption
  iintro ⟨HB, HO⟩
  iapply Hk
  rw [← Nat.add_mul]
  isplitr [HO]
  · iexists Ds, q
    isplitr; · ipureintro; exact hl
    isplitl [HB]; · iexact HB
    isplitl [HZ] <;> iassumption
  · iexists _; iexact HO

/-- The zero copies of the experts before `E`. -/
def Ins.emW (I : Ins F) : ℕ → ℕ
  | 0 => 0
  | E + 1 => emW I E + 96 * I.em E

theorem Ins.emW5 (I : Ins F) : I.emW 5 = I.kz 120 := by
  rw [I.kz_all]
  show 0 + 96 * I.em 0 + 96 * I.em 1 + 96 * I.em 2 + 96 * I.em 3 + 96 * I.em 4 = 96 * (I.em 0 + I.em 1 + I.em 2 + I.em 3 + I.em 4)
  omega
theorem Ins.emW_le (I : Ins F) {E : ℕ} (h : E < 5) (he : I.emp E) : I.emW E + 96 ≤ I.kz 120 := by
  rw [← I.emW5]
  have h1 : I.emW (E + 1) = I.emW E + 96 := by show I.emW E + 96 * I.em E = _; rw [I.em_emp he]
  have hm : ∀ a b, a ≤ b → I.emW a ≤ I.emW b := fun a b hab => by
    induction hab with
    | refl => exact le_refl _
    | step _ ih => exact ih.trans (Nat.le_add_right _ _)
  have := hm (E + 1) 5 (by omega)
  omega

/-- An expert's zero copies are waited for, where it has no rows. -/
theorem zwait_if (c : Dev nD) (I : Ins F) {E : ℕ} (hE : E < 5) {L : Scf.Loop 32} (hL : L.trips = 96) {hok : L.OK}
    {body : Fin L.trips → PUnit → Prog (TpuEff nD τ sig (Elt F) Λ₀ .tc) PUnit}
    (hb : ∀ (n : ℕ), n < I.kz 120 → ∀ (t : Fin L.trips) u, iprop(ZW c I n ∗ (∃ W', owes (c : Thread nD τ) 0 W')) ⊢ W c (body t u) (fun _ => iprop(ZW c I (n + 1) ∗ (∃ W', owes (c : Thread nD τ) 0 W'))))
    {cond : Prop} [Decidable cond] (hc : cond ↔ I.emp E)
    {β : Type} {K : Prog (TpuEff nD τ sig (Elt F) Λ₀ .tc) β} {Q : β → sProp (MM F)} :
    iprop((ZW c I (I.emW E) ∗ (∃ W', owes (c : Thread nD τ) 0 W')) ∗ ((ZW c I (I.emW (E + 1)) ∗ (∃ W', owes (c : Thread nD τ) 0 W')) -∗ W c K Q))
      ⊢ W c (if cond then (Scf.Loop.for L hok ⟨⟩ body >>= fun _ => K) else K) Q := by
  by_cases he : I.emp E
  · rw [if_pos (hc.2 he)]
    have hle := I.emW_le hE he
    iintro ⟨HZ, Hk⟩
    iapply (Scf.wp_for_bind frame (wpE (defs₀ (F := F)) 𝒱₀ (c : Thread nD τ) none) Set.univ _ _ _ hok _ body
      (fun n _ => iprop(ZW c I (I.emW E + n) ∗ (∃ W', owes (c : Thread nD τ) 0 W')))
      (fun t u => hb (I.emW E + t.val) (by have : t.val < 96 := lt_of_lt_of_eq t.isLt hL; omega) t u)) $$ [HZ]
    · iexact HZ
    · iintro %r HZ
      iapply Hk
      have e8 : Scf.trips L.lb L.ub L.st = 96 := hL
      rw [e8, show I.emW (E + 1) = I.emW E + 96 from by show I.emW E + 96 * I.em E = _; rw [I.em_emp he]]
      iexact HZ
  · rw [if_neg (mt hc.1 he)]
    iintro ⟨HZ, Hk⟩
    iapply Hk
    rw [show I.emW (E + 1) = I.emW E from by show I.emW E + 96 * I.em E = _; rw [I.em_not he]; rfl]
    iexact HZ

theorem zwait_trip80 (c : Dev nD) (I : Ins F) {n : ℕ} (hn : n < I.kz 120)  (t : Fin k0_t80_loop.trips) (u : PUnit) :
    iprop(ZW c I n ∗ (∃ W', owes (c : Thread nD τ) 0 W')) ⊢ W c (Gen.k0_t80_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13  t u) (fun _ => iprop(ZW c I (n + 1) ∗ (∃ W', owes (c : Thread nD τ) 0 W'))) := by
  unfold Gen.k0_t80_body
  simp only [bind_assoc, pure_bind, Prog.bind_lift, Prog.bind_op]
  iintro HZ
  iapply (zero_wait c I hn rfl (zDst_credit _ _))
  isplitl [HZ]; · iexact HZ
  iintro HZ
  iapply (wp_pure_intro c)
  iexact HZ

theorem zwait_trip81 (c : Dev nD) (I : Ins F) {n : ℕ} (hn : n < I.kz 120)  (t : Fin k0_t81_loop.trips) (u : PUnit) :
    iprop(ZW c I n ∗ (∃ W', owes (c : Thread nD τ) 0 W')) ⊢ W c (Gen.k0_t81_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13  t u) (fun _ => iprop(ZW c I (n + 1) ∗ (∃ W', owes (c : Thread nD τ) 0 W'))) := by
  unfold Gen.k0_t81_body
  simp only [bind_assoc, pure_bind, Prog.bind_lift, Prog.bind_op]
  iintro HZ
  iapply (zero_wait c I hn rfl (zDst_credit _ _))
  isplitl [HZ]; · iexact HZ
  iintro HZ
  iapply (wp_pure_intro c)
  iexact HZ

theorem zwait_trip82 (c : Dev nD) (I : Ins F) {n : ℕ} (hn : n < I.kz 120)  (t : Fin k0_t82_loop.trips) (u : PUnit) :
    iprop(ZW c I n ∗ (∃ W', owes (c : Thread nD τ) 0 W')) ⊢ W c (Gen.k0_t82_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13  t u) (fun _ => iprop(ZW c I (n + 1) ∗ (∃ W', owes (c : Thread nD τ) 0 W'))) := by
  unfold Gen.k0_t82_body
  simp only [bind_assoc, pure_bind, Prog.bind_lift, Prog.bind_op]
  iintro HZ
  iapply (zero_wait c I hn rfl (zDst_credit _ _))
  isplitl [HZ]; · iexact HZ
  iintro HZ
  iapply (wp_pure_intro c)
  iexact HZ

theorem zwait_trip83 (c : Dev nD) (I : Ins F) {n : ℕ} (hn : n < I.kz 120)  (t : Fin k0_t83_loop.trips) (u : PUnit) :
    iprop(ZW c I n ∗ (∃ W', owes (c : Thread nD τ) 0 W')) ⊢ W c (Gen.k0_t83_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13  t u) (fun _ => iprop(ZW c I (n + 1) ∗ (∃ W', owes (c : Thread nD τ) 0 W'))) := by
  unfold Gen.k0_t83_body
  simp only [bind_assoc, pure_bind, Prog.bind_lift, Prog.bind_op]
  iintro HZ
  iapply (zero_wait c I hn rfl (zDst_credit _ _))
  isplitl [HZ]; · iexact HZ
  iintro HZ
  iapply (wp_pure_intro c)
  iexact HZ

theorem zwait_trip84 (c : Dev nD) (I : Ins F) {n : ℕ} (hn : n < I.kz 120)  (t : Fin k0_t84_loop.trips) (u : PUnit) :
    iprop(ZW c I n ∗ (∃ W', owes (c : Thread nD τ) 0 W')) ⊢ W c (Gen.k0_t84_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13  t u) (fun _ => iprop(ZW c I (n + 1) ∗ (∃ W', owes (c : Thread nD τ) 0 W'))) := by
  unfold Gen.k0_t84_body
  simp only [bind_assoc, pure_bind, Prog.bind_lift, Prog.bind_op]
  iintro HZ
  iapply (zero_wait c I hn rfl (zDst_credit _ _))
  isplitl [HZ]; · iexact HZ
  iintro HZ
  iapply (wp_pure_intro c)
  iexact HZ

/-- The output at the end: the tiles of the experts with rows, zeros for those without. -/
def OutOK (I : Ins F) (f : S5x3072x8192.Idx → F .f32) : Prop :=
  ∀ i, (I.emp (i 0).val → f i = z32) ∧ (¬ I.emp (i 0).val → I.OKt i (f i))

theorem out_join (c : Dev nD) (I : Ins F) :
    iprop(TAcc c I.OKt (I.Pt 120) ∗ TAcc c isZ (I.Pz 120 0)) ⊢ (iprop(∃ f, ⌜OutOK I f⌝ ∗ pts c mOut f) : sProp (MM F)) := by
  have h1 : ∀ i, I.Pt 120 i ↔ ¬ I.emp (i 0).val := fun i => by
    have a0 : (i 0).val < 5 := (i 0).isLt
    have a1 : (i 1).val < 3072 := (i 1).isLt
    have a2 : (i 2).val < 8192 := (i 2).isLt
    unfold Ins.Pt Ins.stp
    exact ⟨fun h => h.1, fun h => ⟨h, by omega⟩⟩
  have h2 : ∀ i, I.Pz 120 0 i ↔ I.emp (i 0).val := fun i => by
    have a0 : (i 0).val < 5 := (i 0).isLt
    have a1 : (i 1).val < 3072 := (i 1).isLt
    unfold Ins.Pz Ins.bnd
    exact ⟨fun h => h.1, fun h => ⟨h, by omega⟩⟩
  unfold TAcc
  iintro ⟨⟨%f, %hf, H⟩, ⟨%g, %hg, H'⟩⟩
  have hd : Disjoint (oset (I.Pt 120)) (oset (I.Pz 120 0)) := Finset.disjoint_left.2 fun i a b => (h1 i).1 (mem_oset.1 a) ((h2 i).1 (mem_oset.1 b))
  have hu : oset (I.Pt 120) ∪ oset (I.Pz 120 0) = Finset.univ := by
    ext i; rw [Finset.mem_union, mem_oset, mem_oset, h1, h2]
    exact ⟨fun _ => Finset.mem_univ _, fun _ => (Classical.em _).symm⟩
  classical
  iexists (oset (I.Pz 120 0)).piecewise g f
  isplitr
  · ipureintro
    intro i
    refine ⟨fun he => ?_, fun he => ?_⟩
    · rw [Finset.piecewise_eq_of_mem _ _ _ (mem_oset.2 ((h2 i).2 he))]; exact hg i ((h2 i).2 he)
    · rw [Finset.piecewise_eq_of_notMem _ _ _ (fun h => he ((h2 i).1 (mem_oset.1 h)))]; exact hf i ((h1 i).2 he)
  · ihave H2 := (pointsTo_join (ℓ := mOut.view.loc (c : Thread nD τ)) hd) $$ [H H']
    · isplitl [H] <;> iassumption
    ihave H3 := (Entails.of_eq (congrArg (fun S => (ptsOn c mOut S ((oset (I.Pz 120 0)).piecewise g f) : sProp (MM F))) hu)) $$ H2
    iexact H3

end Cert.Kernel
-- ==== Proof.Checks.lean ====
/- The facts the kernel assumes of the words it has read, each from the segments' bounds. -/
module

public import proofs.«01_k».proof.Proof.Segs
public import proofs.«01_k».proof.Kernel

@[expose] public section

set_option maxRecDepth 4000

namespace Cert.Kernel

open Idealize.ShloMosaic GW

theorem col_le (j : Fin k0_t66_loop.trips) : (Scalar.muli (Scf.iv 0#32 1#32 j) 1024#32).toNat + 1024 ≤ 8192 := by
  have hj : j.val < 8 := j.isLt
  rw [colY_toNat hj]; omega
theorem slot_le (j : Fin k0_t66_loop.trips) : (Scalar.remsi (Scf.iv 0#32 1#32 j) 2#32).toNat + 1 ≤ 2 := by
  have hj : j.val < 8 := j.isLt
  rw [slotY_toNat (by omega)]; omega

theorem chk1_0 {v27 : BitVec 32} (h0 : Seg v27 0#32 0#32 0#32) : k0_chk1_0 v27 := by
  unfold k0_chk1_0
  exact ⟨h0.next_lo_dvd,
    h0.grp_ok,
    fun t => h0.win_dvd t,
    fun t => inb2 (h0.sc_le t) (by decide),
    fun t => inb2 (h0.win_le t) (by decide),
    fun t => inb2 (le_trans (h0.win_le t) (by decide)) (by decide),
    fun t hinb => packed2 hinb (h0.win_dvd2 t) (by decide),
    h0.grp_rem_ok,
    fun t => rem_false t,
    fun t => rem_false t,
    fun t => rem_false t,
    fun t => rem_false t,
    fun t => rem_false t,
    h0.nk_ok,
    fun t => h0.tile_dvd t,
    fun t => inb2 (h0.tile_le t) (by decide),
    fun t => h0.kt_dvd t,
    fun t => inb2 (by decide) (h0.kt_le t),
    fun t hinb => packed2 hinb (by decide) (by decide),
    h0.nk_rem_ok,
    fun t => rem_false t,
    fun t => rem_false t,
    fun t => rem_false t,
    fun t => rem_false t,
    fun t => rem_false t,
    h0.grp_ok,
    fun t => h0.win_dvd t,
    fun t => inb2 (h0.sc_le t) (by decide),
    fun t => inb2 (h0.win_le t) (by decide),
    fun t => inb2 (le_trans (h0.win_le t) (by decide)) (by decide),
    fun t hinb => packed2 hinb (h0.win_dvd2 t) (by decide),
    h0.grp_rem_ok⟩

theorem chk1_1 {v27 : BitVec 32} (h0 : Seg v27 0#32 0#32 0#32) : k0_chk1_1 v27 := by
  unfold k0_chk1_1
  exact ⟨fun t => rem_false t,
    fun t => rem_false t,
    fun t => rem_false t,
    fun t => rem_false t,
    fun t => rem_false t,
    h0.nk_ok,
    fun t => h0.tile_dvd t,
    fun t => inb2 (h0.tile_le t) (by decide),
    fun t => h0.kt_dvd t,
    fun t => inb2 (by decide) (h0.kt_le t),
    fun t hinb => packed2 hinb (by decide) (by decide),
    h0.nk_rem_ok,
    fun t => rem_false t,
    fun t => rem_false t,
    fun t => rem_false t,
    fun t => rem_false t,
    fun t => rem_false t,
    h0.grp_ok,
    fun t => h0.win_dvd t,
    fun t => inb2 (h0.sc_le t) (by decide),
    fun t => inb2 (h0.win_le t) (by decide),
    fun t => inb2 (le_trans (h0.win_le t) (by decide)) (by decide),
    fun t hinb => packed2 hinb (h0.win_dvd2 t) (by decide),
    h0.grp_rem_ok,
    fun t => rem_false t,
    fun t => rem_false t,
    fun t => rem_false t,
    fun t => rem_false t,
    fun t => rem_false t,
    h0.nk_ok,
    fun t => h0.tile_dvd t,
    fun t => inb2 (h0.tile_le t) (by decide)⟩

theorem chk1_2 {v27 : BitVec 32} (h0 : Seg v27 0#32 0#32 0#32) : k0_chk1_2 v27 := by
  unfold k0_chk1_2
  exact ⟨fun t => h0.kt_dvd t,
    fun t => inb2 (by decide) (h0.kt_le t),
    fun t hinb => packed2 hinb (by decide) (by decide),
    h0.nk_rem_ok,
    fun t => rem_false t,
    fun t => rem_false t,
    fun t => rem_false t,
    fun t => rem_false t,
    fun t => rem_false t,
    h0.grp_ok,
    fun t => h0.win_dvd t,
    fun j t => inb2 (h0.sc_le t) (col_le j),
    fun j t => inb3 (slot_le j) (h0.win_le t) (by decide),
    fun t => inb2 (le_trans (h0.win_le t) (by decide)) (by decide),
    fun t hinb => packed2 hinb (h0.win_dvd2 t) (by decide),
    h0.grp_rem_ok,
    fun t => rem_false t,
    fun j t => rem_false t,
    fun j t => rem_false t,
    fun t => rem_false t,
    fun t => rem_false t⟩

/-- What the kernel assumes once it has read word 1. -/
theorem chk1 {v27 : BitVec 32} (h : Seg v27 0#32 0#32 0#32) : k0_chk1 v27 := by
  unfold k0_chk1
  exact ⟨chk1_0 h, chk1_1 h, chk1_2 h⟩

theorem chk2_0 {v27 : BitVec 32} {v96 : BitVec 32} (h1 : Seg v96 (s1 v27) (g1 v27) (k1 v27)) : k0_chk2_0 v27 v96 := by
  unfold k0_chk2_0
  exact ⟨h1.next_lo_dvd,
    h1.grp_ok,
    fun t => h1.win_dvd t,
    fun t => inb2 (h1.sc_le t) (by decide),
    fun t => inb2 (h1.win_le t) (by decide),
    fun t => inb2 (le_trans (h1.win_le t) (by decide)) (by decide),
    fun t hinb => packed2 hinb (h1.win_dvd2 t) (by decide),
    h1.grp_rem_ok,
    fun t => rem_false t,
    fun t => rem_false t,
    fun t => rem_false t,
    fun t => rem_false t,
    fun t => rem_false t,
    h1.nk_ok,
    fun t => h1.tile_dvd t,
    fun t => inb2 (h1.tile_le t) (by decide),
    fun t => h1.kt_dvd t,
    fun t => inb2 (by decide) (h1.kt_le t),
    fun t hinb => packed2 hinb (by decide) (by decide),
    h1.nk_rem_ok,
    fun t => rem_false t,
    fun t => rem_false t,
    fun t => rem_false t,
    fun t => rem_false t,
    fun t => rem_false t,
    h1.grp_ok,
    fun t => h1.win_dvd t,
    fun t => inb2 (h1.sc_le t) (by decide),
    fun t => inb2 (h1.win_le t) (by decide),
    fun t => inb2 (le_trans (h1.win_le t) (by decide)) (by decide),
    fun t hinb => packed2 hinb (h1.win_dvd2 t) (by decide),
    h1.grp_rem_ok⟩

theorem chk2_1 {v27 : BitVec 32} {v96 : BitVec 32} (h1 : Seg v96 (s1 v27) (g1 v27) (k1 v27)) : k0_chk2_1 v27 v96 := by
  unfold k0_chk2_1
  exact ⟨fun t => rem_false t,
    fun t => rem_false t,
    fun t => rem_false t,
    fun t => rem_false t,
    fun t => rem_false t,
    h1.nk_ok,
    fun t => h1.tile_dvd t,
    fun t => inb2 (h1.tile_le t) (by decide),
    fun t => h1.kt_dvd t,
    fun t => inb2 (by decide) (h1.kt_le t),
    fun t hinb => packed2 hinb (by decide) (by decide),
    h1.nk_rem_ok,
    fun t => rem_false t,
    fun t => rem_false t,
    fun t => rem_false t,
    fun t => rem_false t,
    fun t => rem_false t,
    h1.grp_ok,
    fun t => h1.win_dvd t,
    fun t => inb2 (h1.sc_le t) (by decide),
    fun t => inb2 (h1.win_le t) (by decide),
    fun t => inb2 (le_trans (h1.win_le t) (by decide)) (by decide),
    fun t hinb => packed2 hinb (h1.win_dvd2 t) (by decide),
    h1.grp_rem_ok,
    fun t => rem_false t,
    fun t => rem_false t,
    fun t => rem_false t,
    fun t => rem_false t,
    fun t => rem_false t,
    h1.nk_ok,
    fun t => h1.tile_dvd t,
    fun t => inb2 (h1.tile_le t) (by decide)⟩

theorem chk2_2 {v27 : BitVec 32} {v96 : BitVec 32} (h1 : Seg v96 (s1 v27) (g1 v27) (k1 v27)) : k0_chk2_2 v27 v96 := by
  unfold k0_chk2_2
  exact ⟨fun t => h1.kt_dvd t,
    fun t => inb2 (by decide) (h1.kt_le t),
    fun t hinb => packed2 hinb (by decide) (by decide),
    h1.nk_rem_ok,
    fun t => rem_false t,
    fun t => rem_false t,
    fun t => rem_false t,
    fun t => rem_false t,
    fun t => rem_false t,
    h1.grp_ok,
    fun t => h1.win_dvd t,
    fun j t => inb2 (h1.sc_le t) (col_le j),
    fun j t => inb3 (slot_le j) (h1.win_le t) (by decide),
    fun t => inb2 (le_trans (h1.win_le t) (by decide)) (by decide),
    fun t hinb => packed2 hinb (h1.win_dvd2 t) (by decide),
    h1.grp_rem_ok,
    fun t => rem_false t,
    fun j t => rem_false t,
    fun j t => rem_false t,
    fun t => rem_false t,
    fun t => rem_false t⟩

/-- What the kernel assumes once it has read word 2. -/
theorem chk2 {v27 : BitVec 32} {v96 : BitVec 32} (h : Seg v96 (s1 v27) (g1 v27) (k1 v27)) : k0_chk2 v27 v96 := by
  unfold k0_chk2
  exact ⟨chk2_0 h, chk2_1 h, chk2_2 h⟩

theorem chk3_0 {v27 : BitVec 32} {v96 : BitVec 32} {v165 : BitVec 32} (h2 : Seg v165 (s2 v27 v96) (g2 v27 v96) (k2 v27 v96)) : k0_chk3_0 v27 v96 v165 := by
  unfold k0_chk3_0
  exact ⟨h2.next_lo_dvd,
    h2.grp_ok,
    fun t => h2.win_dvd t,
    fun t => inb2 (h2.sc_le t) (by decide),
    fun t => inb2 (h2.win_le t) (by decide),
    fun t => inb2 (le_trans (h2.win_le t) (by decide)) (by decide),
    fun t hinb => packed2 hinb (h2.win_dvd2 t) (by decide),
    h2.grp_rem_ok,
    fun t => rem_false t,
    fun t => rem_false t,
    fun t => rem_false t,
    fun t => rem_false t,
    fun t => rem_false t,
    h2.nk_ok,
    fun t => h2.tile_dvd t,
    fun t => inb2 (h2.tile_le t) (by decide),
    fun t => h2.kt_dvd t,
    fun t => inb2 (by decide) (h2.kt_le t),
    fun t hinb => packed2 hinb (by decide) (by decide),
    h2.nk_rem_ok,
    fun t => rem_false t,
    fun t => rem_false t,
    fun t => rem_false t,
    fun t => rem_false t,
    fun t => rem_false t,
    h2.grp_ok,
    fun t => h2.win_dvd t,
    fun t => inb2 (h2.sc_le t) (by decide),
    fun t => inb2 (h2.win_le t) (by decide),
    fun t => inb2 (le_trans (h2.win_le t) (by decide)) (by decide),
    fun t hinb => packed2 hinb (h2.win_dvd2 t) (by decide),
    h2.grp_rem_ok⟩

theorem chk3_1 {v27 : BitVec 32} {v96 : BitVec 32} {v165 : BitVec 32} (h2 : Seg v165 (s2 v27 v96) (g2 v27 v96) (k2 v27 v96)) : k0_chk3_1 v27 v96 v165 := by
  unfold k0_chk3_1
  exact ⟨fun t => rem_false t,
    fun t => rem_false t,
    fun t => rem_false t,
    fun t => rem_false t,
    fun t => rem_false t,
    h2.nk_ok,
    fun t => h2.tile_dvd t,
    fun t => inb2 (h2.tile_le t) (by decide),
    fun t => h2.kt_dvd t,
    fun t => inb2 (by decide) (h2.kt_le t),
    fun t hinb => packed2 hinb (by decide) (by decide),
    h2.nk_rem_ok,
    fun t => rem_false t,
    fun t => rem_false t,
    fun t => rem_false t,
    fun t => rem_false t,
    fun t => rem_false t,
    h2.grp_ok,
    fun t => h2.win_dvd t,
    fun t => inb2 (h2.sc_le t) (by decide),
    fun t => inb2 (h2.win_le t) (by decide),
    fun t => inb2 (le_trans (h2.win_le t) (by decide)) (by decide),
    fun t hinb => packed2 hinb (h2.win_dvd2 t) (by decide),
    h2.grp_rem_ok,
    fun t => rem_false t,
    fun t => rem_false t,
    fun t => rem_false t,
    fun t => rem_false t,
    fun t => rem_false t,
    h2.nk_ok,
    fun t => h2.tile_dvd t,
    fun t => inb2 (h2.tile_le t) (by decide)⟩

theorem chk3_2 {v27 : BitVec 32} {v96 : BitVec 32} {v165 : BitVec 32} (h2 : Seg v165 (s2 v27 v96) (g2 v27 v96) (k2 v27 v96)) : k0_chk3_2 v27 v96 v165 := by
  unfold k0_chk3_2
  exact ⟨fun t => h2.kt_dvd t,
    fun t => inb2 (by decide) (h2.kt_le t),
    fun t hinb => packed2 hinb (by decide) (by decide),
    h2.nk_rem_ok,
    fun t => rem_false t,
    fun t => rem_false t,
    fun t => rem_false t,
    fun t => rem_false t,
    fun t => rem_false t,
    h2.grp_ok,
    fun t => h2.win_dvd t,
    fun j t => inb2 (h2.sc_le t) (col_le j),
    fun j t => inb3 (slot_le j) (h2.win_le t) (by decide),
    fun t => inb2 (le_trans (h2.win_le t) (by decide)) (by decide),
    fun t hinb => packed2 hinb (h2.win_dvd2 t) (by decide),
    h2.grp_rem_ok,
    fun t => rem_false t,
    fun j t => rem_false t,
    fun j t => rem_false t,
    fun t => rem_false t,
    fun t => rem_false t⟩

/-- What the kernel assumes once it has read word 3. -/
theorem chk3 {v27 : BitVec 32} {v96 : BitVec 32} {v165 : BitVec 32} (h : Seg v165 (s2 v27 v96) (g2 v27 v96) (k2 v27 v96)) : k0_chk3 v27 v96 v165 := by
  unfold k0_chk3
  exact ⟨chk3_0 h, chk3_1 h, chk3_2 h⟩

theorem chk4_0 {v27 : BitVec 32} {v96 : BitVec 32} {v165 : BitVec 32} {v234 : BitVec 32} (h3 : Seg v234 (s3 v27 v96 v165) (g3 v27 v96 v165) (k3 v27 v96 v165)) : k0_chk4_0 v27 v96 v165 v234 := by
  unfold k0_chk4_0
  exact ⟨h3.next_lo_dvd,
    h3.grp_ok,
    fun t => h3.win_dvd t,
    fun t => inb2 (h3.sc_le t) (by decide),
    fun t => inb2 (h3.win_le t) (by decide),
    fun t => inb2 (le_trans (h3.win_le t) (by decide)) (by decide),
    fun t hinb => packed2 hinb (h3.win_dvd2 t) (by decide),
    h3.grp_rem_ok,
    fun t => rem_false t,
    fun t => rem_false t,
    fun t => rem_false t,
    fun t => rem_false t,
    fun t => rem_false t,
    h3.nk_ok,
    fun t => h3.tile_dvd t,
    fun t => inb2 (h3.tile_le t) (by decide),
    fun t => h3.kt_dvd t,
    fun t => inb2 (by decide) (h3.kt_le t),
    fun t hinb => packed2 hinb (by decide) (by decide),
    h3.nk_rem_ok,
    fun t => rem_false t,
    fun t => rem_false t,
    fun t => rem_false t,
    fun t => rem_false t,
    fun t => rem_false t,
    h3.grp_ok,
    fun t => h3.win_dvd t,
    fun t => inb2 (h3.sc_le t) (by decide),
    fun t => inb2 (h3.win_le t) (by decide),
    fun t => inb2 (le_trans (h3.win_le t) (by decide)) (by decide),
    fun t hinb => packed2 hinb (h3.win_dvd2 t) (by decide),
    h3.grp_rem_ok⟩

theorem chk4_1 {v27 : BitVec 32} {v96 : BitVec 32} {v165 : BitVec 32} {v234 : BitVec 32} (h3 : Seg v234 (s3 v27 v96 v165) (g3 v27 v96 v165) (k3 v27 v96 v165)) : k0_chk4_1 v27 v96 v165 v234 := by
  unfold k0_chk4_1
  exact ⟨fun t => rem_false t,
    fun t => rem_false t,
    fun t => rem_false t,
    fun t => rem_false t,
    fun t => rem_false t,
    h3.nk_ok,
    fun t => h3.tile_dvd t,
    fun t => inb2 (h3.tile_le t) (by decide),
    fun t => h3.kt_dvd t,
    fun t => inb2 (by decide) (h3.kt_le t),
    fun t hinb => packed2 hinb (by decide) (by decide),
    h3.nk_rem_ok,
    fun t => rem_false t,
    fun t => rem_false t,
    fun t => rem_false t,
    fun t => rem_false t,
    fun t => rem_false t,
    h3.grp_ok,
    fun t => h3.win_dvd t,
    fun t => inb2 (h3.sc_le t) (by decide),
    fun t => inb2 (h3.win_le t) (by decide),
    fun t => inb2 (le_trans (h3.win_le t) (by decide)) (by decide),
    fun t hinb => packed2 hinb (h3.win_dvd2 t) (by decide),
    h3.grp_rem_ok,
    fun t => rem_false t,
    fun t => rem_false t,
    fun t => rem_false t,
    fun t => rem_false t,
    fun t => rem_false t,
    h3.nk_ok,
    fun t => h3.tile_dvd t,
    fun t => inb2 (h3.tile_le t) (by decide)⟩

theorem chk4_2 {v27 : BitVec 32} {v96 : BitVec 32} {v165 : BitVec 32} {v234 : BitVec 32} (h3 : Seg v234 (s3 v27 v96 v165) (g3 v27 v96 v165) (k3 v27 v96 v165)) : k0_chk4_2 v27 v96 v165 v234 := by
  unfold k0_chk4_2
  exact ⟨fun t => h3.kt_dvd t,
    fun t => inb2 (by decide) (h3.kt_le t),
    fun t hinb => packed2 hinb (by decide) (by decide),
    h3.nk_rem_ok,
    fun t => rem_false t,
    fun t => rem_false t,
    fun t => rem_false t,
    fun t => rem_false t,
    fun t => rem_false t,
    h3.grp_ok,
    fun t => h3.win_dvd t,
    fun j t => inb2 (h3.sc_le t) (col_le j),
    fun j t => inb3 (slot_le j) (h3.win_le t) (by decide),
    fun t => inb2 (le_trans (h3.win_le t) (by decide)) (by decide),
    fun t hinb => packed2 hinb (h3.win_dvd2 t) (by decide),
    h3.grp_rem_ok,
    fun t => rem_false t,
    fun j t => rem_false t,
    fun j t => rem_false t,
    fun t => rem_false t,
    fun t => rem_false t⟩

/-- What the kernel assumes once it has read word 4. -/
theorem chk4 {v27 : BitVec 32} {v96 : BitVec 32} {v165 : BitVec 32} {v234 : BitVec 32} (h : Seg v234 (s3 v27 v96 v165) (g3 v27 v96 v165) (k3 v27 v96 v165)) : k0_chk4 v27 v96 v165 v234 := by
  unfold k0_chk4
  exact ⟨chk4_0 h, chk4_1 h, chk4_2 h⟩

theorem chk5_0 {v27 : BitVec 32} {v96 : BitVec 32} {v165 : BitVec 32} {v234 : BitVec 32} {v303 : BitVec 32} (h4 : Seg v303 (s4 v27 v96 v165 v234) (g4 v27 v96 v165 v234) (k4 v27 v96 v165 v234)) : k0_chk5_0 v27 v96 v165 v234 v303 := by
  unfold k0_chk5_0
  exact ⟨h4.grp_ok,
    fun t => h4.win_dvd t,
    fun t => inb2 (h4.sc_le t) (by decide),
    fun t => inb2 (h4.win_le t) (by decide),
    fun t => inb2 (le_trans (h4.win_le t) (by decide)) (by decide),
    fun t hinb => packed2 hinb (h4.win_dvd2 t) (by decide),
    h4.grp_rem_ok,
    fun t => rem_false t,
    fun t => rem_false t,
    fun t => rem_false t,
    fun t => rem_false t,
    fun t => rem_false t,
    h4.nk_ok,
    fun t => h4.tile_dvd t,
    fun t => inb2 (h4.tile_le t) (by decide),
    fun t => h4.kt_dvd t,
    fun t => inb2 (by decide) (h4.kt_le t),
    fun t hinb => packed2 hinb (by decide) (by decide),
    h4.nk_rem_ok,
    fun t => rem_false t,
    fun t => rem_false t,
    fun t => rem_false t,
    fun t => rem_false t,
    fun t => rem_false t,
    h4.grp_ok,
    fun t => h4.win_dvd t,
    fun t => inb2 (h4.sc_le t) (by decide),
    fun t => inb2 (h4.win_le t) (by decide),
    fun t => inb2 (le_trans (h4.win_le t) (by decide)) (by decide),
    fun t hinb => packed2 hinb (h4.win_dvd2 t) (by decide),
    h4.grp_rem_ok,
    fun t => rem_false t⟩

theorem chk5_1 {v27 : BitVec 32} {v96 : BitVec 32} {v165 : BitVec 32} {v234 : BitVec 32} {v303 : BitVec 32} (h4 : Seg v303 (s4 v27 v96 v165 v234) (g4 v27 v96 v165 v234) (k4 v27 v96 v165 v234)) : k0_chk5_1 v27 v96 v165 v234 v303 := by
  unfold k0_chk5_1
  exact ⟨fun t => rem_false t,
    fun t => rem_false t,
    fun t => rem_false t,
    fun t => rem_false t,
    h4.nk_ok,
    fun t => h4.tile_dvd t,
    fun t => inb2 (h4.tile_le t) (by decide),
    fun t => h4.kt_dvd t,
    fun t => inb2 (by decide) (h4.kt_le t),
    fun t hinb => packed2 hinb (by decide) (by decide),
    h4.nk_rem_ok,
    fun t => rem_false t,
    fun t => rem_false t,
    fun t => rem_false t,
    fun t => rem_false t,
    fun t => rem_false t,
    h4.grp_ok,
    fun t => h4.win_dvd t,
    fun t => inb2 (h4.sc_le t) (by decide),
    fun t => inb2 (h4.win_le t) (by decide),
    fun t => inb2 (le_trans (h4.win_le t) (by decide)) (by decide),
    fun t hinb => packed2 hinb (h4.win_dvd2 t) (by decide),
    h4.grp_rem_ok,
    fun t => rem_false t,
    fun t => rem_false t,
    fun t => rem_false t,
    fun t => rem_false t,
    fun t => rem_false t,
    h4.nk_ok,
    fun t => h4.tile_dvd t,
    fun t => inb2 (h4.tile_le t) (by decide),
    fun t => h4.kt_dvd t⟩

theorem chk5_2 {v27 : BitVec 32} {v96 : BitVec 32} {v165 : BitVec 32} {v234 : BitVec 32} {v303 : BitVec 32} (h4 : Seg v303 (s4 v27 v96 v165 v234) (g4 v27 v96 v165 v234) (k4 v27 v96 v165 v234)) : k0_chk5_2 v27 v96 v165 v234 v303 := by
  unfold k0_chk5_2
  exact ⟨fun t => inb2 (by decide) (h4.kt_le t),
    fun t hinb => packed2 hinb (by decide) (by decide),
    h4.nk_rem_ok,
    fun t => rem_false t,
    fun t => rem_false t,
    fun t => rem_false t,
    fun t => rem_false t,
    fun t => rem_false t,
    h4.grp_ok,
    fun t => h4.win_dvd t,
    fun j t => inb2 (h4.sc_le t) (col_le j),
    fun j t => inb3 (slot_le j) (h4.win_le t) (by decide),
    fun t => inb2 (le_trans (h4.win_le t) (by decide)) (by decide),
    fun t hinb => packed2 hinb (h4.win_dvd2 t) (by decide),
    h4.grp_rem_ok,
    fun t => rem_false t,
    fun j t => rem_false t,
    fun j t => rem_false t,
    fun t => rem_false t,
    fun t => rem_false t⟩

/-- What the kernel assumes once it has read word 5. -/
theorem chk5 {v27 : BitVec 32} {v96 : BitVec 32} {v165 : BitVec 32} {v234 : BitVec 32} {v303 : BitVec 32} (h : Seg v303 (s4 v27 v96 v165 v234) (g4 v27 v96 v165 v234) (k4 v27 v96 v165 v234)) : k0_chk5 v27 v96 v165 v234 v303 := by
  unfold k0_chk5
  exact ⟨chk5_0 h, chk5_1 h, chk5_2 h⟩

end Cert.Kernel
-- ==== Proof.Guards.lean ====
/- The steps the body takes between its loops. -/
module

public import proofs.«01_k».proof.Proof.Finish
public import proofs.«01_k».proof.Proof.Checks

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

theorem emp_cond (I : Ins F) (e : ℕ) : Scalar.cmpi .ne (Scalar.extui (Scalar.cmpi .eq (I.sz e) 0#32) : BitVec 32) 0#32 = 1#1 ↔ I.emp e :=
  (guard_ne _).trans (cmpi_eq_nat (n := I.sz e) 0 (by omega))
theorem sgt_nat {n : BitVec 32} (hn : n.toNat < 2 ^ 31) (k : ℕ) (hk : k < 2 ^ 31) : Scalar.cmpi .sgt n (BitVec.ofNat 32 k) = 1#1 ↔ k < n.toNat := by
  have hk' : (BitVec.ofNat 32 k).toNat = k := by rw [BitVec.toNat_ofNat]; omega
  refine (IntOp.cmpi_sgt (x := n) (y := BitVec.ofNat 32 k)).trans ?_
  rw [BitVec.toInt_eq_toNat_of_lt (by omega), BitVec.toInt_eq_toNat_of_lt (by omega), hk']; omega
theorem slot_cond {n : BitVec 32} (hn : n.toNat < 2 ^ 31) (q : ℕ) (hq : q < 4) :
    Scalar.cmpi .ne (Scalar.extui (Scalar.cmpi .sgt n (BitVec.ofNat 32 q)) : BitVec 32) 0#32 = 1#1 ↔ decide (q < n.toNat) = true :=
  (guard_ne _).trans ((sgt_nat hn q (by omega)).trans decide_eq_true_iff.symm)

theorem rows_next (c : Dev nD) (I : Ins F) (X : S1792x1024.Idx → F .bf16) (e : ℕ) (he : e < 4) :
    (iprop(∃ f, ⌜RowsUpto ((I.st e).toNat + (I.sz e).toNat) X f⌝ ∗ pts c mRows f) : sProp (MM F)) ⊢ iprop(∃ f, ⌜RowsUpto (I.st (e + 1)).toNat X f⌝ ∗ pts c mRows f) :=
  Entails.of_eq (by rw [show (I.st (e + 1)).toNat = (I.st e).toNat + (I.sz e).toNat from I.st_succ e he])
theorem xt_next (c : Dev nD) (I : Ins F) (T C : ℕ) (X : S3072x2816.Idx → F .bf16) (e : ℕ) (he : e < 4) :
    (iprop(∃ g, ⌜XtUpto T C ((I.ko e).toNat + 256 * nk (I.sz e).toNat (I.st e).toNat) X g⌝ ∗ pts c mXt g) : sProp (MM F)) ⊢ iprop(∃ g, ⌜XtUpto T C (I.ko (e + 1)).toNat X g⌝ ∗ pts c mXt g) :=
  Entails.of_eq (by rw [show (I.ko (e + 1)).toNat = (I.ko e).toNat + 256 * nk (I.sz e).toNat (I.st e).toNat from I.ko_succ e he])
theorem xt_chunk (c : Dev nD) (I : Ins F) (C : ℕ) (X : S3072x2816.Idx → F .bf16) :
    (iprop(∃ g, ⌜XtUpto I.cols C ((I.ko 4).toNat + 256 * nk (I.sz 4).toNat (I.st 4).toNat) X g⌝ ∗ pts c mXt g) : sProp (MM F)) ⊢ iprop(∃ g, ⌜XtUpto I.cols (C + 1) (I.ko 0).toNat X g⌝ ∗ pts c mXt g) := by
  iintro ⟨%g, %hg, H⟩
  iexists g
  isplitr
  · ipureintro
    intro i h1 h2
    have e0 : (I.ko 0).toNat = 0 := rfl
    have e4 : (I.ko 4).toNat + 256 * nk (I.sz 4).toNat (I.st 4).toNat = I.cols := rfl
    rw [e0] at h2
    refine hg i h1 ?_
    rw [e4]
    omega
  · iexact H
theorem rows_zero (c : Dev nD) (I : Ins F) (X : S1792x1024.Idx → F .bf16) (f : S1792x1024.Idx → F .bf16) :
    (pts c mRows f : sProp (MM F)) ⊢ iprop(∃ f, ⌜RowsUpto (I.st 0).toNat X f⌝ ∗ pts c mRows f) := by
  iintro H
  iexists f
  isplitr
  · ipureintro; exact fun i h => absurd h (Nat.not_lt_zero _)
  · iexact H
theorem xt_zero (c : Dev nD) (I : Ins F) (X : S3072x2816.Idx → F .bf16) (g : S3072x2816.Idx → F .bf16) :
    (pts c mXt g : sProp (MM F)) ⊢ iprop(∃ g, ⌜XtUpto I.cols 0 (I.ko 0).toNat X g⌝ ∗ pts c mXt g) := by
  iintro H
  iexists g
  isplitr
  · ipureintro
    intro i h1 h2
    have e0 : (I.ko 0).toNat = 0 := rfl
    rw [e0] at h2
    omega
  · iexact H
theorem tab_zero (c : Dev nD) (I : Ins F) (tb : S3x5.Idx → BitVec 32) :
    (pts (F := F) c mTab tb : sProp (MM F)) ⊢ iprop(∃ tb, ⌜I.TabN 0 tb⌝ ∗ pts (F := F) c mTab tb) := by
  iintro H
  iexists tb
  isplitr
  · ipureintro; exact fun e a h => absurd h (Nat.not_lt_zero _)
  · iexact H

theorem ZP_fin (c : Dev nD) (I : Ins F) : ZP c I 5 0 = ZSt c (I.kz 120) (I.kz 0) (I.Pz 0 0) (I.Tz 0 0) := by
  unfold ZP
  rw [I.Pz1_all, I.Tz1_all, Nat.mul_zero, Nat.add_zero, I.emS5]

theorem BS_end (c : Dev nD) (I : Ins F) (tb : S3x5.Idx → BitVec 32) (g : S3072x2816.Idx → F .bf16) (a : BitVec 32) :
    BS c I tb g 8 a = iprop((∃ f, SS c I tb g f 120 a) ∗ pts c mYs I.sy ∗ YI c 0 (by omega) ∗ YI c 1 (by omega) ∗ pts c mY I.y) := rfl

/-- What the body has besides: the sizes, the tile buffers, the table, the slots' semaphores. -/
def St2 (c : Dev nD) (nv : S5.Idx → BitVec 32) : sProp (MM F) :=
  iprop(pts (F := F) c mN nv ∗ (∃ d, pts c mRows d) ∗ (∃ d, pts c mXt d) ∗ (∃ d, pts c mOb d) ∗ (∃ d, pts (F := F) c mTab d)
    ∗ (semVal ((c : Thread nD τ), SemLoc.dma (semO 0)) 0 ∗ semVal ((c : Thread nD τ), SemLoc.dma (semO 1)) 0
      ∗ semVal ((c : Thread nD τ), SemLoc.dma (semO 2)) 0 ∗ semVal ((c : Thread nD τ), SemLoc.dma (semO 3)) 0) ∗ (∃ W', owes (c : Thread nD τ) 0 W'))
/-- What the body leaves. -/
def Fin1 (c : Dev nD) (I : Ins F) (nv : S5.Idx → BitVec 32) : sProp (MM F) :=
  iprop((∃ f, ⌜OutOK I f⌝ ∗ pts c mOut f) ∗ pts c mX I.x ∗ pts c mSx I.sx ∗ pts c mY I.y ∗ pts c mSy I.sy ∗ (∃ d, pts c mXc d) ∗ (∃ d, pts c mYc d)
    ∗ (∃ d, pts c mXs d) ∗ (∃ d, pts c mYs d) ∗ (∃ d, pts c mZ d)
    ∗ (semVal ((c : Thread nD τ), SemLoc.dma (semS 0)) 0 ∗ semVal ((c : Thread nD τ), SemLoc.dma (semX 0)) 0 ∗ semVal ((c : Thread nD τ), SemLoc.dma (semX 1)) 0
    ∗ semVal ((c : Thread nD τ), SemLoc.dma (semX 2)) 0 ∗ semVal ((c : Thread nD τ), SemLoc.dma (semS 1)) 0 ∗ semVal ((c : Thread nD τ), SemLoc.dma (semY 0)) 0
    ∗ semVal ((c : Thread nD τ), SemLoc.dma (semY 1)) 0 ∗ semVal ((c : Thread nD τ), SemLoc.dma semZ) 0) ∗ St2 c nv)

theorem mXs_credit : mXs.view.dmaCredit = NSx := rfl
theorem mYs_credit : mYs.view.dmaCredit = NSy := rfl
theorem xDst_credit (C : ℕ) (inb) : (xDst C inb).view.dmaCredit = NX := rfl
theorem tDst_credit (off : Fin 3 → ℕ) (inb) : (tDst off inb).view.dmaCredit = NT := rfl

theorem XF_eq (c : Dev nD) (I : Ins F) (C : ℕ) (hC : C < 3) :
    XF c I C hC = Fly c (semX ⟨C, hC⟩) NX iprop(ptsOn c mXc (xPiece C) I.x ∗ ptsOn c mX (xPiece C) I.x) := rfl

theorem pure_step {P : Prop} {A B : sProp (MM F)} (h : P → A ⊢ B) : iprop(⌜P⌝ ∗ A) ⊢ B := by
  iintro ⟨%hp, H⟩
  iapply (h hp) $$ H

theorem if_bind {cond : Prop} [Decidable cond] {α' α β : Type} (A : Prog (TpuEff nD τ sig (Elt F) Λ₀ .tc) α') (R : Prog (TpuEff nD τ sig (Elt F) Λ₀ .tc) α) (K : α → Prog (TpuEff nD τ sig (Elt F) Λ₀ .tc) β) :
    ((if cond then (A >>= fun _ => R) else R) >>= K) = if cond then (A >>= fun _ => R >>= K) else R >>= K := by
  by_cases h : cond
  · rw [if_pos h, if_pos h, bind_assoc]
  · rw [if_neg h, if_neg h]
theorem slot_ifb (c : Dev nD) (I : Ins F) (b b' : Fin 4 → Bool) (q : Fin 4) (hq : b' q = false) (hb : ∀ r, r ≠ q → b' r = b r) (P : S5x3072x8192.Idx → Prop)
    {cond : Prop} [Decidable cond] (hc : cond ↔ b q = true)
    {sp sp' : Space} {s s' : Shape} {e e' : EltTy} {sem : DmaSem sig} (hs : sem = semO q)
    {srcw : Memref sig .tc sp' s' e'} {dstw : Memref sig .tc sp s e} {h1} {h2} (hN : dstw.view.dmaCredit = NT)
    {α β : Type} {R : Prog (TpuEff nD τ sig (Elt F) Λ₀ .tc) α} {K : α → Prog (TpuEff nD τ sig (Elt F) Λ₀ .tc) β} {Q : β → sProp (MM F)} :
    iprop(Slots I.OKt c b P ∗ (∃ W', owes (c : Thread nD τ) 0 W') ∗ ((Slots I.OKt c b' P ∗ (∃ W', owes (c : Thread nD τ) 0 W')) -∗ W c (R >>= K) Q))
      ⊢ W c ((if cond then (.op (.waitDma2 sem srcw dstw h1 h2) fun _ => R) else R) >>= K) Q := by
  have H := slot_if c I b b' q hq hb P hc hs (srcw := srcw) (h1 := h1) (h2 := h2) hN (K := R >>= K) (Q := Q)
  by_cases h : cond
  · rw [if_pos h] at H ⊢
    rw [Prog.bind_op]; exact H
  · rw [if_neg h] at H ⊢
    exact H
theorem zero_if1 (c : Dev nD) (I : Ins F) {v27 : Elt F .i32} {v28 : BitVec 32} {v47 : BitVec 32} {v65 : BitVec 32} {c0_i32_35 : BitVec 32} {cond : Prop} [Decidable cond] (hc : cond ↔ I.emp 0)
    {α β : Type} {R : Prog (TpuEff nD τ sig (Elt F) Λ₀ .tc) α} {K : α → Prog (TpuEff nD τ sig (Elt F) Λ₀ .tc) β} {Q : β → sProp (MM F)} :
    iprop(ZP c I 0 0 ∗ (ZP c I 1 0 -∗ W c (R >>= K) Q))
      ⊢ W c ((if cond then (Scf.Loop.for k0_t1_loop k0_t1_ok ⟨⟩ (Gen.k0_t1_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v28 v47 v65 c0_i32_35) >>= fun _ => R) else R) >>= K) Q := by
  rw [if_bind]
  exact zero_if c I (E := 0) (by omega) rfl (fun he t u => zero_trip1 c I he t u) hc
theorem zero_if2 (c : Dev nD) (I : Ins F) {v27 : Elt F .i32} {v90 : BitVec 32} {v92 : BitVec 32} {v96 : Elt F .i32} {v97 : BitVec 32} {v116 : BitVec 32} {v134 : BitVec 32} {v135 : BitVec 1} {v137 : BitVec 32} {c256_i32_72 : BitVec 32} {v138 : BitVec 32} {c0_i32_73 : BitVec 32} {cond : Prop} [Decidable cond] (hc : cond ↔ I.emp 1)
    {α β : Type} {R : Prog (TpuEff nD τ sig (Elt F) Λ₀ .tc) α} {K : α → Prog (TpuEff nD τ sig (Elt F) Λ₀ .tc) β} {Q : β → sProp (MM F)} :
    iprop(ZP c I 1 0 ∗ (ZP c I 2 0 -∗ W c (R >>= K) Q))
      ⊢ W c ((if cond then (Scf.Loop.for k0_t2_loop k0_t2_ok ⟨⟩ (Gen.k0_t2_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v90 v92 v96 v97 v116 v134 v135 v137 c256_i32_72 v138 c0_i32_73) >>= fun _ => R) else R) >>= K) Q := by
  rw [if_bind]
  exact zero_if c I (E := 1) (by omega) rfl (fun he t u => zero_trip2 c I he t u) hc
theorem zero_if3 (c : Dev nD) (I : Ins F) {v27 : Elt F .i32} {v96 : Elt F .i32} {v159 : BitVec 32} {v161 : BitVec 32} {v165 : Elt F .i32} {v166 : BitVec 32} {v185 : BitVec 32} {v203 : BitVec 32} {v204 : BitVec 1} {v206 : BitVec 32} {c256_i32_108 : BitVec 32} {v207 : BitVec 32} {v212 : BitVec 32} {v214 : BitVec 32} {c0_i32_112 : BitVec 32} {cond : Prop} [Decidable cond] (hc : cond ↔ I.emp 2)
    {α β : Type} {R : Prog (TpuEff nD τ sig (Elt F) Λ₀ .tc) α} {K : α → Prog (TpuEff nD τ sig (Elt F) Λ₀ .tc) β} {Q : β → sProp (MM F)} :
    iprop(ZP c I 2 0 ∗ (ZP c I 3 0 -∗ W c (R >>= K) Q))
      ⊢ W c ((if cond then (Scf.Loop.for k0_t3_loop k0_t3_ok ⟨⟩ (Gen.k0_t3_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v96 v159 v161 v165 v166 v185 v203 v204 v206 c256_i32_108 v207 v212 v214 c0_i32_112) >>= fun _ => R) else R) >>= K) Q := by
  rw [if_bind]
  exact zero_if c I (E := 2) (by omega) rfl (fun he t u => zero_trip3 c I he t u) hc
theorem zero_if4 (c : Dev nD) (I : Ins F) {v27 : Elt F .i32} {v96 : Elt F .i32} {v165 : Elt F .i32} {v228 : BitVec 32} {v230 : BitVec 32} {v234 : Elt F .i32} {v235 : BitVec 32} {v254 : BitVec 32} {v272 : BitVec 32} {v273 : BitVec 1} {v276 : BitVec 32} {v290 : BitVec 1} {v291 : BitVec 32} {cond : Prop} [Decidable cond] (hc : cond ↔ I.emp 3)
    {α β : Type} {R : Prog (TpuEff nD τ sig (Elt F) Λ₀ .tc) α} {K : α → Prog (TpuEff nD τ sig (Elt F) Λ₀ .tc) β} {Q : β → sProp (MM F)} :
    iprop(ZP c I 3 0 ∗ (ZP c I 4 0 -∗ W c (R >>= K) Q))
      ⊢ W c ((if cond then (Scf.Loop.for k0_t4_loop k0_t4_ok ⟨⟩ (Gen.k0_t4_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 v96 v165 v228 v230 v234 v235 v254 v272 v273 v276 v290 v291) >>= fun _ => R) else R) >>= K) Q := by
  rw [if_bind]
  exact zero_if c I (E := 3) (by omega) rfl (fun he t u => zero_trip4 c I he t u) hc
theorem zero_if5 (c : Dev nD) (I : Ins F) {v27 : Elt F .i32} {k0_hw1 : k0_chk1 v27} {v28 : BitVec 32} {v65 : BitVec 32} {v134 : BitVec 32} {v299 : BitVec 32} {v303 : Elt F .i32} {v362 : BitVec 32} {cond : Prop} [Decidable cond] (hc : cond ↔ I.emp 4)
    {α β : Type} {R : Prog (TpuEff nD τ sig (Elt F) Λ₀ .tc) α} {K : α → Prog (TpuEff nD τ sig (Elt F) Λ₀ .tc) β} {Q : β → sProp (MM F)} :
    iprop(ZP c I 4 0 ∗ (ZP c I 5 0 -∗ W c (R >>= K) Q))
      ⊢ W c ((if cond then (Scf.Loop.for k0_t5_loop k0_t5_ok ⟨⟩ (Gen.k0_t5_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 v27 k0_hw1 v28 v65 v134 v299 v303 v362) >>= fun _ => R) else R) >>= K) Q := by
  rw [if_bind]
  exact zero_if c I (E := 4) (by omega) rfl (fun he t u => zero_trip5 c I he t u) hc
theorem zwait_if80 (c : Dev nD) (I : Ins F) {cond : Prop} [Decidable cond] (hc : cond ↔ I.emp 0)
    {α β : Type} {R : Prog (TpuEff nD τ sig (Elt F) Λ₀ .tc) α} {K : α → Prog (TpuEff nD τ sig (Elt F) Λ₀ .tc) β} {Q : β → sProp (MM F)} :
    iprop((ZW c I (I.emW 0) ∗ (∃ W', owes (c : Thread nD τ) 0 W')) ∗ ((ZW c I (I.emW 1) ∗ (∃ W', owes (c : Thread nD τ) 0 W')) -∗ W c (R >>= K) Q))
      ⊢ W c ((if cond then (Scf.Loop.for k0_t80_loop k0_t80_ok ⟨⟩ (Gen.k0_t80_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 ) >>= fun _ => R) else R) >>= K) Q := by
  rw [if_bind]
  exact zwait_if c I (E := 0) (by omega) rfl (fun n hn t u => zwait_trip80 c I hn t u) hc
theorem zwait_if81 (c : Dev nD) (I : Ins F) {cond : Prop} [Decidable cond] (hc : cond ↔ I.emp 1)
    {α β : Type} {R : Prog (TpuEff nD τ sig (Elt F) Λ₀ .tc) α} {K : α → Prog (TpuEff nD τ sig (Elt F) Λ₀ .tc) β} {Q : β → sProp (MM F)} :
    iprop((ZW c I (I.emW 1) ∗ (∃ W', owes (c : Thread nD τ) 0 W')) ∗ ((ZW c I (I.emW 2) ∗ (∃ W', owes (c : Thread nD τ) 0 W')) -∗ W c (R >>= K) Q))
      ⊢ W c ((if cond then (Scf.Loop.for k0_t81_loop k0_t81_ok ⟨⟩ (Gen.k0_t81_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 ) >>= fun _ => R) else R) >>= K) Q := by
  rw [if_bind]
  exact zwait_if c I (E := 1) (by omega) rfl (fun n hn t u => zwait_trip81 c I hn t u) hc
theorem zwait_if82 (c : Dev nD) (I : Ins F) {cond : Prop} [Decidable cond] (hc : cond ↔ I.emp 2)
    {α β : Type} {R : Prog (TpuEff nD τ sig (Elt F) Λ₀ .tc) α} {K : α → Prog (TpuEff nD τ sig (Elt F) Λ₀ .tc) β} {Q : β → sProp (MM F)} :
    iprop((ZW c I (I.emW 2) ∗ (∃ W', owes (c : Thread nD τ) 0 W')) ∗ ((ZW c I (I.emW 3) ∗ (∃ W', owes (c : Thread nD τ) 0 W')) -∗ W c (R >>= K) Q))
      ⊢ W c ((if cond then (Scf.Loop.for k0_t82_loop k0_t82_ok ⟨⟩ (Gen.k0_t82_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 ) >>= fun _ => R) else R) >>= K) Q := by
  rw [if_bind]
  exact zwait_if c I (E := 2) (by omega) rfl (fun n hn t u => zwait_trip82 c I hn t u) hc
theorem zwait_if83 (c : Dev nD) (I : Ins F) {cond : Prop} [Decidable cond] (hc : cond ↔ I.emp 3)
    {α β : Type} {R : Prog (TpuEff nD τ sig (Elt F) Λ₀ .tc) α} {K : α → Prog (TpuEff nD τ sig (Elt F) Λ₀ .tc) β} {Q : β → sProp (MM F)} :
    iprop((ZW c I (I.emW 3) ∗ (∃ W', owes (c : Thread nD τ) 0 W')) ∗ ((ZW c I (I.emW 4) ∗ (∃ W', owes (c : Thread nD τ) 0 W')) -∗ W c (R >>= K) Q))
      ⊢ W c ((if cond then (Scf.Loop.for k0_t83_loop k0_t83_ok ⟨⟩ (Gen.k0_t83_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 ) >>= fun _ => R) else R) >>= K) Q := by
  rw [if_bind]
  exact zwait_if c I (E := 3) (by omega) rfl (fun n hn t u => zwait_trip83 c I hn t u) hc
theorem zwait_if84 (c : Dev nD) (I : Ins F) {cond : Prop} [Decidable cond] (hc : cond ↔ I.emp 4)
    {α β : Type} {R : Prog (TpuEff nD τ sig (Elt F) Λ₀ .tc) α} {K : α → Prog (TpuEff nD τ sig (Elt F) Λ₀ .tc) β} {Q : β → sProp (MM F)} :
    iprop((ZW c I (I.emW 4) ∗ (∃ W', owes (c : Thread nD τ) 0 W')) ∗ ((ZW c I (I.emW 5) ∗ (∃ W', owes (c : Thread nD τ) 0 W')) -∗ W c (R >>= K) Q))
      ⊢ W c ((if cond then (Scf.Loop.for k0_t84_loop k0_t84_ok ⟨⟩ (Gen.k0_t84_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 ) >>= fun _ => R) else R) >>= K) Q := by
  rw [if_bind]
  exact zwait_if c I (E := 4) (by omega) rfl (fun n hn t u => zwait_trip84 c I hn t u) hc

theorem SS_open (c : Dev nD) (I : Ins F) (tb : S3x5.Idx → BitVec 32) (g : S3072x2816.Idx → F .bf16) (f : S1792x1024.Idx → F .bf16) (a : BitVec 32) :
    SS c I tb g f 120 a = iprop(Slots I.OKt c (fun q => decide (q.val < a.toNat)) (I.Pt 120) ∗ Todo c (I.Tt 120) ∗ ZSt c (I.kz 120) (I.kz 120) (I.Pz 120 0) (I.Tz 120 0) ∗
    (∃ W', owes (c : Thread nD τ) 0 W') ∗ pts (F := F) c mTab tb ∗ pts c mXt g ∗ pts c mRows f) := rfl

/-- What the eight blocks start from. -/
def Bs0 (c : Dev nD) (I : Ins F) (tb : S3x5.Idx → BitVec 32) (g : S3072x2816.Idx → F .bf16) (f : S1792x1024.Idx → F .bf16) : sProp (MM F) :=
  iprop((Slots I.OKt c (fun q => decide (q.val < (0#32 : BitVec 32).toNat)) (I.Pt 0) ∗ Todo c (I.Tt 0) ∗ ZSt c (I.kz 120) (I.kz 0) (I.Pz 0 0) (I.Tz 0 0) ∗
    (∃ W', owes (c : Thread nD τ) 0 W') ∗ pts (F := F) c mTab tb ∗ pts c mXt g ∗ pts c mRows f) ∗ pts c mYs I.sy ∗ YF c I.y 0 ∗ YI c 1 (by omega))

theorem BS_start (c : Dev nD) (I : Ins F) (tb : S3x5.Idx → BitVec 32) (g : S3072x2816.Idx → F .bf16) (f : S1792x1024.Idx → F .bf16) :
    Bs0 c I tb g f ⊢ BS c I tb g 0 0#32 := by
  have e1 : SS c I tb g f (15 * 0) 0#32 = iprop(Slots I.OKt c (fun q => decide (q.val < (0#32 : BitVec 32).toNat)) (I.Pt 0) ∗ Todo c (I.Tt 0) ∗ ZSt c (I.kz 120) (I.kz 0) (I.Pz 0 0) (I.Tz 0 0) ∗
    (∃ W', owes (c : Thread nD τ) 0 W') ∗ pts (F := F) c mTab tb ∗ pts c mXt g ∗ pts c mRows f) := rfl
  unfold Bs0 BS
  rw [show YSt c I.y 0 = iprop(YF c I.y 0 ∗ YI c 1 (by omega)) from rfl, ← e1]
  iintro ⟨HS, Hys, HY⟩
  isplitl [HS]; · iexists f; iexact HS
  isplitl [Hys] <;> iassumption

theorem blocks (c : Dev nD) (I : Ins F) (tb : S3x5.Idx → BitVec 32) (htb : I.TabOK tb) (g : S3072x2816.Idx → F .bf16) (hg : XtUpto I.cols 3 0 I.X g)
    {f : S1792x1024.Idx → F .bf16}
    {k0_hw1 : k0_chk1 I.w0} {k0_hw2 : k0_chk2 I.w0 I.w1} {k0_hw3 : k0_chk3 I.w0 I.w1 I.w2} {k0_hw4 : k0_chk4 I.w0 I.w1 I.w2 I.w3} {k0_hw5 : k0_chk5 I.w0 I.w1 I.w2 I.w3 I.w4}
    {v65 v134 v203 v230 v254 v272 v299 v323 v341 v362 v641 c1_i32_508 : BitVec 32}
    {β : Type} {K : BitVec 32 → Prog (TpuEff nD τ sig (Elt F) Λ₀ .tc) β} {Q : β → sProp (MM F)} :
    iprop(Bs0 c I tb g f ∗ (∀ a : BitVec 32, (⌜a.toNat ≤ 120⌝ ∗ BS c I tb g 8 a) -∗ W c (K a) Q))
      ⊢ W c (Scf.Loop.for k0_t66_loop k0_t66_ok 0#32 (Gen.k0_t66_body (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13 I.w0 k0_hw1 (s1 I.w0) v65 (g1 I.w0) I.w1 k0_hw2 (s2 I.w0 I.w1) v134 (g2 I.w0 I.w1) I.w2 k0_hw3 (s3 I.w0 I.w1 I.w2) v203 (g3 I.w0 I.w1 I.w2) v230 I.w3 k0_hw4 (s4 I.w0 I.w1 I.w2 I.w3) v254 v272 (g4 I.w0 I.w1 I.w2 I.w3) v299 I.w4 k0_hw5 (Scalar.addi (s4 I.w0 I.w1 I.w2 I.w3) I.w4) v323 v341 v362 v641 c1_i32_508) >>= K) Q := by
  iintro ⟨HB, Hk⟩
  iapply (Scf.wp_for_bind frame (wpE (defs₀ (F := F)) 𝒱₀ (c : Thread nD τ) none) Set.univ _ _ _ k0_t66_ok _ _
    (fun n a => iprop(⌜a.toNat ≤ 15 * n⌝ ∗ BS c I tb g n a))
    (fun t a => pure_step fun ha => block_trip c I tb htb g t a ha hg k0_hw1 k0_hw2 k0_hw3 k0_hw4 k0_hw5 v65 v134 v203 v230 v254 v272 v299 v323 v341 v362 v641 c1_i32_508)) $$ [HB]
  · isplitr; · ipureintro; exact Nat.zero_le _
    iapply (BS_start c I tb g f) $$ HB
  iintro %a HB
  have e8 : Scf.trips k0_t66_loop.lb k0_t66_loop.ub k0_t66_loop.st = 8 := rfl
  rw [e8]
  iapply Hk $$ HB

end Cert.Kernel
-- ==== Proof.Root.lean ====
/- The body, from its first copy to its last wait. -/
module

public import proofs.«01_k».proof.Proof.Guards
public import proofs.«01_k».proof.Proof.Checks

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

set_option maxHeartbeats 40000000 in
/-- The body, run. -/
theorem root (c : Dev nD) (I : Ins F) (nv : S5.Idx → BitVec 32) (hn : ∀ i : S5.Idx, nv i = I.sz (i 0).val) :
    iprop(St0 c I ∗ St2 c nv) ⊢ W c (cc0_grouped_dw (F := F) mN (Memref.isWhole_whole _) mX (Memref.isWhole_whole _) mSx (Memref.isWhole_whole _) mY (Memref.isWhole_whole _) mSy (Memref.isWhole_whole _) mOut (Memref.isWhole_whole _) mXc (Memref.isWhole_whole _) mYc (Memref.isWhole_whole _) mXs (Memref.isWhole_whole _) mYs (Memref.isWhole_whole _) mRows (Memref.isWhole_whole _) mXt (Memref.isWhole_whole _) mOb (Memref.isWhole_whole _) mZ (Memref.isWhole_whole _) mTab (Memref.isWhole_whole _) cc0_scratch9 cc0_scratch10 cc0_scratch11 cc0_scratch12 cc0_scratch13) (fun _ => Fin1 c I nv) := by
  rw [cc0_grouped_dw_eq_skeleton]
  unfold cc0_grouped_dw_skel
  rw [k0_part66_eq_skeleton]
  unfold k0_part66_skel
  simp only [bind_assoc, pure_bind, Prog.bind_lift, Prog.bind_op]
  iintro ⟨H0, H2⟩
  iapply (start_phase c I)
  isplitl [H0]; · iexact H0
  iintro H1
  ihave H1' := (show St1 c I ⊢ iprop(Fly c (semS 0) NSx iprop(pts c mXs I.sx ∗ pts c mSx I.sx) ∗ XF c I 0 (by omega) ∗ XF c I 1 (by omega) ∗ XF c I 2 (by omega)
    ∗ Fly c (semS 1) NSy iprop(pts c mYs I.sy ∗ pts c mSy I.sy) ∗ YF c I.y 0 ∗ YI c 1 (by omega) ∗ ZP c I 0 0 ∗ Todo c (I.Tt 0)) from .rfl) $$ H1
  icases H1' with ⟨HFs, HX0, HX1, HX2, HFt, HY, HYI, HZ, HT⟩
  ihave H2' := (show St2 c nv ⊢ iprop(pts (F := F) c mN nv ∗ (∃ d, pts c mRows d) ∗ (∃ d, pts c mXt d) ∗ (∃ d, pts c mOb d) ∗ (∃ d, pts (F := F) c mTab d)
    ∗ (semVal ((c : Thread nD τ), SemLoc.dma (semO 0)) 0 ∗ semVal ((c : Thread nD τ), SemLoc.dma (semO 1)) 0
      ∗ semVal ((c : Thread nD τ), SemLoc.dma (semO 2)) 0 ∗ semVal ((c : Thread nD τ), SemLoc.dma (semO 3)) 0) ∗ (∃ W', owes (c : Thread nD τ) 0 W')) from .rfl) $$ H2
  icases H2' with ⟨HN, ⟨%dr, Hr⟩, ⟨%dg, Hg⟩, ⟨%dob, Hob⟩, ⟨%dtab, Htab⟩, ⟨Vo0, Vo1, Vo2, Vo3⟩, HO⟩
  ihave Htab := (tab_zero c I dtab) $$ Htab
  ihave HS := (slots_init c I (fun q => decide (q.val < (0#32 : BitVec 32).toNat)) (fun q => decide_eq_false (Nat.not_lt_zero _)) dob) $$ [Hob Vo0 Vo1 Vo2 Vo3]
  · isplitl [Hob]; · iexact Hob
    isplitl [Vo0]; · iexact Vo0
    isplitl [Vo1]; · iexact Vo1
    isplitl [Vo2] <;> iassumption
  rw [k0_part45_eq_skeleton]
  unfold k0_part45_skel
  simp only [bind_assoc, pure_bind, Prog.bind_lift, Prog.bind_op]
  iapply (sz_load c I nv hn 0 rfl)
  isplitl [HN]; · iexact HN
  iintro HN
  iapply (wp_assume 𝒱₀ (c : Thread nD τ) none Set.univ (chk1 I.fit.seg0))
  rw [k0_part46_eq_skeleton]
  unfold k0_part46_skel
  simp only [bind_assoc, pure_bind, Prog.bind_lift, Prog.bind_op]
  iapply (tab_set c I (n := 0) 0 0 rfl _ ((I.seg 0 (by omega)).lo_toNat) rfl)
  isplitl [Htab]; · iexact Htab
  iintro Htab
  iapply (tab_set c I (n := 1) 1 0 rfl _ ((nkW_toNat (I.seg 0 (by omega)).row)) rfl)
  isplitl [Htab]; · iexact Htab
  iintro Htab
  iapply (tab_set c I (n := 2) 2 0 rfl _ (rfl) rfl)
  isplitl [Htab]; · iexact Htab
  iintro Htab
  iapply (zero_if1 c I (emp_cond I 0))
  isplitl [HZ]; · iexact HZ
  iintro HZ
  simp only [bind_assoc, pure_bind, Prog.bind_lift, Prog.bind_op]
  iapply (sz_load c I nv hn 1 rfl)
  isplitl [HN]; · iexact HN
  iintro HN
  iapply (wp_assume 𝒱₀ (c : Thread nD τ) none Set.univ (chk2 I.fit.seg1))
  rw [k0_part47_eq_skeleton]
  unfold k0_part47_skel
  simp only [bind_assoc, pure_bind, Prog.bind_lift, Prog.bind_op]
  rw [k0_part48_eq_skeleton]
  unfold k0_part48_skel
  simp only [bind_assoc, pure_bind, Prog.bind_lift, Prog.bind_op]
  iapply (tab_set c I (n := 3) 0 1 rfl _ ((I.seg 1 (by omega)).lo_toNat) rfl)
  isplitl [Htab]; · iexact Htab
  iintro Htab
  iapply (tab_set c I (n := 4) 1 1 rfl _ ((nkW_toNat (I.seg 1 (by omega)).row)) rfl)
  isplitl [Htab]; · iexact Htab
  iintro Htab
  iapply (tab_set c I (n := 5) 2 1 rfl _ (rfl) rfl)
  isplitl [Htab]; · iexact Htab
  iintro Htab
  iapply (zero_if2 c I (emp_cond I 1))
  isplitl [HZ]; · iexact HZ
  iintro HZ
  simp only [bind_assoc, pure_bind, Prog.bind_lift, Prog.bind_op]
  iapply (sz_load c I nv hn 2 rfl)
  isplitl [HN]; · iexact HN
  iintro HN
  iapply (wp_assume 𝒱₀ (c : Thread nD τ) none Set.univ (chk3 I.fit.seg2))
  rw [k0_part49_eq_skeleton]
  unfold k0_part49_skel
  simp only [bind_assoc, pure_bind, Prog.bind_lift, Prog.bind_op]
  rw [k0_part50_eq_skeleton]
  unfold k0_part50_skel
  simp only [bind_assoc, pure_bind, Prog.bind_lift, Prog.bind_op]
  iapply (tab_set c I (n := 6) 0 2 rfl _ ((I.seg 2 (by omega)).lo_toNat) rfl)
  isplitl [Htab]; · iexact Htab
  iintro Htab
  iapply (tab_set c I (n := 7) 1 2 rfl _ ((nkW_toNat (I.seg 2 (by omega)).row)) rfl)
  isplitl [Htab]; · iexact Htab
  iintro Htab
  iapply (tab_set c I (n := 8) 2 2 rfl _ (rfl) rfl)
  isplitl [Htab]; · iexact Htab
  iintro Htab
  iapply (zero_if3 c I (emp_cond I 2))
  isplitl [HZ]; · iexact HZ
  iintro HZ
  simp only [bind_assoc, pure_bind, Prog.bind_lift, Prog.bind_op]
  iapply (sz_load c I nv hn 3 rfl)
  isplitl [HN]; · iexact HN
  iintro HN
  iapply (wp_assume 𝒱₀ (c : Thread nD τ) none Set.univ (chk4 I.fit.seg3))
  rw [k0_part51_eq_skeleton]
  unfold k0_part51_skel
  simp only [bind_assoc, pure_bind, Prog.bind_lift, Prog.bind_op]
  rw [k0_part52_eq_skeleton]
  unfold k0_part52_skel
  simp only [bind_assoc, pure_bind, Prog.bind_lift, Prog.bind_op]
  iapply (tab_set c I (n := 9) 0 3 rfl _ ((I.seg 3 (by omega)).lo_toNat) rfl)
  isplitl [Htab]; · iexact Htab
  iintro Htab
  iapply (tab_set c I (n := 10) 1 3 rfl _ ((nkW_toNat (I.seg 3 (by omega)).row)) rfl)
  isplitl [Htab]; · iexact Htab
  iintro Htab
  iapply (tab_set c I (n := 11) 2 3 rfl _ (rfl) rfl)
  isplitl [Htab]; · iexact Htab
  iintro Htab
  iapply (zero_if4 c I (emp_cond I 3))
  isplitl [HZ]; · iexact HZ
  iintro HZ
  simp only [bind_assoc, pure_bind, Prog.bind_lift, Prog.bind_op]
  iapply (sz_load c I nv hn 4 rfl)
  isplitl [HN]; · iexact HN
  iintro HN
  iapply (wp_assume 𝒱₀ (c : Thread nD τ) none Set.univ (chk5 I.fit.seg4))
  rw [k0_part53_eq_skeleton]
  unfold k0_part53_skel
  simp only [bind_assoc, pure_bind, Prog.bind_lift, Prog.bind_op]
  iapply (tab_set c I (n := 12) 0 4 rfl _ ((I.seg 4 (by omega)).lo_toNat) rfl)
  isplitl [Htab]; · iexact Htab
  iintro Htab
  rw [k0_part54_eq_skeleton]
  unfold k0_part54_skel
  simp only [bind_assoc, pure_bind, Prog.bind_lift, Prog.bind_op]
  iapply (tab_set c I (n := 13) 1 4 rfl _ ((nkW_toNat (I.seg 4 (by omega)).row)) rfl)
  isplitl [Htab]; · iexact Htab
  iintro Htab
  iapply (tab_set c I (n := 14) 2 4 rfl _ (rfl) rfl)
  isplitl [Htab]; · iexact Htab
  iintro Htab
  iapply (zero_if5 c I (emp_cond I 4))
  isplitl [HZ]; · iexact HZ
  iintro HZ
  simp only [bind_assoc, pure_bind, Prog.bind_lift, Prog.bind_op]
  iapply (wp_load 𝒱₀ (c : Thread nD τ) none Set.univ (m := mRows) (Finset.subset_univ _)) $$ Hr; iintro Hr
  iapply (wp_store 𝒱₀ (c : Thread nD τ) none Set.univ (m := mRows) (r := Rect.unit (s := S1792x1024) ![0, 0] S1792x1024.size inb_S1792x1024_S1792x1024_0_0) (Mk := Finset.univ) (Finset.subset_univ _)) $$ Hr; iintro Hr
  iapply (wait_fly c (N := NSx) (semS_at 0 _) mXs_credit) $$ [HFs HO]
  · isplitl [HFs] <;> iassumption
  iintro ⟨⟨Hxs, Hsx⟩, Hvs, HO⟩
  ihave Hg2 := (xt_zero c I (XT I.x I.sx I.G I.Row I.In) dg) $$ Hg
  ihave HX0 := (Entails.of_eq (XF_eq c I 0 _)) $$ HX0
  iapply (wait_fly c (N := NX) (D := iprop(ptsOn c mXc (xPiece 0) I.x ∗ ptsOn c mX (xPiece 0) I.x)) (semX_at 0 _) (xDst_credit 0 _)) $$ [HX0 HO]
  · isplitl [HX0]; · iexact HX0
    iexact HO
  iintro ⟨⟨Hc0, Hx0⟩, Hv0, HO⟩
  ihave Hr2 := (rows_zero c I (RX I.x I.sx I.G 0) _) $$ Hr
  iapply (dqx_loop c (I.seg 0 (by omega)) (C := 0) (by omega) I.x I.sx I.G (I.G_eq (e := 0) (by omega)) (fun t u => rfl))
  isplitl [Hxs]; · iexact Hxs
  isplitl [Hc0]; · iexact Hc0
  isplitl [Hr2]; · iexact Hr2
  iintro ⟨Hxs, Hc0, Hr2⟩
  ihave Hr2 := (rows_next c I (RX I.x I.sx I.G 0) 0 (by omega)) $$ Hr2
  iapply (rem_loop c)
  rw [k0_part55_eq_skeleton]
  unfold k0_part55_skel
  simp only [bind_assoc, pure_bind, Prog.bind_lift, Prog.bind_op]
  iapply (dqx_loop c (I.seg 1 (by omega)) (C := 0) (by omega) I.x I.sx I.G (I.G_eq (e := 1) (by omega)) (fun t u => rfl))
  isplitl [Hxs]; · iexact Hxs
  isplitl [Hc0]; · iexact Hc0
  isplitl [Hr2]; · iexact Hr2
  iintro ⟨Hxs, Hc0, Hr2⟩
  ihave Hr2 := (rows_next c I (RX I.x I.sx I.G 0) 1 (by omega)) $$ Hr2
  iapply (rem_loop c)
  iapply (dqx_loop c (I.seg 2 (by omega)) (C := 0) (by omega) I.x I.sx I.G (I.G_eq (e := 2) (by omega)) (fun t u => rfl))
  isplitl [Hxs]; · iexact Hxs
  isplitl [Hc0]; · iexact Hc0
  isplitl [Hr2]; · iexact Hr2
  iintro ⟨Hxs, Hc0, Hr2⟩
  ihave Hr2 := (rows_next c I (RX I.x I.sx I.G 0) 2 (by omega)) $$ Hr2
  iapply (rem_loop c)
  iapply (dqx_loop c (I.seg 3 (by omega)) (C := 0) (by omega) I.x I.sx I.G (I.G_eq (e := 3) (by omega)) (fun t u => rfl))
  isplitl [Hxs]; · iexact Hxs
  isplitl [Hc0]; · iexact Hc0
  isplitl [Hr2]; · iexact Hr2
  iintro ⟨Hxs, Hc0, Hr2⟩
  ihave Hr2 := (rows_next c I (RX I.x I.sx I.G 0) 3 (by omega)) $$ Hr2
  iapply (rem_loop c)
  rw [k0_part56_eq_skeleton]
  unfold k0_part56_skel
  simp only [bind_assoc, pure_bind, Prog.bind_lift, Prog.bind_op]
  iapply (dqx_loop c (I.seg 4 (by omega)) (C := 0) (by omega) I.x I.sx I.G (I.G_eq (e := 4) (by omega)) (fun t u => rfl))
  isplitl [Hxs]; · iexact Hxs
  isplitl [Hc0]; · iexact Hc0
  isplitl [Hr2]; · iexact Hr2
  iintro ⟨Hxs, Hc0, Hr2⟩
  icases Hr2 with ⟨%f0, %hf0, Hr⟩
  iapply (rem_loop c)
  iapply (xt_loop c (I.seg 0 (by omega)) (C := 0) (by omega) I.x I.sx I.G I.Row I.In I.cols (I.Row_eq (e := 0) (by omega)) (I.In_eq (e := 0) (by omega)) (hf0.mono (I.st_le (e := 0) (by omega))) (fun t u => rfl))
  isplitl [Hr]; · iexact Hr
  isplitl [Hg2]; · iexact Hg2
  iintro ⟨Hr, Hg2⟩
  ihave Hg2 := (xt_next c I I.cols 0 (XT I.x I.sx I.G I.Row I.In) 0 (by omega)) $$ Hg2
  iapply (rem_loop c)
  rw [k0_part57_eq_skeleton]
  unfold k0_part57_skel
  simp only [bind_assoc, pure_bind, Prog.bind_lift, Prog.bind_op]
  iapply (xt_loop c (I.seg 1 (by omega)) (C := 0) (by omega) I.x I.sx I.G I.Row I.In I.cols (I.Row_eq (e := 1) (by omega)) (I.In_eq (e := 1) (by omega)) (hf0.mono (I.st_le (e := 1) (by omega))) (fun t u => rfl))
  isplitl [Hr]; · iexact Hr
  isplitl [Hg2]; · iexact Hg2
  iintro ⟨Hr, Hg2⟩
  ihave Hg2 := (xt_next c I I.cols 0 (XT I.x I.sx I.G I.Row I.In) 1 (by omega)) $$ Hg2
  iapply (rem_loop c)
  iapply (xt_loop c (I.seg 2 (by omega)) (C := 0) (by omega) I.x I.sx I.G I.Row I.In I.cols (I.Row_eq (e := 2) (by omega)) (I.In_eq (e := 2) (by omega)) (hf0.mono (I.st_le (e := 2) (by omega))) (fun t u => rfl))
  isplitl [Hr]; · iexact Hr
  isplitl [Hg2]; · iexact Hg2
  iintro ⟨Hr, Hg2⟩
  ihave Hg2 := (xt_next c I I.cols 0 (XT I.x I.sx I.G I.Row I.In) 2 (by omega)) $$ Hg2
  iapply (rem_loop c)
  iapply (xt_loop c (I.seg 3 (by omega)) (C := 0) (by omega) I.x I.sx I.G I.Row I.In I.cols (I.Row_eq (e := 3) (by omega)) (I.In_eq (e := 3) (by omega)) (hf0.mono (I.st_le (e := 3) (by omega))) (fun t u => rfl))
  isplitl [Hr]; · iexact Hr
  isplitl [Hg2]; · iexact Hg2
  iintro ⟨Hr, Hg2⟩
  ihave Hg2 := (xt_next c I I.cols 0 (XT I.x I.sx I.G I.Row I.In) 3 (by omega)) $$ Hg2
  iapply (rem_loop c)
  rw [k0_part58_eq_skeleton]
  unfold k0_part58_skel
  simp only [bind_assoc, pure_bind, Prog.bind_lift, Prog.bind_op]
  iapply (xt_loop c (I.seg 4 (by omega)) (C := 0) (by omega) I.x I.sx I.G I.Row I.In I.cols (I.Row_eq (e := 4) (by omega)) (I.In_eq (e := 4) (by omega)) (hf0.mono (I.st_le (e := 4) (by omega))) (fun t u => rfl))
  isplitl [Hr]; · iexact Hr
  isplitl [Hg2]; · iexact Hg2
  iintro ⟨Hr, Hg2⟩
  ihave Hg2 := (xt_chunk c I 0 (XT I.x I.sx I.G I.Row I.In)) $$ Hg2
  iapply (rem_loop c)
  ihave HX1 := (Entails.of_eq (XF_eq c I 1 _)) $$ HX1
  iapply (wait_fly c (N := NX) (D := iprop(ptsOn c mXc (xPiece 1) I.x ∗ ptsOn c mX (xPiece 1) I.x)) (semX_at 1 _) (xDst_credit 1 _)) $$ [HX1 HO]
  · isplitl [HX1]; · iexact HX1
    iexact HO
  iintro ⟨⟨Hc1, Hx1⟩, Hv1, HO⟩
  ihave Hr2 := (rows_zero c I (RX I.x I.sx I.G 1) _) $$ Hr
  iapply (dqx_loop c (I.seg 0 (by omega)) (C := 1) (by omega) I.x I.sx I.G (I.G_eq (e := 0) (by omega)) (fun t u => rfl))
  isplitl [Hxs]; · iexact Hxs
  isplitl [Hc1]; · iexact Hc1
  isplitl [Hr2]; · iexact Hr2
  iintro ⟨Hxs, Hc1, Hr2⟩
  ihave Hr2 := (rows_next c I (RX I.x I.sx I.G 1) 0 (by omega)) $$ Hr2
  iapply (rem_loop c)
  iapply (dqx_loop c (I.seg 1 (by omega)) (C := 1) (by omega) I.x I.sx I.G (I.G_eq (e := 1) (by omega)) (fun t u => rfl))
  isplitl [Hxs]; · iexact Hxs
  isplitl [Hc1]; · iexact Hc1
  isplitl [Hr2]; · iexact Hr2
  iintro ⟨Hxs, Hc1, Hr2⟩
  ihave Hr2 := (rows_next c I (RX I.x I.sx I.G 1) 1 (by omega)) $$ Hr2
  rw [k0_part59_eq_skeleton]
  unfold k0_part59_skel
  simp only [bind_assoc, pure_bind, Prog.bind_lift, Prog.bind_op]
  iapply (rem_loop c)
  iapply (dqx_loop c (I.seg 2 (by omega)) (C := 1) (by omega) I.x I.sx I.G (I.G_eq (e := 2) (by omega)) (fun t u => rfl))
  isplitl [Hxs]; · iexact Hxs
  isplitl [Hc1]; · iexact Hc1
  isplitl [Hr2]; · iexact Hr2
  iintro ⟨Hxs, Hc1, Hr2⟩
  ihave Hr2 := (rows_next c I (RX I.x I.sx I.G 1) 2 (by omega)) $$ Hr2
  iapply (rem_loop c)
  iapply (dqx_loop c (I.seg 3 (by omega)) (C := 1) (by omega) I.x I.sx I.G (I.G_eq (e := 3) (by omega)) (fun t u => rfl))
  isplitl [Hxs]; · iexact Hxs
  isplitl [Hc1]; · iexact Hc1
  isplitl [Hr2]; · iexact Hr2
  iintro ⟨Hxs, Hc1, Hr2⟩
  ihave Hr2 := (rows_next c I (RX I.x I.sx I.G 1) 3 (by omega)) $$ Hr2
  iapply (rem_loop c)
  rw [k0_part60_eq_skeleton]
  unfold k0_part60_skel
  simp only [bind_assoc, pure_bind, Prog.bind_lift, Prog.bind_op]
  iapply (dqx_loop c (I.seg 4 (by omega)) (C := 1) (by omega) I.x I.sx I.G (I.G_eq (e := 4) (by omega)) (fun t u => rfl))
  isplitl [Hxs]; · iexact Hxs
  isplitl [Hc1]; · iexact Hc1
  isplitl [Hr2]; · iexact Hr2
  iintro ⟨Hxs, Hc1, Hr2⟩
  icases Hr2 with ⟨%f1, %hf1, Hr⟩
  iapply (rem_loop c)
  iapply (xt_loop c (I.seg 0 (by omega)) (C := 1) (by omega) I.x I.sx I.G I.Row I.In I.cols (I.Row_eq (e := 0) (by omega)) (I.In_eq (e := 0) (by omega)) (hf1.mono (I.st_le (e := 0) (by omega))) (fun t u => rfl))
  isplitl [Hr]; · iexact Hr
  isplitl [Hg2]; · iexact Hg2
  iintro ⟨Hr, Hg2⟩
  ihave Hg2 := (xt_next c I I.cols 1 (XT I.x I.sx I.G I.Row I.In) 0 (by omega)) $$ Hg2
  iapply (rem_loop c)
  iapply (xt_loop c (I.seg 1 (by omega)) (C := 1) (by omega) I.x I.sx I.G I.Row I.In I.cols (I.Row_eq (e := 1) (by omega)) (I.In_eq (e := 1) (by omega)) (hf1.mono (I.st_le (e := 1) (by omega))) (fun t u => rfl))
  isplitl [Hr]; · iexact Hr
  isplitl [Hg2]; · iexact Hg2
  iintro ⟨Hr, Hg2⟩
  ihave Hg2 := (xt_next c I I.cols 1 (XT I.x I.sx I.G I.Row I.In) 1 (by omega)) $$ Hg2
  iapply (rem_loop c)
  rw [k0_part61_eq_skeleton]
  unfold k0_part61_skel
  simp only [bind_assoc, pure_bind, Prog.bind_lift, Prog.bind_op]
  iapply (xt_loop c (I.seg 2 (by omega)) (C := 1) (by omega) I.x I.sx I.G I.Row I.In I.cols (I.Row_eq (e := 2) (by omega)) (I.In_eq (e := 2) (by omega)) (hf1.mono (I.st_le (e := 2) (by omega))) (fun t u => rfl))
  isplitl [Hr]; · iexact Hr
  isplitl [Hg2]; · iexact Hg2
  iintro ⟨Hr, Hg2⟩
  ihave Hg2 := (xt_next c I I.cols 1 (XT I.x I.sx I.G I.Row I.In) 2 (by omega)) $$ Hg2
  iapply (rem_loop c)
  iapply (xt_loop c (I.seg 3 (by omega)) (C := 1) (by omega) I.x I.sx I.G I.Row I.In I.cols (I.Row_eq (e := 3) (by omega)) (I.In_eq (e := 3) (by omega)) (hf1.mono (I.st_le (e := 3) (by omega))) (fun t u => rfl))
  isplitl [Hr]; · iexact Hr
  isplitl [Hg2]; · iexact Hg2
  iintro ⟨Hr, Hg2⟩
  ihave Hg2 := (xt_next c I I.cols 1 (XT I.x I.sx I.G I.Row I.In) 3 (by omega)) $$ Hg2
  iapply (rem_loop c)
  iapply (xt_loop c (I.seg 4 (by omega)) (C := 1) (by omega) I.x I.sx I.G I.Row I.In I.cols (I.Row_eq (e := 4) (by omega)) (I.In_eq (e := 4) (by omega)) (hf1.mono (I.st_le (e := 4) (by omega))) (fun t u => rfl))
  isplitl [Hr]; · iexact Hr
  isplitl [Hg2]; · iexact Hg2
  iintro ⟨Hr, Hg2⟩
  ihave Hg2 := (xt_chunk c I 1 (XT I.x I.sx I.G I.Row I.In)) $$ Hg2
  iapply (rem_loop c)
  rw [k0_part62_eq_skeleton]
  unfold k0_part62_skel
  simp only [bind_assoc, pure_bind, Prog.bind_lift, Prog.bind_op]
  ihave HX2 := (Entails.of_eq (XF_eq c I 2 _)) $$ HX2
  iapply (wait_fly c (N := NX) (D := iprop(ptsOn c mXc (xPiece 2) I.x ∗ ptsOn c mX (xPiece 2) I.x)) (semX_at 2 _) (xDst_credit 2 _)) $$ [HX2 HO]
  · isplitl [HX2]; · iexact HX2
    iexact HO
  iintro ⟨⟨Hc2, Hx2⟩, Hv2, HO⟩
  ihave Hr2 := (rows_zero c I (RX I.x I.sx I.G 2) _) $$ Hr
  iapply (dqx_loop c (I.seg 0 (by omega)) (C := 2) (by omega) I.x I.sx I.G (I.G_eq (e := 0) (by omega)) (fun t u => rfl))
  isplitl [Hxs]; · iexact Hxs
  isplitl [Hc2]; · iexact Hc2
  isplitl [Hr2]; · iexact Hr2
  iintro ⟨Hxs, Hc2, Hr2⟩
  ihave Hr2 := (rows_next c I (RX I.x I.sx I.G 2) 0 (by omega)) $$ Hr2
  iapply (rem_loop c)
  iapply (dqx_loop c (I.seg 1 (by omega)) (C := 2) (by omega) I.x I.sx I.G (I.G_eq (e := 1) (by omega)) (fun t u => rfl))
  isplitl [Hxs]; · iexact Hxs
  isplitl [Hc2]; · iexact Hc2
  isplitl [Hr2]; · iexact Hr2
  iintro ⟨Hxs, Hc2, Hr2⟩
  ihave Hr2 := (rows_next c I (RX I.x I.sx I.G 2) 1 (by omega)) $$ Hr2
  iapply (rem_loop c)
  rw [k0_part63_eq_skeleton]
  unfold k0_part63_skel
  simp only [bind_assoc, pure_bind, Prog.bind_lift, Prog.bind_op]
  iapply (dqx_loop c (I.seg 2 (by omega)) (C := 2) (by omega) I.x I.sx I.G (I.G_eq (e := 2) (by omega)) (fun t u => rfl))
  isplitl [Hxs]; · iexact Hxs
  isplitl [Hc2]; · iexact Hc2
  isplitl [Hr2]; · iexact Hr2
  iintro ⟨Hxs, Hc2, Hr2⟩
  ihave Hr2 := (rows_next c I (RX I.x I.sx I.G 2) 2 (by omega)) $$ Hr2
  iapply (rem_loop c)
  iapply (dqx_loop c (I.seg 3 (by omega)) (C := 2) (by omega) I.x I.sx I.G (I.G_eq (e := 3) (by omega)) (fun t u => rfl))
  isplitl [Hxs]; · iexact Hxs
  isplitl [Hc2]; · iexact Hc2
  isplitl [Hr2]; · iexact Hr2
  iintro ⟨Hxs, Hc2, Hr2⟩
  ihave Hr2 := (rows_next c I (RX I.x I.sx I.G 2) 3 (by omega)) $$ Hr2
  iapply (rem_loop c)
  iapply (dqx_loop c (I.seg 4 (by omega)) (C := 2) (by omega) I.x I.sx I.G (I.G_eq (e := 4) (by omega)) (fun t u => rfl))
  isplitl [Hxs]; · iexact Hxs
  isplitl [Hc2]; · iexact Hc2
  isplitl [Hr2]; · iexact Hr2
  iintro ⟨Hxs, Hc2, Hr2⟩
  icases Hr2 with ⟨%f2, %hf2, Hr⟩
  iapply (rem_loop c)
  rw [k0_part64_eq_skeleton]
  unfold k0_part64_skel
  simp only [bind_assoc, pure_bind, Prog.bind_lift, Prog.bind_op]
  iapply (xt_loop c (I.seg 0 (by omega)) (C := 2) (by omega) I.x I.sx I.G I.Row I.In I.cols (I.Row_eq (e := 0) (by omega)) (I.In_eq (e := 0) (by omega)) (hf2.mono (I.st_le (e := 0) (by omega))) (fun t u => rfl))
  isplitl [Hr]; · iexact Hr
  isplitl [Hg2]; · iexact Hg2
  iintro ⟨Hr, Hg2⟩
  ihave Hg2 := (xt_next c I I.cols 2 (XT I.x I.sx I.G I.Row I.In) 0 (by omega)) $$ Hg2
  iapply (rem_loop c)
  iapply (xt_loop c (I.seg 1 (by omega)) (C := 2) (by omega) I.x I.sx I.G I.Row I.In I.cols (I.Row_eq (e := 1) (by omega)) (I.In_eq (e := 1) (by omega)) (hf2.mono (I.st_le (e := 1) (by omega))) (fun t u => rfl))
  isplitl [Hr]; · iexact Hr
  isplitl [Hg2]; · iexact Hg2
  iintro ⟨Hr, Hg2⟩
  ihave Hg2 := (xt_next c I I.cols 2 (XT I.x I.sx I.G I.Row I.In) 1 (by omega)) $$ Hg2
  iapply (rem_loop c)
  iapply (xt_loop c (I.seg 2 (by omega)) (C := 2) (by omega) I.x I.sx I.G I.Row I.In I.cols (I.Row_eq (e := 2) (by omega)) (I.In_eq (e := 2) (by omega)) (hf2.mono (I.st_le (e := 2) (by omega))) (fun t u => rfl))
  isplitl [Hr]; · iexact Hr
  isplitl [Hg2]; · iexact Hg2
  iintro ⟨Hr, Hg2⟩
  ihave Hg2 := (xt_next c I I.cols 2 (XT I.x I.sx I.G I.Row I.In) 2 (by omega)) $$ Hg2
  iapply (rem_loop c)
  rw [k0_part65_eq_skeleton]
  unfold k0_part65_skel
  simp only [bind_assoc, pure_bind, Prog.bind_lift, Prog.bind_op]
  iapply (xt_loop c (I.seg 3 (by omega)) (C := 2) (by omega) I.x I.sx I.G I.Row I.In I.cols (I.Row_eq (e := 3) (by omega)) (I.In_eq (e := 3) (by omega)) (hf2.mono (I.st_le (e := 3) (by omega))) (fun t u => rfl))
  isplitl [Hr]; · iexact Hr
  isplitl [Hg2]; · iexact Hg2
  iintro ⟨Hr, Hg2⟩
  ihave Hg2 := (xt_next c I I.cols 2 (XT I.x I.sx I.G I.Row I.In) 3 (by omega)) $$ Hg2
  iapply (rem_loop c)
  iapply (xt_loop c (I.seg 4 (by omega)) (C := 2) (by omega) I.x I.sx I.G I.Row I.In I.cols (I.Row_eq (e := 4) (by omega)) (I.In_eq (e := 4) (by omega)) (hf2.mono (I.st_le (e := 4) (by omega))) (fun t u => rfl))
  isplitl [Hr]; · iexact Hr
  isplitl [Hg2]; · iexact Hg2
  iintro ⟨Hr, Hg2⟩
  ihave Hg2 := (xt_chunk c I 2 (XT I.x I.sx I.G I.Row I.In)) $$ Hg2
  iapply (rem_loop c)
  iapply (wait_fly c (N := NSy) (semS_at 1 _) mYs_credit) $$ [HFt HO]
  · isplitl [HFt] <;> iassumption
  iintro ⟨⟨Hys, Hsy⟩, Hvt, HO⟩
  icases Hg2 with ⟨%g, %hg, Hg⟩
  icases Htab with ⟨%tb, %htb, Htab⟩
  ihave HZ2 := (Entails.of_eq (ZP_fin c I)) $$ HZ
  iapply (blocks c I tb htb.ok g hg)
  isplitl [HS HT HZ2 HO Htab Hg Hr Hys HY HYI]
  · unfold Bs0
    isplitr [Hys HY HYI]
    · isplitl [HS]; · iexact HS
      isplitl [HT]; · iexact HT
      isplitl [HZ2]; · iexact HZ2
      isplitl [HO]; · iexact HO
      isplitl [Htab]; · iexact Htab
      isplitl [Hg] <;> iassumption
    isplitl [Hys]; · iexact Hys
    isplitl [HY] <;> iassumption
  iintro %a ⟨%ha, HB⟩
  have ha' : a.toNat ≤ 120 := ha
  have hr31 : a.toNat < 2 ^ 31 := by omega
  ihave HB2 := (Entails.of_eq (BS_end c I tb g a)) $$ HB
  icases HB2 with ⟨⟨%f, HSS⟩, Hys, HY0, HY1, Hy⟩
  ihave HSS2 := (Entails.of_eq (SS_open c I tb g f a)) $$ HSS
  icases HSS2 with ⟨HS, -, HZ, HO, Htab, Hg, Hr⟩
  iapply (slot_ifb c I (fun r => decide (r.val < a.toNat)) (fun r => decide (0 < r.val) && decide (r.val < a.toNat)) 0 (by rw [decide_eq_false (show ¬ 0 < (0 : Fin 4).val by decide), Bool.false_and]) (by intro r hr; have := r.isLt; have : r.val ≠ 0 := fun h => hr (Fin.ext h); show (decide (0 < r.val) && decide (r.val < a.toNat)) = decide (r.val < a.toNat); rw [decide_eq_true (show 0 < r.val by omega), Bool.true_and]) (I.Pt 120) (slot_cond hr31 0 (by omega)) (semO_at (x := 0) (by omega) _) (tDst_credit _ _))
  isplitl [HS]; · iexact HS
  isplitl [HO]; · iexact HO
  iintro ⟨HS, HO⟩
  try simp only [bind_assoc, pure_bind, Prog.bind_lift, Prog.bind_op]
  iapply (slot_ifb c I (fun r => decide (0 < r.val) && decide (r.val < a.toNat)) (fun r => decide (1 < r.val) && decide (r.val < a.toNat)) 1 (by rw [decide_eq_false (show ¬ 1 < (1 : Fin 4).val by decide), Bool.false_and]) (by intro r hr; have := r.isLt; have : r.val ≠ 1 := fun h => hr (Fin.ext h); show (decide (1 < r.val) && decide (r.val < a.toNat)) = (decide (0 < r.val) && decide (r.val < a.toNat)); rw [decide_eq_decide.2 (show (1 < r.val ↔ 0 < r.val) by omega)]) (I.Pt 120) ((slot_cond hr31 1 (by omega)).trans (by rw [decide_eq_true (show 0 < (1 : Fin 4).val by decide), Bool.true_and]; exact Iff.rfl)) (semO_at (x := 1) (by omega) _) (tDst_credit _ _))
  isplitl [HS]; · iexact HS
  isplitl [HO]; · iexact HO
  iintro ⟨HS, HO⟩
  try simp only [bind_assoc, pure_bind, Prog.bind_lift, Prog.bind_op]
  iapply (slot_ifb c I (fun r => decide (1 < r.val) && decide (r.val < a.toNat)) (fun r => decide (2 < r.val) && decide (r.val < a.toNat)) 2 (by rw [decide_eq_false (show ¬ 2 < (2 : Fin 4).val by decide), Bool.false_and]) (by intro r hr; have := r.isLt; have : r.val ≠ 2 := fun h => hr (Fin.ext h); show (decide (2 < r.val) && decide (r.val < a.toNat)) = (decide (1 < r.val) && decide (r.val < a.toNat)); rw [decide_eq_decide.2 (show (2 < r.val ↔ 1 < r.val) by omega)]) (I.Pt 120) ((slot_cond hr31 2 (by omega)).trans (by rw [decide_eq_true (show 1 < (2 : Fin 4).val by decide), Bool.true_and]; exact Iff.rfl)) (semO_at (x := 2) (by omega) _) (tDst_credit _ _))
  isplitl [HS]; · iexact HS
  isplitl [HO]; · iexact HO
  iintro ⟨HS, HO⟩
  try simp only [bind_assoc, pure_bind, Prog.bind_lift, Prog.bind_op]
  iapply (slot_ifb c I (fun r => decide (2 < r.val) && decide (r.val < a.toNat)) (fun r => decide (3 < r.val) && decide (r.val < a.toNat)) 3 (by rw [decide_eq_false (show ¬ 3 < (3 : Fin 4).val by decide), Bool.false_and]) (by intro r hr; have := r.isLt; have : r.val ≠ 3 := fun h => hr (Fin.ext h); show (decide (3 < r.val) && decide (r.val < a.toNat)) = (decide (2 < r.val) && decide (r.val < a.toNat)); rw [decide_eq_decide.2 (show (3 < r.val ↔ 2 < r.val) by omega)]) (I.Pt 120) ((slot_cond hr31 3 (by omega)).trans (by rw [decide_eq_true (show 2 < (3 : Fin 4).val by decide), Bool.true_and]; exact Iff.rfl)) (semO_at (x := 3) (by omega) _) (tDst_credit _ _))
  isplitl [HS]; · iexact HS
  isplitl [HO]; · iexact HO
  iintro ⟨HS, HO⟩
  try simp only [bind_assoc, pure_bind, Prog.bind_lift, Prog.bind_op]
  ihave HZ := (ZW_intro c I) $$ HZ
  ihave HW := (show iprop(ZW c I 0 ∗ (∃ W', owes (c : Thread nD τ) 0 W')) ⊢ iprop(ZW c I (I.emW 0) ∗ (∃ W', owes (c : Thread nD τ) 0 W')) from .rfl) $$ [HZ HO]
  · isplitl [HZ] <;> iassumption
  iapply (sz_load c I nv hn 0 rfl)
  isplitl [HN]; · iexact HN
  iintro HN
  iapply (zwait_if80 c I (emp_cond I 0))
  isplitl [HW]; · iexact HW
  iintro HW
  try simp only [bind_assoc, pure_bind, Prog.bind_lift, Prog.bind_op]
  iapply (sz_load c I nv hn 1 rfl)
  isplitl [HN]; · iexact HN
  iintro HN
  iapply (zwait_if81 c I (emp_cond I 1))
  isplitl [HW]; · iexact HW
  iintro HW
  try simp only [bind_assoc, pure_bind, Prog.bind_lift, Prog.bind_op]
  iapply (sz_load c I nv hn 2 rfl)
  isplitl [HN]; · iexact HN
  iintro HN
  iapply (zwait_if82 c I (emp_cond I 2))
  isplitl [HW]; · iexact HW
  iintro HW
  try simp only [bind_assoc, pure_bind, Prog.bind_lift, Prog.bind_op]
  iapply (sz_load c I nv hn 3 rfl)
  isplitl [HN]; · iexact HN
  iintro HN
  iapply (zwait_if c I (E := 3) (by omega) rfl (fun n hn t u => zwait_trip83 c I hn t u) (emp_cond I 3))
  isplitl [HW]; · iexact HW
  iintro HW
  iapply (sz_load c I nv hn 4 rfl)
  isplitl [HN]; · iexact HN
  iintro HN
  iapply (zwait_if c I (E := 4) (by omega) rfl (fun n hn t u => zwait_trip84 c I hn t u) (emp_cond I 4))
  isplitl [HW]; · iexact HW
  iintro HW
  icases HW with ⟨HZ, HO⟩
  ihave HZ := (Entails.of_eq (congrArg (ZW c I) I.emW5)) $$ HZ
  imod (ZW_fin c I) $$ HZ with ⟨Hz, HTz, Hvz⟩
  ihave HS2 := (slots_fin c I _ (by intro q; have := q.isLt; rw [decide_eq_false (show ¬ 3 < q.val by omega), Bool.false_and]) (I.Pt 120)) $$ HS
  icases HS2 with ⟨Hob, Vo0, Vo1, Vo2, Vo3, HTt⟩
  ihave Hout := (out_join c I) $$ [HTt HTz]
  · isplitl [HTt] <;> iassumption
  ihave HY0 := (Entails.of_eq (YI_eq c 0 _)) $$ HY0
  ihave HY1 := (Entails.of_eq (YI_eq c 1 _)) $$ HY1
  icases HY0 with ⟨Vy0, %dy0, Hyc0⟩
  icases HY1 with ⟨Vy1, %dy1, Hyc1⟩
  ihave Hyc := (mYc_join c dy0 dy1) $$ [Hyc0 Hyc1]
  · isplitl [Hyc0] <;> iassumption
  iapply (wp_pure_intro c)
  unfold Fin1 St2
  isplitl [Hout]; · iexact Hout
  isplitl [Hx0 Hx1 Hx2]
  · iapply (mX_split c I.x).2
    isplitl [Hx0 Hx1]
    · isplitl [Hx0] <;> iassumption
    · iexact Hx2
  isplitl [Hsx]; · iexact Hsx
  isplitl [Hy]; · iexact Hy
  isplitl [Hsy]; · iexact Hsy
  isplitl [Hc0 Hc1 Hc2]
  · iexists I.x
    iapply (mXc_split c I.x).2
    isplitl [Hc0 Hc1]
    · isplitl [Hc0] <;> iassumption
    · iexact Hc2
  isplitl [Hyc]; · iexact Hyc
  isplitl [Hxs]; · iexists _; iexact Hxs
  isplitl [Hys]; · iexists _; iexact Hys
  isplitl [Hz]; · iexact Hz
  isplitl [Hvs Hv0 Hv1 Hv2 Hvt Vy0 Vy1 Hvz]
  · isplitl [Hvs]; · iexact Hvs
    isplitl [Hv0]; · iexact Hv0
    isplitl [Hv1]; · iexact Hv1
    isplitl [Hv2]; · iexact Hv2
    isplitl [Hvt]; · iexact Hvt
    isplitl [Vy0]; · iexact Vy0
    isplitl [Vy1]; · iexact Vy1
    iexact Hvz
  isplitl [HN]; · iexact HN
  isplitl [Hr]; · iexists _; iexact Hr
  isplitl [Hg]; · iexists _; iexact Hg
  isplitl [Hob]; · iexact Hob
  isplitl [Htab]; · iexists _; iexact Htab
  isplitr [HO]
  · isplitl [Vo0]; · iexact Vo0
    isplitl [Vo1]; · iexact Vo1
    isplitl [Vo2] <;> iassumption
  · iexact HO

end Cert.Kernel
-- ==== Proof.Run.lean ====
/- The kernel launched: its one pipeline point is the body, its sizes staged; what the whole run leaves. -/
module

public import proofs.«01_k».proof.Proof.Root
public import Idealize.ShloMosaic.Lib.Pipeline.KitQuiescent

@[expose] public section

noncomputable section

namespace Cert.Kernel

open Cert.Kernel.Gen GW
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Expert `e`'s size, as launched. -/
def word (c : Dev nD) (e : Fin 5) : BitVec 32 := (show S5.Idx → BitVec 32 from m ((c : Thread nD τ).loc main_arg4)) (ix1 e)
/-- The sizes fit. -/
def Fits : Prop := ∀ c : Dev nD, Fit (word m c 0) (word m c 1) (word m c 2) (word m c 3) (word m c 4)

variable (hf : Fits m)

/-- The operands as launched. -/
def ins (c : Dev nD) : Ins F where
  x := m ((c : Thread nD τ).loc main_arg0)
  sx := m ((c : Thread nD τ).loc main_arg1)
  y := m ((c : Thread nD τ).loc main_arg2)
  sy := m ((c : Thread nD τ).loc main_arg3)
  w0 := word m c 0
  w1 := word m c 1
  w2 := word m c 2
  w3 := word m c 3
  w4 := word m c 4
  fit := hf c

abbrev V (c : Dev nD) (b : Ref sig .tc) : Buf (Elt F) ((c : Thread nD τ).loc b) := m ((c : Thread nD τ).loc b)

theorem hmain : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

abbrev osem0 : Fin 12 → SemLoc sig := fun j =>
  (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 12 → SemLoc sig) j
theorem ownSemFacts0 : Pipeline.OwnSemFacts spec0 osem0 := by decide

/-- The twelve counters of the body's own cells at zero. -/
def Sems (c : Dev nD) : sProp (MM F) :=
  iprop(semVal ((c : Thread nD τ), SemLoc.dma (semX 0)) 0 ∗ semVal ((c : Thread nD τ), SemLoc.dma (semX 1)) 0 ∗ semVal ((c : Thread nD τ), SemLoc.dma (semX 2)) 0
    ∗ semVal ((c : Thread nD τ), SemLoc.dma (semY 0)) 0 ∗ semVal ((c : Thread nD τ), SemLoc.dma (semY 1)) 0
    ∗ semVal ((c : Thread nD τ), SemLoc.dma (semS 0)) 0 ∗ semVal ((c : Thread nD τ), SemLoc.dma (semS 1)) 0
    ∗ semVal ((c : Thread nD τ), SemLoc.dma (semO 0)) 0 ∗ semVal ((c : Thread nD τ), SemLoc.dma (semO 1)) 0 ∗ semVal ((c : Thread nD τ), SemLoc.dma (semO 2)) 0
    ∗ semVal ((c : Thread nD τ), SemLoc.dma (semO 3)) 0 ∗ semVal ((c : Thread nD τ), SemLoc.dma semZ) 0)
theorem ownSems00_eq (c : Dev nD) :
    (Pipeline.ownSems0 (Ix := Unit) (Name := ℕ) (U := Pipeline.UD sig nD τ) (Lvl := ℕ) (Val := Elt F) (τ := τ) osem0 c : sProp (MM F)) = Sems c := by
  rw [Pipeline.ownSems0_eq_of_list c osem0 [0, 1, 2, 3, 4, 5, 6, 7, 8, 9, 10, 11] (by decide) (by decide)]; rfl

/-- The scratch buffers at some contents. -/
def Scr (c : Dev nD) : sProp (MM F) :=
  iprop((∃ d, pts c mXc d) ∗ (∃ d, pts c mYc d) ∗ (∃ d, pts c mXs d) ∗ (∃ d, pts c mYs d) ∗ (∃ d, pts c mRows d) ∗ (∃ d, pts c mXt d) ∗ (∃ d, pts c mOb d)
    ∗ (∃ d, pts c mZ d) ∗ (∃ d, pts (F := F) c mTab d))
theorem scr_eq (c : Dev nD) :
    (Pipeline.scopedRest (Ix := Unit) (Name := ℕ) (U := Pipeline.UD sig nD τ) (Lvl := ℕ) (Val := Elt F) spec0 c : sProp (MM F)) = Scr c := by
  rw [scopedRest0_eq]; rfl

/-- The operands left in HBM, as launched. -/
def Ops (c : Dev nD) : sProp (MM F) :=
  iprop(pts c mX (ins m hf c).x ∗ pts c mSx (ins m hf c).sx ∗ pts c mY (ins m hf c).y ∗ pts c mSy (ins m hf c).sy)
theorem rest_eq (c : Dev nD) :
    (Pipeline.unscopedRest (Ix := Unit) (Name := ℕ) (U := Pipeline.UD sig nD τ) (Lvl := ℕ) spec0 c (V m c) : sProp (MM F))
      = iprop(pts c mX (ins m hf c).x ∗ pts c mSx (ins m hf c).sx ∗ pts c mY (ins m hf c).y ∗ pts c mSy (ins m hf c).sy ∗ pts c mOut (V m c main_v0)) := by
  rw [unscopedRest0_eq]; rfl

/-- The output at what the kernel computes. -/
def Res (c : Dev nD) : sProp (MM F) := iprop(∃ f, ⌜OutOK (ins m hf c) f⌝ ∗ pts c mOut f)

/-- Between the region's ends: before the one point, and after it. -/
def Mid (c : Dev nD) : ℕ → sProp (MM F)
  | 0 => iprop(Scr c ∗ (∃ r, prngReg c r) ∗ Sems c ∗ Ops m hf c ∗ (∃ d, pts c mOut d))
  | _ => iprop(Scr c ∗ (∃ r, prngReg c r) ∗ Sems c ∗ Ops m hf c ∗ Res m hf c)

/-- The sizes' block at the one point. -/
def blk0 (c : Dev nD) (t : Fin cfg0.N) : ((cfg0.win 0).xblock (cfg0.grid.coords t)).Idx → Elt F (cfg0.win 0).elt :=
  ((cfg0.win 0).blk t).view.read (Elt F) (V m c (Pipeline.arrRef spec0 0))

/-- The one pipeline's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => blk0 m c t
  Φ t := Mid m hf c t.val
  q _ := fullShare
  owed _ := 0

theorem before_blk (c : Dev nD) (t : Fin cfg0.N) (d) : (dats m hf 0 c).before 0 t d = blk0 m c t :=
  ((dats m hf 0 c).before_in_eq_fetched 0 rfl (fun _ => rfl) (fun _ _ _ => rfl) (fun t => by
    rw [show (dats m hf 0 c).after 0 t = blk0 m c t from rfl]; unfold Dat.blockOf blk0; rw [show (dats m hf 0 c).A 0 = V m c (Pipeline.arrRef spec0 0) from rfl]; try rfl) t d).trans
    (by unfold Dat.fetched Dat.blockOf blk0; rw [show (dats m hf 0 c).A 0 = V m c (Pipeline.arrRef spec0 0) from rfl]; try rfl)

theorem blk_sz (c : Dev nD) (i : S5.Idx) : (show S5.Idx → BitVec 32 from blk0 m c t0_0) i = (ins m hf c).sz (i 0).val := by
  have h : ∀ e : Fin 5, word m c e = (ins m hf c).sz e.val := by
    intro e
    match e with
    | ⟨0, _⟩ => rfl | ⟨1, _⟩ => rfl | ⟨2, _⟩ => rfl | ⟨3, _⟩ => rfl | ⟨4, _⟩ => rfl
  refine Eq.trans ?_ (h (i 0))
  unfold word blk0
  refine congrArg (show S5.Idx → BitVec 32 from m ((c : Thread nD τ).loc main_arg4)) ?_
  funext a
  fin_cases a
  apply Fin.ext
  exact (cfg0.win 0).rect_emb_val_of_index_zero t0_0 0 (by rfl) i

theorem after0 (c : Dev nD) (t : Fin cfg0.N) : (dats m hf 0 c).after 0 t = blk0 m c t := by dsimp only [dats]
theorem A_eq (c : Dev nD) (w : Fin cfg0.W) : (dats m hf 0 c).A w = V m c (Pipeline.arrRef spec0 w) := by
  dsimp only [dats]

def bodyPre (c : Dev nD) (t : Fin cfg0.N) : sProp (MM F) :=
  iprop((dats m hf 0 c).Φ t.castSucc ∗ (dats m hf 0 c).owesAt () t.castSucc
    ∗ (∃ d, owns (c : Thread nD τ) (win0_0.stage (cfg0.slots t 0)) fullShare ((dats m hf 0 c).before 0 t d)))
def bodyPost (c : Dev nD) (t : Fin cfg0.N) : sProp (MM F) :=
  iprop((dats m hf 0 c).Φ t.succ ∗ (dats m hf 0 c).owesAt () t.succ
    ∗ owns (c : Thread nD τ) (win0_0.stage (cfg0.slots t 0)) fullShare ((dats m hf 0 c).after 0 t))

theorem stage_pts (c : Dev nD) (d : S5.Idx → BitVec 32) :
    (owns (c : Thread nD τ) (win0_0.stage (cfg0.slots t0_0 0)) fullShare (show ((cfg0.win 0).xblock (cfg0.grid.coords t0_0)).Idx → Elt F (cfg0.win 0).elt from d) : sProp (MM F))
      = pts (F := F) c mN d := by
  exact owns_whole (Val := Elt F) (c : Thread nD τ) cc0_stg0_0 fullShare d

theorem sound_body (c : Dev nD) (t : Fin cfg0.N) :
    bodyPre m hf c t ⊢ wp frame (wpE (defs₀ (F := F)) 𝒱₀ (c : Thread nD τ) none) Set.univ (bodyAt0 t) (fun _ => bodyPost m hf c t) := by
  obtain rfl : t = t0_0 := fin_N0 t
  have hpre : bodyPre m hf c t0_0 ⊢ iprop((∃ r, prngReg c r) ∗ St0 c (ins m hf c) ∗ St2 c (show S5.Idx → BitVec 32 from blk0 m c t0_0)) := by
    unfold bodyPre
    rw [show (dats m hf 0 c).Φ t0_0.castSucc = iprop(Scr c ∗ (∃ r, prngReg c r) ∗ Sems c ∗ Ops m hf c ∗ (∃ d, pts c mOut d)) from rfl]
    unfold Dat.owesAt Pipeline.owesWithin
    rw [show (dats m hf 0 c).owed t0_0.castSucc = 0 from rfl]
    unfold Scr Sems Ops St0 St2
    iintro ⟨⟨⟨A0, A1, A2, A3, A4, A5, A6, A7, A8⟩, Hg, ⟨X0, X1, X2, Y0, Y1, T0, T1, O0, O1, O2, O3, Z⟩, ⟨B0, B1, B2, B3⟩, Ho⟩, ⟨%W, -, HW⟩, ⟨%d0, H0⟩⟩
    ihave H0 := (Entails.of_eq ((congrArg (fun d => (owns (c : Thread nD τ) (win0_0.stage (cfg0.slots t0_0 0)) fullShare d : sProp (MM F))) (before_blk m hf c t0_0 d0)).trans (stage_pts c _))) $$ H0
    isplitl [Hg]; · iexact Hg
    isplitl [B0 B1 B2 B3 A0 A1 A2 A3 A7 Ho T0 X0 X1 X2 T1 Y0 Y1 Z]
    · isplitl [B0]; · iexact B0
      isplitl [B1]; · iexact B1
      isplitl [B2]; · iexact B2
      isplitl [B3]; · iexact B3
      isplitl [A0]; · iexact A0
      isplitl [A1]; · iexact A1
      isplitl [A2]; · iexact A2
      isplitl [A3]; · iexact A3
      isplitl [A7]; · iexact A7
      isplitl [Ho]; · iexact Ho
      isplitl [T0]; · iexact T0
      isplitl [X0]; · iexact X0
      isplitl [X1]; · iexact X1
      isplitl [X2]; · iexact X2
      isplitl [T1]; · iexact T1
      isplitl [Y0]; · iexact Y0
      isplitl [Y1]; · iexact Y1
      iexact Z
    isplitl [H0]; · iexact H0
    isplitl [A4]; · iexact A4
    isplitl [A5]; · iexact A5
    isplitl [A6]; · iexact A6
    isplitl [A8]; · iexact A8
    isplitr [HW]
    · isplitl [O0]; · iexact O0
      isplitl [O1]; · iexact O1
      isplitl [O2]; · iexact O2
      iexact O3
    iexists W; iexact HW
  have hpost : iprop((∃ r, prngReg c r) ∗ Fin1 c (ins m hf c) (show S5.Idx → BitVec 32 from blk0 m c t0_0)) ⊢ bodyPost m hf c t0_0 := by
    unfold bodyPost
    rw [show (dats m hf 0 c).Φ t0_0.succ = iprop(Scr c ∗ (∃ r, prngReg c r) ∗ Sems c ∗ Ops m hf c ∗ Res m hf c) from rfl]
    unfold Dat.owesAt Pipeline.owesWithin
    rw [show (dats m hf 0 c).owed t0_0.succ = 0 from rfl]
    unfold Scr Sems Ops Res Fin1 St2
    iintro ⟨Hg, ⟨Ho, B0, B1, B2, B3, A0, A1, A2, A3, A7, ⟨T0, X0, X1, X2, T1, Y0, Y1, Z⟩, ⟨H0, A4, A5, A6, A8, ⟨O0, O1, O2, O3⟩, ⟨%W, HW⟩⟩⟩⟩
    isplitr [HW H0]
    · isplitl [A0 A1 A2 A3 A4 A5 A6 A7 A8]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        iexact A8
      isplitl [Hg]; · iexact Hg
      isplitl [X0 X1 X2 Y0 Y1 T0 T1 O0 O1 O2 O3 Z]
      · isplitl [X0]; · iexact X0
        isplitl [X1]; · iexact X1
        isplitl [X2]; · iexact X2
        isplitl [Y0]; · iexact Y0
        isplitl [Y1]; · iexact Y1
        isplitl [T0]; · iexact T0
        isplitl [T1]; · iexact T1
        isplitl [O0]; · iexact O0
        isplitl [O1]; · iexact O1
        isplitl [O2]; · iexact O2
        isplitl [O3]; · iexact O3
        iexact Z
      isplitl [B0 B1 B2 B3]
      · isplitl [B0]; · iexact B0
        isplitl [B1]; · iexact B1
        isplitl [B2]; · iexact B2
        iexact B3
      iexact Ho
    isplitl [HW]
    · iexists W; isplitr
      · ipureintro; exact fun _ _ => Or.inl trivial
      · iexact HW
    · iapply (Entails.of_eq ((congrArg (fun d => (owns (c : Thread nD τ) (win0_0.stage (cfg0.slots t0_0 0)) fullShare d : sProp (MM F))) (after0 m hf c t0_0)).trans (stage_pts c _)).symm) $$ H0
  refine hpre.trans (BIBase.Entails.trans ?_ (wp_mono _ _ _ (fun _ => hpost)))
  have hr := root c (ins m hf c) (show S5.Idx → BitVec 32 from blk0 m c t0_0) (blk_sz m hf c)
  exact (sep_mono .rfl hr).trans (wp_frame_l _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hf 0 c) (defs₀ (F := F)) 𝒱₀ () Set.univ := fun t => by
  rw [bigSep_W0, bigSep_W0, defs₀_row]
  exact triple_restated (sound_body m hf c t) rfl .rfl fun _ => .rfl

/-- What the run leaves: the operands unchanged, the output at what the kernel computes. -/
def Leaves (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ OutOK (ins m hf c) (s.mem ((c : Thread nD τ).loc main_v0))

theorem hY' (c : Dev nD) (s' : Phys nD τ sig (Elt F)) :
    iprop(((∃ r, prngReg c r) ∗ Ops m hf c ∗ Res m hf c) ∗ emp ∗ SI s') ⊢ |={Set.univ}=> (iprop(⌜Leaves m hf c s'.mem⌝ ∗ SI s') : sProp (MM F)) := by
  have one : ∀ (b : Ref sig .tc) (f : Buf (Elt F) ((c : Thread nD τ).loc b)),
      (iprop(((c : Thread nD τ).loc b ↦{fullShare} f) ∗ SI s') : sProp (MM F)) ⊢ iprop(⌜s'.mem.mem ((c : Thread nD τ).loc b) = f⌝ ∗ SI s') := by
    intro b f
    have := Idealize.ShloMosaic.pointsTo_read_all (Ix := Unit) (Name := ℕ) (U := Pipeline.UD sig nD τ) (Lvl := ℕ) (Finset.univ : Finset (Fin 1)) (fun _ => (c : Thread nD τ).loc b) (fun _ => f) s'
    rw [BI.bigSep_univ_eq_bigSepL [(0 : Fin 1)] (by decide) (by decide)] at this
    refine BIBase.Entails.trans this ?_
    iintro ⟨%h, H⟩
    isplitr
    · ipureintro; exact h 0 (Finset.mem_univ _)
    · iexact H
  unfold Ops Res
  iintro ⟨⟨-, ⟨B0, B1, B2, B3⟩, ⟨%f, %hfo, Ho⟩⟩, -, HSI⟩
  ihave H := (one main_arg0 (ins m hf c).x) $$ [B0 HSI]
  · isplitl [B0]; · iexact B0
    iexact HSI
  icases H with ⟨%h0, HSI⟩
  ihave H := (one main_arg1 (ins m hf c).sx) $$ [B1 HSI]
  · isplitl [B1]; · iexact B1
    iexact HSI
  icases H with ⟨%h1, HSI⟩
  ihave H := (one main_arg2 (ins m hf c).y) $$ [B2 HSI]
  · isplitl [B2]; · iexact B2
    iexact HSI
  icases H with ⟨%h2, HSI⟩
  ihave H := (one main_arg3 (ins m hf c).sy) $$ [B3 HSI]
  · isplitl [B3]; · iexact B3
    iexact HSI
  icases H with ⟨%h3, HSI⟩
  ihave H := (one main_v0 f) $$ [Ho HSI]
  · isplitl [Ho]; · iexact Ho
    iexact HSI
  icases H with ⟨%h4, HSI⟩
  imodintro
  isplitr
  · ipureintro
    exact ⟨h0, h1, h2, h3, by rw [h4]; exact hfo⟩
  · iexact HSI

set_option backward.isDefEq.respectTransparency.types false in
/-- Every run of the program terminates, faults nowhere, and leaves the operands unchanged, the output at what the kernel computes and every counter at zero. -/
theorem run_main : θ_run defs (onTc (τ := τ) (main (F := F))) ⟨m, fun _ => 0, ρ⟩
    (fun r => (∀ c : Dev nD, r.2.mem ((c.tc : Thread nD τ).loc main_arg4) = m ((c.tc : Thread nD τ).loc main_arg4) ∧ Leaves m hf c r.2) ∧ r.2.sem = fun _ => 0) :=
  Pipeline.θ_run_region_kit_quiescent cfgs (dats m hf) () (0 : Fin 1) launch0 ownSemFacts0 embL defs₀ 𝒱₀ m ρ main
    (hbody := fun c => (body_obligation m hf c).loose) (hshare := fun c => (dats m hf 0 c).share_full fun _ => rfl) (howed := fun _ _ => rfl)
    (G := fun _ => iprop(emp)) (u₀ := (initOf (Pipeline.cells cfgs launch0.cellOf_inj) (Pipeline.launchToks cfgs launch0.cellOf_inj), 1))
    (hu₀ := by
      iintro Hu
      ihave H' := (ownU_pair _ _) $$ Hu
      icases H' with ⟨HP, -⟩
      imodintro
      isplitl [HP]; · iexact HP
      iapply (show (BI.emp : sProp (MM F)) ⊢ bigSep Finset.univ (fun _ : Dev nD => (BI.emp : sProp (MM F))) from by rw [BI.bigSep_emp_const])
      iempintro)
    (V := V m) (hmain := hmain m) (hA := A_eq m hf)
    (X := fun c => iprop((∃ r, prngReg c r) ∗ Sems c ∗ Ops m hf c ∗ (∃ d, pts c mOut d)))
    (Y := fun c => iprop((∃ r, prngReg c r) ∗ Ops m hf c ∗ Res m hf c))
    (Z := fun _ => iprop(emp))
    (hX := fun c => by
      rw [rest_eq m hf c, ownSems00_eq]
      unfold Ops
      iintro ⟨⟨B0, B1, B2, B3, Ho⟩, Hs, -, Hp, -⟩
      imodintro
      isplitl [B0 B1 B2 B3 Ho Hs Hp]
      · isplitl [Hp]; · iexists _; iexact Hp
        isplitl [Hs]; · iexact Hs
        isplitl [B0 B1 B2 B3]
        · isplitl [B0]; · iexact B0
          isplitl [B1]; · iexact B1
          isplitl [B2]; · iexact B2
          iexact B3
        · iexists _; iexact Ho
      iempintro)
    (hin := fun c => by
      rw [scr_eq, show (dats m hf 0 c).Φ 0 = iprop(Scr c ∗ (∃ r, prngReg c r) ∗ Sems c ∗ Ops m hf c ∗ (∃ d, pts c mOut d)) from rfl]
      iintro ⟨⟨Hp, Hs, HO, Ho⟩, Hr⟩
      isplitl [Hr]; · iexact Hr
      isplitl [Hp]; · iexact Hp
      isplitl [Hs]; · iexact Hs
      isplitl [HO] <;> iassumption)
    (hout := fun c => by
      rw [scr_eq, ownSems00_eq, show (dats m hf 0 c).Φ (Fin.last cfg0.N) = iprop(Scr c ∗ (∃ r, prngReg c r) ∗ Sems c ∗ Ops m hf c ∗ Res m hf c) from rfl]
      iintro ⟨Hr, Hp, Hs, HO, Ho⟩
      isplitl [Hp HO Ho]
      · isplitl [Hp]; · iexact Hp
        isplitl [HO] <;> iassumption
      isplitl [Hs] <;> iassumption)
    (QY := fun c s => Leaves m hf c s)
    (hY := fun c s' => hY' m hf c s')
    (hQ := fun s h hz => ⟨fun c => ⟨((h c).1 0).trans ((dats m hf 0 c).arrAt_in 0 rfl _), (h c).2⟩, hz⟩)

include hf in
/-- The frame: the five argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2.1, (h.1 c).2.2.1, (h.1 c).2.2.2.1, (h.1 c).2.2.2.2.1, (h.1 c).1⟩, h.2⟩) (run_main m ρ hf)

end Cert.Kernel
-- ==== Proof.Pre.lean ====
/- What the precondition says of the sizes: they fit. -/
module

public import proofs.«01_k».proof.Proof.Segs
public import proofs.«01_k».proof.Proof.Gen.Pre_sizes_fit
public import Idealize.ShloMosaic.Lib.WordArith
public import Idealize.ShloMosaic.Lib.ValueIdxCore
public import Idealize.ShloMosaic.Lib.Pointwise

@[expose] public section

namespace GW

open Idealize.ShloMosaic

/-- A size of zero or more and at most 1536, the two comparisons read as signed. -/
theorem size_le {w : BitVec 32} (h0 : IntOp.cmpi .sge w 0#32 = 1#1) (h1 : IntOp.cmpi .sle w 1536#32 = 1#1) : w.toNat ≤ 1536 := by
  simp only [IntOp.cmpi, BitVec.sle_eq_decide, decide_eq_true_eq] at h0 h1
  have e0 : (0#32).toInt ≤ w.toInt := by
    by_contra h; rw [decide_eq_false h] at h0; exact absurd h0 (by decide)
  have e1 : w.toInt ≤ (1536#32).toInt := by
    by_contra h; rw [decide_eq_false h] at h1; exact absurd h1 (by decide)
  have a0 : (0#32).toInt = 0 := by decide
  have a1 : (1536#32).toInt = 1536 := by decide
  rw [a0] at e0; rw [a1] at e1
  rw [BitVec.toInt_eq_toNat_cond] at e0 e1
  have := w.isLt
  split at e0 <;> omega

/-- A word at most a bound, both small. -/
theorem le_of_sle {w : BitVec 32} {k : ℕ} (hk : k < 2 ^ 31) (hw : w.toNat < 2 ^ 31) (h : IntOp.cmpi .sle w (BitVec.ofNat 32 k) = 1#1) : w.toNat ≤ k := by
  have e : w.toInt ≤ (BitVec.ofNat 32 k).toInt := by
    by_contra hn
    simp only [IntOp.cmpi, BitVec.sle_eq_decide] at h
    rw [decide_eq_false hn] at h; exact absurd h (by decide)
  rw [BitVec.toInt_eq_toNat_cond, BitVec.toInt_eq_toNat_cond, BitVec.toNat_ofNat, Nat.mod_eq_of_lt (by omega)] at e
  rw [if_pos (by omega), if_pos (by omega)] at e
  omega

/-- The scaling groups of a size. -/
theorem grp_toNat {w : BitVec 32} (h : w.toNat ≤ 1536) : (IntOp.divsi .host (w + 127#32) 128#32).toNat = (w.toNat + 127) / 128 := by
  have e : (w + 127#32).toNat = w.toNat + 127 := by rw [BitVec.toNat_add]; simp; omega
  have c : IntOp.divsi .host (w + 127#32) 128#32 = Scalar.divsi (w + 127#32) 128#32 := by
    show IntOp.divsi _ _ _ = IntOp.divsi _ _ _
    unfold IntOp.divsi
    rw [if_neg (IntOp.not_corner_of_pos (by decide)), if_neg (IntOp.not_corner_of_pos (by decide))]
  rw [c, toNat_divsi (by omega) (by decide) (by decide), e]
  rfl

theorem fit_of_pre {F : FTy → Type} [FloatOps F] {x sx y sy} {g : Cert.Pre_sizes_fit.S5.Idx → BitVec 32}
    (h : (Cert.Pre_sizes_fit.fn (F := F) x sx y sy g).1 = (fun _ => 1#1) ∧ (Cert.Pre_sizes_fit.fn (F := F) x sx y sy g).2.1 = (fun _ => 1#1)
      ∧ (Cert.Pre_sizes_fit.fn (F := F) x sx y sy g).2.2 = (fun _ => 1#1)) :
    Fit (g (ix1 (0 : Fin 5))) (g (ix1 (1 : Fin 5))) (g (ix1 (2 : Fin 5))) (g (ix1 (3 : Fin 5))) (g (ix1 (4 : Fin 5))) := by
  obtain ⟨h1, h2, h3⟩ := h
  have b (e : Fin 5) : (g (ix1 e)).toNat ≤ 1536 := by
    have := congrFun h1 (ix1 e)
    have h' : IntOp.cmpi .sge (g (ix1 e)) 0#32 &&& IntOp.cmpi .sle (g (ix1 e)) 1536#32 = 1#1 := this
    have k : ∀ p q : BitVec 1, p &&& q = 1#1 → p = 1#1 ∧ q = 1#1 := by decide
    exact size_le (k _ _ h').1 (k _ _ h').2
  have r := congrFun h2 (ix1 (0 : Fin 1))
  have q := congrFun h3 (ix1 (0 : Fin 1))
  have e (k : Fin 5) (hs : Cert.Pre_sizes_fit.S5.Slices ![k.val] Cert.Pre_sizes_fit.S1) : extractStridedSlice Cert.Pre_sizes_fit.S1 ![k.val] g hs (ix1 (0 : Fin 1)) = g (ix1 k) := by
    refine congrArg g ?_
    funext d
    fin_cases d
    apply Fin.ext
    simp
  have r' : IntOp.cmpi .sle (g (ix1 (0 : Fin 5)) + g (ix1 (1 : Fin 5)) + g (ix1 (2 : Fin 5)) + g (ix1 (3 : Fin 5)) + g (ix1 (4 : Fin 5))) (BitVec.ofNat 32 1536) = 1#1 := by
    rw [← e 0 Cert.Pre_sizes_fit.Gen.slices_S5_S1_0, ← e 1 Cert.Pre_sizes_fit.Gen.slices_S5_S1_1, ← e 2 Cert.Pre_sizes_fit.Gen.slices_S5_S1_2, ← e 3 Cert.Pre_sizes_fit.Gen.slices_S5_S1_3, ← e 4 Cert.Pre_sizes_fit.Gen.slices_S5_S1_4]
    exact r
  have q' : IntOp.cmpi .sle (IntOp.divsi .host (g (ix1 (0 : Fin 5)) + 127#32) 128#32 + IntOp.divsi .host (g (ix1 (1 : Fin 5)) + 127#32) 128#32
      + IntOp.divsi .host (g (ix1 (2 : Fin 5)) + 127#32) 128#32 + IntOp.divsi .host (g (ix1 (3 : Fin 5)) + 127#32) 128#32
      + IntOp.divsi .host (g (ix1 (4 : Fin 5)) + 127#32) 128#32) (BitVec.ofNat 32 13) = 1#1 := by
    rw [← e 0 Cert.Pre_sizes_fit.Gen.slices_S5_S1_0, ← e 1 Cert.Pre_sizes_fit.Gen.slices_S5_S1_1, ← e 2 Cert.Pre_sizes_fit.Gen.slices_S5_S1_2, ← e 3 Cert.Pre_sizes_fit.Gen.slices_S5_S1_3, ← e 4 Cert.Pre_sizes_fit.Gen.slices_S5_S1_4]
    exact q
  have b0 := b 0; have b1 := b 1; have b2 := b 2; have b3 := b 3; have b4 := b 4
  have g0 := grp_toNat b0; have g1 := grp_toNat b1; have g2 := grp_toNat b2; have g3 := grp_toNat b3; have g4 := grp_toNat b4
  have er : (g (ix1 (0 : Fin 5)) + g (ix1 (1 : Fin 5)) + g (ix1 (2 : Fin 5)) + g (ix1 (3 : Fin 5)) + g (ix1 (4 : Fin 5))).toNat
      = (g (ix1 (0 : Fin 5))).toNat + (g (ix1 (1 : Fin 5))).toNat + (g (ix1 (2 : Fin 5))).toNat + (g (ix1 (3 : Fin 5))).toNat + (g (ix1 (4 : Fin 5))).toNat := by
    simp only [BitVec.toNat_add]; omega
  have hr := le_of_sle (by omega) (by omega) r'
  have eq : (IntOp.divsi .host (g (ix1 (0 : Fin 5)) + 127#32) 128#32 + IntOp.divsi .host (g (ix1 (1 : Fin 5)) + 127#32) 128#32
      + IntOp.divsi .host (g (ix1 (2 : Fin 5)) + 127#32) 128#32 + IntOp.divsi .host (g (ix1 (3 : Fin 5)) + 127#32) 128#32
      + IntOp.divsi .host (g (ix1 (4 : Fin 5)) + 127#32) 128#32).toNat = ((g (ix1 (0 : Fin 5))).toNat + 127) / 128 + ((g (ix1 (1 : Fin 5))).toNat + 127) / 128
        + ((g (ix1 (2 : Fin 5))).toNat + 127) / 128 + ((g (ix1 (3 : Fin 5))).toNat + 127) / 128 + ((g (ix1 (4 : Fin 5))).toNat + 127) / 128 := by
    simp only [BitVec.toNat_add, g0, g1, g2, g3, g4]; omega
  have hq := le_of_sle (by omega) (by omega) q'
  exact ⟨b0, b1, b2, b3, b4, by omega, by omega⟩

end GW

end
-- ==== Proof.Twin.lean ====
/- The two readings of the kernel are one program: what is proved of the one, at every float type, is proved of the other. -/
module

public import proofs.«01_k».proof.Proof.Run
public import proofs.«01_k».proof.Proof.Pre
public import proofs.«01_k».proof.Proof.Gen.KernelIdeal

@[expose] public section

set_option maxRecDepth 10000
set_option maxHeartbeats 1000000

namespace Cert.Kernel

open Idealize.ShloMosaic Idealize.ShloMosaic.TcCoe Idealize.SL.Sem

variable {F : FTy → Type} [FloatOps F]

/-- The body tables agree label by label. -/
theorem defs0_eq : Cert.KernelIdeal.defs₀ (F := F) = Cert.Kernel.defs₀ (F := F) := by
  refine congrArg (Defs.onTc (nD := Cert.Kernel.nD) (τ := Cert.Kernel.τ)) (funext fun l => funext fun a => ?_)
  obtain ⟨n, h⟩ := l
  match n, h, a with
  | 0, _, (t, s) => rfl
  | n + 1, h, _ => exact absurd h (Nat.not_lt.2 (Nat.le_add_left _ _))

/-- And so do the whole tables. -/
theorem defs_eq : Cert.KernelIdeal.defs (F := F) = Cert.Kernel.defs (F := F) :=
  congrArg (Pipeline.defs (Cert.Kernel.pcfgs (F := F))) defs0_eq

/-- A run of the one is a run of the other. -/
theorem run_eq (s : MemSt nD τ sig (Elt F)) (Q : PUnit × MemSt nD τ sig (Elt F) → Prop)
    (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  rw [defs_eq]; exact h

end Cert.Kernel

end
-- ==== Proof.RefVec.lean ====
/- The reference's body as vectors: a row's expert and group, the scaled operands, the masked product. -/
module

public import proofs.«01_k».proof.Proof.Gen.ReferenceIdeal.Frame
public import Idealize.ShloMosaic.Lib.Pipeline.Value
public import Idealize.ShloMosaic.Lib.Tactic
public import Idealize.ShloMosaic.Lib.Pipeline.ValueKit.Tiles
public import Idealize.ShloMosaic.Lib.ValueIdxCore
public import Idealize.ShloMosaic.Lib.Pointwise

@[expose] public section

set_option maxRecDepth 10000

noncomputable section

namespace Cert.ReferenceIdeal

open Idealize.ShloMosaic Idealize.ShloMosaic.TcCoe Idealize.SL.Sem
open Cert.ReferenceIdeal.Gen

variable {F : FTy → Type} [FloatOps F]

/-- The row numbers. -/
def rowV : IVec S1536x1 32 := iota .tc S1536x1 32 [0] iota_S1536x1_d0_w32
/-- The rows from `s`, `w` of them. -/
def inV (s w : BitVec 32) : IVec S1536x1 1 :=
  andi (cmpi .sge rowV (broadcast S1536x1 s)) (cmpi .slt rowV (broadcast S1536x1 (Scalar.addi s w)))
/-- The groups of `w` rows. -/
def grW (w : BitVec 32) : BitVec 32 := Scalar.divsi (Scalar.addi w 127#32) 128#32
/-- One expert's rows take its number. -/
def exStep (s w e : BitVec 32) (v : IVec S1536x1 32) : IVec S1536x1 32 := select (inV s w) (broadcast S1536x1 e) v
/-- One expert's rows take their groups' numbers. -/
def gidStep (s w g : BitVec 32) (v : IVec S1536x1 32) : IVec S1536x1 32 :=
  select (inV s w) (addi (broadcast S1536x1 g) (divsi (subi rowV (broadcast S1536x1 s)) (broadcast S1536x1 128#32))) v

section
variable (w0 w1 w2 w3 w4 : BitVec 32)
/-- Where the experts' rows begin, and their groups. -/
def b1 : BitVec 32 := Scalar.addi 0#32 w0
def b2 : BitVec 32 := Scalar.addi (b1 w0) w1
def b3 : BitVec 32 := Scalar.addi (b2 w0 w1) w2
def b4 : BitVec 32 := Scalar.addi (b3 w0 w1 w2) w3
def q1 : BitVec 32 := Scalar.addi 0#32 (grW w0)
def q2 : BitVec 32 := Scalar.addi (q1 w0) (grW w1)
def q3 : BitVec 32 := Scalar.addi (q2 w0 w1) (grW w2)
def q4 : BitVec 32 := Scalar.addi (q3 w0 w1 w2) (grW w3)
/-- The rows' experts, five where a row has none. -/
def exV : IVec S1536x1 32 :=
  exStep (b4 w0 w1 w2 w3) w4 4#32 (exStep (b3 w0 w1 w2) w3 3#32 (exStep (b2 w0 w1) w2 2#32 (exStep (b1 w0) w1 1#32 (exStep 0#32 w0 0#32 (broadcast S1536x1 5#32)))))
/-- The rows' groups. -/
def gidV : IVec S1536x1 32 :=
  gidStep (b4 w0 w1 w2 w3) w4 (q4 w0 w1 w2 w3) (gidStep (b3 w0 w1 w2) w3 (q3 w0 w1 w2) (gidStep (b2 w0 w1) w2 (q2 w0 w1)
    (gidStep (b1 w0) w1 (q1 w0) (gidStep 0#32 w0 0#32 (broadcast S1536x1 0#32)))))
end

/-- A row's scales: those of group `k` where the row's group is `k`. -/
def pick {n : ℕ} (gid : IVec S1536x1 32) (s : FVec F ⟨2, ![13, n]⟩ .bf16) (hb : S1536x1.Broadcasts ⟨2, ![1536, n]⟩)
    (hr : (⟨2, ![1, n]⟩ : Shape).Broadcasts ⟨2, ![1536, n]⟩) (hc : (⟨2, ![1, n]⟩ : Shape).ShapeCasts ⟨2, ![1, n]⟩) (k : ℕ) (hs : (⟨2, ![13, n]⟩ : Shape).Slices ![k, 0] ⟨2, ![1, n]⟩)
    (v : FVec F ⟨2, ![1536, n]⟩ .bf16) : FVec F ⟨2, ![1536, n]⟩ .bf16 :=
  select (broadcastTo ⟨2, ![1536, n]⟩ (shapeCast S1536x1 (cmpi .eq gid (broadcast S1536x1 (BitVec.ofNat 32 k))) shapeCasts_S1536x1_S1536x1) hb)
    (broadcastTo ⟨2, ![1536, n]⟩ (shapeCast ⟨2, ![1, n]⟩ (extractStridedSlice ⟨2, ![1, n]⟩ ![k, 0] s hs) hc) hr) v

theorem slx : ∀ k : Fin 13, S13x3072.Slices ![k.val, 0] S1x3072 := by decide
theorem sly : ∀ k : Fin 13, S13x8192.Slices ![k.val, 0] S1x8192 := by decide

/-- The rows' scales of the groups below `K`, zero for the other rows. -/
def picks {n : ℕ} (gid : IVec S1536x1 32) (s : FVec F ⟨2, ![13, n]⟩ .bf16) (hb : S1536x1.Broadcasts ⟨2, ![1536, n]⟩)
    (hr : (⟨2, ![1, n]⟩ : Shape).Broadcasts ⟨2, ![1536, n]⟩) (hc : (⟨2, ![1, n]⟩ : Shape).ShapeCasts ⟨2, ![1, n]⟩)
    (hs : ∀ k : Fin 13, (⟨2, ![13, n]⟩ : Shape).Slices ![k.val, 0] ⟨2, ![1, n]⟩) : (K : ℕ) → K ≤ 13 → FVec F ⟨2, ![1536, n]⟩ .bf16
  | 0, _ => broadcast ⟨2, ![1536, n]⟩ (Scalar.ofBits .bf16 0x0000#16)
  | k + 1, h => pick gid s hb hr hc k (hs ⟨k, h⟩) (picks gid s hb hr hc hs k (Nat.le_of_succ_le h))

section
variable (gid ex : IVec S1536x1 32) (x1 : Vec F S1536x3072 .fp8e4m3) (x2 : Vec F S13x3072 .f32) (x3 : Vec F S1536x8192 .fp8e4m3) (x4 : Vec F S13x8192 .f32)
/-- The scaled operands. -/
def xsV : FVec F S1536x3072 .bf16 :=
  mulf (extf .bf16 x1 bitsLt_fp8e4m3_bf16) (picks gid (truncf .bf16 x2 bitsLt_bf16_f32) broadcasts_S1536x1_S1536x3072 broadcasts_S1x3072_S1536x3072 shapeCasts_S1x3072_S1x3072 slx 13 le_rfl)
def ysV : FVec F S1536x8192 .bf16 :=
  mulf (extf .bf16 x3 bitsLt_fp8e4m3_bf16) (picks gid (truncf .bf16 x4 bitsLt_bf16_f32) broadcasts_S1536x1_S1536x8192 broadcasts_S1x8192_S1536x8192 shapeCasts_S1x8192_S1x8192 sly 13 le_rfl)
/-- One expert's product. -/
def prodV (e : BitVec 32) : FVec F S1x3072x8192 .f32 :=
  shapeCast S1x3072x8192 (matmul Cert.ReferenceIdeal.dot_S1536x3072_S1536x8192_S3072x8192_0_0_1_1_n_n none
    (select (broadcastTo S1536x3072 (shapeCast S1536x1 (cmpi .eq ex (broadcast S1536x1 e)) shapeCasts_S1536x1_S1536x1) broadcasts_S1536x1_S1536x3072)
      (xsV gid x1 x2) (broadcast S1536x3072 (Scalar.ofBits .bf16 0x0000#16)))
    (ysV gid x3 x4) (constant S3072x8192 .f32 0x00000000#32)) shapeCasts_S3072x8192_S1x3072x8192
end

section
variable (c : Dev nD) (a0 : Memref sig .tc .smem S5 .i32) (h0 : a0.IsWhole) (a1 : Memref sig .tc .vmem S1536x3072 .fp8e4m3) (h1 : a1.IsWhole)
    (a2 : Memref sig .tc .vmem S13x3072 .f32) (h2 : a2.IsWhole) (a3 : Memref sig .tc .vmem S1536x8192 .fp8e4m3) (h3 : a3.IsWhole)
    (a4 : Memref sig .tc .vmem S13x8192 .f32) (h4 : a4.IsWhole) (a5 : Memref sig .tc .vmem S5x3072x8192 .f32) (h5 : a5.IsWhole)
    (x0 : Vec F S5 .i32) (x1 : Vec F S1536x3072 .fp8e4m3) (x2 : Vec F S13x3072 .f32) (x3 : Vec F S1536x8192 .fp8e4m3) (x4 : Vec F S13x8192 .f32)

/-- The sizes, and the experts and groups of the rows. -/
abbrev wd (k : Fin 5) : BitVec 32 := (show S5.Idx → BitVec 32 from x0) (ix1 k)

theorem word_load (k : ℕ) (h5 : k < 5) (hk : ∀ a, (![k] : Fin 1 → ℕ) a + S1.size a ≤ S5.size a) (hp : 0 < S1.numel) :
    View.readAt (Elt F) a0.view (Rect.unit (s := S5) ![k] S1.size hk).toLoadRect (h0.unread x0) (Shape.Idx.first hp) = wd x0 ⟨k, h5⟩ := by
  rw [View.readAt_apply, h0.read_unread]
  refine congrArg x0 (funext fun a => Fin.ext ?_)
  fin_cases a
  rfl

theorem r5_eq : kernelRun0_A.sl.r_5 c a0 h0 x0 = exV (wd x0 0) (wd x0 1) (wd x0 2) (wd x0 3) (wd x0 4) := by
  sl_unfold_words
  simp only [word_load a0 h0 x0 0 (by decide) inb_S5_S1_0, word_load a0 h0 x0 1 (by decide) inb_S5_S1_1, word_load a0 h0 x0 2 (by decide) inb_S5_S1_2,
    word_load a0 h0 x0 3 (by decide) inb_S5_S1_3, word_load a0 h0 x0 4 (by decide) inb_S5_S1_4]
  rfl

theorem r6_eq : kernelRun0_A.sl.r_6 c a0 h0 x0 = gidV (wd x0 0) (wd x0 1) (wd x0 2) (wd x0 3) (wd x0 4) := by
  sl_unfold_words
  simp only [word_load a0 h0 x0 0 (by decide) inb_S5_S1_0, word_load a0 h0 x0 1 (by decide) inb_S5_S1_1, word_load a0 h0 x0 2 (by decide) inb_S5_S1_2,
    word_load a0 h0 x0 3 (by decide) inb_S5_S1_3, word_load a0 h0 x0 4 (by decide) inb_S5_S1_4]
  rfl
/-- The groups of the rows, of the sizes in `x0`. -/
abbrev gidX : IVec S1536x1 32 := gidV (wd x0 0) (wd x0 1) (wd x0 2) (wd x0 3) (wd x0 4)
/-- The experts of the rows, of the sizes in `x0`. -/
abbrev exX : IVec S1536x1 32 := exV (wd x0 0) (wd x0 1) (wd x0 2) (wd x0 3) (wd x0 4)

theorem hz2 : (![0, 0] : Fin 2 → ℕ) = fun _ => 0 := funext (by decide)

theorem r11_eq : kernelRun0_A.sl.r_11 c a0 h0 a1 h1 a2 h2 x0 x1 x2 = xsV (gidX x0) x1 x2 := by
  sl_unfold_words
  simp only [word_load a0 h0 x0 0 (by decide) inb_S5_S1_0, word_load a0 h0 x0 1 (by decide) inb_S5_S1_1, word_load a0 h0 x0 2 (by decide) inb_S5_S1_2,
    word_load a0 h0 x0 3 (by decide) inb_S5_S1_3, word_load a0 h0 x0 4 (by decide) inb_S5_S1_4, View.readAt_eq_ld, h1.read_unread, h2.read_unread, View.ld_unit_zero (S := S1536x3072) hz2, View.ld_unit_zero (S := S13x3072) hz2]
  rfl

theorem r16_eq : kernelRun0_A.sl.r_16 c a0 h0 a3 h3 a4 h4 x0 x3 x4 = ysV (gidX x0) x3 x4 := by
  sl_unfold_words
  simp only [word_load a0 h0 x0 0 (by decide) inb_S5_S1_0, word_load a0 h0 x0 1 (by decide) inb_S5_S1_1, word_load a0 h0 x0 2 (by decide) inb_S5_S1_2,
    word_load a0 h0 x0 3 (by decide) inb_S5_S1_3, word_load a0 h0 x0 4 (by decide) inb_S5_S1_4, View.readAt_eq_ld, h3.read_unread, h4.read_unread, View.ld_unit_zero (S := S1536x8192) hz2, View.ld_unit_zero (S := S13x8192) hz2]
  rfl

/-- A tile of one expert's product, at the entry it holds. -/
theorem tile_at (k : ℕ) (w : S1x3072x8192.Idx → Elt F .f32) (gid ex : IVec S1536x1 32) (hw : w = prodV gid ex x1 x2 x3 x4 (BitVec.ofNat 32 k)) (y : S5x3072x8192.Idx) :
    View.TileAt y ![k, 0, 0] S1x3072x8192.size w (prodV gid ex x1 x2 x3 x4 (BitVec.ofNat 32 (y 0).val) (ix3 0 (y 1) (y 2))) := by
  intro x hx
  have e0 : (y 0).val = k + (x 0).val := hx 0
  have e1 : (y 1).val = 0 + (x 1).val := hx 1
  have e2 : (y 2).val = 0 + (x 2).val := hx 2
  have z0 : (x 0).val < 1 := (x 0).isLt
  rw [hw, show (y 0).val = k by omega]
  refine congrArg _ (funext fun a => Fin.ext ?_)
  fin_cases a
  · show (x 0).val = 0
    omega
  · show (x 1).val = (y 1).val
    omega
  · show (x 2).val = (y 2).val
    omega

theorem out_at (y : S5x3072x8192.Idx) : out0_A_5 c a0 h0 a1 h1 a2 h2 a3 h3 a4 h4 a5 h5 x0 x1 x2 x3 x4 y =
    prodV (gidX x0) (exX x0) x1 x2 x3 x4 (BitVec.ofNat 32 (y 0).val) (ix3 0 (y 1) (y 2)) := by
  unfold out0_A_5
  rw [View.read_writes_eq_canon _ _ _ (cover0_A_5 c a0 h0 a1 h1 a2 h2 a3 h3 a4 h4 a5 h5 x0 x1 x2 x3 x4)]
  refine View.canon_eq_of_allAt _ y _ (cover0_A_5 c a0 h0 a1 h1 a2 h2 a3 h3 a4 h4 a5 h5 x0 x1 x2 x3 x4 y) ?_
  unfold kernelRun0_A
  dsimp only
  refine View.allAt_cons_unit _ _ _ _ _ (tile_at x1 x2 x3 x4 4 _ _ _ ?_ y) (View.allAt_cons_unit _ _ _ _ _ (tile_at x1 x2 x3 x4 3 _ _ _ ?_ y)
    (View.allAt_cons_unit _ _ _ _ _ (tile_at x1 x2 x3 x4 2 _ _ _ ?_ y) (View.allAt_cons_unit _ _ _ _ _ (tile_at x1 x2 x3 x4 1 _ _ _ ?_ y)
    (View.allAt_cons_unit _ _ _ _ _ (tile_at x1 x2 x3 x4 0 _ _ _ ?_ y) (View.allAt_nil _ _)))))
  · delta kernelRun0_A.sl.r_18
    rw [r5_eq, r11_eq, r16_eq]
    rfl
  · rw [r5_eq, r11_eq, r16_eq]
    rfl
  · rw [r5_eq, r11_eq, r16_eq]
    rfl
  · have := r16_eq (F := F) c a0 h0 a3 h3 a4 h4 x0 x3 x4
    unfold kernelRun0_A.sl.r_16 at this
    delta kernelRun0_A.sl.r_17
    unfold k0_pay29
    rw [this, r5_eq, r11_eq]
    rfl
  · have := r16_eq (F := F) c a0 h0 a3 h3 a4 h4 x0 x3 x4
    unfold kernelRun0_A.sl.r_16 at this
    unfold k0_pay28
    rw [this, r5_eq, r11_eq]
    rfl

end

end Cert.ReferenceIdeal
-- ==== Proof.Sums.lean ====
/- What the kernel leaves, read at the ideal floats: every element is the sum over its expert's rows. -/
module

public import proofs.«01_k».proof.Proof.Run
public import Idealize.ShloMosaic.Lib.Pointwise

@[expose] public section

set_option maxRecDepth 10000

noncomputable section

namespace Cert.Kernel

open Cert.Kernel.Gen GW
open Idealize.ShloMosaic

/-- The product of one row's scaled elements in columns `a` and `b`. -/
def rowT (I : Ins Ideal) (a b r : ℕ) : EReal :=
  (dq (F := Ideal) (I.x (ix2 (fin 1536 r) (fin 3072 a))) (I.sx (ix2 (fin 13 (I.G r)) (fin 3072 a))) : EReal)
    * dq (F := Ideal) (I.y (ix2 (fin 1536 r) (fin 8192 b))) (I.sy (ix2 (fin 13 (I.G r)) (fin 8192 b)))
/-- Expert `e`'s sum at `(a, b)`. -/
def dW (I : Ins Ideal) (e a b : ℕ) : EReal := ∑ r ∈ Finset.Ico (I.stN e) (I.stN e + I.szN e), rowT I a b r

theorem z32_ideal : z32 (F := Ideal) = (0 : EReal) := by
  show Ideal.ofBits .f32 _ = _
  exact Ideal.ofBits_zero_f32
theorem z16_ideal : z16 (F := Ideal) = (0 : EReal) := by
  show Ideal.ofBits .bf16 _ = _
  exact Ideal.ofBits_zero_bf16

variable (g : S3072x2816.Idx → Ideal .bf16) (f : S1792x1024.Idx → Ideal .bf16)

/-- One column of a tile's products. -/
def colT (C k r : ℕ) (a b : Fin 1024) (p : ℕ) : EReal :=
  (g (ix2 (fin 3072 (C * 1024 + a.val)) (fin 2816 (k + p))) : EReal) * f (ix2 (fin 1792 (r + p)) b)

theorem pay81_ideal (C k r : ℕ) (a b : Fin 1024) :
    (k0_pay81 (F := Ideal) (colsAt g C k) (rowsAt f r) (ix3 0 a b) : EReal) = ∑ p ∈ Finset.range 256, colT g f C k r a b p := by
  rw [Finset.sum_range]
  pointwise [k0_pay81, colsAt, rowsAt, colT]
  simp only [ofNat_val]
theorem pay82_ideal (C k r : ℕ) (a b : Fin 1024) :
    (k0_pay82 (F := Ideal) (colsAt g C k) (rowsAt f r) (ix3 0 a b) : EReal) = ∑ p ∈ Finset.range 512, colT g f C k r a b p := by
  rw [Finset.sum_range]
  pointwise [k0_pay82, colsAt, rowsAt, colT]
  simp only [ofNat_val]
theorem pay83_ideal (C k r : ℕ) (a b : Fin 1024) :
    (k0_pay83 (F := Ideal) (colsAt g C k) (rowsAt f r) (ix3 0 a b) : EReal) = ∑ p ∈ Finset.range 768, colT g f C k r a b p := by
  rw [Finset.sum_range]
  pointwise [k0_pay83, colsAt, rowsAt, colT]
  simp only [ofNat_val]
theorem pay84_ideal (v : Vec Ideal S1x1024x1024 .f32) (C k r : ℕ) (a b : Fin 1024) :
    (k0_pay84 (F := Ideal) v (colsAt g C k) (rowsAt f r) (ix3 0 a b) : EReal) = (v (ix3 0 a b) : EReal) + ∑ p ∈ Finset.range 256, colT g f C k r a b p := by
  rw [Finset.sum_range]
  pointwise [k0_pay84, colsAt, rowsAt, colT]
  simp only [ofNat_val]

/-- A sum's next 256 terms. -/
theorem sum_next (h : ℕ → EReal) (N : ℕ) : ∑ p ∈ Finset.range (N + 256), h p = ∑ p ∈ Finset.range N, h p + ∑ p ∈ Finset.range 256, h (N + p) :=
  Finset.sum_range_add h N 256

theorem acc_ideal (C k r n : ℕ) (hn : 0 < n) (a b : Fin 1024) : ∀ u, u ≤ n - 3 →
    (acc (F := Ideal) g f C k r n u (ix3 0 a b) : EReal) = ∑ p ∈ Finset.range (256 * (min n 3 + u)), colT g f C k r a b p
  | 0, _ => by
    unfold acc
    split
    · next h => subst h; exact pay81_ideal g f C k r a b
    · split
      · next h => subst h; exact pay82_ideal g f C k r a b
      · rw [pay83_ideal, show min n 3 = 3 by omega]
  | u + 1, hu => by
    rw [acc_succ, pay84_ideal, acc_ideal C k r n hn a b u (by omega)]
    have e : 256 * (min n 3 + (u + 1)) = 256 * (min n 3 + u) + 256 := by omega
    have e' : 256 * (3 + u) = 256 * (min n 3 + u) := by omega
    have es : ∑ p ∈ Finset.range 256, colT g f C (k + 256 * (min n 3 + u)) (r + 256 * (min n 3 + u)) a b p
        = ∑ p ∈ Finset.range 256, colT g f C k r a b (256 * (min n 3 + u) + p) :=
      Finset.sum_congr _root_.rfl fun p _ => by simp only [colT, Nat.add_assoc]
    rw [e, sum_next (colT g f C k r a b) (256 * (min n 3 + u)), e', es]

open Classical in
/-- A column of the transposed copy in expert `e`'s part: its row's scaled element in the segment, zero outside. -/
theorem colT_eq (I : Ins Ideal) {e : ℕ} (he : e < 5) (hs : 0 < I.szN e) (a b : ℕ) (ha : a < 3072) (hb : b < 8192)
    (hg : XtUpto I.cols 3 0 I.X g) (hf : RowsUpto I.tot (I.R (b / 1024)) f) (p : ℕ) (hp : p < 256 * I.nkN e) :
    colT g f (a / 1024) (I.koN e) (I.stN e / 16 * 16) (fin 1024 (a % 1024)) (fin 1024 (b % 1024)) p
      = if I.stN e ≤ I.stN e / 16 * 16 + p ∧ I.stN e / 16 * 16 + p < I.stN e + I.szN e then rowT I a b (I.stN e / 16 * 16 + p) else 0 := by
  have hk := I.ko_le he
  have ht := I.st_le he
  have hT := I.tot_le
  have hc : I.koN e + p < 2816 := by
    have h4 : I.cols ≤ 2816 := (I.seg 4 (by omega)).col
    omega
  have ea : a / 1024 * 1024 + (a % 1024) = a := by omega
  have eb : b / 1024 * 1024 + (b % 1024) = b := by omega
  have va : (fin 3072 (a / 1024 * 1024 + (fin 1024 (a % 1024)).val)).val = a := by
    show (a / 1024 * 1024 + (a % 1024 % 1024)) % 3072 = a; omega
  have vp : (fin 2816 (I.koN e + p)).val = I.koN e + p := Nat.mod_eq_of_lt hc
  have xg := hg (ix2 (fin 3072 (a / 1024 * 1024 + (fin 1024 (a % 1024)).val)) (fin 2816 (I.koN e + p)))
    (by show (fin 2816 (I.koN e + p)).val < _; rw [vp]; omega)
    (Or.inl (by show (fin 3072 _).val < _; rw [va]; omega))
  unfold colT
  rw [xg]
  have hX : (I.X (ix2 (fin 3072 (a / 1024 * 1024 + (fin 1024 (a % 1024)).val)) (fin 2816 (I.koN e + p))) : EReal)
      = if I.stN e ≤ I.stN e / 16 * 16 + p ∧ I.stN e / 16 * 16 + p < I.stN e + I.szN e then
          (dq (F := Ideal) (I.x (ix2 (fin 1536 (I.stN e / 16 * 16 + p)) (fin 3072 a))) (I.sx (ix2 (fin 13 (I.G (I.stN e / 16 * 16 + p))) (fin 3072 a))) : EReal)
        else 0 := by
    unfold Ins.X XT
    show (if I.In (fin 2816 (I.koN e + p)).val then
        dq (F := Ideal) (I.x (ix2 (fin 1536 (I.Row (fin 2816 (I.koN e + p)).val)) (fin 3072 (fin 3072 (a / 1024 * 1024 + (fin 1024 (a % 1024)).val)).val)))
          (I.sx (ix2 (fin 13 (I.G (I.Row (fin 2816 (I.koN e + p)).val))) (fin 3072 (fin 3072 (a / 1024 * 1024 + (fin 1024 (a % 1024)).val)).val)))
      else z16 (F := Ideal)) = _
    rw [vp, va, I.Row_eq he p hp, z16_ideal]
    exact if_congr (I.In_eq he p hp) _root_.rfl _root_.rfl
  rw [hX]
  by_cases h : I.stN e ≤ I.stN e / 16 * 16 + p ∧ I.stN e / 16 * 16 + p < I.stN e + I.szN e
  · rw [if_pos h, if_pos h]
    have vr : (fin 1792 (I.stN e / 16 * 16 + p)).val = I.stN e / 16 * 16 + p := Nat.mod_eq_of_lt (by omega)
    rw [hf (ix2 (fin 1792 (I.stN e / 16 * 16 + p)) (fin 1024 (b % 1024))) (by show (fin 1792 _).val < _; rw [vr]; omega)]
    unfold rowT Ins.R RY
    refine congrArg₂ (fun y z : EReal => y * z) _root_.rfl ?_
    show dq (F := Ideal) (I.y (ix2 (fin 1536 (fin 1792 (I.stN e / 16 * 16 + p)).val) (fin 8192 (b / 1024 * 1024 + (fin 1024 (b % 1024)).val))))
      (I.sy (ix2 (fin 13 (I.G (fin 1792 (I.stN e / 16 * 16 + p)).val)) (fin 8192 (b / 1024 * 1024 + (fin 1024 (b % 1024)).val)))) = _
    rw [vr, show b / 1024 * 1024 + (fin 1024 (b % 1024)).val = b from by show b / 1024 * 1024 + (b % 1024 % 1024) = b; omega]
  · rw [if_neg h, if_neg h]
    exact zero_mul (M₀ := EReal) _

/-- What the run leaves at an element is its expert's sum. -/
theorem out_ideal (I : Ins Ideal) (o : S5x3072x8192.Idx → Ideal .f32) (h : OutOK I o) (i : S5x3072x8192.Idx) :
    (o i : EReal) = dW I (i 0).val (i 1).val (i 2).val := by
  by_cases he : I.emp (i 0).val
  · rw [(h i).1 he, z32_ideal]
    unfold dW
    rw [show I.szN (i 0).val = 0 from he, Nat.add_zero, Finset.Ico_self, Finset.sum_empty]
  · obtain ⟨g, f, hg, hf, ev⟩ := (h i).2 he
    have h0 : (i 0).val < 5 := (i 0).isLt
    have h1 : (i 1).val < 3072 := (i 1).isLt
    have h2 : (i 2).val < 8192 := (i 2).isLt
    have hs : 0 < I.szN (i 0).val := Nat.pos_of_ne_zero he
    have hn : 0 < I.nkN (i 0).val := nk_pos.2 hs
    rw [ev, acc_ideal g f _ _ _ _ hn _ _ _ le_rfl]
    have en : 256 * (min (I.nkN (i 0).val) 3 + (I.nkN (i 0).val - 3)) = 256 * I.nkN (i 0).val := by omega
    rw [en, Finset.sum_congr _root_.rfl fun p hp => colT_eq g f I h0 hs (i 1).val (i 2).val h1 h2 hg hf p (Finset.mem_range.1 hp)]
    unfold dW
    have hle : I.stN (i 0).val + I.szN (i 0).val ≤ I.stN (i 0).val / 16 * 16 + 256 * I.nkN (i 0).val := le_nk hs
    rw [← Finset.sum_filter]
    refine Finset.sum_bij (fun p _ => I.stN (i 0).val / 16 * 16 + p) ?_ ?_ ?_ ?_
    · intro p hp
      rw [Finset.mem_filter] at hp
      exact Finset.mem_Ico.2 hp.2
    · intro p _ q _ e; omega
    · intro r hr
      rw [Finset.mem_Ico] at hr
      refine ⟨r - I.stN (i 0).val / 16 * 16, ?_, by omega⟩
      rw [Finset.mem_filter, Finset.mem_range]
      omega
    · intro p _; rfl

end Cert.Kernel

end
-- ==== Proof.RefRow.lean ====
/- The reference's row vectors, row by row: which expert a row has, and which group. -/
module

public import proofs.«01_k».proof.Proof.RefVec
public import proofs.«01_k».proof.Proof.Sums

@[expose] public section

noncomputable section

namespace Cert.ReferenceIdeal

open Idealize.ShloMosaic Idealize.ShloMosaic.TcCoe
open Cert.ReferenceIdeal.Gen GW
open Cert.Kernel (Ins fin)

theorem rowV_at (r : Fin 1536) : rowV (ix2 r 0) = BitVec.ofNat 32 r.val := by
  pointwise [rowV]

/-- A row's group in the group words: the first group plus the blocks of 128 rows before it. -/
def gWord (s g : BitVec 32) (r : ℕ) : BitVec 32 := g + IntOp.divsi .vector (BitVec.ofNat 32 r - s) 128#32

theorem exStep_at (s w e : BitVec 32) (v : IVec S1536x1 32) (i : S1536x1.Idx) : exStep s w e v i = if inV s w i = 1#1 then e else v i := rfl

theorem gidStep_at (s w g : BitVec 32) (v : IVec S1536x1 32) (r : Fin 1536) : gidStep s w g v (ix2 r 0) =
    if inV s w (ix2 r 0) = 1#1 then gWord s g r.val else v (ix2 r 0) := by
  rw [gWord, ← rowV_at]
  rfl

theorem inV_at {s w : BitVec 32} (h : s.toNat + w.toNat ≤ 1536) (r : Fin 1536) : inV s w (ix2 r 0) = 1#1 ↔ s.toNat ≤ r.val ∧ r.val < s.toNat + w.toNat := by
  have := r.isLt
  have hr : (BitVec.ofNat 32 r.val).toNat = r.val := by rw [BitVec.toNat_ofNat]; omega
  have ha := toNat_addi (x := s) (y := w) (by omega)
  have e : inV s w (ix2 r 0) = IntOp.andi (IntOp.cmpi .sge (BitVec.ofNat 32 r.val) s) (IntOp.cmpi .slt (BitVec.ofNat 32 r.val) (Scalar.addi s w)) := by
    rw [← rowV_at]; rfl
  rw [e, IntOp.andi_eq_one, IntOp.cmpi_sge, IntOp.cmpi_slt, BitVec.toInt_eq_toNat_of_lt (x := BitVec.ofNat 32 r.val) (by omega),
    BitVec.toInt_eq_toNat_of_lt (x := s) (by omega), BitVec.toInt_eq_toNat_of_lt (x := Scalar.addi s w) (by omega), hr, ha]
  omega

theorem gWord_toNat {s g : BitVec 32} {r : ℕ} (hr : r < 1536) (hs : s.toNat ≤ r) (hg : g.toNat ≤ 64) : (gWord s g r).toNat = g.toNat + (r - s.toNat) / 128 := by
  have hr' : (BitVec.ofNat 32 r).toNat = r := by rw [BitVec.toNat_ofNat]; omega
  have h1 : (Scalar.subi (BitVec.ofNat 32 r) s).toNat = r - s.toNat := by rw [toNat_subi (by omega), hr']
  have h2 := toNat_divsi (x := Scalar.subi (BitVec.ofNat 32 r) s) (c := 128#32) (by omega) (by decide) (by decide)
  rw [h1] at h2
  have e : gWord s g r = Scalar.addi g (Scalar.divsi (Scalar.subi (BitVec.ofNat 32 r) s) 128#32) := by
    have hn : ¬ IntOp.SDivCorner (BitVec.ofNat 32 r - s) 128#32 := IntOp.not_corner_of_pos (by decide)
    show g + IntOp.divsi .vector (BitVec.ofNat 32 r - s) 128#32 = g + IntOp.divsi .scalar (BitVec.ofNat 32 r - s) 128#32
    rw [IntOp.divsi, IntOp.divsi, if_neg hn, if_neg hn]
  have h3 : (r - s.toNat) / 128 ≤ 12 := by omega
  rw [e, toNat_addi (by rw [h2]; show _ + (_ / 128) < _; omega), h2]
  rfl

theorem grW_eq {w : BitVec 32} (h : w.toNat ≤ 1536) : grW w = grpW w := by
  have h1 : (Scalar.addi w 127#32).toNat = w.toNat + 127 := toNat_addi (by show w.toNat + 127 < _; omega)
  apply BitVec.eq_of_toNat_eq
  rw [grpW_toNat h, grW, toNat_divsi (by omega) (by decide) (by decide), h1]
  rfl

variable {F : FTy → Type} [FloatOps F] (I : Ins F)

/-- The experts and groups of the rows of a run's operands. -/
abbrev exI : IVec S1536x1 32 := exV I.w0 I.w1 I.w2 I.w3 I.w4
abbrev gidI : IVec S1536x1 32 := gidV I.w0 I.w1 I.w2 I.w3 I.w4

/-- Row `r` is one of expert `e`'s. -/
abbrev Mine (e r : ℕ) : Prop := I.stN e ≤ r ∧ r < I.stN e + I.szN e

theorem exI_at (r : Fin 1536) : exI I (ix2 r 0) =
    if Mine I 4 r.val then 4#32 else if Mine I 3 r.val then 3#32 else if Mine I 2 r.val then 2#32 else if Mine I 1 r.val then 1#32 else if Mine I 0 r.val then 0#32 else 5#32 := by
  unfold exI exV
  simp only [exStep_at]
  refine if_congr (inV_at (I.seg 4 (by omega)).row r) _root_.rfl (if_congr (inV_at (I.seg 3 (by omega)).row r) _root_.rfl (if_congr (inV_at (I.seg 2 (by omega)).row r) _root_.rfl
    (if_congr (inV_at (I.seg 1 (by omega)).row r) _root_.rfl (if_congr (inV_at (I.seg 0 (by omega)).row r) _root_.rfl _root_.rfl))))

theorem gidI_at (r : Fin 1536) : gidI I (ix2 r 0) =
    if Mine I 4 r.val then gWord (I.st 4) (I.gr 4) r.val else if Mine I 3 r.val then gWord (I.st 3) (I.gr 3) r.val else if Mine I 2 r.val then gWord (I.st 2) (I.gr 2) r.val
      else if Mine I 1 r.val then gWord (I.st 1) (I.gr 1) r.val else if Mine I 0 r.val then gWord (I.st 0) (I.gr 0) r.val else 0#32 := by
  have h0 := grW_eq I.fit.b0
  have h1 := grW_eq I.fit.b1
  have h2 := grW_eq I.fit.b2
  have h3 := grW_eq I.fit.b3
  unfold gidI gidV q4 q3 q2 q1
  simp only [gidStep_at, h0, h1, h2, h3]
  refine if_congr (inV_at (I.seg 4 (by omega)).row r) _root_.rfl (if_congr (inV_at (I.seg 3 (by omega)).row r) _root_.rfl (if_congr (inV_at (I.seg 2 (by omega)).row r) _root_.rfl
    (if_congr (inV_at (I.seg 1 (by omega)).row r) _root_.rfl (if_congr (inV_at (I.seg 0 (by omega)).row r) _root_.rfl _root_.rfl))))

/-- The expert vector holds `e` in expert `e`'s rows alone. -/
theorem exI_eq {e : ℕ} (he : e < 5) (r : Fin 1536) : exI I (ix2 r 0) = BitVec.ofNat 32 e ↔ Mine I e r.val := by
  have e0 := I.st_succ 0 (by omega); have e1 := I.st_succ 1 (by omega); have e2 := I.st_succ 2 (by omega); have e3 := I.st_succ 3 (by omega)
  simp only [Nat.zero_add, Nat.reduceAdd] at e0 e1 e2 e3
  rw [exI_at]
  have : e = 0 ∨ e = 1 ∨ e = 2 ∨ e = 3 ∨ e = 4 := by omega
  rcases this with rfl | rfl | rfl | rfl | rfl <;> split_ifs <;>
    first
    | exact iff_of_true (by decide) (by omega)
    | exact iff_of_false (by decide) (by omega)

/-- In expert `e`'s rows the group vector holds the row's group. -/
theorem gidI_eq {e : ℕ} (he : e < 5) (r : Fin 1536) (h : Mine I e r.val) : (gidI I (ix2 r 0)).toNat = I.G r.val := by
  have e0 := I.st_succ 0 (by omega); have e1 := I.st_succ 1 (by omega); have e2 := I.st_succ 2 (by omega); have e3 := I.st_succ 3 (by omega)
  simp only [Nat.zero_add, Nat.reduceAdd] at e0 e1 e2 e3
  have hg := (I.seg e he).grp
  rw [I.G_eq he r.val h.1 h.2, Ins.grN, Ins.stN, ← gWord_toNat r.isLt h.1 (by omega)]
  refine congrArg BitVec.toNat ?_
  rw [gidI_at]
  have : e = 0 ∨ e = 1 ∨ e = 2 ∨ e = 3 ∨ e = 4 := by omega
  rcases this with rfl | rfl | rfl | rfl | rfl <;> split_ifs <;> first | rfl | omega

theorem G_lt {e : ℕ} (he : e < 5) (r : ℕ) (h : Mine I e r) : I.G r < 13 := by
  have hg := (I.seg e he).grp
  have h1 := h.1
  have h2 := h.2
  rw [I.G_eq he r h1 h2]
  unfold Ins.grN
  have : (r - I.stN e) < I.szN e := by omega
  unfold Ins.szN at this
  omega

end Cert.ReferenceIdeal
-- ==== Proof.RefVal.lean ====
/- The reference's products as sums over an expert's rows. -/
module

public import proofs.«01_k».proof.Proof.RefRow

@[expose] public section

noncomputable section

namespace Cert.ReferenceIdeal

open Idealize.ShloMosaic Idealize.ShloMosaic.TcCoe
open Cert.ReferenceIdeal.Gen GW
open Cert.Kernel (Ins fin)

variable {F : FTy → Type} [FloatOps F]

theorem pick_at {n : ℕ} (gid : IVec S1536x1 32) (s : FVec F ⟨2, ![13, n]⟩ .bf16) (hb : S1536x1.Broadcasts ⟨2, ![1536, n]⟩)
    (hr : (⟨2, ![1, n]⟩ : Shape).Broadcasts ⟨2, ![1536, n]⟩) (hc : (⟨2, ![1, n]⟩ : Shape).ShapeCasts ⟨2, ![1, n]⟩) (k : ℕ) (hk : k < 13) (hs : (⟨2, ![13, n]⟩ : Shape).Slices ![k, 0] ⟨2, ![1, n]⟩)
    (v : FVec F ⟨2, ![1536, n]⟩ .bf16) (r : Fin 1536) (c : Fin n) :
    pick gid s hb hr hc k hs v (ix2 r c) = if gid (ix2 r 0) = BitVec.ofNat 32 k then s (ix2 ⟨k, hk⟩ c) else v (ix2 r c) := by
  pointwise [pick]
  rw [Scalar.select]
  refine if_congr ?_ (congrArg s (funext fun a => Fin.ext ?_)) _root_.rfl
  · exact IntOp.cmpi_eq
  · fin_cases a
    · show k + _ = k
      rfl
    · show 0 + (if h : n = 1 then (⟨0, _⟩ : Fin n) else ⟨c.val, _⟩).val = c.val
      have := c.isLt
      split <;> simp only [] <;> omega

theorem picks_at {n : ℕ} (gid : IVec S1536x1 32) (s : FVec F ⟨2, ![13, n]⟩ .bf16) (hb : S1536x1.Broadcasts ⟨2, ![1536, n]⟩)
    (hr : (⟨2, ![1, n]⟩ : Shape).Broadcasts ⟨2, ![1536, n]⟩) (hc : (⟨2, ![1, n]⟩ : Shape).ShapeCasts ⟨2, ![1, n]⟩)
    (hs : ∀ k : Fin 13, (⟨2, ![13, n]⟩ : Shape).Slices ![k.val, 0] ⟨2, ![1, n]⟩) (r : Fin 1536) (c : Fin n) (hg : (gid (ix2 r 0)).toNat < 13) :
    ∀ (K : ℕ) (hK : K ≤ 13), (gid (ix2 r 0)).toNat < K → picks gid s hb hr hc hs K hK (ix2 r c) = s (ix2 ⟨(gid (ix2 r 0)).toNat, hg⟩ c)
  | 0, _, h => absurd h (Nat.not_lt_zero _)
  | k + 1, hK, h => by
    rw [picks, pick_at gid s hb hr hc k hK]
    by_cases e : gid (ix2 r 0) = BitVec.ofNat 32 k
    · rw [if_pos e]
      refine congrArg s (congrArg (fun m => ix2 m c) (Fin.ext ?_))
      show k = (gid (ix2 r 0)).toNat
      rw [e, BitVec.toNat_ofNat]; omega
    · rw [if_neg e]
      refine picks_at gid s hb hr hc hs r c hg k _ ?_
      by_contra h'
      apply e
      apply BitVec.eq_of_toNat_eq
      rw [BitVec.toNat_ofNat]; omega

variable (gid ex : IVec S1536x1 32) (x1 : Vec F S1536x3072 .fp8e4m3) (x2 : Vec F S13x3072 .f32) (x3 : Vec F S1536x8192 .fp8e4m3) (x4 : Vec F S13x8192 .f32)

/-- A scaled element: the row's element times its group's scale. -/
theorem xsV_at (r : Fin 1536) (c : Fin 3072) (hg : (gid (ix2 r 0)).toNat < 13) :
    xsV gid x1 x2 (ix2 r c) = Cert.Kernel.dq (x1 (ix2 r c)) (x2 (ix2 ⟨(gid (ix2 r 0)).toNat, hg⟩ c)) := by
  have := picks_at gid (truncf .bf16 x2 bitsLt_bf16_f32) broadcasts_S1536x1_S1536x3072 broadcasts_S1x3072_S1536x3072 shapeCasts_S1x3072_S1x3072 slx r c hg 13 le_rfl hg
  unfold xsV mulf
  rw [this]
  rfl
theorem ysV_at (r : Fin 1536) (c : Fin 8192) (hg : (gid (ix2 r 0)).toNat < 13) :
    ysV gid x3 x4 (ix2 r c) = Cert.Kernel.dq (x3 (ix2 r c)) (x4 (ix2 ⟨(gid (ix2 r 0)).toNat, hg⟩ c)) := by
  have := picks_at gid (truncf .bf16 x4 bitsLt_bf16_f32) broadcasts_S1536x1_S1536x8192 broadcasts_S1x8192_S1536x8192 shapeCasts_S1x8192_S1x8192 sly r c hg 13 le_rfl hg
  unfold ysV mulf
  rw [this]
  rfl

/-- One expert's product at an entry. -/
theorem prodV_at (gid ex : IVec S1536x1 32) (x1 : Vec Ideal S1536x3072 .fp8e4m3) (x2 : Vec Ideal S13x3072 .f32) (x3 : Vec Ideal S1536x8192 .fp8e4m3) (x4 : Vec Ideal S13x8192 .f32)
    (e : BitVec 32) (a : Fin 3072) (b : Fin 8192) :
    (prodV gid ex x1 x2 x3 x4 e (ix3 0 a b) : EReal) =
      ∑ r : Fin 1536, if ex (ix2 r 0) = e then (xsV gid x1 x2 (ix2 r a) : EReal) * (ysV gid x3 x4 (ix2 r b) : EReal) else 0 := by
  pointwise [prodV]
  refine Finset.sum_congr _root_.rfl fun r _ => ?_
  rw [Scalar.select]
  exact if_congr IntOp.cmpi_eq _root_.rfl _root_.rfl

/-- It is the sum over the expert's rows. -/
theorem prodV_dW (I : Ins Ideal) {e : ℕ} (he : e < 5) (a : Fin 3072) (b : Fin 8192) :
    (prodV (F := Ideal) (gidI I) (exI I) I.x I.sx I.y I.sy (BitVec.ofNat 32 e) (ix3 0 a b) : EReal) = Cert.Kernel.dW I e a.val b.val := by
  rw [prodV_at]
  have h : ∀ r : Fin 1536, (if exI I (ix2 r 0) = BitVec.ofNat 32 e then (xsV (F := Ideal) (gidI I) I.x I.sx (ix2 r a) : EReal) * (ysV (F := Ideal) (gidI I) I.y I.sy (ix2 r b) : EReal) else 0)
      = if Mine I e r.val then Cert.Kernel.rowT I a.val b.val r.val else 0 := by
    intro r
    rw [if_congr (exI_eq I he r) _root_.rfl _root_.rfl]
    by_cases m : Mine I e r.val
    · rw [if_pos m, if_pos m]
      have hG := gidI_eq I he r m
      have hl : (gidI I (ix2 r 0)).toNat < 13 := by rw [hG]; exact G_lt I he r.val m
      have hf : (⟨(gidI I (ix2 r 0)).toNat, hl⟩ : Fin 13) = fin 13 (I.G r.val) := Fin.ext (by
        show (gidI I (ix2 r 0)).toNat = I.G r.val % 13
        rw [Nat.mod_eq_of_lt (G_lt I he r.val m)]
        exact hG)
      rw [xsV_at _ _ _ r a hl, ysV_at _ _ _ r b hl, hf]
      unfold Cert.Kernel.rowT
      rw [show fin 1536 r.val = r from Cert.Kernel.ofNat_val r, show fin 3072 a.val = a from Cert.Kernel.ofNat_val a, show fin 8192 b.val = b from Cert.Kernel.ofNat_val b]
    · rw [if_neg m, if_neg m]
  rw [Finset.sum_congr _root_.rfl fun r _ => h r, ← Finset.sum_range (fun r => if Mine I e r then Cert.Kernel.rowT I a.val b.val r else 0), ← Finset.sum_filter]
  unfold Cert.Kernel.dW
  refine Finset.sum_congr (Finset.ext fun r => ?_) fun _ _ => _root_.rfl
  have hr := (I.seg e he).row
  have hr' : I.stN e + I.szN e ≤ 1536 := hr
  rw [Finset.mem_filter, Finset.mem_range, Finset.mem_Ico]
  constructor
  · exact fun q => q.2
  · exact fun q => ⟨by omega, q⟩

end Cert.ReferenceIdeal
-- ==== Proof.RefRun.lean ====
/- What the reference's run leaves in its result array. -/
module

public import proofs.«01_k».proof.Proof.RefVal
public import Idealize.ShloMosaic.Lib.Pipeline.ValueKit

@[expose] public section

noncomputable section

namespace Cert.ReferenceIdeal

open Idealize.ShloMosaic Idealize.ShloMosaic.TcCoe Idealize.SL.Sem Idealize.ShloMosaic.Pipeline
open Cert.ReferenceIdeal.Gen
open Cert.Kernel (Ins fin)

variable {F : FTy → Type} [FloatOps F] (m : (ℓ : Loc nD τ sig) → Buf (Elt F) ℓ)

/-- Each input's one block is its whole array. -/
theorem iblk0 (c : Dev nD) (t : Fin cfg0.N) : iblk m c 0 t = m ((c.tc : Thread nD τ).loc main_arg4) := by
  funext y
  show m ((c.tc : Thread nD τ).loc main_arg4) _ = _
  exact congrArg (m ((c.tc : Thread nD τ).loc main_arg4)) (funext fun a => Fin.ext (by exact Window.rect_emb_val_of_index_zero (cfg0.win 0) t a rfl y))
theorem iblk1 (c : Dev nD) (t : Fin cfg0.N) : iblk m c 1 t = m ((c.tc : Thread nD τ).loc main_arg0) := by
  funext y
  exact congrArg (m ((c.tc : Thread nD τ).loc main_arg0)) (funext fun a => Fin.ext (by exact Window.rect_emb_val_of_index_zero (cfg0.win 1) t a rfl y))
theorem iblk2 (c : Dev nD) (t : Fin cfg0.N) : iblk m c 2 t = m ((c.tc : Thread nD τ).loc main_arg1) := by
  funext y
  exact congrArg (m ((c.tc : Thread nD τ).loc main_arg1)) (funext fun a => Fin.ext (by exact Window.rect_emb_val_of_index_zero (cfg0.win 2) t a rfl y))
theorem iblk3 (c : Dev nD) (t : Fin cfg0.N) : iblk m c 3 t = m ((c.tc : Thread nD τ).loc main_arg2) := by
  funext y
  exact congrArg (m ((c.tc : Thread nD τ).loc main_arg2)) (funext fun a => Fin.ext (by exact Window.rect_emb_val_of_index_zero (cfg0.win 3) t a rfl y))
theorem iblk4 (c : Dev nD) (t : Fin cfg0.N) : iblk m c 4 t = m ((c.tc : Thread nD τ).loc main_arg3) := by
  funext y
  exact congrArg (m ((c.tc : Thread nD τ).loc main_arg3)) (funext fun a => Fin.ext (by exact Window.rect_emb_val_of_index_zero (cfg0.win 4) t a rfl y))

theorem whole5 : (cfg0.win 5).WholeAt (⟨0, by decide⟩ : Fin cfg0.N) := by decide +kernel

/-- The result array after the run: what the body leaves at the one point. -/
theorem res_eq (c : Dev nD) (G : S5x3072x8192.Idx → Elt F .f32) (hG : ∀ t j, outsAt0 m c t j = G j) :
    (dats m 0 c).arrAt 5 cfg0.N = G :=
  Dat.arrAt_eq_of_after_last (dats m 0 c) 5 ⟨0, by decide⟩ whole5 G fun j => (congrFun (after0_5 m c ⟨0, by decide⟩) _).trans (hG _ _)

/-- The reference's memory holds the operands `I` reads. -/
structure Holds (m : (ℓ : Loc nD τ sig) → Buf (Elt F) ℓ) (c : Dev nD) (I : Ins F) : Prop where
  x : m ((c.tc : Thread nD τ).loc main_arg0) = I.x
  sx : m ((c.tc : Thread nD τ).loc main_arg1) = I.sx
  y : m ((c.tc : Thread nD τ).loc main_arg2) = I.y
  sy : m ((c.tc : Thread nD τ).loc main_arg3) = I.sy
  w0 : (show S5.Idx → BitVec 32 from m ((c.tc : Thread nD τ).loc main_arg4)) (ix1 0) = I.w0
  w1 : (show S5.Idx → BitVec 32 from m ((c.tc : Thread nD τ).loc main_arg4)) (ix1 1) = I.w1
  w2 : (show S5.Idx → BitVec 32 from m ((c.tc : Thread nD τ).loc main_arg4)) (ix1 2) = I.w2
  w3 : (show S5.Idx → BitVec 32 from m ((c.tc : Thread nD τ).loc main_arg4)) (ix1 3) = I.w3
  w4 : (show S5.Idx → BitVec 32 from m ((c.tc : Thread nD τ).loc main_arg4)) (ix1 4) = I.w4

/-- What the body leaves: every expert's sum. -/
theorem outs_eq (m : (ℓ : Loc nD τ sig) → Buf (Elt Ideal) ℓ) (c : Dev nD) (I : Ins Ideal) (h : Holds m c I) (t : Fin cfg0.N) (j : S5x3072x8192.Idx) :
    outsAt0 m c t j = Cert.Kernel.dW I (j 0).val (j 1).val (j 2).val := by
  unfold outsAt0
  rw [out_at, iblk0, iblk1, iblk2, iblk3, iblk4, h.x, h.sx, h.y, h.sy]
  have hg : gidX (m ((c.tc : Thread nD τ).loc main_arg4)) = gidI I := by
    unfold gidX gidI wd
    rw [← h.w0, ← h.w1, ← h.w2, ← h.w3, ← h.w4]
  have he : exX (m ((c.tc : Thread nD τ).loc main_arg4)) = exI I := by
    unfold exX exI wd
    rw [← h.w0, ← h.w1, ← h.w2, ← h.w3, ← h.w4]
  rw [hg, he]
  exact prodV_dW I (j 0).isLt (j 1) (j 2)

/-- The reference's run: the result holds every expert's sum, the arguments end unchanged. -/
theorem run_dW (m : (ℓ : Loc nD τ sig) → Buf (Elt Ideal) ℓ) (ρ : Dev nD → PrngReg) (I : Dev nD → Ins Ideal) (h : ∀ c, Holds m c (I c)) :
    θ_run defs (onTc (τ := τ) (main (F := Ideal))) ⟨m, fun _ => 0, ρ⟩ (fun r => ∀ c : Dev nD,
      r.2.mem ((c.tc : Thread nD τ).loc main_v0) = (fun i : S5x3072x8192.Idx => Cert.Kernel.dW (I c) (i 0).val (i 1).val (i 2).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r q c => ?_) (θ_run_and (run_main m ρ) (unchanged m ρ))
  refine ⟨?_, q.2 c⟩
  refine Eq.trans ((q.1 c).1 5) ?_
  exact res_eq m c _ fun t j => outs_eq m c (I c) (h c) t j

end Cert.ReferenceIdeal
-- ==== Proof.lean ====
/- The certificate: the kernel's frame at both readings, the reference's frame, and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_sizes_fit
public import proofs.«01_k».proof.Proof.Twin
public import proofs.«01_k».proof.Proof.RefRun

@[expose] public section

namespace Cert.Proof

open Idealize.ShloMosaic Idealize.SL.Sem

/-- The sizes fit, from the precondition, at the word reading. -/
theorem fits_Kernel (m) (h : Cert.Pre_Kernel m) : Cert.Kernel.Fits (F := Bits) m := fun c => GW.fit_of_pre (h c)

/-- The sizes fit, from the precondition, at the ideal reading. -/
theorem fits_KernelIdeal (m) (h : Cert.Pre_KernelIdeal m) : Cert.Kernel.Fits (F := Ideal) m := fun c => GW.fit_of_pre (h c)

/-- The two programs' memories hold the same operands. -/
theorem holds_ref (m : (ℓ : Loc Cert.Kernel.nD Cert.Kernel.τ Cert.Kernel.sig) → Buf (Elt Ideal) ℓ) (hf : Cert.Kernel.Fits m)
    (m' : (ℓ : Loc Cert.ReferenceIdeal.nD Cert.ReferenceIdeal.τ Cert.ReferenceIdeal.sig) → Buf (Elt Ideal) ℓ) (c : Dev Cert.Kernel.nD)
    (h : m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)) :
    Cert.ReferenceIdeal.Holds m' c (Cert.Kernel.ins m hf c) :=
  ⟨h.1, h.2.1, h.2.2.1, h.2.2.2.1, congrFun h.2.2.2.2 _, congrFun h.2.2.2.2 _, congrFun h.2.2.2.2 _, congrFun h.2.2.2.2 _, congrFun h.2.2.2.2 _⟩

/-- Kernel and reference end with the same result: each expert's sum over its rows. -/
theorem algebraic : Cert.algebraic_KernelIdeal_ReferenceIdeal (hKernelIdeal := Cert.KernelIdeal.Gen.facts)
    (hReferenceIdeal := Cert.ReferenceIdeal.Gen.facts) (hPre_sizes_fit := Cert.Pre_sizes_fit.Gen.facts) := by
  intro m g m' g' hp hag
  have hf := fits_KernelIdeal m hp
  refine ⟨fun c => (fun i : Cert.Kernel.S5x3072x8192.Idx => Cert.Kernel.dW (Cert.Kernel.ins m hf c) (i 0).val (i 1).val (i 2).val), ?_, ?_⟩
  · refine Cert.Kernel.run_eq _ _ ((θ_run Cert.Kernel.defs _ _).mono (fun r q c => ?_) (Cert.Kernel.run_main m g hf))
    obtain ⟨q4, q0, q1, q2, q3, qo⟩ := q.1 c
    exact ⟨funext fun i => Cert.Kernel.out_ideal (Cert.Kernel.ins m hf c) _ qo i, q0, q1, q2, q3, q4⟩
  · exact Cert.ReferenceIdeal.run_dW m' g' (fun c => Cert.Kernel.ins m hf c) fun c => holds_ref m hf m' c (hag c)

theorem claim : Cert.Claim :=
  ⟨Cert.Kernel.Gen.facts, Cert.KernelIdeal.Gen.facts, Cert.ReferenceIdeal.Gen.facts, Cert.Pre_sizes_fit.Gen.facts,
    fun m g h => Cert.Kernel.frame m g (fits_Kernel m h),
    fun m g h => Cert.Kernel.run_eq _ _ (Cert.Kernel.frame m g (fits_KernelIdeal m h)),
    fun m g _ => Cert.ReferenceIdeal.Gen.frame m g,
    fun m g _ => Cert.ReferenceIdeal.Gen.frame m g,
    trivial, algebraic⟩

end Cert.Proof

end
